-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutReferenceIdeal (m : (ℓ : Loc Cert.WoutReferenceIdeal.nD Cert.WoutReferenceIdeal.τ Cert.WoutReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdReferenceIdeal (m : (ℓ : Loc Cert.PleFwdReferenceIdeal.nD Cert.PleFwdReferenceIdeal.τ Cert.PleFwdReferenceIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdReferenceIdeal (m : (ℓ : Loc Cert.MixFwdReferenceIdeal.nD Cert.MixFwdReferenceIdeal.τ Cert.MixFwdReferenceIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdReferenceIdeal (m : (ℓ : Loc Cert.InBwdReferenceIdeal.nD Cert.InBwdReferenceIdeal.τ Cert.InBwdReferenceIdeal.sig) → Buf (Elt Ideal) ℓ) : Prop :=
  True

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdReferenceIdeal (m : (ℓ : Loc Cert.PleBwdReferenceIdeal.nD Cert.PleBwdReferenceIdeal.τ Cert.PleBwdReferenceIdeal.sig) → Buf (Elt Ideal) ℓ) : Prop :=
  True

def Pre_Ad1 (m : (ℓ : Loc Cert.Ad1.nD Cert.Ad1.τ Cert.Ad1.sig) → Buf (Elt Bits) ℓ) : Prop :=
  True

def Pre_Ad1Ideal (m : (ℓ : Loc Cert.Ad1Ideal.nD Cert.Ad1Ideal.τ Cert.Ad1Ideal.sig) → Buf (Elt Ideal) ℓ) : Prop :=
  True

def Pre_Ad1ReferenceIdeal (m : (ℓ : Loc Cert.Ad1ReferenceIdeal.nD Cert.Ad1ReferenceIdeal.τ Cert.Ad1ReferenceIdeal.sig) → Buf (Elt Ideal) ℓ) : Prop :=
  True

def Pre_Ad2 (m : (ℓ : Loc Cert.Ad2.nD Cert.Ad2.τ Cert.Ad2.sig) → Buf (Elt Bits) ℓ) : Prop :=
  True

def Pre_Ad2Ideal (m : (ℓ : Loc Cert.Ad2Ideal.nD Cert.Ad2Ideal.τ Cert.Ad2Ideal.sig) → Buf (Elt Ideal) ℓ) : Prop :=
  True

def Pre_Ad2ReferenceIdeal (m : (ℓ : Loc Cert.Ad2ReferenceIdeal.nD Cert.Ad2ReferenceIdeal.τ Cert.Ad2ReferenceIdeal.sig) → Buf (Elt Ideal) ℓ) : Prop :=
  True

def Pre_Ad3 (m : (ℓ : Loc Cert.Ad3.nD Cert.Ad3.τ Cert.Ad3.sig) → Buf (Elt Bits) ℓ) : Prop :=
  True

def Pre_Ad3Ideal (m : (ℓ : Loc Cert.Ad3Ideal.nD Cert.Ad3Ideal.τ Cert.Ad3Ideal.sig) → Buf (Elt Ideal) ℓ) : Prop :=
  True

def Pre_Ad3ReferenceIdeal (m : (ℓ : Loc Cert.Ad3ReferenceIdeal.nD Cert.Ad3ReferenceIdeal.τ Cert.Ad3ReferenceIdeal.sig) → Buf (Elt Ideal) ℓ) : Prop :=
  True

def Pre_Ad4 (m : (ℓ : Loc Cert.Ad4.nD Cert.Ad4.τ Cert.Ad4.sig) → Buf (Elt Bits) ℓ) : Prop :=
  True

def Pre_Ad4Ideal (m : (ℓ : Loc Cert.Ad4Ideal.nD Cert.Ad4Ideal.τ Cert.Ad4Ideal.sig) → Buf (Elt Ideal) ℓ) : Prop :=
  True

def Pre_Ad4ReferenceIdeal (m : (ℓ : Loc Cert.Ad4ReferenceIdeal.nD Cert.Ad4ReferenceIdeal.τ Cert.Ad4ReferenceIdeal.sig) → Buf (Elt Ideal) ℓ) : Prop :=
  True

def Pre_Ad5 (m : (ℓ : Loc Cert.Ad5.nD Cert.Ad5.τ Cert.Ad5.sig) → Buf (Elt Bits) ℓ) : Prop :=
  True

def Pre_Ad5Ideal (m : (ℓ : Loc Cert.Ad5Ideal.nD Cert.Ad5Ideal.τ Cert.Ad5Ideal.sig) → Buf (Elt Ideal) ℓ) : Prop :=
  True

def Pre_Ad5ReferenceIdeal (m : (ℓ : Loc Cert.Ad5ReferenceIdeal.nD Cert.Ad5ReferenceIdeal.τ Cert.Ad5ReferenceIdeal.sig) → Buf (Elt Ideal) ℓ) : Prop :=
  True

def Pre_Ad6 (m : (ℓ : Loc Cert.Ad6.nD Cert.Ad6.τ Cert.Ad6.sig) → Buf (Elt Bits) ℓ) : Prop :=
  True

def Pre_Ad6Ideal (m : (ℓ : Loc Cert.Ad6Ideal.nD Cert.Ad6Ideal.τ Cert.Ad6Ideal.sig) → Buf (Elt Ideal) ℓ) : Prop :=
  True

def Pre_Ad6ReferenceIdeal (m : (ℓ : Loc Cert.Ad6ReferenceIdeal.nD Cert.Ad6ReferenceIdeal.τ Cert.Ad6ReferenceIdeal.sig) → Buf (Elt Ideal) ℓ) : Prop :=
  True

def Pre_Ad7 (m : (ℓ : Loc Cert.Ad7.nD Cert.Ad7.τ Cert.Ad7.sig) → Buf (Elt Bits) ℓ) : Prop :=
  True

def Pre_Ad7Ideal (m : (ℓ : Loc Cert.Ad7Ideal.nD Cert.Ad7Ideal.τ Cert.Ad7Ideal.sig) → Buf (Elt Ideal) ℓ) : Prop :=
  True

def Pre_Ad7ReferenceIdeal (m : (ℓ : Loc Cert.Ad7ReferenceIdeal.nD Cert.Ad7ReferenceIdeal.τ Cert.Ad7ReferenceIdeal.sig) → Buf (Elt Ideal) ℓ) : Prop :=
  True

def Pre_Ad8 (m : (ℓ : Loc Cert.Ad8.nD Cert.Ad8.τ Cert.Ad8.sig) → Buf (Elt Bits) ℓ) : Prop :=
  True

def Pre_Ad8Ideal (m : (ℓ : Loc Cert.Ad8Ideal.nD Cert.Ad8Ideal.τ Cert.Ad8Ideal.sig) → Buf (Elt Ideal) ℓ) : Prop :=
  True

def Pre_Ad8ReferenceIdeal (m : (ℓ : Loc Cert.Ad8ReferenceIdeal.nD Cert.Ad8ReferenceIdeal.τ Cert.Ad8ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutReferenceIdeal [hWoutReferenceIdeal : Cert.WoutReferenceIdeal.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1)
      ∧ r.2.mem ((c.tc : Thread Cert.InFwdReferenceIdeal.nD Cert.InFwdReferenceIdeal.τ).loc Cert.InFwdReferenceIdeal.main_arg2) = m ((c.tc : Thread Cert.InFwdReferenceIdeal.nD Cert.InFwdReferenceIdeal.τ).loc Cert.InFwdReferenceIdeal.main_arg2))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3)
      ∧ r.2.mem ((c.tc : Thread Cert.PleFwd.nD Cert.PleFwd.τ).loc Cert.PleFwd.main_arg4) = m ((c.tc : Thread Cert.PleFwd.nD Cert.PleFwd.τ).loc Cert.PleFwd.main_arg4))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ r.2.sem = fun _ => 0)

def quiescent_PleFwdReferenceIdeal [hPleFwdReferenceIdeal : Cert.PleFwdReferenceIdeal.Facts] : Prop :=
  ∀ (m : (ℓ : Loc Cert.PleFwdReferenceIdeal.nD Cert.PleFwdReferenceIdeal.τ Cert.PleFwdReferenceIdeal.sig) → Buf (Elt Ideal) ℓ) (g : Dev Cert.PleFwdReferenceIdeal.nD → PrngReg), Pre_PleFwdReferenceIdeal m →
    θ_run (Cert.PleFwdReferenceIdeal.defs (F := Ideal)) (onTc (τ := Cert.PleFwdReferenceIdeal.τ) (Cert.PleFwdReferenceIdeal.main (F := Ideal))) ⟨m, fun _ => 0, g⟩ (fun r => (∀ c : Dev Cert.PleFwdReferenceIdeal.nD,
      r.2.mem ((c.tc : Thread Cert.PleFwdReferenceIdeal.nD Cert.PleFwdReferenceIdeal.τ).loc Cert.PleFwdReferenceIdeal.main_arg0) = m ((c.tc : Thread Cert.PleFwdReferenceIdeal.nD Cert.PleFwdReferenceIdeal.τ).loc Cert.PleFwdReferenceIdeal.main_arg0)
      ∧ r.2.mem ((c.tc : Thread Cert.PleFwdReferenceIdeal.nD Cert.PleFwdReferenceIdeal.τ).loc Cert.PleFwdReferenceIdeal.main_arg1) = m ((c.tc : Thread Cert.PleFwdReferenceIdeal.nD Cert.PleFwdReferenceIdeal.τ).loc Cert.PleFwdReferenceIdeal.main_arg1)
      ∧ r.2.mem ((c.tc : Thread Cert.PleFwdReferenceIdeal.nD Cert.PleFwdReferenceIdeal.τ).loc Cert.PleFwdReferenceIdeal.main_arg2) = m ((c.tc : Thread Cert.PleFwdReferenceIdeal.nD Cert.PleFwdReferenceIdeal.τ).loc Cert.PleFwdReferenceIdeal.main_arg2)
      ∧ r.2.mem ((c.tc : Thread Cert.PleFwdReferenceIdeal.nD Cert.PleFwdReferenceIdeal.τ).loc Cert.PleFwdReferenceIdeal.main_arg3) = m ((c.tc : Thread Cert.PleFwdReferenceIdeal.nD Cert.PleFwdReferenceIdeal.τ).loc Cert.PleFwdReferenceIdeal.main_arg3)
      ∧ r.2.mem ((c.tc : Thread Cert.PleFwdReferenceIdeal.nD Cert.PleFwdReferenceIdeal.τ).loc Cert.PleFwdReferenceIdeal.main_arg4) = m ((c.tc : Thread Cert.PleFwdReferenceIdeal.nD Cert.PleFwdReferenceIdeal.τ).loc Cert.PleFwdReferenceIdeal.main_arg4))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7))
      ∧ r.2.sem = fun _ => 0)

def quiescent_MixFwdReferenceIdeal [hMixFwdReferenceIdeal : Cert.MixFwdReferenceIdeal.Facts] : Prop :=
  ∀ (m : (ℓ : Loc Cert.MixFwdReferenceIdeal.nD Cert.MixFwdReferenceIdeal.τ Cert.MixFwdReferenceIdeal.sig) → Buf (Elt Ideal) ℓ) (g : Dev Cert.MixFwdReferenceIdeal.nD → PrngReg), Pre_MixFwdReferenceIdeal m →
    θ_run (Cert.MixFwdReferenceIdeal.defs (F := Ideal)) (onTc (τ := Cert.MixFwdReferenceIdeal.τ) (Cert.MixFwdReferenceIdeal.main (F := Ideal))) ⟨m, fun _ => 0, g⟩ (fun r => (∀ c : Dev Cert.MixFwdReferenceIdeal.nD,
      r.2.mem ((c.tc : Thread Cert.MixFwdReferenceIdeal.nD Cert.MixFwdReferenceIdeal.τ).loc Cert.MixFwdReferenceIdeal.main_arg0) = m ((c.tc : Thread Cert.MixFwdReferenceIdeal.nD Cert.MixFwdReferenceIdeal.τ).loc Cert.MixFwdReferenceIdeal.main_arg0)
      ∧ r.2.mem ((c.tc : Thread Cert.MixFwdReferenceIdeal.nD Cert.MixFwdReferenceIdeal.τ).loc Cert.MixFwdReferenceIdeal.main_arg1) = m ((c.tc : Thread Cert.MixFwdReferenceIdeal.nD Cert.MixFwdReferenceIdeal.τ).loc Cert.MixFwdReferenceIdeal.main_arg1)
      ∧ r.2.mem ((c.tc : Thread Cert.MixFwdReferenceIdeal.nD Cert.MixFwdReferenceIdeal.τ).loc Cert.MixFwdReferenceIdeal.main_arg2) = m ((c.tc : Thread Cert.MixFwdReferenceIdeal.nD Cert.MixFwdReferenceIdeal.τ).loc Cert.MixFwdReferenceIdeal.main_arg2)
      ∧ r.2.mem ((c.tc : Thread Cert.MixFwdReferenceIdeal.nD Cert.MixFwdReferenceIdeal.τ).loc Cert.MixFwdReferenceIdeal.main_arg3) = m ((c.tc : Thread Cert.MixFwdReferenceIdeal.nD Cert.MixFwdReferenceIdeal.τ).loc Cert.MixFwdReferenceIdeal.main_arg3)
      ∧ r.2.mem ((c.tc : Thread Cert.MixFwdReferenceIdeal.nD Cert.MixFwdReferenceIdeal.τ).loc Cert.MixFwdReferenceIdeal.main_arg4) = m ((c.tc : Thread Cert.MixFwdReferenceIdeal.nD Cert.MixFwdReferenceIdeal.τ).loc Cert.MixFwdReferenceIdeal.main_arg4)
      ∧ r.2.mem ((c.tc : Thread Cert.MixFwdReferenceIdeal.nD Cert.MixFwdReferenceIdeal.τ).loc Cert.MixFwdReferenceIdeal.main_arg5) = m ((c.tc : Thread Cert.MixFwdReferenceIdeal.nD Cert.MixFwdReferenceIdeal.τ).loc Cert.MixFwdReferenceIdeal.main_arg5)
      ∧ r.2.mem ((c.tc : Thread Cert.MixFwdReferenceIdeal.nD Cert.MixFwdReferenceIdeal.τ).loc Cert.MixFwdReferenceIdeal.main_arg6) = m ((c.tc : Thread Cert.MixFwdReferenceIdeal.nD Cert.MixFwdReferenceIdeal.τ).loc Cert.MixFwdReferenceIdeal.main_arg6)
      ∧ r.2.mem ((c.tc : Thread Cert.MixFwdReferenceIdeal.nD Cert.MixFwdReferenceIdeal.τ).loc Cert.MixFwdReferenceIdeal.main_arg7) = m ((c.tc : Thread Cert.MixFwdReferenceIdeal.nD Cert.MixFwdReferenceIdeal.τ).loc Cert.MixFwdReferenceIdeal.main_arg7))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdReferenceIdeal [hInBwdReferenceIdeal : Cert.InBwdReferenceIdeal.Facts] : Prop :=
  ∀ (m : (ℓ : Loc Cert.InBwdReferenceIdeal.nD Cert.InBwdReferenceIdeal.τ Cert.InBwdReferenceIdeal.sig) → Buf (Elt Ideal) ℓ) (g : Dev Cert.InBwdReferenceIdeal.nD → PrngReg), Pre_InBwdReferenceIdeal m →
    θ_run (Cert.InBwdReferenceIdeal.defs (F := Ideal)) (onTc (τ := Cert.InBwdReferenceIdeal.τ) (Cert.InBwdReferenceIdeal.main (F := Ideal))) ⟨m, fun _ => 0, g⟩ (fun r => (∀ c : Dev Cert.InBwdReferenceIdeal.nD,
      r.2.mem ((c.tc : Thread Cert.InBwdReferenceIdeal.nD Cert.InBwdReferenceIdeal.τ).loc Cert.InBwdReferenceIdeal.main_arg0) = m ((c.tc : Thread Cert.InBwdReferenceIdeal.nD Cert.InBwdReferenceIdeal.τ).loc Cert.InBwdReferenceIdeal.main_arg0)
      ∧ r.2.mem ((c.tc : Thread Cert.InBwdReferenceIdeal.nD Cert.InBwdReferenceIdeal.τ).loc Cert.InBwdReferenceIdeal.main_arg1) = m ((c.tc : Thread Cert.InBwdReferenceIdeal.nD Cert.InBwdReferenceIdeal.τ).loc Cert.InBwdReferenceIdeal.main_arg1)
      ∧ r.2.mem ((c.tc : Thread Cert.InBwdReferenceIdeal.nD Cert.InBwdReferenceIdeal.τ).loc Cert.InBwdReferenceIdeal.main_arg2) = m ((c.tc : Thread Cert.InBwdReferenceIdeal.nD Cert.InBwdReferenceIdeal.τ).loc Cert.InBwdReferenceIdeal.main_arg2)
      ∧ r.2.mem ((c.tc : Thread Cert.InBwdReferenceIdeal.nD Cert.InBwdReferenceIdeal.τ).loc Cert.InBwdReferenceIdeal.main_arg3) = m ((c.tc : Thread Cert.InBwdReferenceIdeal.nD Cert.InBwdReferenceIdeal.τ).loc Cert.InBwdReferenceIdeal.main_arg3)
      ∧ r.2.mem ((c.tc : Thread Cert.InBwdReferenceIdeal.nD Cert.InBwdReferenceIdeal.τ).loc Cert.InBwdReferenceIdeal.main_arg4) = m ((c.tc : Thread Cert.InBwdReferenceIdeal.nD Cert.InBwdReferenceIdeal.τ).loc Cert.InBwdReferenceIdeal.main_arg4))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4)
      ∧ r.2.mem ((c.tc : Thread Cert.PleBwd.nD Cert.PleBwd.τ).loc Cert.PleBwd.main_arg5) = m ((c.tc : Thread Cert.PleBwd.nD Cert.PleBwd.τ).loc Cert.PleBwd.main_arg5))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ r.2.sem = fun _ => 0)

def quiescent_PleBwdReferenceIdeal [hPleBwdReferenceIdeal : Cert.PleBwdReferenceIdeal.Facts] : Prop :=
  ∀ (m : (ℓ : Loc Cert.PleBwdReferenceIdeal.nD Cert.PleBwdReferenceIdeal.τ Cert.PleBwdReferenceIdeal.sig) → Buf (Elt Ideal) ℓ) (g : Dev Cert.PleBwdReferenceIdeal.nD → PrngReg), Pre_PleBwdReferenceIdeal m →
    θ_run (Cert.PleBwdReferenceIdeal.defs (F := Ideal)) (onTc (τ := Cert.PleBwdReferenceIdeal.τ) (Cert.PleBwdReferenceIdeal.main (F := Ideal))) ⟨m, fun _ => 0, g⟩ (fun r => (∀ c : Dev Cert.PleBwdReferenceIdeal.nD,
      r.2.mem ((c.tc : Thread Cert.PleBwdReferenceIdeal.nD Cert.PleBwdReferenceIdeal.τ).loc Cert.PleBwdReferenceIdeal.main_arg0) = m ((c.tc : Thread Cert.PleBwdReferenceIdeal.nD Cert.PleBwdReferenceIdeal.τ).loc Cert.PleBwdReferenceIdeal.main_arg0)
      ∧ r.2.mem ((c.tc : Thread Cert.PleBwdReferenceIdeal.nD Cert.PleBwdReferenceIdeal.τ).loc Cert.PleBwdReferenceIdeal.main_arg1) = m ((c.tc : Thread Cert.PleBwdReferenceIdeal.nD Cert.PleBwdReferenceIdeal.τ).loc Cert.PleBwdReferenceIdeal.main_arg1)
      ∧ r.2.mem ((c.tc : Thread Cert.PleBwdReferenceIdeal.nD Cert.PleBwdReferenceIdeal.τ).loc Cert.PleBwdReferenceIdeal.main_arg2) = m ((c.tc : Thread Cert.PleBwdReferenceIdeal.nD Cert.PleBwdReferenceIdeal.τ).loc Cert.PleBwdReferenceIdeal.main_arg2)
      ∧ r.2.mem ((c.tc : Thread Cert.PleBwdReferenceIdeal.nD Cert.PleBwdReferenceIdeal.τ).loc Cert.PleBwdReferenceIdeal.main_arg3) = m ((c.tc : Thread Cert.PleBwdReferenceIdeal.nD Cert.PleBwdReferenceIdeal.τ).loc Cert.PleBwdReferenceIdeal.main_arg3)
      ∧ r.2.mem ((c.tc : Thread Cert.PleBwdReferenceIdeal.nD Cert.PleBwdReferenceIdeal.τ).loc Cert.PleBwdReferenceIdeal.main_arg4) = m ((c.tc : Thread Cert.PleBwdReferenceIdeal.nD Cert.PleBwdReferenceIdeal.τ).loc Cert.PleBwdReferenceIdeal.main_arg4)
      ∧ r.2.mem ((c.tc : Thread Cert.PleBwdReferenceIdeal.nD Cert.PleBwdReferenceIdeal.τ).loc Cert.PleBwdReferenceIdeal.main_arg5) = m ((c.tc : Thread Cert.PleBwdReferenceIdeal.nD Cert.PleBwdReferenceIdeal.τ).loc Cert.PleBwdReferenceIdeal.main_arg5))
      ∧ r.2.sem = fun _ => 0)

def quiescent_Ad1 [hAd1 : Cert.Ad1.Facts] : Prop :=
  ∀ (m : (ℓ : Loc Cert.Ad1.nD Cert.Ad1.τ Cert.Ad1.sig) → Buf (Elt Bits) ℓ) (g : Dev Cert.Ad1.nD → PrngReg), Pre_Ad1 m →
    θ_run (Cert.Ad1.defs (F := Bits)) (onTc (τ := Cert.Ad1.τ) (Cert.Ad1.main (F := Bits))) ⟨m, fun _ => 0, g⟩ (fun r => (∀ c : Dev Cert.Ad1.nD,
      r.2.mem ((c.tc : Thread Cert.Ad1.nD Cert.Ad1.τ).loc Cert.Ad1.main_arg0) = m ((c.tc : Thread Cert.Ad1.nD Cert.Ad1.τ).loc Cert.Ad1.main_arg0)
      ∧ r.2.mem ((c.tc : Thread Cert.Ad1.nD Cert.Ad1.τ).loc Cert.Ad1.main_arg1) = m ((c.tc : Thread Cert.Ad1.nD Cert.Ad1.τ).loc Cert.Ad1.main_arg1)
      ∧ r.2.mem ((c.tc : Thread Cert.Ad1.nD Cert.Ad1.τ).loc Cert.Ad1.main_arg2) = m ((c.tc : Thread Cert.Ad1.nD Cert.Ad1.τ).loc Cert.Ad1.main_arg2)
      ∧ r.2.mem ((c.tc : Thread Cert.Ad1.nD Cert.Ad1.τ).loc Cert.Ad1.main_arg3) = m ((c.tc : Thread Cert.Ad1.nD Cert.Ad1.τ).loc Cert.Ad1.main_arg3))
      ∧ r.2.sem = fun _ => 0)

def quiescent_Ad1Ideal [hAd1Ideal : Cert.Ad1Ideal.Facts] : Prop :=
  ∀ (m : (ℓ : Loc Cert.Ad1Ideal.nD Cert.Ad1Ideal.τ Cert.Ad1Ideal.sig) → Buf (Elt Ideal) ℓ) (g : Dev Cert.Ad1Ideal.nD → PrngReg), Pre_Ad1Ideal m →
    θ_run (Cert.Ad1Ideal.defs (F := Ideal)) (onTc (τ := Cert.Ad1Ideal.τ) (Cert.Ad1Ideal.main (F := Ideal))) ⟨m, fun _ => 0, g⟩ (fun r => (∀ c : Dev Cert.Ad1Ideal.nD,
      r.2.mem ((c.tc : Thread Cert.Ad1Ideal.nD Cert.Ad1Ideal.τ).loc Cert.Ad1Ideal.main_arg0) = m ((c.tc : Thread Cert.Ad1Ideal.nD Cert.Ad1Ideal.τ).loc Cert.Ad1Ideal.main_arg0)
      ∧ r.2.mem ((c.tc : Thread Cert.Ad1Ideal.nD Cert.Ad1Ideal.τ).loc Cert.Ad1Ideal.main_arg1) = m ((c.tc : Thread Cert.Ad1Ideal.nD Cert.Ad1Ideal.τ).loc Cert.Ad1Ideal.main_arg1)
      ∧ r.2.mem ((c.tc : Thread Cert.Ad1Ideal.nD Cert.Ad1Ideal.τ).loc Cert.Ad1Ideal.main_arg2) = m ((c.tc : Thread Cert.Ad1Ideal.nD Cert.Ad1Ideal.τ).loc Cert.Ad1Ideal.main_arg2)
      ∧ r.2.mem ((c.tc : Thread Cert.Ad1Ideal.nD Cert.Ad1Ideal.τ).loc Cert.Ad1Ideal.main_arg3) = m ((c.tc : Thread Cert.Ad1Ideal.nD Cert.Ad1Ideal.τ).loc Cert.Ad1Ideal.main_arg3))
      ∧ r.2.sem = fun _ => 0)

def quiescent_Ad1ReferenceIdeal [hAd1ReferenceIdeal : Cert.Ad1ReferenceIdeal.Facts] : Prop :=
  ∀ (m : (ℓ : Loc Cert.Ad1ReferenceIdeal.nD Cert.Ad1ReferenceIdeal.τ Cert.Ad1ReferenceIdeal.sig) → Buf (Elt Ideal) ℓ) (g : Dev Cert.Ad1ReferenceIdeal.nD → PrngReg), Pre_Ad1ReferenceIdeal m →
    θ_run (Cert.Ad1ReferenceIdeal.defs (F := Ideal)) (onTc (τ := Cert.Ad1ReferenceIdeal.τ) (Cert.Ad1ReferenceIdeal.main (F := Ideal))) ⟨m, fun _ => 0, g⟩ (fun r => (∀ c : Dev Cert.Ad1ReferenceIdeal.nD,
      r.2.mem ((c.tc : Thread Cert.Ad1ReferenceIdeal.nD Cert.Ad1ReferenceIdeal.τ).loc Cert.Ad1ReferenceIdeal.main_arg0) = m ((c.tc : Thread Cert.Ad1ReferenceIdeal.nD Cert.Ad1ReferenceIdeal.τ).loc Cert.Ad1ReferenceIdeal.main_arg0)
      ∧ r.2.mem ((c.tc : Thread Cert.Ad1ReferenceIdeal.nD Cert.Ad1ReferenceIdeal.τ).loc Cert.Ad1ReferenceIdeal.main_arg1) = m ((c.tc : Thread Cert.Ad1ReferenceIdeal.nD Cert.Ad1ReferenceIdeal.τ).loc Cert.Ad1ReferenceIdeal.main_arg1)
      ∧ r.2.mem ((c.tc : Thread Cert.Ad1ReferenceIdeal.nD Cert.Ad1ReferenceIdeal.τ).loc Cert.Ad1ReferenceIdeal.main_arg2) = m ((c.tc : Thread Cert.Ad1ReferenceIdeal.nD Cert.Ad1ReferenceIdeal.τ).loc Cert.Ad1ReferenceIdeal.main_arg2)
      ∧ r.2.mem ((c.tc : Thread Cert.Ad1ReferenceIdeal.nD Cert.Ad1ReferenceIdeal.τ).loc Cert.Ad1ReferenceIdeal.main_arg3) = m ((c.tc : Thread Cert.Ad1ReferenceIdeal.nD Cert.Ad1ReferenceIdeal.τ).loc Cert.Ad1ReferenceIdeal.main_arg3))
      ∧ r.2.sem = fun _ => 0)

def quiescent_Ad2 [hAd2 : Cert.Ad2.Facts] : Prop :=
  ∀ (m : (ℓ : Loc Cert.Ad2.nD Cert.Ad2.τ Cert.Ad2.sig) → Buf (Elt Bits) ℓ) (g : Dev Cert.Ad2.nD → PrngReg), Pre_Ad2 m →
    θ_run (Cert.Ad2.defs (F := Bits)) (onTc (τ := Cert.Ad2.τ) (Cert.Ad2.main (F := Bits))) ⟨m, fun _ => 0, g⟩ (fun r => (∀ c : Dev Cert.Ad2.nD,
      r.2.mem ((c.tc : Thread Cert.Ad2.nD Cert.Ad2.τ).loc Cert.Ad2.main_arg0) = m ((c.tc : Thread Cert.Ad2.nD Cert.Ad2.τ).loc Cert.Ad2.main_arg0)
      ∧ r.2.mem ((c.tc : Thread Cert.Ad2.nD Cert.Ad2.τ).loc Cert.Ad2.main_arg1) = m ((c.tc : Thread Cert.Ad2.nD Cert.Ad2.τ).loc Cert.Ad2.main_arg1)
      ∧ r.2.mem ((c.tc : Thread Cert.Ad2.nD Cert.Ad2.τ).loc Cert.Ad2.main_arg2) = m ((c.tc : Thread Cert.Ad2.nD Cert.Ad2.τ).loc Cert.Ad2.main_arg2)
      ∧ r.2.mem ((c.tc : Thread Cert.Ad2.nD Cert.Ad2.τ).loc Cert.Ad2.main_arg3) = m ((c.tc : Thread Cert.Ad2.nD Cert.Ad2.τ).loc Cert.Ad2.main_arg3))
      ∧ r.2.sem = fun _ => 0)

def quiescent_Ad2Ideal [hAd2Ideal : Cert.Ad2Ideal.Facts] : Prop :=
  ∀ (m : (ℓ : Loc Cert.Ad2Ideal.nD Cert.Ad2Ideal.τ Cert.Ad2Ideal.sig) → Buf (Elt Ideal) ℓ) (g : Dev Cert.Ad2Ideal.nD → PrngReg), Pre_Ad2Ideal m →
    θ_run (Cert.Ad2Ideal.defs (F := Ideal)) (onTc (τ := Cert.Ad2Ideal.τ) (Cert.Ad2Ideal.main (F := Ideal))) ⟨m, fun _ => 0, g⟩ (fun r => (∀ c : Dev Cert.Ad2Ideal.nD,
      r.2.mem ((c.tc : Thread Cert.Ad2Ideal.nD Cert.Ad2Ideal.τ).loc Cert.Ad2Ideal.main_arg0) = m ((c.tc : Thread Cert.Ad2Ideal.nD Cert.Ad2Ideal.τ).loc Cert.Ad2Ideal.main_arg0)
      ∧ r.2.mem ((c.tc : Thread Cert.Ad2Ideal.nD Cert.Ad2Ideal.τ).loc Cert.Ad2Ideal.main_arg1) = m ((c.tc : Thread Cert.Ad2Ideal.nD Cert.Ad2Ideal.τ).loc Cert.Ad2Ideal.main_arg1)
      ∧ r.2.mem ((c.tc : Thread Cert.Ad2Ideal.nD Cert.Ad2Ideal.τ).loc Cert.Ad2Ideal.main_arg2) = m ((c.tc : Thread Cert.Ad2Ideal.nD Cert.Ad2Ideal.τ).loc Cert.Ad2Ideal.main_arg2)
      ∧ r.2.mem ((c.tc : Thread Cert.Ad2Ideal.nD Cert.Ad2Ideal.τ).loc Cert.Ad2Ideal.main_arg3) = m ((c.tc : Thread Cert.Ad2Ideal.nD Cert.Ad2Ideal.τ).loc Cert.Ad2Ideal.main_arg3))
      ∧ r.2.sem = fun _ => 0)

def quiescent_Ad2ReferenceIdeal [hAd2ReferenceIdeal : Cert.Ad2ReferenceIdeal.Facts] : Prop :=
  ∀ (m : (ℓ : Loc Cert.Ad2ReferenceIdeal.nD Cert.Ad2ReferenceIdeal.τ Cert.Ad2ReferenceIdeal.sig) → Buf (Elt Ideal) ℓ) (g : Dev Cert.Ad2ReferenceIdeal.nD → PrngReg), Pre_Ad2ReferenceIdeal m →
    θ_run (Cert.Ad2ReferenceIdeal.defs (F := Ideal)) (onTc (τ := Cert.Ad2ReferenceIdeal.τ) (Cert.Ad2ReferenceIdeal.main (F := Ideal))) ⟨m, fun _ => 0, g⟩ (fun r => (∀ c : Dev Cert.Ad2ReferenceIdeal.nD,
      r.2.mem ((c.tc : Thread Cert.Ad2ReferenceIdeal.nD Cert.Ad2ReferenceIdeal.τ).loc Cert.Ad2ReferenceIdeal.main_arg0) = m ((c.tc : Thread Cert.Ad2ReferenceIdeal.nD Cert.Ad2ReferenceIdeal.τ).loc Cert.Ad2ReferenceIdeal.main_arg0)
      ∧ r.2.mem ((c.tc : Thread Cert.Ad2ReferenceIdeal.nD Cert.Ad2ReferenceIdeal.τ).loc Cert.Ad2ReferenceIdeal.main_arg1) = m ((c.tc : Thread Cert.Ad2ReferenceIdeal.nD Cert.Ad2ReferenceIdeal.τ).loc Cert.Ad2ReferenceIdeal.main_arg1)
      ∧ r.2.mem ((c.tc : Thread Cert.Ad2ReferenceIdeal.nD Cert.Ad2ReferenceIdeal.τ).loc Cert.Ad2ReferenceIdeal.main_arg2) = m ((c.tc : Thread Cert.Ad2ReferenceIdeal.nD Cert.Ad2ReferenceIdeal.τ).loc Cert.Ad2ReferenceIdeal.main_arg2)
      ∧ r.2.mem ((c.tc : Thread Cert.Ad2ReferenceIdeal.nD Cert.Ad2ReferenceIdeal.τ).loc Cert.Ad2ReferenceIdeal.main_arg3) = m ((c.tc : Thread Cert.Ad2ReferenceIdeal.nD Cert.Ad2ReferenceIdeal.τ).loc Cert.Ad2ReferenceIdeal.main_arg3))
      ∧ r.2.sem = fun _ => 0)

def quiescent_Ad3 [hAd3 : Cert.Ad3.Facts] : Prop :=
  ∀ (m : (ℓ : Loc Cert.Ad3.nD Cert.Ad3.τ Cert.Ad3.sig) → Buf (Elt Bits) ℓ) (g : Dev Cert.Ad3.nD → PrngReg), Pre_Ad3 m →
    θ_run (Cert.Ad3.defs (F := Bits)) (onTc (τ := Cert.Ad3.τ) (Cert.Ad3.main (F := Bits))) ⟨m, fun _ => 0, g⟩ (fun r => (∀ c : Dev Cert.Ad3.nD,
      r.2.mem ((c.tc : Thread Cert.Ad3.nD Cert.Ad3.τ).loc Cert.Ad3.main_arg0) = m ((c.tc : Thread Cert.Ad3.nD Cert.Ad3.τ).loc Cert.Ad3.main_arg0)
      ∧ r.2.mem ((c.tc : Thread Cert.Ad3.nD Cert.Ad3.τ).loc Cert.Ad3.main_arg1) = m ((c.tc : Thread Cert.Ad3.nD Cert.Ad3.τ).loc Cert.Ad3.main_arg1)
      ∧ r.2.mem ((c.tc : Thread Cert.Ad3.nD Cert.Ad3.τ).loc Cert.Ad3.main_arg2) = m ((c.tc : Thread Cert.Ad3.nD Cert.Ad3.τ).loc Cert.Ad3.main_arg2)
      ∧ r.2.mem ((c.tc : Thread Cert.Ad3.nD Cert.Ad3.τ).loc Cert.Ad3.main_arg3) = m ((c.tc : Thread Cert.Ad3.nD Cert.Ad3.τ).loc Cert.Ad3.main_arg3)
      ∧ r.2.mem ((c.tc : Thread Cert.Ad3.nD Cert.Ad3.τ).loc Cert.Ad3.main_arg4) = m ((c.tc : Thread Cert.Ad3.nD Cert.Ad3.τ).loc Cert.Ad3.main_arg4)
      ∧ r.2.mem ((c.tc : Thread Cert.Ad3.nD Cert.Ad3.τ).loc Cert.Ad3.main_arg5) = m ((c.tc : Thread Cert.Ad3.nD Cert.Ad3.τ).loc Cert.Ad3.main_arg5)
      ∧ r.2.mem ((c.tc : Thread Cert.Ad3.nD Cert.Ad3.τ).loc Cert.Ad3.main_arg6) = m ((c.tc : Thread Cert.Ad3.nD Cert.Ad3.τ).loc Cert.Ad3.main_arg6)
      ∧ r.2.mem ((c.tc : Thread Cert.Ad3.nD Cert.Ad3.τ).loc Cert.Ad3.main_arg7) = m ((c.tc : Thread Cert.Ad3.nD Cert.Ad3.τ).loc Cert.Ad3.main_arg7))
      ∧ r.2.sem = fun _ => 0)

def quiescent_Ad3Ideal [hAd3Ideal : Cert.Ad3Ideal.Facts] : Prop :=
  ∀ (m : (ℓ : Loc Cert.Ad3Ideal.nD Cert.Ad3Ideal.τ Cert.Ad3Ideal.sig) → Buf (Elt Ideal) ℓ) (g : Dev Cert.Ad3Ideal.nD → PrngReg), Pre_Ad3Ideal m →
    θ_run (Cert.Ad3Ideal.defs (F := Ideal)) (onTc (τ := Cert.Ad3Ideal.τ) (Cert.Ad3Ideal.main (F := Ideal))) ⟨m, fun _ => 0, g⟩ (fun r => (∀ c : Dev Cert.Ad3Ideal.nD,
      r.2.mem ((c.tc : Thread Cert.Ad3Ideal.nD Cert.Ad3Ideal.τ).loc Cert.Ad3Ideal.main_arg0) = m ((c.tc : Thread Cert.Ad3Ideal.nD Cert.Ad3Ideal.τ).loc Cert.Ad3Ideal.main_arg0)
      ∧ r.2.mem ((c.tc : Thread Cert.Ad3Ideal.nD Cert.Ad3Ideal.τ).loc Cert.Ad3Ideal.main_arg1) = m ((c.tc : Thread Cert.Ad3Ideal.nD Cert.Ad3Ideal.τ).loc Cert.Ad3Ideal.main_arg1)
      ∧ r.2.mem ((c.tc : Thread Cert.Ad3Ideal.nD Cert.Ad3Ideal.τ).loc Cert.Ad3Ideal.main_arg2) = m ((c.tc : Thread Cert.Ad3Ideal.nD Cert.Ad3Ideal.τ).loc Cert.Ad3Ideal.main_arg2)
      ∧ r.2.mem ((c.tc : Thread Cert.Ad3Ideal.nD Cert.Ad3Ideal.τ).loc Cert.Ad3Ideal.main_arg3) = m ((c.tc : Thread Cert.Ad3Ideal.nD Cert.Ad3Ideal.τ).loc Cert.Ad3Ideal.main_arg3)
      ∧ r.2.mem ((c.tc : Thread Cert.Ad3Ideal.nD Cert.Ad3Ideal.τ).loc Cert.Ad3Ideal.main_arg4) = m ((c.tc : Thread Cert.Ad3Ideal.nD Cert.Ad3Ideal.τ).loc Cert.Ad3Ideal.main_arg4)
      ∧ r.2.mem ((c.tc : Thread Cert.Ad3Ideal.nD Cert.Ad3Ideal.τ).loc Cert.Ad3Ideal.main_arg5) = m ((c.tc : Thread Cert.Ad3Ideal.nD Cert.Ad3Ideal.τ).loc Cert.Ad3Ideal.main_arg5)
      ∧ r.2.mem ((c.tc : Thread Cert.Ad3Ideal.nD Cert.Ad3Ideal.τ).loc Cert.Ad3Ideal.main_arg6) = m ((c.tc : Thread Cert.Ad3Ideal.nD Cert.Ad3Ideal.τ).loc Cert.Ad3Ideal.main_arg6)
      ∧ r.2.mem ((c.tc : Thread Cert.Ad3Ideal.nD Cert.Ad3Ideal.τ).loc Cert.Ad3Ideal.main_arg7) = m ((c.tc : Thread Cert.Ad3Ideal.nD Cert.Ad3Ideal.τ).loc Cert.Ad3Ideal.main_arg7))
      ∧ r.2.sem = fun _ => 0)

def quiescent_Ad3ReferenceIdeal [hAd3ReferenceIdeal : Cert.Ad3ReferenceIdeal.Facts] : Prop :=
  ∀ (m : (ℓ : Loc Cert.Ad3ReferenceIdeal.nD Cert.Ad3ReferenceIdeal.τ Cert.Ad3ReferenceIdeal.sig) → Buf (Elt Ideal) ℓ) (g : Dev Cert.Ad3ReferenceIdeal.nD → PrngReg), Pre_Ad3ReferenceIdeal m →
    θ_run (Cert.Ad3ReferenceIdeal.defs (F := Ideal)) (onTc (τ := Cert.Ad3ReferenceIdeal.τ) (Cert.Ad3ReferenceIdeal.main (F := Ideal))) ⟨m, fun _ => 0, g⟩ (fun r => (∀ c : Dev Cert.Ad3ReferenceIdeal.nD,
      r.2.mem ((c.tc : Thread Cert.Ad3ReferenceIdeal.nD Cert.Ad3ReferenceIdeal.τ).loc Cert.Ad3ReferenceIdeal.main_arg0) = m ((c.tc : Thread Cert.Ad3ReferenceIdeal.nD Cert.Ad3ReferenceIdeal.τ).loc Cert.Ad3ReferenceIdeal.main_arg0)
      ∧ r.2.mem ((c.tc : Thread Cert.Ad3ReferenceIdeal.nD Cert.Ad3ReferenceIdeal.τ).loc Cert.Ad3ReferenceIdeal.main_arg1) = m ((c.tc : Thread Cert.Ad3ReferenceIdeal.nD Cert.Ad3ReferenceIdeal.τ).loc Cert.Ad3ReferenceIdeal.main_arg1)
      ∧ r.2.mem ((c.tc : Thread Cert.Ad3ReferenceIdeal.nD Cert.Ad3ReferenceIdeal.τ).loc Cert.Ad3ReferenceIdeal.main_arg2) = m ((c.tc : Thread Cert.Ad3ReferenceIdeal.nD Cert.Ad3ReferenceIdeal.τ).loc Cert.Ad3ReferenceIdeal.main_arg2)
      ∧ r.2.mem ((c.tc : Thread Cert.Ad3ReferenceIdeal.nD Cert.Ad3ReferenceIdeal.τ).loc Cert.Ad3ReferenceIdeal.main_arg3) = m ((c.tc : Thread Cert.Ad3ReferenceIdeal.nD Cert.Ad3ReferenceIdeal.τ).loc Cert.Ad3ReferenceIdeal.main_arg3)
      ∧ r.2.mem ((c.tc : Thread Cert.Ad3ReferenceIdeal.nD Cert.Ad3ReferenceIdeal.τ).loc Cert.Ad3ReferenceIdeal.main_arg4) = m ((c.tc : Thread Cert.Ad3ReferenceIdeal.nD Cert.Ad3ReferenceIdeal.τ).loc Cert.Ad3ReferenceIdeal.main_arg4)
      ∧ r.2.mem ((c.tc : Thread Cert.Ad3ReferenceIdeal.nD Cert.Ad3ReferenceIdeal.τ).loc Cert.Ad3ReferenceIdeal.main_arg5) = m ((c.tc : Thread Cert.Ad3ReferenceIdeal.nD Cert.Ad3ReferenceIdeal.τ).loc Cert.Ad3ReferenceIdeal.main_arg5)
      ∧ r.2.mem ((c.tc : Thread Cert.Ad3ReferenceIdeal.nD Cert.Ad3ReferenceIdeal.τ).loc Cert.Ad3ReferenceIdeal.main_arg6) = m ((c.tc : Thread Cert.Ad3ReferenceIdeal.nD Cert.Ad3ReferenceIdeal.τ).loc Cert.Ad3ReferenceIdeal.main_arg6)
      ∧ r.2.mem ((c.tc : Thread Cert.Ad3ReferenceIdeal.nD Cert.Ad3ReferenceIdeal.τ).loc Cert.Ad3ReferenceIdeal.main_arg7) = m ((c.tc : Thread Cert.Ad3ReferenceIdeal.nD Cert.Ad3ReferenceIdeal.τ).loc Cert.Ad3ReferenceIdeal.main_arg7))
      ∧ r.2.sem = fun _ => 0)

def quiescent_Ad4 [hAd4 : Cert.Ad4.Facts] : Prop :=
  ∀ (m : (ℓ : Loc Cert.Ad4.nD Cert.Ad4.τ Cert.Ad4.sig) → Buf (Elt Bits) ℓ) (g : Dev Cert.Ad4.nD → PrngReg), Pre_Ad4 m →
    θ_run (Cert.Ad4.defs (F := Bits)) (onTc (τ := Cert.Ad4.τ) (Cert.Ad4.main (F := Bits))) ⟨m, fun _ => 0, g⟩ (fun r => (∀ c : Dev Cert.Ad4.nD,
      r.2.mem ((c.tc : Thread Cert.Ad4.nD Cert.Ad4.τ).loc Cert.Ad4.main_arg0) = m ((c.tc : Thread Cert.Ad4.nD Cert.Ad4.τ).loc Cert.Ad4.main_arg0)
      ∧ r.2.mem ((c.tc : Thread Cert.Ad4.nD Cert.Ad4.τ).loc Cert.Ad4.main_arg1) = m ((c.tc : Thread Cert.Ad4.nD Cert.Ad4.τ).loc Cert.Ad4.main_arg1)
      ∧ r.2.mem ((c.tc : Thread Cert.Ad4.nD Cert.Ad4.τ).loc Cert.Ad4.main_arg2) = m ((c.tc : Thread Cert.Ad4.nD Cert.Ad4.τ).loc Cert.Ad4.main_arg2)
      ∧ r.2.mem ((c.tc : Thread Cert.Ad4.nD Cert.Ad4.τ).loc Cert.Ad4.main_arg3) = m ((c.tc : Thread Cert.Ad4.nD Cert.Ad4.τ).loc Cert.Ad4.main_arg3))
      ∧ r.2.sem = fun _ => 0)

def quiescent_Ad4Ideal [hAd4Ideal : Cert.Ad4Ideal.Facts] : Prop :=
  ∀ (m : (ℓ : Loc Cert.Ad4Ideal.nD Cert.Ad4Ideal.τ Cert.Ad4Ideal.sig) → Buf (Elt Ideal) ℓ) (g : Dev Cert.Ad4Ideal.nD → PrngReg), Pre_Ad4Ideal m →
    θ_run (Cert.Ad4Ideal.defs (F := Ideal)) (onTc (τ := Cert.Ad4Ideal.τ) (Cert.Ad4Ideal.main (F := Ideal))) ⟨m, fun _ => 0, g⟩ (fun r => (∀ c : Dev Cert.Ad4Ideal.nD,
      r.2.mem ((c.tc : Thread Cert.Ad4Ideal.nD Cert.Ad4Ideal.τ).loc Cert.Ad4Ideal.main_arg0) = m ((c.tc : Thread Cert.Ad4Ideal.nD Cert.Ad4Ideal.τ).loc Cert.Ad4Ideal.main_arg0)
      ∧ r.2.mem ((c.tc : Thread Cert.Ad4Ideal.nD Cert.Ad4Ideal.τ).loc Cert.Ad4Ideal.main_arg1) = m ((c.tc : Thread Cert.Ad4Ideal.nD Cert.Ad4Ideal.τ).loc Cert.Ad4Ideal.main_arg1)
      ∧ r.2.mem ((c.tc : Thread Cert.Ad4Ideal.nD Cert.Ad4Ideal.τ).loc Cert.Ad4Ideal.main_arg2) = m ((c.tc : Thread Cert.Ad4Ideal.nD Cert.Ad4Ideal.τ).loc Cert.Ad4Ideal.main_arg2)
      ∧ r.2.mem ((c.tc : Thread Cert.Ad4Ideal.nD Cert.Ad4Ideal.τ).loc Cert.Ad4Ideal.main_arg3) = m ((c.tc : Thread Cert.Ad4Ideal.nD Cert.Ad4Ideal.τ).loc Cert.Ad4Ideal.main_arg3))
      ∧ r.2.sem = fun _ => 0)

def quiescent_Ad4ReferenceIdeal [hAd4ReferenceIdeal : Cert.Ad4ReferenceIdeal.Facts] : Prop :=
  ∀ (m : (ℓ : Loc Cert.Ad4ReferenceIdeal.nD Cert.Ad4ReferenceIdeal.τ Cert.Ad4ReferenceIdeal.sig) → Buf (Elt Ideal) ℓ) (g : Dev Cert.Ad4ReferenceIdeal.nD → PrngReg), Pre_Ad4ReferenceIdeal m →
    θ_run (Cert.Ad4ReferenceIdeal.defs (F := Ideal)) (onTc (τ := Cert.Ad4ReferenceIdeal.τ) (Cert.Ad4ReferenceIdeal.main (F := Ideal))) ⟨m, fun _ => 0, g⟩ (fun r => (∀ c : Dev Cert.Ad4ReferenceIdeal.nD,
      r.2.mem ((c.tc : Thread Cert.Ad4ReferenceIdeal.nD Cert.Ad4ReferenceIdeal.τ).loc Cert.Ad4ReferenceIdeal.main_arg0) = m ((c.tc : Thread Cert.Ad4ReferenceIdeal.nD Cert.Ad4ReferenceIdeal.τ).loc Cert.Ad4ReferenceIdeal.main_arg0)
      ∧ r.2.mem ((c.tc : Thread Cert.Ad4ReferenceIdeal.nD Cert.Ad4ReferenceIdeal.τ).loc Cert.Ad4ReferenceIdeal.main_arg1) = m ((c.tc : Thread Cert.Ad4ReferenceIdeal.nD Cert.Ad4ReferenceIdeal.τ).loc Cert.Ad4ReferenceIdeal.main_arg1)
      ∧ r.2.mem ((c.tc : Thread Cert.Ad4ReferenceIdeal.nD Cert.Ad4ReferenceIdeal.τ).loc Cert.Ad4ReferenceIdeal.main_arg2) = m ((c.tc : Thread Cert.Ad4ReferenceIdeal.nD Cert.Ad4ReferenceIdeal.τ).loc Cert.Ad4ReferenceIdeal.main_arg2)
      ∧ r.2.mem ((c.tc : Thread Cert.Ad4ReferenceIdeal.nD Cert.Ad4ReferenceIdeal.τ).loc Cert.Ad4ReferenceIdeal.main_arg3) = m ((c.tc : Thread Cert.Ad4ReferenceIdeal.nD Cert.Ad4ReferenceIdeal.τ).loc Cert.Ad4ReferenceIdeal.main_arg3))
      ∧ r.2.sem = fun _ => 0)

def quiescent_Ad5 [hAd5 : Cert.Ad5.Facts] : Prop :=
  ∀ (m : (ℓ : Loc Cert.Ad5.nD Cert.Ad5.τ Cert.Ad5.sig) → Buf (Elt Bits) ℓ) (g : Dev Cert.Ad5.nD → PrngReg), Pre_Ad5 m →
    θ_run (Cert.Ad5.defs (F := Bits)) (onTc (τ := Cert.Ad5.τ) (Cert.Ad5.main (F := Bits))) ⟨m, fun _ => 0, g⟩ (fun r => (∀ c : Dev Cert.Ad5.nD,
      r.2.mem ((c.tc : Thread Cert.Ad5.nD Cert.Ad5.τ).loc Cert.Ad5.main_arg0) = m ((c.tc : Thread Cert.Ad5.nD Cert.Ad5.τ).loc Cert.Ad5.main_arg0)
      ∧ r.2.mem ((c.tc : Thread Cert.Ad5.nD Cert.Ad5.τ).loc Cert.Ad5.main_arg1) = m ((c.tc : Thread Cert.Ad5.nD Cert.Ad5.τ).loc Cert.Ad5.main_arg1)
      ∧ r.2.mem ((c.tc : Thread Cert.Ad5.nD Cert.Ad5.τ).loc Cert.Ad5.main_arg2) = m ((c.tc : Thread Cert.Ad5.nD Cert.Ad5.τ).loc Cert.Ad5.main_arg2)
      ∧ r.2.mem ((c.tc : Thread Cert.Ad5.nD Cert.Ad5.τ).loc Cert.Ad5.main_arg3) = m ((c.tc : Thread Cert.Ad5.nD Cert.Ad5.τ).loc Cert.Ad5.main_arg3))
      ∧ r.2.sem = fun _ => 0)

def quiescent_Ad5Ideal [hAd5Ideal : Cert.Ad5Ideal.Facts] : Prop :=
  ∀ (m : (ℓ : Loc Cert.Ad5Ideal.nD Cert.Ad5Ideal.τ Cert.Ad5Ideal.sig) → Buf (Elt Ideal) ℓ) (g : Dev Cert.Ad5Ideal.nD → PrngReg), Pre_Ad5Ideal m →
    θ_run (Cert.Ad5Ideal.defs (F := Ideal)) (onTc (τ := Cert.Ad5Ideal.τ) (Cert.Ad5Ideal.main (F := Ideal))) ⟨m, fun _ => 0, g⟩ (fun r => (∀ c : Dev Cert.Ad5Ideal.nD,
      r.2.mem ((c.tc : Thread Cert.Ad5Ideal.nD Cert.Ad5Ideal.τ).loc Cert.Ad5Ideal.main_arg0) = m ((c.tc : Thread Cert.Ad5Ideal.nD Cert.Ad5Ideal.τ).loc Cert.Ad5Ideal.main_arg0)
      ∧ r.2.mem ((c.tc : Thread Cert.Ad5Ideal.nD Cert.Ad5Ideal.τ).loc Cert.Ad5Ideal.main_arg1) = m ((c.tc : Thread Cert.Ad5Ideal.nD Cert.Ad5Ideal.τ).loc Cert.Ad5Ideal.main_arg1)
      ∧ r.2.mem ((c.tc : Thread Cert.Ad5Ideal.nD Cert.Ad5Ideal.τ).loc Cert.Ad5Ideal.main_arg2) = m ((c.tc : Thread Cert.Ad5Ideal.nD Cert.Ad5Ideal.τ).loc Cert.Ad5Ideal.main_arg2)
      ∧ r.2.mem ((c.tc : Thread Cert.Ad5Ideal.nD Cert.Ad5Ideal.τ).loc Cert.Ad5Ideal.main_arg3) = m ((c.tc : Thread Cert.Ad5Ideal.nD Cert.Ad5Ideal.τ).loc Cert.Ad5Ideal.main_arg3))
      ∧ r.2.sem = fun _ => 0)

def quiescent_Ad5ReferenceIdeal [hAd5ReferenceIdeal : Cert.Ad5ReferenceIdeal.Facts] : Prop :=
  ∀ (m : (ℓ : Loc Cert.Ad5ReferenceIdeal.nD Cert.Ad5ReferenceIdeal.τ Cert.Ad5ReferenceIdeal.sig) → Buf (Elt Ideal) ℓ) (g : Dev Cert.Ad5ReferenceIdeal.nD → PrngReg), Pre_Ad5ReferenceIdeal m →
    θ_run (Cert.Ad5ReferenceIdeal.defs (F := Ideal)) (onTc (τ := Cert.Ad5ReferenceIdeal.τ) (Cert.Ad5ReferenceIdeal.main (F := Ideal))) ⟨m, fun _ => 0, g⟩ (fun r => (∀ c : Dev Cert.Ad5ReferenceIdeal.nD,
      r.2.mem ((c.tc : Thread Cert.Ad5ReferenceIdeal.nD Cert.Ad5ReferenceIdeal.τ).loc Cert.Ad5ReferenceIdeal.main_arg0) = m ((c.tc : Thread Cert.Ad5ReferenceIdeal.nD Cert.Ad5ReferenceIdeal.τ).loc Cert.Ad5ReferenceIdeal.main_arg0)
      ∧ r.2.mem ((c.tc : Thread Cert.Ad5ReferenceIdeal.nD Cert.Ad5ReferenceIdeal.τ).loc Cert.Ad5ReferenceIdeal.main_arg1) = m ((c.tc : Thread Cert.Ad5ReferenceIdeal.nD Cert.Ad5ReferenceIdeal.τ).loc Cert.Ad5ReferenceIdeal.main_arg1)
      ∧ r.2.mem ((c.tc : Thread Cert.Ad5ReferenceIdeal.nD Cert.Ad5ReferenceIdeal.τ).loc Cert.Ad5ReferenceIdeal.main_arg2) = m ((c.tc : Thread Cert.Ad5ReferenceIdeal.nD Cert.Ad5ReferenceIdeal.τ).loc Cert.Ad5ReferenceIdeal.main_arg2)
      ∧ r.2.mem ((c.tc : Thread Cert.Ad5ReferenceIdeal.nD Cert.Ad5ReferenceIdeal.τ).loc Cert.Ad5ReferenceIdeal.main_arg3) = m ((c.tc : Thread Cert.Ad5ReferenceIdeal.nD Cert.Ad5ReferenceIdeal.τ).loc Cert.Ad5ReferenceIdeal.main_arg3))
      ∧ r.2.sem = fun _ => 0)

def quiescent_Ad6 [hAd6 : Cert.Ad6.Facts] : Prop :=
  ∀ (m : (ℓ : Loc Cert.Ad6.nD Cert.Ad6.τ Cert.Ad6.sig) → Buf (Elt Bits) ℓ) (g : Dev Cert.Ad6.nD → PrngReg), Pre_Ad6 m →
    θ_run (Cert.Ad6.defs (F := Bits)) (onTc (τ := Cert.Ad6.τ) (Cert.Ad6.main (F := Bits))) ⟨m, fun _ => 0, g⟩ (fun r => (∀ c : Dev Cert.Ad6.nD,
      r.2.mem ((c.tc : Thread Cert.Ad6.nD Cert.Ad6.τ).loc Cert.Ad6.main_arg0) = m ((c.tc : Thread Cert.Ad6.nD Cert.Ad6.τ).loc Cert.Ad6.main_arg0)
      ∧ r.2.mem ((c.tc : Thread Cert.Ad6.nD Cert.Ad6.τ).loc Cert.Ad6.main_arg1) = m ((c.tc : Thread Cert.Ad6.nD Cert.Ad6.τ).loc Cert.Ad6.main_arg1)
      ∧ r.2.mem ((c.tc : Thread Cert.Ad6.nD Cert.Ad6.τ).loc Cert.Ad6.main_arg2) = m ((c.tc : Thread Cert.Ad6.nD Cert.Ad6.τ).loc Cert.Ad6.main_arg2)
      ∧ r.2.mem ((c.tc : Thread Cert.Ad6.nD Cert.Ad6.τ).loc Cert.Ad6.main_arg3) = m ((c.tc : Thread Cert.Ad6.nD Cert.Ad6.τ).loc Cert.Ad6.main_arg3))
      ∧ r.2.sem = fun _ => 0)

def quiescent_Ad6Ideal [hAd6Ideal : Cert.Ad6Ideal.Facts] : Prop :=
  ∀ (m : (ℓ : Loc Cert.Ad6Ideal.nD Cert.Ad6Ideal.τ Cert.Ad6Ideal.sig) → Buf (Elt Ideal) ℓ) (g : Dev Cert.Ad6Ideal.nD → PrngReg), Pre_Ad6Ideal m →
    θ_run (Cert.Ad6Ideal.defs (F := Ideal)) (onTc (τ := Cert.Ad6Ideal.τ) (Cert.Ad6Ideal.main (F := Ideal))) ⟨m, fun _ => 0, g⟩ (fun r => (∀ c : Dev Cert.Ad6Ideal.nD,
      r.2.mem ((c.tc : Thread Cert.Ad6Ideal.nD Cert.Ad6Ideal.τ).loc Cert.Ad6Ideal.main_arg0) = m ((c.tc : Thread Cert.Ad6Ideal.nD Cert.Ad6Ideal.τ).loc Cert.Ad6Ideal.main_arg0)
      ∧ r.2.mem ((c.tc : Thread Cert.Ad6Ideal.nD Cert.Ad6Ideal.τ).loc Cert.Ad6Ideal.main_arg1) = m ((c.tc : Thread Cert.Ad6Ideal.nD Cert.Ad6Ideal.τ).loc Cert.Ad6Ideal.main_arg1)
      ∧ r.2.mem ((c.tc : Thread Cert.Ad6Ideal.nD Cert.Ad6Ideal.τ).loc Cert.Ad6Ideal.main_arg2) = m ((c.tc : Thread Cert.Ad6Ideal.nD Cert.Ad6Ideal.τ).loc Cert.Ad6Ideal.main_arg2)
      ∧ r.2.mem ((c.tc : Thread Cert.Ad6Ideal.nD Cert.Ad6Ideal.τ).loc Cert.Ad6Ideal.main_arg3) = m ((c.tc : Thread Cert.Ad6Ideal.nD Cert.Ad6Ideal.τ).loc Cert.Ad6Ideal.main_arg3))
      ∧ r.2.sem = fun _ => 0)

def quiescent_Ad6ReferenceIdeal [hAd6ReferenceIdeal : Cert.Ad6ReferenceIdeal.Facts] : Prop :=
  ∀ (m : (ℓ : Loc Cert.Ad6ReferenceIdeal.nD Cert.Ad6ReferenceIdeal.τ Cert.Ad6ReferenceIdeal.sig) → Buf (Elt Ideal) ℓ) (g : Dev Cert.Ad6ReferenceIdeal.nD → PrngReg), Pre_Ad6ReferenceIdeal m →
    θ_run (Cert.Ad6ReferenceIdeal.defs (F := Ideal)) (onTc (τ := Cert.Ad6ReferenceIdeal.τ) (Cert.Ad6ReferenceIdeal.main (F := Ideal))) ⟨m, fun _ => 0, g⟩ (fun r => (∀ c : Dev Cert.Ad6ReferenceIdeal.nD,
      r.2.mem ((c.tc : Thread Cert.Ad6ReferenceIdeal.nD Cert.Ad6ReferenceIdeal.τ).loc Cert.Ad6ReferenceIdeal.main_arg0) = m ((c.tc : Thread Cert.Ad6ReferenceIdeal.nD Cert.Ad6ReferenceIdeal.τ).loc Cert.Ad6ReferenceIdeal.main_arg0)
      ∧ r.2.mem ((c.tc : Thread Cert.Ad6ReferenceIdeal.nD Cert.Ad6ReferenceIdeal.τ).loc Cert.Ad6ReferenceIdeal.main_arg1) = m ((c.tc : Thread Cert.Ad6ReferenceIdeal.nD Cert.Ad6ReferenceIdeal.τ).loc Cert.Ad6ReferenceIdeal.main_arg1)
      ∧ r.2.mem ((c.tc : Thread Cert.Ad6ReferenceIdeal.nD Cert.Ad6ReferenceIdeal.τ).loc Cert.Ad6ReferenceIdeal.main_arg2) = m ((c.tc : Thread Cert.Ad6ReferenceIdeal.nD Cert.Ad6ReferenceIdeal.τ).loc Cert.Ad6ReferenceIdeal.main_arg2)
      ∧ r.2.mem ((c.tc : Thread Cert.Ad6ReferenceIdeal.nD Cert.Ad6ReferenceIdeal.τ).loc Cert.Ad6ReferenceIdeal.main_arg3) = m ((c.tc : Thread Cert.Ad6ReferenceIdeal.nD Cert.Ad6ReferenceIdeal.τ).loc Cert.Ad6ReferenceIdeal.main_arg3))
      ∧ r.2.sem = fun _ => 0)

def quiescent_Ad7 [hAd7 : Cert.Ad7.Facts] : Prop :=
  ∀ (m : (ℓ : Loc Cert.Ad7.nD Cert.Ad7.τ Cert.Ad7.sig) → Buf (Elt Bits) ℓ) (g : Dev Cert.Ad7.nD → PrngReg), Pre_Ad7 m →
    θ_run (Cert.Ad7.defs (F := Bits)) (onTc (τ := Cert.Ad7.τ) (Cert.Ad7.main (F := Bits))) ⟨m, fun _ => 0, g⟩ (fun r => (∀ c : Dev Cert.Ad7.nD,
      r.2.mem ((c.tc : Thread Cert.Ad7.nD Cert.Ad7.τ).loc Cert.Ad7.main_arg0) = m ((c.tc : Thread Cert.Ad7.nD Cert.Ad7.τ).loc Cert.Ad7.main_arg0)
      ∧ r.2.mem ((c.tc : Thread Cert.Ad7.nD Cert.Ad7.τ).loc Cert.Ad7.main_arg1) = m ((c.tc : Thread Cert.Ad7.nD Cert.Ad7.τ).loc Cert.Ad7.main_arg1)
      ∧ r.2.mem ((c.tc : Thread Cert.Ad7.nD Cert.Ad7.τ).loc Cert.Ad7.main_arg2) = m ((c.tc : Thread Cert.Ad7.nD Cert.Ad7.τ).loc Cert.Ad7.main_arg2)
      ∧ r.2.mem ((c.tc : Thread Cert.Ad7.nD Cert.Ad7.τ).loc Cert.Ad7.main_arg3) = m ((c.tc : Thread Cert.Ad7.nD Cert.Ad7.τ).loc Cert.Ad7.main_arg3))
      ∧ r.2.sem = fun _ => 0)

def quiescent_Ad7Ideal [hAd7Ideal : Cert.Ad7Ideal.Facts] : Prop :=
  ∀ (m : (ℓ : Loc Cert.Ad7Ideal.nD Cert.Ad7Ideal.τ Cert.Ad7Ideal.sig) → Buf (Elt Ideal) ℓ) (g : Dev Cert.Ad7Ideal.nD → PrngReg), Pre_Ad7Ideal m →
    θ_run (Cert.Ad7Ideal.defs (F := Ideal)) (onTc (τ := Cert.Ad7Ideal.τ) (Cert.Ad7Ideal.main (F := Ideal))) ⟨m, fun _ => 0, g⟩ (fun r => (∀ c : Dev Cert.Ad7Ideal.nD,
      r.2.mem ((c.tc : Thread Cert.Ad7Ideal.nD Cert.Ad7Ideal.τ).loc Cert.Ad7Ideal.main_arg0) = m ((c.tc : Thread Cert.Ad7Ideal.nD Cert.Ad7Ideal.τ).loc Cert.Ad7Ideal.main_arg0)
      ∧ r.2.mem ((c.tc : Thread Cert.Ad7Ideal.nD Cert.Ad7Ideal.τ).loc Cert.Ad7Ideal.main_arg1) = m ((c.tc : Thread Cert.Ad7Ideal.nD Cert.Ad7Ideal.τ).loc Cert.Ad7Ideal.main_arg1)
      ∧ r.2.mem ((c.tc : Thread Cert.Ad7Ideal.nD Cert.Ad7Ideal.τ).loc Cert.Ad7Ideal.main_arg2) = m ((c.tc : Thread Cert.Ad7Ideal.nD Cert.Ad7Ideal.τ).loc Cert.Ad7Ideal.main_arg2)
      ∧ r.2.mem ((c.tc : Thread Cert.Ad7Ideal.nD Cert.Ad7Ideal.τ).loc Cert.Ad7Ideal.main_arg3) = m ((c.tc : Thread Cert.Ad7Ideal.nD Cert.Ad7Ideal.τ).loc Cert.Ad7Ideal.main_arg3))
      ∧ r.2.sem = fun _ => 0)

def quiescent_Ad7ReferenceIdeal [hAd7ReferenceIdeal : Cert.Ad7ReferenceIdeal.Facts] : Prop :=
  ∀ (m : (ℓ : Loc Cert.Ad7ReferenceIdeal.nD Cert.Ad7ReferenceIdeal.τ Cert.Ad7ReferenceIdeal.sig) → Buf (Elt Ideal) ℓ) (g : Dev Cert.Ad7ReferenceIdeal.nD → PrngReg), Pre_Ad7ReferenceIdeal m →
    θ_run (Cert.Ad7ReferenceIdeal.defs (F := Ideal)) (onTc (τ := Cert.Ad7ReferenceIdeal.τ) (Cert.Ad7ReferenceIdeal.main (F := Ideal))) ⟨m, fun _ => 0, g⟩ (fun r => (∀ c : Dev Cert.Ad7ReferenceIdeal.nD,
      r.2.mem ((c.tc : Thread Cert.Ad7ReferenceIdeal.nD Cert.Ad7ReferenceIdeal.τ).loc Cert.Ad7ReferenceIdeal.main_arg0) = m ((c.tc : Thread Cert.Ad7ReferenceIdeal.nD Cert.Ad7ReferenceIdeal.τ).loc Cert.Ad7ReferenceIdeal.main_arg0)
      ∧ r.2.mem ((c.tc : Thread Cert.Ad7ReferenceIdeal.nD Cert.Ad7ReferenceIdeal.τ).loc Cert.Ad7ReferenceIdeal.main_arg1) = m ((c.tc : Thread Cert.Ad7ReferenceIdeal.nD Cert.Ad7ReferenceIdeal.τ).loc Cert.Ad7ReferenceIdeal.main_arg1)
      ∧ r.2.mem ((c.tc : Thread Cert.Ad7ReferenceIdeal.nD Cert.Ad7ReferenceIdeal.τ).loc Cert.Ad7ReferenceIdeal.main_arg2) = m ((c.tc : Thread Cert.Ad7ReferenceIdeal.nD Cert.Ad7ReferenceIdeal.τ).loc Cert.Ad7ReferenceIdeal.main_arg2)
      ∧ r.2.mem ((c.tc : Thread Cert.Ad7ReferenceIdeal.nD Cert.Ad7ReferenceIdeal.τ).loc Cert.Ad7ReferenceIdeal.main_arg3) = m ((c.tc : Thread Cert.Ad7ReferenceIdeal.nD Cert.Ad7ReferenceIdeal.τ).loc Cert.Ad7ReferenceIdeal.main_arg3))
      ∧ r.2.sem = fun _ => 0)

def quiescent_Ad8 [hAd8 : Cert.Ad8.Facts] : Prop :=
  ∀ (m : (ℓ : Loc Cert.Ad8.nD Cert.Ad8.τ Cert.Ad8.sig) → Buf (Elt Bits) ℓ) (g : Dev Cert.Ad8.nD → PrngReg), Pre_Ad8 m →
    θ_run (Cert.Ad8.defs (F := Bits)) (onTc (τ := Cert.Ad8.τ) (Cert.Ad8.main (F := Bits))) ⟨m, fun _ => 0, g⟩ (fun r => (∀ c : Dev Cert.Ad8.nD,
      r.2.mem ((c.tc : Thread Cert.Ad8.nD Cert.Ad8.τ).loc Cert.Ad8.main_arg0) = m ((c.tc : Thread Cert.Ad8.nD Cert.Ad8.τ).loc Cert.Ad8.main_arg0)
      ∧ r.2.mem ((c.tc : Thread Cert.Ad8.nD Cert.Ad8.τ).loc Cert.Ad8.main_arg1) = m ((c.tc : Thread Cert.Ad8.nD Cert.Ad8.τ).loc Cert.Ad8.main_arg1)
      ∧ r.2.mem ((c.tc : Thread Cert.Ad8.nD Cert.Ad8.τ).loc Cert.Ad8.main_arg2) = m ((c.tc : Thread Cert.Ad8.nD Cert.Ad8.τ).loc Cert.Ad8.main_arg2)
      ∧ r.2.mem ((c.tc : Thread Cert.Ad8.nD Cert.Ad8.τ).loc Cert.Ad8.main_arg3) = m ((c.tc : Thread Cert.Ad8.nD Cert.Ad8.τ).loc Cert.Ad8.main_arg3))
      ∧ r.2.sem = fun _ => 0)

def quiescent_Ad8Ideal [hAd8Ideal : Cert.Ad8Ideal.Facts] : Prop :=
  ∀ (m : (ℓ : Loc Cert.Ad8Ideal.nD Cert.Ad8Ideal.τ Cert.Ad8Ideal.sig) → Buf (Elt Ideal) ℓ) (g : Dev Cert.Ad8Ideal.nD → PrngReg), Pre_Ad8Ideal m →
    θ_run (Cert.Ad8Ideal.defs (F := Ideal)) (onTc (τ := Cert.Ad8Ideal.τ) (Cert.Ad8Ideal.main (F := Ideal))) ⟨m, fun _ => 0, g⟩ (fun r => (∀ c : Dev Cert.Ad8Ideal.nD,
      r.2.mem ((c.tc : Thread Cert.Ad8Ideal.nD Cert.Ad8Ideal.τ).loc Cert.Ad8Ideal.main_arg0) = m ((c.tc : Thread Cert.Ad8Ideal.nD Cert.Ad8Ideal.τ).loc Cert.Ad8Ideal.main_arg0)
      ∧ r.2.mem ((c.tc : Thread Cert.Ad8Ideal.nD Cert.Ad8Ideal.τ).loc Cert.Ad8Ideal.main_arg1) = m ((c.tc : Thread Cert.Ad8Ideal.nD Cert.Ad8Ideal.τ).loc Cert.Ad8Ideal.main_arg1)
      ∧ r.2.mem ((c.tc : Thread Cert.Ad8Ideal.nD Cert.Ad8Ideal.τ).loc Cert.Ad8Ideal.main_arg2) = m ((c.tc : Thread Cert.Ad8Ideal.nD Cert.Ad8Ideal.τ).loc Cert.Ad8Ideal.main_arg2)
      ∧ r.2.mem ((c.tc : Thread Cert.Ad8Ideal.nD Cert.Ad8Ideal.τ).loc Cert.Ad8Ideal.main_arg3) = m ((c.tc : Thread Cert.Ad8Ideal.nD Cert.Ad8Ideal.τ).loc Cert.Ad8Ideal.main_arg3))
      ∧ r.2.sem = fun _ => 0)

def quiescent_Ad8ReferenceIdeal [hAd8ReferenceIdeal : Cert.Ad8ReferenceIdeal.Facts] : Prop :=
  ∀ (m : (ℓ : Loc Cert.Ad8ReferenceIdeal.nD Cert.Ad8ReferenceIdeal.τ Cert.Ad8ReferenceIdeal.sig) → Buf (Elt Ideal) ℓ) (g : Dev Cert.Ad8ReferenceIdeal.nD → PrngReg), Pre_Ad8ReferenceIdeal m →
    θ_run (Cert.Ad8ReferenceIdeal.defs (F := Ideal)) (onTc (τ := Cert.Ad8ReferenceIdeal.τ) (Cert.Ad8ReferenceIdeal.main (F := Ideal))) ⟨m, fun _ => 0, g⟩ (fun r => (∀ c : Dev Cert.Ad8ReferenceIdeal.nD,
      r.2.mem ((c.tc : Thread Cert.Ad8ReferenceIdeal.nD Cert.Ad8ReferenceIdeal.τ).loc Cert.Ad8ReferenceIdeal.main_arg0) = m ((c.tc : Thread Cert.Ad8ReferenceIdeal.nD Cert.Ad8ReferenceIdeal.τ).loc Cert.Ad8ReferenceIdeal.main_arg0)
      ∧ r.2.mem ((c.tc : Thread Cert.Ad8ReferenceIdeal.nD Cert.Ad8ReferenceIdeal.τ).loc Cert.Ad8ReferenceIdeal.main_arg1) = m ((c.tc : Thread Cert.Ad8ReferenceIdeal.nD Cert.Ad8ReferenceIdeal.τ).loc Cert.Ad8ReferenceIdeal.main_arg1)
      ∧ r.2.mem ((c.tc : Thread Cert.Ad8ReferenceIdeal.nD Cert.Ad8ReferenceIdeal.τ).loc Cert.Ad8ReferenceIdeal.main_arg2) = m ((c.tc : Thread Cert.Ad8ReferenceIdeal.nD Cert.Ad8ReferenceIdeal.τ).loc Cert.Ad8ReferenceIdeal.main_arg2)
      ∧ r.2.mem ((c.tc : Thread Cert.Ad8ReferenceIdeal.nD Cert.Ad8ReferenceIdeal.τ).loc Cert.Ad8ReferenceIdeal.main_arg3) = m ((c.tc : Thread Cert.Ad8ReferenceIdeal.nD Cert.Ad8ReferenceIdeal.τ).loc Cert.Ad8ReferenceIdeal.main_arg3))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v148_0)) (v1 : (c : Dev Cert.KernelIdeal.nD) → Buf (Elt Ideal) ((c.tc : Thread Cert.KernelIdeal.nD Cert.KernelIdeal.τ).loc Cert.KernelIdeal.main_v148_1)) (v2 : (c : Dev Cert.KernelIdeal.nD) → Buf (Elt Ideal) ((c.tc : Thread Cert.KernelIdeal.nD Cert.KernelIdeal.τ).loc Cert.KernelIdeal.main_v148_2)) (v3 : (c : Dev Cert.KernelIdeal.nD) → Buf (Elt Ideal) ((c.tc : Thread Cert.KernelIdeal.nD Cert.KernelIdeal.τ).loc Cert.KernelIdeal.main_v148_3)) (v4 : (c : Dev Cert.KernelIdeal.nD) → Buf (Elt Ideal) ((c.tc : Thread Cert.KernelIdeal.nD Cert.KernelIdeal.τ).loc Cert.KernelIdeal.main_v148_4)) (v5 : (c : Dev Cert.KernelIdeal.nD) → Buf (Elt Ideal) ((c.tc : Thread Cert.KernelIdeal.nD Cert.KernelIdeal.τ).loc Cert.KernelIdeal.main_v148_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148_0) = v0 c
          ∧ r.2.mem ((c.tc : Thread Cert.KernelIdeal.nD Cert.KernelIdeal.τ).loc Cert.KernelIdeal.main_v148_1) = v1 c
          ∧ r.2.mem ((c.tc : Thread Cert.KernelIdeal.nD Cert.KernelIdeal.τ).loc Cert.KernelIdeal.main_v148_2) = v2 c
          ∧ r.2.mem ((c.tc : Thread Cert.KernelIdeal.nD Cert.KernelIdeal.τ).loc Cert.KernelIdeal.main_v148_3) = v3 c
          ∧ r.2.mem ((c.tc : Thread Cert.KernelIdeal.nD Cert.KernelIdeal.τ).loc Cert.KernelIdeal.main_v148_4) = v4 c
          ∧ r.2.mem ((c.tc : Thread Cert.KernelIdeal.nD Cert.KernelIdeal.τ).loc Cert.KernelIdeal.main_v148_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_v182) = v3 c
          ∧ r.2.mem ((c.tc : Thread Cert.ReferenceIdeal.nD Cert.ReferenceIdeal.τ).loc Cert.ReferenceIdeal.main_v173) = v4 c
          ∧ r.2.mem ((c.tc : Thread Cert.ReferenceIdeal.nD Cert.ReferenceIdeal.τ).loc Cert.ReferenceIdeal.main_v186) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Wgrad_WgradIdeal : Prop :=
  True

def algebraic_WgradIdeal_WgradReferenceIdeal [hWgradIdeal : Cert.WgradIdeal.Facts] [hWgradReferenceIdeal : Cert.WgradReferenceIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradIdeal m →
    (∀ c : Dev Cert.WgradIdeal.nD,
      m' ((c.tc : Thread Cert.WgradReferenceIdeal.nD Cert.WgradReferenceIdeal.τ).loc Cert.WgradReferenceIdeal.main_arg0) = m ((c.tc : Thread Cert.WgradIdeal.nD Cert.WgradIdeal.τ).loc Cert.WgradIdeal.main_arg0)
      ∧ m' ((c.tc : Thread Cert.WgradReferenceIdeal.nD Cert.WgradReferenceIdeal.τ).loc Cert.WgradReferenceIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v32) = v0 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1))

def preserves_Win_WinIdeal : Prop :=
  True

def algebraic_WinIdeal_WinReferenceIdeal [hWinIdeal : Cert.WinIdeal.Facts] [hWinReferenceIdeal : Cert.WinReferenceIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinIdeal m →
    (∀ c : Dev Cert.WinIdeal.nD,
      m' ((c.tc : Thread Cert.WinReferenceIdeal.nD Cert.WinReferenceIdeal.τ).loc Cert.WinReferenceIdeal.main_arg0) = m ((c.tc : Thread Cert.WinIdeal.nD Cert.WinIdeal.τ).loc Cert.WinIdeal.main_arg0)
      ∧ m' ((c.tc : Thread Cert.WinReferenceIdeal.nD Cert.WinReferenceIdeal.τ).loc Cert.WinReferenceIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v10) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1))

def preserves_Wout_WoutIdeal : Prop :=
  True

def algebraic_WoutIdeal_WoutReferenceIdeal [hWoutIdeal : Cert.WoutIdeal.Facts] [hWoutReferenceIdeal : Cert.WoutReferenceIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutReferenceIdeal.nD Cert.WoutReferenceIdeal.τ Cert.WoutReferenceIdeal.sig) → Buf (Elt Ideal) ℓ) (g' : Dev Cert.WoutReferenceIdeal.nD → PrngReg), Pre_WoutIdeal m →
    (∀ c : Dev Cert.WoutIdeal.nD,
      m' ((c.tc : Thread Cert.WoutReferenceIdeal.nD Cert.WoutReferenceIdeal.τ).loc Cert.WoutReferenceIdeal.main_arg0) = m ((c.tc : Thread Cert.WoutIdeal.nD Cert.WoutIdeal.τ).loc Cert.WoutIdeal.main_arg0)
      ∧ m' ((c.tc : Thread Cert.WoutReferenceIdeal.nD Cert.WoutReferenceIdeal.τ).loc Cert.WoutReferenceIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutReferenceIdeal.defs (F := Ideal)) (onTc (τ := Cert.WoutReferenceIdeal.τ) (Cert.WoutReferenceIdeal.main (F := Ideal))) ⟨m', fun _ => 0, g'⟩ (fun r => ∀ c : Dev Cert.WoutReferenceIdeal.nD,
          r.2.mem ((c.tc : Thread Cert.WoutReferenceIdeal.nD Cert.WoutReferenceIdeal.τ).loc Cert.WoutReferenceIdeal.main_v9) = v0 c
          ∧ r.2.mem ((c.tc : Thread Cert.WoutReferenceIdeal.nD Cert.WoutReferenceIdeal.τ).loc Cert.WoutReferenceIdeal.main_arg0) = m' ((c.tc : Thread Cert.WoutReferenceIdeal.nD Cert.WoutReferenceIdeal.τ).loc Cert.WoutReferenceIdeal.main_arg0)
          ∧ r.2.mem ((c.tc : Thread Cert.WoutReferenceIdeal.nD Cert.WoutReferenceIdeal.τ).loc Cert.WoutReferenceIdeal.main_arg1) = m' ((c.tc : Thread Cert.WoutReferenceIdeal.nD Cert.WoutReferenceIdeal.τ).loc Cert.WoutReferenceIdeal.main_arg1))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v9) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v10) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1))

def preserves_Fwd_FwdIdeal : Prop :=
  True

def algebraic_FwdIdeal_FwdReferenceIdeal [hFwdIdeal : Cert.FwdIdeal.Facts] [hFwdReferenceIdeal : Cert.FwdReferenceIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)
      ∧ m' ((c.tc : Thread Cert.FwdReferenceIdeal.nD Cert.FwdReferenceIdeal.τ).loc Cert.FwdReferenceIdeal.main_arg3) = m ((c.tc : Thread Cert.FwdIdeal.nD Cert.FwdIdeal.τ).loc Cert.FwdIdeal.main_arg3)
      ∧ m' ((c.tc : Thread Cert.FwdReferenceIdeal.nD Cert.FwdReferenceIdeal.τ).loc Cert.FwdReferenceIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v8_0)) (v1 : (c : Dev Cert.FwdIdeal.nD) → Buf (Elt Ideal) ((c.tc : Thread Cert.FwdIdeal.nD Cert.FwdIdeal.τ).loc Cert.FwdIdeal.main_v8_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v8_0) = v0 c
          ∧ r.2.mem ((c.tc : Thread Cert.FwdIdeal.nD Cert.FwdIdeal.τ).loc Cert.FwdIdeal.main_v8_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v33) = v0 c
          ∧ r.2.mem ((c.tc : Thread Cert.FwdReferenceIdeal.nD Cert.FwdReferenceIdeal.τ).loc Cert.FwdReferenceIdeal.main_v39) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4))

def preserves_InFwd_InFwdIdeal : Prop :=
  True

def algebraic_InFwdIdeal_InFwdReferenceIdeal [hInFwdIdeal : Cert.InFwdIdeal.Facts] [hInFwdReferenceIdeal : Cert.InFwdReferenceIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdIdeal m →
    (∀ c : Dev Cert.InFwdIdeal.nD,
      m' ((c.tc : Thread Cert.InFwdReferenceIdeal.nD Cert.InFwdReferenceIdeal.τ).loc Cert.InFwdReferenceIdeal.main_arg0) = m ((c.tc : Thread Cert.InFwdIdeal.nD Cert.InFwdIdeal.τ).loc Cert.InFwdIdeal.main_arg0)
      ∧ m' ((c.tc : Thread Cert.InFwdReferenceIdeal.nD Cert.InFwdReferenceIdeal.τ).loc Cert.InFwdReferenceIdeal.main_arg1) = m ((c.tc : Thread Cert.InFwdIdeal.nD Cert.InFwdIdeal.τ).loc Cert.InFwdIdeal.main_arg1)
      ∧ m' ((c.tc : Thread Cert.InFwdReferenceIdeal.nD Cert.InFwdReferenceIdeal.τ).loc Cert.InFwdReferenceIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v4)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v4) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v13) = v0 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1)
          ∧ r.2.mem ((c.tc : Thread Cert.InFwdReferenceIdeal.nD Cert.InFwdReferenceIdeal.τ).loc Cert.InFwdReferenceIdeal.main_arg2) = m' ((c.tc : Thread Cert.InFwdReferenceIdeal.nD Cert.InFwdReferenceIdeal.τ).loc Cert.InFwdReferenceIdeal.main_arg2))

def preserves_PleFwd_PleFwdIdeal : Prop :=
  True

def algebraic_PleFwdIdeal_PleFwdReferenceIdeal [hPleFwdIdeal : Cert.PleFwdIdeal.Facts] [hPleFwdReferenceIdeal : Cert.PleFwdReferenceIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdReferenceIdeal.nD Cert.PleFwdReferenceIdeal.τ Cert.PleFwdReferenceIdeal.sig) → Buf (Elt Ideal) ℓ) (g' : Dev Cert.PleFwdReferenceIdeal.nD → PrngReg), Pre_PleFwdIdeal m →
    (∀ c : Dev Cert.PleFwdIdeal.nD,
      m' ((c.tc : Thread Cert.PleFwdReferenceIdeal.nD Cert.PleFwdReferenceIdeal.τ).loc Cert.PleFwdReferenceIdeal.main_arg0) = m ((c.tc : Thread Cert.PleFwdIdeal.nD Cert.PleFwdIdeal.τ).loc Cert.PleFwdIdeal.main_arg0)
      ∧ m' ((c.tc : Thread Cert.PleFwdReferenceIdeal.nD Cert.PleFwdReferenceIdeal.τ).loc Cert.PleFwdReferenceIdeal.main_arg1) = m ((c.tc : Thread Cert.PleFwdIdeal.nD Cert.PleFwdIdeal.τ).loc Cert.PleFwdIdeal.main_arg1)
      ∧ m' ((c.tc : Thread Cert.PleFwdReferenceIdeal.nD Cert.PleFwdReferenceIdeal.τ).loc Cert.PleFwdReferenceIdeal.main_arg2) = m ((c.tc : Thread Cert.PleFwdIdeal.nD Cert.PleFwdIdeal.τ).loc Cert.PleFwdIdeal.main_arg2)
      ∧ m' ((c.tc : Thread Cert.PleFwdReferenceIdeal.nD Cert.PleFwdReferenceIdeal.τ).loc Cert.PleFwdReferenceIdeal.main_arg3) = m ((c.tc : Thread Cert.PleFwdIdeal.nD Cert.PleFwdIdeal.τ).loc Cert.PleFwdIdeal.main_arg3)
      ∧ m' ((c.tc : Thread Cert.PleFwdReferenceIdeal.nD Cert.PleFwdReferenceIdeal.τ).loc Cert.PleFwdReferenceIdeal.main_arg4) = m ((c.tc : Thread Cert.PleFwdIdeal.nD Cert.PleFwdIdeal.τ).loc Cert.PleFwdIdeal.main_arg4)) →
    ∃ (v0 : (c : Dev Cert.PleFwdIdeal.nD) → Buf (Elt Ideal) ((c.tc : Thread Cert.PleFwdIdeal.nD Cert.PleFwdIdeal.τ).loc Cert.PleFwdIdeal.main_v5_0)) (v1 : (c : Dev Cert.PleFwdIdeal.nD) → Buf (Elt Ideal) ((c.tc : Thread Cert.PleFwdIdeal.nD Cert.PleFwdIdeal.τ).loc Cert.PleFwdIdeal.main_v5_1)) (v2 : (c : Dev Cert.PleFwdIdeal.nD) → Buf (Elt Ideal) ((c.tc : Thread Cert.PleFwdIdeal.nD Cert.PleFwdIdeal.τ).loc Cert.PleFwdIdeal.main_v5_2)) (v3 : (c : Dev Cert.PleFwdIdeal.nD) → Buf (Elt Ideal) ((c.tc : Thread Cert.PleFwdIdeal.nD Cert.PleFwdIdeal.τ).loc Cert.PleFwdIdeal.main_v5_3)) (v4 : (c : Dev Cert.PleFwdIdeal.nD) → Buf (Elt Ideal) ((c.tc : Thread Cert.PleFwdIdeal.nD Cert.PleFwdIdeal.τ).loc Cert.PleFwdIdeal.main_v5_4)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v5_0) = v0 c
          ∧ r.2.mem ((c.tc : Thread Cert.PleFwdIdeal.nD Cert.PleFwdIdeal.τ).loc Cert.PleFwdIdeal.main_v5_1) = v1 c
          ∧ r.2.mem ((c.tc : Thread Cert.PleFwdIdeal.nD Cert.PleFwdIdeal.τ).loc Cert.PleFwdIdeal.main_v5_2) = v2 c
          ∧ r.2.mem ((c.tc : Thread Cert.PleFwdIdeal.nD Cert.PleFwdIdeal.τ).loc Cert.PleFwdIdeal.main_v5_3) = v3 c
          ∧ r.2.mem ((c.tc : Thread Cert.PleFwdIdeal.nD Cert.PleFwdIdeal.τ).loc Cert.PleFwdIdeal.main_v5_4) = v4 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
          ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ θ_run (Cert.PleFwdReferenceIdeal.defs (F := Ideal)) (onTc (τ := Cert.PleFwdReferenceIdeal.τ) (Cert.PleFwdReferenceIdeal.main (F := Ideal))) ⟨m', fun _ => 0, g'⟩ (fun r => ∀ c : Dev Cert.PleFwdReferenceIdeal.nD,
          r.2.mem ((c.tc : Thread Cert.PleFwdReferenceIdeal.nD Cert.PleFwdReferenceIdeal.τ).loc Cert.PleFwdReferenceIdeal.main_v22) = v0 c
          ∧ r.2.mem ((c.tc : Thread Cert.PleFwdReferenceIdeal.nD Cert.PleFwdReferenceIdeal.τ).loc Cert.PleFwdReferenceIdeal.main_v24) = v1 c
          ∧ r.2.mem ((c.tc : Thread Cert.PleFwdReferenceIdeal.nD Cert.PleFwdReferenceIdeal.τ).loc Cert.PleFwdReferenceIdeal.main_v26) = v2 c
          ∧ r.2.mem ((c.tc : Thread Cert.PleFwdReferenceIdeal.nD Cert.PleFwdReferenceIdeal.τ).loc Cert.PleFwdReferenceIdeal.main_v27) = v3 c
          ∧ r.2.mem ((c.tc : Thread Cert.PleFwdReferenceIdeal.nD Cert.PleFwdReferenceIdeal.τ).loc Cert.PleFwdReferenceIdeal.main_v28) = v4 c
          ∧ r.2.mem ((c.tc : Thread Cert.PleFwdReferenceIdeal.nD Cert.PleFwdReferenceIdeal.τ).loc Cert.PleFwdReferenceIdeal.main_arg0) = m' ((c.tc : Thread Cert.PleFwdReferenceIdeal.nD Cert.PleFwdReferenceIdeal.τ).loc Cert.PleFwdReferenceIdeal.main_arg0)
          ∧ r.2.mem ((c.tc : Thread Cert.PleFwdReferenceIdeal.nD Cert.PleFwdReferenceIdeal.τ).loc Cert.PleFwdReferenceIdeal.main_arg1) = m' ((c.tc : Thread Cert.PleFwdReferenceIdeal.nD Cert.PleFwdReferenceIdeal.τ).loc Cert.PleFwdReferenceIdeal.main_arg1)
          ∧ r.2.mem ((c.tc : Thread Cert.PleFwdReferenceIdeal.nD Cert.PleFwdReferenceIdeal.τ).loc Cert.PleFwdReferenceIdeal.main_arg2) = m' ((c.tc : Thread Cert.PleFwdReferenceIdeal.nD Cert.PleFwdReferenceIdeal.τ).loc Cert.PleFwdReferenceIdeal.main_arg2)
          ∧ r.2.mem ((c.tc : Thread Cert.PleFwdReferenceIdeal.nD Cert.PleFwdReferenceIdeal.τ).loc Cert.PleFwdReferenceIdeal.main_arg3) = m' ((c.tc : Thread Cert.PleFwdReferenceIdeal.nD Cert.PleFwdReferenceIdeal.τ).loc Cert.PleFwdReferenceIdeal.main_arg3)
          ∧ r.2.mem ((c.tc : Thread Cert.PleFwdReferenceIdeal.nD Cert.PleFwdReferenceIdeal.τ).loc Cert.PleFwdReferenceIdeal.main_arg4) = m' ((c.tc : Thread Cert.PleFwdReferenceIdeal.nD Cert.PleFwdReferenceIdeal.τ).loc Cert.PleFwdReferenceIdeal.main_arg4))

def preserves_MixFwd_MixFwdIdeal : Prop :=
  True

def algebraic_MixFwdIdeal_MixFwdReferenceIdeal [hMixFwdIdeal : Cert.MixFwdIdeal.Facts] [hMixFwdReferenceIdeal : Cert.MixFwdReferenceIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdReferenceIdeal.nD Cert.MixFwdReferenceIdeal.τ Cert.MixFwdReferenceIdeal.sig) → Buf (Elt Ideal) ℓ) (g' : Dev Cert.MixFwdReferenceIdeal.nD → PrngReg), Pre_MixFwdIdeal m →
    (∀ c : Dev Cert.MixFwdIdeal.nD,
      m' ((c.tc : Thread Cert.MixFwdReferenceIdeal.nD Cert.MixFwdReferenceIdeal.τ).loc Cert.MixFwdReferenceIdeal.main_arg0) = m ((c.tc : Thread Cert.MixFwdIdeal.nD Cert.MixFwdIdeal.τ).loc Cert.MixFwdIdeal.main_arg0)
      ∧ m' ((c.tc : Thread Cert.MixFwdReferenceIdeal.nD Cert.MixFwdReferenceIdeal.τ).loc Cert.MixFwdReferenceIdeal.main_arg1) = m ((c.tc : Thread Cert.MixFwdIdeal.nD Cert.MixFwdIdeal.τ).loc Cert.MixFwdIdeal.main_arg1)
      ∧ m' ((c.tc : Thread Cert.MixFwdReferenceIdeal.nD Cert.MixFwdReferenceIdeal.τ).loc Cert.MixFwdReferenceIdeal.main_arg2) = m ((c.tc : Thread Cert.MixFwdIdeal.nD Cert.MixFwdIdeal.τ).loc Cert.MixFwdIdeal.main_arg2)
      ∧ m' ((c.tc : Thread Cert.MixFwdReferenceIdeal.nD Cert.MixFwdReferenceIdeal.τ).loc Cert.MixFwdReferenceIdeal.main_arg3) = m ((c.tc : Thread Cert.MixFwdIdeal.nD Cert.MixFwdIdeal.τ).loc Cert.MixFwdIdeal.main_arg3)
      ∧ m' ((c.tc : Thread Cert.MixFwdReferenceIdeal.nD Cert.MixFwdReferenceIdeal.τ).loc Cert.MixFwdReferenceIdeal.main_arg4) = m ((c.tc : Thread Cert.MixFwdIdeal.nD Cert.MixFwdIdeal.τ).loc Cert.MixFwdIdeal.main_arg4)
      ∧ m' ((c.tc : Thread Cert.MixFwdReferenceIdeal.nD Cert.MixFwdReferenceIdeal.τ).loc Cert.MixFwdReferenceIdeal.main_arg5) = m ((c.tc : Thread Cert.MixFwdIdeal.nD Cert.MixFwdIdeal.τ).loc Cert.MixFwdIdeal.main_arg5)
      ∧ m' ((c.tc : Thread Cert.MixFwdReferenceIdeal.nD Cert.MixFwdReferenceIdeal.τ).loc Cert.MixFwdReferenceIdeal.main_arg6) = m ((c.tc : Thread Cert.MixFwdIdeal.nD Cert.MixFwdIdeal.τ).loc Cert.MixFwdIdeal.main_arg6)
      ∧ m' ((c.tc : Thread Cert.MixFwdReferenceIdeal.nD Cert.MixFwdReferenceIdeal.τ).loc Cert.MixFwdReferenceIdeal.main_arg7) = m ((c.tc : Thread Cert.MixFwdIdeal.nD Cert.MixFwdIdeal.τ).loc Cert.MixFwdIdeal.main_arg7)) →
    ∃ (v0 : (c : Dev Cert.MixFwdIdeal.nD) → Buf (Elt Ideal) ((c.tc : Thread Cert.MixFwdIdeal.nD Cert.MixFwdIdeal.τ).loc Cert.MixFwdIdeal.main_v6)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v6) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7))
      ∧ θ_run (Cert.MixFwdReferenceIdeal.defs (F := Ideal)) (onTc (τ := Cert.MixFwdReferenceIdeal.τ) (Cert.MixFwdReferenceIdeal.main (F := Ideal))) ⟨m', fun _ => 0, g'⟩ (fun r => ∀ c : Dev Cert.MixFwdReferenceIdeal.nD,
          r.2.mem ((c.tc : Thread Cert.MixFwdReferenceIdeal.nD Cert.MixFwdReferenceIdeal.τ).loc Cert.MixFwdReferenceIdeal.main_v52) = v0 c
          ∧ r.2.mem ((c.tc : Thread Cert.MixFwdReferenceIdeal.nD Cert.MixFwdReferenceIdeal.τ).loc Cert.MixFwdReferenceIdeal.main_arg0) = m' ((c.tc : Thread Cert.MixFwdReferenceIdeal.nD Cert.MixFwdReferenceIdeal.τ).loc Cert.MixFwdReferenceIdeal.main_arg0)
          ∧ r.2.mem ((c.tc : Thread Cert.MixFwdReferenceIdeal.nD Cert.MixFwdReferenceIdeal.τ).loc Cert.MixFwdReferenceIdeal.main_arg1) = m' ((c.tc : Thread Cert.MixFwdReferenceIdeal.nD Cert.MixFwdReferenceIdeal.τ).loc Cert.MixFwdReferenceIdeal.main_arg1)
          ∧ r.2.mem ((c.tc : Thread Cert.MixFwdReferenceIdeal.nD Cert.MixFwdReferenceIdeal.τ).loc Cert.MixFwdReferenceIdeal.main_arg2) = m' ((c.tc : Thread Cert.MixFwdReferenceIdeal.nD Cert.MixFwdReferenceIdeal.τ).loc Cert.MixFwdReferenceIdeal.main_arg2)
          ∧ r.2.mem ((c.tc : Thread Cert.MixFwdReferenceIdeal.nD Cert.MixFwdReferenceIdeal.τ).loc Cert.MixFwdReferenceIdeal.main_arg3) = m' ((c.tc : Thread Cert.MixFwdReferenceIdeal.nD Cert.MixFwdReferenceIdeal.τ).loc Cert.MixFwdReferenceIdeal.main_arg3)
          ∧ r.2.mem ((c.tc : Thread Cert.MixFwdReferenceIdeal.nD Cert.MixFwdReferenceIdeal.τ).loc Cert.MixFwdReferenceIdeal.main_arg4) = m' ((c.tc : Thread Cert.MixFwdReferenceIdeal.nD Cert.MixFwdReferenceIdeal.τ).loc Cert.MixFwdReferenceIdeal.main_arg4)
          ∧ r.2.mem ((c.tc : Thread Cert.MixFwdReferenceIdeal.nD Cert.MixFwdReferenceIdeal.τ).loc Cert.MixFwdReferenceIdeal.main_arg5) = m' ((c.tc : Thread Cert.MixFwdReferenceIdeal.nD Cert.MixFwdReferenceIdeal.τ).loc Cert.MixFwdReferenceIdeal.main_arg5)
          ∧ r.2.mem ((c.tc : Thread Cert.MixFwdReferenceIdeal.nD Cert.MixFwdReferenceIdeal.τ).loc Cert.MixFwdReferenceIdeal.main_arg6) = m' ((c.tc : Thread Cert.MixFwdReferenceIdeal.nD Cert.MixFwdReferenceIdeal.τ).loc Cert.MixFwdReferenceIdeal.main_arg6)
          ∧ r.2.mem ((c.tc : Thread Cert.MixFwdReferenceIdeal.nD Cert.MixFwdReferenceIdeal.τ).loc Cert.MixFwdReferenceIdeal.main_arg7) = m' ((c.tc : Thread Cert.MixFwdReferenceIdeal.nD Cert.MixFwdReferenceIdeal.τ).loc Cert.MixFwdReferenceIdeal.main_arg7))

def preserves_InBwd_InBwdIdeal : Prop :=
  True

def algebraic_InBwdIdeal_InBwdReferenceIdeal [hInBwdIdeal : Cert.InBwdIdeal.Facts] [hInBwdReferenceIdeal : Cert.InBwdReferenceIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdReferenceIdeal.nD Cert.InBwdReferenceIdeal.τ Cert.InBwdReferenceIdeal.sig) → Buf (Elt Ideal) ℓ) (g' : Dev Cert.InBwdReferenceIdeal.nD → PrngReg), Pre_InBwdIdeal m →
    (∀ c : Dev Cert.InBwdIdeal.nD,
      m' ((c.tc : Thread Cert.InBwdReferenceIdeal.nD Cert.InBwdReferenceIdeal.τ).loc Cert.InBwdReferenceIdeal.main_arg0) = m ((c.tc : Thread Cert.InBwdIdeal.nD Cert.InBwdIdeal.τ).loc Cert.InBwdIdeal.main_arg0)
      ∧ m' ((c.tc : Thread Cert.InBwdReferenceIdeal.nD Cert.InBwdReferenceIdeal.τ).loc Cert.InBwdReferenceIdeal.main_arg1) = m ((c.tc : Thread Cert.InBwdIdeal.nD Cert.InBwdIdeal.τ).loc Cert.InBwdIdeal.main_arg1)
      ∧ m' ((c.tc : Thread Cert.InBwdReferenceIdeal.nD Cert.InBwdReferenceIdeal.τ).loc Cert.InBwdReferenceIdeal.main_arg2) = m ((c.tc : Thread Cert.InBwdIdeal.nD Cert.InBwdIdeal.τ).loc Cert.InBwdIdeal.main_arg2)
      ∧ m' ((c.tc : Thread Cert.InBwdReferenceIdeal.nD Cert.InBwdReferenceIdeal.τ).loc Cert.InBwdReferenceIdeal.main_arg3) = m ((c.tc : Thread Cert.InBwdIdeal.nD Cert.InBwdIdeal.τ).loc Cert.InBwdIdeal.main_arg3)
      ∧ m' ((c.tc : Thread Cert.InBwdReferenceIdeal.nD Cert.InBwdReferenceIdeal.τ).loc Cert.InBwdReferenceIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v4_0)) (v1 : (c : Dev Cert.InBwdIdeal.nD) → Buf (Elt Ideal) ((c.tc : Thread Cert.InBwdIdeal.nD Cert.InBwdIdeal.τ).loc Cert.InBwdIdeal.main_v4_1)) (v2 : (c : Dev Cert.InBwdIdeal.nD) → Buf (Elt Ideal) ((c.tc : Thread Cert.InBwdIdeal.nD Cert.InBwdIdeal.τ).loc Cert.InBwdIdeal.main_v4_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v4_0) = v0 c
          ∧ r.2.mem ((c.tc : Thread Cert.InBwdIdeal.nD Cert.InBwdIdeal.τ).loc Cert.InBwdIdeal.main_v4_1) = v1 c
          ∧ r.2.mem ((c.tc : Thread Cert.InBwdIdeal.nD Cert.InBwdIdeal.τ).loc Cert.InBwdIdeal.main_v4_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdReferenceIdeal.defs (F := Ideal)) (onTc (τ := Cert.InBwdReferenceIdeal.τ) (Cert.InBwdReferenceIdeal.main (F := Ideal))) ⟨m', fun _ => 0, g'⟩ (fun r => ∀ c : Dev Cert.InBwdReferenceIdeal.nD,
          r.2.mem ((c.tc : Thread Cert.InBwdReferenceIdeal.nD Cert.InBwdReferenceIdeal.τ).loc Cert.InBwdReferenceIdeal.main_v39) = v0 c
          ∧ r.2.mem ((c.tc : Thread Cert.InBwdReferenceIdeal.nD Cert.InBwdReferenceIdeal.τ).loc Cert.InBwdReferenceIdeal.main_v54) = v1 c
          ∧ r.2.mem ((c.tc : Thread Cert.InBwdReferenceIdeal.nD Cert.InBwdReferenceIdeal.τ).loc Cert.InBwdReferenceIdeal.main_v55) = v2 c
          ∧ r.2.mem ((c.tc : Thread Cert.InBwdReferenceIdeal.nD Cert.InBwdReferenceIdeal.τ).loc Cert.InBwdReferenceIdeal.main_arg0) = m' ((c.tc : Thread Cert.InBwdReferenceIdeal.nD Cert.InBwdReferenceIdeal.τ).loc Cert.InBwdReferenceIdeal.main_arg0)
          ∧ r.2.mem ((c.tc : Thread Cert.InBwdReferenceIdeal.nD Cert.InBwdReferenceIdeal.τ).loc Cert.InBwdReferenceIdeal.main_arg1) = m' ((c.tc : Thread Cert.InBwdReferenceIdeal.nD Cert.InBwdReferenceIdeal.τ).loc Cert.InBwdReferenceIdeal.main_arg1)
          ∧ r.2.mem ((c.tc : Thread Cert.InBwdReferenceIdeal.nD Cert.InBwdReferenceIdeal.τ).loc Cert.InBwdReferenceIdeal.main_arg2) = m' ((c.tc : Thread Cert.InBwdReferenceIdeal.nD Cert.InBwdReferenceIdeal.τ).loc Cert.InBwdReferenceIdeal.main_arg2)
          ∧ r.2.mem ((c.tc : Thread Cert.InBwdReferenceIdeal.nD Cert.InBwdReferenceIdeal.τ).loc Cert.InBwdReferenceIdeal.main_arg3) = m' ((c.tc : Thread Cert.InBwdReferenceIdeal.nD Cert.InBwdReferenceIdeal.τ).loc Cert.InBwdReferenceIdeal.main_arg3)
          ∧ r.2.mem ((c.tc : Thread Cert.InBwdReferenceIdeal.nD Cert.InBwdReferenceIdeal.τ).loc Cert.InBwdReferenceIdeal.main_arg4) = m' ((c.tc : Thread Cert.InBwdReferenceIdeal.nD Cert.InBwdReferenceIdeal.τ).loc Cert.InBwdReferenceIdeal.main_arg4))

def preserves_PleBwd_PleBwdIdeal : Prop :=
  True

def algebraic_PleBwdIdeal_PleBwdReferenceIdeal [hPleBwdIdeal : Cert.PleBwdIdeal.Facts] [hPleBwdReferenceIdeal : Cert.PleBwdReferenceIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdReferenceIdeal.nD Cert.PleBwdReferenceIdeal.τ Cert.PleBwdReferenceIdeal.sig) → Buf (Elt Ideal) ℓ) (g' : Dev Cert.PleBwdReferenceIdeal.nD → PrngReg), Pre_PleBwdIdeal m →
    (∀ c : Dev Cert.PleBwdIdeal.nD,
      m' ((c.tc : Thread Cert.PleBwdReferenceIdeal.nD Cert.PleBwdReferenceIdeal.τ).loc Cert.PleBwdReferenceIdeal.main_arg0) = m ((c.tc : Thread Cert.PleBwdIdeal.nD Cert.PleBwdIdeal.τ).loc Cert.PleBwdIdeal.main_arg0)
      ∧ m' ((c.tc : Thread Cert.PleBwdReferenceIdeal.nD Cert.PleBwdReferenceIdeal.τ).loc Cert.PleBwdReferenceIdeal.main_arg1) = m ((c.tc : Thread Cert.PleBwdIdeal.nD Cert.PleBwdIdeal.τ).loc Cert.PleBwdIdeal.main_arg1)
      ∧ m' ((c.tc : Thread Cert.PleBwdReferenceIdeal.nD Cert.PleBwdReferenceIdeal.τ).loc Cert.PleBwdReferenceIdeal.main_arg2) = m ((c.tc : Thread Cert.PleBwdIdeal.nD Cert.PleBwdIdeal.τ).loc Cert.PleBwdIdeal.main_arg2)
      ∧ m' ((c.tc : Thread Cert.PleBwdReferenceIdeal.nD Cert.PleBwdReferenceIdeal.τ).loc Cert.PleBwdReferenceIdeal.main_arg3) = m ((c.tc : Thread Cert.PleBwdIdeal.nD Cert.PleBwdIdeal.τ).loc Cert.PleBwdIdeal.main_arg3)
      ∧ m' ((c.tc : Thread Cert.PleBwdReferenceIdeal.nD Cert.PleBwdReferenceIdeal.τ).loc Cert.PleBwdReferenceIdeal.main_arg4) = m ((c.tc : Thread Cert.PleBwdIdeal.nD Cert.PleBwdIdeal.τ).loc Cert.PleBwdIdeal.main_arg4)
      ∧ m' ((c.tc : Thread Cert.PleBwdReferenceIdeal.nD Cert.PleBwdReferenceIdeal.τ).loc Cert.PleBwdReferenceIdeal.main_arg5) = m ((c.tc : Thread Cert.PleBwdIdeal.nD Cert.PleBwdIdeal.τ).loc Cert.PleBwdIdeal.main_arg5)) →
    ∃ (v0 : (c : Dev Cert.PleBwdIdeal.nD) → Buf (Elt Ideal) ((c.tc : Thread Cert.PleBwdIdeal.nD Cert.PleBwdIdeal.τ).loc Cert.PleBwdIdeal.main_v3_0)) (v1 : (c : Dev Cert.PleBwdIdeal.nD) → Buf (Elt Ideal) ((c.tc : Thread Cert.PleBwdIdeal.nD Cert.PleBwdIdeal.τ).loc Cert.PleBwdIdeal.main_v3_1)) (v2 : (c : Dev Cert.PleBwdIdeal.nD) → Buf (Elt Ideal) ((c.tc : Thread Cert.PleBwdIdeal.nD Cert.PleBwdIdeal.τ).loc Cert.PleBwdIdeal.main_v3_2)) (v3 : (c : Dev Cert.PleBwdIdeal.nD) → Buf (Elt Ideal) ((c.tc : Thread Cert.PleBwdIdeal.nD Cert.PleBwdIdeal.τ).loc Cert.PleBwdIdeal.main_v3_3)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v3_0) = v0 c
          ∧ r.2.mem ((c.tc : Thread Cert.PleBwdIdeal.nD Cert.PleBwdIdeal.τ).loc Cert.PleBwdIdeal.main_v3_1) = v1 c
          ∧ r.2.mem ((c.tc : Thread Cert.PleBwdIdeal.nD Cert.PleBwdIdeal.τ).loc Cert.PleBwdIdeal.main_v3_2) = v2 c
          ∧ r.2.mem ((c.tc : Thread Cert.PleBwdIdeal.nD Cert.PleBwdIdeal.τ).loc Cert.PleBwdIdeal.main_v3_3) = v3 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
          ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ θ_run (Cert.PleBwdReferenceIdeal.defs (F := Ideal)) (onTc (τ := Cert.PleBwdReferenceIdeal.τ) (Cert.PleBwdReferenceIdeal.main (F := Ideal))) ⟨m', fun _ => 0, g'⟩ (fun r => ∀ c : Dev Cert.PleBwdReferenceIdeal.nD,
          r.2.mem ((c.tc : Thread Cert.PleBwdReferenceIdeal.nD Cert.PleBwdReferenceIdeal.τ).loc Cert.PleBwdReferenceIdeal.main_v53) = v0 c
          ∧ r.2.mem ((c.tc : Thread Cert.PleBwdReferenceIdeal.nD Cert.PleBwdReferenceIdeal.τ).loc Cert.PleBwdReferenceIdeal.main_v55) = v1 c
          ∧ r.2.mem ((c.tc : Thread Cert.PleBwdReferenceIdeal.nD Cert.PleBwdReferenceIdeal.τ).loc Cert.PleBwdReferenceIdeal.main_v57) = v2 c
          ∧ r.2.mem ((c.tc : Thread Cert.PleBwdReferenceIdeal.nD Cert.PleBwdReferenceIdeal.τ).loc Cert.PleBwdReferenceIdeal.main_v58) = v3 c
          ∧ r.2.mem ((c.tc : Thread Cert.PleBwdReferenceIdeal.nD Cert.PleBwdReferenceIdeal.τ).loc Cert.PleBwdReferenceIdeal.main_arg0) = m' ((c.tc : Thread Cert.PleBwdReferenceIdeal.nD Cert.PleBwdReferenceIdeal.τ).loc Cert.PleBwdReferenceIdeal.main_arg0)
          ∧ r.2.mem ((c.tc : Thread Cert.PleBwdReferenceIdeal.nD Cert.PleBwdReferenceIdeal.τ).loc Cert.PleBwdReferenceIdeal.main_arg1) = m' ((c.tc : Thread Cert.PleBwdReferenceIdeal.nD Cert.PleBwdReferenceIdeal.τ).loc Cert.PleBwdReferenceIdeal.main_arg1)
          ∧ r.2.mem ((c.tc : Thread Cert.PleBwdReferenceIdeal.nD Cert.PleBwdReferenceIdeal.τ).loc Cert.PleBwdReferenceIdeal.main_arg2) = m' ((c.tc : Thread Cert.PleBwdReferenceIdeal.nD Cert.PleBwdReferenceIdeal.τ).loc Cert.PleBwdReferenceIdeal.main_arg2)
          ∧ r.2.mem ((c.tc : Thread Cert.PleBwdReferenceIdeal.nD Cert.PleBwdReferenceIdeal.τ).loc Cert.PleBwdReferenceIdeal.main_arg3) = m' ((c.tc : Thread Cert.PleBwdReferenceIdeal.nD Cert.PleBwdReferenceIdeal.τ).loc Cert.PleBwdReferenceIdeal.main_arg3)
          ∧ r.2.mem ((c.tc : Thread Cert.PleBwdReferenceIdeal.nD Cert.PleBwdReferenceIdeal.τ).loc Cert.PleBwdReferenceIdeal.main_arg4) = m' ((c.tc : Thread Cert.PleBwdReferenceIdeal.nD Cert.PleBwdReferenceIdeal.τ).loc Cert.PleBwdReferenceIdeal.main_arg4)
          ∧ r.2.mem ((c.tc : Thread Cert.PleBwdReferenceIdeal.nD Cert.PleBwdReferenceIdeal.τ).loc Cert.PleBwdReferenceIdeal.main_arg5) = m' ((c.tc : Thread Cert.PleBwdReferenceIdeal.nD Cert.PleBwdReferenceIdeal.τ).loc Cert.PleBwdReferenceIdeal.main_arg5))

def preserves_Ad1_Ad1Ideal : Prop :=
  True

def algebraic_Ad1Ideal_Ad1ReferenceIdeal [hAd1Ideal : Cert.Ad1Ideal.Facts] [hAd1ReferenceIdeal : Cert.Ad1ReferenceIdeal.Facts] : Prop :=
  ∀ (m : (ℓ : Loc Cert.Ad1Ideal.nD Cert.Ad1Ideal.τ Cert.Ad1Ideal.sig) → Buf (Elt Ideal) ℓ) (g : Dev Cert.Ad1Ideal.nD → PrngReg)
    (m' : (ℓ : Loc Cert.Ad1ReferenceIdeal.nD Cert.Ad1ReferenceIdeal.τ Cert.Ad1ReferenceIdeal.sig) → Buf (Elt Ideal) ℓ) (g' : Dev Cert.Ad1ReferenceIdeal.nD → PrngReg), Pre_Ad1Ideal m →
    (∀ c : Dev Cert.Ad1Ideal.nD,
      m' ((c.tc : Thread Cert.Ad1ReferenceIdeal.nD Cert.Ad1ReferenceIdeal.τ).loc Cert.Ad1ReferenceIdeal.main_arg0) = m ((c.tc : Thread Cert.Ad1Ideal.nD Cert.Ad1Ideal.τ).loc Cert.Ad1Ideal.main_arg0)
      ∧ m' ((c.tc : Thread Cert.Ad1ReferenceIdeal.nD Cert.Ad1ReferenceIdeal.τ).loc Cert.Ad1ReferenceIdeal.main_arg1) = m ((c.tc : Thread Cert.Ad1Ideal.nD Cert.Ad1Ideal.τ).loc Cert.Ad1Ideal.main_arg1)
      ∧ m' ((c.tc : Thread Cert.Ad1ReferenceIdeal.nD Cert.Ad1ReferenceIdeal.τ).loc Cert.Ad1ReferenceIdeal.main_arg2) = m ((c.tc : Thread Cert.Ad1Ideal.nD Cert.Ad1Ideal.τ).loc Cert.Ad1Ideal.main_arg2)
      ∧ m' ((c.tc : Thread Cert.Ad1ReferenceIdeal.nD Cert.Ad1ReferenceIdeal.τ).loc Cert.Ad1ReferenceIdeal.main_arg3) = m ((c.tc : Thread Cert.Ad1Ideal.nD Cert.Ad1Ideal.τ).loc Cert.Ad1Ideal.main_arg3)) →
    ∃ (v0 : (c : Dev Cert.Ad1Ideal.nD) → Buf (Elt Ideal) ((c.tc : Thread Cert.Ad1Ideal.nD Cert.Ad1Ideal.τ).loc Cert.Ad1Ideal.main_v0_0)) (v1 : (c : Dev Cert.Ad1Ideal.nD) → Buf (Elt Ideal) ((c.tc : Thread Cert.Ad1Ideal.nD Cert.Ad1Ideal.τ).loc Cert.Ad1Ideal.main_v0_1)) (v2 : (c : Dev Cert.Ad1Ideal.nD) → Buf (Elt Ideal) ((c.tc : Thread Cert.Ad1Ideal.nD Cert.Ad1Ideal.τ).loc Cert.Ad1Ideal.main_v0_2)),
      θ_run (Cert.Ad1Ideal.defs (F := Ideal)) (onTc (τ := Cert.Ad1Ideal.τ) (Cert.Ad1Ideal.main (F := Ideal))) ⟨m, fun _ => 0, g⟩ (fun r => ∀ c : Dev Cert.Ad1Ideal.nD,
          r.2.mem ((c.tc : Thread Cert.Ad1Ideal.nD Cert.Ad1Ideal.τ).loc Cert.Ad1Ideal.main_v0_0) = v0 c
          ∧ r.2.mem ((c.tc : Thread Cert.Ad1Ideal.nD Cert.Ad1Ideal.τ).loc Cert.Ad1Ideal.main_v0_1) = v1 c
          ∧ r.2.mem ((c.tc : Thread Cert.Ad1Ideal.nD Cert.Ad1Ideal.τ).loc Cert.Ad1Ideal.main_v0_2) = v2 c
          ∧ r.2.mem ((c.tc : Thread Cert.Ad1Ideal.nD Cert.Ad1Ideal.τ).loc Cert.Ad1Ideal.main_arg0) = m ((c.tc : Thread Cert.Ad1Ideal.nD Cert.Ad1Ideal.τ).loc Cert.Ad1Ideal.main_arg0)
          ∧ r.2.mem ((c.tc : Thread Cert.Ad1Ideal.nD Cert.Ad1Ideal.τ).loc Cert.Ad1Ideal.main_arg1) = m ((c.tc : Thread Cert.Ad1Ideal.nD Cert.Ad1Ideal.τ).loc Cert.Ad1Ideal.main_arg1)
          ∧ r.2.mem ((c.tc : Thread Cert.Ad1Ideal.nD Cert.Ad1Ideal.τ).loc Cert.Ad1Ideal.main_arg2) = m ((c.tc : Thread Cert.Ad1Ideal.nD Cert.Ad1Ideal.τ).loc Cert.Ad1Ideal.main_arg2)
          ∧ r.2.mem ((c.tc : Thread Cert.Ad1Ideal.nD Cert.Ad1Ideal.τ).loc Cert.Ad1Ideal.main_arg3) = m ((c.tc : Thread Cert.Ad1Ideal.nD Cert.Ad1Ideal.τ).loc Cert.Ad1Ideal.main_arg3))
      ∧ θ_run (Cert.Ad1ReferenceIdeal.defs (F := Ideal)) (onTc (τ := Cert.Ad1ReferenceIdeal.τ) (Cert.Ad1ReferenceIdeal.main (F := Ideal))) ⟨m', fun _ => 0, g'⟩ (fun r => ∀ c : Dev Cert.Ad1ReferenceIdeal.nD,
          r.2.mem ((c.tc : Thread Cert.Ad1ReferenceIdeal.nD Cert.Ad1ReferenceIdeal.τ).loc Cert.Ad1ReferenceIdeal.main_v23) = v0 c
          ∧ r.2.mem ((c.tc : Thread Cert.Ad1ReferenceIdeal.nD Cert.Ad1ReferenceIdeal.τ).loc Cert.Ad1ReferenceIdeal.main_v4) = v1 c
          ∧ r.2.mem ((c.tc : Thread Cert.Ad1ReferenceIdeal.nD Cert.Ad1ReferenceIdeal.τ).loc Cert.Ad1ReferenceIdeal.main_v10) = v2 c
          ∧ r.2.mem ((c.tc : Thread Cert.Ad1ReferenceIdeal.nD Cert.Ad1ReferenceIdeal.τ).loc Cert.Ad1ReferenceIdeal.main_arg0) = m' ((c.tc : Thread Cert.Ad1ReferenceIdeal.nD Cert.Ad1ReferenceIdeal.τ).loc Cert.Ad1ReferenceIdeal.main_arg0)
          ∧ r.2.mem ((c.tc : Thread Cert.Ad1ReferenceIdeal.nD Cert.Ad1ReferenceIdeal.τ).loc Cert.Ad1ReferenceIdeal.main_arg1) = m' ((c.tc : Thread Cert.Ad1ReferenceIdeal.nD Cert.Ad1ReferenceIdeal.τ).loc Cert.Ad1ReferenceIdeal.main_arg1)
          ∧ r.2.mem ((c.tc : Thread Cert.Ad1ReferenceIdeal.nD Cert.Ad1ReferenceIdeal.τ).loc Cert.Ad1ReferenceIdeal.main_arg2) = m' ((c.tc : Thread Cert.Ad1ReferenceIdeal.nD Cert.Ad1ReferenceIdeal.τ).loc Cert.Ad1ReferenceIdeal.main_arg2)
          ∧ r.2.mem ((c.tc : Thread Cert.Ad1ReferenceIdeal.nD Cert.Ad1ReferenceIdeal.τ).loc Cert.Ad1ReferenceIdeal.main_arg3) = m' ((c.tc : Thread Cert.Ad1ReferenceIdeal.nD Cert.Ad1ReferenceIdeal.τ).loc Cert.Ad1ReferenceIdeal.main_arg3))

def preserves_Ad2_Ad2Ideal : Prop :=
  True

def algebraic_Ad2Ideal_Ad2ReferenceIdeal [hAd2Ideal : Cert.Ad2Ideal.Facts] [hAd2ReferenceIdeal : Cert.Ad2ReferenceIdeal.Facts] : Prop :=
  ∀ (m : (ℓ : Loc Cert.Ad2Ideal.nD Cert.Ad2Ideal.τ Cert.Ad2Ideal.sig) → Buf (Elt Ideal) ℓ) (g : Dev Cert.Ad2Ideal.nD → PrngReg)
    (m' : (ℓ : Loc Cert.Ad2ReferenceIdeal.nD Cert.Ad2ReferenceIdeal.τ Cert.Ad2ReferenceIdeal.sig) → Buf (Elt Ideal) ℓ) (g' : Dev Cert.Ad2ReferenceIdeal.nD → PrngReg), Pre_Ad2Ideal m →
    (∀ c : Dev Cert.Ad2Ideal.nD,
      m' ((c.tc : Thread Cert.Ad2ReferenceIdeal.nD Cert.Ad2ReferenceIdeal.τ).loc Cert.Ad2ReferenceIdeal.main_arg0) = m ((c.tc : Thread Cert.Ad2Ideal.nD Cert.Ad2Ideal.τ).loc Cert.Ad2Ideal.main_arg0)
      ∧ m' ((c.tc : Thread Cert.Ad2ReferenceIdeal.nD Cert.Ad2ReferenceIdeal.τ).loc Cert.Ad2ReferenceIdeal.main_arg1) = m ((c.tc : Thread Cert.Ad2Ideal.nD Cert.Ad2Ideal.τ).loc Cert.Ad2Ideal.main_arg1)
      ∧ m' ((c.tc : Thread Cert.Ad2ReferenceIdeal.nD Cert.Ad2ReferenceIdeal.τ).loc Cert.Ad2ReferenceIdeal.main_arg2) = m ((c.tc : Thread Cert.Ad2Ideal.nD Cert.Ad2Ideal.τ).loc Cert.Ad2Ideal.main_arg2)
      ∧ m' ((c.tc : Thread Cert.Ad2ReferenceIdeal.nD Cert.Ad2ReferenceIdeal.τ).loc Cert.Ad2ReferenceIdeal.main_arg3) = m ((c.tc : Thread Cert.Ad2Ideal.nD Cert.Ad2Ideal.τ).loc Cert.Ad2Ideal.main_arg3)) →
    ∃ (v0 : (c : Dev Cert.Ad2Ideal.nD) → Buf (Elt Ideal) ((c.tc : Thread Cert.Ad2Ideal.nD Cert.Ad2Ideal.τ).loc Cert.Ad2Ideal.main_v0_0)) (v1 : (c : Dev Cert.Ad2Ideal.nD) → Buf (Elt Ideal) ((c.tc : Thread Cert.Ad2Ideal.nD Cert.Ad2Ideal.τ).loc Cert.Ad2Ideal.main_v0_1)) (v2 : (c : Dev Cert.Ad2Ideal.nD) → Buf (Elt Ideal) ((c.tc : Thread Cert.Ad2Ideal.nD Cert.Ad2Ideal.τ).loc Cert.Ad2Ideal.main_v0_2)),
      θ_run (Cert.Ad2Ideal.defs (F := Ideal)) (onTc (τ := Cert.Ad2Ideal.τ) (Cert.Ad2Ideal.main (F := Ideal))) ⟨m, fun _ => 0, g⟩ (fun r => ∀ c : Dev Cert.Ad2Ideal.nD,
          r.2.mem ((c.tc : Thread Cert.Ad2Ideal.nD Cert.Ad2Ideal.τ).loc Cert.Ad2Ideal.main_v0_0) = v0 c
          ∧ r.2.mem ((c.tc : Thread Cert.Ad2Ideal.nD Cert.Ad2Ideal.τ).loc Cert.Ad2Ideal.main_v0_1) = v1 c
          ∧ r.2.mem ((c.tc : Thread Cert.Ad2Ideal.nD Cert.Ad2Ideal.τ).loc Cert.Ad2Ideal.main_v0_2) = v2 c
          ∧ r.2.mem ((c.tc : Thread Cert.Ad2Ideal.nD Cert.Ad2Ideal.τ).loc Cert.Ad2Ideal.main_arg0) = m ((c.tc : Thread Cert.Ad2Ideal.nD Cert.Ad2Ideal.τ).loc Cert.Ad2Ideal.main_arg0)
          ∧ r.2.mem ((c.tc : Thread Cert.Ad2Ideal.nD Cert.Ad2Ideal.τ).loc Cert.Ad2Ideal.main_arg1) = m ((c.tc : Thread Cert.Ad2Ideal.nD Cert.Ad2Ideal.τ).loc Cert.Ad2Ideal.main_arg1)
          ∧ r.2.mem ((c.tc : Thread Cert.Ad2Ideal.nD Cert.Ad2Ideal.τ).loc Cert.Ad2Ideal.main_arg2) = m ((c.tc : Thread Cert.Ad2Ideal.nD Cert.Ad2Ideal.τ).loc Cert.Ad2Ideal.main_arg2)
          ∧ r.2.mem ((c.tc : Thread Cert.Ad2Ideal.nD Cert.Ad2Ideal.τ).loc Cert.Ad2Ideal.main_arg3) = m ((c.tc : Thread Cert.Ad2Ideal.nD Cert.Ad2Ideal.τ).loc Cert.Ad2Ideal.main_arg3))
      ∧ θ_run (Cert.Ad2ReferenceIdeal.defs (F := Ideal)) (onTc (τ := Cert.Ad2ReferenceIdeal.τ) (Cert.Ad2ReferenceIdeal.main (F := Ideal))) ⟨m', fun _ => 0, g'⟩ (fun r => ∀ c : Dev Cert.Ad2ReferenceIdeal.nD,
          r.2.mem ((c.tc : Thread Cert.Ad2ReferenceIdeal.nD Cert.Ad2ReferenceIdeal.τ).loc Cert.Ad2ReferenceIdeal.main_v23) = v0 c
          ∧ r.2.mem ((c.tc : Thread Cert.Ad2ReferenceIdeal.nD Cert.Ad2ReferenceIdeal.τ).loc Cert.Ad2ReferenceIdeal.main_v4) = v1 c
          ∧ r.2.mem ((c.tc : Thread Cert.Ad2ReferenceIdeal.nD Cert.Ad2ReferenceIdeal.τ).loc Cert.Ad2ReferenceIdeal.main_v10) = v2 c
          ∧ r.2.mem ((c.tc : Thread Cert.Ad2ReferenceIdeal.nD Cert.Ad2ReferenceIdeal.τ).loc Cert.Ad2ReferenceIdeal.main_arg0) = m' ((c.tc : Thread Cert.Ad2ReferenceIdeal.nD Cert.Ad2ReferenceIdeal.τ).loc Cert.Ad2ReferenceIdeal.main_arg0)
          ∧ r.2.mem ((c.tc : Thread Cert.Ad2ReferenceIdeal.nD Cert.Ad2ReferenceIdeal.τ).loc Cert.Ad2ReferenceIdeal.main_arg1) = m' ((c.tc : Thread Cert.Ad2ReferenceIdeal.nD Cert.Ad2ReferenceIdeal.τ).loc Cert.Ad2ReferenceIdeal.main_arg1)
          ∧ r.2.mem ((c.tc : Thread Cert.Ad2ReferenceIdeal.nD Cert.Ad2ReferenceIdeal.τ).loc Cert.Ad2ReferenceIdeal.main_arg2) = m' ((c.tc : Thread Cert.Ad2ReferenceIdeal.nD Cert.Ad2ReferenceIdeal.τ).loc Cert.Ad2ReferenceIdeal.main_arg2)
          ∧ r.2.mem ((c.tc : Thread Cert.Ad2ReferenceIdeal.nD Cert.Ad2ReferenceIdeal.τ).loc Cert.Ad2ReferenceIdeal.main_arg3) = m' ((c.tc : Thread Cert.Ad2ReferenceIdeal.nD Cert.Ad2ReferenceIdeal.τ).loc Cert.Ad2ReferenceIdeal.main_arg3))

def preserves_Ad3_Ad3Ideal : Prop :=
  True

def algebraic_Ad3Ideal_Ad3ReferenceIdeal [hAd3Ideal : Cert.Ad3Ideal.Facts] [hAd3ReferenceIdeal : Cert.Ad3ReferenceIdeal.Facts] : Prop :=
  ∀ (m : (ℓ : Loc Cert.Ad3Ideal.nD Cert.Ad3Ideal.τ Cert.Ad3Ideal.sig) → Buf (Elt Ideal) ℓ) (g : Dev Cert.Ad3Ideal.nD → PrngReg)
    (m' : (ℓ : Loc Cert.Ad3ReferenceIdeal.nD Cert.Ad3ReferenceIdeal.τ Cert.Ad3ReferenceIdeal.sig) → Buf (Elt Ideal) ℓ) (g' : Dev Cert.Ad3ReferenceIdeal.nD → PrngReg), Pre_Ad3Ideal m →
    (∀ c : Dev Cert.Ad3Ideal.nD,
      m' ((c.tc : Thread Cert.Ad3ReferenceIdeal.nD Cert.Ad3ReferenceIdeal.τ).loc Cert.Ad3ReferenceIdeal.main_arg0) = m ((c.tc : Thread Cert.Ad3Ideal.nD Cert.Ad3Ideal.τ).loc Cert.Ad3Ideal.main_arg0)
      ∧ m' ((c.tc : Thread Cert.Ad3ReferenceIdeal.nD Cert.Ad3ReferenceIdeal.τ).loc Cert.Ad3ReferenceIdeal.main_arg1) = m ((c.tc : Thread Cert.Ad3Ideal.nD Cert.Ad3Ideal.τ).loc Cert.Ad3Ideal.main_arg1)
      ∧ m' ((c.tc : Thread Cert.Ad3ReferenceIdeal.nD Cert.Ad3ReferenceIdeal.τ).loc Cert.Ad3ReferenceIdeal.main_arg2) = m ((c.tc : Thread Cert.Ad3Ideal.nD Cert.Ad3Ideal.τ).loc Cert.Ad3Ideal.main_arg2)
      ∧ m' ((c.tc : Thread Cert.Ad3ReferenceIdeal.nD Cert.Ad3ReferenceIdeal.τ).loc Cert.Ad3ReferenceIdeal.main_arg3) = m ((c.tc : Thread Cert.Ad3Ideal.nD Cert.Ad3Ideal.τ).loc Cert.Ad3Ideal.main_arg3)
      ∧ m' ((c.tc : Thread Cert.Ad3ReferenceIdeal.nD Cert.Ad3ReferenceIdeal.τ).loc Cert.Ad3ReferenceIdeal.main_arg4) = m ((c.tc : Thread Cert.Ad3Ideal.nD Cert.Ad3Ideal.τ).loc Cert.Ad3Ideal.main_arg4)
      ∧ m' ((c.tc : Thread Cert.Ad3ReferenceIdeal.nD Cert.Ad3ReferenceIdeal.τ).loc Cert.Ad3ReferenceIdeal.main_arg5) = m ((c.tc : Thread Cert.Ad3Ideal.nD Cert.Ad3Ideal.τ).loc Cert.Ad3Ideal.main_arg5)
      ∧ m' ((c.tc : Thread Cert.Ad3ReferenceIdeal.nD Cert.Ad3ReferenceIdeal.τ).loc Cert.Ad3ReferenceIdeal.main_arg6) = m ((c.tc : Thread Cert.Ad3Ideal.nD Cert.Ad3Ideal.τ).loc Cert.Ad3Ideal.main_arg6)
      ∧ m' ((c.tc : Thread Cert.Ad3ReferenceIdeal.nD Cert.Ad3ReferenceIdeal.τ).loc Cert.Ad3ReferenceIdeal.main_arg7) = m ((c.tc : Thread Cert.Ad3Ideal.nD Cert.Ad3Ideal.τ).loc Cert.Ad3Ideal.main_arg7)) →
    ∃ (v0 : (c : Dev Cert.Ad3Ideal.nD) → Buf (Elt Ideal) ((c.tc : Thread Cert.Ad3Ideal.nD Cert.Ad3Ideal.τ).loc Cert.Ad3Ideal.main_v0_0)) (v1 : (c : Dev Cert.Ad3Ideal.nD) → Buf (Elt Ideal) ((c.tc : Thread Cert.Ad3Ideal.nD Cert.Ad3Ideal.τ).loc Cert.Ad3Ideal.main_v0_1)) (v2 : (c : Dev Cert.Ad3Ideal.nD) → Buf (Elt Ideal) ((c.tc : Thread Cert.Ad3Ideal.nD Cert.Ad3Ideal.τ).loc Cert.Ad3Ideal.main_v0_2)) (v3 : (c : Dev Cert.Ad3Ideal.nD) → Buf (Elt Ideal) ((c.tc : Thread Cert.Ad3Ideal.nD Cert.Ad3Ideal.τ).loc Cert.Ad3Ideal.main_v0_3)) (v4 : (c : Dev Cert.Ad3Ideal.nD) → Buf (Elt Ideal) ((c.tc : Thread Cert.Ad3Ideal.nD Cert.Ad3Ideal.τ).loc Cert.Ad3Ideal.main_v0_4)) (v5 : (c : Dev Cert.Ad3Ideal.nD) → Buf (Elt Ideal) ((c.tc : Thread Cert.Ad3Ideal.nD Cert.Ad3Ideal.τ).loc Cert.Ad3Ideal.main_v0_5)),
      θ_run (Cert.Ad3Ideal.defs (F := Ideal)) (onTc (τ := Cert.Ad3Ideal.τ) (Cert.Ad3Ideal.main (F := Ideal))) ⟨m, fun _ => 0, g⟩ (fun r => ∀ c : Dev Cert.Ad3Ideal.nD,
          r.2.mem ((c.tc : Thread Cert.Ad3Ideal.nD Cert.Ad3Ideal.τ).loc Cert.Ad3Ideal.main_v0_0) = v0 c
          ∧ r.2.mem ((c.tc : Thread Cert.Ad3Ideal.nD Cert.Ad3Ideal.τ).loc Cert.Ad3Ideal.main_v0_1) = v1 c
          ∧ r.2.mem ((c.tc : Thread Cert.Ad3Ideal.nD Cert.Ad3Ideal.τ).loc Cert.Ad3Ideal.main_v0_2) = v2 c
          ∧ r.2.mem ((c.tc : Thread Cert.Ad3Ideal.nD Cert.Ad3Ideal.τ).loc Cert.Ad3Ideal.main_v0_3) = v3 c
          ∧ r.2.mem ((c.tc : Thread Cert.Ad3Ideal.nD Cert.Ad3Ideal.τ).loc Cert.Ad3Ideal.main_v0_4) = v4 c
          ∧ r.2.mem ((c.tc : Thread Cert.Ad3Ideal.nD Cert.Ad3Ideal.τ).loc Cert.Ad3Ideal.main_v0_5) = v5 c
          ∧ r.2.mem ((c.tc : Thread Cert.Ad3Ideal.nD Cert.Ad3Ideal.τ).loc Cert.Ad3Ideal.main_arg0) = m ((c.tc : Thread Cert.Ad3Ideal.nD Cert.Ad3Ideal.τ).loc Cert.Ad3Ideal.main_arg0)
          ∧ r.2.mem ((c.tc : Thread Cert.Ad3Ideal.nD Cert.Ad3Ideal.τ).loc Cert.Ad3Ideal.main_arg1) = m ((c.tc : Thread Cert.Ad3Ideal.nD Cert.Ad3Ideal.τ).loc Cert.Ad3Ideal.main_arg1)
          ∧ r.2.mem ((c.tc : Thread Cert.Ad3Ideal.nD Cert.Ad3Ideal.τ).loc Cert.Ad3Ideal.main_arg2) = m ((c.tc : Thread Cert.Ad3Ideal.nD Cert.Ad3Ideal.τ).loc Cert.Ad3Ideal.main_arg2)
          ∧ r.2.mem ((c.tc : Thread Cert.Ad3Ideal.nD Cert.Ad3Ideal.τ).loc Cert.Ad3Ideal.main_arg3) = m ((c.tc : Thread Cert.Ad3Ideal.nD Cert.Ad3Ideal.τ).loc Cert.Ad3Ideal.main_arg3)
          ∧ r.2.mem ((c.tc : Thread Cert.Ad3Ideal.nD Cert.Ad3Ideal.τ).loc Cert.Ad3Ideal.main_arg4) = m ((c.tc : Thread Cert.Ad3Ideal.nD Cert.Ad3Ideal.τ).loc Cert.Ad3Ideal.main_arg4)
          ∧ r.2.mem ((c.tc : Thread Cert.Ad3Ideal.nD Cert.Ad3Ideal.τ).loc Cert.Ad3Ideal.main_arg5) = m ((c.tc : Thread Cert.Ad3Ideal.nD Cert.Ad3Ideal.τ).loc Cert.Ad3Ideal.main_arg5)
          ∧ r.2.mem ((c.tc : Thread Cert.Ad3Ideal.nD Cert.Ad3Ideal.τ).loc Cert.Ad3Ideal.main_arg6) = m ((c.tc : Thread Cert.Ad3Ideal.nD Cert.Ad3Ideal.τ).loc Cert.Ad3Ideal.main_arg6)
          ∧ r.2.mem ((c.tc : Thread Cert.Ad3Ideal.nD Cert.Ad3Ideal.τ).loc Cert.Ad3Ideal.main_arg7) = m ((c.tc : Thread Cert.Ad3Ideal.nD Cert.Ad3Ideal.τ).loc Cert.Ad3Ideal.main_arg7))
      ∧ θ_run (Cert.Ad3ReferenceIdeal.defs (F := Ideal)) (onTc (τ := Cert.Ad3ReferenceIdeal.τ) (Cert.Ad3ReferenceIdeal.main (F := Ideal))) ⟨m', fun _ => 0, g'⟩ (fun r => ∀ c : Dev Cert.Ad3ReferenceIdeal.nD,
          r.2.mem ((c.tc : Thread Cert.Ad3ReferenceIdeal.nD Cert.Ad3ReferenceIdeal.τ).loc Cert.Ad3ReferenceIdeal.main_v23) = v0 c
          ∧ r.2.mem ((c.tc : Thread Cert.Ad3ReferenceIdeal.nD Cert.Ad3ReferenceIdeal.τ).loc Cert.Ad3ReferenceIdeal.main_v4) = v1 c
          ∧ r.2.mem ((c.tc : Thread Cert.Ad3ReferenceIdeal.nD Cert.Ad3ReferenceIdeal.τ).loc Cert.Ad3ReferenceIdeal.main_v10) = v2 c
          ∧ r.2.mem ((c.tc : Thread Cert.Ad3ReferenceIdeal.nD Cert.Ad3ReferenceIdeal.τ).loc Cert.Ad3ReferenceIdeal.main_v47) = v3 c
          ∧ r.2.mem ((c.tc : Thread Cert.Ad3ReferenceIdeal.nD Cert.Ad3ReferenceIdeal.τ).loc Cert.Ad3ReferenceIdeal.main_v28) = v4 c
          ∧ r.2.mem ((c.tc : Thread Cert.Ad3ReferenceIdeal.nD Cert.Ad3ReferenceIdeal.τ).loc Cert.Ad3ReferenceIdeal.main_v34) = v5 c
          ∧ r.2.mem ((c.tc : Thread Cert.Ad3ReferenceIdeal.nD Cert.Ad3ReferenceIdeal.τ).loc Cert.Ad3ReferenceIdeal.main_arg0) = m' ((c.tc : Thread Cert.Ad3ReferenceIdeal.nD Cert.Ad3ReferenceIdeal.τ).loc Cert.Ad3ReferenceIdeal.main_arg0)
          ∧ r.2.mem ((c.tc : Thread Cert.Ad3ReferenceIdeal.nD Cert.Ad3ReferenceIdeal.τ).loc Cert.Ad3ReferenceIdeal.main_arg1) = m' ((c.tc : Thread Cert.Ad3ReferenceIdeal.nD Cert.Ad3ReferenceIdeal.τ).loc Cert.Ad3ReferenceIdeal.main_arg1)
          ∧ r.2.mem ((c.tc : Thread Cert.Ad3ReferenceIdeal.nD Cert.Ad3ReferenceIdeal.τ).loc Cert.Ad3ReferenceIdeal.main_arg2) = m' ((c.tc : Thread Cert.Ad3ReferenceIdeal.nD Cert.Ad3ReferenceIdeal.τ).loc Cert.Ad3ReferenceIdeal.main_arg2)
          ∧ r.2.mem ((c.tc : Thread Cert.Ad3ReferenceIdeal.nD Cert.Ad3ReferenceIdeal.τ).loc Cert.Ad3ReferenceIdeal.main_arg3) = m' ((c.tc : Thread Cert.Ad3ReferenceIdeal.nD Cert.Ad3ReferenceIdeal.τ).loc Cert.Ad3ReferenceIdeal.main_arg3)
          ∧ r.2.mem ((c.tc : Thread Cert.Ad3ReferenceIdeal.nD Cert.Ad3ReferenceIdeal.τ).loc Cert.Ad3ReferenceIdeal.main_arg4) = m' ((c.tc : Thread Cert.Ad3ReferenceIdeal.nD Cert.Ad3ReferenceIdeal.τ).loc Cert.Ad3ReferenceIdeal.main_arg4)
          ∧ r.2.mem ((c.tc : Thread Cert.Ad3ReferenceIdeal.nD Cert.Ad3ReferenceIdeal.τ).loc Cert.Ad3ReferenceIdeal.main_arg5) = m' ((c.tc : Thread Cert.Ad3ReferenceIdeal.nD Cert.Ad3ReferenceIdeal.τ).loc Cert.Ad3ReferenceIdeal.main_arg5)
          ∧ r.2.mem ((c.tc : Thread Cert.Ad3ReferenceIdeal.nD Cert.Ad3ReferenceIdeal.τ).loc Cert.Ad3ReferenceIdeal.main_arg6) = m' ((c.tc : Thread Cert.Ad3ReferenceIdeal.nD Cert.Ad3ReferenceIdeal.τ).loc Cert.Ad3ReferenceIdeal.main_arg6)
          ∧ r.2.mem ((c.tc : Thread Cert.Ad3ReferenceIdeal.nD Cert.Ad3ReferenceIdeal.τ).loc Cert.Ad3ReferenceIdeal.main_arg7) = m' ((c.tc : Thread Cert.Ad3ReferenceIdeal.nD Cert.Ad3ReferenceIdeal.τ).loc Cert.Ad3ReferenceIdeal.main_arg7))

def preserves_Ad4_Ad4Ideal : Prop :=
  True

def algebraic_Ad4Ideal_Ad4ReferenceIdeal [hAd4Ideal : Cert.Ad4Ideal.Facts] [hAd4ReferenceIdeal : Cert.Ad4ReferenceIdeal.Facts] : Prop :=
  ∀ (m : (ℓ : Loc Cert.Ad4Ideal.nD Cert.Ad4Ideal.τ Cert.Ad4Ideal.sig) → Buf (Elt Ideal) ℓ) (g : Dev Cert.Ad4Ideal.nD → PrngReg)
    (m' : (ℓ : Loc Cert.Ad4ReferenceIdeal.nD Cert.Ad4ReferenceIdeal.τ Cert.Ad4ReferenceIdeal.sig) → Buf (Elt Ideal) ℓ) (g' : Dev Cert.Ad4ReferenceIdeal.nD → PrngReg), Pre_Ad4Ideal m →
    (∀ c : Dev Cert.Ad4Ideal.nD,
      m' ((c.tc : Thread Cert.Ad4ReferenceIdeal.nD Cert.Ad4ReferenceIdeal.τ).loc Cert.Ad4ReferenceIdeal.main_arg0) = m ((c.tc : Thread Cert.Ad4Ideal.nD Cert.Ad4Ideal.τ).loc Cert.Ad4Ideal.main_arg0)
      ∧ m' ((c.tc : Thread Cert.Ad4ReferenceIdeal.nD Cert.Ad4ReferenceIdeal.τ).loc Cert.Ad4ReferenceIdeal.main_arg1) = m ((c.tc : Thread Cert.Ad4Ideal.nD Cert.Ad4Ideal.τ).loc Cert.Ad4Ideal.main_arg1)
      ∧ m' ((c.tc : Thread Cert.Ad4ReferenceIdeal.nD Cert.Ad4ReferenceIdeal.τ).loc Cert.Ad4ReferenceIdeal.main_arg2) = m ((c.tc : Thread Cert.Ad4Ideal.nD Cert.Ad4Ideal.τ).loc Cert.Ad4Ideal.main_arg2)
      ∧ m' ((c.tc : Thread Cert.Ad4ReferenceIdeal.nD Cert.Ad4ReferenceIdeal.τ).loc Cert.Ad4ReferenceIdeal.main_arg3) = m ((c.tc : Thread Cert.Ad4Ideal.nD Cert.Ad4Ideal.τ).loc Cert.Ad4Ideal.main_arg3)) →
    ∃ (v0 : (c : Dev Cert.Ad4Ideal.nD) → Buf (Elt Ideal) ((c.tc : Thread Cert.Ad4Ideal.nD Cert.Ad4Ideal.τ).loc Cert.Ad4Ideal.main_v0_0)) (v1 : (c : Dev Cert.Ad4Ideal.nD) → Buf (Elt Ideal) ((c.tc : Thread Cert.Ad4Ideal.nD Cert.Ad4Ideal.τ).loc Cert.Ad4Ideal.main_v0_1)) (v2 : (c : Dev Cert.Ad4Ideal.nD) → Buf (Elt Ideal) ((c.tc : Thread Cert.Ad4Ideal.nD Cert.Ad4Ideal.τ).loc Cert.Ad4Ideal.main_v0_2)),
      θ_run (Cert.Ad4Ideal.defs (F := Ideal)) (onTc (τ := Cert.Ad4Ideal.τ) (Cert.Ad4Ideal.main (F := Ideal))) ⟨m, fun _ => 0, g⟩ (fun r => ∀ c : Dev Cert.Ad4Ideal.nD,
          r.2.mem ((c.tc : Thread Cert.Ad4Ideal.nD Cert.Ad4Ideal.τ).loc Cert.Ad4Ideal.main_v0_0) = v0 c
          ∧ r.2.mem ((c.tc : Thread Cert.Ad4Ideal.nD Cert.Ad4Ideal.τ).loc Cert.Ad4Ideal.main_v0_1) = v1 c
          ∧ r.2.mem ((c.tc : Thread Cert.Ad4Ideal.nD Cert.Ad4Ideal.τ).loc Cert.Ad4Ideal.main_v0_2) = v2 c
          ∧ r.2.mem ((c.tc : Thread Cert.Ad4Ideal.nD Cert.Ad4Ideal.τ).loc Cert.Ad4Ideal.main_arg0) = m ((c.tc : Thread Cert.Ad4Ideal.nD Cert.Ad4Ideal.τ).loc Cert.Ad4Ideal.main_arg0)
          ∧ r.2.mem ((c.tc : Thread Cert.Ad4Ideal.nD Cert.Ad4Ideal.τ).loc Cert.Ad4Ideal.main_arg1) = m ((c.tc : Thread Cert.Ad4Ideal.nD Cert.Ad4Ideal.τ).loc Cert.Ad4Ideal.main_arg1)
          ∧ r.2.mem ((c.tc : Thread Cert.Ad4Ideal.nD Cert.Ad4Ideal.τ).loc Cert.Ad4Ideal.main_arg2) = m ((c.tc : Thread Cert.Ad4Ideal.nD Cert.Ad4Ideal.τ).loc Cert.Ad4Ideal.main_arg2)
          ∧ r.2.mem ((c.tc : Thread Cert.Ad4Ideal.nD Cert.Ad4Ideal.τ).loc Cert.Ad4Ideal.main_arg3) = m ((c.tc : Thread Cert.Ad4Ideal.nD Cert.Ad4Ideal.τ).loc Cert.Ad4Ideal.main_arg3))
      ∧ θ_run (Cert.Ad4ReferenceIdeal.defs (F := Ideal)) (onTc (τ := Cert.Ad4ReferenceIdeal.τ) (Cert.Ad4ReferenceIdeal.main (F := Ideal))) ⟨m', fun _ => 0, g'⟩ (fun r => ∀ c : Dev Cert.Ad4ReferenceIdeal.nD,
          r.2.mem ((c.tc : Thread Cert.Ad4ReferenceIdeal.nD Cert.Ad4ReferenceIdeal.τ).loc Cert.Ad4ReferenceIdeal.main_v23) = v0 c
          ∧ r.2.mem ((c.tc : Thread Cert.Ad4ReferenceIdeal.nD Cert.Ad4ReferenceIdeal.τ).loc Cert.Ad4ReferenceIdeal.main_v4) = v1 c
          ∧ r.2.mem ((c.tc : Thread Cert.Ad4ReferenceIdeal.nD Cert.Ad4ReferenceIdeal.τ).loc Cert.Ad4ReferenceIdeal.main_v10) = v2 c
          ∧ r.2.mem ((c.tc : Thread Cert.Ad4ReferenceIdeal.nD Cert.Ad4ReferenceIdeal.τ).loc Cert.Ad4ReferenceIdeal.main_arg0) = m' ((c.tc : Thread Cert.Ad4ReferenceIdeal.nD Cert.Ad4ReferenceIdeal.τ).loc Cert.Ad4ReferenceIdeal.main_arg0)
          ∧ r.2.mem ((c.tc : Thread Cert.Ad4ReferenceIdeal.nD Cert.Ad4ReferenceIdeal.τ).loc Cert.Ad4ReferenceIdeal.main_arg1) = m' ((c.tc : Thread Cert.Ad4ReferenceIdeal.nD Cert.Ad4ReferenceIdeal.τ).loc Cert.Ad4ReferenceIdeal.main_arg1)
          ∧ r.2.mem ((c.tc : Thread Cert.Ad4ReferenceIdeal.nD Cert.Ad4ReferenceIdeal.τ).loc Cert.Ad4ReferenceIdeal.main_arg2) = m' ((c.tc : Thread Cert.Ad4ReferenceIdeal.nD Cert.Ad4ReferenceIdeal.τ).loc Cert.Ad4ReferenceIdeal.main_arg2)
          ∧ r.2.mem ((c.tc : Thread Cert.Ad4ReferenceIdeal.nD Cert.Ad4ReferenceIdeal.τ).loc Cert.Ad4ReferenceIdeal.main_arg3) = m' ((c.tc : Thread Cert.Ad4ReferenceIdeal.nD Cert.Ad4ReferenceIdeal.τ).loc Cert.Ad4ReferenceIdeal.main_arg3))

def preserves_Ad5_Ad5Ideal : Prop :=
  True

def algebraic_Ad5Ideal_Ad5ReferenceIdeal [hAd5Ideal : Cert.Ad5Ideal.Facts] [hAd5ReferenceIdeal : Cert.Ad5ReferenceIdeal.Facts] : Prop :=
  ∀ (m : (ℓ : Loc Cert.Ad5Ideal.nD Cert.Ad5Ideal.τ Cert.Ad5Ideal.sig) → Buf (Elt Ideal) ℓ) (g : Dev Cert.Ad5Ideal.nD → PrngReg)
    (m' : (ℓ : Loc Cert.Ad5ReferenceIdeal.nD Cert.Ad5ReferenceIdeal.τ Cert.Ad5ReferenceIdeal.sig) → Buf (Elt Ideal) ℓ) (g' : Dev Cert.Ad5ReferenceIdeal.nD → PrngReg), Pre_Ad5Ideal m →
    (∀ c : Dev Cert.Ad5Ideal.nD,
      m' ((c.tc : Thread Cert.Ad5ReferenceIdeal.nD Cert.Ad5ReferenceIdeal.τ).loc Cert.Ad5ReferenceIdeal.main_arg0) = m ((c.tc : Thread Cert.Ad5Ideal.nD Cert.Ad5Ideal.τ).loc Cert.Ad5Ideal.main_arg0)
      ∧ m' ((c.tc : Thread Cert.Ad5ReferenceIdeal.nD Cert.Ad5ReferenceIdeal.τ).loc Cert.Ad5ReferenceIdeal.main_arg1) = m ((c.tc : Thread Cert.Ad5Ideal.nD Cert.Ad5Ideal.τ).loc Cert.Ad5Ideal.main_arg1)
      ∧ m' ((c.tc : Thread Cert.Ad5ReferenceIdeal.nD Cert.Ad5ReferenceIdeal.τ).loc Cert.Ad5ReferenceIdeal.main_arg2) = m ((c.tc : Thread Cert.Ad5Ideal.nD Cert.Ad5Ideal.τ).loc Cert.Ad5Ideal.main_arg2)
      ∧ m' ((c.tc : Thread Cert.Ad5ReferenceIdeal.nD Cert.Ad5ReferenceIdeal.τ).loc Cert.Ad5ReferenceIdeal.main_arg3) = m ((c.tc : Thread Cert.Ad5Ideal.nD Cert.Ad5Ideal.τ).loc Cert.Ad5Ideal.main_arg3)) →
    ∃ (v0 : (c : Dev Cert.Ad5Ideal.nD) → Buf (Elt Ideal) ((c.tc : Thread Cert.Ad5Ideal.nD Cert.Ad5Ideal.τ).loc Cert.Ad5Ideal.main_v0_0)) (v1 : (c : Dev Cert.Ad5Ideal.nD) → Buf (Elt Ideal) ((c.tc : Thread Cert.Ad5Ideal.nD Cert.Ad5Ideal.τ).loc Cert.Ad5Ideal.main_v0_1)) (v2 : (c : Dev Cert.Ad5Ideal.nD) → Buf (Elt Ideal) ((c.tc : Thread Cert.Ad5Ideal.nD Cert.Ad5Ideal.τ).loc Cert.Ad5Ideal.main_v0_2)),
      θ_run (Cert.Ad5Ideal.defs (F := Ideal)) (onTc (τ := Cert.Ad5Ideal.τ) (Cert.Ad5Ideal.main (F := Ideal))) ⟨m, fun _ => 0, g⟩ (fun r => ∀ c : Dev Cert.Ad5Ideal.nD,
          r.2.mem ((c.tc : Thread Cert.Ad5Ideal.nD Cert.Ad5Ideal.τ).loc Cert.Ad5Ideal.main_v0_0) = v0 c
          ∧ r.2.mem ((c.tc : Thread Cert.Ad5Ideal.nD Cert.Ad5Ideal.τ).loc Cert.Ad5Ideal.main_v0_1) = v1 c
          ∧ r.2.mem ((c.tc : Thread Cert.Ad5Ideal.nD Cert.Ad5Ideal.τ).loc Cert.Ad5Ideal.main_v0_2) = v2 c
          ∧ r.2.mem ((c.tc : Thread Cert.Ad5Ideal.nD Cert.Ad5Ideal.τ).loc Cert.Ad5Ideal.main_arg0) = m ((c.tc : Thread Cert.Ad5Ideal.nD Cert.Ad5Ideal.τ).loc Cert.Ad5Ideal.main_arg0)
          ∧ r.2.mem ((c.tc : Thread Cert.Ad5Ideal.nD Cert.Ad5Ideal.τ).loc Cert.Ad5Ideal.main_arg1) = m ((c.tc : Thread Cert.Ad5Ideal.nD Cert.Ad5Ideal.τ).loc Cert.Ad5Ideal.main_arg1)
          ∧ r.2.mem ((c.tc : Thread Cert.Ad5Ideal.nD Cert.Ad5Ideal.τ).loc Cert.Ad5Ideal.main_arg2) = m ((c.tc : Thread Cert.Ad5Ideal.nD Cert.Ad5Ideal.τ).loc Cert.Ad5Ideal.main_arg2)
          ∧ r.2.mem ((c.tc : Thread Cert.Ad5Ideal.nD Cert.Ad5Ideal.τ).loc Cert.Ad5Ideal.main_arg3) = m ((c.tc : Thread Cert.Ad5Ideal.nD Cert.Ad5Ideal.τ).loc Cert.Ad5Ideal.main_arg3))
      ∧ θ_run (Cert.Ad5ReferenceIdeal.defs (F := Ideal)) (onTc (τ := Cert.Ad5ReferenceIdeal.τ) (Cert.Ad5ReferenceIdeal.main (F := Ideal))) ⟨m', fun _ => 0, g'⟩ (fun r => ∀ c : Dev Cert.Ad5ReferenceIdeal.nD,
          r.2.mem ((c.tc : Thread Cert.Ad5ReferenceIdeal.nD Cert.Ad5ReferenceIdeal.τ).loc Cert.Ad5ReferenceIdeal.main_v23) = v0 c
          ∧ r.2.mem ((c.tc : Thread Cert.Ad5ReferenceIdeal.nD Cert.Ad5ReferenceIdeal.τ).loc Cert.Ad5ReferenceIdeal.main_v4) = v1 c
          ∧ r.2.mem ((c.tc : Thread Cert.Ad5ReferenceIdeal.nD Cert.Ad5ReferenceIdeal.τ).loc Cert.Ad5ReferenceIdeal.main_v10) = v2 c
          ∧ r.2.mem ((c.tc : Thread Cert.Ad5ReferenceIdeal.nD Cert.Ad5ReferenceIdeal.τ).loc Cert.Ad5ReferenceIdeal.main_arg0) = m' ((c.tc : Thread Cert.Ad5ReferenceIdeal.nD Cert.Ad5ReferenceIdeal.τ).loc Cert.Ad5ReferenceIdeal.main_arg0)
          ∧ r.2.mem ((c.tc : Thread Cert.Ad5ReferenceIdeal.nD Cert.Ad5ReferenceIdeal.τ).loc Cert.Ad5ReferenceIdeal.main_arg1) = m' ((c.tc : Thread Cert.Ad5ReferenceIdeal.nD Cert.Ad5ReferenceIdeal.τ).loc Cert.Ad5ReferenceIdeal.main_arg1)
          ∧ r.2.mem ((c.tc : Thread Cert.Ad5ReferenceIdeal.nD Cert.Ad5ReferenceIdeal.τ).loc Cert.Ad5ReferenceIdeal.main_arg2) = m' ((c.tc : Thread Cert.Ad5ReferenceIdeal.nD Cert.Ad5ReferenceIdeal.τ).loc Cert.Ad5ReferenceIdeal.main_arg2)
          ∧ r.2.mem ((c.tc : Thread Cert.Ad5ReferenceIdeal.nD Cert.Ad5ReferenceIdeal.τ).loc Cert.Ad5ReferenceIdeal.main_arg3) = m' ((c.tc : Thread Cert.Ad5ReferenceIdeal.nD Cert.Ad5ReferenceIdeal.τ).loc Cert.Ad5ReferenceIdeal.main_arg3))

def preserves_Ad6_Ad6Ideal : Prop :=
  True

def algebraic_Ad6Ideal_Ad6ReferenceIdeal [hAd6Ideal : Cert.Ad6Ideal.Facts] [hAd6ReferenceIdeal : Cert.Ad6ReferenceIdeal.Facts] : Prop :=
  ∀ (m : (ℓ : Loc Cert.Ad6Ideal.nD Cert.Ad6Ideal.τ Cert.Ad6Ideal.sig) → Buf (Elt Ideal) ℓ) (g : Dev Cert.Ad6Ideal.nD → PrngReg)
    (m' : (ℓ : Loc Cert.Ad6ReferenceIdeal.nD Cert.Ad6ReferenceIdeal.τ Cert.Ad6ReferenceIdeal.sig) → Buf (Elt Ideal) ℓ) (g' : Dev Cert.Ad6ReferenceIdeal.nD → PrngReg), Pre_Ad6Ideal m →
    (∀ c : Dev Cert.Ad6Ideal.nD,
      m' ((c.tc : Thread Cert.Ad6ReferenceIdeal.nD Cert.Ad6ReferenceIdeal.τ).loc Cert.Ad6ReferenceIdeal.main_arg0) = m ((c.tc : Thread Cert.Ad6Ideal.nD Cert.Ad6Ideal.τ).loc Cert.Ad6Ideal.main_arg0)
      ∧ m' ((c.tc : Thread Cert.Ad6ReferenceIdeal.nD Cert.Ad6ReferenceIdeal.τ).loc Cert.Ad6ReferenceIdeal.main_arg1) = m ((c.tc : Thread Cert.Ad6Ideal.nD Cert.Ad6Ideal.τ).loc Cert.Ad6Ideal.main_arg1)
      ∧ m' ((c.tc : Thread Cert.Ad6ReferenceIdeal.nD Cert.Ad6ReferenceIdeal.τ).loc Cert.Ad6ReferenceIdeal.main_arg2) = m ((c.tc : Thread Cert.Ad6Ideal.nD Cert.Ad6Ideal.τ).loc Cert.Ad6Ideal.main_arg2)
      ∧ m' ((c.tc : Thread Cert.Ad6ReferenceIdeal.nD Cert.Ad6ReferenceIdeal.τ).loc Cert.Ad6ReferenceIdeal.main_arg3) = m ((c.tc : Thread Cert.Ad6Ideal.nD Cert.Ad6Ideal.τ).loc Cert.Ad6Ideal.main_arg3)) →
    ∃ (v0 : (c : Dev Cert.Ad6Ideal.nD) → Buf (Elt Ideal) ((c.tc : Thread Cert.Ad6Ideal.nD Cert.Ad6Ideal.τ).loc Cert.Ad6Ideal.main_v0_0)) (v1 : (c : Dev Cert.Ad6Ideal.nD) → Buf (Elt Ideal) ((c.tc : Thread Cert.Ad6Ideal.nD Cert.Ad6Ideal.τ).loc Cert.Ad6Ideal.main_v0_1)) (v2 : (c : Dev Cert.Ad6Ideal.nD) → Buf (Elt Ideal) ((c.tc : Thread Cert.Ad6Ideal.nD Cert.Ad6Ideal.τ).loc Cert.Ad6Ideal.main_v0_2)),
      θ_run (Cert.Ad6Ideal.defs (F := Ideal)) (onTc (τ := Cert.Ad6Ideal.τ) (Cert.Ad6Ideal.main (F := Ideal))) ⟨m, fun _ => 0, g⟩ (fun r => ∀ c : Dev Cert.Ad6Ideal.nD,
          r.2.mem ((c.tc : Thread Cert.Ad6Ideal.nD Cert.Ad6Ideal.τ).loc Cert.Ad6Ideal.main_v0_0) = v0 c
          ∧ r.2.mem ((c.tc : Thread Cert.Ad6Ideal.nD Cert.Ad6Ideal.τ).loc Cert.Ad6Ideal.main_v0_1) = v1 c
          ∧ r.2.mem ((c.tc : Thread Cert.Ad6Ideal.nD Cert.Ad6Ideal.τ).loc Cert.Ad6Ideal.main_v0_2) = v2 c
          ∧ r.2.mem ((c.tc : Thread Cert.Ad6Ideal.nD Cert.Ad6Ideal.τ).loc Cert.Ad6Ideal.main_arg0) = m ((c.tc : Thread Cert.Ad6Ideal.nD Cert.Ad6Ideal.τ).loc Cert.Ad6Ideal.main_arg0)
          ∧ r.2.mem ((c.tc : Thread Cert.Ad6Ideal.nD Cert.Ad6Ideal.τ).loc Cert.Ad6Ideal.main_arg1) = m ((c.tc : Thread Cert.Ad6Ideal.nD Cert.Ad6Ideal.τ).loc Cert.Ad6Ideal.main_arg1)
          ∧ r.2.mem ((c.tc : Thread Cert.Ad6Ideal.nD Cert.Ad6Ideal.τ).loc Cert.Ad6Ideal.main_arg2) = m ((c.tc : Thread Cert.Ad6Ideal.nD Cert.Ad6Ideal.τ).loc Cert.Ad6Ideal.main_arg2)
          ∧ r.2.mem ((c.tc : Thread Cert.Ad6Ideal.nD Cert.Ad6Ideal.τ).loc Cert.Ad6Ideal.main_arg3) = m ((c.tc : Thread Cert.Ad6Ideal.nD Cert.Ad6Ideal.τ).loc Cert.Ad6Ideal.main_arg3))
      ∧ θ_run (Cert.Ad6ReferenceIdeal.defs (F := Ideal)) (onTc (τ := Cert.Ad6ReferenceIdeal.τ) (Cert.Ad6ReferenceIdeal.main (F := Ideal))) ⟨m', fun _ => 0, g'⟩ (fun r => ∀ c : Dev Cert.Ad6ReferenceIdeal.nD,
          r.2.mem ((c.tc : Thread Cert.Ad6ReferenceIdeal.nD Cert.Ad6ReferenceIdeal.τ).loc Cert.Ad6ReferenceIdeal.main_v23) = v0 c
          ∧ r.2.mem ((c.tc : Thread Cert.Ad6ReferenceIdeal.nD Cert.Ad6ReferenceIdeal.τ).loc Cert.Ad6ReferenceIdeal.main_v4) = v1 c
          ∧ r.2.mem ((c.tc : Thread Cert.Ad6ReferenceIdeal.nD Cert.Ad6ReferenceIdeal.τ).loc Cert.Ad6ReferenceIdeal.main_v10) = v2 c
          ∧ r.2.mem ((c.tc : Thread Cert.Ad6ReferenceIdeal.nD Cert.Ad6ReferenceIdeal.τ).loc Cert.Ad6ReferenceIdeal.main_arg0) = m' ((c.tc : Thread Cert.Ad6ReferenceIdeal.nD Cert.Ad6ReferenceIdeal.τ).loc Cert.Ad6ReferenceIdeal.main_arg0)
          ∧ r.2.mem ((c.tc : Thread Cert.Ad6ReferenceIdeal.nD Cert.Ad6ReferenceIdeal.τ).loc Cert.Ad6ReferenceIdeal.main_arg1) = m' ((c.tc : Thread Cert.Ad6ReferenceIdeal.nD Cert.Ad6ReferenceIdeal.τ).loc Cert.Ad6ReferenceIdeal.main_arg1)
          ∧ r.2.mem ((c.tc : Thread Cert.Ad6ReferenceIdeal.nD Cert.Ad6ReferenceIdeal.τ).loc Cert.Ad6ReferenceIdeal.main_arg2) = m' ((c.tc : Thread Cert.Ad6ReferenceIdeal.nD Cert.Ad6ReferenceIdeal.τ).loc Cert.Ad6ReferenceIdeal.main_arg2)
          ∧ r.2.mem ((c.tc : Thread Cert.Ad6ReferenceIdeal.nD Cert.Ad6ReferenceIdeal.τ).loc Cert.Ad6ReferenceIdeal.main_arg3) = m' ((c.tc : Thread Cert.Ad6ReferenceIdeal.nD Cert.Ad6ReferenceIdeal.τ).loc Cert.Ad6ReferenceIdeal.main_arg3))

def preserves_Ad7_Ad7Ideal : Prop :=
  True

def algebraic_Ad7Ideal_Ad7ReferenceIdeal [hAd7Ideal : Cert.Ad7Ideal.Facts] [hAd7ReferenceIdeal : Cert.Ad7ReferenceIdeal.Facts] : Prop :=
  ∀ (m : (ℓ : Loc Cert.Ad7Ideal.nD Cert.Ad7Ideal.τ Cert.Ad7Ideal.sig) → Buf (Elt Ideal) ℓ) (g : Dev Cert.Ad7Ideal.nD → PrngReg)
    (m' : (ℓ : Loc Cert.Ad7ReferenceIdeal.nD Cert.Ad7ReferenceIdeal.τ Cert.Ad7ReferenceIdeal.sig) → Buf (Elt Ideal) ℓ) (g' : Dev Cert.Ad7ReferenceIdeal.nD → PrngReg), Pre_Ad7Ideal m →
    (∀ c : Dev Cert.Ad7Ideal.nD,
      m' ((c.tc : Thread Cert.Ad7ReferenceIdeal.nD Cert.Ad7ReferenceIdeal.τ).loc Cert.Ad7ReferenceIdeal.main_arg0) = m ((c.tc : Thread Cert.Ad7Ideal.nD Cert.Ad7Ideal.τ).loc Cert.Ad7Ideal.main_arg0)
      ∧ m' ((c.tc : Thread Cert.Ad7ReferenceIdeal.nD Cert.Ad7ReferenceIdeal.τ).loc Cert.Ad7ReferenceIdeal.main_arg1) = m ((c.tc : Thread Cert.Ad7Ideal.nD Cert.Ad7Ideal.τ).loc Cert.Ad7Ideal.main_arg1)
      ∧ m' ((c.tc : Thread Cert.Ad7ReferenceIdeal.nD Cert.Ad7ReferenceIdeal.τ).loc Cert.Ad7ReferenceIdeal.main_arg2) = m ((c.tc : Thread Cert.Ad7Ideal.nD Cert.Ad7Ideal.τ).loc Cert.Ad7Ideal.main_arg2)
      ∧ m' ((c.tc : Thread Cert.Ad7ReferenceIdeal.nD Cert.Ad7ReferenceIdeal.τ).loc Cert.Ad7ReferenceIdeal.main_arg3) = m ((c.tc : Thread Cert.Ad7Ideal.nD Cert.Ad7Ideal.τ).loc Cert.Ad7Ideal.main_arg3)) →
    ∃ (v0 : (c : Dev Cert.Ad7Ideal.nD) → Buf (Elt Ideal) ((c.tc : Thread Cert.Ad7Ideal.nD Cert.Ad7Ideal.τ).loc Cert.Ad7Ideal.main_v0_0)) (v1 : (c : Dev Cert.Ad7Ideal.nD) → Buf (Elt Ideal) ((c.tc : Thread Cert.Ad7Ideal.nD Cert.Ad7Ideal.τ).loc Cert.Ad7Ideal.main_v0_1)) (v2 : (c : Dev Cert.Ad7Ideal.nD) → Buf (Elt Ideal) ((c.tc : Thread Cert.Ad7Ideal.nD Cert.Ad7Ideal.τ).loc Cert.Ad7Ideal.main_v0_2)),
      θ_run (Cert.Ad7Ideal.defs (F := Ideal)) (onTc (τ := Cert.Ad7Ideal.τ) (Cert.Ad7Ideal.main (F := Ideal))) ⟨m, fun _ => 0, g⟩ (fun r => ∀ c : Dev Cert.Ad7Ideal.nD,
          r.2.mem ((c.tc : Thread Cert.Ad7Ideal.nD Cert.Ad7Ideal.τ).loc Cert.Ad7Ideal.main_v0_0) = v0 c
          ∧ r.2.mem ((c.tc : Thread Cert.Ad7Ideal.nD Cert.Ad7Ideal.τ).loc Cert.Ad7Ideal.main_v0_1) = v1 c
          ∧ r.2.mem ((c.tc : Thread Cert.Ad7Ideal.nD Cert.Ad7Ideal.τ).loc Cert.Ad7Ideal.main_v0_2) = v2 c
          ∧ r.2.mem ((c.tc : Thread Cert.Ad7Ideal.nD Cert.Ad7Ideal.τ).loc Cert.Ad7Ideal.main_arg0) = m ((c.tc : Thread Cert.Ad7Ideal.nD Cert.Ad7Ideal.τ).loc Cert.Ad7Ideal.main_arg0)
          ∧ r.2.mem ((c.tc : Thread Cert.Ad7Ideal.nD Cert.Ad7Ideal.τ).loc Cert.Ad7Ideal.main_arg1) = m ((c.tc : Thread Cert.Ad7Ideal.nD Cert.Ad7Ideal.τ).loc Cert.Ad7Ideal.main_arg1)
          ∧ r.2.mem ((c.tc : Thread Cert.Ad7Ideal.nD Cert.Ad7Ideal.τ).loc Cert.Ad7Ideal.main_arg2) = m ((c.tc : Thread Cert.Ad7Ideal.nD Cert.Ad7Ideal.τ).loc Cert.Ad7Ideal.main_arg2)
          ∧ r.2.mem ((c.tc : Thread Cert.Ad7Ideal.nD Cert.Ad7Ideal.τ).loc Cert.Ad7Ideal.main_arg3) = m ((c.tc : Thread Cert.Ad7Ideal.nD Cert.Ad7Ideal.τ).loc Cert.Ad7Ideal.main_arg3))
      ∧ θ_run (Cert.Ad7ReferenceIdeal.defs (F := Ideal)) (onTc (τ := Cert.Ad7ReferenceIdeal.τ) (Cert.Ad7ReferenceIdeal.main (F := Ideal))) ⟨m', fun _ => 0, g'⟩ (fun r => ∀ c : Dev Cert.Ad7ReferenceIdeal.nD,
          r.2.mem ((c.tc : Thread Cert.Ad7ReferenceIdeal.nD Cert.Ad7ReferenceIdeal.τ).loc Cert.Ad7ReferenceIdeal.main_v23) = v0 c
          ∧ r.2.mem ((c.tc : Thread Cert.Ad7ReferenceIdeal.nD Cert.Ad7ReferenceIdeal.τ).loc Cert.Ad7ReferenceIdeal.main_v4) = v1 c
          ∧ r.2.mem ((c.tc : Thread Cert.Ad7ReferenceIdeal.nD Cert.Ad7ReferenceIdeal.τ).loc Cert.Ad7ReferenceIdeal.main_v10) = v2 c
          ∧ r.2.mem ((c.tc : Thread Cert.Ad7ReferenceIdeal.nD Cert.Ad7ReferenceIdeal.τ).loc Cert.Ad7ReferenceIdeal.main_arg0) = m' ((c.tc : Thread Cert.Ad7ReferenceIdeal.nD Cert.Ad7ReferenceIdeal.τ).loc Cert.Ad7ReferenceIdeal.main_arg0)
          ∧ r.2.mem ((c.tc : Thread Cert.Ad7ReferenceIdeal.nD Cert.Ad7ReferenceIdeal.τ).loc Cert.Ad7ReferenceIdeal.main_arg1) = m' ((c.tc : Thread Cert.Ad7ReferenceIdeal.nD Cert.Ad7ReferenceIdeal.τ).loc Cert.Ad7ReferenceIdeal.main_arg1)
          ∧ r.2.mem ((c.tc : Thread Cert.Ad7ReferenceIdeal.nD Cert.Ad7ReferenceIdeal.τ).loc Cert.Ad7ReferenceIdeal.main_arg2) = m' ((c.tc : Thread Cert.Ad7ReferenceIdeal.nD Cert.Ad7ReferenceIdeal.τ).loc Cert.Ad7ReferenceIdeal.main_arg2)
          ∧ r.2.mem ((c.tc : Thread Cert.Ad7ReferenceIdeal.nD Cert.Ad7ReferenceIdeal.τ).loc Cert.Ad7ReferenceIdeal.main_arg3) = m' ((c.tc : Thread Cert.Ad7ReferenceIdeal.nD Cert.Ad7ReferenceIdeal.τ).loc Cert.Ad7ReferenceIdeal.main_arg3))

def preserves_Ad8_Ad8Ideal : Prop :=
  True

def algebraic_Ad8Ideal_Ad8ReferenceIdeal [hAd8Ideal : Cert.Ad8Ideal.Facts] [hAd8ReferenceIdeal : Cert.Ad8ReferenceIdeal.Facts] : Prop :=
  ∀ (m : (ℓ : Loc Cert.Ad8Ideal.nD Cert.Ad8Ideal.τ Cert.Ad8Ideal.sig) → Buf (Elt Ideal) ℓ) (g : Dev Cert.Ad8Ideal.nD → PrngReg)
    (m' : (ℓ : Loc Cert.Ad8ReferenceIdeal.nD Cert.Ad8ReferenceIdeal.τ Cert.Ad8ReferenceIdeal.sig) → Buf (Elt Ideal) ℓ) (g' : Dev Cert.Ad8ReferenceIdeal.nD → PrngReg), Pre_Ad8Ideal m →
    (∀ c : Dev Cert.Ad8Ideal.nD,
      m' ((c.tc : Thread Cert.Ad8ReferenceIdeal.nD Cert.Ad8ReferenceIdeal.τ).loc Cert.Ad8ReferenceIdeal.main_arg0) = m ((c.tc : Thread Cert.Ad8Ideal.nD Cert.Ad8Ideal.τ).loc Cert.Ad8Ideal.main_arg0)
      ∧ m' ((c.tc : Thread Cert.Ad8ReferenceIdeal.nD Cert.Ad8ReferenceIdeal.τ).loc Cert.Ad8ReferenceIdeal.main_arg1) = m ((c.tc : Thread Cert.Ad8Ideal.nD Cert.Ad8Ideal.τ).loc Cert.Ad8Ideal.main_arg1)
      ∧ m' ((c.tc : Thread Cert.Ad8ReferenceIdeal.nD Cert.Ad8ReferenceIdeal.τ).loc Cert.Ad8ReferenceIdeal.main_arg2) = m ((c.tc : Thread Cert.Ad8Ideal.nD Cert.Ad8Ideal.τ).loc Cert.Ad8Ideal.main_arg2)
      ∧ m' ((c.tc : Thread Cert.Ad8ReferenceIdeal.nD Cert.Ad8ReferenceIdeal.τ).loc Cert.Ad8ReferenceIdeal.main_arg3) = m ((c.tc : Thread Cert.Ad8Ideal.nD Cert.Ad8Ideal.τ).loc Cert.Ad8Ideal.main_arg3)) →
    ∃ (v0 : (c : Dev Cert.Ad8Ideal.nD) → Buf (Elt Ideal) ((c.tc : Thread Cert.Ad8Ideal.nD Cert.Ad8Ideal.τ).loc Cert.Ad8Ideal.main_v0_0)) (v1 : (c : Dev Cert.Ad8Ideal.nD) → Buf (Elt Ideal) ((c.tc : Thread Cert.Ad8Ideal.nD Cert.Ad8Ideal.τ).loc Cert.Ad8Ideal.main_v0_1)) (v2 : (c : Dev Cert.Ad8Ideal.nD) → Buf (Elt Ideal) ((c.tc : Thread Cert.Ad8Ideal.nD Cert.Ad8Ideal.τ).loc Cert.Ad8Ideal.main_v0_2)),
      θ_run (Cert.Ad8Ideal.defs (F := Ideal)) (onTc (τ := Cert.Ad8Ideal.τ) (Cert.Ad8Ideal.main (F := Ideal))) ⟨m, fun _ => 0, g⟩ (fun r => ∀ c : Dev Cert.Ad8Ideal.nD,
          r.2.mem ((c.tc : Thread Cert.Ad8Ideal.nD Cert.Ad8Ideal.τ).loc Cert.Ad8Ideal.main_v0_0) = v0 c
          ∧ r.2.mem ((c.tc : Thread Cert.Ad8Ideal.nD Cert.Ad8Ideal.τ).loc Cert.Ad8Ideal.main_v0_1) = v1 c
          ∧ r.2.mem ((c.tc : Thread Cert.Ad8Ideal.nD Cert.Ad8Ideal.τ).loc Cert.Ad8Ideal.main_v0_2) = v2 c
          ∧ r.2.mem ((c.tc : Thread Cert.Ad8Ideal.nD Cert.Ad8Ideal.τ).loc Cert.Ad8Ideal.main_arg0) = m ((c.tc : Thread Cert.Ad8Ideal.nD Cert.Ad8Ideal.τ).loc Cert.Ad8Ideal.main_arg0)
          ∧ r.2.mem ((c.tc : Thread Cert.Ad8Ideal.nD Cert.Ad8Ideal.τ).loc Cert.Ad8Ideal.main_arg1) = m ((c.tc : Thread Cert.Ad8Ideal.nD Cert.Ad8Ideal.τ).loc Cert.Ad8Ideal.main_arg1)
          ∧ r.2.mem ((c.tc : Thread Cert.Ad8Ideal.nD Cert.Ad8Ideal.τ).loc Cert.Ad8Ideal.main_arg2) = m ((c.tc : Thread Cert.Ad8Ideal.nD Cert.Ad8Ideal.τ).loc Cert.Ad8Ideal.main_arg2)
          ∧ r.2.mem ((c.tc : Thread Cert.Ad8Ideal.nD Cert.Ad8Ideal.τ).loc Cert.Ad8Ideal.main_arg3) = m ((c.tc : Thread Cert.Ad8Ideal.nD Cert.Ad8Ideal.τ).loc Cert.Ad8Ideal.main_arg3))
      ∧ θ_run (Cert.Ad8ReferenceIdeal.defs (F := Ideal)) (onTc (τ := Cert.Ad8ReferenceIdeal.τ) (Cert.Ad8ReferenceIdeal.main (F := Ideal))) ⟨m', fun _ => 0, g'⟩ (fun r => ∀ c : Dev Cert.Ad8ReferenceIdeal.nD,
          r.2.mem ((c.tc : Thread Cert.Ad8ReferenceIdeal.nD Cert.Ad8ReferenceIdeal.τ).loc Cert.Ad8ReferenceIdeal.main_v23) = v0 c
          ∧ r.2.mem ((c.tc : Thread Cert.Ad8ReferenceIdeal.nD Cert.Ad8ReferenceIdeal.τ).loc Cert.Ad8ReferenceIdeal.main_v4) = v1 c
          ∧ r.2.mem ((c.tc : Thread Cert.Ad8ReferenceIdeal.nD Cert.Ad8ReferenceIdeal.τ).loc Cert.Ad8ReferenceIdeal.main_v10) = v2 c
          ∧ r.2.mem ((c.tc : Thread Cert.Ad8ReferenceIdeal.nD Cert.Ad8ReferenceIdeal.τ).loc Cert.Ad8ReferenceIdeal.main_arg0) = m' ((c.tc : Thread Cert.Ad8ReferenceIdeal.nD Cert.Ad8ReferenceIdeal.τ).loc Cert.Ad8ReferenceIdeal.main_arg0)
          ∧ r.2.mem ((c.tc : Thread Cert.Ad8ReferenceIdeal.nD Cert.Ad8ReferenceIdeal.τ).loc Cert.Ad8ReferenceIdeal.main_arg1) = m' ((c.tc : Thread Cert.Ad8ReferenceIdeal.nD Cert.Ad8ReferenceIdeal.τ).loc Cert.Ad8ReferenceIdeal.main_arg1)
          ∧ r.2.mem ((c.tc : Thread Cert.Ad8ReferenceIdeal.nD Cert.Ad8ReferenceIdeal.τ).loc Cert.Ad8ReferenceIdeal.main_arg2) = m' ((c.tc : Thread Cert.Ad8ReferenceIdeal.nD Cert.Ad8ReferenceIdeal.τ).loc Cert.Ad8ReferenceIdeal.main_arg2)
          ∧ r.2.mem ((c.tc : Thread Cert.Ad8ReferenceIdeal.nD Cert.Ad8ReferenceIdeal.τ).loc Cert.Ad8ReferenceIdeal.main_arg3) = m' ((c.tc : Thread Cert.Ad8ReferenceIdeal.nD Cert.Ad8ReferenceIdeal.τ).loc Cert.Ad8ReferenceIdeal.main_arg3))

def Claim : Prop :=
  ∃ (hKernel : Cert.Kernel.Facts) (hKernelIdeal : Cert.KernelIdeal.Facts) (hReferenceIdeal : Cert.ReferenceIdeal.Facts) (hWgrad : Cert.Wgrad.Facts) (hWgradIdeal : Cert.WgradIdeal.Facts) (hWgradReferenceIdeal : Cert.WgradReferenceIdeal.Facts) (hWin : Cert.Win.Facts) (hWinIdeal : Cert.WinIdeal.Facts) (hWinReferenceIdeal : Cert.WinReferenceIdeal.Facts) (hWout : Cert.Wout.Facts) (hWoutIdeal : Cert.WoutIdeal.Facts) (hWoutReferenceIdeal : Cert.WoutReferenceIdeal.Facts) (hGlu : Cert.Glu.Facts) (hGluIdeal : Cert.GluIdeal.Facts) (hGluReferenceIdeal : Cert.GluReferenceIdeal.Facts) (hPle : Cert.Ple.Facts) (hPleIdeal : Cert.PleIdeal.Facts) (hPleReferenceIdeal : Cert.PleReferenceIdeal.Facts) (hFwd : Cert.Fwd.Facts) (hFwdIdeal : Cert.FwdIdeal.Facts) (hFwdReferenceIdeal : Cert.FwdReferenceIdeal.Facts) (hInFwd : Cert.InFwd.Facts) (hInFwdIdeal : Cert.InFwdIdeal.Facts) (hInFwdReferenceIdeal : Cert.InFwdReferenceIdeal.Facts) (hPleFwd : Cert.PleFwd.Facts) (hPleFwdIdeal : Cert.PleFwdIdeal.Facts) (hPleFwdReferenceIdeal : Cert.PleFwdReferenceIdeal.Facts) (hMixFwd : Cert.MixFwd.Facts) (hMixFwdIdeal : Cert.MixFwdIdeal.Facts) (hMixFwdReferenceIdeal : Cert.MixFwdReferenceIdeal.Facts) (hInBwd : Cert.InBwd.Facts) (hInBwdIdeal : Cert.InBwdIdeal.Facts) (hInBwdReferenceIdeal : Cert.InBwdReferenceIdeal.Facts) (hPleBwd : Cert.PleBwd.Facts) (hPleBwdIdeal : Cert.PleBwdIdeal.Facts) (hPleBwdReferenceIdeal : Cert.PleBwdReferenceIdeal.Facts) (hAd1 : Cert.Ad1.Facts) (hAd1Ideal : Cert.Ad1Ideal.Facts) (hAd1ReferenceIdeal : Cert.Ad1ReferenceIdeal.Facts) (hAd2 : Cert.Ad2.Facts) (hAd2Ideal : Cert.Ad2Ideal.Facts) (hAd2ReferenceIdeal : Cert.Ad2ReferenceIdeal.Facts) (hAd3 : Cert.Ad3.Facts) (hAd3Ideal : Cert.Ad3Ideal.Facts) (hAd3ReferenceIdeal : Cert.Ad3ReferenceIdeal.Facts) (hAd4 : Cert.Ad4.Facts) (hAd4Ideal : Cert.Ad4Ideal.Facts) (hAd4ReferenceIdeal : Cert.Ad4ReferenceIdeal.Facts) (hAd5 : Cert.Ad5.Facts) (hAd5Ideal : Cert.Ad5Ideal.Facts) (hAd5ReferenceIdeal : Cert.Ad5ReferenceIdeal.Facts) (hAd6 : Cert.Ad6.Facts) (hAd6Ideal : Cert.Ad6Ideal.Facts) (hAd6ReferenceIdeal : Cert.Ad6ReferenceIdeal.Facts) (hAd7 : Cert.Ad7.Facts) (hAd7Ideal : Cert.Ad7Ideal.Facts) (hAd7ReferenceIdeal : Cert.Ad7ReferenceIdeal.Facts) (hAd8 : Cert.Ad8.Facts) (hAd8Ideal : Cert.Ad8Ideal.Facts) (hAd8ReferenceIdeal : Cert.Ad8ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Wgrad (hWgrad := hWgrad)
    ∧ quiescent_WgradIdeal (hWgradIdeal := hWgradIdeal)
    ∧ quiescent_WgradReferenceIdeal (hWgradReferenceIdeal := hWgradReferenceIdeal)
    ∧ quiescent_Win (hWin := hWin)
    ∧ quiescent_WinIdeal (hWinIdeal := hWinIdeal)
    ∧ quiescent_WinReferenceIdeal (hWinReferenceIdeal := hWinReferenceIdeal)
    ∧ quiescent_Wout (hWout := hWout)
    ∧ quiescent_WoutIdeal (hWoutIdeal := hWoutIdeal)
    ∧ quiescent_WoutReferenceIdeal (hWoutReferenceIdeal := hWoutReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Ple (hPle := hPle)
    ∧ quiescent_PleIdeal (hPleIdeal := hPleIdeal)
    ∧ quiescent_PleReferenceIdeal (hPleReferenceIdeal := hPleReferenceIdeal)
    ∧ quiescent_Fwd (hFwd := hFwd)
    ∧ quiescent_FwdIdeal (hFwdIdeal := hFwdIdeal)
    ∧ quiescent_FwdReferenceIdeal (hFwdReferenceIdeal := hFwdReferenceIdeal)
    ∧ quiescent_InFwd (hInFwd := hInFwd)
    ∧ quiescent_InFwdIdeal (hInFwdIdeal := hInFwdIdeal)
    ∧ quiescent_InFwdReferenceIdeal (hInFwdReferenceIdeal := hInFwdReferenceIdeal)
    ∧ quiescent_PleFwd (hPleFwd := hPleFwd)
    ∧ quiescent_PleFwdIdeal (hPleFwdIdeal := hPleFwdIdeal)
    ∧ quiescent_PleFwdReferenceIdeal (hPleFwdReferenceIdeal := hPleFwdReferenceIdeal)
    ∧ quiescent_MixFwd (hMixFwd := hMixFwd)
    ∧ quiescent_MixFwdIdeal (hMixFwdIdeal := hMixFwdIdeal)
    ∧ quiescent_MixFwdReferenceIdeal (hMixFwdReferenceIdeal := hMixFwdReferenceIdeal)
    ∧ quiescent_InBwd (hInBwd := hInBwd)
    ∧ quiescent_InBwdIdeal (hInBwdIdeal := hInBwdIdeal)
    ∧ quiescent_InBwdReferenceIdeal (hInBwdReferenceIdeal := hInBwdReferenceIdeal)
    ∧ quiescent_PleBwd (hPleBwd := hPleBwd)
    ∧ quiescent_PleBwdIdeal (hPleBwdIdeal := hPleBwdIdeal)
    ∧ quiescent_PleBwdReferenceIdeal (hPleBwdReferenceIdeal := hPleBwdReferenceIdeal)
    ∧ quiescent_Ad1 (hAd1 := hAd1)
    ∧ quiescent_Ad1Ideal (hAd1Ideal := hAd1Ideal)
    ∧ quiescent_Ad1ReferenceIdeal (hAd1ReferenceIdeal := hAd1ReferenceIdeal)
    ∧ quiescent_Ad2 (hAd2 := hAd2)
    ∧ quiescent_Ad2Ideal (hAd2Ideal := hAd2Ideal)
    ∧ quiescent_Ad2ReferenceIdeal (hAd2ReferenceIdeal := hAd2ReferenceIdeal)
    ∧ quiescent_Ad3 (hAd3 := hAd3)
    ∧ quiescent_Ad3Ideal (hAd3Ideal := hAd3Ideal)
    ∧ quiescent_Ad3ReferenceIdeal (hAd3ReferenceIdeal := hAd3ReferenceIdeal)
    ∧ quiescent_Ad4 (hAd4 := hAd4)
    ∧ quiescent_Ad4Ideal (hAd4Ideal := hAd4Ideal)
    ∧ quiescent_Ad4ReferenceIdeal (hAd4ReferenceIdeal := hAd4ReferenceIdeal)
    ∧ quiescent_Ad5 (hAd5 := hAd5)
    ∧ quiescent_Ad5Ideal (hAd5Ideal := hAd5Ideal)
    ∧ quiescent_Ad5ReferenceIdeal (hAd5ReferenceIdeal := hAd5ReferenceIdeal)
    ∧ quiescent_Ad6 (hAd6 := hAd6)
    ∧ quiescent_Ad6Ideal (hAd6Ideal := hAd6Ideal)
    ∧ quiescent_Ad6ReferenceIdeal (hAd6ReferenceIdeal := hAd6ReferenceIdeal)
    ∧ quiescent_Ad7 (hAd7 := hAd7)
    ∧ quiescent_Ad7Ideal (hAd7Ideal := hAd7Ideal)
    ∧ quiescent_Ad7ReferenceIdeal (hAd7ReferenceIdeal := hAd7ReferenceIdeal)
    ∧ quiescent_Ad8 (hAd8 := hAd8)
    ∧ quiescent_Ad8Ideal (hAd8Ideal := hAd8Ideal)
    ∧ quiescent_Ad8ReferenceIdeal (hAd8ReferenceIdeal := hAd8ReferenceIdeal)
    ∧ preserves_Kernel_KernelIdeal
    ∧ algebraic_KernelIdeal_ReferenceIdeal_pre_tame (hKernelIdeal := hKernelIdeal) (hReferenceIdeal := hReferenceIdeal) (hPre_tame := hPre_tame)
    ∧ preserves_Wgrad_WgradIdeal
    ∧ algebraic_WgradIdeal_WgradReferenceIdeal (hWgradIdeal := hWgradIdeal) (hWgradReferenceIdeal := hWgradReferenceIdeal)
    ∧ preserves_Win_WinIdeal
    ∧ algebraic_WinIdeal_WinReferenceIdeal (hWinIdeal := hWinIdeal) (hWinReferenceIdeal := hWinReferenceIdeal)
    ∧ preserves_Wout_WoutIdeal
    ∧ algebraic_WoutIdeal_WoutReferenceIdeal (hWoutIdeal := hWoutIdeal) (hWoutReferenceIdeal := hWoutReferenceIdeal)
    ∧ preserves_Glu_GluIdeal
    ∧ algebraic_GluIdeal_GluReferenceIdeal (hGluIdeal := hGluIdeal) (hGluReferenceIdeal := hGluReferenceIdeal)
    ∧ preserves_Ple_PleIdeal
    ∧ algebraic_PleIdeal_PleReferenceIdeal (hPleIdeal := hPleIdeal) (hPleReferenceIdeal := hPleReferenceIdeal)
    ∧ preserves_Fwd_FwdIdeal
    ∧ algebraic_FwdIdeal_FwdReferenceIdeal (hFwdIdeal := hFwdIdeal) (hFwdReferenceIdeal := hFwdReferenceIdeal)
    ∧ preserves_InFwd_InFwdIdeal
    ∧ algebraic_InFwdIdeal_InFwdReferenceIdeal (hInFwdIdeal := hInFwdIdeal) (hInFwdReferenceIdeal := hInFwdReferenceIdeal)
    ∧ preserves_PleFwd_PleFwdIdeal
    ∧ algebraic_PleFwdIdeal_PleFwdReferenceIdeal (hPleFwdIdeal := hPleFwdIdeal) (hPleFwdReferenceIdeal := hPleFwdReferenceIdeal)
    ∧ preserves_MixFwd_MixFwdIdeal
    ∧ algebraic_MixFwdIdeal_MixFwdReferenceIdeal (hMixFwdIdeal := hMixFwdIdeal) (hMixFwdReferenceIdeal := hMixFwdReferenceIdeal)
    ∧ preserves_InBwd_InBwdIdeal
    ∧ algebraic_InBwdIdeal_InBwdReferenceIdeal (hInBwdIdeal := hInBwdIdeal) (hInBwdReferenceIdeal := hInBwdReferenceIdeal)
    ∧ preserves_PleBwd_PleBwdIdeal
    ∧ algebraic_PleBwdIdeal_PleBwdReferenceIdeal (hPleBwdIdeal := hPleBwdIdeal) (hPleBwdReferenceIdeal := hPleBwdReferenceIdeal)
    ∧ preserves_Ad1_Ad1Ideal
    ∧ algebraic_Ad1Ideal_Ad1ReferenceIdeal (hAd1Ideal := hAd1Ideal) (hAd1ReferenceIdeal := hAd1ReferenceIdeal)
    ∧ preserves_Ad2_Ad2Ideal
    ∧ algebraic_Ad2Ideal_Ad2ReferenceIdeal (hAd2Ideal := hAd2Ideal) (hAd2ReferenceIdeal := hAd2ReferenceIdeal)
    ∧ preserves_Ad3_Ad3Ideal
    ∧ algebraic_Ad3Ideal_Ad3ReferenceIdeal (hAd3Ideal := hAd3Ideal) (hAd3ReferenceIdeal := hAd3ReferenceIdeal)
    ∧ preserves_Ad4_Ad4Ideal
    ∧ algebraic_Ad4Ideal_Ad4ReferenceIdeal (hAd4Ideal := hAd4Ideal) (hAd4ReferenceIdeal := hAd4ReferenceIdeal)
    ∧ preserves_Ad5_Ad5Ideal
    ∧ algebraic_Ad5Ideal_Ad5ReferenceIdeal (hAd5Ideal := hAd5Ideal) (hAd5ReferenceIdeal := hAd5ReferenceIdeal)
    ∧ preserves_Ad6_Ad6Ideal
    ∧ algebraic_Ad6Ideal_Ad6ReferenceIdeal (hAd6Ideal := hAd6Ideal) (hAd6ReferenceIdeal := hAd6ReferenceIdeal)
    ∧ preserves_Ad7_Ad7Ideal
    ∧ algebraic_Ad7Ideal_Ad7ReferenceIdeal (hAd7Ideal := hAd7Ideal) (hAd7ReferenceIdeal := hAd7ReferenceIdeal)
    ∧ preserves_Ad8_Ad8Ideal
    ∧ algebraic_Ad8Ideal_Ad8ReferenceIdeal (hAd8Ideal := hAd8Ideal) (hAd8ReferenceIdeal := hAd8ReferenceIdeal)
-- ==== Pre_tame.lean ====
abbrev S2048x2048 : Shape := ⟨2, ![2048, 2048]⟩
abbrev S2048x4096 : Shape := ⟨2, ![2048, 4096]⟩
abbrev S2048x512 : Shape := ⟨2, ![2048, 512]⟩
abbrev S3x512 : Shape := ⟨2, ![3, 512]⟩
abbrev S512 : Shape := ⟨1, ![512]⟩
abbrev S32x16 : Shape := ⟨2, ![32, 16]⟩
abbrev S32x64 : Shape := ⟨2, ![32, 64]⟩
abbrev S32x64x16 : Shape := ⟨3, ![32, 64, 16]⟩
abbrev S32x16x64 : Shape := ⟨3, ![32, 16, 64]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S32x16x64 : S_.BroadcastsInDim S32x16x64 (![] : Fin 0 → Fin S32x16x64.rank)
  reducesTo_S32x16x64_S_d0_1_2 : S32x16x64.ReducesTo [0, 1, 2] S_

variable [Facts]

def fn_part1 {F : FTy → Type} [FloatOps F] (main_arg12 : FVec F S32x16x64 .f32) (main_v13 : IVec S_ 1) (main_v16 : IVec S32x16x64 1) : IVec S_ 1 :=
  let main_c_5 : IVec S_ 1 := constantI S_ 1 1#1
  let main_v17 : IVec S_ 1 := (fun x v => Host.reduce IntOp.andi x v reducesTo_S32x16x64_S_d0_1_2 h_S_) main_v16 main_c_5
  let main_v18 : IVec S_ 1 := andi main_v13 main_v17
  let main_v19 : FVec F S32x16x64 .f32 := Host.absf main_arg12
  let main_cst_6 : FVec F S_ .f32 := constant S_ .f32 0x7F800000#32
  let main_v20 : FVec F S32x16x64 .f32 := broadcastInDim S32x16x64 ![] bcast_S_S32x16x64 main_cst_6
  let main_v21 : IVec S32x16x64 1 := cmpf .olt main_v19 main_v20
  let main_c_7 : IVec S_ 1 := constantI S_ 1 1#1
  let main_v22 : IVec S_ 1 := (fun x v => Host.reduce IntOp.andi x v reducesTo_S32x16x64_S_d0_1_2 h_S_) main_v21 main_c_7
  let main_v23 : IVec S_ 1 := andi main_v18 main_v22
  main_v23

def fn {F : FTy → Type} [FloatOps F] (main_arg0 : FVec F S2048x2048 .f32) (main_arg1 : FVec F S2048x4096 .bf16) (main_arg2 : FVec F S2048x512 .f32) (main_arg3 : FVec F S2048x512 .f32) (main_arg4 : FVec F S3x512 .f32) (main_arg5 : FVec F S512 .f32) (main_arg6 : FVec F S32x16 .f32) (main_arg7 : FVec F S32x64 .f32) (main_arg8 : FVec F S32x64 .f32) (main_arg9 : FVec F S32x64x16 .f32) (main_arg10 : FVec F S32x64x16 .f32) (main_arg11 : FVec F S32x16x64 .f32) (main_arg12 : FVec F S32x16x64 .f32) : IVec S_ 1 :=
  let main_v0 : FVec F S2048x512 .f32 := Host.absf main_arg3
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S32x64 .f32 := Host.absf main_arg7
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x64 .f32 := Host.absf main_arg8
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32x16x64 .f32 := Host.absf main_arg11
  let main_cst_4 : FVec F S_ .f32 := constant S_ .f32 0x7F800000#32
  let main_v15 : FVec F S32x16x64 .f32 := broadcastInDim S32x16x64 ![] bcast_S_S32x16x64 main_cst_4
  let main_v16 : IVec S32x16x64 1 := cmpf .olt main_v14 main_v15
  fn_part1 (F := F) main_arg12 main_v13 main_v16
-- ==== Kernel.lean ====
abbrev S2048x2048 : Shape := ⟨2, ![2048, 2048]⟩
abbrev S2048x4096 : Shape := ⟨2, ![2048, 4096]⟩
abbrev S2048x512 : Shape := ⟨2, ![2048, 512]⟩
abbrev S3x512 : Shape := ⟨2, ![3, 512]⟩
abbrev S512 : Shape := ⟨1, ![512]⟩
abbrev S32x16 : Shape := ⟨2, ![32, 16]⟩
abbrev S32x64 : Shape := ⟨2, ![32, 64]⟩
abbrev S32x64x16 : Shape := ⟨3, ![32, 64, 16]⟩
abbrev S32x16x64 : Shape := ⟨3, ![32, 16, 64]⟩
abbrev S512x64 : Shape := ⟨2, ![512, 64]⟩
abbrev S1x2048 : Shape := ⟨2, ![1, 2048]⟩
abbrev S8x2048 : Shape := ⟨2, ![8, 2048]⟩
abbrev S_ : Shape := ⟨0, ![]⟩
abbrev S8x4096 : Shape := ⟨2, ![8, 4096]⟩
abbrev S1x4096 : Shape := ⟨2, ![1, 4096]⟩
abbrev S32x4096 : Shape := ⟨2, ![32, 4096]⟩
abbrev S512x2048 : Shape := ⟨2, ![512, 2048]⟩
abbrev S512x1x64 : Shape := ⟨3, ![512, 1, 64]⟩
abbrev S512x32x64 : Shape := ⟨3, ![512, 32, 64]⟩
abbrev S512x4096 : Shape := ⟨2, ![512, 4096]⟩
abbrev S1x512 : Shape := ⟨2, ![1, 512]⟩
abbrev S1x2048x4096 : Shape := ⟨3, ![1, 2048, 4096]⟩
abbrev S1x2048x512 : Shape := ⟨3, ![1, 2048, 512]⟩
abbrev S8x512 : Shape := ⟨2, ![8, 512]⟩
abbrev S256x2048 : Shape := ⟨2, ![256, 2048]⟩
abbrev S256x4096 : Shape := ⟨2, ![256, 4096]⟩
abbrev S16x4096 : Shape := ⟨2, ![16, 4096]⟩
abbrev S256x512 : Shape := ⟨2, ![256, 512]⟩
abbrev S1x256x4096 : Shape := ⟨3, ![1, 256, 4096]⟩
abbrev S1x256x512 : Shape := ⟨3, ![1, 256, 512]⟩
abbrev S256x256 : Shape := ⟨2, ![256, 256]⟩
abbrev S256x1024 : Shape := ⟨2, ![256, 1024]⟩
abbrev S32x8x2048 : Shape := ⟨3, ![32, 8, 2048]⟩
abbrev S4096 : Shape := ⟨1, ![4096]⟩

abbrev nBuf : Space → Nat
  | .hbm => 313
  | .vmem => 31
  | .smem => 0
  | _ => 0

abbrev hbmTy0_0 (i : Nat) : BufTy := match i % 128 with
  | 0 => ⟨S2048x2048, .f32⟩
  | 1 => ⟨S2048x4096, .bf16⟩
  | 2 => ⟨S2048x512, .f32⟩
  | 3 => ⟨S2048x512, .f32⟩
  | 4 => ⟨S3x512, .f32⟩
  | 5 => ⟨S512, .f32⟩
  | 6 => ⟨S32x16, .f32⟩
  | 7 => ⟨S32x64, .f32⟩
  | 8 => ⟨S32x64, .f32⟩
  | 9 => ⟨S32x64x16, .f32⟩
  | 10 => ⟨S32x64x16, .f32⟩
  | 11 => ⟨S32x16x64, .f32⟩
  | 12 => ⟨S32x16x64, .f32⟩
  | 13 => ⟨S32x16x64, .f32⟩
  | 14 => ⟨S512x64, .f32⟩
  | 15 => ⟨S32x16x64, .f32⟩
  | 16 => ⟨S512x64, .f32⟩
  | 17 => ⟨S512x64, .f32⟩
  | 18 => ⟨S512x64, .f32⟩
  | 19 => ⟨S1x2048, .f32⟩
  | 20 => ⟨S1x2048, .f32⟩
  | 21 => ⟨S8x2048, .i32⟩
  | 22 => ⟨S_, .i32⟩
  | 23 => ⟨S8x2048, .i32⟩
  | 24 => ⟨S8x2048, .i1⟩
  | 25 => ⟨S_, .f32⟩
  | 26 => ⟨S8x2048, .f32⟩
  | 27 => ⟨S8x2048, .f32⟩
  | 28 => ⟨S8x2048, .f32⟩
  | 29 => ⟨S1x2048, .f32⟩
  | 30 => ⟨S8x2048, .f32⟩
  | 31 => ⟨S8x2048, .f32⟩
  | 32 => ⟨S8x4096, .f32⟩
  | 33 => ⟨S1x2048, .f32⟩
  | 34 => ⟨S1x4096, .f32⟩
  | 35 => ⟨S1x2048, .f32⟩
  | 36 => ⟨S1x2048, .f32⟩
  | 37 => ⟨S1x2048, .f32⟩
  | 38 => ⟨S1x2048, .f32⟩
  | 39 => ⟨S1x2048, .f32⟩
  | 40 => ⟨S1x2048, .f32⟩
  | 41 => ⟨S_, .i32⟩
  | 42 => ⟨S8x2048, .i32⟩
  | 43 => ⟨S8x2048, .i1⟩
  | 44 => ⟨S_, .f32⟩
  | 45 => ⟨S8x2048, .f32⟩
  | 46 => ⟨S8x2048, .f32⟩
  | 47 => ⟨S8x2048, .f32⟩
  | 48 => ⟨S1x2048, .f32⟩
  | 49 => ⟨S8x2048, .f32⟩
  | 50 => ⟨S8x2048, .f32⟩
  | 51 => ⟨S8x4096, .f32⟩
  | 52 => ⟨S1x2048, .f32⟩
  | 53 => ⟨S1x4096, .f32⟩
  | 54 => ⟨S1x2048, .f32⟩
  | 55 => ⟨S1x2048, .f32⟩
  | 56 => ⟨S1x2048, .f32⟩
  | 57 => ⟨S1x2048, .f32⟩
  | 58 => ⟨S1x2048, .f32⟩
  | 59 => ⟨S1x2048, .f32⟩
  | 60 => ⟨S1x2048, .f32⟩
  | 61 => ⟨S1x4096, .f32⟩
  | 62 => ⟨S1x2048, .f32⟩
  | 63 => ⟨S1x2048, .f32⟩
  | 64 => ⟨S1x2048, .f32⟩
  | 65 => ⟨S1x2048, .f32⟩
  | 66 => ⟨S1x2048, .f32⟩
  | 67 => ⟨S1x2048, .f32⟩
  | 68 => ⟨S_, .i32⟩
  | 69 => ⟨S8x2048, .i32⟩
  | 70 => ⟨S8x2048, .i1⟩
  | 71 => ⟨S_, .f32⟩
  | 72 => ⟨S8x2048, .f32⟩
  | 73 => ⟨S8x2048, .f32⟩
  | 74 => ⟨S8x2048, .f32⟩
  | 75 => ⟨S1x2048, .f32⟩
  | 76 => ⟨S8x2048, .f32⟩
  | 77 => ⟨S8x2048, .f32⟩
  | 78 => ⟨S8x4096, .f32⟩
  | 79 => ⟨S1x2048, .f32⟩
  | 80 => ⟨S1x4096, .f32⟩
  | 81 => ⟨S1x2048, .f32⟩
  | 82 => ⟨S1x2048, .f32⟩
  | 83 => ⟨S1x2048, .f32⟩
  | 84 => ⟨S1x2048, .f32⟩
  | 85 => ⟨S1x2048, .f32⟩
  | 86 => ⟨S1x2048, .f32⟩
  | 87 => ⟨S1x2048, .f32⟩
  | 88 => ⟨S1x4096, .f32⟩
  | 89 => ⟨S1x2048, .f32⟩
  | 90 => ⟨S1x2048, .f32⟩
  | 91 => ⟨S1x2048, .f32⟩
  | 92 => ⟨S1x2048, .f32⟩
  | 93 => ⟨S1x2048, .f32⟩
  | 94 => ⟨S1x2048, .f32⟩
  | 95 => ⟨S1x2048, .f32⟩
  | 96 => ⟨S1x4096, .f32⟩
  | 97 => ⟨S1x2048, .f32⟩
  | 98 => ⟨S1x2048, .f32⟩
  | 99 => ⟨S1x2048, .f32⟩
  | 100 => ⟨S1x2048, .f32⟩
  | 101 => ⟨S1x2048, .f32⟩
  | 102 => ⟨S1x2048, .f32⟩
  | 103 => ⟨S1x2048, .f32⟩
  | 104 => ⟨S1x4096, .f32⟩
  | 105 => ⟨S1x2048, .f32⟩
  | 106 => ⟨S1x2048, .f32⟩
  | 107 => ⟨S1x2048, .f32⟩
  | 108 => ⟨S1x2048, .f32⟩
  | 109 => ⟨S1x2048, .f32⟩
  | 110 => ⟨S1x2048, .f32⟩
  | 111 => ⟨S1x2048, .f32⟩
  | 112 => ⟨S1x4096, .f32⟩
  | 113 => ⟨S1x2048, .f32⟩
  | 114 => ⟨S1x2048, .f32⟩
  | 115 => ⟨S1x2048, .f32⟩
  | 116 => ⟨S1x2048, .f32⟩
  | 117 => ⟨S1x2048, .f32⟩
  | 118 => ⟨S1x2048, .f32⟩
  | 119 => ⟨S32x4096, .f32⟩
  | 120 => ⟨S512x2048, .i32⟩
  | 121 => ⟨S_, .i32⟩
  | 122 => ⟨S_, .i32⟩
  | 123 => ⟨S512x2048, .i32⟩
  | 124 => ⟨S512x2048, .i32⟩
  | 125 => ⟨S512x2048, .i32⟩
  | 126 => ⟨S_, .i32⟩
  | 127 => ⟨S512x2048, .i32⟩
  | _ => ⟨S2048x2048, .f32⟩

abbrev hbmTy0_1 (i : Nat) : BufTy := match i % 128 with
  | 0 => ⟨S512x2048, .i1⟩
  | 1 => ⟨S512x2048, .i32⟩
  | 2 => ⟨S512x2048, .i32⟩
  | 3 => ⟨S_, .i32⟩
  | 4 => ⟨S512x2048, .i32⟩
  | 5 => ⟨S512x2048, .i1⟩
  | 6 => ⟨S512x2048, .i1⟩
  | 7 => ⟨S_, .i32⟩
  | 8 => ⟨S512x2048, .i32⟩
  | 9 => ⟨S512x2048, .i32⟩
  | 10 => ⟨S512x2048, .i32⟩
  | 11 => ⟨S512x2048, .i32⟩
  | 12 => ⟨S_, .i32⟩
  | 13 => ⟨S_, .i32⟩
  | 14 => ⟨S512x2048, .i32⟩
  | 15 => ⟨S512x2048, .i32⟩
  | 16 => ⟨S512x2048, .i32⟩
  | 17 => ⟨S_, .i32⟩
  | 18 => ⟨S512x2048, .i32⟩
  | 19 => ⟨S512x2048, .i1⟩
  | 20 => ⟨S512x2048, .i32⟩
  | 21 => ⟨S512x2048, .i32⟩
  | 22 => ⟨S_, .i32⟩
  | 23 => ⟨S512x2048, .i32⟩
  | 24 => ⟨S512x2048, .i1⟩
  | 25 => ⟨S512x2048, .i1⟩
  | 26 => ⟨S_, .i32⟩
  | 27 => ⟨S512x2048, .i32⟩
  | 28 => ⟨S512x2048, .i32⟩
  | 29 => ⟨S512x2048, .i32⟩
  | 30 => ⟨S512x1x64, .f32⟩
  | 31 => ⟨S512x32x64, .f32⟩
  | 32 => ⟨S512x2048, .f32⟩
  | 33 => ⟨S512x2048, .i1⟩
  | 34 => ⟨S_, .f32⟩
  | 35 => ⟨S512x2048, .f32⟩
  | 36 => ⟨S512x2048, .f32⟩
  | 37 => ⟨S512x2048, .i32⟩
  | 38 => ⟨S_, .i32⟩
  | 39 => ⟨S_, .i32⟩
  | 40 => ⟨S512x2048, .i32⟩
  | 41 => ⟨S512x2048, .i32⟩
  | 42 => ⟨S512x2048, .i32⟩
  | 43 => ⟨S_, .i32⟩
  | 44 => ⟨S512x2048, .i32⟩
  | 45 => ⟨S512x2048, .i1⟩
  | 46 => ⟨S512x2048, .i32⟩
  | 47 => ⟨S512x2048, .i32⟩
  | 48 => ⟨S_, .i32⟩
  | 49 => ⟨S512x2048, .i32⟩
  | 50 => ⟨S512x2048, .i1⟩
  | 51 => ⟨S512x2048, .i1⟩
  | 52 => ⟨S_, .i32⟩
  | 53 => ⟨S512x2048, .i32⟩
  | 54 => ⟨S512x2048, .i32⟩
  | 55 => ⟨S512x2048, .i32⟩
  | 56 => ⟨S512x2048, .i32⟩
  | 57 => ⟨S_, .i32⟩
  | 58 => ⟨S_, .i32⟩
  | 59 => ⟨S512x2048, .i32⟩
  | 60 => ⟨S512x2048, .i32⟩
  | 61 => ⟨S512x2048, .i32⟩
  | 62 => ⟨S_, .i32⟩
  | 63 => ⟨S512x2048, .i32⟩
  | 64 => ⟨S512x2048, .i1⟩
  | 65 => ⟨S512x2048, .i32⟩
  | 66 => ⟨S512x2048, .i32⟩
  | 67 => ⟨S_, .i32⟩
  | 68 => ⟨S512x2048, .i32⟩
  | 69 => ⟨S512x2048, .i1⟩
  | 70 => ⟨S512x2048, .i1⟩
  | 71 => ⟨S_, .i32⟩
  | 72 => ⟨S512x2048, .i32⟩
  | 73 => ⟨S512x2048, .i32⟩
  | 74 => ⟨S512x2048, .i32⟩
  | 75 => ⟨S512x1x64, .f32⟩
  | 76 => ⟨S512x32x64, .f32⟩
  | 77 => ⟨S512x2048, .f32⟩
  | 78 => ⟨S512x2048, .i1⟩
  | 79 => ⟨S_, .f32⟩
  | 80 => ⟨S512x2048, .f32⟩
  | 81 => ⟨S512x2048, .f32⟩
  | 82 => ⟨S512x4096, .f32⟩
  | 83 => ⟨S512x4096, .bf16⟩
  | 84 => ⟨S512x2048, .i32⟩
  | 85 => ⟨S_, .i32⟩
  | 86 => ⟨S_, .i32⟩
  | 87 => ⟨S512x2048, .i32⟩
  | 88 => ⟨S512x2048, .i32⟩
  | 89 => ⟨S512x2048, .i32⟩
  | 90 => ⟨S_, .i32⟩
  | 91 => ⟨S512x2048, .i32⟩
  | 92 => ⟨S512x2048, .i1⟩
  | 93 => ⟨S512x2048, .i32⟩
  | 94 => ⟨S512x2048, .i32⟩
  | 95 => ⟨S_, .i32⟩
  | 96 => ⟨S512x2048, .i32⟩
  | 97 => ⟨S512x2048, .i1⟩
  | 98 => ⟨S512x2048, .i1⟩
  | 99 => ⟨S_, .i32⟩
  | 100 => ⟨S512x2048, .i32⟩
  | 101 => ⟨S512x2048, .i32⟩
  | 102 => ⟨S512x2048, .i32⟩
  | 103 => ⟨S512x2048, .i32⟩
  | 104 => ⟨S_, .i32⟩
  | 105 => ⟨S_, .i32⟩
  | 106 => ⟨S512x2048, .i32⟩
  | 107 => ⟨S512x2048, .i32⟩
  | 108 => ⟨S512x2048, .i32⟩
  | 109 => ⟨S_, .i32⟩
  | 110 => ⟨S512x2048, .i32⟩
  | 111 => ⟨S512x2048, .i1⟩
  | 112 => ⟨S512x2048, .i32⟩
  | 113 => ⟨S512x2048, .i32⟩
  | 114 => ⟨S_, .i32⟩
  | 115 => ⟨S512x2048, .i32⟩
  | 116 => ⟨S512x2048, .i1⟩
  | 117 => ⟨S512x2048, .i1⟩
  | 118 => ⟨S_, .i32⟩
  | 119 => ⟨S512x2048, .i32⟩
  | 120 => ⟨S512x2048, .i32⟩
  | 121 => ⟨S512x2048, .i32⟩
  | 122 => ⟨S512x1x64, .f32⟩
  | 123 => ⟨S512x32x64, .f32⟩
  | 124 => ⟨S512x2048, .f32⟩
  | 125 => ⟨S512x2048, .i1⟩
  | 126 => ⟨S_, .f32⟩
  | 127 => ⟨S512x2048, .f32⟩
  | _ => ⟨S2048x2048, .f32⟩

abbrev hbmTy0_2 (i : Nat) : BufTy := match i % 128 with
  | 0 => ⟨S512x2048, .f32⟩
  | 1 => ⟨S512x2048, .i32⟩
  | 2 => ⟨S_, .i32⟩
  | 3 => ⟨S_, .i32⟩
  | 4 => ⟨S512x2048, .i32⟩
  | 5 => ⟨S512x2048, .i32⟩
  | 6 => ⟨S512x2048, .i32⟩
  | 7 => ⟨S_, .i32⟩
  | 8 => ⟨S512x2048, .i32⟩
  | 9 => ⟨S512x2048, .i1⟩
  | 10 => ⟨S512x2048, .i32⟩
  | 11 => ⟨S512x2048, .i32⟩
  | 12 => ⟨S_, .i32⟩
  | 13 => ⟨S512x2048, .i32⟩
  | 14 => ⟨S512x2048, .i1⟩
  | 15 => ⟨S512x2048, .i1⟩
  | 16 => ⟨S_, .i32⟩
  | 17 => ⟨S512x2048, .i32⟩
  | 18 => ⟨S512x2048, .i32⟩
  | 19 => ⟨S512x2048, .i32⟩
  | 20 => ⟨S512x2048, .i32⟩
  | 21 => ⟨S_, .i32⟩
  | 22 => ⟨S_, .i32⟩
  | 23 => ⟨S512x2048, .i32⟩
  | 24 => ⟨S512x2048, .i32⟩
  | 25 => ⟨S512x2048, .i32⟩
  | 26 => ⟨S_, .i32⟩
  | 27 => ⟨S512x2048, .i32⟩
  | 28 => ⟨S512x2048, .i1⟩
  | 29 => ⟨S512x2048, .i32⟩
  | 30 => ⟨S512x2048, .i32⟩
  | 31 => ⟨S_, .i32⟩
  | 32 => ⟨S512x2048, .i32⟩
  | 33 => ⟨S512x2048, .i1⟩
  | 34 => ⟨S512x2048, .i1⟩
  | 35 => ⟨S_, .i32⟩
  | 36 => ⟨S512x2048, .i32⟩
  | 37 => ⟨S512x2048, .i32⟩
  | 38 => ⟨S512x2048, .i32⟩
  | 39 => ⟨S512x1x64, .f32⟩
  | 40 => ⟨S512x32x64, .f32⟩
  | 41 => ⟨S512x2048, .f32⟩
  | 42 => ⟨S512x2048, .i1⟩
  | 43 => ⟨S_, .f32⟩
  | 44 => ⟨S512x2048, .f32⟩
  | 45 => ⟨S512x2048, .f32⟩
  | 46 => ⟨S512x2048, .f32⟩
  | 47 => ⟨S512x4096, .f32⟩
  | 48 => ⟨S512x4096, .bf16⟩
  | 49 => ⟨S1x512, .f32⟩
  | 50 => ⟨S1x512, .f32⟩
  | 51 => ⟨S2048x2048, .bf16⟩
  | 52 => ⟨S1x2048x4096, .bf16⟩
  | 53 => ⟨S1x2048x512, .bf16⟩
  | 54 => ⟨S1x2048x512, .bf16⟩
  | 55 => ⟨S8x4096, .f32⟩
  | 56 => ⟨S8x512, .f32⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S256x4096, .bf16⟩
  | .local _ .vmem, ⟨5, _⟩ => ⟨S256x4096, .bf16⟩
  | .local _ .vmem, ⟨6, _⟩ => ⟨S16x4096, .bf16⟩
  | .local _ .vmem, ⟨7, _⟩ => ⟨S16x4096, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S3x512, .f32⟩
  | .local _ .vmem, ⟨13, _⟩ => ⟨S1x512, .f32⟩
  | .local _ .vmem, ⟨14, _⟩ => ⟨S512x4096, .bf16⟩
  | .local _ .vmem, ⟨15, _⟩ => ⟨S512x4096, .bf16⟩
  | .local _ .vmem, ⟨16, _⟩ => ⟨S1x512, .f32⟩
  | .local _ .vmem, ⟨17, _⟩ => ⟨S32x4096, .f32⟩
  | .local _ .vmem, ⟨18, _⟩ => ⟨S256x2048, .bf16⟩
  | .local _ .vmem, ⟨19, _⟩ => ⟨S256x2048, .bf16⟩
  | .local _ .vmem, ⟨20, _⟩ => ⟨S1x256x4096, .bf16⟩
  | .local _ .vmem, ⟨21, _⟩ => ⟨S1x256x4096, .bf16⟩
  | .local _ .vmem, ⟨22, _⟩ => ⟨S1x256x512, .bf16⟩
  | .local _ .vmem, ⟨23, _⟩ => ⟨S1x256x512, .bf16⟩
  | .local _ .vmem, ⟨24, _⟩ => ⟨S1x256x512, .bf16⟩
  | .local _ .vmem, ⟨25, _⟩ => ⟨S1x256x512, .bf16⟩
  | .local _ .vmem, ⟨26, _⟩ => ⟨S8x4096, .f32⟩
  | .local _ .vmem, ⟨27, _⟩ => ⟨S8x512, .f32⟩
  | .local _ .vmem, ⟨28, _⟩ => ⟨S256x4096, .f32⟩
  | .local _ .vmem, ⟨29, _⟩ => ⟨S8x4096, .f32⟩
  | .local _ .vmem, ⟨30, _⟩ => ⟨S8x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_0 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_2 : Ref sig .tc := ⟨.hbm, 68, rfl⟩
abbrev main_v51 : Ref sig .tc := ⟨.hbm, 69, rfl⟩
abbrev main_v52 : Ref sig .tc := ⟨.hbm, 70, rfl⟩
abbrev main_cst_3 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_c_4 : Ref sig .tc := ⟨.hbm, 121, rfl⟩
abbrev main_call0_v0 : Ref sig .tc := ⟨.hbm, 122, rfl⟩
abbrev main_call0_v1 : Ref sig .tc := ⟨.hbm, 123, rfl⟩
abbrev main_call0_v2 : Ref sig .tc := ⟨.hbm, 124, rfl⟩
abbrev main_call0_v3 : Ref sig .tc := ⟨.hbm, 125, rfl⟩
abbrev main_call0_v4 : Ref sig .tc := ⟨.hbm, 126, rfl⟩
abbrev main_call0_v5 : Ref sig .tc := ⟨.hbm, 127, rfl⟩
abbrev main_call0_v6 : Ref sig .tc := ⟨.hbm, 128, rfl⟩
abbrev main_call0_v7 : Ref sig .tc := ⟨.hbm, 129, rfl⟩
abbrev main_call0_v8 : Ref sig .tc := ⟨.hbm, 130, rfl⟩
abbrev main_call0_c : Ref sig .tc := ⟨.hbm, 131, rfl⟩
abbrev main_call0_v9 : Ref sig .tc := ⟨.hbm, 132, rfl⟩
abbrev main_call0_v10 : Ref sig .tc := ⟨.hbm, 133, rfl⟩
abbrev main_call0_v11 : Ref sig .tc := ⟨.hbm, 134, rfl⟩
abbrev main_call0_c_0 : Ref sig .tc := ⟨.hbm, 135, rfl⟩
abbrev main_call0_v12 : Ref sig .tc := ⟨.hbm, 136, rfl⟩
abbrev main_call0_v13 : Ref sig .tc := ⟨.hbm, 137, rfl⟩
abbrev main_v102 : Ref sig .tc := ⟨.hbm, 138, rfl⟩
abbrev main_v103 : Ref sig .tc := ⟨.hbm, 139, rfl⟩
abbrev main_c_5 : Ref sig .tc := ⟨.hbm, 140, rfl⟩
abbrev main_call1_v0 : Ref sig .tc := ⟨.hbm, 141, rfl⟩
abbrev main_call1_v1 : Ref sig .tc := ⟨.hbm, 142, rfl⟩
abbrev main_call1_v2 : Ref sig .tc := ⟨.hbm, 143, rfl⟩
abbrev main_call1_v3 : Ref sig .tc := ⟨.hbm, 144, rfl⟩
abbrev main_call1_v4 : Ref sig .tc := ⟨.hbm, 145, rfl⟩
abbrev main_call1_v5 : Ref sig .tc := ⟨.hbm, 146, rfl⟩
abbrev main_call1_v6 : Ref sig .tc := ⟨.hbm, 147, rfl⟩
abbrev main_call1_v7 : Ref sig .tc := ⟨.hbm, 148, rfl⟩
abbrev main_call1_v8 : Ref sig .tc := ⟨.hbm, 149, rfl⟩
abbrev main_call1_c : Ref sig .tc := ⟨.hbm, 150, rfl⟩
abbrev main_call1_v9 : Ref sig .tc := ⟨.hbm, 151, rfl⟩
abbrev main_call1_v10 : Ref sig .tc := ⟨.hbm, 152, rfl⟩
abbrev main_call1_v11 : Ref sig .tc := ⟨.hbm, 153, rfl⟩
abbrev main_call1_c_0 : Ref sig .tc := ⟨.hbm, 154, rfl⟩
abbrev main_call1_v12 : Ref sig .tc := ⟨.hbm, 155, rfl⟩
abbrev main_call1_v13 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_6 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_7 : Ref sig .tc := ⟨.hbm, 166, rfl⟩
abbrev main_call2_v0 : Ref sig .tc := ⟨.hbm, 167, rfl⟩
abbrev main_call2_v1 : Ref sig .tc := ⟨.hbm, 168, rfl⟩
abbrev main_call2_v2 : Ref sig .tc := ⟨.hbm, 169, rfl⟩
abbrev main_call2_v3 : Ref sig .tc := ⟨.hbm, 170, rfl⟩
abbrev main_call2_v4 : Ref sig .tc := ⟨.hbm, 171, rfl⟩
abbrev main_call2_v5 : Ref sig .tc := ⟨.hbm, 172, rfl⟩
abbrev main_call2_v6 : Ref sig .tc := ⟨.hbm, 173, rfl⟩
abbrev main_call2_v7 : Ref sig .tc := ⟨.hbm, 174, rfl⟩
abbrev main_call2_v8 : Ref sig .tc := ⟨.hbm, 175, rfl⟩
abbrev main_call2_c : Ref sig .tc := ⟨.hbm, 176, rfl⟩
abbrev main_call2_v9 : Ref sig .tc := ⟨.hbm, 177, rfl⟩
abbrev main_call2_v10 : Ref sig .tc := ⟨.hbm, 178, rfl⟩
abbrev main_call2_v11 : Ref sig .tc := ⟨.hbm, 179, rfl⟩
abbrev main_call2_c_0 : Ref sig .tc := ⟨.hbm, 180, rfl⟩
abbrev main_call2_v12 : Ref sig .tc := ⟨.hbm, 181, rfl⟩
abbrev main_call2_v13 : Ref sig .tc := ⟨.hbm, 182, rfl⟩
abbrev main_v112 : Ref sig .tc := ⟨.hbm, 183, rfl⟩
abbrev main_v113 : Ref sig .tc := ⟨.hbm, 184, rfl⟩
abbrev main_c_8 : Ref sig .tc := ⟨.hbm, 185, rfl⟩
abbrev main_call3_v0 : Ref sig .tc := ⟨.hbm, 186, rfl⟩
abbrev main_call3_v1 : Ref sig .tc := ⟨.hbm, 187, rfl⟩
abbrev main_call3_v2 : Ref sig .tc := ⟨.hbm, 188, rfl⟩
abbrev main_call3_v3 : Ref sig .tc := ⟨.hbm, 189, rfl⟩
abbrev main_call3_v4 : Ref sig .tc := ⟨.hbm, 190, rfl⟩
abbrev main_call3_v5 : Ref sig .tc := ⟨.hbm, 191, rfl⟩
abbrev main_call3_v6 : Ref sig .tc := ⟨.hbm, 192, rfl⟩
abbrev main_call3_v7 : Ref sig .tc := ⟨.hbm, 193, rfl⟩
abbrev main_call3_v8 : Ref sig .tc := ⟨.hbm, 194, rfl⟩
abbrev main_call3_c : Ref sig .tc := ⟨.hbm, 195, rfl⟩
abbrev main_call3_v9 : Ref sig .tc := ⟨.hbm, 196, rfl⟩
abbrev main_call3_v10 : Ref sig .tc := ⟨.hbm, 197, rfl⟩
abbrev main_call3_v11 : Ref sig .tc := ⟨.hbm, 198, rfl⟩
abbrev main_call3_c_0 : Ref sig .tc := ⟨.hbm, 199, rfl⟩
abbrev main_call3_v12 : Ref sig .tc := ⟨.hbm, 200, rfl⟩
abbrev main_call3_v13 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_cst_9 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_c_10 : Ref sig .tc := ⟨.hbm, 213, rfl⟩
abbrev main_call4_v0 : Ref sig .tc := ⟨.hbm, 214, rfl⟩
abbrev main_call4_v1 : Ref sig .tc := ⟨.hbm, 215, rfl⟩
abbrev main_call4_v2 : Ref sig .tc := ⟨.hbm, 216, rfl⟩
abbrev main_call4_v3 : Ref sig .tc := ⟨.hbm, 217, rfl⟩
abbrev main_call4_v4 : Ref sig .tc := ⟨.hbm, 218, rfl⟩
abbrev main_call4_v5 : Ref sig .tc := ⟨.hbm, 219, rfl⟩
abbrev main_call4_v6 : Ref sig .tc := ⟨.hbm, 220, rfl⟩
abbrev main_call4_v7 : Ref sig .tc := ⟨.hbm, 221, rfl⟩
abbrev main_call4_v8 : Ref sig .tc := ⟨.hbm, 222, rfl⟩
abbrev main_call4_c : Ref sig .tc := ⟨.hbm, 223, rfl⟩
abbrev main_call4_v9 : Ref sig .tc := ⟨.hbm, 224, rfl⟩
abbrev main_call4_v10 : Ref sig .tc := ⟨.hbm, 225, rfl⟩
abbrev main_call4_v11 : Ref sig .tc := ⟨.hbm, 226, rfl⟩
abbrev main_call4_c_0 : Ref sig .tc := ⟨.hbm, 227, rfl⟩
abbrev main_call4_v12 : Ref sig .tc := ⟨.hbm, 228, rfl⟩
abbrev main_call4_v13 : Ref sig .tc := ⟨.hbm, 229, rfl⟩
abbrev main_v124 : Ref sig .tc := ⟨.hbm, 230, rfl⟩
abbrev main_v125 : Ref sig .tc := ⟨.hbm, 231, rfl⟩
abbrev main_c_11 : Ref sig .tc := ⟨.hbm, 232, rfl⟩
abbrev main_call5_v0 : Ref sig .tc := ⟨.hbm, 233, rfl⟩
abbrev main_call5_v1 : Ref sig .tc := ⟨.hbm, 234, rfl⟩
abbrev main_call5_v2 : Ref sig .tc := ⟨.hbm, 235, rfl⟩
abbrev main_call5_v3 : Ref sig .tc := ⟨.hbm, 236, rfl⟩
abbrev main_call5_v4 : Ref sig .tc := ⟨.hbm, 237, rfl⟩
abbrev main_call5_v5 : Ref sig .tc := ⟨.hbm, 238, rfl⟩
abbrev main_call5_v6 : Ref sig .tc := ⟨.hbm, 239, rfl⟩
abbrev main_call5_v7 : Ref sig .tc := ⟨.hbm, 240, rfl⟩
abbrev main_call5_v8 : Ref sig .tc := ⟨.hbm, 241, rfl⟩
abbrev main_call5_c : Ref sig .tc := ⟨.hbm, 242, rfl⟩
abbrev main_call5_v9 : Ref sig .tc := ⟨.hbm, 243, rfl⟩
abbrev main_call5_v10 : Ref sig .tc := ⟨.hbm, 244, rfl⟩
abbrev main_call5_v11 : Ref sig .tc := ⟨.hbm, 245, rfl⟩
abbrev main_call5_c_0 : Ref sig .tc := ⟨.hbm, 246, rfl⟩
abbrev main_call5_v12 : Ref sig .tc := ⟨.hbm, 247, rfl⟩
abbrev main_call5_v13 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_cst_12 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_c_13 : Ref sig .tc := ⟨.hbm, 258, rfl⟩
abbrev main_call6_v0 : Ref sig .tc := ⟨.hbm, 259, rfl⟩
abbrev main_call6_v1 : Ref sig .tc := ⟨.hbm, 260, rfl⟩
abbrev main_call6_v2 : Ref sig .tc := ⟨.hbm, 261, rfl⟩
abbrev main_call6_v3 : Ref sig .tc := ⟨.hbm, 262, rfl⟩
abbrev main_call6_v4 : Ref sig .tc := ⟨.hbm, 263, rfl⟩
abbrev main_call6_v5 : Ref sig .tc := ⟨.hbm, 264, rfl⟩
abbrev main_call6_v6 : Ref sig .tc := ⟨.hbm, 265, rfl⟩
abbrev main_call6_v7 : Ref sig .tc := ⟨.hbm, 266, rfl⟩
abbrev main_call6_v8 : Ref sig .tc := ⟨.hbm, 267, rfl⟩
abbrev main_call6_c : Ref sig .tc := ⟨.hbm, 268, rfl⟩
abbrev main_call6_v9 : Ref sig .tc := ⟨.hbm, 269, rfl⟩
abbrev main_call6_v10 : Ref sig .tc := ⟨.hbm, 270, rfl⟩
abbrev main_call6_v11 : Ref sig .tc := ⟨.hbm, 271, rfl⟩
abbrev main_call6_c_0 : Ref sig .tc := ⟨.hbm, 272, rfl⟩
abbrev main_call6_v12 : Ref sig .tc := ⟨.hbm, 273, rfl⟩
abbrev main_call6_v13 : Ref sig .tc := ⟨.hbm, 274, rfl⟩
abbrev main_v134 : Ref sig .tc := ⟨.hbm, 275, rfl⟩
abbrev main_v135 : Ref sig .tc := ⟨.hbm, 276, rfl⟩
abbrev main_c_14 : Ref sig .tc := ⟨.hbm, 277, rfl⟩
abbrev main_call7_v0 : Ref sig .tc := ⟨.hbm, 278, rfl⟩
abbrev main_call7_v1 : Ref sig .tc := ⟨.hbm, 279, rfl⟩
abbrev main_call7_v2 : Ref sig .tc := ⟨.hbm, 280, rfl⟩
abbrev main_call7_v3 : Ref sig .tc := ⟨.hbm, 281, rfl⟩
abbrev main_call7_v4 : Ref sig .tc := ⟨.hbm, 282, rfl⟩
abbrev main_call7_v5 : Ref sig .tc := ⟨.hbm, 283, rfl⟩
abbrev main_call7_v6 : Ref sig .tc := ⟨.hbm, 284, rfl⟩
abbrev main_call7_v7 : Ref sig .tc := ⟨.hbm, 285, rfl⟩
abbrev main_call7_v8 : Ref sig .tc := ⟨.hbm, 286, rfl⟩
abbrev main_call7_c : Ref sig .tc := ⟨.hbm, 287, rfl⟩
abbrev main_call7_v9 : Ref sig .tc := ⟨.hbm, 288, rfl⟩
abbrev main_call7_v10 : Ref sig .tc := ⟨.hbm, 289, rfl⟩
abbrev main_call7_v11 : Ref sig .tc := ⟨.hbm, 290, rfl⟩
abbrev main_call7_c_0 : Ref sig .tc := ⟨.hbm, 291, rfl⟩
abbrev main_call7_v12 : Ref sig .tc := ⟨.hbm, 292, rfl⟩
abbrev main_call7_v13 : Ref sig .tc := ⟨.hbm, 293, rfl⟩
abbrev main_v136 : Ref sig .tc := ⟨.hbm, 294, rfl⟩
abbrev main_v137 : Ref sig .tc := ⟨.hbm, 295, rfl⟩
abbrev main_v138 : Ref sig .tc := ⟨.hbm, 296, rfl⟩
abbrev main_v139 : Ref sig .tc := ⟨.hbm, 297, rfl⟩
abbrev main_v140 : Ref sig .tc := ⟨.hbm, 298, rfl⟩
abbrev main_cst_15 : Ref sig .tc := ⟨.hbm, 299, rfl⟩
abbrev main_v141 : Ref sig .tc := ⟨.hbm, 300, rfl⟩
abbrev main_v142 : Ref sig .tc := ⟨.hbm, 301, rfl⟩
abbrev main_v143 : Ref sig .tc := ⟨.hbm, 302, rfl⟩
abbrev main_v144 : Ref sig .tc := ⟨.hbm, 303, rfl⟩
abbrev main_v145 : Ref sig .tc := ⟨.hbm, 304, rfl⟩
abbrev main_v146 : Ref sig .tc := ⟨.hbm, 305, rfl⟩
abbrev main_v147 : Ref sig .tc := ⟨.hbm, 306, rfl⟩
abbrev main_v148_0 : Ref sig .tc := ⟨.hbm, 307, rfl⟩
abbrev main_v148_1 : Ref sig .tc := ⟨.hbm, 308, rfl⟩
abbrev main_v148_2 : Ref sig .tc := ⟨.hbm, 309, rfl⟩
abbrev main_v148_3 : Ref sig .tc := ⟨.hbm, 310, rfl⟩
abbrev main_v148_4 : Ref sig .tc := ⟨.hbm, 311, rfl⟩
abbrev main_v148_5 : Ref sig .tc := ⟨.hbm, 312, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_41 : BitVec 32 := 0#32
  let c32_i32 : BitVec 32 := 32#32
  let v60 : BitVec 32 := Scalar.addi c0_i32_41 c32_i32
  let c1_i32 : BitVec 32 := 1#32
  ⟨c0_i32_41, v60, c1_i32⟩
def k0_mult1 (k0_t1 : Fin k0_t1_loop.trips) : BitVec 32 :=
  let c31_i32 : BitVec 32 := 31#32
  let c0_i32_41 : BitVec 32 := 0#32
  let c1_i32 : BitVec 32 := 1#32
  let arg22 : BitVec 32 := Scf.iv c0_i32_41 c1_i32 k0_t1
  let v340 : BitVec 32 := Scalar.subi c31_i32 arg22
  let c8_i32 : BitVec 32 := 8#32
  let v341 : BitVec 32 := Scalar.muli v340 c8_i32
  v341
def k0_off1 (k0_t1 : Fin k0_t1_loop.trips) : Fin 2 → Nat :=
  let c31_i32 : BitVec 32 := 31#32
  let c0_i32_41 : BitVec 32 := 0#32
  let c1_i32 : BitVec 32 := 1#32
  let arg22 : BitVec 32 := Scf.iv c0_i32_41 c1_i32 k0_t1
  let v340 : BitVec 32 := Scalar.subi c31_i32 arg22
  let c8_i32 : BitVec 32 := 8#32
  let v341 : BitVec 32 := Scalar.muli v340 c8_i32
  let v342 : BitVec 32 := v341
  let v343 : Index := Scalar.indexCast v342
  let c0_227 : Index := 0#32
  ![v343.toNat, 0]
def k0_off2 (k0_t1 : Fin k0_t1_loop.trips) : Fin 2 → Nat :=
  let c31_i32 : BitVec 32 := 31#32
  let c0_i32_41 : BitVec 32 := 0#32
  let c1_i32 : BitVec 32 := 1#32
  let arg22 : BitVec 32 := Scf.iv c0_i32_41 c1_i32 k0_t1
  let v340 : BitVec 32 := Scalar.subi c31_i32 arg22
  let c8_i32 : BitVec 32 := 8#32
  let v341 : BitVec 32 := Scalar.muli v340 c8_i32
  let v342 : BitVec 32 := v341
  let v345 : Index := Scalar.indexCast v342
  let c2048_228 : Index := 2048#32
  ![v345.toNat, 2048]
@[reducible] def k0_t2_loop : Scf.Loop 32 :=
  let c0_i32_65 : BitVec 32 := 0#32
  let c32_i32_66 : BitVec 32 := 32#32
  let v86 : BitVec 32 := Scalar.addi c0_i32_65 c32_i32_66
  let c1_i32_67 : BitVec 32 := 1#32
  ⟨c0_i32_65, v86, c1_i32_67⟩
def k0_mult2 (k0_t2 : Fin k0_t2_loop.trips) : BitVec 32 :=
  let c31_i32 : BitVec 32 := 31#32
  let c0_i32_65 : BitVec 32 := 0#32
  let c1_i32_67 : BitVec 32 := 1#32
  let arg22 : BitVec 32 := Scf.iv c0_i32_65 c1_i32_67 k0_t2
  let v340 : BitVec 32 := Scalar.subi c31_i32 arg22
  let c8_i32 : BitVec 32 := 8#32
  let v341 : BitVec 32 := Scalar.muli v340 c8_i32
  v341
def k0_off3 (k0_t2 : Fin k0_t2_loop.trips) : Fin 2 → Nat :=
  let c31_i32 : BitVec 32 := 31#32
  let c0_i32_65 : BitVec 32 := 0#32
  let c1_i32_67 : BitVec 32 := 1#32
  let arg22 : BitVec 32 := Scf.iv c0_i32_65 c1_i32_67 k0_t2
  let v340 : BitVec 32 := Scalar.subi c31_i32 arg22
  let c8_i32 : BitVec 32 := 8#32
  let v341 : BitVec 32 := Scalar.muli v340 c8_i32
  let v342 : BitVec 32 := v341
  let v343 : Index := Scalar.indexCast v342
  let c512_227 : Index := 512#32
  ![v343.toNat, 512]
def k0_off4 (k0_t2 : Fin k0_t2_loop.trips) : Fin 2 → Nat :=
  let c31_i32 : BitVec 32 := 31#32
  let c0_i32_65 : BitVec 32 := 0#32
  let c1_i32_67 : BitVec 32 := 1#32
  let arg22 : BitVec 32 := Scf.iv c0_i32_65 c1_i32_67 k0_t2
  let v340 : BitVec 32 := Scalar.subi c31_i32 arg22
  let c8_i32 : BitVec 32 := 8#32
  let v341 : BitVec 32 := Scalar.muli v340 c8_i32
  let v342 : BitVec 32 := v341
  let v345 : Index := Scalar.indexCast v342
  let c2560_228 : Index := 2560#32
  ![v345.toNat, 2560]
@[reducible] def k0_t3_loop : Scf.Loop 32 :=
  let c0_i32_93 : BitVec 32 := 0#32
  let c32_i32_94 : BitVec 32 := 32#32
  let v112 : BitVec 32 := Scalar.addi c0_i32_93 c32_i32_94
  let c1_i32_95 : BitVec 32 := 1#32
  ⟨c0_i32_93, v112, c1_i32_95⟩
def k0_mult3 (k0_t3 : Fin k0_t3_loop.trips) : BitVec 32 :=
  let c31_i32 : BitVec 32 := 31#32
  let c0_i32_93 : BitVec 32 := 0#32
  let c1_i32_95 : BitVec 32 := 1#32
  let arg22 : BitVec 32 := Scf.iv c0_i32_93 c1_i32_95 k0_t3
  let v340 : BitVec 32 := Scalar.subi c31_i32 arg22
  let c8_i32 : BitVec 32 := 8#32
  let v341 : BitVec 32 := Scalar.muli v340 c8_i32
  v341
def k0_off5 (k0_t3 : Fin k0_t3_loop.trips) : Fin 2 → Nat :=
  let c31_i32 : BitVec 32 := 31#32
  let c0_i32_93 : BitVec 32 := 0#32
  let c1_i32_95 : BitVec 32 := 1#32
  let arg22 : BitVec 32 := Scf.iv c0_i32_93 c1_i32_95 k0_t3
  let v340 : BitVec 32 := Scalar.subi c31_i32 arg22
  let c8_i32 : BitVec 32 := 8#32
  let v341 : BitVec 32 := Scalar.muli v340 c8_i32
  let v342 : BitVec 32 := v341
  let v343 : Index := Scalar.indexCast v342
  let c1024_227 : Index := 1024#32
  ![v343.toNat, 1024]
def k0_off6 (k0_t3 : Fin k0_t3_loop.trips) : Fin 2 → Nat :=
  let c31_i32 : BitVec 32 := 31#32
  let c0_i32_93 : BitVec 32 := 0#32
  let c1_i32_95 : BitVec 32 := 1#32
  let arg22 : BitVec 32 := Scf.iv c0_i32_93 c1_i32_95 k0_t3
  let v340 : BitVec 32 := Scalar.subi c31_i32 arg22
  let c8_i32 : BitVec 32 := 8#32
  let v341 : BitVec 32 := Scalar.muli v340 c8_i32
  let v342 : BitVec 32 := v341
  let v345 : Index := Scalar.indexCast v342
  let c3072_228 : Index := 3072#32
  ![v345.toNat, 3072]
@[reducible] def k0_t4_loop : Scf.Loop 32 :=
  let c0_i32_120 : BitVec 32 := 0#32
  let c32_i32_121 : BitVec 32 := 32#32
  let v138 : BitVec 32 := Scalar.addi c0_i32_120 c32_i32_121
  let c1_i32_122 : BitVec 32 := 1#32
  ⟨c0_i32_120, v138, c1_i32_122⟩
def k0_mult4 (k0_t4 : Fin k0_t4_loop.trips) : BitVec 32 :=
  let c31_i32 : BitVec 32 := 31#32
  let c0_i32_120 : BitVec 32 := 0#32
  let c1_i32_122 : BitVec 32 := 1#32
  let arg22 : BitVec 32 := Scf.iv c0_i32_120 c1_i32_122 k0_t4
  let v340 : BitVec 32 := Scalar.subi c31_i32 arg22
  let c8_i32 : BitVec 32 := 8#32
  let v341 : BitVec 32 := Scalar.muli v340 c8_i32
  v341
def k0_off7 (k0_t4 : Fin k0_t4_loop.trips) : Fin 2 → Nat :=
  let c31_i32 : BitVec 32 := 31#32
  let c0_i32_120 : BitVec 32 := 0#32
  let c1_i32_122 : BitVec 32 := 1#32
  let arg22 : BitVec 32 := Scf.iv c0_i32_120 c1_i32_122 k0_t4
  let v340 : BitVec 32 := Scalar.subi c31_i32 arg22
  let c8_i32 : BitVec 32 := 8#32
  let v341 : BitVec 32 := Scalar.muli v340 c8_i32
  let v342 : BitVec 32 := v341
  let v343 : Index := Scalar.indexCast v342
  let c1536_227 : Index := 1536#32
  ![v343.toNat, 1536]
def k0_off8 (k0_t4 : Fin k0_t4_loop.trips) : Fin 2 → Nat :=
  let c31_i32 : BitVec 32 := 31#32
  let c0_i32_120 : BitVec 32 := 0#32
  let c1_i32_122 : BitVec 32 := 1#32
  let arg22 : BitVec 32 := Scf.iv c0_i32_120 c1_i32_122 k0_t4
  let v340 : BitVec 32 := Scalar.subi c31_i32 arg22
  let c8_i32 : BitVec 32 := 8#32
  let v341 : BitVec 32 := Scalar.muli v340 c8_i32
  let v342 : BitVec 32 := v341
  let v345 : Index := Scalar.indexCast v342
  let c3584_228 : Index := 3584#32
  ![v345.toNat, 3584]
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x4096 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S2048x2048 : Shape := ⟨2, ![2048, 2048]⟩
abbrev S2048x4096 : Shape := ⟨2, ![2048, 4096]⟩
abbrev S2048x512 : Shape := ⟨2, ![2048, 512]⟩
abbrev S3x512 : Shape := ⟨2, ![3, 512]⟩
abbrev S512 : Shape := ⟨1, ![512]⟩
abbrev S32x16 : Shape := ⟨2, ![32, 16]⟩
abbrev S32x64 : Shape := ⟨2, ![32, 64]⟩
abbrev S32x64x16 : Shape := ⟨3, ![32, 64, 16]⟩
abbrev S32x16x64 : Shape := ⟨3, ![32, 16, 64]⟩
abbrev S_ : Shape := ⟨0, ![]⟩
abbrev S2048x32x16 : Shape := ⟨3, ![2048, 32, 16]⟩
abbrev S32x16x2048 : Shape := ⟨3, ![32, 16, 2048]⟩
abbrev S32x2048x64 : Shape := ⟨3, ![32, 2048, 64]⟩
abbrev S2048x32x64 : Shape := ⟨3, ![2048, 32, 64]⟩
abbrev S1x32x64 : Shape := ⟨3, ![1, 32, 64]⟩
abbrev S32x64x2048 : Shape := ⟨3, ![32, 64, 2048]⟩
abbrev S32x2048x16 : Shape := ⟨3, ![32, 2048, 16]⟩
abbrev S1x512 : Shape := ⟨2, ![1, 512]⟩
abbrev S2x512 : Shape := ⟨2, ![2, 512]⟩
abbrev S2046x512 : Shape := ⟨2, ![2046, 512]⟩
abbrev S2047x512 : Shape := ⟨2, ![2047, 512]⟩
abbrev S1x32x16 : Shape := ⟨3, ![1, 32, 16]⟩
abbrev S2047x4096 : Shape := ⟨2, ![2047, 4096]⟩
abbrev S256x8x4096 : Shape := ⟨3, ![256, 8, 4096]⟩
abbrev S1x2048 : Shape := ⟨2, ![1, 2048]⟩
abbrev S1x4096 : Shape := ⟨2, ![1, 4096]⟩
abbrev S8x4096 : Shape := ⟨2, ![8, 4096]⟩
abbrev S8x2048 : Shape := ⟨2, ![8, 2048]⟩
abbrev S256x8x2048 : Shape := ⟨3, ![256, 8, 2048]⟩
abbrev S1x8x2048 : Shape := ⟨3, ![1, 8, 2048]⟩
abbrev S8 : Shape := ⟨1, ![8]⟩
abbrev S8x1 : Shape := ⟨2, ![8, 1]⟩
abbrev S4096 : Shape := ⟨1, ![4096]⟩
abbrev S2048x64x64 : Shape := ⟨3, ![2048, 64, 64]⟩
abbrev S1x2048x4096 : Shape := ⟨3, ![1, 2048, 4096]⟩
abbrev S1x2048x512 : Shape := ⟨3, ![1, 2048, 512]⟩
abbrev S8x512 : Shape := ⟨2, ![8, 512]⟩

abbrev nBuf : Space → Nat
  | .hbm => 285
  | .vmem => 0
  | .smem => 0
  | _ => 0

abbrev hbmTy0_0 (i : Nat) : BufTy := match i % 128 with
  | 0 => ⟨S2048x2048, .f32⟩
  | 1 => ⟨S2048x4096, .bf16⟩
  | 2 => ⟨S2048x512, .f32⟩
  | 3 => ⟨S2048x512, .f32⟩
  | 4 => ⟨S3x512, .f32⟩
  | 5 => ⟨S512, .f32⟩
  | 6 => ⟨S32x16, .f32⟩
  | 7 => ⟨S32x64, .f32⟩
  | 8 => ⟨S32x64, .f32⟩
  | 9 => ⟨S32x64x16, .f32⟩
  | 10 => ⟨S32x64x16, .f32⟩
  | 11 => ⟨S32x16x64, .f32⟩
  | 12 => ⟨S32x16x64, .f32⟩
  | 13 => ⟨S_, .f32⟩
  | 14 => ⟨S32x64, .f32⟩
  | 15 => ⟨S2048x32x16, .f32⟩
  | 16 => ⟨S2048x32x16, .f32⟩
  | 17 => ⟨S32x16x2048, .f32⟩
  | 18 => ⟨S32x2048x64, .f32⟩
  | 19 => ⟨S2048x32x64, .f32⟩
  | 20 => ⟨S32x16x2048, .f32⟩
  | 21 => ⟨S32x2048x64, .f32⟩
  | 22 => ⟨S2048x32x64, .f32⟩
  | 23 => ⟨S_, .f32⟩
  | 24 => ⟨S32x64, .f32⟩
  | 25 => ⟨S_, .f32⟩
  | 26 => ⟨S32x64, .f32⟩
  | 27 => ⟨S_, .f32⟩
  | 28 => ⟨S2048x32x64, .f32⟩
  | 29 => ⟨S_, .f32⟩
  | 30 => ⟨S2048x32x64, .f32⟩
  | 31 => ⟨S_, .i32⟩
  | 32 => ⟨S2048x32x64, .f32⟩
  | 33 => ⟨S2048x32x64, .f32⟩
  | 34 => ⟨S32x64, .f32⟩
  | 35 => ⟨S32x64, .f32⟩
  | 36 => ⟨S_, .i32⟩
  | 37 => ⟨S32x64, .f32⟩
  | 38 => ⟨S32x64, .f32⟩
  | 39 => ⟨S2048x32x64, .f32⟩
  | 40 => ⟨S2048x32x64, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S1x32x64, .f32⟩
  | 50 => ⟨S32x64, .f32⟩
  | 51 => ⟨S_, .i32⟩
  | 52 => ⟨S_, .i32⟩
  | 53 => ⟨S1x32x64, .f32⟩
  | 54 => ⟨S32x64, .f32⟩
  | 55 => ⟨S32x64, .f32⟩
  | 56 => ⟨S32x64, .f32⟩
  | 57 => ⟨S32x64, .f32⟩
  | 58 => ⟨S32x64, .f32⟩
  | 59 => ⟨S32x64, .f32⟩
  | 60 => ⟨S32x64, .f32⟩
  | 61 => ⟨S32x64, .f32⟩
  | 62 => ⟨S32x64, .f32⟩
  | 63 => ⟨S32x64, .f32⟩
  | 64 => ⟨S1x32x64, .f32⟩
  | 65 => ⟨S_, .i32⟩
  | 66 => ⟨S_, .i32⟩
  | 67 => ⟨S2048x32x64, .f32⟩
  | 68 => ⟨S1x32x64, .f32⟩
  | 69 => ⟨S_, .i32⟩
  | 70 => ⟨S_, .i32⟩
  | 71 => ⟨S2048x32x64, .f32⟩
  | 72 => ⟨S_, .i32⟩
  | 73 => ⟨S_, .i32⟩
  | 74 => ⟨S32x64x2048, .f32⟩
  | 75 => ⟨S32x2048x16, .f32⟩
  | 76 => ⟨S2048x32x16, .f32⟩
  | 77 => ⟨S32x64x2048, .f32⟩
  | 78 => ⟨S32x2048x16, .f32⟩
  | 79 => ⟨S2048x32x16, .f32⟩
  | 80 => ⟨S2048x32x16, .f32⟩
  | 81 => ⟨S2048x512, .f32⟩
  | 82 => ⟨S2048x512, .f32⟩
  | 83 => ⟨S2048x512, .f32⟩
  | 84 => ⟨S2048x512, .f32⟩
  | 85 => ⟨S2048x512, .f32⟩
  | 86 => ⟨S2048x512, .f32⟩
  | 87 => ⟨S1x512, .f32⟩
  | 88 => ⟨S512, .f32⟩
  | 89 => ⟨S_, .f32⟩
  | 90 => ⟨S2x512, .f32⟩
  | 91 => ⟨S2046x512, .f32⟩
  | 92 => ⟨S2048x512, .f32⟩
  | 93 => ⟨S_, .f32⟩
  | 94 => ⟨S2x512, .f32⟩
  | 95 => ⟨S1x512, .f32⟩
  | 96 => ⟨S2048x512, .f32⟩
  | 97 => ⟨S2048x512, .f32⟩
  | 98 => ⟨S1x512, .f32⟩
  | 99 => ⟨S512, .f32⟩
  | 100 => ⟨S_, .f32⟩
  | 101 => ⟨S1x512, .f32⟩
  | 102 => ⟨S2047x512, .f32⟩
  | 103 => ⟨S2048x512, .f32⟩
  | 104 => ⟨S_, .f32⟩
  | 105 => ⟨S1x512, .f32⟩
  | 106 => ⟨S1x512, .f32⟩
  | 107 => ⟨S2048x512, .f32⟩
  | 108 => ⟨S2048x512, .f32⟩
  | 109 => ⟨S2048x512, .f32⟩
  | 110 => ⟨S1x512, .f32⟩
  | 111 => ⟨S512, .f32⟩
  | 112 => ⟨S1x512, .f32⟩
  | 113 => ⟨S2048x512, .f32⟩
  | 114 => ⟨S2048x512, .f32⟩
  | 115 => ⟨S2048x512, .f32⟩
  | 116 => ⟨S1x512, .f32⟩
  | 117 => ⟨S2048x512, .f32⟩
  | 118 => ⟨S2048x512, .f32⟩
  | 119 => ⟨S2048x512, .f32⟩
  | 120 => ⟨S2048x512, .f32⟩
  | 121 => ⟨S2048x512, .f32⟩
  | 122 => ⟨S_, .f32⟩
  | 123 => ⟨S512, .f32⟩
  | 124 => ⟨S1x512, .f32⟩
  | 125 => ⟨S_, .f32⟩
  | 126 => ⟨S512, .f32⟩
  | 127 => ⟨S2048x512, .f32⟩
  | _ => ⟨S2048x2048, .f32⟩

abbrev hbmTy0_1 (i : Nat) : BufTy := match i % 128 with
  | 0 => ⟨S2048x512, .f32⟩
  | 1 => ⟨S2048x512, .f32⟩
  | 2 => ⟨S_, .f32⟩
  | 3 => ⟨S512, .f32⟩
  | 4 => ⟨S1x512, .f32⟩
  | 5 => ⟨S_, .f32⟩
  | 6 => ⟨S512, .f32⟩
  | 7 => ⟨S1x512, .f32⟩
  | 8 => ⟨S_, .f32⟩
  | 9 => ⟨S3x512, .f32⟩
  | 10 => ⟨S2048x512, .f32⟩
  | 11 => ⟨S2048x512, .f32⟩
  | 12 => ⟨S2048x512, .f32⟩
  | 13 => ⟨S_, .f32⟩
  | 14 => ⟨S512, .f32⟩
  | 15 => ⟨S1x512, .f32⟩
  | 16 => ⟨S_, .f32⟩
  | 17 => ⟨S512, .f32⟩
  | 18 => ⟨S1x512, .f32⟩
  | 19 => ⟨S2047x512, .f32⟩
  | 20 => ⟨S_, .f32⟩
  | 21 => ⟨S2048x512, .f32⟩
  | 22 => ⟨S2048x512, .f32⟩
  | 23 => ⟨S1x512, .f32⟩
  | 24 => ⟨S_, .f32⟩
  | 25 => ⟨S3x512, .f32⟩
  | 26 => ⟨S3x512, .f32⟩
  | 27 => ⟨S2048x512, .f32⟩
  | 28 => ⟨S2048x512, .f32⟩
  | 29 => ⟨S2048x512, .f32⟩
  | 30 => ⟨S_, .f32⟩
  | 31 => ⟨S512, .f32⟩
  | 32 => ⟨S1x512, .f32⟩
  | 33 => ⟨S_, .f32⟩
  | 34 => ⟨S512, .f32⟩
  | 35 => ⟨S2x512, .f32⟩
  | 36 => ⟨S2046x512, .f32⟩
  | 37 => ⟨S_, .f32⟩
  | 38 => ⟨S2048x512, .f32⟩
  | 39 => ⟨S2048x512, .f32⟩
  | 40 => ⟨S1x512, .f32⟩
  | 41 => ⟨S_, .f32⟩
  | 42 => ⟨S3x512, .f32⟩
  | 43 => ⟨S3x512, .f32⟩
  | 44 => ⟨S2048x512, .f32⟩
  | 45 => ⟨S2048x512, .f32⟩
  | 46 => ⟨S2048x32x16, .f32⟩
  | 47 => ⟨S1x32x16, .f32⟩
  | 48 => ⟨S2048x32x16, .f32⟩
  | 49 => ⟨S2048x32x16, .f32⟩
  | 50 => ⟨S2048x512, .f32⟩
  | 51 => ⟨S2048x32x16, .f32⟩
  | 52 => ⟨S2048x32x16, .f32⟩
  | 53 => ⟨S2048x32x16, .f32⟩
  | 54 => ⟨S2048x32x16, .f32⟩
  | 55 => ⟨S_, .f32⟩
  | 56 => ⟨S32x16, .f32⟩
  | 57 => ⟨S1x32x16, .f32⟩
  | 58 => ⟨S_, .f32⟩
  | 59 => ⟨S32x16, .f32⟩
  | 60 => ⟨S2048x512, .f32⟩
  | 61 => ⟨S2048x512, .f32⟩
  | 62 => ⟨S2047x4096, .bf16⟩
  | 63 => ⟨S2047x4096, .f32⟩
  | 64 => ⟨S_, .i32⟩
  | 65 => ⟨S_, .f32⟩
  | 66 => ⟨S2048x4096, .f32⟩
  | 67 => ⟨S256x8x4096, .f32⟩
  | 68 => ⟨S1x2048, .f32⟩
  | 69 => ⟨S1x2048, .f32⟩
  | 70 => ⟨S1x4096, .f32⟩
  | 71 => ⟨S8x4096, .f32⟩
  | 72 => ⟨S8x2048, .f32⟩
  | 73 => ⟨S256x8x2048, .f32⟩
  | 74 => ⟨S1x8x2048, .f32⟩
  | 75 => ⟨S256x8x2048, .f32⟩
  | 76 => ⟨S256x8x2048, .f32⟩
  | 77 => ⟨S8x2048, .f32⟩
  | 78 => ⟨S256x8x2048, .f32⟩
  | 79 => ⟨S1x8x2048, .f32⟩
  | 80 => ⟨S256x8x2048, .f32⟩
  | 81 => ⟨S256x8x2048, .f32⟩
  | 82 => ⟨S256x8x2048, .f32⟩
  | 83 => ⟨S8x2048, .f32⟩
  | 84 => ⟨S256x8x2048, .f32⟩
  | 85 => ⟨S1x8x2048, .f32⟩
  | 86 => ⟨S256x8x2048, .f32⟩
  | 87 => ⟨S256x8x2048, .f32⟩
  | 88 => ⟨S8x2048, .f32⟩
  | 89 => ⟨S256x8x2048, .f32⟩
  | 90 => ⟨S1x8x2048, .f32⟩
  | 91 => ⟨S256x8x2048, .f32⟩
  | 92 => ⟨S256x8x2048, .f32⟩
  | 93 => ⟨S256x8x2048, .f32⟩
  | 94 => ⟨S256x8x2048, .f32⟩
  | 95 => ⟨S256x8x2048, .f32⟩
  | 96 => ⟨S256x8x2048, .f32⟩
  | 97 => ⟨S_, .f32⟩
  | 98 => ⟨S8x2048, .f32⟩
  | 99 => ⟨S1x8x2048, .f32⟩
  | 100 => ⟨S_, .f32⟩
  | 101 => ⟨S8x2048, .f32⟩
  | 102 => ⟨S_, .f32⟩
  | 103 => ⟨S8x4096, .f32⟩
  | 104 => ⟨S256x8x2048, .f32⟩
  | 105 => ⟨S_, .f32⟩
  | 106 => ⟨S8x2048, .f32⟩
  | 107 => ⟨S1x8x2048, .f32⟩
  | 108 => ⟨S_, .f32⟩
  | 109 => ⟨S8x2048, .f32⟩
  | 110 => ⟨S_, .f32⟩
  | 111 => ⟨S8x4096, .f32⟩
  | 112 => ⟨S8x4096, .f32⟩
  | 113 => ⟨S256x8x2048, .f32⟩
  | 114 => ⟨S256x8x2048, .f32⟩
  | 115 => ⟨S_, .f32⟩
  | 116 => ⟨S8x2048, .f32⟩
  | 117 => ⟨S1x8x2048, .f32⟩
  | 118 => ⟨S_, .f32⟩
  | 119 => ⟨S8x2048, .f32⟩
  | 120 => ⟨S_, .f32⟩
  | 121 => ⟨S8x4096, .f32⟩
  | 122 => ⟨S8x4096, .f32⟩
  | 123 => ⟨S256x8x2048, .f32⟩
  | 124 => ⟨S_, .f32⟩
  | 125 => ⟨S8x2048, .f32⟩
  | 126 => ⟨S1x8x2048, .f32⟩
  | 127 => ⟨S_, .f32⟩
  | _ => ⟨S2048x2048, .f32⟩

abbrev hbmTy0_2 (i : Nat) : BufTy := match i % 128 with
  | 0 => ⟨S8x2048, .f32⟩
  | 1 => ⟨S_, .f32⟩
  | 2 => ⟨S8x4096, .f32⟩
  | 3 => ⟨S8x4096, .f32⟩
  | 4 => ⟨S8, .i32⟩
  | 5 => ⟨S8x1, .i32⟩
  | 6 => ⟨S_, .i32⟩
  | 7 => ⟨S8x1, .i32⟩
  | 8 => ⟨S8x1, .i1⟩
  | 9 => ⟨S_, .f32⟩
  | 10 => ⟨S4096, .f32⟩
  | 11 => ⟨S1x4096, .f32⟩
  | 12 => ⟨S8x4096, .i1⟩
  | 13 => ⟨S8x4096, .f32⟩
  | 14 => ⟨S8x4096, .f32⟩
  | 15 => ⟨S2048x2048, .f32⟩
  | 16 => ⟨S2048x2048, .bf16⟩
  | 17 => ⟨S2048x64x64, .f32⟩
  | 18 => ⟨S2048x64x64, .bf16⟩
  | 19 => ⟨S1x2048x4096, .bf16⟩
  | 20 => ⟨S2048x512, .bf16⟩
  | 21 => ⟨S1x2048x512, .bf16⟩
  | 22 => ⟨S2048x512, .bf16⟩
  | 23 => ⟨S1x2048x512, .bf16⟩
  | 24 => ⟨S1x512, .f32⟩
  | 25 => ⟨S1x512, .f32⟩
  | 26 => ⟨S_, .f32⟩
  | 27 => ⟨S3x512, .f32⟩
  | 28 => ⟨S8x512, .f32⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_c : Ref sig .tc := ⟨.hbm, 31, rfl⟩
abbrev main_v13_0 : Ref sig .tc := ⟨.hbm, 32, rfl⟩
abbrev main_v13_1 : Ref sig .tc := ⟨.hbm, 33, rfl⟩
abbrev main_v13_2 : Ref sig .tc := ⟨.hbm, 34, rfl⟩
abbrev main_v13_3 : Ref sig .tc := ⟨.hbm, 35, rfl⟩
abbrev main_v13_4 : Ref sig .tc := ⟨.hbm, 36, rfl⟩
abbrev main_v13_5 : Ref sig .tc := ⟨.hbm, 37, rfl⟩
abbrev main_v13_6 : Ref sig .tc := ⟨.hbm, 38, rfl⟩
abbrev main_v13_7 : Ref sig .tc := ⟨.hbm, 39, rfl⟩
abbrev main_v13_8 : Ref sig .tc := ⟨.hbm, 40, rfl⟩
abbrev main_while0c_c_47 : Ref sig .tc := ⟨.hbm, 41, rfl⟩
abbrev main_while0c_v187 : Ref sig .tc := ⟨.hbm, 42, rfl⟩
abbrev main_while0b_c_47 : Ref sig .tc := ⟨.hbm, 43, rfl⟩
abbrev main_while0b_v187 : Ref sig .tc := ⟨.hbm, 44, rfl⟩
abbrev main_while0b_c_48 : Ref sig .tc := ⟨.hbm, 45, rfl⟩
abbrev main_while0b_v188 : Ref sig .tc := ⟨.hbm, 46, rfl⟩
abbrev main_while0b_call0_c : Ref sig .tc := ⟨.hbm, 47, rfl⟩
abbrev main_while0b_call0_c_0 : Ref sig .tc := ⟨.hbm, 48, rfl⟩
abbrev main_while0b_call0_v0 : Ref sig .tc := ⟨.hbm, 49, rfl⟩
abbrev main_while0b_v189 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_call1_v0 : Ref sig .tc := ⟨.hbm, 53, rfl⟩
abbrev main_while0b_v190 : Ref sig .tc := ⟨.hbm, 54, rfl⟩
abbrev main_while0b_v191 : Ref sig .tc := ⟨.hbm, 55, rfl⟩
abbrev main_while0b_v192 : Ref sig .tc := ⟨.hbm, 56, rfl⟩
abbrev main_while0b_v193 : Ref sig .tc := ⟨.hbm, 57, rfl⟩
abbrev main_while0b_v194 : Ref sig .tc := ⟨.hbm, 58, rfl⟩
abbrev main_while0b_v195 : Ref sig .tc := ⟨.hbm, 59, rfl⟩
abbrev main_while0b_v196 : Ref sig .tc := ⟨.hbm, 60, rfl⟩
abbrev main_while0b_v197 : Ref sig .tc := ⟨.hbm, 61, rfl⟩
abbrev main_while0b_v198 : Ref sig .tc := ⟨.hbm, 62, rfl⟩
abbrev main_while0b_v199 : Ref sig .tc := ⟨.hbm, 63, rfl⟩
abbrev main_while0b_call2_v0 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_v200 : Ref sig .tc := ⟨.hbm, 67, rfl⟩
abbrev main_while0b_call3_v0 : Ref sig .tc := ⟨.hbm, 68, rfl⟩
abbrev main_while0b_call3_c : Ref sig .tc := ⟨.hbm, 69, rfl⟩
abbrev main_while0b_call3_c_0 : Ref sig .tc := ⟨.hbm, 70, rfl⟩
abbrev main_while0b_v201 : Ref sig .tc := ⟨.hbm, 71, rfl⟩
abbrev main_while0b_c_49 : Ref sig .tc := ⟨.hbm, 72, rfl⟩
abbrev main_while0b_v202 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_cst_4 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_cst_5 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_cst_6 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_cst_7 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_cst_8 : Ref sig .tc := ⟨.hbm, 122, rfl⟩
abbrev main_v58 : Ref sig .tc := ⟨.hbm, 123, rfl⟩
abbrev main_v59 : Ref sig .tc := ⟨.hbm, 124, rfl⟩
abbrev main_cst_9 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_cst_10 : Ref sig .tc := ⟨.hbm, 130, rfl⟩
abbrev main_v64 : Ref sig .tc := ⟨.hbm, 131, rfl⟩
abbrev main_v65 : Ref sig .tc := ⟨.hbm, 132, rfl⟩
abbrev main_cst_11 : Ref sig .tc := ⟨.hbm, 133, rfl⟩
abbrev main_v66 : Ref sig .tc := ⟨.hbm, 134, rfl⟩
abbrev main_v67 : Ref sig .tc := ⟨.hbm, 135, rfl⟩
abbrev main_cst_12 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_cst_13 : Ref sig .tc := ⟨.hbm, 141, rfl⟩
abbrev main_v72 : Ref sig .tc := ⟨.hbm, 142, rfl⟩
abbrev main_v73 : Ref sig .tc := ⟨.hbm, 143, rfl⟩
abbrev main_cst_14 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_cst_15 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_cst_16 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_cst_17 : Ref sig .tc := ⟨.hbm, 158, rfl⟩
abbrev main_v85 : Ref sig .tc := ⟨.hbm, 159, rfl⟩
abbrev main_v86 : Ref sig .tc := ⟨.hbm, 160, rfl⟩
abbrev main_cst_18 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_cst_19 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_cst_20 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_cst_21 : Ref sig .tc := ⟨.hbm, 183, rfl⟩
abbrev main_v106 : Ref sig .tc := ⟨.hbm, 184, rfl⟩
abbrev main_v107 : Ref sig .tc := ⟨.hbm, 185, rfl⟩
abbrev main_cst_22 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_c_23 : Ref sig .tc := ⟨.hbm, 192, rfl⟩
abbrev main_call4_v0 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_cst_24 : Ref sig .tc := ⟨.hbm, 225, rfl⟩
abbrev main_v144 : Ref sig .tc := ⟨.hbm, 226, rfl⟩
abbrev main_v145 : Ref sig .tc := ⟨.hbm, 227, rfl⟩
abbrev main_cst_25 : Ref sig .tc := ⟨.hbm, 228, rfl⟩
abbrev main_v146 : Ref sig .tc := ⟨.hbm, 229, rfl⟩
abbrev main_cst_26 : Ref sig .tc := ⟨.hbm, 230, rfl⟩
abbrev main_v147 : Ref sig .tc := ⟨.hbm, 231, rfl⟩
abbrev main_v148 : Ref sig .tc := ⟨.hbm, 232, rfl⟩
abbrev main_cst_27 : Ref sig .tc := ⟨.hbm, 233, rfl⟩
abbrev main_v149 : Ref sig .tc := ⟨.hbm, 234, rfl⟩
abbrev main_v150 : Ref sig .tc := ⟨.hbm, 235, rfl⟩
abbrev main_cst_28 : Ref sig .tc := ⟨.hbm, 236, rfl⟩
abbrev main_v151 : Ref sig .tc := ⟨.hbm, 237, rfl⟩
abbrev main_cst_29 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_cst_30 : Ref sig .tc := ⟨.hbm, 243, rfl⟩
abbrev main_v156 : Ref sig .tc := ⟨.hbm, 244, rfl⟩
abbrev main_v157 : Ref sig .tc := ⟨.hbm, 245, rfl⟩
abbrev main_cst_31 : Ref sig .tc := ⟨.hbm, 246, rfl⟩
abbrev main_v158 : Ref sig .tc := ⟨.hbm, 247, rfl⟩
abbrev main_cst_32 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_cst_33 : Ref sig .tc := ⟨.hbm, 252, rfl⟩
abbrev main_v162 : Ref sig .tc := ⟨.hbm, 253, rfl⟩
abbrev main_v163 : Ref sig .tc := ⟨.hbm, 254, rfl⟩
abbrev main_cst_34 : Ref sig .tc := ⟨.hbm, 255, rfl⟩
abbrev main_v164 : Ref sig .tc := ⟨.hbm, 256, rfl⟩
abbrev main_cst_35 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_c_36 : Ref sig .tc := ⟨.hbm, 262, rfl⟩
abbrev main_v169 : Ref sig .tc := ⟨.hbm, 263, rfl⟩
abbrev main_v170 : Ref sig .tc := ⟨.hbm, 264, rfl⟩
abbrev main_cst_37 : Ref sig .tc := ⟨.hbm, 265, rfl⟩
abbrev main_v171 : Ref sig .tc := ⟨.hbm, 266, rfl⟩
abbrev main_v172 : Ref sig .tc := ⟨.hbm, 267, rfl⟩
abbrev main_call5_v0 : Ref sig .tc := ⟨.hbm, 268, rfl⟩
abbrev main_call5_v1 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_cst_38 : Ref sig .tc := ⟨.hbm, 282, rfl⟩
abbrev main_v185 : Ref sig .tc := ⟨.hbm, 283, rfl⟩
abbrev main_v186 : Ref sig .tc := ⟨.hbm, 284, rfl⟩

abbrev nD : Nat := 1
abbrev τ : Topo := Topo.v7x

variable {F : FTy → Type} [FloatOps F]

abbrev main_while0_count : Scf.Loop 32 := ⟨0#32, 2048#32, 1#32⟩
-- ==== Wgrad.lean ====
abbrev S3x2048x2816 : Shape := ⟨3, ![3, 2048, 2816]⟩
abbrev S2x2048x1024 : Shape := ⟨3, ![2, 2048, 1024]⟩
abbrev S3x2816x1024 : Shape := ⟨3, ![3, 2816, 1024]⟩
abbrev S1x2048x256 : Shape := ⟨3, ![1, 2048, 256]⟩
abbrev S1x2048x1024 : Shape := ⟨3, ![1, 2048, 1024]⟩
abbrev S1x256x1024 : Shape := ⟨3, ![1, 256, 1024]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S3x2048x2816, .bf16⟩
  | .hbm, ⟨1, _⟩ => ⟨S2x2048x1024, .bf16⟩
  | .hbm, ⟨2, _⟩ => ⟨S3x2816x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x256x1024, .bf16⟩
  | .local _ .vmem, ⟨5, _⟩ => ⟨S1x256x1024, .bf16⟩
  | _, _ => ⟨S3x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 11, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== WgradReferenceIdeal.lean ====
abbrev S3x2048x2816 : Shape := ⟨3, ![3, 2048, 2816]⟩
abbrev S2x2048x1024 : Shape := ⟨3, ![2, 2048, 1024]⟩
abbrev S1x2048x2816 : Shape := ⟨3, ![1, 2048, 2816]⟩
abbrev S2048x2816 : Shape := ⟨2, ![2048, 2816]⟩
abbrev S1x2048x1024 : Shape := ⟨3, ![1, 2048, 1024]⟩
abbrev S2048x1024 : Shape := ⟨2, ![2048, 1024]⟩
abbrev S_ : Shape := ⟨0, ![]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩

abbrev nBuf : Space → Nat
  | .hbm => 37
  | .vmem => 0
  | .smem => 0
  | _ => 0

abbrev bufTy : (tb : Table) → Fin (tcTables nBuf tb) → BufTy
  | .hbm, ⟨0, _⟩ => ⟨S3x2048x2816, .bf16⟩
  | .hbm, ⟨1, _⟩ => ⟨S2x2048x1024, .bf16⟩
  | .hbm, ⟨2, _⟩ => ⟨S1x2048x2816, .bf16⟩
  | .hbm, ⟨3, _⟩ => ⟨S2048x2816, .bf16⟩
  | .hbm, ⟨4, _⟩ => ⟨S2048x2816, .f32⟩
  | .hbm, ⟨5, _⟩ => ⟨S1x2048x2816, .bf16⟩
  | .hbm, ⟨6, _⟩ => ⟨S2048x2816, .bf16⟩
  | .hbm, ⟨7, _⟩ => ⟨S2048x2816, .f32⟩
  | .hbm, ⟨8, _⟩ => ⟨S1x2048x2816, .bf16⟩
  | .hbm, ⟨9, _⟩ => ⟨S2048x2816, .bf16⟩
  | .hbm, ⟨10, _⟩ => ⟨S2048x2816, .f32⟩
  | .hbm, ⟨11, _⟩ => ⟨S1x2048x1024, .bf16⟩
  | .hbm, ⟨12, _⟩ => ⟨S2048x1024, .bf16⟩
  | .hbm, ⟨13, _⟩ => ⟨S2048x1024, .f32⟩
  | .hbm, ⟨14, _⟩ => ⟨S1x2048x1024, .bf16⟩
  | .hbm, ⟨15, _⟩ => ⟨S2048x1024, .bf16⟩
  | .hbm, ⟨16, _⟩ => ⟨S2048x1024, .f32⟩
  | .hbm, ⟨17, _⟩ => ⟨S_, .f32⟩
  | .hbm, ⟨18, _⟩ => ⟨S1024x2816, .f32⟩
  | .hbm, ⟨19, _⟩ => ⟨S_, .f32⟩
  | .hbm, ⟨20, _⟩ => ⟨S2816x1024, .f32⟩
  | .hbm, ⟨21, _⟩ => ⟨S2048x2816, .f32⟩
  | .hbm, ⟨22, _⟩ => ⟨S2816x1024, .f32⟩
  | .hbm, ⟨23, _⟩ => ⟨S1024x2816, .f32⟩
  | .hbm, ⟨24, _⟩ => ⟨S2048x2816, .f32⟩
  | .hbm, ⟨25, _⟩ => ⟨S2816x1024, .f32⟩
  | .hbm, ⟨26, _⟩ => ⟨S1024x2816, .f32⟩
  | .hbm, ⟨27, _⟩ => ⟨S2048x1024, .f32⟩
  | .hbm, ⟨28, _⟩ => ⟨S1024x2816, .f32⟩
  | .hbm, ⟨29, _⟩ => ⟨S2816x1024, .f32⟩
  | .hbm, ⟨30, _⟩ => ⟨S2816x1024, .f32⟩
  | .hbm, ⟨31, _⟩ => ⟨S2816x1024, .f32⟩
  | .hbm, ⟨32, _⟩ => ⟨S1x2816x1024, .f32⟩
  | .hbm, ⟨33, _⟩ => ⟨S1x2816x1024, .f32⟩
  | .hbm, ⟨34, _⟩ => ⟨S1x2816x1024, .f32⟩
  | .hbm, ⟨35, _⟩ => ⟨S3x2816x1024, .f32⟩
  | .hbm, ⟨36, _⟩ => ⟨S3x2816x1024, .bf16⟩
  | _, _ => ⟨S3x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Win.lean ====
abbrev S1x2048x2048 : Shape := ⟨3, ![1, 2048, 2048]⟩
abbrev S1x2048x1024 : Shape := ⟨3, ![1, 2048, 1024]⟩
abbrev S1x2048x256 : Shape := ⟨3, ![1, 2048, 256]⟩
abbrev S1x256x1024 : Shape := ⟨3, ![1, 256, 1024]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x1024, .bf16⟩
  | .hbm, ⟨2, _⟩ => ⟨S1x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x1024, .bf16⟩
  | .local _ .vmem, ⟨3, _⟩ => ⟨S1x256x1024, .bf16⟩
  | .local _ .vmem, ⟨4, _⟩ => ⟨S1x256x1024, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== WinReferenceIdeal.lean ====
abbrev S1x2048x2048 : Shape := ⟨3, ![1, 2048, 2048]⟩
abbrev S1x2048x1024 : Shape := ⟨3, ![1, 2048, 1024]⟩
abbrev S_ : Shape := ⟨0, ![]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x1024, .bf16⟩
  | .hbm, ⟨2, _⟩ => ⟨S_, .f32⟩
  | .hbm, ⟨3, _⟩ => ⟨S1024x2048, .f32⟩
  | .hbm, ⟨4, _⟩ => ⟨S2048x1024, .bf16⟩
  | .hbm, ⟨5, _⟩ => ⟨S2048x1024, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S2048x1024, .f32⟩
  | .hbm, ⟨12, _⟩ => ⟨S2048x1024, .bf16⟩
  | .hbm, ⟨13, _⟩ => ⟨S1x2048x1024, .bf16⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Wout.lean ====
abbrev S1x2048x1024 : Shape := ⟨3, ![1, 2048, 1024]⟩
abbrev S1x1024x1024 : Shape := ⟨3, ![1, 1024, 1024]⟩
abbrev S1x2048x256 : Shape := ⟨3, ![1, 2048, 256]⟩
abbrev S1x256x1024 : Shape := ⟨3, ![1, 256, 1024]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x1024, .bf16⟩
  | .hbm, ⟨2, _⟩ => ⟨S1x1024x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x1024, .bf16⟩
  | .local _ .vmem, ⟨3, _⟩ => ⟨S1x256x1024, .bf16⟩
  | .local _ .vmem, ⟨4, _⟩ => ⟨S1x256x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== WoutReferenceIdeal.lean ====
abbrev S1x2048x1024 : Shape := ⟨3, ![1, 2048, 1024]⟩
abbrev S_ : Shape := ⟨0, ![]⟩
abbrev S1024x1024 : Shape := ⟨2, ![1024, 1024]⟩
abbrev S2048x1024 : Shape := ⟨2, ![2048, 1024]⟩
abbrev S1x1024x1024 : Shape := ⟨3, ![1, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x1024, .bf16⟩
  | .hbm, ⟨2, _⟩ => ⟨S_, .f32⟩
  | .hbm, ⟨3, _⟩ => ⟨S1024x1024, .f32⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1x1024x1024, .bf16⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Glu.lean ====
abbrev S1x2048x512 : Shape := ⟨3, ![1, 2048, 512]⟩
abbrev S1x512x512 : Shape := ⟨3, ![1, 512, 512]⟩
abbrev S1x2048x256 : Shape := ⟨3, ![1, 2048, 256]⟩
abbrev S1x256x512 : Shape := ⟨3, ![1, 256, 512]⟩
abbrev S2048x256 : Shape := ⟨2, ![2048, 256]⟩
abbrev S2048x512 : Shape := ⟨2, ![2048, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x512, .bf16⟩
  | .hbm, ⟨1, _⟩ => ⟨S1x2048x512, .bf16⟩
  | .hbm, ⟨2, _⟩ => ⟨S1x512x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x512, .bf16⟩
  | .local _ .vmem, ⟨3, _⟩ => ⟨S1x256x512, .bf16⟩
  | .local _ .vmem, ⟨4, _⟩ => ⟨S1x256x512, .bf16⟩
  | _, _ => ⟨S1x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== GluReferenceIdeal.lean ====
abbrev S1x2048x512 : Shape := ⟨3, ![1, 2048, 512]⟩
abbrev S_ : Shape := ⟨0, ![]⟩
abbrev S512x512 : Shape := ⟨2, ![512, 512]⟩
abbrev S2048x512 : Shape := ⟨2, ![2048, 512]⟩
abbrev S1x512x512 : Shape := ⟨3, ![1, 512, 512]⟩

abbrev nBuf : Space → Nat
  | .hbm => 13
  | .vmem => 0
  | .smem => 0
  | _ => 0

abbrev bufTy : (tb : Table) → Fin (tcTables nBuf tb) → BufTy
  | .hbm, ⟨0, _⟩ => ⟨S1x2048x512, .bf16⟩
  | .hbm, ⟨1, _⟩ => ⟨S1x2048x512, .bf16⟩
  | .hbm, ⟨2, _⟩ => ⟨S_, .f32⟩
  | .hbm, ⟨3, _⟩ => ⟨S512x512, .f32⟩
  | .hbm, ⟨4, _⟩ => ⟨S2048x512, .bf16⟩
  | .hbm, ⟨5, _⟩ => ⟨S2048x512, .f32⟩
  | .hbm, ⟨6, _⟩ => ⟨S2048x512, .f32⟩
  | .hbm, ⟨7, _⟩ => ⟨S2048x512, .bf16⟩
  | .hbm, ⟨8, _⟩ => ⟨S2048x512, .f32⟩
  | .hbm, ⟨9, _⟩ => ⟨S512x512, .f32⟩
  | .hbm, ⟨10, _⟩ => ⟨S512x512, .f32⟩
  | .hbm, ⟨11, _⟩ => ⟨S512x512, .bf16⟩
  | .hbm, ⟨12, _⟩ => ⟨S1x512x512, .bf16⟩
  | _, _ => ⟨S1x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Ple.lean ====
abbrev S1x2048x1024 : Shape := ⟨3, ![1, 2048, 1024]⟩
abbrev S1x2048x256 : Shape := ⟨3, ![1, 2048, 256]⟩
abbrev S1x1024x256 : Shape := ⟨3, ![1, 1024, 256]⟩
abbrev S1x256x256 : Shape := ⟨3, ![1, 256, 256]⟩
abbrev S2048x256 : Shape := ⟨2, ![2048, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x256, .bf16⟩
  | .hbm, ⟨2, _⟩ => ⟨S1x1024x256, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x256x256, .bf16⟩
  | .local _ .vmem, ⟨4, _⟩ => ⟨S1x256x256, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== PleReferenceIdeal.lean ====
abbrev S1x2048x1024 : Shape := ⟨3, ![1, 2048, 1024]⟩
abbrev S1x2048x256 : Shape := ⟨3, ![1, 2048, 256]⟩
abbrev S_ : Shape := ⟨0, ![]⟩
abbrev S256x1024 : Shape := ⟨2, ![256, 1024]⟩
abbrev S2048x256 : Shape := ⟨2, ![2048, 256]⟩
abbrev S2048x1024 : Shape := ⟨2, ![2048, 1024]⟩
abbrev S1024x256 : Shape := ⟨2, ![1024, 256]⟩
abbrev S1x1024x256 : Shape := ⟨3, ![1, 1024, 256]⟩

abbrev nBuf : Space → Nat
  | .hbm => 14
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x256, .bf16⟩
  | .hbm, ⟨2, _⟩ => ⟨S_, .f32⟩
  | .hbm, ⟨3, _⟩ => ⟨S256x1024, .f32⟩
  | .hbm, ⟨4, _⟩ => ⟨S2048x256, .bf16⟩
  | .hbm, ⟨5, _⟩ => ⟨S2048x256, .f32⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S1024x256, .f32⟩
  | .hbm, ⟨10, _⟩ => ⟨S256x1024, .f32⟩
  | .hbm, ⟨11, _⟩ => ⟨S1024x256, .f32⟩
  | .hbm, ⟨12, _⟩ => ⟨S1024x256, .bf16⟩
  | .hbm, ⟨13, _⟩ => ⟨S1x1024x256, .bf16⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Fwd.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x2816x1024 : Shape := ⟨3, ![1, 2816, 1024]⟩
abbrev S3x2816x1024 : Shape := ⟨3, ![3, 2816, 1024]⟩
abbrev S2x2048x2816 : Shape := ⟨3, ![2, 2048, 2816]⟩
abbrev S2x256x1024 : Shape := ⟨3, ![2, 256, 1024]⟩
abbrev S1x256x1024 : Shape := ⟨3, ![1, 256, 1024]⟩
abbrev S2x2048x256 : Shape := ⟨3, ![2, 2048, 256]⟩
abbrev S2048 : Shape := ⟨1, ![2048]⟩
abbrev S2048x1 : Shape := ⟨2, ![2048, 1]⟩
abbrev S2048x256 : Shape := ⟨2, ![2048, 256]⟩
abbrev S1x2048x256 : Shape := ⟨3, ![1, 2048, 256]⟩
abbrev S256x1024 : Shape := ⟨2, ![256, 1024]⟩
abbrev S512x1024 : Shape := ⟨2, ![512, 1024]⟩
abbrev S2048x512 : Shape := ⟨2, ![2048, 512]⟩

abbrev nBuf : Space → Nat
  | .hbm => 15
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S2816x1024, .f32⟩
  | .hbm, ⟨8, _⟩ => ⟨S1x2816x1024, .f32⟩
  | .hbm, ⟨9, _⟩ => ⟨S1x2816x1024, .f32⟩
  | .hbm, ⟨10, _⟩ => ⟨S1x2816x1024, .f32⟩
  | .hbm, ⟨11, _⟩ => ⟨S3x2816x1024, .f32⟩
  | .hbm, ⟨12, _⟩ => ⟨S3x2816x1024, .bf16⟩
  | .hbm, ⟨13, _⟩ => ⟨S2048x1024, .f32⟩
  | .hbm, ⟨14, _⟩ => ⟨S2x2048x2816, .bf16⟩
  | .local _ .vmem, ⟨0, _⟩ => ⟨S2048x1024, .f32⟩
  | .local _ .vmem, ⟨1, _⟩ => ⟨S1x1024, .f32⟩
  | .local _ .vmem, ⟨2, _⟩ => ⟨S2x256x1024, .bf16⟩
  | .local _ .vmem, ⟨3, _⟩ => ⟨S2x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S2048x1024, .f32⟩
  | .local _ .vmem, ⟨8, _⟩ => ⟨S2x2048x256, .bf16⟩
  | .local _ .vmem, ⟨9, _⟩ => ⟨S2x2048x256, .bf16⟩
  | .local _ .vmem, ⟨10, _⟩ => ⟨S2048x1024, .bf16⟩
  | .local _ .vmem, ⟨11, _⟩ => ⟨S2x2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![1, 11], ![false, false]⟩

def k0_off1 (i : grid0.Coords) : Fin 3 → Nat :=
  let arg1 : BitVec 32 := BitVec.ofNat 32 (i 1).val
  let c1_i32 : BitVec 32 := 1#32
  let v5 : BitVec 32 := Scalar.addi arg1 c1_i32
  let c2_i32 : BitVec 32 := 2#32
  let c0_i32_2 : BitVec 32 := 0#32
  let v6 : BitVec 1 := Scalar.cmpi .eq c2_i32 c0_i32_2
  let c1_i32_3 : BitVec 32 := 1#32
  let v7 : BitVec 32 := Scalar.select v6 c1_i32_3 c2_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let v16 : Index := Scalar.indexCast v15
  let c0_7 : Index := 0#32
  let c0_8 : Index := 0#32
  ![v16.toNat, 0, 0]
def k0_off2 (i : grid0.Coords) : Fin 3 → Nat :=
  let arg1 : BitVec 32 := BitVec.ofNat 32 (i 1).val
  let c2_i32_24 : BitVec 32 := 2#32
  let c0_i32_25 : BitVec 32 := 0#32
  let v43 : BitVec 1 := Scalar.cmpi .eq c2_i32_24 c0_i32_25
  let c1_i32_26 : BitVec 32 := 1#32
  let v44 : BitVec 32 := Scalar.select v43 c1_i32_26 c2_i32_24
  let v45 : BitVec 32 := Scalar.remsi arg1 v44
  let c0_i32_28 : BitVec 32 := 0#32
  let v47 : BitVec 1 := Scalar.cmpi .slt v45 c0_i32_28
  let c0_i32_29 : BitVec 32 := 0#32
  let v48 : BitVec 1 := Scalar.cmpi .slt v44 c0_i32_29
  let v49 : BitVec 1 := Scalar.xori v47 v48
  let c0_i32_27 : BitVec 32 := 0#32
  let v46 : BitVec 1 := Scalar.cmpi .ne v45 c0_i32_27
  let v50 : BitVec 1 := Scalar.andi v49 v46
  let v51 : BitVec 32 := Scalar.addi v45 v44
  let v52 : BitVec 32 := Scalar.select v50 v51 v45
  let v53 : Index := Scalar.indexCast v52
  let c0_30 : Index := 0#32
  let c0_31 : Index := 0#32
  ![v53.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![c2_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c10_i32 : BitVec 32 := 10#32
  let c0_i32 : BitVec 32 := 0#32
  let c0_i32_0 : BitVec 32 := 0#32
  ![c2_i32.toNat, c10_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S2x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FwdReferenceIdeal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S1x2048x2816 : Shape := ⟨3, ![1, 2048, 2816]⟩
abbrev S2x2048x2816 : Shape := ⟨3, ![2, 2048, 2816]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S_, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x2816, .f32⟩
  | .hbm, ⟨55, _⟩ => ⟨S2048x2816, .f32⟩
  | .hbm, ⟨56, _⟩ => ⟨S1x2048x2816, .f32⟩
  | .hbm, ⟨57, _⟩ => ⟨S1x2048x2816, .f32⟩
  | .hbm, ⟨58, _⟩ => ⟨S2x2048x2816, .f32⟩
  | .hbm, ⟨59, _⟩ => ⟨S2x2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== InFwd.lean ====
abbrev S2048x1024 : Shape := ⟨2, ![2048, 1024]⟩
abbrev S1024 : Shape := ⟨1, ![1024]⟩
abbrev S1024x2048 : Shape := ⟨2, ![1024, 2048]⟩
abbrev S1x1024 : Shape := ⟨2, ![1, 1024]⟩
abbrev S1x2048x1024 : Shape := ⟨3, ![1, 2048, 1024]⟩
abbrev S2048x2048 : Shape := ⟨2, ![2048, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S1x2048x1024, .bf16⟩
  | .hbm, ⟨7, _⟩ => ⟨S2048x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x2048x1024, .bf16⟩
  | .local _ .vmem, ⟨4, _⟩ => ⟨S512x2048, .f32⟩
  | .local _ .vmem, ⟨5, _⟩ => ⟨S512x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InFwdReferenceIdeal.lean ====
abbrev S2048x1024 : Shape := ⟨2, ![2048, 1024]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2048 : Shape := ⟨2, ![2048, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== PleFwd.lean ====
abbrev S2048x1024 : Shape := ⟨2, ![2048, 1024]⟩
abbrev S1024 : Shape := ⟨1, ![1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S1x1024x1024 : Shape := ⟨3, ![1, 1024, 1024]⟩
abbrev S1024x256 : Shape := ⟨2, ![1024, 256]⟩
abbrev S1x2048x1024 : Shape := ⟨3, ![1, 2048, 1024]⟩
abbrev S1x2048x256 : Shape := ⟨3, ![1, 2048, 256]⟩
abbrev S512x1024 : Shape := ⟨2, ![512, 1024]⟩
abbrev S512x256 : Shape := ⟨2, ![512, 256]⟩
abbrev S1x512x1024 : Shape := ⟨3, ![1, 512, 1024]⟩
abbrev S1x512x256 : Shape := ⟨3, ![1, 512, 256]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x256, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S1x1024x1024, .bf16⟩
  | .hbm, ⟨8, _⟩ => ⟨S1024x256, .f32⟩
  | .hbm, ⟨9, _⟩ => ⟨S1024x256, .bf16⟩
  | .hbm, ⟨10, _⟩ => ⟨S2048x1024, .f32⟩
  | .hbm, ⟨11, _⟩ => ⟨S1x2048x1024, .bf16⟩
  | .hbm, ⟨12, _⟩ => ⟨S1x2048x256, .bf16⟩
  | .hbm, ⟨13, _⟩ => ⟨S2048x1024, .bf16⟩
  | .hbm, ⟨14, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x256, .f32⟩
  | .local _ .vmem, ⟨4, _⟩ => ⟨S512x256, .f32⟩
  | .local _ .vmem, ⟨5, _⟩ => ⟨S1x1024x1024, .bf16⟩
  | .local _ .vmem, ⟨6, _⟩ => ⟨S1024x256, .bf16⟩
  | .local _ .vmem, ⟨7, _⟩ => ⟨S512x1024, .f32⟩
  | .local _ .vmem, ⟨8, _⟩ => ⟨S512x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1x512x256, .bf16⟩
  | .local _ .vmem, ⟨12, _⟩ => ⟨S1x512x256, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PleFwdReferenceIdeal.lean ====
abbrev S2048x1024 : Shape := ⟨2, ![2048, 1024]⟩
abbrev S1024 : Shape := ⟨1, ![1024]⟩
abbrev S2048x256 : Shape := ⟨2, ![2048, 256]⟩
abbrev S1024x1024 : Shape := ⟨2, ![1024, 1024]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x2048x1024 : Shape := ⟨3, ![1, 2048, 1024]⟩
abbrev S1x2048x256 : Shape := ⟨3, ![1, 2048, 256]⟩

abbrev nBuf : Space → Nat
  | .hbm => 39
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x256, .f32⟩
  | .hbm, ⟨3, _⟩ => ⟨S1024x1024, .f32⟩
  | .hbm, ⟨4, _⟩ => ⟨S256x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | .hbm, ⟨34, _⟩ => ⟨S1x2048x1024, .bf16⟩
  | .hbm, ⟨35, _⟩ => ⟨S2048x256, .bf16⟩
  | .hbm, ⟨36, _⟩ => ⟨S1x2048x256, .bf16⟩
  | .hbm, ⟨37, _⟩ => ⟨S2048x1024, .bf16⟩
  | .hbm, ⟨38, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== MixFwd.lean ====
abbrev S2048x1024 : Shape := ⟨2, ![2048, 1024]⟩
abbrev S2048x512 : Shape := ⟨2, ![2048, 512]⟩
abbrev S512x512 : Shape := ⟨2, ![512, 512]⟩
abbrev S512 : Shape := ⟨1, ![512]⟩
abbrev S1024x1024 : Shape := ⟨2, ![1024, 1024]⟩
abbrev S1x512 : Shape := ⟨2, ![1, 512]⟩
abbrev S1x1024x1024 : Shape := ⟨3, ![1, 1024, 1024]⟩
abbrev S512x1024 : Shape := ⟨2, ![512, 1024]⟩
abbrev S512x1 : Shape := ⟨2, ![512, 1]⟩
abbrev S1x512x1024 : Shape := ⟨3, ![1, 512, 1024]⟩

abbrev nBuf : Space → Nat
  | .hbm => 15
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S512x512, .bf16⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1024x1024, .bf16⟩
  | .hbm, ⟨13, _⟩ => ⟨S1x1024x1024, .bf16⟩
  | .hbm, ⟨14, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x1024x1024, .bf16⟩
  | .local _ .vmem, ⟨11, _⟩ => ⟨S512x1024, .f32⟩
  | .local _ .vmem, ⟨12, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixFwdReferenceIdeal.lean ====
abbrev S2048x1024 : Shape := ⟨2, ![2048, 1024]⟩
abbrev S2048x512 : Shape := ⟨2, ![2048, 512]⟩
abbrev S512x512 : Shape := ⟨2, ![512, 512]⟩
abbrev S512 : Shape := ⟨1, ![512]⟩
abbrev S1024x1024 : Shape := ⟨2, ![1024, 1024]⟩
abbrev S_ : Shape := ⟨0, ![]⟩
abbrev S1x512 : Shape := ⟨2, ![1, 512]⟩
abbrev S2048 : Shape := ⟨1, ![2048]⟩
abbrev S2048x1 : Shape := ⟨2, ![2048, 1]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S1x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1, .f32⟩
  | .hbm, ⟨49, _⟩ => ⟨S2048x512, .f32⟩
  | .hbm, ⟨50, _⟩ => ⟨S2048x512, .f32⟩
  | .hbm, ⟨51, _⟩ => ⟨S1x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x1, .f32⟩
  | .hbm, ⟨65, _⟩ => ⟨S2048x512, .f32⟩
  | .hbm, ⟨66, _⟩ => ⟨S2048x512, .f32⟩
  | .hbm, ⟨67, _⟩ => ⟨S1x512, .f32⟩
  | .hbm, ⟨68, _⟩ => ⟨S2048x512, .f32⟩
  | .hbm, ⟨69, _⟩ => ⟨S2048x512, .f32⟩
  | .hbm, ⟨70, _⟩ => ⟨S2048x1024, .f32⟩
  | .hbm, ⟨71, _⟩ => ⟨S2048x1024, .f32⟩
  | .hbm, ⟨72, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== InBwd.lean ====
abbrev S2048x1024 : Shape := ⟨2, ![2048, 1024]⟩
abbrev S1024 : Shape := ⟨1, ![1024]⟩
abbrev S2048x2048 : Shape := ⟨2, ![2048, 2048]⟩
abbrev S1024x2048 : Shape := ⟨2, ![1024, 2048]⟩
abbrev S1x1024 : Shape := ⟨2, ![1, 1024]⟩
abbrev S1x2048x1024 : Shape := ⟨3, ![1, 2048, 1024]⟩
abbrev S512x1024 : Shape := ⟨2, ![512, 1024]⟩
abbrev S512x2048 : Shape := ⟨2, ![512, 2048]⟩
abbrev S1x512x1024 : Shape := ⟨3, ![1, 512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x2048, .bf16⟩
  | .hbm, ⟨4, _⟩ => ⟨S1024x2048, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x2048x1024, .bf16⟩
  | .hbm, ⟨9, _⟩ => ⟨S2048x1024, .f32⟩
  | .hbm, ⟨10, _⟩ => ⟨S1x2048x1024, .bf16⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x2048, .bf16⟩
  | .local _ .vmem, ⟨6, _⟩ => ⟨S512x2048, .bf16⟩
  | .local _ .vmem, ⟨7, _⟩ => ⟨S1x2048x1024, .bf16⟩
  | .local _ .vmem, ⟨8, _⟩ => ⟨S512x1024, .f32⟩
  | .local _ .vmem, ⟨9, _⟩ => ⟨S512x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_23 : BitVec 32 := 0#32
  let v45 : BitVec 1 := Scalar.cmpi .ne v44 c0_i32_23
  v45

def k0_cond2 (i : grid0.Coords) : BitVec 1 :=
  let arg0 : BitVec 32 := BitVec.ofNat 32 (i 0).val
  let c0_i32 : BitVec 32 := 0#32
  let v43 : BitVec 1 := Scalar.cmpi .eq arg0 c0_i32
  let v_true : BitVec 1 := 1#1
  let v46 : BitVec 1 := Scalar.xori v43 v_true
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InBwdReferenceIdeal.lean ====
abbrev S2048x1024 : Shape := ⟨2, ![2048, 1024]⟩
abbrev S1024 : Shape := ⟨1, ![1024]⟩
abbrev S2048x2048 : Shape := ⟨2, ![2048, 2048]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x2048x1024 : Shape := ⟨3, ![1, 2048, 1024]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x2048, .bf16⟩
  | .hbm, ⟨4, _⟩ => ⟨S1024x2048, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x2048, .f32⟩
  | .hbm, ⟨26, _⟩ => ⟨S2048x2048, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S1x1024, .f32⟩
  | .hbm, ⟨68, _⟩ => ⟨S2048x1024, .f32⟩
  | .hbm, ⟨69, _⟩ => ⟨S2048x1024, .f32⟩
  | .hbm, ⟨70, _⟩ => ⟨S2048x1024, .bf16⟩
  | .hbm, ⟨71, _⟩ => ⟨S1x2048x1024, .bf16⟩
  | .hbm, ⟨72, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== PleBwd.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩
abbrev S1x2048x1024 : Shape := ⟨3, ![1, 2048, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .hbm, ⟨5, _⟩ => ⟨S1024x1024, .f32⟩
  | .hbm, ⟨6, _⟩ => ⟨S1x1024, .f32⟩
  | .hbm, ⟨7, _⟩ => ⟨S1024x1024, .bf16⟩
  | .hbm, ⟨8, _⟩ => ⟨S1x1024x1024, .bf16⟩
  | .hbm, ⟨9, _⟩ => ⟨S2048x1024, .f32⟩
  | .hbm, ⟨10, _⟩ => ⟨S1x2048x1024, .bf16⟩
  | .hbm, ⟨11, _⟩ => ⟨S1x2048x1024, .bf16⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x1024x1024, .bf16⟩
  | .local _ .vmem, ⟨10, _⟩ => ⟨S512x1024, .f32⟩
  | .local _ .vmem, ⟨11, _⟩ => ⟨S512x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v59 : BitVec 1 := Scalar.cmpi .eq arg0 c0_i32
  let v60 : BitVec 32 := Scalar.extui v59
  let c0_i32_30 : BitVec 32 := 0#32
  let v61 : BitVec 1 := Scalar.cmpi .ne v60 c0_i32_30
  v61

def k0_cond2 (i : grid0.Coords) : BitVec 1 :=
  let arg0 : BitVec 32 := BitVec.ofNat 32 (i 0).val
  let c0_i32 : BitVec 32 := 0#32
  let v59 : BitVec 1 := Scalar.cmpi .eq arg0 c0_i32
  let v_true : BitVec 1 := 1#1
  let v62 : BitVec 1 := Scalar.xori v59 v_true
  let v63 : BitVec 32 := Scalar.extui v62
  let c0_i32_31 : BitVec 32 := 0#32
  let v64 : BitVec 1 := Scalar.cmpi .ne v63 c0_i32_31
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PleBwdReferenceIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x2048x1024 : Shape := ⟨3, ![1, 2048, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .bf16⟩
  | .hbm, ⟨73, _⟩ => ⟨S1x2048x1024, .bf16⟩
  | .hbm, ⟨74, _⟩ => ⟨S2048x1024, .bf16⟩
  | .hbm, ⟨75, _⟩ => ⟨S1x2048x1024, .bf16⟩
  | .hbm, ⟨76, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Ad1.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Ad1Ideal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Ad1ReferenceIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ad2.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Ad2Ideal.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Ad2ReferenceIdeal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ad3.lean ====
abbrev S128x64 : Shape := ⟨2, ![128, 64]⟩

abbrev nBuf : Space → Nat
  | .hbm => 14
  | .vmem => 14
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S128x64, .f32⟩
  | .hbm, ⟨12, _⟩ => ⟨S128x64, .f32⟩
  | .hbm, ⟨13, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .vmem, ⟨13, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Ad3Ideal.lean ====
abbrev S128x64 : Shape := ⟨2, ![128, 64]⟩

abbrev nBuf : Space → Nat
  | .hbm => 14
  | .vmem => 14
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S128x64, .f32⟩
  | .hbm, ⟨12, _⟩ => ⟨S128x64, .f32⟩
  | .hbm, ⟨13, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .vmem, ⟨13, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Ad3ReferenceIdeal.lean ====
abbrev S128x64 : Shape := ⟨2, ![128, 64]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S_, .f32⟩
  | .hbm, ⟨9, _⟩ => ⟨S128x64, .f32⟩
  | .hbm, ⟨10, _⟩ => ⟨S128x64, .f32⟩
  | .hbm, ⟨11, _⟩ => ⟨S_, .f32⟩
  | .hbm, ⟨12, _⟩ => ⟨S128x64, .f32⟩
  | .hbm, ⟨13, _⟩ => ⟨S128x64, .f32⟩
  | .hbm, ⟨14, _⟩ => ⟨S128x64, .f32⟩
  | .hbm, ⟨15, _⟩ => ⟨S_, .f32⟩
  | .hbm, ⟨16, _⟩ => ⟨S128x64, .f32⟩
  | .hbm, ⟨17, _⟩ => ⟨S128x64, .f32⟩
  | .hbm, ⟨18, _⟩ => ⟨S128x64, .f32⟩
  | .hbm, ⟨19, _⟩ => ⟨S_, .f32⟩
  | .hbm, ⟨20, _⟩ => ⟨S128x64, .f32⟩
  | .hbm, ⟨21, _⟩ => ⟨S128x64, .f32⟩
  | .hbm, ⟨22, _⟩ => ⟨S128x64, .f32⟩
  | .hbm, ⟨23, _⟩ => ⟨S_, .f32⟩
  | .hbm, ⟨24, _⟩ => ⟨S128x64, .f32⟩
  | .hbm, ⟨25, _⟩ => ⟨S128x64, .f32⟩
  | .hbm, ⟨26, _⟩ => ⟨S_, .f32⟩
  | .hbm, ⟨27, _⟩ => ⟨S128x64, .f32⟩
  | .hbm, ⟨28, _⟩ => ⟨S128x64, .f32⟩
  | .hbm, ⟨29, _⟩ => ⟨S128x64, .f32⟩
  | .hbm, ⟨30, _⟩ => ⟨S_, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S_, .f32⟩
  | .hbm, ⟨35, _⟩ => ⟨S128x64, .f32⟩
  | .hbm, ⟨36, _⟩ => ⟨S128x64, .f32⟩
  | .hbm, ⟨37, _⟩ => ⟨S128x64, .f32⟩
  | .hbm, ⟨38, _⟩ => ⟨S_, .f32⟩
  | .hbm, ⟨39, _⟩ => ⟨S128x64, .f32⟩
  | .hbm, ⟨40, _⟩ => ⟨S128x64, .f32⟩
  | .hbm, ⟨41, _⟩ => ⟨S_, .f32⟩
  | .hbm, ⟨42, _⟩ => ⟨S128x64, .f32⟩
  | .hbm, ⟨43, _⟩ => ⟨S128x64, .f32⟩
  | .hbm, ⟨44, _⟩ => ⟨S_, .f32⟩
  | .hbm, ⟨45, _⟩ => ⟨S128x64, .f32⟩
  | .hbm, ⟨46, _⟩ => ⟨S128x64, .f32⟩
  | .hbm, ⟨47, _⟩ => ⟨S128x64, .f32⟩
  | .hbm, ⟨48, _⟩ => ⟨S_, .f32⟩
  | .hbm, ⟨49, _⟩ => ⟨S128x64, .f32⟩
  | .hbm, ⟨50, _⟩ => ⟨S128x64, .f32⟩
  | .hbm, ⟨51, _⟩ => ⟨S128x64, .f32⟩
  | .hbm, ⟨52, _⟩ => ⟨S_, .f32⟩
  | .hbm, ⟨53, _⟩ => ⟨S128x64, .f32⟩
  | .hbm, ⟨54, _⟩ => ⟨S128x64, .f32⟩
  | .hbm, ⟨55, _⟩ => ⟨S128x64, .f32⟩
  | .hbm, ⟨56, _⟩ => ⟨S_, .f32⟩
  | .hbm, ⟨57, _⟩ => ⟨S128x64, .f32⟩
  | .hbm, ⟨58, _⟩ => ⟨S128x64, .f32⟩
  | .hbm, ⟨59, _⟩ => ⟨S_, .f32⟩
  | .hbm, ⟨60, _⟩ => ⟨S128x64, .f32⟩
  | .hbm, ⟨61, _⟩ => ⟨S128x64, .f32⟩
  | .hbm, ⟨62, _⟩ => ⟨S128x64, .f32⟩
  | .hbm, ⟨63, _⟩ => ⟨S_, .f32⟩
  | .hbm, ⟨64, _⟩ => ⟨S128x64, .f32⟩
  | .hbm, ⟨65, _⟩ => ⟨S128x64, .f32⟩
  | .hbm, ⟨66, _⟩ => ⟨S128x64, .f32⟩
  | .hbm, ⟨67, _⟩ => ⟨S_, .f32⟩
  | .hbm, ⟨68, _⟩ => ⟨S128x64, .f32⟩
  | .hbm, ⟨69, _⟩ => ⟨S128x64, .f32⟩
  | .hbm, ⟨70, _⟩ => ⟨S128x64, .f32⟩
  | .hbm, ⟨71, _⟩ => ⟨S_, .f32⟩
  | .hbm, ⟨72, _⟩ => ⟨S128x64, .f32⟩
  | .hbm, ⟨73, _⟩ => ⟨S128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Ad4.lean ====
abbrev S2048x64 : Shape := ⟨2, ![2048, 64]⟩
abbrev S512x64 : Shape := ⟨2, ![512, 64]⟩

abbrev nBuf : Space → Nat
  | .hbm => 7
  | .vmem => 14
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S2048x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Ad4Ideal.lean ====
abbrev S2048x64 : Shape := ⟨2, ![2048, 64]⟩
abbrev S512x64 : Shape := ⟨2, ![512, 64]⟩

abbrev nBuf : Space → Nat
  | .hbm => 7
  | .vmem => 14
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S2048x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Ad4ReferenceIdeal.lean ====
abbrev S2048x64 : Shape := ⟨2, ![2048, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048x64, .f32⟩
  | .hbm, ⟨4, _⟩ => ⟨S_, .f32⟩
  | .hbm, ⟨5, _⟩ => ⟨S2048x64, .f32⟩
  | .hbm, ⟨6, _⟩ => ⟨S2048x64, .f32⟩
  | .hbm, ⟨7, _⟩ => ⟨S_, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S_, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S_, .f32⟩
  | .hbm, ⟨20, _⟩ => ⟨S2048x64, .f32⟩
  | .hbm, ⟨21, _⟩ => ⟨S2048x64, .f32⟩
  | .hbm, ⟨22, _⟩ => ⟨S_, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S_, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S_, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S_, .f32⟩
  | .hbm, ⟨35, _⟩ => ⟨S2048x64, .f32⟩
  | .hbm, ⟨36, _⟩ => ⟨S2048x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ad5.lean ====
abbrev S128x16 : Shape := ⟨2, ![128, 16]⟩

abbrev nBuf : Space → Nat
  | .hbm => 7
  | .vmem => 7
  | .smem => 0
  | _ => 0

abbrev bufTy : (tb : Table) → Fin (tcTables nBuf tb) → BufTy
  | .hbm, ⟨0, _⟩ => ⟨S128x16, .f32⟩
  | .hbm, ⟨1, _⟩ => ⟨S128x16, .f32⟩
  | .hbm, ⟨2, _⟩ => ⟨S128x16, .f32⟩
  | .hbm, ⟨3, _⟩ => ⟨S128x16, .f32⟩
  | .hbm, ⟨4, _⟩ => ⟨S128x16, .f32⟩
  | .hbm, ⟨5, _⟩ => ⟨S128x16, .f32⟩
  | .hbm, ⟨6, _⟩ => ⟨S128x16, .f32⟩
  | .local _ .vmem, ⟨0, _⟩ => ⟨S128x16, .f32⟩
  | .local _ .vmem, ⟨1, _⟩ => ⟨S128x16, .f32⟩
  | .local _ .vmem, ⟨2, _⟩ => ⟨S128x16, .f32⟩
  | .local _ .vmem, ⟨3, _⟩ => ⟨S128x16, .f32⟩
  | .local _ .vmem, ⟨4, _⟩ => ⟨S128x16, .f32⟩
  | .local _ .vmem, ⟨5, _⟩ => ⟨S128x16, .f32⟩
  | .local _ .vmem, ⟨6, _⟩ => ⟨S128x16, .f32⟩
  | _, _ => ⟨S128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Ad5Ideal.lean ====
abbrev S128x16 : Shape := ⟨2, ![128, 16]⟩

abbrev nBuf : Space → Nat
  | .hbm => 7
  | .vmem => 7
  | .smem => 0
  | _ => 0

abbrev bufTy : (tb : Table) → Fin (tcTables nBuf tb) → BufTy
  | .hbm, ⟨0, _⟩ => ⟨S128x16, .f32⟩
  | .hbm, ⟨1, _⟩ => ⟨S128x16, .f32⟩
  | .hbm, ⟨2, _⟩ => ⟨S128x16, .f32⟩
  | .hbm, ⟨3, _⟩ => ⟨S128x16, .f32⟩
  | .hbm, ⟨4, _⟩ => ⟨S128x16, .f32⟩
  | .hbm, ⟨5, _⟩ => ⟨S128x16, .f32⟩
  | .hbm, ⟨6, _⟩ => ⟨S128x16, .f32⟩
  | .local _ .vmem, ⟨0, _⟩ => ⟨S128x16, .f32⟩
  | .local _ .vmem, ⟨1, _⟩ => ⟨S128x16, .f32⟩
  | .local _ .vmem, ⟨2, _⟩ => ⟨S128x16, .f32⟩
  | .local _ .vmem, ⟨3, _⟩ => ⟨S128x16, .f32⟩
  | .local _ .vmem, ⟨4, _⟩ => ⟨S128x16, .f32⟩
  | .local _ .vmem, ⟨5, _⟩ => ⟨S128x16, .f32⟩
  | .local _ .vmem, ⟨6, _⟩ => ⟨S128x16, .f32⟩
  | _, _ => ⟨S128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Ad5ReferenceIdeal.lean ====
abbrev S128x16 : Shape := ⟨2, ![128, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x16, .f32⟩
  | .hbm, ⟨1, _⟩ => ⟨S128x16, .f32⟩
  | .hbm, ⟨2, _⟩ => ⟨S128x16, .f32⟩
  | .hbm, ⟨3, _⟩ => ⟨S128x16, .f32⟩
  | .hbm, ⟨4, _⟩ => ⟨S_, .f32⟩
  | .hbm, ⟨5, _⟩ => ⟨S128x16, .f32⟩
  | .hbm, ⟨6, _⟩ => ⟨S128x16, .f32⟩
  | .hbm, ⟨7, _⟩ => ⟨S_, .f32⟩
  | .hbm, ⟨8, _⟩ => ⟨S128x16, .f32⟩
  | .hbm, ⟨9, _⟩ => ⟨S128x16, .f32⟩
  | .hbm, ⟨10, _⟩ => ⟨S128x16, .f32⟩
  | .hbm, ⟨11, _⟩ => ⟨S_, .f32⟩
  | .hbm, ⟨12, _⟩ => ⟨S128x16, .f32⟩
  | .hbm, ⟨13, _⟩ => ⟨S128x16, .f32⟩
  | .hbm, ⟨14, _⟩ => ⟨S128x16, .f32⟩
  | .hbm, ⟨15, _⟩ => ⟨S_, .f32⟩
  | .hbm, ⟨16, _⟩ => ⟨S128x16, .f32⟩
  | .hbm, ⟨17, _⟩ => ⟨S128x16, .f32⟩
  | .hbm, ⟨18, _⟩ => ⟨S128x16, .f32⟩
  | .hbm, ⟨19, _⟩ => ⟨S_, .f32⟩
  | .hbm, ⟨20, _⟩ => ⟨S128x16, .f32⟩
  | .hbm, ⟨21, _⟩ => ⟨S128x16, .f32⟩
  | .hbm, ⟨22, _⟩ => ⟨S_, .f32⟩
  | .hbm, ⟨23, _⟩ => ⟨S128x16, .f32⟩
  | .hbm, ⟨24, _⟩ => ⟨S128x16, .f32⟩
  | .hbm, ⟨25, _⟩ => ⟨S128x16, .f32⟩
  | .hbm, ⟨26, _⟩ => ⟨S_, .f32⟩
  | .hbm, ⟨27, _⟩ => ⟨S128x16, .f32⟩
  | .hbm, ⟨28, _⟩ => ⟨S128x16, .f32⟩
  | .hbm, ⟨29, _⟩ => ⟨S128x16, .f32⟩
  | .hbm, ⟨30, _⟩ => ⟨S_, .f32⟩
  | .hbm, ⟨31, _⟩ => ⟨S128x16, .f32⟩
  | .hbm, ⟨32, _⟩ => ⟨S128x16, .f32⟩
  | .hbm, ⟨33, _⟩ => ⟨S128x16, .f32⟩
  | .hbm, ⟨34, _⟩ => ⟨S_, .f32⟩
  | .hbm, ⟨35, _⟩ => ⟨S128x16, .f32⟩
  | .hbm, ⟨36, _⟩ => ⟨S128x16, .f32⟩
  | _, _ => ⟨S128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ad6.lean ====
abbrev S4x32 : Shape := ⟨2, ![4, 32]⟩

abbrev nBuf : Space → Nat
  | .hbm => 7
  | .vmem => 7
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Ad6Ideal.lean ====
abbrev S4x32 : Shape := ⟨2, ![4, 32]⟩

abbrev nBuf : Space → Nat
  | .hbm => 7
  | .vmem => 7
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Ad6ReferenceIdeal.lean ====
abbrev S4x32 : Shape := ⟨2, ![4, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S_, .f32⟩
  | .hbm, ⟨5, _⟩ => ⟨S4x32, .f32⟩
  | .hbm, ⟨6, _⟩ => ⟨S4x32, .f32⟩
  | .hbm, ⟨7, _⟩ => ⟨S_, .f32⟩
  | .hbm, ⟨8, _⟩ => ⟨S4x32, .f32⟩
  | .hbm, ⟨9, _⟩ => ⟨S4x32, .f32⟩
  | .hbm, ⟨10, _⟩ => ⟨S4x32, .f32⟩
  | .hbm, ⟨11, _⟩ => ⟨S_, .f32⟩
  | .hbm, ⟨12, _⟩ => ⟨S4x32, .f32⟩
  | .hbm, ⟨13, _⟩ => ⟨S4x32, .f32⟩
  | .hbm, ⟨14, _⟩ => ⟨S4x32, .f32⟩
  | .hbm, ⟨15, _⟩ => ⟨S_, .f32⟩
  | .hbm, ⟨16, _⟩ => ⟨S4x32, .f32⟩
  | .hbm, ⟨17, _⟩ => ⟨S4x32, .f32⟩
  | .hbm, ⟨18, _⟩ => ⟨S4x32, .f32⟩
  | .hbm, ⟨19, _⟩ => ⟨S_, .f32⟩
  | .hbm, ⟨20, _⟩ => ⟨S4x32, .f32⟩
  | .hbm, ⟨21, _⟩ => ⟨S4x32, .f32⟩
  | .hbm, ⟨22, _⟩ => ⟨S_, .f32⟩
  | .hbm, ⟨23, _⟩ => ⟨S4x32, .f32⟩
  | .hbm, ⟨24, _⟩ => ⟨S4x32, .f32⟩
  | .hbm, ⟨25, _⟩ => ⟨S4x32, .f32⟩
  | .hbm, ⟨26, _⟩ => ⟨S_, .f32⟩
  | .hbm, ⟨27, _⟩ => ⟨S4x32, .f32⟩
  | .hbm, ⟨28, _⟩ => ⟨S4x32, .f32⟩
  | .hbm, ⟨29, _⟩ => ⟨S4x32, .f32⟩
  | .hbm, ⟨30, _⟩ => ⟨S_, .f32⟩
  | .hbm, ⟨31, _⟩ => ⟨S4x32, .f32⟩
  | .hbm, ⟨32, _⟩ => ⟨S4x32, .f32⟩
  | .hbm, ⟨33, _⟩ => ⟨S4x32, .f32⟩
  | .hbm, ⟨34, _⟩ => ⟨S_, .f32⟩
  | .hbm, ⟨35, _⟩ => ⟨S4x32, .f32⟩
  | .hbm, ⟨36, _⟩ => ⟨S4x32, .f32⟩
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ad7.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Ad7Ideal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Ad7ReferenceIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ad8.lean ====
abbrev S12x64 : Shape := ⟨2, ![12, 64]⟩

abbrev nBuf : Space → Nat
  | .hbm => 7
  | .vmem => 7
  | .smem => 0
  | _ => 0

abbrev bufTy : (tb : Table) → Fin (tcTables nBuf tb) → BufTy
  | .hbm, ⟨0, _⟩ => ⟨S12x64, .f32⟩
  | .hbm, ⟨1, _⟩ => ⟨S12x64, .f32⟩
  | .hbm, ⟨2, _⟩ => ⟨S12x64, .f32⟩
  | .hbm, ⟨3, _⟩ => ⟨S12x64, .f32⟩
  | .hbm, ⟨4, _⟩ => ⟨S12x64, .f32⟩
  | .hbm, ⟨5, _⟩ => ⟨S12x64, .f32⟩
  | .hbm, ⟨6, _⟩ => ⟨S12x64, .f32⟩
  | .local _ .vmem, ⟨0, _⟩ => ⟨S12x64, .f32⟩
  | .local _ .vmem, ⟨1, _⟩ => ⟨S12x64, .f32⟩
  | .local _ .vmem, ⟨2, _⟩ => ⟨S12x64, .f32⟩
  | .local _ .vmem, ⟨3, _⟩ => ⟨S12x64, .f32⟩
  | .local _ .vmem, ⟨4, _⟩ => ⟨S12x64, .f32⟩
  | .local _ .vmem, ⟨5, _⟩ => ⟨S12x64, .f32⟩
  | .local _ .vmem, ⟨6, _⟩ => ⟨S12x64, .f32⟩
  | _, _ => ⟨S12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Ad8ReferenceIdeal.lean ====
abbrev S12x64 : Shape := ⟨2, ![12, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x64, .f32⟩
  | .hbm, ⟨1, _⟩ => ⟨S12x64, .f32⟩
  | .hbm, ⟨2, _⟩ => ⟨S12x64, .f32⟩
  | .hbm, ⟨3, _⟩ => ⟨S12x64, .f32⟩
  | .hbm, ⟨4, _⟩ => ⟨S_, .f32⟩
  | .hbm, ⟨5, _⟩ => ⟨S12x64, .f32⟩
  | .hbm, ⟨6, _⟩ => ⟨S12x64, .f32⟩
  | .hbm, ⟨7, _⟩ => ⟨S_, .f32⟩
  | .hbm, ⟨8, _⟩ => ⟨S12x64, .f32⟩
  | .hbm, ⟨9, _⟩ => ⟨S12x64, .f32⟩
  | .hbm, ⟨10, _⟩ => ⟨S12x64, .f32⟩
  | .hbm, ⟨11, _⟩ => ⟨S_, .f32⟩
  | .hbm, ⟨12, _⟩ => ⟨S12x64, .f32⟩
  | .hbm, ⟨13, _⟩ => ⟨S12x64, .f32⟩
  | .hbm, ⟨14, _⟩ => ⟨S12x64, .f32⟩
  | .hbm, ⟨15, _⟩ => ⟨S_, .f32⟩
  | .hbm, ⟨16, _⟩ => ⟨S12x64, .f32⟩
  | .hbm, ⟨17, _⟩ => ⟨S12x64, .f32⟩
  | .hbm, ⟨18, _⟩ => ⟨S12x64, .f32⟩
  | .hbm, ⟨19, _⟩ => ⟨S_, .f32⟩
  | .hbm, ⟨20, _⟩ => ⟨S12x64, .f32⟩
  | .hbm, ⟨21, _⟩ => ⟨S12x64, .f32⟩
  | .hbm, ⟨22, _⟩ => ⟨S_, .f32⟩
  | .hbm, ⟨23, _⟩ => ⟨S12x64, .f32⟩
  | .hbm, ⟨24, _⟩ => ⟨S12x64, .f32⟩
  | .hbm, ⟨25, _⟩ => ⟨S12x64, .f32⟩
  | .hbm, ⟨26, _⟩ => ⟨S_, .f32⟩
  | .hbm, ⟨27, _⟩ => ⟨S12x64, .f32⟩
  | .hbm, ⟨28, _⟩ => ⟨S12x64, .f32⟩
  | .hbm, ⟨29, _⟩ => ⟨S12x64, .f32⟩
  | .hbm, ⟨30, _⟩ => ⟨S_, .f32⟩
  | .hbm, ⟨31, _⟩ => ⟨S12x64, .f32⟩
  | .hbm, ⟨32, _⟩ => ⟨S12x64, .f32⟩
  | .hbm, ⟨33, _⟩ => ⟨S12x64, .f32⟩
  | .hbm, ⟨34, _⟩ => ⟨S_, .f32⟩
  | .hbm, ⟨35, _⟩ => ⟨S12x64, .f32⟩
  | .hbm, ⟨36, _⟩ => ⟨S12x64, .f32⟩
  | _, _ => ⟨S12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Runs.lean ====
/- What the runs of the body share. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

set_option maxHeartbeats 1080000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_ofR (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 1).trans (((dats 0 c).arrAt_in 1 rfl _).trans ((hA c 1).trans (V_main_arg0 m c))),
      ((h c).1 3).trans (((dats 0 c).arrAt_in 3 rfl _).trans ((hA c 3).trans (V_main_arg1 m c))),
      ((h c).1 4).trans (((dats 0 c).arrAt_in 4 rfl _).trans ((hA c 4).trans (V_main_arg2 m c))),
      ((h c).1 5).trans (((dats 0 c).arrAt_in 5 rfl _).trans ((hA c 5).trans (V_main_arg3 m c))),
      ((h c).1 6).trans (((dats 0 c).arrAt_in 6 rfl _).trans ((hA c 6).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 7#32)) 0#32) = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, e0]
    word_cmp
   : ∀ t : Fin grid0.N, cond0_1 (grid0.coords t) ↔ t.val % 8 = 7)

/-! ## The kernel body on any staging memrefs: a subtype the run finds -/

/-- One staging buffer of output window 12, through which its contents are stated (`View.read_writes_of_cover`: the
    choice does not matter). -/
abbrev VO0_12 : View sig .tc .vmem S256x2048 .bf16 := (Memref.whole cc0_stg12_0 : Memref sig .tc .vmem S256x2048 .bf16).view
/-- One staging buffer of output window 13, through which its contents are stated (`View.read_writes_of_cover`: the
    choice does not matter). -/
abbrev VO0_13 : View sig .tc .vmem S1x256x4096 .bf16 := (Memref.whole cc0_stg13_0 : Memref sig .tc .vmem S1x256x4096 .bf16).view
/-- One staging buffer of output window 14, through which its contents are stated (`View.read_writes_of_cover`: the
    choice does not matter). -/
abbrev VO0_14 : View sig .tc .vmem S1x256x512 .bf16 := (Memref.whole cc0_stg14_0 : Memref sig .tc .vmem S1x256x512 .bf16).view
/-- One staging buffer of output window 15, through which its contents are stated (`View.read_writes_of_cover`: the
    choice does not matter). -/
abbrev VO0_15 : View sig .tc .vmem S1x256x512 .bf16 := (Memref.whole cc0_stg15_0 : Memref sig .tc .vmem S1x256x512 .bf16).view
/-- One staging buffer of output window 16, through which its contents are stated (`View.read_writes_of_cover`: the
    choice does not matter). -/
abbrev VO0_16 : View sig .tc .vmem S8x4096 .f32 := (Memref.whole cc0_stg16_0 : Memref sig .tc .vmem S8x4096 .f32).view
/-- One staging buffer of output window 17, through which its contents are stated (`View.read_writes_of_cover`: the
    choice does not matter). -/
abbrev VO0_17 : View sig .tc .vmem S8x512 .f32 := (Memref.whole cc0_stg17_0 : Memref sig .tc .vmem S8x512 .f32).view
/-- Each window's current staging memref at point `t`, spelled as the pipeline passes it (`bodyAt0`), and its wholeness. -/
abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x4096 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x4096 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x4096 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x2048 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x4096 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256x512 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256x512 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S8x4096 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x512 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S256x4096 .f32 := Memref.whole cc0_scratch0
abbrev scM0_1 : Memref sig .tc .vmem S8x4096 .f32 := Memref.whole cc0_scratch1
abbrev scM0_2 : Memref sig .tc .vmem S8x512 .f32 := Memref.whole cc0_scratch2
/-- The scratch `arg20` the kernel carries between points, as a view: what it holds is stated through it. -/
abbrev VS0_1 : View sig .tc .vmem S8x4096 .f32 := scM0_1.view
/-- The scratch `arg21` the kernel carries between points, as a view: what it holds is stated through it. -/
abbrev VS0_2 : View sig .tc .vmem S8x512 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.RunA.lean ====
/- The body run, case A. -/

module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (hc0 : cond0_0 i) (hc1 : ¬cond0_1 i)
    (x0 : Vec F S256x2048 .f32) (x1 : Vec F S8x2048 .f32) (x2 : Vec F S256x4096 .bf16) (x3 : Vec F S16x4096 .bf16) (x4 : Vec F S256x512 .f32) (x5 : Vec F S256x512 .f32) (x6 : Vec F S3x512 .f32) (x7 : Vec F S1x512 .f32) (x8 : Vec F S512x4096 .bf16) (x9 : Vec F S512x4096 .bf16) (x10 : Vec F S1x512 .f32) (x11 : Vec F S32x4096 .f32) :
    Σ' (L12 : List (View.Piece (Elt F) S256x2048 .bf16)), Σ' (L13 : List (View.Piece (Elt F) S1x256x4096 .bf16)), Σ' (L14 : List (View.Piece (Elt F) S1x256x512 .bf16)), Σ' (L15 : List (View.Piece (Elt F) S1x256x512 .bf16)), Σ' (L16 : List (View.Piece (Elt F) S8x4096 .f32)), Σ' (L17 : List (View.Piece (Elt F) S8x512 .f32)), Σ' (LS1 : List (View.Piece (Elt F) S8x4096 .f32)), { LS2 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ d, owns (c : Thread nD τ) arg19 fullShare d) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2)) -∗ K ⟨⟩))
          ⊢ wp frame (wpE (defs₀ (F := F)) Variants.none c none) E (cc0_s5conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun E K => ?run⟩
  case run =>
    simp only [cc0_s5conv_bwd_eq_skeleton]; unfold cc0_s5conv_bwd_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]
    · iexists _, _; isplitr; swap; · iexact HS0
      ipureintro; rfl
    isplitl [HS1]; · iexists _; iexact HS1
    iexists _; iexact HS2

end Cert.KernelIdeal.Gen

end
-- ==== Proof.RunB.lean ====
/- The body run, case B. -/

module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, 3, 4, 5, 6), WITH the
    proof that on whole staging memrefs — the inputs' at their contents, the outputs it reads before covering (16, 17) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (hc0 : ¬cond0_0 i) (hc1 : ¬cond0_1 i)
    (x0 : Vec F S256x2048 .f32) (x1 : Vec F S8x2048 .f32) (x2 : Vec F S256x4096 .bf16) (x3 : Vec F S16x4096 .bf16) (x4 : Vec F S256x512 .f32) (x5 : Vec F S256x512 .f32) (x6 : Vec F S3x512 .f32) (x7 : Vec F S1x512 .f32) (x8 : Vec F S512x4096 .bf16) (x9 : Vec F S512x4096 .bf16) (x10 : Vec F S1x512 .f32) (x11 : Vec F S32x4096 .f32) (xo16 : Vec F S8x4096 .f32) (xo17 : Vec F S8x512 .f32) (xs1 : Vec F S8x4096 .f32) (xs2 : Vec F S8x512 .f32) :
    Σ' (L12 : List (View.Piece (Elt F) S256x2048 .bf16)), Σ' (L13 : List (View.Piece (Elt F) S1x256x4096 .bf16)), Σ' (L14 : List (View.Piece (Elt F) S1x256x512 .bf16)), Σ' (L15 : List (View.Piece (Elt F) S1x256x512 .bf16)), Σ' (L16 : List (View.Piece (Elt F) S8x4096 .f32)), Σ' (L17 : List (View.Piece (Elt F) S8x512 .f32)), Σ' (LS1 : List (View.Piece (Elt F) S8x4096 .f32)), { LS2 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xo16 ∗ owns (c : Thread nD τ) arg18 fullShare xo17 ∗ (∃ d, owns (c : Thread nD τ) arg19 fullShare d) ∗ owns (c : Thread nD τ) arg20 fullShare xs1 ∗ owns (c : Thread nD τ) arg21 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (arg18.view.loc (c : Thread nD τ) ↦[arg18.view.set]{fullShare} arg18.view.writes (Elt F) (harg18.unread xo17) L17) ∗ (∃ d, owns (c : Thread nD τ) arg19 fullShare d) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2)) -∗ K ⟨⟩))
          ⊢ wp frame (wpE (defs₀ (F := F)) Variants.none c none) E (cc0_s5conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun E K => ?run⟩
  case run =>
    simp only [cc0_s5conv_bwd_eq_skeleton]; unfold cc0_s5conv_bwd_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg17.eq_unread hf16; obtain rfl := harg18.eq_unread hf17; obtain rfl := harg20.eq_unread hfs1; obtain rfl := harg21.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexact H17
    isplitl [HS0]
    · iexists _, _; isplitr; swap; · iexact HS0
      ipureintro; rfl
    isplitl [HS1]; · iexists _; iexact HS1
    iexists _; iexact HS2

end Cert.KernelIdeal.Gen

end
-- ==== Proof.RunC.lean ====
/- The body run, case C. -/

module

public import proofs.«01_k».proof.Proof.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 7), WITH the
    proof that on whole staging memrefs — the inputs' at their contents, the outputs it reads before covering (16, 17) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (hc0 : ¬cond0_0 i) (hc1 : cond0_1 i)
    (x0 : Vec F S256x2048 .f32) (x1 : Vec F S8x2048 .f32) (x2 : Vec F S256x4096 .bf16) (x3 : Vec F S16x4096 .bf16) (x4 : Vec F S256x512 .f32) (x5 : Vec F S256x512 .f32) (x6 : Vec F S3x512 .f32) (x7 : Vec F S1x512 .f32) (x8 : Vec F S512x4096 .bf16) (x9 : Vec F S512x4096 .bf16) (x10 : Vec F S1x512 .f32) (x11 : Vec F S32x4096 .f32) (xo16 : Vec F S8x4096 .f32) (xo17 : Vec F S8x512 .f32) (xs1 : Vec F S8x4096 .f32) (xs2 : Vec F S8x512 .f32) :
    Σ' (L12 : List (View.Piece (Elt F) S256x2048 .bf16)), Σ' (L13 : List (View.Piece (Elt F) S1x256x4096 .bf16)), Σ' (L14 : List (View.Piece (Elt F) S1x256x512 .bf16)), Σ' (L15 : List (View.Piece (Elt F) S1x256x512 .bf16)), Σ' (L16 : List (View.Piece (Elt F) S8x4096 .f32)), Σ' (L17 : List (View.Piece (Elt F) S8x512 .f32)), Σ' (LS1 : List (View.Piece (Elt F) S8x4096 .f32)), { LS2 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xo16 ∗ owns (c : Thread nD τ) arg18 fullShare xo17 ∗ (∃ d, owns (c : Thread nD τ) arg19 fullShare d) ∗ owns (c : Thread nD τ) arg20 fullShare xs1 ∗ owns (c : Thread nD τ) arg21 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (arg18.view.loc (c : Thread nD τ) ↦[arg18.view.set]{fullShare} arg18.view.writes (Elt F) (harg18.unread xo17) L17) ∗ (∃ d, owns (c : Thread nD τ) arg19 fullShare d) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2)) -∗ K ⟨⟩))
          ⊢ wp frame (wpE (defs₀ (F := F)) Variants.none c none) E (cc0_s5conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun E K => ?run⟩
  case run =>
    simp only [cc0_s5conv_bwd_eq_skeleton]; unfold cc0_s5conv_bwd_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg17.eq_unread hf16; obtain rfl := harg18.eq_unread hf17; obtain rfl := harg20.eq_unread hfs1; obtain rfl := harg21.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexact H17
    isplitl [HS0]
    · iexists _, _; isplitr; swap; · iexact HS0
      ipureintro; rfl
    isplitl [HS1]; · iexists _; iexact HS1
    iexists _; iexact HS2

end Cert.KernelIdeal.Gen

end
-- ==== Proof.Outs.lean ====
/- What the body leaves at a point, by case. -/

module

public import proofs.«01_k».proof.Proof.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (hc0 : cond0_0 i) (hc1 : ¬cond0_1 i) (x0 : Vec F S256x2048 .f32) (x1 : Vec F S8x2048 .f32) (x2 : Vec F S256x4096 .bf16) (x3 : Vec F S16x4096 .bf16) (x4 : Vec F S256x512 .f32) (x5 : Vec F S256x512 .f32) (x6 : Vec F S3x512 .f32) (x7 : Vec F S1x512 .f32) (x8 : Vec F S512x4096 .bf16) (x9 : Vec F S512x4096 .bf16) (x10 : Vec F S1x512 .f32) (x11 : Vec F S32x4096 .f32)
/-- Case A's pieces for output 12 tile its block (4 stores of `S256x512`, checked by the kernel's evaluation: Lib/Ring.lean `Piece.tiledL`, linear in the pieces, through a loop's `@[irreducible]` trip theorem too), so they cover it. -/
theorem cover0_A_12 (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1 S256x512.size (by sl_kernel_rfl) y

/-- What case A leaves in output 12's staging buffer: its pieces read back over junk. -/
def out0_A_12 : Vec F S256x2048 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1)

/-- Case A's pieces for output 13 tile its block (1 store of `S1x256x4096`, checked by the kernel's evaluation: Lib/Ring.lean `Piece.tiledL`, linear in the pieces, through a loop's `@[irreducible]` trip theorem too), so they cover it. -/
theorem cover0_A_13 (y : S1x256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1 S1x256x4096.size (by sl_kernel_rfl) y

/-- What case A leaves in output 13's staging buffer: its pieces read back over junk. -/
def out0_A_13 : Vec F S1x256x4096 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1)

/-- Case A's pieces for output 14 tile its block (1 store of `S1x256x512`, checked by the kernel's evaluation: Lib/Ring.lean `Piece.tiledL`, linear in the pieces, through a loop's `@[irreducible]` trip theorem too), so they cover it. -/
theorem cover0_A_14 (y : S1x256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.1 S1x256x512.size (by sl_kernel_rfl) y

/-- What case A leaves in output 14's staging buffer: its pieces read back over junk. -/
def out0_A_14 : Vec F S1x256x512 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.1)

/-- Case A's pieces for output 15 tile its block (1 store of `S1x256x512`, checked by the kernel's evaluation: Lib/Ring.lean `Piece.tiledL`, linear in the pieces, through a loop's `@[irreducible]` trip theorem too), so they cover it. -/
theorem cover0_A_15 (y : S1x256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.1 S1x256x512.size (by sl_kernel_rfl) y

/-- What case A leaves in output 15's staging buffer: its pieces read back over junk. -/
def out0_A_15 : Vec F S1x256x512 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.1)

/-- Case A's pieces for output 16 are of SEVERAL sizes (3 stores of `S8x2048`, `S8x4096`): cut into blocks of `![8, 2048]` they tile its block (checked by the kernel's evaluation: Lib/Ring.lean `Piece.tiledBy`), so they cover it. -/
theorem cover0_A_16 (y : S8x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1 ![8, 2048] (by sl_kernel_rfl) y

/-- What case A leaves in output 16's staging buffer: its pieces read back over junk. -/
def out0_A_16 : Vec F S8x4096 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1)

/-- Case A's pieces for output 17 are of SEVERAL sizes (6 stores of `S1x512`, `S8x512`): cut into blocks of `![1, 512]` they tile its block (checked by the kernel's evaluation: Lib/Ring.lean `Piece.tiledBy`), so they cover it. -/
theorem cover0_A_17 (y : S8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1 ![1, 512] (by sl_kernel_rfl) y

/-- What case A leaves in output 17's staging buffer: its pieces read back over junk. -/
def out0_A_17 : Vec F S8x512 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1)

/-- Case A's pieces for scratch `arg20`, which the kernel carries between points, cover it: one of them a store of the WHOLE buffer (Lib/Ring.lean `sl_whole_mem`). -/
theorem scover0_A_1 (y : S8x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.1 (by sl_whole_mem) y

/-- What case A leaves in scratch `arg20`: its pieces read back over junk. -/
def sout0_A_1 : Vec F S8x4096 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.1)

/-- Case A's pieces for scratch `arg21`, which the kernel carries between points, cover it: 2 pieces of `S8x512` tiling it (Lib/Ring.lean `Piece.tiledL`). -/
theorem scover0_A_2 (y : S8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.2.1 S8x512.size (by sl_kernel_rfl) y

/-- What case A leaves in scratch `arg21`: its pieces read back over junk. -/
def sout0_A_2 : Vec F S8x512 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.2.1)

end

section
variable (c : Dev nD) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (hc0 : ¬cond0_0 i) (hc1 : ¬cond0_1 i) (x0 : Vec F S256x2048 .f32) (x1 : Vec F S8x2048 .f32) (x2 : Vec F S256x4096 .bf16) (x3 : Vec F S16x4096 .bf16) (x4 : Vec F S256x512 .f32) (x5 : Vec F S256x512 .f32) (x6 : Vec F S3x512 .f32) (x7 : Vec F S1x512 .f32) (x8 : Vec F S512x4096 .bf16) (x9 : Vec F S512x4096 .bf16) (x10 : Vec F S1x512 .f32) (x11 : Vec F S32x4096 .f32) (xo16 : Vec F S8x4096 .f32) (xo17 : Vec F S8x512 .f32) (xs1 : Vec F S8x4096 .f32) (xs2 : Vec F S8x512 .f32)
/-- Case B's pieces for output 12 tile its block (4 stores of `S256x512`, checked by the kernel's evaluation: Lib/Ring.lean `Piece.tiledL`, linear in the pieces, through a loop's `@[irreducible]` trip theorem too), so they cover it. -/
theorem cover0_B_12 (y : S256x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).1 S256x512.size (by sl_kernel_rfl) y

/-- What case B leaves in output 12's staging buffer: its pieces read back over junk. -/
def out0_B_12 : Vec F S256x2048 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).1)

/-- Case B's pieces for output 13 tile its block (1 store of `S1x256x4096`, checked by the kernel's evaluation: Lib/Ring.lean `Piece.tiledL`, linear in the pieces, through a loop's `@[irreducible]` trip theorem too), so they cover it. -/
theorem cover0_B_13 (y : S1x256x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.1 S1x256x4096.size (by sl_kernel_rfl) y

/-- What case B leaves in output 13's staging buffer: its pieces read back over junk. -/
def out0_B_13 : Vec F S1x256x4096 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.1)

/-- Case B's pieces for output 14 tile its block (1 store of `S1x256x512`, checked by the kernel's evaluation: Lib/Ring.lean `Piece.tiledL`, linear in the pieces, through a loop's `@[irreducible]` trip theorem too), so they cover it. -/
theorem cover0_B_14 (y : S1x256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.1 S1x256x512.size (by sl_kernel_rfl) y

/-- What case B leaves in output 14's staging buffer: its pieces read back over junk. -/
def out0_B_14 : Vec F S1x256x512 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.1)

/-- Case B's pieces for output 15 tile its block (1 store of `S1x256x512`, checked by the kernel's evaluation: Lib/Ring.lean `Piece.tiledL`, linear in the pieces, through a loop's `@[irreducible]` trip theorem too), so they cover it. -/
theorem cover0_B_15 (y : S1x256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.1 S1x256x512.size (by sl_kernel_rfl) y

/-- What case B leaves in output 15's staging buffer: its pieces read back over junk. -/
def out0_B_15 : Vec F S1x256x512 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.1)

/-- Case B's pieces for output 16 tile its block (2 stores of `S8x2048`, checked by the kernel's evaluation: Lib/Ring.lean `Piece.tiledL`, linear in the pieces, through a loop's `@[irreducible]` trip theorem too), so they cover it. -/
theorem cover0_B_16 (y : S8x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.1 S8x2048.size (by sl_kernel_rfl) y

/-- What case B leaves in output 16's staging buffer: its pieces read back over junk. -/
def out0_B_16 : Vec F S8x4096 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.1)

/-- What case B leaves in output 17's staging buffer: its stores read back over what the point before left there (they do not cover the block). -/
def out0_B_17 : Vec F S8x512 .f32 :=
  arg18.view.read (Elt F) (arg18.view.writes (Elt F) (harg18.unread xo17) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.1)

/-- Case B's pieces for scratch `arg20`, which the kernel carries between points, cover it: 8 pieces of `S8x512` tiling it (Lib/Ring.lean `Piece.tiledL`). -/
theorem scover0_B_1 (y : S8x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.2.1 S8x512.size (by sl_kernel_rfl) y

/-- What case B leaves in scratch `arg20`: its pieces read back over junk. -/
def sout0_B_1 : Vec F S8x4096 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.2.1)

/-- Case B's pieces for scratch `arg21`, which the kernel carries between points, cover it: 1 piece of `S8x512` tiling it (Lib/Ring.lean `Piece.tiledL`). -/
theorem scover0_B_2 (y : S8x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.2.2.1 S8x512.size (by sl_kernel_rfl) y

/-- What case B leaves in scratch `arg21`: its pieces read back over junk. -/
def sout0_B_2 : Vec F S8x512 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.2.2.1)

end

section
variable (c : Dev nD) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (hc0 : ¬cond0_0 i) (hc1 : cond0_1 i) (x0 : Vec F S256x2048 .f32) (x1 : Vec F S8x2048 .f32) (x2 : Vec F S256x4096 .bf16) (x3 : Vec F S16x4096 .bf16) (x4 : Vec F S256x512 .f32) (x5 : Vec F S256x512 .f32) (x6 : Vec F S3x512 .f32) (x7 : Vec F S1x512 .f32) (x8 : Vec F S512x4096 .bf16) (x9 : Vec F S512x4096 .bf16) (x10 : Vec F S1x512 .f32) (x11 : Vec F S32x4096 .f32) (xo16 : Vec F S8x4096 .f32) (xo17 : Vec F S8x512 .f32) (xs1 : Vec F S8x4096 .f32) (xs2 : Vec F S8x512 .f32)
/-- Case C's pieces for output 12 tile its block (4 stores of `S256x512`, checked by the kernel's evaluation: Lib/Ring.lean `Piece.tiledL`, linear in the pieces, through a loop's `@[irreducible]` trip theorem too), so they cover it. -/
theorem cover0_C_12 (y : S256x2048.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).1 S256x512.size (by sl_kernel_rfl) y

/-- What case C leaves in output 12's staging buffer: its pieces read back over junk. -/
def out0_C_12 : Vec F S256x2048 .bf16 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).1)

/-- Case C's pieces for output 13 tile its block (1 store of `S1x256x4096`, checked by the kernel's evaluation: Lib/Ring.lean `Piece.tiledL`, linear in the pieces, through a loop's `@[irreducible]` trip theorem too), so they cover it. -/
theorem cover0_C_13 (y : S1x256x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.1 S1x256x4096.size (by sl_kernel_rfl) y

/-- What case C leaves in output 13's staging buffer: its pieces read back over junk. -/
def out0_C_13 : Vec F S1x256x4096 .bf16 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.1)

/-- Case C's pieces for output 14 tile its block (1 store of `S1x256x512`, checked by the kernel's evaluation: Lib/Ring.lean `Piece.tiledL`, linear in the pieces, through a loop's `@[irreducible]` trip theorem too), so they cover it. -/
theorem cover0_C_14 (y : S1x256x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.1 S1x256x512.size (by sl_kernel_rfl) y

/-- What case C leaves in output 14's staging buffer: its pieces read back over junk. -/
def out0_C_14 : Vec F S1x256x512 .bf16 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.1)

/-- Case C's pieces for output 15 tile its block (1 store of `S1x256x512`, checked by the kernel's evaluation: Lib/Ring.lean `Piece.tiledL`, linear in the pieces, through a loop's `@[irreducible]` trip theorem too), so they cover it. -/
theorem cover0_C_15 (y : S1x256x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.1 S1x256x512.size (by sl_kernel_rfl) y

/-- What case C leaves in output 15's staging buffer: its pieces read back over junk. -/
def out0_C_15 : Vec F S1x256x512 .bf16 :=
  VO0_15.read (Elt F) (VO0_15.writes (Elt F) VO0_15.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.1)

/-- Case C's pieces for output 16 are of SEVERAL sizes (3 stores of `S1x4096`, `S8x2048`): cut into blocks of `![1, 2048]` they tile its block (checked by the kernel's evaluation: Lib/Ring.lean `Piece.tiledBy`), so they cover it. -/
theorem cover0_C_16 (y : S8x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.1 ![1, 2048] (by sl_kernel_rfl) y

/-- What case C leaves in output 16's staging buffer: its pieces read back over junk. -/
def out0_C_16 : Vec F S8x4096 .f32 :=
  VO0_16.read (Elt F) (VO0_16.writes (Elt F) VO0_16.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.1)

/-- What case C leaves in output 17's staging buffer: its stores read back over what the point before left there (they do not cover the block). -/
def out0_C_17 : Vec F S8x512 .f32 :=
  arg18.view.read (Elt F) (arg18.view.writes (Elt F) (harg18.unread xo17) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.1)

/-- Case C's pieces for scratch `arg20`, which the kernel carries between points, cover it: 8 pieces of `S8x512` tiling it (Lib/Ring.lean `Piece.tiledL`). -/
theorem scover0_C_1 (y : S8x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.2.1 S8x512.size (by sl_kernel_rfl) y

/-- What case C leaves in scratch `arg20`: its pieces read back over junk. -/
def sout0_C_1 : Vec F S8x4096 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.2.1)

/-- Case C's pieces for scratch `arg21`, which the kernel carries between points, cover it: 1 piece of `S8x512` tiling it (Lib/Ring.lean `Piece.tiledL`). -/
theorem scover0_C_2 (y : S8x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.2.2.1 S8x512.size (by sl_kernel_rfl) y

/-- What case C leaves in scratch `arg21`: its pieces read back over junk. -/
def sout0_C_2 : Vec F S8x512 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xs1 xs2).2.2.2.2.2.2.2.1)

/-! ## What the outputs hold after each point -/

end

end Cert.KernelIdeal.Gen

end
-- ==== Proof.Data.lean ====
/- The contents after each point. -/

module

public import proofs.«01_k».proof.Proof.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What the outputs' staging buffers and the carried scratch hold. -/
abbrev Left (F : FTy → Type) : Type := Vec F S256x2048 .bf16 × Vec F S1x256x4096 .bf16 × Vec F S1x256x512 .bf16 × Vec F S1x256x512 .bf16 × Vec F S8x4096 .f32 × Vec F S8x512 .f32 × Vec F S8x4096 .f32 × Vec F S8x512 .f32
/-- The contents case A leaves at a point. -/
def leftA (c : Dev nD) (t : Fin cfg0.N) (h0 : t.val % 8 = 0) (h1 : ¬t.val % 8 = 7) : Left F :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- The contents case B leaves at a point, over what the point before left. -/
def leftB (c : Dev nD) (t : Fin cfg0.N) (h0 : ¬t.val % 8 = 0) (h1 : ¬t.val % 8 = 7) (s : Left F) : Left F :=
  (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2)

/-- The contents case C leaves at a point, over what the point before left. -/
def leftC (c : Dev nD) (t : Fin cfg0.N) (h0 : ¬t.val % 8 = 0) (h1 : t.val % 8 = 7) (s : Left F) : Left F :=
  (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s.2.2.2.2.1 s.2.2.2.2.2.1 s.2.2.2.2.2.2.1 s.2.2.2.2.2.2.2)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Left F
  | 0, hn => leftA m c ⟨0, hn⟩ (Nat.zero_mod _) (by show ¬0 % 8 = 7; omega)
  | n + 1, hn =>
    if h0 : (n + 1) % 8 = 0 then
      if h1 : (n + 1) % 8 = 7 then
        False.elim (by have hN : n + 1 < 8 := lt_of_lt_of_eq hn (show cfg0.N = 8 from N_0); omega)
      else
        leftA m c ⟨n + 1, hn⟩ h0 h1
    else
      if h1 : (n + 1) % 8 = 7 then
        leftC m c ⟨n + 1, hn⟩ h0 h1 (outsAt0 c n (Nat.lt_of_succ_lt hn))
      else
        leftB m c ⟨n + 1, hn⟩ h0 h1 (outsAt0 c n (Nat.lt_of_succ_lt hn))

/-- `outsAt0` at a point of case A: that case's contents. -/
theorem outsAt0_A (c : Dev nD) (t : Fin cfg0.N) (h0 : t.val % 8 = 0) (h1 : ¬t.val % 8 = 7) :
    outsAt0 m c t.val t.isLt = leftA m c t h0 h1 := by
  obtain ⟨n, hn⟩ := t
  cases n with
  | zero => exact rfl
  | succ n =>
    exact (dif_pos h0).trans (dif_neg h1)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = leftB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n =>
    exact (dif_neg h0).trans (dif_neg h1)

/-- `outsAt0` at a point of case C: that case's contents, over what the point before left. -/
theorem outsAt0_C (c : Dev nD) (t : Fin cfg0.N) (h0 : ¬t.val % 8 = 0) (h1 : t.val % 8 = 7) :
    outsAt0 m c t.val t.isLt = leftC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n =>
    exact (dif_neg h0).trans (dif_pos h1)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.2.2.2.1) ∗ owns (c : Thread nD τ) scM0_2 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2.2.2.1) ∗ owns (c : Thread nD τ) scM0_2 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2.2.2.1) ∗ owns (c : Thread nD τ) scM0_2 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨_ + 18, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- At a point of case B output 16's current staging buffer holds what the body left at the point before: the point is
    not the first, the buffer was not written back between (`flush0_16`), the window is live and uncut (Lib/Pipeline/Frame.lean
    `Dat.before_out_kept`). -/
theorem before0_16_B (c : Dev nD) (t : Fin cfg0.N) (h0 : ¬t.val % 8 = 0) (h1 : ¬t.val % 8 = 7) (d) :
    (dats m 0 c).before 16 t d = (outsAt0 m c (t.val - 1) (Nat.lt_of_le_of_lt (Nat.sub_le _ _) t.isLt)).2.2.2.2.1 := by
  have hN : t.val < 8 := lt_of_lt_of_eq t.isLt (show cfg0.N = 8 from N_0)
  rw [Dat.before_out_kept _ 16 rfl t (by omega) (Bool.eq_false_iff.mpr fun h => by have := (flush0_16 _).mp h; dsimp only at this; omega)
    (fun _ => rfl) (fun _ _ => rfl)]
  dsimp only [dats]
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 8 = 0) (h1 : ¬t.val % 8 = 7) (d) :
    (dats m 0 c).before 17 t d = (outsAt0 m c (t.val - 1) (Nat.lt_of_le_of_lt (Nat.sub_le _ _) t.isLt)).2.2.2.2.2.1 := by
  have hN : t.val < 8 := lt_of_lt_of_eq t.isLt (show cfg0.N = 8 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case C output 16's current staging buffer holds what the body left at the point before: the point is
    not the first, the buffer was not written back between (`flush0_16`), the window is live and uncut (Lib/Pipeline/Frame.lean
    `Dat.before_out_kept`). -/
theorem before0_16_C (c : Dev nD) (t : Fin cfg0.N) (h0 : ¬t.val % 8 = 0) (h1 : t.val % 8 = 7) (d) :
    (dats m 0 c).before 16 t d = (outsAt0 m c (t.val - 1) (Nat.lt_of_le_of_lt (Nat.sub_le _ _) t.isLt)).2.2.2.2.1 := by
  have hN : t.val < 8 := lt_of_lt_of_eq t.isLt (show cfg0.N = 8 from N_0)
  rw [Dat.before_out_kept _ 16 rfl t (by omega) (Bool.eq_false_iff.mpr fun h => by have := (flush0_16 _).mp h; dsimp only at this; omega)
    (fun _ => rfl) (fun _ _ => rfl)]
  dsimp only [dats]
/-- At a point of case C output 17's current staging buffer holds what the body left at the point before: the point is
    not the first, the buffer was not written back between (`flush0_17`), the window is live and uncut (Lib/Pipeline/Frame.lean
    `Dat.before_out_kept`). -/
theorem before0_17_C (c : Dev nD) (t : Fin cfg0.N) (h0 : ¬t.val % 8 = 0) (h1 : t.val % 8 = 7) (d) :
    (dats m 0 c).before 17 t d = (outsAt0 m c (t.val - 1) (Nat.lt_of_le_of_lt (Nat.sub_le _ _) t.isLt)).2.2.2.2.2.1 := by
  have hN : t.val < 8 := lt_of_lt_of_eq t.isLt (show cfg0.N = 8 from N_0)
  rw [Dat.before_out_kept _ 17 rfl t (by omega) (Bool.eq_false_iff.mpr fun h => by have := (flush0_17 _).mp h; dsimp only at this; omega)
    (fun _ => rfl) (fun _ _ => rfl)]
  dsimp only [dats]

/-! ## The body obligation, at a generic point -/

end Cert.KernelIdeal.Gen

end
-- ==== Proof.Whole.lean ====
/- The body obligation and the whole run. -/

module

public import proofs.«01_k».proof.Proof.Data
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · by_cases hz : t.val = 0
      · rw [PhiS_castSucc m c t, PhiS_zero m c _ _ hz, PhiA0_eq]
        rw [outsAt0_A m c t h0 h1, leftA]
        unfold out0_A_12 out0_A_13 out0_A_14 out0_A_15 out0_A_16 out0_A_17 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [HS0]; · iexact HS0
        isplitl [HS1]; · iexact HS1
        isplitl [HS2]; · iexact HS2
        iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, HS0, ⟨%es1, HS1⟩, ⟨%es2, HS2⟩⟩
        isplitl [HS0 HS1 HS2 Hg]
        · isplitl [HS0 HS1 HS2]
          · isplitl [HS0]
            · iexact HS0
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _)
      · exfalso; have hN : t.val < 8 := lt_of_lt_of_eq t.isLt (show cfg0.N = 8 from N_0); omega
  · by_cases h1 : t.val % 8 = 7
    · by_cases hz : t.val = 0
      · exfalso; have hN : t.val < 8 := lt_of_lt_of_eq t.isLt (show cfg0.N = 8 from N_0); omega
      · rw [PhiS_castSucc m c t, PhiS_pos m c _ _ hz]
        rw [outsAt0_C m c t h0 h1, leftC]
        simp only [before0_16_C m c t h0 h1, before0_17_C m c t h0 h1]
        unfold out0_C_12 out0_C_13 out0_C_14 out0_C_15 out0_C_16 out0_C_17 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexact H16
        isplitl [H17]; · iexact H17
        isplitl [HS0]; · iexact HS0
        isplitl [HS1]; · iexact HS1
        isplitl [HS2]; · iexact HS2
        iintro ⟨H0, H1, H2, H3, H4, H5, H6, H7, H8, H9, H10, H11, ⟨%e12, H12⟩, ⟨%e13, H13⟩, ⟨%e14, H14⟩, ⟨%e15, H15⟩, ⟨%e16, H16⟩, H17, HS0, ⟨%es1, HS1⟩, ⟨%es2, HS2⟩⟩
        isplitl [HS0 HS1 HS2 Hg]
        · isplitl [HS0 HS1 HS2]
          · isplitl [HS0]
            · iexact HS0
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H17
        ipureintro; rfl
    · by_cases hz : t.val = 0
      · exfalso; have hN : t.val < 8 := lt_of_lt_of_eq t.isLt (show cfg0.N = 8 from N_0); omega
      · rw [PhiS_castSucc m c t, PhiS_pos m c _ _ hz]
        rw [outsAt0_B m c t h0 h1, leftB]
        simp only [before0_16_B m c t h0 h1, before0_17_B m c t h0 h1]
        unfold out0_B_12 out0_B_13 out0_B_14 out0_B_15 out0_B_16 out0_B_17 sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexact H16
        isplitl [H17]; · iexact H17
        isplitl [HS0]; · iexact HS0
        isplitl [HS1]; · iexact HS1
        isplitl [HS2]; · iexact HS2
        iintro ⟨H0, H1, H2, H3, H4, H5, H6, H7, H8, H9, H10, H11, ⟨%e12, H12⟩, ⟨%e13, H13⟩, ⟨%e14, H14⟩, ⟨%e15, H15⟩, ⟨%e16, H16⟩, H17, HS0, ⟨%es1, HS1⟩, ⟨%es2, HS2⟩⟩
        isplitl [HS0 HS1 HS2 Hg]
        · isplitl [HS0 HS1 HS2]
          · isplitl [HS0]
            · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H17
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_ofR m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Gen

end
-- ==== Proof.Blocks.lean ====
/- Entry values of the results. -/

module

public import proofs.«01_k».proof.Proof.Whole
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v148_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v148_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v148_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v148_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v148_4) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v148_5) = (dats m 0 c).arrAt 17 cfg0.N :=
  (h c).1 17

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: input window 6 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

set_option maxHeartbeats 228780 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v148_0) = (dats m 0 c).arrAt 12 cfg0.N
      ∧ r.2.mem ((c : Thread nD τ).loc main_v148_1) = (dats m 0 c).arrAt 13 cfg0.N
      ∧ r.2.mem ((c : Thread nD τ).loc main_v148_2) = (dats m 0 c).arrAt 14 cfg0.N
      ∧ r.2.mem ((c : Thread nD τ).loc main_v148_3) = (dats m 0 c).arrAt 15 cfg0.N
      ∧ r.2.mem ((c : Thread nD τ).loc main_v148_4) = (dats m 0 c).arrAt 16 cfg0.N
      ∧ r.2.mem ((c : Thread nD τ).loc main_v148_5) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post12 m r h c,
      post13 m r h c,
      post14 m r h c,
      post15 m r h c,
      post16 m r h c,
      post17 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.KernelIdeal.Value

end
-- ==== Proof.Scan.lean ====
/- The reversed recursion of one lane over the reals, and the block of eight rows that the kernel's scan takes at once. -/

module

public import proofs.«01_k».proof.Proof.Gen.KernelIdeal.Loops
public import Idealize.ShloMosaic.Lib.VecWindow
public import Idealize.ShloMosaic.Lib.Pointwise

@[expose] public section

set_option maxRecDepth 16384

noncomputable section

namespace Cert.Proof.S5

open Idealize.ShloMosaic
open Cert.KernelIdeal Cert.KernelIdeal.Gen

/-- The gradient state of one lane after `n` tokens counted from the last one. -/
def gst (lr li : ℝ) (xr xi : ℕ → ℝ) : ℕ → ℝ × ℝ
  | 0 => (0, 0)
  | n + 1 => (xr n + (lr * (gst lr li xr xi n).1 + li * (gst lr li xr xi n).2),
      xi n + (lr * (gst lr li xr xi n).2 - li * (gst lr li xr xi n).1))

/-- The powers of the decay, the first power at zero. -/
def pw (lr li : ℝ) : ℕ → ℝ × ℝ
  | 0 => (lr, li)
  | n + 1 => ((pw lr li n).1 * lr - (pw lr li n).2 * li, (pw lr li n).1 * li + (pw lr li n).2 * lr)

/-- A block of eight rows of the scan, read at one row and one lane. -/
theorem trip_row (v43 v45 v47 v49 v51 v53 v55 v57 cr ci x y : FVec Ideal S8x512 .f32) (j : Fin 512)
    (lr li : ℝ) (xr xi : ℕ → ℝ) (M : ℕ)
    (h43 : ∀ s : Fin 8, v43 (ix2 s j) = if s.val < 7 then ((pw lr li 0).1 : EReal) else 0)
    (h45 : ∀ s : Fin 8, v45 (ix2 s j) = if s.val < 7 then ((-(pw lr li 0).2 : ℝ) : EReal) else 0)
    (h47 : ∀ s : Fin 8, v47 (ix2 s j) = if s.val < 6 then ((pw lr li 1).1 : EReal) else 0)
    (h49 : ∀ s : Fin 8, v49 (ix2 s j) = if s.val < 6 then ((-(pw lr li 1).2 : ℝ) : EReal) else 0)
    (h51 : ∀ s : Fin 8, v51 (ix2 s j) = if s.val < 4 then ((pw lr li 3).1 : EReal) else 0)
    (h53 : ∀ s : Fin 8, v53 (ix2 s j) = if s.val < 4 then ((-(pw lr li 3).2 : ℝ) : EReal) else 0)
    (h55 : ∀ s : Fin 8, v55 (ix2 s j) = ((pw lr li (7 - s.val)).1 : EReal))
    (h57 : ∀ s : Fin 8, v57 (ix2 s j) = ((-(pw lr li (7 - s.val)).2 : ℝ) : EReal))
    (hcr : ∀ s : Fin 8, cr (ix2 s j) = ((gst lr li xr xi M).1 : EReal))
    (hci : ∀ s : Fin 8, ci (ix2 s j) = ((gst lr li xr xi M).2 : EReal))
    (hx : ∀ s : Fin 8, x (ix2 s j) = ((xr (M + (7 - s.val)) : ℝ) : EReal))
    (hy : ∀ s : Fin 8, y (ix2 s j) = ((xi (M + (7 - s.val)) : ℝ) : EReal)) (s : Fin 8) :
    k0_pay13 v43 v45 v47 v49 v51 v53 v55 v57 cr ci x y (ix2 s j) = ((gst lr li xr xi (M + (8 - s.val))).1 : EReal)
      ∧ k0_pay14 v43 v45 v47 v49 v51 v53 v55 v57 cr ci x y (ix2 s j) = ((gst lr li xr xi (M + (8 - s.val))).2 : EReal) := by
  have v0 : ((0 : Fin 8) : ℕ) = 0 := rfl
  have v1 : ((1 : Fin 8) : ℕ) = 1 := rfl
  have v2 : ((2 : Fin 8) : ℕ) = 2 := rfl
  have v3 : ((3 : Fin 8) : ℕ) = 3 := rfl
  have v4 : ((4 : Fin 8) : ℕ) = 4 := rfl
  have v5 : ((5 : Fin 8) : ℕ) = 5 := rfl
  have v6 : ((6 : Fin 8) : ℕ) = 6 := rfl
  have v7 : ((7 : Fin 8) : ℕ) = 7 := rfl
  fin_cases s
  all_goals
    constructor
    all_goals
      unfold_payloads
      pointwise
      simp only [h43, h45, h47, h49, h51, h53, h55, h57, hcr, hci, hx, hy]
      simp only [v0, v1, v2, v3, v4, v5, v6, v7, Nat.reduceSub, Nat.reduceLT, reduceIte, zero_mul, add_zero, sub_zero, Nat.add_zero]
      simp only [← EReal.coe_mul, ← EReal.coe_add, ← EReal.coe_sub]
      refine congrArg _ ?_
      simp only [gst, pw]
      ring

end Cert.Proof.S5
-- ==== Proof.Loop.lean ====
/- Each of the kernel's four scans over a chunk, as the reversed recursion of its lanes. -/

module

public import proofs.«01_k».proof.Proof.Scan

@[expose] public section

set_option maxRecDepth 16384

noncomputable section

namespace Cert.Proof.S5

open Idealize.ShloMosaic
open Cert.KernelIdeal Cert.KernelIdeal.Gen

/-- Two blocks of eight rows put into the chunk, read at a row and a lane. -/
theorem put2_apply (X : S256x4096.Idx → Ideal .f32) (P Q : S8x512.Idx → Ideal .f32) (a o : ℕ) (r : Fin 256) (p : Fin 4096) :
    VecWindow.put (VecWindow.put X ![a, o] S8x512.size P) ![a, 2048 + o] S8x512.size Q (ix2 r p)
      = if h : (a ≤ r.val ∧ r.val < a + 8) ∧ (2048 + o ≤ p.val ∧ p.val < 2048 + o + 512) then Q (ix2 ⟨r.val - a, by omega⟩ ⟨p.val - (2048 + o), by omega⟩)
        else if h : (a ≤ r.val ∧ r.val < a + 8) ∧ (o ≤ p.val ∧ p.val < o + 512) then P (ix2 ⟨r.val - a, by omega⟩ ⟨p.val - o, by omega⟩)
        else X (ix2 r p) := by
  have key : ∀ (Y : S256x4096.Idx → Ideal .f32) (W : S8x512.Idx → Ideal .f32) (o : ℕ),
      VecWindow.put Y ![a, o] S8x512.size W (ix2 r p)
        = if h : (a ≤ r.val ∧ r.val < a + 8) ∧ (o ≤ p.val ∧ p.val < o + 512) then W (ix2 ⟨r.val - a, by omega⟩ ⟨p.val - o, by omega⟩)
          else Y (ix2 r p) := by
    intro Y W o
    unfold VecWindow.put
    have hiff : (∀ b : Fin S256x4096.rank, (![a, o] : Fin 2 → ℕ) b ≤ (ix2 r p b).val ∧ (ix2 r p b).val < (![a, o] : Fin 2 → ℕ) b + S8x512.size b)
        ↔ (a ≤ r.val ∧ r.val < a + 8) ∧ (o ≤ p.val ∧ p.val < o + 512) := by
      constructor
      · intro h; exact ⟨h 0, h 1⟩
      · intro h b
        match b with
        | ⟨0, _⟩ => exact h.1
        | ⟨1, _⟩ => exact h.2
    by_cases h : (a ≤ r.val ∧ r.val < a + 8) ∧ (o ≤ p.val ∧ p.val < o + 512)
    · rw [dif_pos h, dif_pos (hiff.mpr h)]
      refine congrArg W (funext fun b => ?_)
      match b with
      | ⟨0, _⟩ => rfl
      | ⟨1, _⟩ => rfl
    · rw [dif_neg h, dif_neg (fun h' => h (hiff.mp h'))]
  rw [key, key]

/-- A window of eight rows and 512 lanes of the chunk, read at a row and a lane. -/
theorem window_apply (X : S256x4096.Idx → Ideal .f32) (a o : ℕ) (inb : ∀ b, (![a, o] : Fin 2 → ℕ) b + S8x512.size b ≤ S256x4096.size b)
    (s : Fin 8) (j : Fin 512) (h1 : a + s.val < 256) (h2 : o + j.val < 4096) :
    VecWindow.window X ![a, o] S8x512.size inb (ix2 s j) = X (ix2 ⟨a + s.val, h1⟩ ⟨o + j.val, h2⟩) := by
  unfold VecWindow.window
  refine congrArg X (funext fun b => Fin.ext ?_)
  match b with
  | ⟨0, _⟩ => show a + 1 * s.val = a + s.val; omega
  | ⟨1, _⟩ => show o + 1 * j.val = o + j.val; omega

/-- What the chunk holds after `k` blocks of the scan of 512 lanes: the states in the rows done, what was there elsewhere. -/
def Done (o N k : ℕ) (lr li : Fin 512 → ℝ) (xr xi : ℕ → Fin 512 → ℝ) (X0 X : S256x4096.Idx → Ideal .f32) : Prop :=
  ∀ (r : Fin 256) (p : Fin 4096), X (ix2 r p)
    = if h : (256 - 8 * k ≤ r.val) ∧ (o ≤ p.val ∧ p.val < o + 512) then
        (((gst (lr ⟨p.val - o, by omega⟩) (li ⟨p.val - o, by omega⟩) (fun n => xr n ⟨p.val - o, by omega⟩) (fun n => xi n ⟨p.val - o, by omega⟩) (N + (256 - r.val))).1 : ℝ) : EReal)
      else if h : (256 - 8 * k ≤ r.val) ∧ (2048 + o ≤ p.val ∧ p.val < 2048 + o + 512) then
        (((gst (lr ⟨p.val - (2048 + o), by omega⟩) (li ⟨p.val - (2048 + o), by omega⟩) (fun n => xr n ⟨p.val - (2048 + o), by omega⟩) (fun n => xi n ⟨p.val - (2048 + o), by omega⟩) (N + (256 - r.val))).2 : ℝ) : EReal)
      else X0 (ix2 r p)

/-- The tables of 512 lanes hold the powers of the decay. -/
structure Tabs (v43 v45 v47 v49 v51 v53 v55 v57 : FVec Ideal S8x512 .f32) (lr li : Fin 512 → ℝ) : Prop where
  h43 : ∀ (j : Fin 512) (s : Fin 8), v43 (ix2 s j) = if s.val < 7 then ((pw (lr j) (li j) 0).1 : EReal) else 0
  h45 : ∀ (j : Fin 512) (s : Fin 8), v45 (ix2 s j) = if s.val < 7 then ((-(pw (lr j) (li j) 0).2 : ℝ) : EReal) else 0
  h47 : ∀ (j : Fin 512) (s : Fin 8), v47 (ix2 s j) = if s.val < 6 then ((pw (lr j) (li j) 1).1 : EReal) else 0
  h49 : ∀ (j : Fin 512) (s : Fin 8), v49 (ix2 s j) = if s.val < 6 then ((-(pw (lr j) (li j) 1).2 : ℝ) : EReal) else 0
  h51 : ∀ (j : Fin 512) (s : Fin 8), v51 (ix2 s j) = if s.val < 4 then ((pw (lr j) (li j) 3).1 : EReal) else 0
  h53 : ∀ (j : Fin 512) (s : Fin 8), v53 (ix2 s j) = if s.val < 4 then ((-(pw (lr j) (li j) 3).2 : ℝ) : EReal) else 0
  h55 : ∀ (j : Fin 512) (s : Fin 8), v55 (ix2 s j) = ((pw (lr j) (li j) (7 - s.val)).1 : EReal)
  h57 : ∀ (j : Fin 512) (s : Fin 8), v57 (ix2 s j) = ((-(pw (lr j) (li j) (7 - s.val)).2 : ℝ) : EReal)

/-- The carried rows hold the state after `M` tokens. -/
def Carries (M : ℕ) (lr li : Fin 512 → ℝ) (xr xi : ℕ → Fin 512 → ℝ) (c : FVec Ideal S8x512 .f32 × FVec Ideal S8x512 .f32) : Prop :=
  ∀ (j : Fin 512) (s : Fin 8), c.1 (ix2 s j) = (((gst (lr j) (li j) (fun n => xr n j) (fun n => xi n j) M).1 : ℝ) : EReal)
    ∧ c.2 (ix2 s j) = (((gst (lr j) (li j) (fun n => xr n j) (fun n => xi n j) M).2 : ℝ) : EReal)

/-- The chunk holds the drives of 512 lanes. -/
def Drives (o N : ℕ) (ho : o + 512 ≤ 2048) (xr xi : ℕ → Fin 512 → ℝ) (X : S256x4096.Idx → Ideal .f32) : Prop :=
  ∀ (r : Fin 256) (j : Fin 512), X (ix2 r ⟨o + j.val, by omega⟩) = ((xr (N + (255 - r.val)) j : ℝ) : EReal)
    ∧ X (ix2 r ⟨2048 + o + j.val, by omega⟩) = ((xi (N + (255 - r.val)) j : ℝ) : EReal)

/-- One block of the scan carries the recursion on by eight tokens. -/
theorem block_step {v43 v45 v47 v49 v51 v53 v55 v57 : FVec Ideal S8x512 .f32} {lr li : Fin 512 → ℝ} {xr xi : ℕ → Fin 512 → ℝ}
    (T : Tabs v43 v45 v47 v49 v51 v53 v55 v57 lr li) (o N k : ℕ) (ho : o + 512 ≤ 2048) (hk : k < 32)
    (X0 X : S256x4096.Idx → Ideal .f32) (hX0 : Drives o N ho xr xi X0) (hX : Done o N k lr li xr xi X0 X)
    (c : FVec Ideal S8x512 .f32 × FVec Ideal S8x512 .f32) (hc : Carries (N + 8 * k) lr li xr xi c)
    (i1 : ∀ b, (![248 - 8 * k, o] : Fin 2 → ℕ) b + S8x512.size b ≤ S256x4096.size b)
    (i2 : ∀ b, (![248 - 8 * k, 2048 + o] : Fin 2 → ℕ) b + S8x512.size b ≤ S256x4096.size b)
    (P Q : FVec Ideal S8x512 .f32)
    (hP : P = k0_pay13 v43 v45 v47 v49 v51 v53 v55 v57 c.1 c.2 (VecWindow.window X ![248 - 8 * k, o] S8x512.size i1) (VecWindow.window X ![248 - 8 * k, 2048 + o] S8x512.size i2))
    (hQ : Q = k0_pay14 v43 v45 v47 v49 v51 v53 v55 v57 c.1 c.2 (VecWindow.window X ![248 - 8 * k, o] S8x512.size i1) (VecWindow.window X ![248 - 8 * k, 2048 + o] S8x512.size i2)) :
    Carries (N + 8 * (k + 1)) lr li xr xi (k0_pay73 P, k0_pay74 Q)
      ∧ Done o N (k + 1) lr li xr xi X0 (VecWindow.put (VecWindow.put X ![248 - 8 * k, o] S8x512.size (k0_pay71 P)) ![248 - 8 * k, 2048 + o] S8x512.size (k0_pay72 Q)) := by
  have hx : ∀ (j : Fin 512) (s : Fin 8), VecWindow.window X ![248 - 8 * k, o] S8x512.size i1 (ix2 s j) = ((xr (N + 8 * k + (7 - s.val)) j : ℝ) : EReal) := by
    intro j s
    rw [window_apply X _ _ _ s j (by omega) (by omega), hX]
    rw [dif_neg (by simp only []; omega), dif_neg (by simp only []; omega), (hX0 _ j).1]
    exact congrArg (fun n => ((xr n j : ℝ) : EReal)) (by show _ = _; dsimp only; omega)
  have hy : ∀ (j : Fin 512) (s : Fin 8), VecWindow.window X ![248 - 8 * k, 2048 + o] S8x512.size i2 (ix2 s j) = ((xi (N + 8 * k + (7 - s.val)) j : ℝ) : EReal) := by
    intro j s
    rw [window_apply X _ _ _ s j (by omega) (by omega), hX]
    rw [dif_neg (by simp only []; omega), dif_neg (by simp only []; omega), (hX0 _ j).2]
    exact congrArg (fun n => ((xi n j : ℝ) : EReal)) (by show _ = _; dsimp only; omega)
  have hrow := fun (j : Fin 512) (s : Fin 8) => trip_row v43 v45 v47 v49 v51 v53 v55 v57 c.1 c.2 _ _ j (lr j) (li j) (fun n => xr n j) (fun n => xi n j) (N + 8 * k)
    (T.h43 j) (T.h45 j) (T.h47 j) (T.h49 j) (T.h51 j) (T.h53 j) (T.h55 j) (T.h57 j) (fun s => (hc j s).1) (fun s => (hc j s).2) (hx j) (hy j) s
  simp only [← hP, ← hQ] at hrow
  clear hP hQ
  constructor
  · intro j s
    constructor
    · show k0_pay73 P (ix2 s j) = _
      have e : k0_pay73 P (ix2 s j) = P (ix2 0 j) := by unfold k0_pay73; pointwise
      rw [e, (hrow j 0).1]; congr 3
    · show k0_pay74 Q (ix2 s j) = _
      have e : k0_pay74 Q (ix2 s j) = Q (ix2 0 j) := by unfold k0_pay74; pointwise
      rw [e, (hrow j 0).2]; congr 3
  · intro r p
    have eP : k0_pay71 P = P := by unfold k0_pay71; funext y; pointwise
    have eQ : k0_pay72 Q = Q := by unfold k0_pay72; funext y; pointwise
    rw [eP, eQ, put2_apply]
    by_cases hr : 248 - 8 * k ≤ r.val ∧ r.val < 248 - 8 * k + 8
    · have hr' : 256 - 8 * (k + 1) ≤ r.val := by omega
      have eN : N + 8 * k + (8 - (r.val - (248 - 8 * k))) = N + (256 - r.val) := by omega
      by_cases h1 : o ≤ p.val ∧ p.val < o + 512
      · rw [dif_neg (by omega), dif_pos ⟨hr, h1⟩, dif_pos ⟨hr', h1⟩, (hrow _ _).1]
        simp only [eN]
      · by_cases h2 : 2048 + o ≤ p.val ∧ p.val < 2048 + o + 512
        · rw [dif_pos ⟨hr, h2⟩, dif_neg (by omega), dif_pos ⟨hr', h2⟩, (hrow _ _).2]
          simp only [eN]
        · rw [dif_neg (by omega), dif_neg (by omega), dif_neg (by omega), dif_neg (by omega), hX, dif_neg (by omega), dif_neg (by omega)]
    · rw [dif_neg (by omega), dif_neg (by omega), hX]
      by_cases hr' : 256 - 8 * k ≤ r.val
      · have hr2 : 256 - 8 * (k + 1) ≤ r.val := by omega
        simp only [hr', hr2, true_and]
      · have hr2 : ¬ 256 - 8 * (k + 1) ≤ r.val := by omega
        simp only [hr', hr2, false_and, dif_neg, not_false_eq_true]

theorem tripR1_eq (𝒱 : Variants) (c : Dev nD) (bd : Option 𝒱.V) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (v43 : FVec Ideal S8x512 .f32) (v45 : FVec Ideal S8x512 .f32) (v47 : FVec Ideal S8x512 .f32) (v49 : FVec Ideal S8x512 .f32) (v51 : FVec Ideal S8x512 .f32) (v53 : FVec Ideal S8x512 .f32) (v55 : FVec Ideal S8x512 .f32) (v57 : FVec Ideal S8x512 .f32) (v58 : Vec Ideal S8x512 .f32) (k : Fin k0_t1_loop.trips) (acc : FVec Ideal S8x512 .f32 × FVec Ideal S8x512 .f32) (f : BufTy.Contents (Elt Ideal) arg19.view.ty) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v43 v45 v47 v49 v51 v53 v55 v57 v58 k acc f
      = (k0_pay73 (k0_pay13 v43 v45 v47 v49 v51 v53 v55 v57 acc.1 acc.2 (arg19.view.readAt (Elt Ideal) (Rect.unit (s := S256x4096) (k0_off1 k) S8x512.size (k0_off1_inb k)).toLoadRect f) (arg19.view.readAt (Elt Ideal) (Rect.unit (s := S256x4096) (k0_off2 k) S8x512.size (k0_off2_inb k)).toLoadRect f)),
         k0_pay74 (k0_pay14 v43 v45 v47 v49 v51 v53 v55 v57 acc.1 acc.2 (arg19.view.readAt (Elt Ideal) (Rect.unit (s := S256x4096) (k0_off1 k) S8x512.size (k0_off1_inb k)).toLoadRect f) (arg19.view.readAt (Elt Ideal) (Rect.unit (s := S256x4096) (k0_off2 k) S8x512.size (k0_off2_inb k)).toLoadRect f))) := by
  unfold tripR_k0_t1 trip_k0_t1; rfl

theorem tripL1_eq (𝒱 : Variants) (c : Dev nD) (bd : Option 𝒱.V) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (v43 : FVec Ideal S8x512 .f32) (v45 : FVec Ideal S8x512 .f32) (v47 : FVec Ideal S8x512 .f32) (v49 : FVec Ideal S8x512 .f32) (v51 : FVec Ideal S8x512 .f32) (v53 : FVec Ideal S8x512 .f32) (v55 : FVec Ideal S8x512 .f32) (v57 : FVec Ideal S8x512 .f32) (v58 : Vec Ideal S8x512 .f32) (k : Fin k0_t1_loop.trips) (acc : FVec Ideal S8x512 .f32 × FVec Ideal S8x512 .f32) (f : BufTy.Contents (Elt Ideal) arg19.view.ty) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v43 v45 v47 v49 v51 v53 v55 v57 v58 k acc f
      = [⟨Rect.unit (s := S256x4096) (k0_off2 k) S8x512.size (k0_off2_inb k), k0_pay72 (k0_pay14 v43 v45 v47 v49 v51 v53 v55 v57 acc.1 acc.2 (arg19.view.readAt (Elt Ideal) (Rect.unit (s := S256x4096) (k0_off1 k) S8x512.size (k0_off1_inb k)).toLoadRect f) (arg19.view.readAt (Elt Ideal) (Rect.unit (s := S256x4096) (k0_off2 k) S8x512.size (k0_off2_inb k)).toLoadRect f))⟩,
         ⟨Rect.unit (s := S256x4096) (k0_off1 k) S8x512.size (k0_off1_inb k), k0_pay71 (k0_pay13 v43 v45 v47 v49 v51 v53 v55 v57 acc.1 acc.2 (arg19.view.readAt (Elt Ideal) (Rect.unit (s := S256x4096) (k0_off1 k) S8x512.size (k0_off1_inb k)).toLoadRect f) (arg19.view.readAt (Elt Ideal) (Rect.unit (s := S256x4096) (k0_off2 k) S8x512.size (k0_off2_inb k)).toLoadRect f))⟩] := by
  unfold tripL_k0_t1 trip_k0_t1; rfl

/-- The scan of 512 lanes over the chunk. -/
theorem loop1 (𝒱 : Variants) (c : Dev nD) (bd : Option 𝒱.V) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (v43 : FVec Ideal S8x512 .f32) (v45 : FVec Ideal S8x512 .f32) (v47 : FVec Ideal S8x512 .f32) (v49 : FVec Ideal S8x512 .f32) (v51 : FVec Ideal S8x512 .f32) (v53 : FVec Ideal S8x512 .f32) (v55 : FVec Ideal S8x512 .f32) (v57 : FVec Ideal S8x512 .f32) (v58 : Vec Ideal S8x512 .f32) (G : BufTy.Contents (Elt Ideal) arg19.view.ty) (init : FVec Ideal S8x512 .f32 × FVec Ideal S8x512 .f32)
    {lr li : Fin 512 → ℝ} {xr xi : ℕ → Fin 512 → ℝ} (T : Tabs v43 v45 v47 v49 v51 v53 v55 v57 lr li) (N : ℕ)
    (hG : Drives 0 N (by decide) xr xi (arg19.view.read (Elt Ideal) G)) (hc : Carries N lr li xr xi init) (n : ℕ) (hn : n ≤ 32) :
    Carries (N + 8 * n) lr li xr xi (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v43 v45 v47 v49 v51 v53 v55 v57 v58 G init n).1
      ∧ Done 0 N n lr li xr xi (arg19.view.read (Elt Ideal) G) (arg19.view.read (Elt Ideal) (arg19.view.writes (Elt Ideal) G (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v43 v45 v47 v49 v51 v53 v55 v57 v58 G init n).2)) := by
  induction n with
  | zero =>
    refine ⟨hc, fun r p => ?_⟩
    rw [dif_neg (by omega), dif_neg (by omega)]; rfl
  | succ n ih =>
    obtain ⟨ih1, ih2⟩ := ih (by omega)
    have ht : n < k0_t1_loop.trips := by
      have : k0_t1_loop.trips = 32 := by decide +kernel
      omega
    have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v43 v45 v47 v49 v51 v53 v55 v57 v58 G init ⟨n, ht⟩
    have i1 : ∀ b, (![248 - 8 * n, 0] : Fin 2 → ℕ) b + S8x512.size b ≤ S256x4096.size b := by rw [← k0_off1_eq ⟨n, ht⟩]; exact k0_off1_inb ⟨n, ht⟩
    have i2 : ∀ b, (![248 - 8 * n, 2048 + 0] : Fin 2 → ℕ) b + S8x512.size b ≤ S256x4096.size b := by
      have := k0_off2_inb ⟨n, ht⟩; rw [k0_off2_eq ⟨n, ht⟩] at this; exact this
    have B := block_step T 0 N n (by decide) (by omega) _ _ hG ih2 _ ih1 i1 i2 _ _ rfl rfl
    rw [tripR1_eq, tripL1_eq, View.readAt_unit _ _ _ (k0_off1_eq ⟨n, ht⟩) i1, View.readAt_unit _ _ _ (k0_off2_eq ⟨n, ht⟩) i2] at e
    dsimp only at e
    rw [e]
    refine ⟨B.1, ?_⟩
    simp only [List.cons_append, List.nil_append]
    rw [View.read_writes_cons_put _ _ _ _ _ (k0_off2_eq ⟨n, ht⟩), View.read_writes_cons_put _ _ _ _ _ (k0_off1_eq ⟨n, ht⟩)]
    exact B.2

theorem tripR2_eq (𝒱 : Variants) (c : Dev nD) (bd : Option 𝒱.V) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (v69 : FVec Ideal S8x512 .f32) (v71 : FVec Ideal S8x512 .f32) (v73 : FVec Ideal S8x512 .f32) (v75 : FVec Ideal S8x512 .f32) (v77 : FVec Ideal S8x512 .f32) (v79 : FVec Ideal S8x512 .f32) (v81 : FVec Ideal S8x512 .f32) (v83 : FVec Ideal S8x512 .f32) (v84 : Vec Ideal S8x512 .f32) (v85 : Vec Ideal S8x512 .f32) (c0_i32_65 : BitVec 32) (k : Fin k0_t2_loop.trips) (acc : FVec Ideal S8x512 .f32 × FVec Ideal S8x512 .f32) (f : BufTy.Contents (Elt Ideal) arg19.view.ty) :
    tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v69 v71 v73 v75 v77 v79 v81 v83 v84 v85 c0_i32_65 k acc f
      = (k0_pay73 (k0_pay13 v69 v71 v73 v75 v77 v79 v81 v83 acc.1 acc.2 (arg19.view.readAt (Elt Ideal) (Rect.unit (s := S256x4096) (k0_off3 k) S8x512.size (k0_off3_inb k)).toLoadRect f) (arg19.view.readAt (Elt Ideal) (Rect.unit (s := S256x4096) (k0_off4 k) S8x512.size (k0_off4_inb k)).toLoadRect f)),
         k0_pay74 (k0_pay14 v69 v71 v73 v75 v77 v79 v81 v83 acc.1 acc.2 (arg19.view.readAt (Elt Ideal) (Rect.unit (s := S256x4096) (k0_off3 k) S8x512.size (k0_off3_inb k)).toLoadRect f) (arg19.view.readAt (Elt Ideal) (Rect.unit (s := S256x4096) (k0_off4 k) S8x512.size (k0_off4_inb k)).toLoadRect f))) := by
  unfold tripR_k0_t2 trip_k0_t2; rfl

theorem tripL2_eq (𝒱 : Variants) (c : Dev nD) (bd : Option 𝒱.V) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (v69 : FVec Ideal S8x512 .f32) (v71 : FVec Ideal S8x512 .f32) (v73 : FVec Ideal S8x512 .f32) (v75 : FVec Ideal S8x512 .f32) (v77 : FVec Ideal S8x512 .f32) (v79 : FVec Ideal S8x512 .f32) (v81 : FVec Ideal S8x512 .f32) (v83 : FVec Ideal S8x512 .f32) (v84 : Vec Ideal S8x512 .f32) (v85 : Vec Ideal S8x512 .f32) (c0_i32_65 : BitVec 32) (k : Fin k0_t2_loop.trips) (acc : FVec Ideal S8x512 .f32 × FVec Ideal S8x512 .f32) (f : BufTy.Contents (Elt Ideal) arg19.view.ty) :
    tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v69 v71 v73 v75 v77 v79 v81 v83 v84 v85 c0_i32_65 k acc f
      = [⟨Rect.unit (s := S256x4096) (k0_off4 k) S8x512.size (k0_off4_inb k), k0_pay72 (k0_pay14 v69 v71 v73 v75 v77 v79 v81 v83 acc.1 acc.2 (arg19.view.readAt (Elt Ideal) (Rect.unit (s := S256x4096) (k0_off3 k) S8x512.size (k0_off3_inb k)).toLoadRect f) (arg19.view.readAt (Elt Ideal) (Rect.unit (s := S256x4096) (k0_off4 k) S8x512.size (k0_off4_inb k)).toLoadRect f))⟩,
         ⟨Rect.unit (s := S256x4096) (k0_off3 k) S8x512.size (k0_off3_inb k), k0_pay71 (k0_pay13 v69 v71 v73 v75 v77 v79 v81 v83 acc.1 acc.2 (arg19.view.readAt (Elt Ideal) (Rect.unit (s := S256x4096) (k0_off3 k) S8x512.size (k0_off3_inb k)).toLoadRect f) (arg19.view.readAt (Elt Ideal) (Rect.unit (s := S256x4096) (k0_off4 k) S8x512.size (k0_off4_inb k)).toLoadRect f))⟩] := by
  unfold tripL_k0_t2 trip_k0_t2; rfl

/-- The scan of 512 lanes over the chunk. -/
theorem loop2 (𝒱 : Variants) (c : Dev nD) (bd : Option 𝒱.V) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (v69 : FVec Ideal S8x512 .f32) (v71 : FVec Ideal S8x512 .f32) (v73 : FVec Ideal S8x512 .f32) (v75 : FVec Ideal S8x512 .f32) (v77 : FVec Ideal S8x512 .f32) (v79 : FVec Ideal S8x512 .f32) (v81 : FVec Ideal S8x512 .f32) (v83 : FVec Ideal S8x512 .f32) (v84 : Vec Ideal S8x512 .f32) (v85 : Vec Ideal S8x512 .f32) (c0_i32_65 : BitVec 32) (G : BufTy.Contents (Elt Ideal) arg19.view.ty) (init : FVec Ideal S8x512 .f32 × FVec Ideal S8x512 .f32)
    {lr li : Fin 512 → ℝ} {xr xi : ℕ → Fin 512 → ℝ} (T : Tabs v69 v71 v73 v75 v77 v79 v81 v83 lr li) (N : ℕ)
    (hG : Drives 512 N (by decide) xr xi (arg19.view.read (Elt Ideal) G)) (hc : Carries N lr li xr xi init) (n : ℕ) (hn : n ≤ 32) :
    Carries (N + 8 * n) lr li xr xi (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v69 v71 v73 v75 v77 v79 v81 v83 v84 v85 c0_i32_65 G init n).1
      ∧ Done 512 N n lr li xr xi (arg19.view.read (Elt Ideal) G) (arg19.view.read (Elt Ideal) (arg19.view.writes (Elt Ideal) G (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v69 v71 v73 v75 v77 v79 v81 v83 v84 v85 c0_i32_65 G init n).2)) := by
  induction n with
  | zero =>
    refine ⟨hc, fun r p => ?_⟩
    rw [dif_neg (by omega), dif_neg (by omega)]; rfl
  | succ n ih =>
    obtain ⟨ih1, ih2⟩ := ih (by omega)
    have ht : n < k0_t2_loop.trips := by
      have : k0_t2_loop.trips = 32 := by decide +kernel
      omega
    have e := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v69 v71 v73 v75 v77 v79 v81 v83 v84 v85 c0_i32_65 G init ⟨n, ht⟩
    have i1 : ∀ b, (![248 - 8 * n, 512] : Fin 2 → ℕ) b + S8x512.size b ≤ S256x4096.size b := by rw [← k0_off3_eq ⟨n, ht⟩]; exact k0_off3_inb ⟨n, ht⟩
    have i2 : ∀ b, (![248 - 8 * n, 2048 + 512] : Fin 2 → ℕ) b + S8x512.size b ≤ S256x4096.size b := by
      have := k0_off4_inb ⟨n, ht⟩; rw [k0_off4_eq ⟨n, ht⟩] at this; exact this
    have B := block_step T 512 N n (by decide) (by omega) _ _ hG ih2 _ ih1 i1 i2 _ _ rfl rfl
    rw [tripR2_eq, tripL2_eq, View.readAt_unit _ _ _ (k0_off3_eq ⟨n, ht⟩) i1, View.readAt_unit _ _ _ (k0_off4_eq ⟨n, ht⟩) i2] at e
    dsimp only at e
    rw [e]
    refine ⟨B.1, ?_⟩
    simp only [List.cons_append, List.nil_append]
    rw [View.read_writes_cons_put _ _ _ _ _ (k0_off4_eq ⟨n, ht⟩), View.read_writes_cons_put _ _ _ _ _ (k0_off3_eq ⟨n, ht⟩)]
    exact B.2

theorem tripR3_eq (𝒱 : Variants) (c : Dev nD) (bd : Option 𝒱.V) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (v69 : FVec Ideal S8x512 .f32) (v71 : FVec Ideal S8x512 .f32) (v73 : FVec Ideal S8x512 .f32) (v75 : FVec Ideal S8x512 .f32) (v77 : FVec Ideal S8x512 .f32) (v79 : FVec Ideal S8x512 .f32) (v81 : FVec Ideal S8x512 .f32) (v83 : FVec Ideal S8x512 .f32) (v84 : Vec Ideal S8x512 .f32) (v85 : Vec Ideal S8x512 .f32) (c0_i32_65 : BitVec 32) (v94 : Vec Ideal S8x512 .f32) (v96 : Vec Ideal S8x512 .f32) (v98 : Vec Ideal S8x512 .f32) (v100 : Vec Ideal S8x512 .f32) (v102 : Vec Ideal S8x512 .f32) (v104 : Vec Ideal S8x512 .f32) (v106 : Vec Ideal S8x512 .f32) (v108 : Vec Ideal S8x512 .f32) (k : Fin k0_t3_loop.trips) (acc : FVec Ideal S8x512 .f32 × FVec Ideal S8x512 .f32) (f : BufTy.Contents (Elt Ideal) arg19.view.ty) :
    tripR_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v69 v71 v73 v75 v77 v79 v81 v83 v84 v85 c0_i32_65 v94 v96 v98 v100 v102 v104 v106 v108 k acc f
      = (k0_pay73 (k0_pay13 (k0_pay91 v94) (k0_pay92 v96) (k0_pay93 v98) (k0_pay94 v100) (k0_pay95 v102) (k0_pay96 v104) (k0_pay97 v106) (k0_pay98 v108) acc.1 acc.2 (arg19.view.readAt (Elt Ideal) (Rect.unit (s := S256x4096) (k0_off5 k) S8x512.size (k0_off5_inb k)).toLoadRect f) (arg19.view.readAt (Elt Ideal) (Rect.unit (s := S256x4096) (k0_off6 k) S8x512.size (k0_off6_inb k)).toLoadRect f)),
         k0_pay74 (k0_pay14 (k0_pay91 v94) (k0_pay92 v96) (k0_pay93 v98) (k0_pay94 v100) (k0_pay95 v102) (k0_pay96 v104) (k0_pay97 v106) (k0_pay98 v108) acc.1 acc.2 (arg19.view.readAt (Elt Ideal) (Rect.unit (s := S256x4096) (k0_off5 k) S8x512.size (k0_off5_inb k)).toLoadRect f) (arg19.view.readAt (Elt Ideal) (Rect.unit (s := S256x4096) (k0_off6 k) S8x512.size (k0_off6_inb k)).toLoadRect f))) := by
  unfold tripR_k0_t3 trip_k0_t3; rfl

theorem tripL3_eq (𝒱 : Variants) (c : Dev nD) (bd : Option 𝒱.V) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (v69 : FVec Ideal S8x512 .f32) (v71 : FVec Ideal S8x512 .f32) (v73 : FVec Ideal S8x512 .f32) (v75 : FVec Ideal S8x512 .f32) (v77 : FVec Ideal S8x512 .f32) (v79 : FVec Ideal S8x512 .f32) (v81 : FVec Ideal S8x512 .f32) (v83 : FVec Ideal S8x512 .f32) (v84 : Vec Ideal S8x512 .f32) (v85 : Vec Ideal S8x512 .f32) (c0_i32_65 : BitVec 32) (v94 : Vec Ideal S8x512 .f32) (v96 : Vec Ideal S8x512 .f32) (v98 : Vec Ideal S8x512 .f32) (v100 : Vec Ideal S8x512 .f32) (v102 : Vec Ideal S8x512 .f32) (v104 : Vec Ideal S8x512 .f32) (v106 : Vec Ideal S8x512 .f32) (v108 : Vec Ideal S8x512 .f32) (k : Fin k0_t3_loop.trips) (acc : FVec Ideal S8x512 .f32 × FVec Ideal S8x512 .f32) (f : BufTy.Contents (Elt Ideal) arg19.view.ty) :
    tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v69 v71 v73 v75 v77 v79 v81 v83 v84 v85 c0_i32_65 v94 v96 v98 v100 v102 v104 v106 v108 k acc f
      = [⟨Rect.unit (s := S256x4096) (k0_off6 k) S8x512.size (k0_off6_inb k), k0_pay72 (k0_pay14 (k0_pay91 v94) (k0_pay92 v96) (k0_pay93 v98) (k0_pay94 v100) (k0_pay95 v102) (k0_pay96 v104) (k0_pay97 v106) (k0_pay98 v108) acc.1 acc.2 (arg19.view.readAt (Elt Ideal) (Rect.unit (s := S256x4096) (k0_off5 k) S8x512.size (k0_off5_inb k)).toLoadRect f) (arg19.view.readAt (Elt Ideal) (Rect.unit (s := S256x4096) (k0_off6 k) S8x512.size (k0_off6_inb k)).toLoadRect f))⟩,
         ⟨Rect.unit (s := S256x4096) (k0_off5 k) S8x512.size (k0_off5_inb k), k0_pay71 (k0_pay13 (k0_pay91 v94) (k0_pay92 v96) (k0_pay93 v98) (k0_pay94 v100) (k0_pay95 v102) (k0_pay96 v104) (k0_pay97 v106) (k0_pay98 v108) acc.1 acc.2 (arg19.view.readAt (Elt Ideal) (Rect.unit (s := S256x4096) (k0_off5 k) S8x512.size (k0_off5_inb k)).toLoadRect f) (arg19.view.readAt (Elt Ideal) (Rect.unit (s := S256x4096) (k0_off6 k) S8x512.size (k0_off6_inb k)).toLoadRect f))⟩] := by
  unfold tripL_k0_t3 trip_k0_t3; rfl

/-- The scan of 512 lanes over the chunk. -/
theorem loop3 (𝒱 : Variants) (c : Dev nD) (bd : Option 𝒱.V) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (v69 : FVec Ideal S8x512 .f32) (v71 : FVec Ideal S8x512 .f32) (v73 : FVec Ideal S8x512 .f32) (v75 : FVec Ideal S8x512 .f32) (v77 : FVec Ideal S8x512 .f32) (v79 : FVec Ideal S8x512 .f32) (v81 : FVec Ideal S8x512 .f32) (v83 : FVec Ideal S8x512 .f32) (v84 : Vec Ideal S8x512 .f32) (v85 : Vec Ideal S8x512 .f32) (c0_i32_65 : BitVec 32) (v94 : Vec Ideal S8x512 .f32) (v96 : Vec Ideal S8x512 .f32) (v98 : Vec Ideal S8x512 .f32) (v100 : Vec Ideal S8x512 .f32) (v102 : Vec Ideal S8x512 .f32) (v104 : Vec Ideal S8x512 .f32) (v106 : Vec Ideal S8x512 .f32) (v108 : Vec Ideal S8x512 .f32) (G : BufTy.Contents (Elt Ideal) arg19.view.ty) (init : FVec Ideal S8x512 .f32 × FVec Ideal S8x512 .f32)
    {lr li : Fin 512 → ℝ} {xr xi : ℕ → Fin 512 → ℝ} (T : Tabs (k0_pay91 v94) (k0_pay92 v96) (k0_pay93 v98) (k0_pay94 v100) (k0_pay95 v102) (k0_pay96 v104) (k0_pay97 v106) (k0_pay98 v108) lr li) (N : ℕ)
    (hG : Drives 1024 N (by decide) xr xi (arg19.view.read (Elt Ideal) G)) (hc : Carries N lr li xr xi init) (n : ℕ) (hn : n ≤ 32) :
    Carries (N + 8 * n) lr li xr xi (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v69 v71 v73 v75 v77 v79 v81 v83 v84 v85 c0_i32_65 v94 v96 v98 v100 v102 v104 v106 v108 G init n).1
      ∧ Done 1024 N n lr li xr xi (arg19.view.read (Elt Ideal) G) (arg19.view.read (Elt Ideal) (arg19.view.writes (Elt Ideal) G (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v69 v71 v73 v75 v77 v79 v81 v83 v84 v85 c0_i32_65 v94 v96 v98 v100 v102 v104 v106 v108 G init n).2)) := by
  induction n with
  | zero =>
    refine ⟨hc, fun r p => ?_⟩
    rw [dif_neg (by omega), dif_neg (by omega)]; rfl
  | succ n ih =>
    obtain ⟨ih1, ih2⟩ := ih (by omega)
    have ht : n < k0_t3_loop.trips := by
      have : k0_t3_loop.trips = 32 := by decide +kernel
      omega
    have e := st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v69 v71 v73 v75 v77 v79 v81 v83 v84 v85 c0_i32_65 v94 v96 v98 v100 v102 v104 v106 v108 G init ⟨n, ht⟩
    have i1 : ∀ b, (![248 - 8 * n, 1024] : Fin 2 → ℕ) b + S8x512.size b ≤ S256x4096.size b := by rw [← k0_off5_eq ⟨n, ht⟩]; exact k0_off5_inb ⟨n, ht⟩
    have i2 : ∀ b, (![248 - 8 * n, 2048 + 1024] : Fin 2 → ℕ) b + S8x512.size b ≤ S256x4096.size b := by
      have := k0_off6_inb ⟨n, ht⟩; rw [k0_off6_eq ⟨n, ht⟩] at this; exact this
    have B := block_step T 1024 N n (by decide) (by omega) _ _ hG ih2 _ ih1 i1 i2 _ _ rfl rfl
    rw [tripR3_eq, tripL3_eq, View.readAt_unit _ _ _ (k0_off5_eq ⟨n, ht⟩) i1, View.readAt_unit _ _ _ (k0_off6_eq ⟨n, ht⟩) i2] at e
    dsimp only at e
    rw [e]
    refine ⟨B.1, ?_⟩
    simp only [List.cons_append, List.nil_append]
    rw [View.read_writes_cons_put _ _ _ _ _ (k0_off6_eq ⟨n, ht⟩), View.read_writes_cons_put _ _ _ _ _ (k0_off5_eq ⟨n, ht⟩)]
    exact B.2

theorem tripR4_eq (𝒱 : Variants) (c : Dev nD) (bd : Option 𝒱.V) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (v113_0 : Vec Ideal S8x512 .f32) (v113_1 : Vec Ideal S8x512 .f32) (v120 : Vec Ideal S8x512 .f32) (v122 : Vec Ideal S8x512 .f32) (v124 : Vec Ideal S8x512 .f32) (v126 : Vec Ideal S8x512 .f32) (v128 : Vec Ideal S8x512 .f32) (v130 : Vec Ideal S8x512 .f32) (v132 : Vec Ideal S8x512 .f32) (v134 : Vec Ideal S8x512 .f32) (k : Fin k0_t4_loop.trips) (acc : FVec Ideal S8x512 .f32 × FVec Ideal S8x512 .f32) (f : BufTy.Contents (Elt Ideal) arg19.view.ty) :
    tripR_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v113_0 v113_1 v120 v122 v124 v126 v128 v130 v132 v134 k acc f
      = (k0_pay73 (k0_pay13 (k0_pay105 v120) (k0_pay106 v122) (k0_pay107 v124) (k0_pay108 v126) (k0_pay109 v128) (k0_pay110 v130) (k0_pay111 v132) (k0_pay112 v134) acc.1 acc.2 (arg19.view.readAt (Elt Ideal) (Rect.unit (s := S256x4096) (k0_off7 k) S8x512.size (k0_off7_inb k)).toLoadRect f) (arg19.view.readAt (Elt Ideal) (Rect.unit (s := S256x4096) (k0_off8 k) S8x512.size (k0_off8_inb k)).toLoadRect f)),
         k0_pay74 (k0_pay14 (k0_pay105 v120) (k0_pay106 v122) (k0_pay107 v124) (k0_pay108 v126) (k0_pay109 v128) (k0_pay110 v130) (k0_pay111 v132) (k0_pay112 v134) acc.1 acc.2 (arg19.view.readAt (Elt Ideal) (Rect.unit (s := S256x4096) (k0_off7 k) S8x512.size (k0_off7_inb k)).toLoadRect f) (arg19.view.readAt (Elt Ideal) (Rect.unit (s := S256x4096) (k0_off8 k) S8x512.size (k0_off8_inb k)).toLoadRect f))) := by
  unfold tripR_k0_t4 trip_k0_t4; rfl

theorem tripL4_eq (𝒱 : Variants) (c : Dev nD) (bd : Option 𝒱.V) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (v113_0 : Vec Ideal S8x512 .f32) (v113_1 : Vec Ideal S8x512 .f32) (v120 : Vec Ideal S8x512 .f32) (v122 : Vec Ideal S8x512 .f32) (v124 : Vec Ideal S8x512 .f32) (v126 : Vec Ideal S8x512 .f32) (v128 : Vec Ideal S8x512 .f32) (v130 : Vec Ideal S8x512 .f32) (v132 : Vec Ideal S8x512 .f32) (v134 : Vec Ideal S8x512 .f32) (k : Fin k0_t4_loop.trips) (acc : FVec Ideal S8x512 .f32 × FVec Ideal S8x512 .f32) (f : BufTy.Contents (Elt Ideal) arg19.view.ty) :
    tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v113_0 v113_1 v120 v122 v124 v126 v128 v130 v132 v134 k acc f
      = [⟨Rect.unit (s := S256x4096) (k0_off8 k) S8x512.size (k0_off8_inb k), k0_pay72 (k0_pay14 (k0_pay105 v120) (k0_pay106 v122) (k0_pay107 v124) (k0_pay108 v126) (k0_pay109 v128) (k0_pay110 v130) (k0_pay111 v132) (k0_pay112 v134) acc.1 acc.2 (arg19.view.readAt (Elt Ideal) (Rect.unit (s := S256x4096) (k0_off7 k) S8x512.size (k0_off7_inb k)).toLoadRect f) (arg19.view.readAt (Elt Ideal) (Rect.unit (s := S256x4096) (k0_off8 k) S8x512.size (k0_off8_inb k)).toLoadRect f))⟩,
         ⟨Rect.unit (s := S256x4096) (k0_off7 k) S8x512.size (k0_off7_inb k), k0_pay71 (k0_pay13 (k0_pay105 v120) (k0_pay106 v122) (k0_pay107 v124) (k0_pay108 v126) (k0_pay109 v128) (k0_pay110 v130) (k0_pay111 v132) (k0_pay112 v134) acc.1 acc.2 (arg19.view.readAt (Elt Ideal) (Rect.unit (s := S256x4096) (k0_off7 k) S8x512.size (k0_off7_inb k)).toLoadRect f) (arg19.view.readAt (Elt Ideal) (Rect.unit (s := S256x4096) (k0_off8 k) S8x512.size (k0_off8_inb k)).toLoadRect f))⟩] := by
  unfold tripL_k0_t4 trip_k0_t4; rfl

/-- The scan of 512 lanes over the chunk. -/
theorem loop4 (𝒱 : Variants) (c : Dev nD) (bd : Option 𝒱.V) (i : grid0.Coords) (arg1 : Memref sig .tc .vmem S256x2048 .f32) (harg1 : arg1.IsWhole) (arg2 : Memref sig .tc .vmem S8x2048 .f32) (harg2 : arg2.IsWhole) (arg3 : Memref sig .tc .vmem S256x4096 .bf16) (harg3 : arg3.IsWhole) (arg4 : Memref sig .tc .vmem S16x4096 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S1x512 .f32) (harg11 : arg11.IsWhole) (arg12 : Memref sig .tc .vmem S32x4096 .f32) (harg12 : arg12.IsWhole) (arg13 : Memref sig .tc .vmem S256x2048 .bf16) (harg13 : arg13.IsWhole) (arg14 : Memref sig .tc .vmem S1x256x4096 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S8x4096 .f32) (harg17 : arg17.IsWhole) (arg18 : Memref sig .tc .vmem S8x512 .f32) (harg18 : arg18.IsWhole) (arg19 : Memref sig .tc .vmem S256x4096 .f32) (harg19 : arg19.IsWhole) (arg20 : Memref sig .tc .vmem S8x4096 .f32) (harg20 : arg20.IsWhole) (arg21 : Memref sig .tc .vmem S8x512 .f32) (harg21 : arg21.IsWhole) (v113_0 : Vec Ideal S8x512 .f32) (v113_1 : Vec Ideal S8x512 .f32) (v120 : Vec Ideal S8x512 .f32) (v122 : Vec Ideal S8x512 .f32) (v124 : Vec Ideal S8x512 .f32) (v126 : Vec Ideal S8x512 .f32) (v128 : Vec Ideal S8x512 .f32) (v130 : Vec Ideal S8x512 .f32) (v132 : Vec Ideal S8x512 .f32) (v134 : Vec Ideal S8x512 .f32) (G : BufTy.Contents (Elt Ideal) arg19.view.ty) (init : FVec Ideal S8x512 .f32 × FVec Ideal S8x512 .f32)
    {lr li : Fin 512 → ℝ} {xr xi : ℕ → Fin 512 → ℝ} (T : Tabs (k0_pay105 v120) (k0_pay106 v122) (k0_pay107 v124) (k0_pay108 v126) (k0_pay109 v128) (k0_pay110 v130) (k0_pay111 v132) (k0_pay112 v134) lr li) (N : ℕ)
    (hG : Drives 1536 N (by decide) xr xi (arg19.view.read (Elt Ideal) G)) (hc : Carries N lr li xr xi init) (n : ℕ) (hn : n ≤ 32) :
    Carries (N + 8 * n) lr li xr xi (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v113_0 v113_1 v120 v122 v124 v126 v128 v130 v132 v134 G init n).1
      ∧ Done 1536 N n lr li xr xi (arg19.view.read (Elt Ideal) G) (arg19.view.read (Elt Ideal) (arg19.view.writes (Elt Ideal) G (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v113_0 v113_1 v120 v122 v124 v126 v128 v130 v132 v134 G init n).2)) := by
  induction n with
  | zero =>
    refine ⟨hc, fun r p => ?_⟩
    rw [dif_neg (by omega), dif_neg (by omega)]; rfl
  | succ n ih =>
    obtain ⟨ih1, ih2⟩ := ih (by omega)
    have ht : n < k0_t4_loop.trips := by
      have : k0_t4_loop.trips = 32 := by decide +kernel
      omega
    have e := st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v113_0 v113_1 v120 v122 v124 v126 v128 v130 v132 v134 G init ⟨n, ht⟩
    have i1 : ∀ b, (![248 - 8 * n, 1536] : Fin 2 → ℕ) b + S8x512.size b ≤ S256x4096.size b := by rw [← k0_off7_eq ⟨n, ht⟩]; exact k0_off7_inb ⟨n, ht⟩
    have i2 : ∀ b, (![248 - 8 * n, 2048 + 1536] : Fin 2 → ℕ) b + S8x512.size b ≤ S256x4096.size b := by
      have := k0_off8_inb ⟨n, ht⟩; rw [k0_off8_eq ⟨n, ht⟩] at this; exact this
    have B := block_step T 1536 N n (by decide) (by omega) _ _ hG ih2 _ ih1 i1 i2 _ _ rfl rfl
    rw [tripR4_eq, tripL4_eq, View.readAt_unit _ _ _ (k0_off7_eq ⟨n, ht⟩) i1, View.readAt_unit _ _ _ (k0_off8_eq ⟨n, ht⟩) i2] at e
    dsimp only at e
    rw [e]
    refine ⟨B.1, ?_⟩
    simp only [List.cons_append, List.nil_append]
    rw [View.read_writes_cons_put _ _ _ _ _ (k0_off8_eq ⟨n, ht⟩), View.read_writes_cons_put _ _ _ _ _ (k0_off7_eq ⟨n, ht⟩)]
    exact B.2

end Cert.Proof.S5
-- ==== Proof.Chain.lean ====
/- The four scans of a chunk one after another: what the chunk holds when all are done. -/

module

public import proofs.«01_k».proof.Proof.Loop
public import proofs.«01_k».proof.Proof.Runs
public import Idealize.ShloMosaic.Lib.Pipeline.ValueKit.Tiles

@[expose] public section

set_option maxRecDepth 16384

noncomputable section

namespace Cert.Proof.S5

open Idealize.ShloMosaic
open Cert.KernelIdeal Cert.KernelIdeal.Gen

/-- The chunk of scratch, with stores done to it. -/
abbrev W (L : List (View.Piece (Elt Ideal) S256x4096 .f32)) := (View.whole cc0_scratch0).writes (Elt Ideal) (View.whole cc0_scratch0).junk L

section Chain

variable (c : Dev nD) (t : Fin cfg0.N) (dy : Vec Ideal S256x512 .f32) (cc : Vec Ideal S512x4096 .bf16) (lt : Vec Ideal S32x4096 .f32)
variable (p0 q0 p1 q1 p2 q2 p3 q3 : Vec Ideal S8x512 .f32)

/-- The expanded cotangent, in the four tiles the kernel stores. -/
def L0 : List (View.Piece (Elt Ideal) S256x4096 .f32) :=
  [⟨Rect.unit (s := S256x4096) ![0, 3072] S256x1024.size inb_S256x4096_S256x1024_0_3072, k0_pay62 (k0_pay55 dy) (View.ld cc (Rect.unit (s := S512x4096) ![256, 3072] S256x1024.size inb_S512x4096_S256x1024_256_3072))⟩,
   ⟨Rect.unit (s := S256x4096) ![0, 1024] S256x1024.size inb_S256x4096_S256x1024_0_1024, k0_pay61 (k0_pay60 dy) (View.ld cc (Rect.unit (s := S512x4096) ![256, 1024] S256x1024.size inb_S512x4096_S256x1024_256_1024))⟩,
   ⟨Rect.unit (s := S256x4096) ![0, 2048] S256x1024.size inb_S256x4096_S256x1024_0_2048, k0_pay59 dy (View.ld cc (Rect.unit (s := S512x4096) ![0, 2048] S256x1024.size inb_S512x4096_S256x1024_0_2048))⟩,
   ⟨Rect.unit (s := S256x4096) ![0, 0] S256x1024.size inb_S256x4096_S256x1024_0_0, k0_pay58 dy (View.ld cc (Rect.unit (s := S512x4096) ![0, 0] S256x1024.size inb_S512x4096_S256x1024_0_0))⟩]

/-- The scan of the first 512 lanes. -/
def S1 := st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (k0_pay63 (View.ld lt (Rect.unit (s := S32x4096) ![0, 0] S8x512.size inb_S32x4096_S8x512_0_0))) (k0_pay64 (View.ld lt (Rect.unit (s := S32x4096) ![0, 2048] S8x512.size inb_S32x4096_S8x512_0_2048))) (k0_pay65 (View.ld lt (Rect.unit (s := S32x4096) ![8, 0] S8x512.size inb_S32x4096_S8x512_8_0))) (k0_pay66 (View.ld lt (Rect.unit (s := S32x4096) ![8, 2048] S8x512.size inb_S32x4096_S8x512_8_2048))) (k0_pay67 (View.ld lt (Rect.unit (s := S32x4096) ![16, 0] S8x512.size inb_S32x4096_S8x512_16_0))) (k0_pay68 (View.ld lt (Rect.unit (s := S32x4096) ![16, 2048] S8x512.size inb_S32x4096_S8x512_16_2048))) (k0_pay69 (View.ld lt (Rect.unit (s := S32x4096) ![24, 0] S8x512.size inb_S32x4096_S8x512_24_0))) (k0_pay70 (View.ld lt (Rect.unit (s := S32x4096) ![24, 2048] S8x512.size inb_S32x4096_S8x512_24_2048))) p0 (W (L0 dy cc)) (p0, q0) (Scf.trips (0#32) (Scalar.addi 0#32 32#32) 1#32)
def L1 := (S1 c t dy cc lt p0 q0).2 ++ L0 dy cc
def S2 := st_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (k0_pay77 (View.ld lt (Rect.unit (s := S32x4096) ![0, 512] S8x512.size inb_S32x4096_S8x512_0_512))) (k0_pay78 (View.ld lt (Rect.unit (s := S32x4096) ![0, 2560] S8x512.size inb_S32x4096_S8x512_0_2560))) (k0_pay79 (View.ld lt (Rect.unit (s := S32x4096) ![8, 512] S8x512.size inb_S32x4096_S8x512_8_512))) (k0_pay80 (View.ld lt (Rect.unit (s := S32x4096) ![8, 2560] S8x512.size inb_S32x4096_S8x512_8_2560))) (k0_pay81 (View.ld lt (Rect.unit (s := S32x4096) ![16, 512] S8x512.size inb_S32x4096_S8x512_16_512))) (k0_pay82 (View.ld lt (Rect.unit (s := S32x4096) ![16, 2560] S8x512.size inb_S32x4096_S8x512_16_2560))) (k0_pay83 (View.ld lt (Rect.unit (s := S32x4096) ![24, 512] S8x512.size inb_S32x4096_S8x512_24_512))) (k0_pay84 (View.ld lt (Rect.unit (s := S32x4096) ![24, 2560] S8x512.size inb_S32x4096_S8x512_24_2560))) p1 q1 (0#32) (W (L1 c t dy cc lt p0 q0)) (p1, q1) (Scf.trips (0#32) (Scalar.addi 0#32 32#32) 1#32)
def L2 := (S2 c t dy cc lt p0 q0 p1 q1).2 ++ L1 c t dy cc lt p0 q0
def S3 := st_k0_t3 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (k0_pay77 (View.ld lt (Rect.unit (s := S32x4096) ![0, 512] S8x512.size inb_S32x4096_S8x512_0_512))) (k0_pay78 (View.ld lt (Rect.unit (s := S32x4096) ![0, 2560] S8x512.size inb_S32x4096_S8x512_0_2560))) (k0_pay79 (View.ld lt (Rect.unit (s := S32x4096) ![8, 512] S8x512.size inb_S32x4096_S8x512_8_512))) (k0_pay80 (View.ld lt (Rect.unit (s := S32x4096) ![8, 2560] S8x512.size inb_S32x4096_S8x512_8_2560))) (k0_pay81 (View.ld lt (Rect.unit (s := S32x4096) ![16, 512] S8x512.size inb_S32x4096_S8x512_16_512))) (k0_pay82 (View.ld lt (Rect.unit (s := S32x4096) ![16, 2560] S8x512.size inb_S32x4096_S8x512_16_2560))) (k0_pay83 (View.ld lt (Rect.unit (s := S32x4096) ![24, 512] S8x512.size inb_S32x4096_S8x512_24_512))) (k0_pay84 (View.ld lt (Rect.unit (s := S32x4096) ![24, 2560] S8x512.size inb_S32x4096_S8x512_24_2560))) p1 q1 (0#32) (View.ld lt (Rect.unit (s := S32x4096) ![0, 1024] S8x512.size inb_S32x4096_S8x512_0_1024)) (View.ld lt (Rect.unit (s := S32x4096) ![0, 3072] S8x512.size inb_S32x4096_S8x512_0_3072)) (View.ld lt (Rect.unit (s := S32x4096) ![8, 1024] S8x512.size inb_S32x4096_S8x512_8_1024)) (View.ld lt (Rect.unit (s := S32x4096) ![8, 3072] S8x512.size inb_S32x4096_S8x512_8_3072)) (View.ld lt (Rect.unit (s := S32x4096) ![16, 1024] S8x512.size inb_S32x4096_S8x512_16_1024)) (View.ld lt (Rect.unit (s := S32x4096) ![16, 3072] S8x512.size inb_S32x4096_S8x512_16_3072)) (View.ld lt (Rect.unit (s := S32x4096) ![24, 1024] S8x512.size inb_S32x4096_S8x512_24_1024)) (View.ld lt (Rect.unit (s := S32x4096) ![24, 3072] S8x512.size inb_S32x4096_S8x512_24_3072)) (W (L2 c t dy cc lt p0 q0 p1 q1)) (p2, q2) (Scf.trips (0#32) (Scalar.addi 0#32 32#32) 1#32)
def L3 := (S3 c t dy cc lt p0 q0 p1 q1 p2 q2).2 ++ L2 c t dy cc lt p0 q0 p1 q1
def S4 := st_k0_t4 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (S3 c t dy cc lt p0 q0 p1 q1 p2 q2).1.1 (S3 c t dy cc lt p0 q0 p1 q1 p2 q2).1.2 (View.ld lt (Rect.unit (s := S32x4096) ![0, 1536] S8x512.size inb_S32x4096_S8x512_0_1536)) (View.ld lt (Rect.unit (s := S32x4096) ![0, 3584] S8x512.size inb_S32x4096_S8x512_0_3584)) (View.ld lt (Rect.unit (s := S32x4096) ![8, 1536] S8x512.size inb_S32x4096_S8x512_8_1536)) (View.ld lt (Rect.unit (s := S32x4096) ![8, 3584] S8x512.size inb_S32x4096_S8x512_8_3584)) (View.ld lt (Rect.unit (s := S32x4096) ![16, 1536] S8x512.size inb_S32x4096_S8x512_16_1536)) (View.ld lt (Rect.unit (s := S32x4096) ![16, 3584] S8x512.size inb_S32x4096_S8x512_16_3584)) (View.ld lt (Rect.unit (s := S32x4096) ![24, 1536] S8x512.size inb_S32x4096_S8x512_24_1536)) (View.ld lt (Rect.unit (s := S32x4096) ![24, 3584] S8x512.size inb_S32x4096_S8x512_24_3584)) (W (L3 c t dy cc lt p0 q0 p1 q1 p2 q2)) (p3, q3) (Scf.trips (0#32) (Scalar.addi 0#32 32#32) 1#32)
def L4 := (S4 c t dy cc lt p0 q0 p1 q1 p2 q2 p3 q3).2 ++ L3 c t dy cc lt p0 q0 p1 q1 p2 q2

end Chain

/-- The table block holds the powers of the decay of all lanes. -/
structure LtSpec (lt : Vec Ideal S32x4096 .f32) (lr li : Fin 2048 → ℝ) : Prop where
  re0 : ∀ (q : Fin 2048) (s : Fin 8), lt (ix2 ⟨0 + s.val, by omega⟩ ⟨0 + q.val, by omega⟩) = if s.val < 7 then ((pw (lr q) (li q) 0).1 : EReal) else 0
  im0 : ∀ (q : Fin 2048) (s : Fin 8), lt (ix2 ⟨0 + s.val, by omega⟩ ⟨2048 + q.val, by omega⟩) = if s.val < 7 then ((-(pw (lr q) (li q) 0).2 : ℝ) : EReal) else 0
  re1 : ∀ (q : Fin 2048) (s : Fin 8), lt (ix2 ⟨8 + s.val, by omega⟩ ⟨0 + q.val, by omega⟩) = if s.val < 6 then ((pw (lr q) (li q) 1).1 : EReal) else 0
  im1 : ∀ (q : Fin 2048) (s : Fin 8), lt (ix2 ⟨8 + s.val, by omega⟩ ⟨2048 + q.val, by omega⟩) = if s.val < 6 then ((-(pw (lr q) (li q) 1).2 : ℝ) : EReal) else 0
  re3 : ∀ (q : Fin 2048) (s : Fin 8), lt (ix2 ⟨16 + s.val, by omega⟩ ⟨0 + q.val, by omega⟩) = if s.val < 4 then ((pw (lr q) (li q) 3).1 : EReal) else 0
  im3 : ∀ (q : Fin 2048) (s : Fin 8), lt (ix2 ⟨16 + s.val, by omega⟩ ⟨2048 + q.val, by omega⟩) = if s.val < 4 then ((-(pw (lr q) (li q) 3).2 : ℝ) : EReal) else 0
  rep : ∀ (q : Fin 2048) (s : Fin 8), lt (ix2 ⟨24 + s.val, by omega⟩ ⟨0 + q.val, by omega⟩) = ((pw (lr q) (li q) (7 - s.val)).1 : EReal)
  imp : ∀ (q : Fin 2048) (s : Fin 8), lt (ix2 ⟨24 + s.val, by omega⟩ ⟨2048 + q.val, by omega⟩) = ((-(pw (lr q) (li q) (7 - s.val)).2 : ℝ) : EReal)

/-- The lanes of one group. -/
abbrev lane {α : Type} (o : ℕ) (ho : o + 512 ≤ 2048) (f : Fin 2048 → α) : Fin 512 → α := fun j => f ⟨o + j.val, by omega⟩

/-- Eight rows and 512 lanes of the table, at an index. -/
theorem ld_lt (lt : Vec Ideal S32x4096 .f32) (a b : ℕ) (inb : ∀ x, (![a, b] : Fin 2 → ℕ) x + S8x512.size x ≤ S32x4096.size x) (s : Fin 8) (j : Fin 512)
    (h1 : a + s.val < 32) (h2 : b + j.val < 4096) :
    View.ld lt (Rect.unit (s := S32x4096) ![a, b] S8x512.size inb) (ix2 s j) = lt (ix2 ⟨a + s.val, h1⟩ ⟨b + j.val, h2⟩) := by
  refine View.ld_unit_apply_of lt _ _ _ _ _ fun x => ?_
  match x with
  | ⟨0, _⟩ => rfl
  | ⟨1, _⟩ => rfl

/-- The tables of one group of lanes. -/
theorem tabs_of {lt : Vec Ideal S32x4096 .f32} {lr li : Fin 2048 → ℝ} (h : LtSpec lt lr li) (o : ℕ) (ho : o + 512 ≤ 2048)
    {v0 v1 v2 v3 v4 v5 v6 v7 : FVec Ideal S8x512 .f32}
    (i0 : ∀ x, (![0, o] : Fin 2 → ℕ) x + S8x512.size x ≤ S32x4096.size x) (i1 : ∀ x, (![0, 2048 + o] : Fin 2 → ℕ) x + S8x512.size x ≤ S32x4096.size x)
    (i2 : ∀ x, (![8, o] : Fin 2 → ℕ) x + S8x512.size x ≤ S32x4096.size x) (i3 : ∀ x, (![8, 2048 + o] : Fin 2 → ℕ) x + S8x512.size x ≤ S32x4096.size x)
    (i4 : ∀ x, (![16, o] : Fin 2 → ℕ) x + S8x512.size x ≤ S32x4096.size x) (i5 : ∀ x, (![16, 2048 + o] : Fin 2 → ℕ) x + S8x512.size x ≤ S32x4096.size x)
    (i6 : ∀ x, (![24, o] : Fin 2 → ℕ) x + S8x512.size x ≤ S32x4096.size x) (i7 : ∀ x, (![24, 2048 + o] : Fin 2 → ℕ) x + S8x512.size x ≤ S32x4096.size x)
    (e0 : v0 = View.ld lt (Rect.unit (s := S32x4096) ![0, o] S8x512.size i0)) (e1 : v1 = View.ld lt (Rect.unit (s := S32x4096) ![0, 2048 + o] S8x512.size i1))
    (e2 : v2 = View.ld lt (Rect.unit (s := S32x4096) ![8, o] S8x512.size i2)) (e3 : v3 = View.ld lt (Rect.unit (s := S32x4096) ![8, 2048 + o] S8x512.size i3))
    (e4 : v4 = View.ld lt (Rect.unit (s := S32x4096) ![16, o] S8x512.size i4)) (e5 : v5 = View.ld lt (Rect.unit (s := S32x4096) ![16, 2048 + o] S8x512.size i5))
    (e6 : v6 = View.ld lt (Rect.unit (s := S32x4096) ![24, o] S8x512.size i6)) (e7 : v7 = View.ld lt (Rect.unit (s := S32x4096) ![24, 2048 + o] S8x512.size i7)) :
    Tabs v0 v1 v2 v3 v4 v5 v6 v7 (lane o ho lr) (lane o ho li) := by
  have key : ∀ (a b b' : ℕ) (inb : ∀ x, (![a, b] : Fin 2 → ℕ) x + S8x512.size x ≤ S32x4096.size x) (s : Fin 8) (j : Fin 512) (ha : a ≤ 24) (hb : b = b' + o) (hb' : b' ≤ 2048),
      View.ld lt (Rect.unit (s := S32x4096) ![a, b] S8x512.size inb) (ix2 s j) = lt (ix2 ⟨a + s.val, by omega⟩ ⟨b' + (o + j.val), by omega⟩) := by
    intro a b b' inb s j ha hb hb'
    rw [ld_lt lt a b inb s j (by omega) (by omega)]
    exact congrArg lt (congrArg (ix2 _) (Fin.ext (by show b + j.val = b' + (o + j.val); omega)))
  subst e0 e1 e2 e3 e4 e5 e6 e7
  exact
    { h43 := fun j s => (key 0 o 0 _ s j (by omega) (by omega) (by omega)).trans (h.re0 ⟨o + j.val, by omega⟩ s)
      h45 := fun j s => (key 0 (2048 + o) 2048 _ s j (by omega) (by omega) (by omega)).trans (h.im0 ⟨o + j.val, by omega⟩ s)
      h47 := fun j s => (key 8 o 0 _ s j (by omega) (by omega) (by omega)).trans (h.re1 ⟨o + j.val, by omega⟩ s)
      h49 := fun j s => (key 8 (2048 + o) 2048 _ s j (by omega) (by omega) (by omega)).trans (h.im1 ⟨o + j.val, by omega⟩ s)
      h51 := fun j s => (key 16 o 0 _ s j (by omega) (by omega) (by omega)).trans (h.re3 ⟨o + j.val, by omega⟩ s)
      h53 := fun j s => (key 16 (2048 + o) 2048 _ s j (by omega) (by omega) (by omega)).trans (h.im3 ⟨o + j.val, by omega⟩ s)
      h55 := fun j s => (key 24 o 0 _ s j (by omega) (by omega) (by omega)).trans (h.rep ⟨o + j.val, by omega⟩ s)
      h57 := fun j s => (key 24 (2048 + o) 2048 _ s j (by omega) (by omega) (by omega)).trans (h.imp ⟨o + j.val, by omega⟩ s) }

/-- A scan leaves the other lanes alone. -/
theorem Done.keep {o N k : ℕ} {lr li : Fin 512 → ℝ} {xr xi : ℕ → Fin 512 → ℝ} {X0 X : S256x4096.Idx → Ideal .f32} (h : Done o N k lr li xr xi X0 X)
    (r : Fin 256) (p : Fin 4096) (h1 : ¬ (o ≤ p.val ∧ p.val < o + 512)) (h2 : ¬ (2048 + o ≤ p.val ∧ p.val < 2048 + o + 512)) : X (ix2 r p) = X0 (ix2 r p) := by
  rw [h r p, dif_neg (fun hh => h1 hh.2), dif_neg (fun hh => h2 hh.2)]

/-- A scan done holds the states of its lanes. -/
theorem Done.at {o N : ℕ} {lr li : Fin 512 → ℝ} {xr xi : ℕ → Fin 512 → ℝ} {X0 X : S256x4096.Idx → Ideal .f32} (h : Done o N 32 lr li xr xi X0 X)
    (ho : o + 512 ≤ 2048) (r : Fin 256) (j : Fin 512) :
    X (ix2 r ⟨o + j.val, by omega⟩) = (((gst (lr j) (li j) (fun n => xr n j) (fun n => xi n j) (N + (256 - r.val))).1 : ℝ) : EReal)
      ∧ X (ix2 r ⟨2048 + o + j.val, by omega⟩) = (((gst (lr j) (li j) (fun n => xr n j) (fun n => xi n j) (N + (256 - r.val))).2 : ℝ) : EReal) := by
  constructor
  · rw [h r _, dif_pos (by refine ⟨by omega, ?_, ?_⟩ <;> dsimp only <;> omega)]
    have e : (⟨(⟨o + j.val, by omega⟩ : Fin 4096).val - o, by dsimp only; omega⟩ : Fin 512) = j := Fin.ext (by dsimp only; omega)
    simp only [e]
  · rw [h r _, dif_neg (by rintro ⟨-, -, h2⟩; dsimp only at h2; omega), dif_pos (by refine ⟨by omega, ?_, ?_⟩ <;> dsimp only <;> omega)]
    have e : (⟨(⟨2048 + o + j.val, by omega⟩ : Fin 4096).val - (2048 + o), by dsimp only; omega⟩ : Fin 512) = j := Fin.ext (by dsimp only; omega)
    simp only [e]

/-- The drives of other lanes are still there. -/
theorem Done.drives {o N k : ℕ} {lr li : Fin 512 → ℝ} {xr xi : ℕ → Fin 512 → ℝ} {X0 X : S256x4096.Idx → Ideal .f32} (h : Done o N k lr li xr xi X0 X)
    (o' M : ℕ) (ho : o + 512 ≤ 2048) (ho' : o' + 512 ≤ 2048) (hd : o + 512 ≤ o') {yr yi : ℕ → Fin 512 → ℝ} (D : Drives o' M ho' yr yi X0) : Drives o' M ho' yr yi X := by
  intro r j
  refine ⟨(h.keep r _ ?_ ?_).trans (D r j).1, (h.keep r _ ?_ ?_).trans (D r j).2⟩ <;> rintro ⟨h1, h2⟩ <;> dsimp only at h1 h2 <;> omega

section Chain

variable {c : Dev nD} {t : Fin cfg0.N} {dy : Vec Ideal S256x512 .f32} {cc : Vec Ideal S512x4096 .bf16} {lt : Vec Ideal S32x4096 .f32}
variable {p0 q0 p1 q1 p2 q2 p3 q3 : Vec Ideal S8x512 .f32}

theorem scan1 {lr li : Fin 2048 → ℝ} {xr xi : ℕ → Fin 512 → ℝ} (hlt : LtSpec lt lr li) (N : ℕ)
    (hG : Drives 0 N (by decide) xr xi (View.canon (L0 dy cc)))
    (hc : Carries N (lane 0 (by decide) lr) (lane 0 (by decide) li) xr xi (p0, q0)) :
    Carries (N + 256) (lane 0 (by decide) lr) (lane 0 (by decide) li) xr xi (S1 c t dy cc lt p0 q0).1
      ∧ Done 0 N 32 (lane 0 (by decide) lr) (lane 0 (by decide) li) xr xi (View.canon (L0 dy cc)) (View.canon (L1 c t dy cc lt p0 q0)) := by
  have T := tabs_of hlt 0 (by decide) inb_S32x4096_S8x512_0_0 inb_S32x4096_S8x512_0_2048 inb_S32x4096_S8x512_8_0 inb_S32x4096_S8x512_8_2048 inb_S32x4096_S8x512_16_0 inb_S32x4096_S8x512_16_2048 inb_S32x4096_S8x512_24_0 inb_S32x4096_S8x512_24_2048 (show k0_pay63 (F := Ideal) (View.ld lt (Rect.unit (s := S32x4096) ![0, 0] S8x512.size inb_S32x4096_S8x512_0_0)) = _ by unfold k0_pay63; exact shapeCast_self _ _) (show k0_pay64 (F := Ideal) (View.ld lt (Rect.unit (s := S32x4096) ![0, 2048] S8x512.size inb_S32x4096_S8x512_0_2048)) = _ by unfold k0_pay64; exact shapeCast_self _ _) (show k0_pay65 (F := Ideal) (View.ld lt (Rect.unit (s := S32x4096) ![8, 0] S8x512.size inb_S32x4096_S8x512_8_0)) = _ by unfold k0_pay65; exact shapeCast_self _ _) (show k0_pay66 (F := Ideal) (View.ld lt (Rect.unit (s := S32x4096) ![8, 2048] S8x512.size inb_S32x4096_S8x512_8_2048)) = _ by unfold k0_pay66; exact shapeCast_self _ _) (show k0_pay67 (F := Ideal) (View.ld lt (Rect.unit (s := S32x4096) ![16, 0] S8x512.size inb_S32x4096_S8x512_16_0)) = _ by unfold k0_pay67; exact shapeCast_self _ _) (show k0_pay68 (F := Ideal) (View.ld lt (Rect.unit (s := S32x4096) ![16, 2048] S8x512.size inb_S32x4096_S8x512_16_2048)) = _ by unfold k0_pay68; exact shapeCast_self _ _) (show k0_pay69 (F := Ideal) (View.ld lt (Rect.unit (s := S32x4096) ![24, 0] S8x512.size inb_S32x4096_S8x512_24_0)) = _ by unfold k0_pay69; exact shapeCast_self _ _) (show k0_pay70 (F := Ideal) (View.ld lt (Rect.unit (s := S32x4096) ![24, 2048] S8x512.size inb_S32x4096_S8x512_24_2048)) = _ by unfold k0_pay70; exact shapeCast_self _ _)
  have e0 : scM0_0.view.read (Elt Ideal) (W (L0 dy cc)) = View.canon (L0 dy cc) := View.read_writes_junk_eq_canon (View.whole cc0_scratch0) _
  have e1 : scM0_0.view.read (Elt Ideal) (scM0_0.view.writes (Elt Ideal) (W (L0 dy cc)) (S1 c t dy cc lt p0 q0).2) = View.canon (L1 c t dy cc lt p0 q0) := by
    rw [show scM0_0.view.writes (Elt Ideal) (W (L0 dy cc)) (S1 c t dy cc lt p0 q0).2 = W (L1 c t dy cc lt p0 q0) from (View.writes_append (View.whole cc0_scratch0) _ _ _).symm]
    exact View.read_writes_junk_eq_canon (View.whole cc0_scratch0) _
  have hN : (Scf.trips (0#32) (Scalar.addi 0#32 32#32) 1#32) = 32 := by decide +kernel
  have hG' : Drives 0 N (by decide) xr xi (scM0_0.view.read (Elt Ideal) (W (L0 dy cc))) := by rw [e0]; exact hG
  have D := loop1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) _ _ _ _ _ _ _ _ p0 (W (L0 dy cc)) (p0, q0) T N hG' hc 32 (le_refl _)
  rw [e0] at D
  refine ⟨?_, ?_⟩
  · have h := D.1; unfold S1; rw [hN]; exact h
  · have h := D.2; rw [← e1]; unfold S1; rw [hN]; exact h

theorem scan2 {lr li : Fin 2048 → ℝ} {xr xi : ℕ → Fin 512 → ℝ} (hlt : LtSpec lt lr li) (N : ℕ)
    (hG : Drives 512 N (by decide) xr xi (View.canon (L1 c t dy cc lt p0 q0)))
    (hc : Carries N (lane 512 (by decide) lr) (lane 512 (by decide) li) xr xi (p1, q1)) :
    Carries (N + 256) (lane 512 (by decide) lr) (lane 512 (by decide) li) xr xi (S2 c t dy cc lt p0 q0 p1 q1).1
      ∧ Done 512 N 32 (lane 512 (by decide) lr) (lane 512 (by decide) li) xr xi (View.canon (L1 c t dy cc lt p0 q0)) (View.canon (L2 c t dy cc lt p0 q0 p1 q1)) := by
  have T := tabs_of hlt 512 (by decide) inb_S32x4096_S8x512_0_512 inb_S32x4096_S8x512_0_2560 inb_S32x4096_S8x512_8_512 inb_S32x4096_S8x512_8_2560 inb_S32x4096_S8x512_16_512 inb_S32x4096_S8x512_16_2560 inb_S32x4096_S8x512_24_512 inb_S32x4096_S8x512_24_2560 (show k0_pay77 (F := Ideal) (View.ld lt (Rect.unit (s := S32x4096) ![0, 512] S8x512.size inb_S32x4096_S8x512_0_512)) = _ by unfold k0_pay77; exact shapeCast_self _ _) (show k0_pay78 (F := Ideal) (View.ld lt (Rect.unit (s := S32x4096) ![0, 2560] S8x512.size inb_S32x4096_S8x512_0_2560)) = _ by unfold k0_pay78; exact shapeCast_self _ _) (show k0_pay79 (F := Ideal) (View.ld lt (Rect.unit (s := S32x4096) ![8, 512] S8x512.size inb_S32x4096_S8x512_8_512)) = _ by unfold k0_pay79; exact shapeCast_self _ _) (show k0_pay80 (F := Ideal) (View.ld lt (Rect.unit (s := S32x4096) ![8, 2560] S8x512.size inb_S32x4096_S8x512_8_2560)) = _ by unfold k0_pay80; exact shapeCast_self _ _) (show k0_pay81 (F := Ideal) (View.ld lt (Rect.unit (s := S32x4096) ![16, 512] S8x512.size inb_S32x4096_S8x512_16_512)) = _ by unfold k0_pay81; exact shapeCast_self _ _) (show k0_pay82 (F := Ideal) (View.ld lt (Rect.unit (s := S32x4096) ![16, 2560] S8x512.size inb_S32x4096_S8x512_16_2560)) = _ by unfold k0_pay82; exact shapeCast_self _ _) (show k0_pay83 (F := Ideal) (View.ld lt (Rect.unit (s := S32x4096) ![24, 512] S8x512.size inb_S32x4096_S8x512_24_512)) = _ by unfold k0_pay83; exact shapeCast_self _ _) (show k0_pay84 (F := Ideal) (View.ld lt (Rect.unit (s := S32x4096) ![24, 2560] S8x512.size inb_S32x4096_S8x512_24_2560)) = _ by unfold k0_pay84; exact shapeCast_self _ _)
  have e0 : scM0_0.view.read (Elt Ideal) (W (L1 c t dy cc lt p0 q0)) = View.canon (L1 c t dy cc lt p0 q0) := View.read_writes_junk_eq_canon (View.whole cc0_scratch0) _
  have e1 : scM0_0.view.read (Elt Ideal) (scM0_0.view.writes (Elt Ideal) (W (L1 c t dy cc lt p0 q0)) (S2 c t dy cc lt p0 q0 p1 q1).2) = View.canon (L2 c t dy cc lt p0 q0 p1 q1) := by
    rw [show scM0_0.view.writes (Elt Ideal) (W (L1 c t dy cc lt p0 q0)) (S2 c t dy cc lt p0 q0 p1 q1).2 = W (L2 c t dy cc lt p0 q0 p1 q1) from (View.writes_append (View.whole cc0_scratch0) _ _ _).symm]
    exact View.read_writes_junk_eq_canon (View.whole cc0_scratch0) _
  have hN : (Scf.trips (0#32) (Scalar.addi 0#32 32#32) 1#32) = 32 := by decide +kernel
  have hG' : Drives 512 N (by decide) xr xi (scM0_0.view.read (Elt Ideal) (W (L1 c t dy cc lt p0 q0))) := by rw [e0]; exact hG
  have D := loop2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) _ _ _ _ _ _ _ _ p1 q1 (0#32) (W (L1 c t dy cc lt p0 q0)) (p1, q1) T N hG' hc 32 (le_refl _)
  rw [e0] at D
  refine ⟨?_, ?_⟩
  · have h := D.1; unfold S2; rw [hN]; exact h
  · have h := D.2; rw [← e1]; unfold S2; rw [hN]; exact h

theorem scan3 {lr li : Fin 2048 → ℝ} {xr xi : ℕ → Fin 512 → ℝ} (hlt : LtSpec lt lr li) (N : ℕ)
    (hG : Drives 1024 N (by decide) xr xi (View.canon (L2 c t dy cc lt p0 q0 p1 q1)))
    (hc : Carries N (lane 1024 (by decide) lr) (lane 1024 (by decide) li) xr xi (p2, q2)) :
    Carries (N + 256) (lane 1024 (by decide) lr) (lane 1024 (by decide) li) xr xi (S3 c t dy cc lt p0 q0 p1 q1 p2 q2).1
      ∧ Done 1024 N 32 (lane 1024 (by decide) lr) (lane 1024 (by decide) li) xr xi (View.canon (L2 c t dy cc lt p0 q0 p1 q1)) (View.canon (L3 c t dy cc lt p0 q0 p1 q1 p2 q2)) := by
  have T := tabs_of hlt 1024 (by decide) inb_S32x4096_S8x512_0_1024 inb_S32x4096_S8x512_0_3072 inb_S32x4096_S8x512_8_1024 inb_S32x4096_S8x512_8_3072 inb_S32x4096_S8x512_16_1024 inb_S32x4096_S8x512_16_3072 inb_S32x4096_S8x512_24_1024 inb_S32x4096_S8x512_24_3072 (show k0_pay91 (F := Ideal) (View.ld lt (Rect.unit (s := S32x4096) ![0, 1024] S8x512.size inb_S32x4096_S8x512_0_1024)) = _ by unfold k0_pay91; exact shapeCast_self _ _) (show k0_pay92 (F := Ideal) (View.ld lt (Rect.unit (s := S32x4096) ![0, 3072] S8x512.size inb_S32x4096_S8x512_0_3072)) = _ by unfold k0_pay92; exact shapeCast_self _ _) (show k0_pay93 (F := Ideal) (View.ld lt (Rect.unit (s := S32x4096) ![8, 1024] S8x512.size inb_S32x4096_S8x512_8_1024)) = _ by unfold k0_pay93; exact shapeCast_self _ _) (show k0_pay94 (F := Ideal) (View.ld lt (Rect.unit (s := S32x4096) ![8, 3072] S8x512.size inb_S32x4096_S8x512_8_3072)) = _ by unfold k0_pay94; exact shapeCast_self _ _) (show k0_pay95 (F := Ideal) (View.ld lt (Rect.unit (s := S32x4096) ![16, 1024] S8x512.size inb_S32x4096_S8x512_16_1024)) = _ by unfold k0_pay95; exact shapeCast_self _ _) (show k0_pay96 (F := Ideal) (View.ld lt (Rect.unit (s := S32x4096) ![16, 3072] S8x512.size inb_S32x4096_S8x512_16_3072)) = _ by unfold k0_pay96; exact shapeCast_self _ _) (show k0_pay97 (F := Ideal) (View.ld lt (Rect.unit (s := S32x4096) ![24, 1024] S8x512.size inb_S32x4096_S8x512_24_1024)) = _ by unfold k0_pay97; exact shapeCast_self _ _) (show k0_pay98 (F := Ideal) (View.ld lt (Rect.unit (s := S32x4096) ![24, 3072] S8x512.size inb_S32x4096_S8x512_24_3072)) = _ by unfold k0_pay98; exact shapeCast_self _ _)
  have e0 : scM0_0.view.read (Elt Ideal) (W (L2 c t dy cc lt p0 q0 p1 q1)) = View.canon (L2 c t dy cc lt p0 q0 p1 q1) := View.read_writes_junk_eq_canon (View.whole cc0_scratch0) _
  have e1 : scM0_0.view.read (Elt Ideal) (scM0_0.view.writes (Elt Ideal) (W (L2 c t dy cc lt p0 q0 p1 q1)) (S3 c t dy cc lt p0 q0 p1 q1 p2 q2).2) = View.canon (L3 c t dy cc lt p0 q0 p1 q1 p2 q2) := by
    rw [show scM0_0.view.writes (Elt Ideal) (W (L2 c t dy cc lt p0 q0 p1 q1)) (S3 c t dy cc lt p0 q0 p1 q1 p2 q2).2 = W (L3 c t dy cc lt p0 q0 p1 q1 p2 q2) from (View.writes_append (View.whole cc0_scratch0) _ _ _).symm]
    exact View.read_writes_junk_eq_canon (View.whole cc0_scratch0) _
  have hN : (Scf.trips (0#32) (Scalar.addi 0#32 32#32) 1#32) = 32 := by decide +kernel
  have hG' : Drives 1024 N (by decide) xr xi (scM0_0.view.read (Elt Ideal) (W (L2 c t dy cc lt p0 q0 p1 q1))) := by rw [e0]; exact hG
  have D := loop3 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (k0_pay77 (View.ld lt (Rect.unit (s := S32x4096) ![0, 512] S8x512.size inb_S32x4096_S8x512_0_512))) (k0_pay78 (View.ld lt (Rect.unit (s := S32x4096) ![0, 2560] S8x512.size inb_S32x4096_S8x512_0_2560))) (k0_pay79 (View.ld lt (Rect.unit (s := S32x4096) ![8, 512] S8x512.size inb_S32x4096_S8x512_8_512))) (k0_pay80 (View.ld lt (Rect.unit (s := S32x4096) ![8, 2560] S8x512.size inb_S32x4096_S8x512_8_2560))) (k0_pay81 (View.ld lt (Rect.unit (s := S32x4096) ![16, 512] S8x512.size inb_S32x4096_S8x512_16_512))) (k0_pay82 (View.ld lt (Rect.unit (s := S32x4096) ![16, 2560] S8x512.size inb_S32x4096_S8x512_16_2560))) (k0_pay83 (View.ld lt (Rect.unit (s := S32x4096) ![24, 512] S8x512.size inb_S32x4096_S8x512_24_512))) (k0_pay84 (View.ld lt (Rect.unit (s := S32x4096) ![24, 2560] S8x512.size inb_S32x4096_S8x512_24_2560))) p1 q1 (0#32) _ _ _ _ _ _ _ _ (W (L2 c t dy cc lt p0 q0 p1 q1)) (p2, q2) T N hG' hc 32 (le_refl _)
  rw [e0] at D
  refine ⟨?_, ?_⟩
  · have h := D.1; unfold S3; rw [hN]; exact h
  · have h := D.2; rw [← e1]; unfold S3; rw [hN]; exact h

theorem scan4 {lr li : Fin 2048 → ℝ} {xr xi : ℕ → Fin 512 → ℝ} (hlt : LtSpec lt lr li) (N : ℕ)
    (hG : Drives 1536 N (by decide) xr xi (View.canon (L3 c t dy cc lt p0 q0 p1 q1 p2 q2)))
    (hc : Carries N (lane 1536 (by decide) lr) (lane 1536 (by decide) li) xr xi (p3, q3)) :
    Carries (N + 256) (lane 1536 (by decide) lr) (lane 1536 (by decide) li) xr xi (S4 c t dy cc lt p0 q0 p1 q1 p2 q2 p3 q3).1
      ∧ Done 1536 N 32 (lane 1536 (by decide) lr) (lane 1536 (by decide) li) xr xi (View.canon (L3 c t dy cc lt p0 q0 p1 q1 p2 q2)) (View.canon (L4 c t dy cc lt p0 q0 p1 q1 p2 q2 p3 q3)) := by
  have T := tabs_of hlt 1536 (by decide) inb_S32x4096_S8x512_0_1536 inb_S32x4096_S8x512_0_3584 inb_S32x4096_S8x512_8_1536 inb_S32x4096_S8x512_8_3584 inb_S32x4096_S8x512_16_1536 inb_S32x4096_S8x512_16_3584 inb_S32x4096_S8x512_24_1536 inb_S32x4096_S8x512_24_3584 (show k0_pay105 (F := Ideal) (View.ld lt (Rect.unit (s := S32x4096) ![0, 1536] S8x512.size inb_S32x4096_S8x512_0_1536)) = _ by unfold k0_pay105; exact shapeCast_self _ _) (show k0_pay106 (F := Ideal) (View.ld lt (Rect.unit (s := S32x4096) ![0, 3584] S8x512.size inb_S32x4096_S8x512_0_3584)) = _ by unfold k0_pay106; exact shapeCast_self _ _) (show k0_pay107 (F := Ideal) (View.ld lt (Rect.unit (s := S32x4096) ![8, 1536] S8x512.size inb_S32x4096_S8x512_8_1536)) = _ by unfold k0_pay107; exact shapeCast_self _ _) (show k0_pay108 (F := Ideal) (View.ld lt (Rect.unit (s := S32x4096) ![8, 3584] S8x512.size inb_S32x4096_S8x512_8_3584)) = _ by unfold k0_pay108; exact shapeCast_self _ _) (show k0_pay109 (F := Ideal) (View.ld lt (Rect.unit (s := S32x4096) ![16, 1536] S8x512.size inb_S32x4096_S8x512_16_1536)) = _ by unfold k0_pay109; exact shapeCast_self _ _) (show k0_pay110 (F := Ideal) (View.ld lt (Rect.unit (s := S32x4096) ![16, 3584] S8x512.size inb_S32x4096_S8x512_16_3584)) = _ by unfold k0_pay110; exact shapeCast_self _ _) (show k0_pay111 (F := Ideal) (View.ld lt (Rect.unit (s := S32x4096) ![24, 1536] S8x512.size inb_S32x4096_S8x512_24_1536)) = _ by unfold k0_pay111; exact shapeCast_self _ _) (show k0_pay112 (F := Ideal) (View.ld lt (Rect.unit (s := S32x4096) ![24, 3584] S8x512.size inb_S32x4096_S8x512_24_3584)) = _ by unfold k0_pay112; exact shapeCast_self _ _)
  have e0 : scM0_0.view.read (Elt Ideal) (W (L3 c t dy cc lt p0 q0 p1 q1 p2 q2)) = View.canon (L3 c t dy cc lt p0 q0 p1 q1 p2 q2) := View.read_writes_junk_eq_canon (View.whole cc0_scratch0) _
  have e1 : scM0_0.view.read (Elt Ideal) (scM0_0.view.writes (Elt Ideal) (W (L3 c t dy cc lt p0 q0 p1 q1 p2 q2)) (S4 c t dy cc lt p0 q0 p1 q1 p2 q2 p3 q3).2) = View.canon (L4 c t dy cc lt p0 q0 p1 q1 p2 q2 p3 q3) := by
    rw [show scM0_0.view.writes (Elt Ideal) (W (L3 c t dy cc lt p0 q0 p1 q1 p2 q2)) (S4 c t dy cc lt p0 q0 p1 q1 p2 q2 p3 q3).2 = W (L4 c t dy cc lt p0 q0 p1 q1 p2 q2 p3 q3) from (View.writes_append (View.whole cc0_scratch0) _ _ _).symm]
    exact View.read_writes_junk_eq_canon (View.whole cc0_scratch0) _
  have hN : (Scf.trips (0#32) (Scalar.addi 0#32 32#32) 1#32) = 32 := by decide +kernel
  have hG' : Drives 1536 N (by decide) xr xi (scM0_0.view.read (Elt Ideal) (W (L3 c t dy cc lt p0 q0 p1 q1 p2 q2))) := by rw [e0]; exact hG
  have D := loop4 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (S3 c t dy cc lt p0 q0 p1 q1 p2 q2).1.1 (S3 c t dy cc lt p0 q0 p1 q1 p2 q2).1.2 _ _ _ _ _ _ _ _ (W (L3 c t dy cc lt p0 q0 p1 q1 p2 q2)) (p3, q3) T N hG' hc 32 (le_refl _)
  rw [e0] at D
  refine ⟨?_, ?_⟩
  · have h := D.1; unfold S4; rw [hN]; exact h
  · have h := D.2; rw [← e1]; unfold S4; rw [hN]; exact h

theorem lane_lt (o : ℕ) (ho : o + 512 ≤ 2048) (j : Fin 512) : o + j.val < 2048 := by omega

/-- The whole chunk when the four scans are done, and what each carries on. -/
theorem chain {lr li : Fin 2048 → ℝ} {xr xi : ℕ → Fin 2048 → ℝ} (hlt : LtSpec lt lr li) (N : ℕ)
    (hx : ∀ (r : Fin 256) (q : Fin 2048), View.canon (L0 dy cc) (ix2 r ⟨0 + q.val, by omega⟩) = ((xr (N + (255 - r.val)) q : ℝ) : EReal)
      ∧ View.canon (L0 dy cc) (ix2 r ⟨2048 + q.val, by omega⟩) = ((xi (N + (255 - r.val)) q : ℝ) : EReal))
    (h0 : Carries N (lane 0 (by decide) lr) (lane 0 (by decide) li) (fun n => lane 0 (by decide) (xr n)) (fun n => lane 0 (by decide) (xi n)) (p0, q0))
    (h1 : Carries N (lane 512 (by decide) lr) (lane 512 (by decide) li) (fun n => lane 512 (by decide) (xr n)) (fun n => lane 512 (by decide) (xi n)) (p1, q1))
    (h2 : Carries N (lane 1024 (by decide) lr) (lane 1024 (by decide) li) (fun n => lane 1024 (by decide) (xr n)) (fun n => lane 1024 (by decide) (xi n)) (p2, q2))
    (h3 : Carries N (lane 1536 (by decide) lr) (lane 1536 (by decide) li) (fun n => lane 1536 (by decide) (xr n)) (fun n => lane 1536 (by decide) (xi n)) (p3, q3)) :
    (∀ (r : Fin 256) (q : Fin 2048),
      View.canon (L4 c t dy cc lt p0 q0 p1 q1 p2 q2 p3 q3) (ix2 r ⟨0 + q.val, by omega⟩) = (((gst (lr q) (li q) (fun n => xr n q) (fun n => xi n q) (N + (256 - r.val))).1 : ℝ) : EReal)
      ∧ View.canon (L4 c t dy cc lt p0 q0 p1 q1 p2 q2 p3 q3) (ix2 r ⟨2048 + q.val, by omega⟩) = (((gst (lr q) (li q) (fun n => xr n q) (fun n => xi n q) (N + (256 - r.val))).2 : ℝ) : EReal))
    ∧ Carries (N + 256) (lane 0 (by decide) lr) (lane 0 (by decide) li) (fun n => lane 0 (by decide) (xr n)) (fun n => lane 0 (by decide) (xi n)) (S1 c t dy cc lt p0 q0).1
    ∧ Carries (N + 256) (lane 512 (by decide) lr) (lane 512 (by decide) li) (fun n => lane 512 (by decide) (xr n)) (fun n => lane 512 (by decide) (xi n)) (S2 c t dy cc lt p0 q0 p1 q1).1
    ∧ Carries (N + 256) (lane 1024 (by decide) lr) (lane 1024 (by decide) li) (fun n => lane 1024 (by decide) (xr n)) (fun n => lane 1024 (by decide) (xi n)) (S3 c t dy cc lt p0 q0 p1 q1 p2 q2).1
    ∧ Carries (N + 256) (lane 1536 (by decide) lr) (lane 1536 (by decide) li) (fun n => lane 1536 (by decide) (xr n)) (fun n => lane 1536 (by decide) (xi n)) (S4 c t dy cc lt p0 q0 p1 q1 p2 q2 p3 q3).1 := by
  have drv : ∀ (o : ℕ) (ho : o + 512 ≤ 2048), Drives o N ho (fun n => lane o ho (xr n)) (fun n => lane o ho (xi n)) (View.canon (L0 dy cc)) := by
    intro o ho r j
    have h := hx r ⟨o + j.val, by omega⟩
    refine ⟨(congrArg (View.canon (L0 dy cc)) (congrArg (ix2 r) (Fin.ext ?_))).trans h.1, (congrArg (View.canon (L0 dy cc)) (congrArg (ix2 r) (Fin.ext ?_))).trans h.2⟩ <;> dsimp only <;> omega
  have A1 := scan1 (c := c) (t := t) hlt N (drv 0 (by decide)) h0
  have A2 := scan2 (c := c) (t := t) (p1 := p1) (q1 := q1) hlt N (A1.2.drives 512 N (by decide) (by decide) (by decide) (drv 512 (by decide))) h1
  have A3 := scan3 (c := c) (t := t) (p2 := p2) (q2 := q2) hlt N (A2.2.drives 1024 N (by decide) (by decide) (by decide) (A1.2.drives 1024 N (by decide) (by decide) (by decide) (drv 1024 (by decide)))) h2
  have A4 := scan4 (c := c) (t := t) (p3 := p3) (q3 := q3) hlt N (A3.2.drives 1536 N (by decide) (by decide) (by decide) (A2.2.drives 1536 N (by decide) (by decide) (by decide) (A1.2.drives 1536 N (by decide) (by decide) (by decide) (drv 1536 (by decide))))) h3
  refine ⟨fun r q => ?_, A1.1, A2.1, A3.1, A4.1⟩
  by_cases g3 : 1536 ≤ q.val
  · obtain ⟨j, rfl⟩ : ∃ j : Fin 512, q = ⟨1536 + j.val, lane_lt 1536 (by decide) j⟩ := ⟨⟨q.val - 1536, by omega⟩, Fin.ext (by dsimp only; omega)⟩
    have B := A4.2.at (by decide) r j
    refine ⟨Eq.trans (congrArg (View.canon _) (congrArg (ix2 r) (Fin.ext ?_))) B.1, Eq.trans (congrArg (View.canon _) (congrArg (ix2 r) (Fin.ext ?_))) B.2⟩ <;> dsimp only <;> omega
  by_cases g2 : 1024 ≤ q.val
  · obtain ⟨j, rfl⟩ : ∃ j : Fin 512, q = ⟨1024 + j.val, lane_lt 1024 (by decide) j⟩ := ⟨⟨q.val - 1024, by omega⟩, Fin.ext (by dsimp only; omega)⟩
    have B := A3.2.at (by decide) r j
    refine ⟨(A4.2.keep r _ ?_ ?_).trans (Eq.trans (congrArg (View.canon _) (congrArg (ix2 r) (Fin.ext ?_))) B.1), (A4.2.keep r _ ?_ ?_).trans (Eq.trans (congrArg (View.canon _) (congrArg (ix2 r) (Fin.ext ?_))) B.2)⟩ <;> dsimp only <;> omega
  by_cases g1 : 512 ≤ q.val
  · obtain ⟨j, rfl⟩ : ∃ j : Fin 512, q = ⟨512 + j.val, lane_lt 512 (by decide) j⟩ := ⟨⟨q.val - 512, by omega⟩, Fin.ext (by dsimp only; omega)⟩
    have B := A2.2.at (by decide) r j
    refine ⟨(A4.2.keep r _ ?_ ?_).trans ((A3.2.keep r _ ?_ ?_).trans (Eq.trans (congrArg (View.canon _) (congrArg (ix2 r) (Fin.ext ?_))) B.1)), (A4.2.keep r _ ?_ ?_).trans ((A3.2.keep r _ ?_ ?_).trans (Eq.trans (congrArg (View.canon _) (congrArg (ix2 r) (Fin.ext ?_))) B.2))⟩ <;> dsimp only <;> omega
  obtain ⟨j, rfl⟩ : ∃ j : Fin 512, q = ⟨0 + j.val, lane_lt 0 (by decide) j⟩ := ⟨⟨q.val, by omega⟩, Fin.ext (by dsimp only; omega)⟩
  have B := A1.2.at (by decide) r j
  refine ⟨(A4.2.keep r _ ?_ ?_).trans ((A3.2.keep r _ ?_ ?_).trans ((A2.2.keep r _ ?_ ?_).trans (Eq.trans (congrArg (View.canon _) (congrArg (ix2 r) (Fin.ext ?_))) B.1))), (A4.2.keep r _ ?_ ?_).trans ((A3.2.keep r _ ?_ ?_).trans ((A2.2.keep r _ ?_ ?_).trans (Eq.trans (congrArg (View.canon _) (congrArg (ix2 r) (Fin.ext ?_))) B.2)))⟩ <;> dsimp only <;> omega

end Chain

end Cert.Proof.S5
-- ==== Proof.Expand.lean ====
/- The expanded cotangent of a chunk, index by index. -/

module

public import proofs.«01_k».proof.Proof.Chain
public import Idealize.ShloMosaic.Lib.Pipeline.ValueKit

@[expose] public section

set_option maxRecDepth 16384

noncomputable section

namespace Cert.Proof.S5

open Idealize.ShloMosaic
open Cert.KernelIdeal Cert.KernelIdeal.Gen

/-- Lane `p` of the expanded cotangent's row `r`: the half of the cotangent's row the lane belongs to, against the table's column. -/
theorem L0_at (dy : Vec Ideal S256x512 .f32) (cc : Vec Ideal S512x4096 .bf16) (r : Fin 256) (p : Fin 4096) :
    View.canon (L0 dy cc) (ix2 r p)
      = ∑ k : Fin 256, (dy (ix2 r ⟨256 * (p.val % 2048 / 1024) + k.val, by omega⟩) * cc (ix2 ⟨256 * (p.val % 2048 / 1024) + k.val, by omega⟩ p) : EReal) := by
  unfold L0
  have hr := r.isLt
  canon_tiles x h
  all_goals
    idx_vars x
    have e0 : x0 = r := Fin.ext h0.symm
    have e1 := h1
    subst e0
    change p.val = _ at e1
    try change p.val = _ + x1.val at e1
    unfold_payloads
    pointwise []
    refine @Finset.sum_congr _ EReal _ _ _ _ _ rfl fun k _ => ?_
    refine congrArg₂ (fun a b : EReal => a * b) ?_ ?_
    · refine congrArg dy (congrArg (ix2 _) (Fin.ext ?_)); dsimp only; omega
    · refine congrArg cc (congrArg₂ ix2 (Fin.ext ?_) (Fin.ext ?_)) <;> dsimp only <;> omega

end Cert.Proof.S5
-- ==== Proof.Sweep.lean ====
/- The chunk of states and the carry, point by point, from the carry the point before left. -/

module

public import proofs.«01_k».proof.Proof.Expand
public import proofs.«01_k».proof.Proof.Blocks
public import Idealize.ShloMosaic.Lib.Pipeline.ReadBack

@[expose] public section

set_option maxRecDepth 16384

noncomputable section

namespace Cert.Proof.S5

open Idealize.ShloMosaic Idealize.ShloMosaic.TcCoe
open Cert.KernelIdeal Cert.KernelIdeal.Gen

variable (m : (ℓ : Loc nD τ sig) → Buf (Elt Ideal) ℓ)

/-- A window of 512 lanes of the carry. -/
abbrev ldc (X : Vec Ideal S8x4096 .f32) (k : ℕ) (inb : ∀ b, (![0, k] : Fin 2 → ℕ) b + S8x512.size b ≤ S8x4096.size b) : Vec Ideal S8x512 .f32 :=
  View.ld X (Rect.unit (s := S8x4096) ![0, k] S8x512.size inb)

/-- The chunk after the four scans that start from the carry `X`. -/
def VX (c : Dev nD) (t : Fin cfg0.N) (dy : Vec Ideal S256x512 .f32) (cc : Vec Ideal S512x4096 .bf16) (lt : Vec Ideal S32x4096 .f32) (X : Vec Ideal S8x4096 .f32) : Vec Ideal S256x4096 .f32 :=
  View.canon (L4 c t dy cc lt (ldc X 0 inb_S8x4096_S8x512_0_0) (ldc X 2048 inb_S8x4096_S8x512_0_2048) (ldc X 512 inb_S8x4096_S8x512_0_512) (ldc X 2560 inb_S8x4096_S8x512_0_2560)
    (ldc X 1024 inb_S8x4096_S8x512_0_1024) (ldc X 3072 inb_S8x4096_S8x512_0_3072) (ldc X 1536 inb_S8x4096_S8x512_0_1536) (ldc X 3584 inb_S8x4096_S8x512_0_3584))

/-- The eight blocks of carry a point stores. -/
def CP (c : Dev nD) (t : Fin cfg0.N) (dy : Vec Ideal S256x512 .f32) (cc : Vec Ideal S512x4096 .bf16) (lt : Vec Ideal S32x4096 .f32) (p0 q0 p1 q1 p2 q2 p3 q3 : Vec Ideal S8x512 .f32) :
    List (View.Piece (Elt Ideal) S8x4096 .f32) :=
  [⟨Rect.unit (s := S8x4096) ![0, 3584] S8x512.size inb_S8x4096_S8x512_0_3584, k0_pay118 (S4 c t dy cc lt p0 q0 p1 q1 p2 q2 p3 q3).1.2⟩,
   ⟨Rect.unit (s := S8x4096) ![0, 1536] S8x512.size inb_S8x4096_S8x512_0_1536, k0_pay117 (S4 c t dy cc lt p0 q0 p1 q1 p2 q2 p3 q3).1.1⟩,
   ⟨Rect.unit (s := S8x4096) ![0, 3072] S8x512.size inb_S8x4096_S8x512_0_3072, k0_pay104 (S3 c t dy cc lt p0 q0 p1 q1 p2 q2).1.2⟩,
   ⟨Rect.unit (s := S8x4096) ![0, 1024] S8x512.size inb_S8x4096_S8x512_0_1024, k0_pay103 (S3 c t dy cc lt p0 q0 p1 q1 p2 q2).1.1⟩,
   ⟨Rect.unit (s := S8x4096) ![0, 2560] S8x512.size inb_S8x4096_S8x512_0_2560, k0_pay90 (S2 c t dy cc lt p0 q0 p1 q1).1.2⟩,
   ⟨Rect.unit (s := S8x4096) ![0, 512] S8x512.size inb_S8x4096_S8x512_0_512, k0_pay89 (S2 c t dy cc lt p0 q0 p1 q1).1.1⟩,
   ⟨Rect.unit (s := S8x4096) ![0, 2048] S8x512.size inb_S8x4096_S8x512_0_2048, k0_pay76 (S1 c t dy cc lt p0 q0).1.2⟩,
   ⟨Rect.unit (s := S8x4096) ![0, 0] S8x512.size inb_S8x4096_S8x512_0_0, k0_pay75 (S1 c t dy cc lt p0 q0).1.1⟩]

/-- Lane `p` of the state after `n` tokens counted from the last one: the first 2048 lanes the real parts. -/
def gval (lr li : Fin 2048 → ℝ) (xr xi : ℕ → Fin 2048 → ℝ) (p : Fin 4096) (n : ℕ) : ℝ :=
  if h : p.val < 2048 then (gst (lr ⟨p.val, h⟩) (li ⟨p.val, h⟩) (fun n => xr n ⟨p.val, h⟩) (fun n => xi n ⟨p.val, h⟩) n).1
  else (gst (lr ⟨p.val - 2048, by omega⟩) (li ⟨p.val - 2048, by omega⟩) (fun n => xr n ⟨p.val - 2048, by omega⟩) (fun n => xi n ⟨p.val - 2048, by omega⟩) n).2

/-- The states of a chunk. -/
def VG (lr li : Fin 2048 → ℝ) (xr xi : ℕ → Fin 2048 → ℝ) (N : ℕ) : Vec Ideal S256x4096 .f32 := fun y => (gval lr li xr xi (y 1) (N + (256 - (y 0).val)) : EReal)

/-- The carry after `N` tokens, the same in its eight rows. -/
def CG (lr li : Fin 2048 → ℝ) (xr xi : ℕ → Fin 2048 → ℝ) (N : ℕ) : Vec Ideal S8x4096 .f32 := fun y => (gval lr li xr xi (y 1) N : EReal)

section Values

variable {lr li : Fin 2048 → ℝ} {xr xi : ℕ → Fin 2048 → ℝ}

theorem gval_re (p : Fin 4096) (q : Fin 2048) (hp : p.val = q.val) (n : ℕ) : gval lr li xr xi p n = (gst (lr q) (li q) (fun n => xr n q) (fun n => xi n q) n).1 := by
  have e : (⟨p.val, by omega⟩ : Fin 2048) = q := Fin.ext hp
  unfold gval
  rw [dif_pos (show p.val < 2048 by omega)]
  simp only [e]

theorem gval_im (p : Fin 4096) (q : Fin 2048) (hp : p.val = 2048 + q.val) (n : ℕ) : gval lr li xr xi p n = (gst (lr q) (li q) (fun n => xr n q) (fun n => xi n q) n).2 := by
  have e : (⟨p.val - 2048, by omega⟩ : Fin 2048) = q := Fin.ext (by dsimp only; omega)
  unfold gval
  rw [dif_neg (show ¬ p.val < 2048 by omega)]
  simp only [e]

theorem VG_at (N : ℕ) (r : Fin 256) (p : Fin 4096) : VG lr li xr xi N (ix2 r p) = (gval lr li xr xi p (N + (256 - r.val)) : EReal) := rfl
theorem CG_at (N : ℕ) (s : Fin 8) (p : Fin 4096) : CG lr li xr xi N (ix2 s p) = (gval lr li xr xi p N : EReal) := rfl

/-- A window of the carry is the recursion's state of its lanes. -/
theorem carries_CG (N o o' : ℕ) (ho : o + 512 ≤ 2048) (e : o' = 2048 + o) (inb inb') :
    Carries N (lane o ho lr) (lane o ho li) (fun n => lane o ho (xr n)) (fun n => lane o ho (xi n)) (ldc (CG lr li xr xi N) o inb, ldc (CG lr li xr xi N) o' inb') := by
  subst e
  intro j s
  have hj := j.isLt
  have hb : o + 512 ≤ 4096 := inb 1
  have hb' : 2048 + o + 512 ≤ 4096 := inb' 1
  constructor
  · refine (View.ld_unit_apply_of _ _ _ _ (ix2 s j) (ix2 s ⟨o + j.val, by omega⟩) ?_).trans ((CG_at N s _).trans (congrArg _ (gval_re _ ⟨o + j.val, by omega⟩ rfl N)))
    intro b
    match b with
    | ⟨0, _⟩ => show s.val = 0 + s.val; omega
    | ⟨1, _⟩ => show o + j.val = o + j.val; omega
  · refine (View.ld_unit_apply_of _ _ _ _ (ix2 s j) (ix2 s ⟨2048 + o + j.val, by omega⟩) ?_).trans ((CG_at N s _).trans (congrArg _ (gval_im _ ⟨o + j.val, by omega⟩ (by dsimp only; omega) N)))
    intro b
    match b with
    | ⟨0, _⟩ => show s.val = 0 + s.val; omega
    | ⟨1, _⟩ => show 2048 + o + j.val = 2048 + o + j.val; omega

theorem gval_zero (p : Fin 4096) : gval lr li xr xi p 0 = 0 := by
  unfold gval; split <;> rfl

theorem clear_eq : k0_pay51 (F := Ideal) = CG lr li xr xi 0 := by
  funext y
  idx_vars y
  rw [CG_at, gval_zero, EReal.coe_zero]
  unfold_payloads
  pointwise []
  first | done | simp [Ideal.ofBits]

end Values

section Step

variable {lr li : Fin 2048 → ℝ} {xr xi : ℕ → Fin 2048 → ℝ} {c : Dev nD} {t : Fin cfg0.N} {dy : Vec Ideal S256x512 .f32} {cc : Vec Ideal S512x4096 .bf16} {lt : Vec Ideal S32x4096 .f32}

/-- The drives of a chunk, `N` tokens after it. -/
def DrivesOK (xr xi : ℕ → Fin 2048 → ℝ) (dy : Vec Ideal S256x512 .f32) (cc : Vec Ideal S512x4096 .bf16) (N : ℕ) : Prop :=
  ∀ (r : Fin 256) (q : Fin 2048), View.canon (L0 dy cc) (ix2 r ⟨0 + q.val, by omega⟩) = ((xr (N + (255 - r.val)) q : ℝ) : EReal)
      ∧ View.canon (L0 dy cc) (ix2 r ⟨2048 + q.val, by omega⟩) = ((xi (N + (255 - r.val)) q : ℝ) : EReal)

/-- A chunk scanned from the recursion's carry holds the recursion's states. -/
theorem VX_eq (hlt : LtSpec lt lr li) (N : ℕ) (hx : DrivesOK xr xi dy cc N) :
    VX c t dy cc lt (CG lr li xr xi N) = VG lr li xr xi N := by
  have C := chain (c := c) (t := t) hlt N hx (carries_CG N 0 2048 (by decide) rfl inb_S8x4096_S8x512_0_0 inb_S8x4096_S8x512_0_2048) (carries_CG N 512 2560 (by decide) rfl inb_S8x4096_S8x512_0_512 inb_S8x4096_S8x512_0_2560)
    (carries_CG N 1024 3072 (by decide) rfl inb_S8x4096_S8x512_0_1024 inb_S8x4096_S8x512_0_3072) (carries_CG N 1536 3584 (by decide) rfl inb_S8x4096_S8x512_0_1536 inb_S8x4096_S8x512_0_3584)
  funext y
  idx_vars y
  rw [VG_at]
  by_cases h : y1.val < 2048
  · rw [gval_re y1 ⟨y1.val, h⟩ rfl]
    exact (congrArg (View.canon _) (congrArg (ix2 y0) (Fin.ext (Nat.zero_add _).symm))).trans (C.1 y0 ⟨y1.val, h⟩).1
  · have hlt' := y1.isLt
    rw [gval_im y1 ⟨y1.val - 2048, by omega⟩ (by dsimp only; omega)]
    exact (congrArg (View.canon _) (congrArg (ix2 y0) (Fin.ext (by dsimp only; omega)))).trans (C.1 y0 ⟨y1.val - 2048, by omega⟩).2

theorem piece_re {M o : ℕ} (ho : o + 512 ≤ 2048) {p q : FVec Ideal S8x512 .f32} (inb : ∀ b, (![0, o] : Fin 2 → ℕ) b + S8x512.size b ≤ S8x4096.size b)
    (h : Carries M (lane o ho lr) (lane o ho li) (fun n => lane o ho (xr n)) (fun n => lane o ho (xi n)) (p, q)) (x : S8x512.Idx) :
    p x = CG lr li xr xi M ((Rect.unit (s := S8x4096) ![0, o] S8x512.size inb).emb x) := by
  idx_vars x
  have hx := x1.isLt
  have e : (Rect.unit (s := S8x4096) ![0, o] S8x512.size inb).emb (ix2 x0 x1) = ix2 x0 ⟨o + x1.val, by omega⟩ := by
    funext b
    match b with
    | ⟨0, _⟩ => exact Fin.ext (show 0 + 1 * x0.val = x0.val by omega)
    | ⟨1, _⟩ => exact Fin.ext (show o + 1 * x1.val = o + x1.val by omega)
  rw [e, CG_at, gval_re _ ⟨o + x1.val, by omega⟩ rfl]
  exact (h x1 x0).1

theorem piece_im {M o o' : ℕ} (ho : o + 512 ≤ 2048) (he : o' = 2048 + o) {p q : FVec Ideal S8x512 .f32} (inb : ∀ b, (![0, o'] : Fin 2 → ℕ) b + S8x512.size b ≤ S8x4096.size b)
    (h : Carries M (lane o ho lr) (lane o ho li) (fun n => lane o ho (xr n)) (fun n => lane o ho (xi n)) (p, q)) (x : S8x512.Idx) :
    q x = CG lr li xr xi M ((Rect.unit (s := S8x4096) ![0, o'] S8x512.size inb).emb x) := by
  subst he
  idx_vars x
  have hx := x1.isLt
  have e : (Rect.unit (s := S8x4096) ![0, 2048 + o] S8x512.size inb).emb (ix2 x0 x1) = ix2 x0 ⟨2048 + o + x1.val, by omega⟩ := by
    funext b
    match b with
    | ⟨0, _⟩ => exact Fin.ext (show 0 + 1 * x0.val = x0.val by omega)
    | ⟨1, _⟩ => exact Fin.ext (show 2048 + o + 1 * x1.val = 2048 + o + x1.val by omega)
  rw [e, CG_at, gval_im _ ⟨o + x1.val, by omega⟩ (by dsimp only; omega)]
  exact (h x1 x0).2

theorem mem_lanes (o : ℕ) (inb : ∀ b, (![0, o] : Fin 2 → ℕ) b + S8x512.size b ≤ S8x4096.size b) (s : Fin 8) (p : Fin 4096) (h : o ≤ p.val) (h' : p.val < o + 512) :
    (ix2 s p : S8x4096.Idx) ∈ (Rect.unit (s := S8x4096) ![0, o] S8x512.size inb).set := by
  rw [Rect.mem_set_unit]
  intro b
  match b with
  | ⟨0, _⟩ => exact ⟨Nat.zero_le _, lt_of_lt_of_eq s.isLt (show 8 = 0 + 8 from rfl)⟩
  | ⟨1, _⟩ => exact ⟨h, h'⟩

/-- The carry a chunk leaves, whatever the carry's place held before. -/
theorem CP_eq (hlt : LtSpec lt lr li) (N : ℕ) (hx : DrivesOK xr xi dy cc N) {X : Vec Ideal S8x4096 .f32} (hX : X = CG lr li xr xi N) (L : List (View.Piece (Elt Ideal) S8x4096 .f32)) :
    View.canon (CP c t dy cc lt (ldc X 0 inb_S8x4096_S8x512_0_0) (ldc X 2048 inb_S8x4096_S8x512_0_2048) (ldc X 512 inb_S8x4096_S8x512_0_512) (ldc X 2560 inb_S8x4096_S8x512_0_2560)
    (ldc X 1024 inb_S8x4096_S8x512_0_1024) (ldc X 3072 inb_S8x4096_S8x512_0_3072) (ldc X 1536 inb_S8x4096_S8x512_0_1536) (ldc X 3584 inb_S8x4096_S8x512_0_3584) ++ L) = CG lr li xr xi (N + 256) := by
  subst hX
  obtain ⟨-, C1, C2, C3, C4⟩ := chain (c := c) (t := t) hlt N hx (carries_CG N 0 2048 (by decide) rfl inb_S8x4096_S8x512_0_0 inb_S8x4096_S8x512_0_2048) (carries_CG N 512 2560 (by decide) rfl inb_S8x4096_S8x512_0_512 inb_S8x4096_S8x512_0_2560)
    (carries_CG N 1024 3072 (by decide) rfl inb_S8x4096_S8x512_0_1024 inb_S8x4096_S8x512_0_3072) (carries_CG N 1536 3584 (by decide) rfl inb_S8x4096_S8x512_0_1536 inb_S8x4096_S8x512_0_3584)
  funext y
  idx_vars y
  have hy := y1.isLt
  refine View.canon_append_of_piecesOf (CG lr li xr xi (N + 256)) L _ ?_ (ix2 y0 y1) ?_
  · refine ⟨?_, ?_, ?_, ?_, ?_, ?_, ?_, ?_, trivial⟩ <;> intro x <;> dsimp only
    · exact (congrFun (show k0_pay118 _ = _ by unfold_payloads; exact shapeCast_self _ _) x).trans (piece_im (by decide) rfl _ C4 x)
    · exact (congrFun (show k0_pay117 _ = _ by unfold_payloads; exact shapeCast_self _ _) x).trans (piece_re (by decide) _ C4 x)
    · exact (congrFun (show k0_pay104 _ = _ by unfold_payloads; exact shapeCast_self _ _) x).trans (piece_im (by decide) rfl _ C3 x)
    · exact (congrFun (show k0_pay103 _ = _ by unfold_payloads; exact shapeCast_self _ _) x).trans (piece_re (by decide) _ C3 x)
    · exact (congrFun (show k0_pay90 _ = _ by unfold_payloads; exact shapeCast_self _ _) x).trans (piece_im (by decide) rfl _ C2 x)
    · exact (congrFun (show k0_pay89 _ = _ by unfold_payloads; exact shapeCast_self _ _) x).trans (piece_re (by decide) _ C2 x)
    · exact (congrFun (show k0_pay76 _ = _ by unfold_payloads; exact shapeCast_self _ _) x).trans (piece_im (by decide) rfl _ C1 x)
    · exact (congrFun (show k0_pay75 _ = _ by unfold_payloads; exact shapeCast_self _ _) x).trans (piece_re (by decide) _ C1 x)
  · by_cases g7 : 3584 ≤ y1.val
    · exact ⟨_, .head _, mem_lanes 3584 inb_S8x4096_S8x512_0_3584 y0 y1 g7 (by omega)⟩
    by_cases g6 : 3072 ≤ y1.val
    · exact ⟨_, .tail _ (.tail _ (.head _)), mem_lanes 3072 inb_S8x4096_S8x512_0_3072 y0 y1 g6 (by omega)⟩
    by_cases g5 : 2560 ≤ y1.val
    · exact ⟨_, .tail _ (.tail _ (.tail _ (.tail _ (.head _)))), mem_lanes 2560 inb_S8x4096_S8x512_0_2560 y0 y1 g5 (by omega)⟩
    by_cases g4 : 2048 ≤ y1.val
    · exact ⟨_, .tail _ (.tail _ (.tail _ (.tail _ (.tail _ (.tail _ (.head _)))))), mem_lanes 2048 inb_S8x4096_S8x512_0_2048 y0 y1 g4 (by omega)⟩
    by_cases g3 : 1536 ≤ y1.val
    · exact ⟨_, .tail _ (.head _), mem_lanes 1536 inb_S8x4096_S8x512_0_1536 y0 y1 g3 (by omega)⟩
    by_cases g2 : 1024 ≤ y1.val
    · exact ⟨_, .tail _ (.tail _ (.tail _ (.head _))), mem_lanes 1024 inb_S8x4096_S8x512_0_1024 y0 y1 g2 (by omega)⟩
    by_cases g1 : 512 ≤ y1.val
    · exact ⟨_, .tail _ (.tail _ (.tail _ (.tail _ (.tail _ (.head _))))), mem_lanes 512 inb_S8x4096_S8x512_0_512 y0 y1 g1 (by omega)⟩
    · exact ⟨_, .tail _ (.tail _ (.tail _ (.tail _ (.tail _ (.tail _ (.tail _ (.head _))))))), mem_lanes 0 inb_S8x4096_S8x512_0_0 y0 y1 (Nat.zero_le _) (by omega)⟩

end Step

/-- What the carry's place holds when a point begins. -/
def prevC (c : Dev nD) (t : Fin cfg0.N) : Vec Ideal S8x4096 .f32 :=
  if t.val % 8 = 0 then k0_pay51 (F := Ideal) else (outsAt0 m c (t.val - 1) (Nat.lt_of_le_of_lt (Nat.sub_le _ _) t.isLt)).2.2.2.2.2.2.1

/-- The rows of the next chunk that the convolution's gradient reaches into. -/
def prevH (c : Dev nD) (t : Fin cfg0.N) : Vec Ideal S8x512 .f32 :=
  if t.val % 8 = 0 then k0_pay52 (F := Ideal) else (outsAt0 m c (t.val - 1) (Nat.lt_of_le_of_lt (Nat.sub_le _ _) t.isLt)).2.2.2.2.2.2.2

/-- The chunk of states at a point. -/
abbrev VV (c : Dev nD) (t : Fin cfg0.N) : Vec Ideal S256x4096 .f32 := VX c t (iblk m c 5 t) (iblk m c 9 t) (iblk m c 11 t) (prevC m c t)

/-- Whether a point is the last, the chunk of the first tokens. -/
abbrev fin (t : Fin cfg0.N) : BitVec 1 := (Scalar.cmpi CmpIPredicate.eq (BitVec.ofNat 32 (grid0.coords t 0).val) 7#32)

/-- The block of `dz` a point stores. -/
def DZ (c : Dev nD) (t : Fin cfg0.N) (V : Vec Ideal S256x4096 .f32) (H : Vec Ideal S8x512 .f32) : Vec Ideal S256x2048 .bf16 :=
  View.canon [⟨Rect.unit (s := S256x2048) ![0, 1536] S256x512.size inb_S256x2048_S256x512_0_1536, k0_pay142 (k0_pay121 (iblk m c 5 t) V (iblk m c 10 t) (View.ld (iblk m c 8 t) (Rect.unit (s := S512x4096) ![0, 0] S256x1024.size inb_S512x4096_S256x1024_0_0)) (View.ld (iblk m c 8 t) (Rect.unit (s := S512x4096) ![0, 2048] S256x1024.size inb_S512x4096_S256x1024_0_2048)) (View.ld (iblk m c 8 t) (Rect.unit (s := S512x4096) ![256, 1024] S256x1024.size inb_S512x4096_S256x1024_256_1024)) (View.ld (iblk m c 8 t) (Rect.unit (s := S512x4096) ![256, 3072] S256x1024.size inb_S512x4096_S256x1024_256_3072)))⟩,
   ⟨Rect.unit (s := S256x2048) ![0, 1024] S256x512.size inb_S256x2048_S256x512_0_1024, k0_pay141 (View.ld (iblk m c 0 t) (Rect.unit (s := S256x2048) ![0, 512] S256x512.size inb_S256x2048_S256x512_0_512)) (k0_pay138 (View.ld (iblk m c 0 t) (Rect.unit (s := S256x2048) ![0, 0] S256x512.size inb_S256x2048_S256x512_0_0)) (View.ld (iblk m c 6 t) (Rect.unit (s := S3x512) ![0, 0] S1x512.size inb_S3x512_S1x512_0_0)) (View.ld (iblk m c 6 t) (Rect.unit (s := S3x512) ![1, 0] S1x512.size inb_S3x512_S1x512_1_0)) (View.ld (iblk m c 6 t) (Rect.unit (s := S3x512) ![2, 0] S1x512.size inb_S3x512_S1x512_2_0)) (iblk m c 4 t) H)⟩,
   ⟨Rect.unit (s := S256x2048) ![0, 512] S256x512.size inb_S256x2048_S256x512_0_512, k0_pay140 (View.ld (iblk m c 0 t) (Rect.unit (s := S256x2048) ![0, 1024] S256x512.size inb_S256x2048_S256x512_0_1024)) (k0_pay138 (View.ld (iblk m c 0 t) (Rect.unit (s := S256x2048) ![0, 0] S256x512.size inb_S256x2048_S256x512_0_0)) (View.ld (iblk m c 6 t) (Rect.unit (s := S3x512) ![0, 0] S1x512.size inb_S3x512_S1x512_0_0)) (View.ld (iblk m c 6 t) (Rect.unit (s := S3x512) ![1, 0] S1x512.size inb_S3x512_S1x512_1_0)) (View.ld (iblk m c 6 t) (Rect.unit (s := S3x512) ![2, 0] S1x512.size inb_S3x512_S1x512_2_0)) (iblk m c 4 t) H)⟩,
   ⟨Rect.unit (s := S256x2048) ![0, 0] S256x512.size inb_S256x2048_S256x512_0_0, k0_pay139 (k0_pay135 (fin t) (View.ld (iblk m c 0 t) (Rect.unit (s := S256x2048) ![0, 512] S256x512.size inb_S256x2048_S256x512_0_512)) (View.ld (iblk m c 0 t) (Rect.unit (s := S256x2048) ![0, 1024] S256x512.size inb_S256x2048_S256x512_0_1024)) (View.ld (iblk m c 1 t) (Rect.unit (s := S8x2048) ![0, 512] S8x512.size inb_S8x2048_S8x512_0_512)) (View.ld (iblk m c 1 t) (Rect.unit (s := S8x2048) ![0, 1024] S8x512.size inb_S8x2048_S8x512_0_1024)) (View.ld (iblk m c 6 t) (Rect.unit (s := S3x512) ![0, 0] S1x512.size inb_S3x512_S1x512_0_0)) (View.ld (iblk m c 6 t) (Rect.unit (s := S3x512) ![1, 0] S1x512.size inb_S3x512_S1x512_1_0)) (View.ld (iblk m c 6 t) (Rect.unit (s := S3x512) ![2, 0] S1x512.size inb_S3x512_S1x512_2_0))) (iblk m c 4 t) (iblk m c 7 t)⟩]

theorem out12_A (c : Dev nD) (t : Fin cfg0.N) (h0 : t.val % 8 = 0) (h1 : ¬t.val % 8 = 7) :
    (outsAt0 m c t.val t.isLt).1 = DZ m c t (VV m c t) (prevH m c t) := by
  rw [show VV m c t = _ from (congrArg (VX c t (iblk m c 5 t) (iblk m c 9 t) (iblk m c 11 t)) (if_pos h0))]
  rw [show prevH m c t = _ from if_pos h0]
  rw [outsAt0_A m c t h0 h1, leftA]
  dsimp only
  frame_open
  simp (disch := decide) only [↓ View.readCov_skip, ↓ View.readCov_cons_toLoadRect, ↓ View.readCov_fill]
  frame_out
  try simp only [read_unread_whole]
  first | done | rfl

theorem out13_A (c : Dev nD) (t : Fin cfg0.N) (h0 : t.val % 8 = 0) (h1 : ¬t.val % 8 = 7) :
    (outsAt0 m c t.val t.isLt).2.1 = k0_pay120 (VV m c t) := by
  rw [show VV m c t = _ from (congrArg (VX c t (iblk m c 5 t) (iblk m c 9 t) (iblk m c 11 t)) (if_pos h0))]
  rw [outsAt0_A m c t h0 h1, leftA]
  dsimp only
  frame_open
  simp (disch := decide) only [↓ View.readCov_skip, ↓ View.readCov_cons_toLoadRect, ↓ View.readCov_fill]
  frame_out
  try simp only [read_unread_whole]
  first | done | rfl

theorem out14_A (c : Dev nD) (t : Fin cfg0.N) (h0 : t.val % 8 = 0) (h1 : ¬t.val % 8 = 7) :
    (outsAt0 m c t.val t.isLt).2.2.1 = k0_pay56 (View.ld (iblk m c 0 t) (Rect.unit (s := S256x2048) ![0, 1536] S256x512.size inb_S256x2048_S256x512_0_1536)) := by
  rw [outsAt0_A m c t h0 h1, leftA]
  dsimp only
  frame_out
  try simp only [read_unread_whole]
  first | done | rfl

theorem out15_A (c : Dev nD) (t : Fin cfg0.N) (h0 : t.val % 8 = 0) (h1 : ¬t.val % 8 = 7) :
    (outsAt0 m c t.val t.isLt).2.2.2.1 = k0_pay57 (iblk m c 5 t) := by
  rw [outsAt0_A m c t h0 h1, leftA]
  dsimp only
  frame_out
  try simp only [read_unread_whole]
  first | done | rfl

theorem outH_A (c : Dev nD) (t : Fin cfg0.N) (h0 : t.val % 8 = 0) (h1 : ¬t.val % 8 = 7) :
    (outsAt0 m c t.val t.isLt).2.2.2.2.2.2.2 = k0_pay137 (View.ld (iblk m c 0 t) (Rect.unit (s := S256x2048) ![0, 0] S256x512.size inb_S256x2048_S256x512_0_0)) (iblk m c 4 t) := by
  rw [outsAt0_A m c t h0 h1, leftA]
  dsimp only
  frame_out
  try simp only [read_unread_whole]
  first | done | rfl

set_option maxHeartbeats 4000000 in
theorem outC_A (c : Dev nD) (t : Fin cfg0.N) (h0 : t.val % 8 = 0) (h1 : ¬t.val % 8 = 7) :
    (outsAt0 m c t.val t.isLt).2.2.2.2.2.2.1 = View.canon (CP c t (iblk m c 5 t) (iblk m c 9 t) (iblk m c 11 t) (ldc (prevC m c t) 0 inb_S8x4096_S8x512_0_0) (ldc (prevC m c t) 2048 inb_S8x4096_S8x512_0_2048) (ldc (prevC m c t) 512 inb_S8x4096_S8x512_0_512) (ldc (prevC m c t) 2560 inb_S8x4096_S8x512_0_2560) (ldc (prevC m c t) 1024 inb_S8x4096_S8x512_0_1024) (ldc (prevC m c t) 3072 inb_S8x4096_S8x512_0_3072) (ldc (prevC m c t) 1536 inb_S8x4096_S8x512_0_1536) (ldc (prevC m c t) 3584 inb_S8x4096_S8x512_0_3584) ++ [⟨Rect.unit (s := S8x4096) ![0, 0] S8x4096.size inb_S8x4096_S8x4096_0_0, k0_pay51 (F := Ideal)⟩]) := by
  rw [show prevC m c t = _ from if_pos h0]
  rw [outsAt0_A m c t h0 h1, leftA]
  dsimp only
  frame_open
  simp (disch := decide) only [↓ View.readCov_skip, ↓ View.readCov_cons_toLoadRect, ↓ View.readCov_fill]
  frame_out
  try simp only [read_unread_whole]
  first | done | rfl

theorem out12_B (c : Dev nD) (t : Fin cfg0.N) (h0 : ¬t.val % 8 = 0) (h1 : ¬t.val % 8 = 7) :
    (outsAt0 m c t.val t.isLt).1 = DZ m c t (VV m c t) (prevH m c t) := by
  rw [show VV m c t = _ from congrArg (VX c t (iblk m c 5 t) (iblk m c 9 t) (iblk m c 11 t)) (if_neg h0)]
  rw [show prevH m c t = _ from if_neg h0]
  rw [outsAt0_B m c t h0 h1, leftB]
  dsimp only
  frame_out
  try simp only [read_unread_whole]
  first | done | rfl

theorem out13_B (c : Dev nD) (t : Fin cfg0.N) (h0 : ¬t.val % 8 = 0) (h1 : ¬t.val % 8 = 7) :
    (outsAt0 m c t.val t.isLt).2.1 = k0_pay120 (VV m c t) := by
  rw [show VV m c t = _ from congrArg (VX c t (iblk m c 5 t) (iblk m c 9 t) (iblk m c 11 t)) (if_neg h0)]
  rw [outsAt0_B m c t h0 h1, leftB]
  dsimp only
  frame_out
  try simp only [read_unread_whole]
  first | done | rfl

theorem out14_B (c : Dev nD) (t : Fin cfg0.N) (h0 : ¬t.val % 8 = 0) (h1 : ¬t.val % 8 = 7) :
    (outsAt0 m c t.val t.isLt).2.2.1 = k0_pay56 (View.ld (iblk m c 0 t) (Rect.unit (s := S256x2048) ![0, 1536] S256x512.size inb_S256x2048_S256x512_0_1536)) := by
  rw [outsAt0_B m c t h0 h1, leftB]
  dsimp only
  frame_out
  try simp only [read_unread_whole]
  first | done | rfl

theorem out15_B (c : Dev nD) (t : Fin cfg0.N) (h0 : ¬t.val % 8 = 0) (h1 : ¬t.val % 8 = 7) :
    (outsAt0 m c t.val t.isLt).2.2.2.1 = k0_pay57 (iblk m c 5 t) := by
  rw [outsAt0_B m c t h0 h1, leftB]
  dsimp only
  frame_out
  try simp only [read_unread_whole]
  first | done | rfl

theorem outH_B (c : Dev nD) (t : Fin cfg0.N) (h0 : ¬t.val % 8 = 0) (h1 : ¬t.val % 8 = 7) :
    (outsAt0 m c t.val t.isLt).2.2.2.2.2.2.2 = k0_pay137 (View.ld (iblk m c 0 t) (Rect.unit (s := S256x2048) ![0, 0] S256x512.size inb_S256x2048_S256x512_0_0)) (iblk m c 4 t) := by
  rw [outsAt0_B m c t h0 h1, leftB]
  dsimp only
  frame_out
  try simp only [read_unread_whole]
  first | done | rfl

set_option maxHeartbeats 4000000 in
theorem outC_B (c : Dev nD) (t : Fin cfg0.N) (h0 : ¬t.val % 8 = 0) (h1 : ¬t.val % 8 = 7) :
    (outsAt0 m c t.val t.isLt).2.2.2.2.2.2.1 = View.canon (CP c t (iblk m c 5 t) (iblk m c 9 t) (iblk m c 11 t) (ldc (prevC m c t) 0 inb_S8x4096_S8x512_0_0) (ldc (prevC m c t) 2048 inb_S8x4096_S8x512_0_2048) (ldc (prevC m c t) 512 inb_S8x4096_S8x512_0_512) (ldc (prevC m c t) 2560 inb_S8x4096_S8x512_0_2560) (ldc (prevC m c t) 1024 inb_S8x4096_S8x512_0_1024) (ldc (prevC m c t) 3072 inb_S8x4096_S8x512_0_3072) (ldc (prevC m c t) 1536 inb_S8x4096_S8x512_0_1536) (ldc (prevC m c t) 3584 inb_S8x4096_S8x512_0_3584) ++ []) := by
  rw [show prevC m c t = _ from if_neg h0]
  rw [List.append_nil]
  rw [outsAt0_B m c t h0 h1, leftB]
  dsimp only
  frame_out
  try simp only [read_unread_whole]
  first | done | rfl

theorem out12_C (c : Dev nD) (t : Fin cfg0.N) (h0 : ¬t.val % 8 = 0) (h1 : t.val % 8 = 7) :
    (outsAt0 m c t.val t.isLt).1 = DZ m c t (VV m c t) (prevH m c t) := by
  rw [show VV m c t = _ from congrArg (VX c t (iblk m c 5 t) (iblk m c 9 t) (iblk m c 11 t)) (if_neg h0)]
  rw [show prevH m c t = _ from if_neg h0]
  rw [outsAt0_C m c t h0 h1, leftC]
  dsimp only
  frame_out
  try simp only [read_unread_whole]
  first | done | rfl

theorem out13_C (c : Dev nD) (t : Fin cfg0.N) (h0 : ¬t.val % 8 = 0) (h1 : t.val % 8 = 7) :
    (outsAt0 m c t.val t.isLt).2.1 = k0_pay120 (VV m c t) := by
  rw [show VV m c t = _ from congrArg (VX c t (iblk m c 5 t) (iblk m c 9 t) (iblk m c 11 t)) (if_neg h0)]
  rw [outsAt0_C m c t h0 h1, leftC]
  dsimp only
  frame_out
  try simp only [read_unread_whole]
  first | done | rfl

theorem out14_C (c : Dev nD) (t : Fin cfg0.N) (h0 : ¬t.val % 8 = 0) (h1 : t.val % 8 = 7) :
    (outsAt0 m c t.val t.isLt).2.2.1 = k0_pay56 (View.ld (iblk m c 0 t) (Rect.unit (s := S256x2048) ![0, 1536] S256x512.size inb_S256x2048_S256x512_0_1536)) := by
  rw [outsAt0_C m c t h0 h1, leftC]
  dsimp only
  frame_out
  try simp only [read_unread_whole]
  first | done | rfl

theorem out15_C (c : Dev nD) (t : Fin cfg0.N) (h0 : ¬t.val % 8 = 0) (h1 : t.val % 8 = 7) :
    (outsAt0 m c t.val t.isLt).2.2.2.1 = k0_pay57 (iblk m c 5 t) := by
  rw [outsAt0_C m c t h0 h1, leftC]
  dsimp only
  frame_out
  try simp only [read_unread_whole]
  first | done | rfl

theorem outH_C (c : Dev nD) (t : Fin cfg0.N) (h0 : ¬t.val % 8 = 0) (h1 : t.val % 8 = 7) :
    (outsAt0 m c t.val t.isLt).2.2.2.2.2.2.2 = k0_pay137 (View.ld (iblk m c 0 t) (Rect.unit (s := S256x2048) ![0, 0] S256x512.size inb_S256x2048_S256x512_0_0)) (iblk m c 4 t) := by
  rw [outsAt0_C m c t h0 h1, leftC]
  dsimp only
  frame_out
  try simp only [read_unread_whole]
  first | done | rfl

set_option maxHeartbeats 4000000 in
theorem outC_C (c : Dev nD) (t : Fin cfg0.N) (h0 : ¬t.val % 8 = 0) (h1 : t.val % 8 = 7) :
    (outsAt0 m c t.val t.isLt).2.2.2.2.2.2.1 = View.canon (CP c t (iblk m c 5 t) (iblk m c 9 t) (iblk m c 11 t) (ldc (prevC m c t) 0 inb_S8x4096_S8x512_0_0) (ldc (prevC m c t) 2048 inb_S8x4096_S8x512_0_2048) (ldc (prevC m c t) 512 inb_S8x4096_S8x512_0_512) (ldc (prevC m c t) 2560 inb_S8x4096_S8x512_0_2560) (ldc (prevC m c t) 1024 inb_S8x4096_S8x512_0_1024) (ldc (prevC m c t) 3072 inb_S8x4096_S8x512_0_3072) (ldc (prevC m c t) 1536 inb_S8x4096_S8x512_0_1536) (ldc (prevC m c t) 3584 inb_S8x4096_S8x512_0_3584) ++ []) := by
  rw [show prevC m c t = _ from if_neg h0]
  rw [List.append_nil]
  rw [outsAt0_C m c t h0 h1, leftC]
  dsimp only
  frame_out
  try simp only [read_unread_whole]
  first | done | rfl

/-- The two tables and the drives that every point reads are those of the recursion. -/
structure Reads (c : Dev nD) (lr li : Fin 2048 → ℝ) (xr xi : ℕ → Fin 2048 → ℝ) : Prop where
  lt : ∀ t : Fin cfg0.N, LtSpec (iblk m c 11 t) lr li
  drives : ∀ t : Fin cfg0.N, DrivesOK xr xi (iblk m c 5 t) (iblk m c 9 t) (256 * t.val)

section Sweep

variable {m} {c : Dev nD} {lr li : Fin 2048 → ℝ} {xr xi : ℕ → Fin 2048 → ℝ}

/-- Every point leaves the recursion's carry. -/
theorem carry_sweep (H : Reads m c lr li xr xi) : ∀ (n : ℕ) (hn : n < cfg0.N), (outsAt0 m c n hn).2.2.2.2.2.2.1 = CG lr li xr xi (256 * n + 256) := by
  have step : ∀ t : Fin cfg0.N, prevC m c t = CG lr li xr xi (256 * t.val) → (outsAt0 m c t.val t.isLt).2.2.2.2.2.2.1 = CG lr li xr xi (256 * t.val + 256) := by
    intro t ht
    have hN : t.val < 8 := lt_of_lt_of_eq t.isLt N_0
    by_cases h0 : t.val % 8 = 0
    · rw [outC_A m c t h0 (by omega)]
      exact CP_eq (H.lt t) _ (H.drives t) ht _
    · by_cases h1 : t.val % 8 = 7
      · rw [outC_C m c t h0 h1]
        exact CP_eq (H.lt t) _ (H.drives t) ht _
      · rw [outC_B m c t h0 h1]
        exact CP_eq (H.lt t) _ (H.drives t) ht _
  intro n
  induction n with
  | zero => exact fun hn => step ⟨0, hn⟩ ((if_pos (Nat.zero_mod 8)).trans clear_eq)
  | succ n ih =>
    intro hn
    have hN : n + 1 < 8 := lt_of_lt_of_eq hn N_0
    refine step ⟨n + 1, hn⟩ ((if_neg (show ¬ (n + 1) % 8 = 0 by omega)).trans ?_)
    exact ih (Nat.lt_of_succ_lt hn)

theorem prevC_eq (H : Reads m c lr li xr xi) (t : Fin cfg0.N) : prevC m c t = CG lr li xr xi (256 * t.val) := by
  have hN : t.val < 8 := lt_of_lt_of_eq t.isLt N_0
  unfold prevC
  by_cases h : t.val % 8 = 0
  · rw [if_pos h, show t.val = 0 by omega]
    exact clear_eq
  · rw [if_neg h, carry_sweep H]
    congr 1
    omega

/-- The chunk of states at a point. -/
theorem VV_eq (H : Reads m c lr li xr xi) (t : Fin cfg0.N) : VV m c t = VG lr li xr xi (256 * t.val) := by
  unfold VV
  rw [prevC_eq H t]
  exact VX_eq (H.lt t) _ (H.drives t)

end Sweep

end Cert.Proof.S5
-- ==== Proof.Acc.lean ====
/- The two accumulators, point by point: the gradient of the eigenvalues and the rows of small gradients. -/

module

public import proofs.«01_k».proof.Proof.Sweep
public import Idealize.ShloMosaic.Lib.VecWindow

@[expose] public section

set_option maxRecDepth 16384

noncomputable section

namespace Cert.Proof.S5

open Idealize.ShloMosaic Idealize.ShloMosaic.TcCoe
open Cert.KernelIdeal Cert.KernelIdeal.Gen

variable (m : (ℓ : Loc nD τ sig) → Buf (Elt Ideal) ℓ)

/-- What a list of stores leaves over known contents is the list with those contents put under it. -/
theorem read_writes_over {sig : RefSig} {κ : Kind} {sp : Space} {s : Shape} {e : EltTy} {Val : EltTy → Type} [∀ e, Nonempty (Val e)] (v : View sig κ sp s e) (f : v.ty.Contents Val)
    {off : Fin s.rank → ℕ} (inb : ∀ a, off a + s.size a ≤ s.size a) (h0 : ∀ a, off a = 0) (X : s.Idx → Val e) (hf : v.read Val f = X) (y : s.Idx) :
    ∀ L : List (View.Piece Val s e), v.read Val (v.writes Val f L) y = View.canon (L ++ [⟨Rect.unit off s.size inb, X⟩]) y
  | [] => by rw [View.writes_nil, hf]; exact (congrFun (View.canon_cons_unit_lit inb X [] h0) y).symm
  | p :: L => by
    rw [List.cons_append]
    by_cases hy : y ∈ p.1.set
    · obtain ⟨r, w⟩ := p
      obtain ⟨x, rfl⟩ : ∃ x, r.emb x = y := r.exists_idx_of_mem hy
      rw [View.read_writes_cons_emb, View.canon_cons_emb]
    · have hy' : y ∉ Finset.univ.map p.1.emb := by rwa [Rect.map_emb_univ]
      rw [View.writes_cons, View.read_slice_write_of_not_mem p.1 _ _ _ hy', View.canon_cons_of_not_mem p _ hy]
      exact read_writes_over v f inb h0 X hf y L

/-- A load of the whole accumulator reads what the stores left. -/
theorem readCov_all {sig : RefSig} {κ : Kind} {sp : Space} (v : View sig κ sp S8x4096 .f32) (L : List (View.Piece (Elt Ideal) S8x4096 .f32)) :
    v.readCov L (Rect.unit (s := S8x4096) ![0, 0] S8x4096.size inb_S8x4096_S8x4096_0_0).toLoadRect = View.canon L := by
  rw [View.readCov_eq_canon']
  funext j
  refine congrArg (View.canon L) (funext fun b => Fin.ext ?_)
  match b with
  | ⟨0, _⟩ => exact (show 0 + 1 * (j 0).val = (j 0).val by omega)
  | ⟨1, _⟩ => exact (show 0 + 1 * (j 1).val = (j 1).val by omega)

/-- What the eigenvalues' accumulator holds when a point begins. -/
def prevL (c : Dev nD) (t : Fin cfg0.N) : Vec Ideal S8x4096 .f32 :=
  if t.val % 8 = 0 then k0_pay53 (F := Ideal) else (outsAt0 m c (t.val - 1) (Nat.lt_of_le_of_lt (Nat.sub_le _ _) t.isLt)).2.2.2.2.1

/-- What the rows of small gradients hold when a point begins. -/
def prevW (c : Dev nD) (t : Fin cfg0.N) : Vec Ideal S8x512 .f32 :=
  if t.val % 8 = 0 then k0_pay54 (F := Ideal) else (outsAt0 m c (t.val - 1) (Nat.lt_of_le_of_lt (Nat.sub_le _ _) t.isLt)).2.2.2.2.2.1

/-- The two halves a point adds into the eigenvalues' accumulator. -/
def RL (c : Dev nD) (t : Fin cfg0.N) (V : Vec Ideal S256x4096 .f32) (X : Vec Ideal S8x4096 .f32) : List (View.Piece (Elt Ideal) S8x4096 .f32) :=
  [⟨Rect.unit (s := S8x4096) ![0, 2048] S8x2048.size inb_S8x4096_S8x2048_0_2048, k0_pay129 (fin t) V (k0_pay122 (iblk m c 2 t)) (iblk m c 3 t) (View.ld X (Rect.unit (s := S8x4096) ![0, 2048] S8x2048.size inb_S8x4096_S8x2048_0_2048))⟩,
   ⟨Rect.unit (s := S8x4096) ![0, 0] S8x2048.size inb_S8x4096_S8x2048_0_0, k0_pay128 (fin t) V (k0_pay122 (iblk m c 2 t)) (iblk m c 3 t) (View.ld X (Rect.unit (s := S8x4096) ![0, 0] S8x2048.size inb_S8x4096_S8x2048_0_0))⟩]

/-- The five rows a point adds into the small gradients. -/
def RW (c : Dev nD) (t : Fin cfg0.N) (X : Vec Ideal S8x512 .f32) : List (View.Piece (Elt Ideal) S8x512 .f32) :=
  [⟨Rect.unit (s := S8x512) ![4, 0] S1x512.size inb_S8x512_S1x512_4_0, k0_pay2 (View.ld (iblk m c 0 t) (Rect.unit (s := S256x2048) ![0, 1536] S256x512.size inb_S256x2048_S256x512_0_1536)) (iblk m c 5 t) (View.ld X (Rect.unit (s := S8x512) ![4, 0] S1x512.size inb_S8x512_S1x512_4_0))⟩,
   ⟨Rect.unit (s := S8x512) ![3, 0] S1x512.size inb_S8x512_S1x512_3_0, k0_pay1 (k0_pay136 (View.ld (iblk m c 0 t) (Rect.unit (s := S256x2048) ![0, 0] S256x512.size inb_S256x2048_S256x512_0_0)) (iblk m c 4 t)) (k0_pay146 (View.ld X (Rect.unit (s := S8x512) ![3, 0] S1x512.size inb_S8x512_S1x512_3_0)))⟩,
   ⟨Rect.unit (s := S8x512) ![2, 0] S1x512.size inb_S8x512_S1x512_2_0, k0_pay145 (k0_pay131 (View.ld (iblk m c 0 t) (Rect.unit (s := S256x2048) ![0, 512] S256x512.size inb_S256x2048_S256x512_0_512)) (View.ld (iblk m c 0 t) (Rect.unit (s := S256x2048) ![0, 1024] S256x512.size inb_S256x2048_S256x512_0_1024))) (k0_pay136 (View.ld (iblk m c 0 t) (Rect.unit (s := S256x2048) ![0, 0] S256x512.size inb_S256x2048_S256x512_0_0)) (iblk m c 4 t)) (View.ld X (Rect.unit (s := S8x512) ![2, 0] S1x512.size inb_S8x512_S1x512_2_0))⟩,
   ⟨Rect.unit (s := S8x512) ![1, 0] S1x512.size inb_S8x512_S1x512_1_0, k0_pay144 (k0_pay133 (fin t) (View.ld (iblk m c 0 t) (Rect.unit (s := S256x2048) ![0, 512] S256x512.size inb_S256x2048_S256x512_0_512)) (View.ld (iblk m c 0 t) (Rect.unit (s := S256x2048) ![0, 1024] S256x512.size inb_S256x2048_S256x512_0_1024)) (View.ld (iblk m c 1 t) (Rect.unit (s := S8x2048) ![0, 512] S8x512.size inb_S8x2048_S8x512_0_512)) (View.ld (iblk m c 1 t) (Rect.unit (s := S8x2048) ![0, 1024] S8x512.size inb_S8x2048_S8x512_0_1024))) (k0_pay136 (View.ld (iblk m c 0 t) (Rect.unit (s := S256x2048) ![0, 0] S256x512.size inb_S256x2048_S256x512_0_0)) (iblk m c 4 t)) (View.ld X (Rect.unit (s := S8x512) ![1, 0] S1x512.size inb_S8x512_S1x512_1_0))⟩,
   ⟨Rect.unit (s := S8x512) ![0, 0] S1x512.size inb_S8x512_S1x512_0_0, k0_pay143 (k0_pay134 (fin t) (View.ld (iblk m c 0 t) (Rect.unit (s := S256x2048) ![0, 512] S256x512.size inb_S256x2048_S256x512_0_512)) (View.ld (iblk m c 0 t) (Rect.unit (s := S256x2048) ![0, 1024] S256x512.size inb_S256x2048_S256x512_0_1024)) (View.ld (iblk m c 1 t) (Rect.unit (s := S8x2048) ![0, 512] S8x512.size inb_S8x2048_S8x512_0_512)) (View.ld (iblk m c 1 t) (Rect.unit (s := S8x2048) ![0, 1024] S8x512.size inb_S8x2048_S8x512_0_1024))) (k0_pay136 (View.ld (iblk m c 0 t) (Rect.unit (s := S256x2048) ![0, 0] S256x512.size inb_S256x2048_S256x512_0_0)) (iblk m c 4 t)) (View.ld X (Rect.unit (s := S8x512) ![0, 0] S1x512.size inb_S8x512_S1x512_0_0))⟩]

set_option maxHeartbeats 4000000 in
theorem outL_A (c : Dev nD) (t : Fin cfg0.N) (h0 : t.val % 8 = 0) (h1 : ¬t.val % 8 = 7) :
    (outsAt0 m c t.val t.isLt).2.2.2.2.1 = View.canon (RL m c t (VV m c t) (prevL m c t) ++ [⟨Rect.unit (s := S8x4096) ![0, 0] S8x4096.size inb_S8x4096_S8x4096_0_0, (prevL m c t)⟩]) := by
  rw [show VV m c t = _ from congrArg (VX c t (iblk m c 5 t) (iblk m c 9 t) (iblk m c 11 t)) (if_pos h0)]
  rw [show prevL m c t = _ from if_pos h0]
  rw [outsAt0_A m c t h0 h1, leftA]
  dsimp only
  frame_open
  simp (disch := decide) only [↓ View.readCov_skip, ↓ View.readCov_cons_toLoadRect, ↓ View.readCov_fill]
  frame_out
  try simp only [read_unread_whole]
  first | done | rfl

theorem outL_B (c : Dev nD) (t : Fin cfg0.N) (h0 : ¬t.val % 8 = 0) (h1 : ¬t.val % 8 = 7) :
    (outsAt0 m c t.val t.isLt).2.2.2.2.1 = View.canon (RL m c t (VV m c t) (prevL m c t)) := by
  rw [show VV m c t = _ from congrArg (VX c t (iblk m c 5 t) (iblk m c 9 t) (iblk m c 11 t)) (if_neg h0)]
  rw [show prevL m c t = _ from if_neg h0]
  rw [outsAt0_B m c t h0 h1, leftB]
  dsimp only
  frame_out
  try simp only [read_unread_whole]
  first | done | rfl

theorem outL_C (c : Dev nD) (t : Fin cfg0.N) (h0 : ¬t.val % 8 = 0) (h1 : t.val % 8 = 7) :
    (outsAt0 m c t.val t.isLt).2.2.2.2.1 = View.canon (⟨Rect.unit (s := S8x4096) ![0, 0] S1x4096.size inb_S8x4096_S1x4096_0_0, k0_pay130 (View.canon (RL m c t (VV m c t) (prevL m c t)))⟩ :: RL m c t (VV m c t) (prevL m c t)) := by
  rw [show VV m c t = _ from congrArg (VX c t (iblk m c 5 t) (iblk m c 9 t) (iblk m c 11 t)) (if_neg h0)]
  rw [show prevL m c t = _ from if_neg h0]
  rw [outsAt0_C m c t h0 h1, leftC]
  dsimp only
  frame_out
  try simp only [read_unread_whole]
  rw [readCov_all]
  first | done | rfl

set_option maxHeartbeats 4000000 in
theorem outW_A (c : Dev nD) (t : Fin cfg0.N) (h0 : t.val % 8 = 0) (h1 : ¬t.val % 8 = 7) :
    (outsAt0 m c t.val t.isLt).2.2.2.2.2.1 = View.canon (RW m c t (prevW m c t) ++ [⟨Rect.unit (s := S8x512) ![0, 0] S8x512.size inb_S8x512_S8x512_0_0, (prevW m c t)⟩]) := by
  rw [show prevW m c t = _ from if_pos h0]
  rw [outsAt0_A m c t h0 h1, leftA]
  dsimp only
  frame_open
  simp (disch := decide) only [↓ View.readCov_skip, ↓ View.readCov_cons_toLoadRect, ↓ View.readCov_fill]
  frame_out
  try simp only [read_unread_whole]
  first | done | rfl

theorem outW_B (c : Dev nD) (t : Fin cfg0.N) (h0 : ¬t.val % 8 = 0) (h1 : ¬t.val % 8 = 7) :
    (outsAt0 m c t.val t.isLt).2.2.2.2.2.1 = View.canon (RW m c t (prevW m c t) ++ [⟨Rect.unit (s := S8x512) ![0, 0] S8x512.size inb_S8x512_S8x512_0_0, (prevW m c t)⟩]) := by
  rw [show prevW m c t = _ from if_neg h0]
  rw [outsAt0_B m c t h0 h1, leftB]
  dsimp only
  frame_out
  try simp only [read_unread_whole]
  funext y
  refine (read_writes_over _ _ inb_S8x512_S8x512_0_0 (by decide) _ (Memref.IsWhole.read_unread _ _) y _).trans ?_
  first | done | rfl

theorem outW_C (c : Dev nD) (t : Fin cfg0.N) (h0 : ¬t.val % 8 = 0) (h1 : t.val % 8 = 7) :
    (outsAt0 m c t.val t.isLt).2.2.2.2.2.1 = View.canon (RW m c t (prevW m c t) ++ [⟨Rect.unit (s := S8x512) ![0, 0] S8x512.size inb_S8x512_S8x512_0_0, (prevW m c t)⟩]) := by
  rw [show prevW m c t = _ from if_neg h0]
  rw [outsAt0_C m c t h0 h1, leftC]
  dsimp only
  frame_out
  try simp only [read_unread_whole]
  funext y
  refine (read_writes_over _ _ inb_S8x512_S8x512_0_0 (by decide) _ (Memref.IsWhole.read_unread _ _) y _).trans ?_
  first | done | rfl

/-- The states before a point's tokens, as the point reads them. -/
abbrev HH (c : Dev nD) (t : Fin cfg0.N) : Vec Ideal S256x4096 .f32 := k0_pay123 (fin t) (k0_pay122 (iblk m c 2 t)) (iblk m c 3 t)

/-- What eight-row residue `s` of a chunk adds to lane `p` of the eigenvalues' gradient. -/
def incL (V H : Vec Ideal S256x4096 .f32) (s : Fin 8) (p : Fin 4096) : EReal :=
  if h : p.val < 2048 then
    ∑ x : Fin 32, (V (ix2 ⟨x.val * 8 + s.val, by omega⟩ p) * H (ix2 ⟨x.val * 8 + s.val, by omega⟩ p)
      + V (ix2 ⟨x.val * 8 + s.val, by omega⟩ ⟨2048 + p.val, by omega⟩) * H (ix2 ⟨x.val * 8 + s.val, by omega⟩ ⟨2048 + p.val, by omega⟩))
  else
    ∑ x : Fin 32, (V (ix2 ⟨x.val * 8 + s.val, by omega⟩ p) * H (ix2 ⟨x.val * 8 + s.val, by omega⟩ ⟨p.val - 2048, by omega⟩)
      - V (ix2 ⟨x.val * 8 + s.val, by omega⟩ ⟨p.val - 2048, by omega⟩) * H (ix2 ⟨x.val * 8 + s.val, by omega⟩ p))

theorem pay128_at (f : BitVec 1) (V : Vec Ideal S256x4096 .f32) (a : FVec Ideal S256x4096 .f32) (b : Vec Ideal S16x4096 .bf16) (X : Vec Ideal S8x2048 .f32) (s : Fin 8) (q : Fin 2048) :
    k0_pay128 f V a b X (ix2 s q) = X (ix2 s q) + incL V (k0_pay123 f a b) s ⟨q.val, by omega⟩ := by
  unfold k0_pay128 k0_pay126 k0_pay127 k0_pay124 k0_pay125 incL
  rw [dif_pos (show (⟨q.val, by omega⟩ : Fin 4096).val < 2048 from q.isLt)]
  pointwise []

theorem pay129_at (f : BitVec 1) (V : Vec Ideal S256x4096 .f32) (a : FVec Ideal S256x4096 .f32) (b : Vec Ideal S16x4096 .bf16) (X : Vec Ideal S8x2048 .f32) (s : Fin 8) (q : Fin 2048) :
    k0_pay129 f V a b X (ix2 s q) = X (ix2 s q) + incL V (k0_pay123 f a b) s ⟨2048 + q.val, by omega⟩ := by
  have e : ∀ h : 2048 + q.val - 2048 < 4096, (⟨2048 + q.val - 2048, h⟩ : Fin 4096) = ⟨q.val, by omega⟩ := fun h => Fin.ext (by dsimp only; omega)
  unfold k0_pay129 k0_pay126 k0_pay127 k0_pay124 k0_pay125 incL
  rw [dif_neg (show ¬ (⟨2048 + q.val, by omega⟩ : Fin 4096).val < 2048 by dsimp only; omega)]
  simp only [e]
  pointwise []

theorem pay130_at (Y : Vec Ideal S8x4096 .f32) (p : Fin 4096) : k0_pay130 Y (ix2 0 p) = ∑ x : Fin 8, Y (ix2 x p) := by
  unfold k0_pay130
  pointwise []

theorem pay123_at (f : BitVec 1) (a : FVec Ideal S256x4096 .f32) (b : Vec Ideal S16x4096 .bf16) (r : Fin 256) (p : Fin 4096) :
    k0_pay123 f a b (ix2 r p) = Scalar.select (IntOp.cmpi CmpIPredicate.eq (BitVec.ofNat 32 r.val) 0#32) (Scalar.select f 0 (b (ix2 15 p)))
      (a (ix2 ⟨(r.val + 256 - 1) % 256, Nat.mod_lt _ (by decide)⟩ p)) := by
  unfold k0_pay123
  pointwise []

/-- A column of a chunk's product, summed. -/
def colsum (d y : Vec Ideal S256x512 .f32) (q : Fin 512) : EReal := ∑ x : Fin 256, d (ix2 x q) * y (ix2 x q)

theorem pay143_at (y dy : FVec Ideal S256x512 .f32) (X : Vec Ideal S1x512 .f32) (q : Fin 512) : k0_pay143 y dy X (ix2 0 q) = X (ix2 0 q) + colsum dy y q := by
  unfold k0_pay143 colsum
  pointwise []
theorem pay144_at (y dy : FVec Ideal S256x512 .f32) (X : Vec Ideal S1x512 .f32) (q : Fin 512) : k0_pay144 y dy X (ix2 0 q) = X (ix2 0 q) + colsum dy y q := by
  unfold k0_pay144 colsum
  pointwise []
theorem pay145_at (y dy : FVec Ideal S256x512 .f32) (X : Vec Ideal S1x512 .f32) (q : Fin 512) : k0_pay145 y dy X (ix2 0 q) = X (ix2 0 q) + colsum dy y q := by
  unfold k0_pay145 colsum
  pointwise []
theorem pay1_at (dy : FVec Ideal S256x512 .f32) (X : Vec Ideal S1x512 .f32) (q : Fin 512) : k0_pay1 dy (k0_pay146 X) (ix2 0 q) = X (ix2 0 q) + ∑ x : Fin 256, dy (ix2 x q) := by
  unfold k0_pay1 k0_pay146
  pointwise []
theorem pay2_at (y : Vec Ideal S256x512 .f32) (dy : Vec Ideal S256x512 .f32) (X : Vec Ideal S1x512 .f32) (q : Fin 512) : k0_pay2 y dy X (ix2 0 q) = X (ix2 0 q) + colsum dy y q := by
  unfold k0_pay2 colsum
  pointwise []

variable {m}

/-- The halves of the accumulator add the chunk's sums to what it held. -/
theorem RL_at (c : Dev nD) (t : Fin cfg0.N) (V : Vec Ideal S256x4096 .f32) (X : Vec Ideal S8x4096 .f32) (L : List (View.Piece (Elt Ideal) S8x4096 .f32)) (s : Fin 8) (p : Fin 4096) :
    View.canon (RL m c t V X ++ L) (ix2 s p) = X (ix2 s p) + incL V (HH m c t) s p := by
  refine View.canon_append_of_piecesOf (fun y => X y + incL V (HH m c t) (y 0) (y 1)) L (RL m c t V X) ⟨fun x => ?_, fun x => ?_, trivial⟩ (ix2 s p) ?_
  · idx_vars x
    have hx := x1.isLt
    have e : (Rect.unit (s := S8x4096) ![0, 2048] S8x2048.size inb_S8x4096_S8x2048_0_2048).emb (ix2 x0 x1) = ix2 x0 ⟨2048 + x1.val, by omega⟩ := by
      funext b
      match b with
      | ⟨0, _⟩ => exact Fin.ext (show 0 + 1 * x0.val = x0.val by omega)
      | ⟨1, _⟩ => exact Fin.ext (show 2048 + 1 * x1.val = 2048 + x1.val by omega)
    rw [e]
    refine (pay129_at _ V _ _ _ x0 x1).trans (congrArg (· + _) ?_)
    exact congrArg X e
  · idx_vars x
    have hx := x1.isLt
    have e : (Rect.unit (s := S8x4096) ![0, 0] S8x2048.size inb_S8x4096_S8x2048_0_0).emb (ix2 x0 x1) = ix2 x0 ⟨x1.val, by omega⟩ := by
      funext b
      match b with
      | ⟨0, _⟩ => exact Fin.ext (show 0 + 1 * x0.val = x0.val by omega)
      | ⟨1, _⟩ => exact Fin.ext (show 0 + 1 * x1.val = x1.val by omega)
    rw [e]
    refine (pay128_at _ V _ _ _ x0 x1).trans (congrArg (· + _) ?_)
    exact congrArg X e
  · by_cases h : p.val < 2048
    · refine ⟨_, List.mem_cons_of_mem _ (List.mem_cons_self ..), ?_⟩
      rw [Rect.mem_set_unit]
      intro b
      match b with
      | ⟨0, _⟩ => exact ⟨Nat.zero_le _, lt_of_lt_of_eq s.isLt (show 8 = 0 + 8 from rfl)⟩
      | ⟨1, _⟩ => exact ⟨Nat.zero_le _, lt_of_lt_of_eq h (show 2048 = 0 + 2048 from rfl)⟩
    · refine ⟨_, List.mem_cons_self .., ?_⟩
      rw [Rect.mem_set_unit]
      intro b
      match b with
      | ⟨0, _⟩ => exact ⟨Nat.zero_le _, lt_of_lt_of_eq s.isLt (show 8 = 0 + 8 from rfl)⟩
      | ⟨1, _⟩ => exact ⟨Nat.le_of_not_lt h, lt_of_lt_of_eq p.isLt (show 4096 = 2048 + 2048 from rfl)⟩

variable (m)

/-- The convolution's cotangent at a chunk, and the three delays of its input. -/
abbrev DYC (c : Dev nD) (t : Fin cfg0.N) : Vec Ideal S256x512 .f32 := k0_pay136 (View.ld (iblk m c 0 t) (Rect.unit (s := S256x2048) ![0, 0] S256x512.size inb_S256x2048_S256x512_0_0)) (iblk m c 4 t)
abbrev V0 (c : Dev nD) (t : Fin cfg0.N) : Vec Ideal S256x512 .f32 := k0_pay131 (View.ld (iblk m c 0 t) (Rect.unit (s := S256x2048) ![0, 512] S256x512.size inb_S256x2048_S256x512_0_512)) (View.ld (iblk m c 0 t) (Rect.unit (s := S256x2048) ![0, 1024] S256x512.size inb_S256x2048_S256x512_0_1024))
abbrev V1 (c : Dev nD) (t : Fin cfg0.N) : Vec Ideal S256x512 .f32 := k0_pay133 (fin t) (View.ld (iblk m c 0 t) (Rect.unit (s := S256x2048) ![0, 512] S256x512.size inb_S256x2048_S256x512_0_512)) (View.ld (iblk m c 0 t) (Rect.unit (s := S256x2048) ![0, 1024] S256x512.size inb_S256x2048_S256x512_0_1024)) (View.ld (iblk m c 1 t) (Rect.unit (s := S8x2048) ![0, 512] S8x512.size inb_S8x2048_S8x512_0_512)) (View.ld (iblk m c 1 t) (Rect.unit (s := S8x2048) ![0, 1024] S8x512.size inb_S8x2048_S8x512_0_1024))
abbrev V2 (c : Dev nD) (t : Fin cfg0.N) : Vec Ideal S256x512 .f32 := k0_pay134 (fin t) (View.ld (iblk m c 0 t) (Rect.unit (s := S256x2048) ![0, 512] S256x512.size inb_S256x2048_S256x512_0_512)) (View.ld (iblk m c 0 t) (Rect.unit (s := S256x2048) ![0, 1024] S256x512.size inb_S256x2048_S256x512_0_1024)) (View.ld (iblk m c 1 t) (Rect.unit (s := S8x2048) ![0, 512] S8x512.size inb_S8x2048_S8x512_0_512)) (View.ld (iblk m c 1 t) (Rect.unit (s := S8x2048) ![0, 1024] S8x512.size inb_S8x2048_S8x512_0_1024))

/-- What a chunk adds to the rows of small gradients. -/
def incW (c : Dev nD) (t : Fin cfg0.N) (s : ℕ) (q : Fin 512) : EReal :=
  if s = 0 then colsum (DYC m c t) (V2 m c t) q
  else if s = 1 then colsum (DYC m c t) (V1 m c t) q
  else if s = 2 then colsum (DYC m c t) (V0 m c t) q
  else if s = 3 then ∑ x : Fin 256, DYC m c t (ix2 x q)
  else if s = 4 then colsum (iblk m c 5 t) (View.ld (iblk m c 0 t) (Rect.unit (s := S256x2048) ![0, 1536] S256x512.size inb_S256x2048_S256x512_0_1536)) q
  else 0

theorem incW_0 (c : Dev nD) (t : Fin cfg0.N) (q : Fin 512) : incW m c t 0 q = colsum (DYC m c t) (V2 m c t) q := by
  unfold incW; rw [if_pos rfl]
theorem incW_1 (c : Dev nD) (t : Fin cfg0.N) (q : Fin 512) : incW m c t 1 q = colsum (DYC m c t) (V1 m c t) q := by
  unfold incW; rw [if_neg (by decide), if_pos rfl]
theorem incW_2 (c : Dev nD) (t : Fin cfg0.N) (q : Fin 512) : incW m c t 2 q = colsum (DYC m c t) (V0 m c t) q := by
  unfold incW; rw [if_neg (by decide), if_neg (by decide), if_pos rfl]
theorem incW_3 (c : Dev nD) (t : Fin cfg0.N) (q : Fin 512) : incW m c t 3 q = ∑ x : Fin 256, DYC m c t (ix2 x q) := by
  unfold incW; rw [if_neg (by decide), if_neg (by decide), if_neg (by decide), if_pos rfl]
theorem incW_4 (c : Dev nD) (t : Fin cfg0.N) (q : Fin 512) : incW m c t 4 q = colsum (iblk m c 5 t) (View.ld (iblk m c 0 t) (Rect.unit (s := S256x2048) ![0, 1536] S256x512.size inb_S256x2048_S256x512_0_1536)) q := by
  unfold incW; rw [if_neg (by decide), if_neg (by decide), if_neg (by decide), if_neg (by decide), if_pos rfl]

theorem row_emb (k : ℕ) (hk : k < 8) (inb : ∀ b, (![k, 0] : Fin 2 → ℕ) b + S1x512.size b ≤ S8x512.size b) (x : Fin 1) (q : Fin 512) :
    (Rect.unit (s := S8x512) ![k, 0] S1x512.size inb).emb (ix2 x q) = ix2 ⟨k, hk⟩ q := by
  have hx := x.isLt
  funext b
  match b with
  | ⟨0, _⟩ => exact Fin.ext (show k + 1 * x.val = k by omega)
  | ⟨1, _⟩ => exact Fin.ext (show 0 + 1 * q.val = q.val by omega)

theorem mem_row (k : ℕ) (inb : ∀ b, (![k, 0] : Fin 2 → ℕ) b + S1x512.size b ≤ S8x512.size b) (s : Fin 8) (q : Fin 512) :
    (ix2 s q : S8x512.Idx) ∈ (Rect.unit (s := S8x512) ![k, 0] S1x512.size inb).set ↔ s.val = k := by
  rw [Rect.mem_set_unit]
  constructor
  · intro h
    have h1 : k ≤ s.val := (h 0).1
    have h2 : s.val < k + 1 := (h 0).2
    omega
  · intro h b
    match b with
    | ⟨0, _⟩ => exact ⟨le_of_eq h.symm, (show s.val < k + 1 by omega)⟩
    | ⟨1, _⟩ => exact ⟨Nat.zero_le _, lt_of_lt_of_eq q.isLt (show 512 = 0 + 512 from rfl)⟩

theorem skip_row (k : ℕ) (inb : ∀ b, (![k, 0] : Fin 2 → ℕ) b + S1x512.size b ≤ S8x512.size b) (w : Vec Ideal S1x512 .f32) (L : List (View.Piece (Elt Ideal) S8x512 .f32)) (s : Fin 8) (q : Fin 512) (h : s.val ≠ k) :
    View.canon ((⟨Rect.unit (s := S8x512) ![k, 0] S1x512.size inb, w⟩ : View.Piece (Elt Ideal) S8x512 .f32) :: L) (ix2 s q) = View.canon L (ix2 s q) :=
  View.canon_cons_of_not_mem _ _ fun hm => h ((mem_row k inb s q).mp hm)

/-- The rows of small gradients add the chunk's sums to what they held. -/
theorem RW_at (c : Dev nD) (t : Fin cfg0.N) (X : Vec Ideal S8x512 .f32) (s : Fin 8) (q : Fin 512) :
    View.canon (RW m c t X ++ [⟨Rect.unit (s := S8x512) ![0, 0] S8x512.size inb_S8x512_S8x512_0_0, X⟩]) (ix2 s q) = X (ix2 s q) + incW m c t s.val q := by
  by_cases hs : s.val < 5
  · refine View.canon_append_of_piecesOf (fun y => X y + incW m c t (y 0).val (y 1)) _ (RW m c t X) ⟨fun x => ?_, fun x => ?_, fun x => ?_, fun x => ?_, fun x => ?_, trivial⟩ (ix2 s q) ?_
    · obtain ⟨x0, q', rfl⟩ : ∃ (x0 : Fin 1) (q' : Fin 512), x = ix2 x0 q' := ⟨x 0, x 1, (eq_ix2 x)⟩
      have e := row_emb 4 (by decide) inb_S8x512_S1x512_4_0 x0 q'
      obtain rfl : x0 = 0 := Subsingleton.elim _ _
      rw [e]
      refine (pay2_at _ _ _ q').trans ?_
      show _ = X (ix2 ⟨4, by decide⟩ q') + incW m c t 4 q'
      rw [incW_4]
      exact congrArg (· + _) (congrArg X e)
    · obtain ⟨x0, q', rfl⟩ : ∃ (x0 : Fin 1) (q' : Fin 512), x = ix2 x0 q' := ⟨x 0, x 1, (eq_ix2 x)⟩
      have e := row_emb 3 (by decide) inb_S8x512_S1x512_3_0 x0 q'
      obtain rfl : x0 = 0 := Subsingleton.elim _ _
      rw [e]
      refine (pay1_at _ _ q').trans ?_
      show _ = X (ix2 ⟨3, by decide⟩ q') + incW m c t 3 q'
      rw [incW_3]
      exact congrArg (· + _) (congrArg X e)
    · obtain ⟨x0, q', rfl⟩ : ∃ (x0 : Fin 1) (q' : Fin 512), x = ix2 x0 q' := ⟨x 0, x 1, (eq_ix2 x)⟩
      have e := row_emb 2 (by decide) inb_S8x512_S1x512_2_0 x0 q'
      obtain rfl : x0 = 0 := Subsingleton.elim _ _
      rw [e]
      refine (pay145_at _ _ _ q').trans ?_
      show _ = X (ix2 ⟨2, by decide⟩ q') + incW m c t 2 q'
      rw [incW_2]
      exact congrArg (· + _) (congrArg X e)
    · obtain ⟨x0, q', rfl⟩ : ∃ (x0 : Fin 1) (q' : Fin 512), x = ix2 x0 q' := ⟨x 0, x 1, (eq_ix2 x)⟩
      have e := row_emb 1 (by decide) inb_S8x512_S1x512_1_0 x0 q'
      obtain rfl : x0 = 0 := Subsingleton.elim _ _
      rw [e]
      refine (pay144_at _ _ _ q').trans ?_
      show _ = X (ix2 ⟨1, by decide⟩ q') + incW m c t 1 q'
      rw [incW_1]
      exact congrArg (· + _) (congrArg X e)
    · obtain ⟨x0, q', rfl⟩ : ∃ (x0 : Fin 1) (q' : Fin 512), x = ix2 x0 q' := ⟨x 0, x 1, (eq_ix2 x)⟩
      have e := row_emb 0 (by decide) inb_S8x512_S1x512_0_0 x0 q'
      obtain rfl : x0 = 0 := Subsingleton.elim _ _
      rw [e]
      refine (pay143_at _ _ _ q').trans ?_
      show _ = X (ix2 ⟨0, by decide⟩ q') + incW m c t 0 q'
      rw [incW_0]
      exact congrArg (· + _) (congrArg X e)
    · obtain h | h | h | h | h : s.val = 4 ∨ s.val = 3 ∨ s.val = 2 ∨ s.val = 1 ∨ s.val = 0 := by omega
      · exact ⟨_, List.mem_cons_self .., (mem_row 4 inb_S8x512_S1x512_4_0 s q).mpr h⟩
      · exact ⟨_, List.mem_cons_of_mem _ (List.mem_cons_self ..), (mem_row 3 inb_S8x512_S1x512_3_0 s q).mpr h⟩
      · exact ⟨_, List.mem_cons_of_mem _ (List.mem_cons_of_mem _ (List.mem_cons_self ..)), (mem_row 2 inb_S8x512_S1x512_2_0 s q).mpr h⟩
      · exact ⟨_, List.mem_cons_of_mem _ (List.mem_cons_of_mem _ (List.mem_cons_of_mem _ (List.mem_cons_self ..))), (mem_row 1 inb_S8x512_S1x512_1_0 s q).mpr h⟩
      · exact ⟨_, List.mem_cons_of_mem _ (List.mem_cons_of_mem _ (List.mem_cons_of_mem _ (List.mem_cons_of_mem _ (List.mem_cons_self ..)))), (mem_row 0 inb_S8x512_S1x512_0_0 s q).mpr h⟩
  · have e : incW m c t s.val q = 0 := by
      unfold incW
      rw [if_neg (by omega), if_neg (by omega), if_neg (by omega), if_neg (by omega), if_neg (by omega)]
    rw [e, add_zero]
    unfold RW
    simp only [List.cons_append, List.nil_append]
    refine (skip_row 4 inb_S8x512_S1x512_4_0 _ _ s q (by omega)).trans ?_
    refine (skip_row 3 inb_S8x512_S1x512_3_0 _ _ s q (by omega)).trans ?_
    refine (skip_row 2 inb_S8x512_S1x512_2_0 _ _ s q (by omega)).trans ?_
    refine (skip_row 1 inb_S8x512_S1x512_1_0 _ _ s q (by omega)).trans ?_
    refine (skip_row 0 inb_S8x512_S1x512_0_0 _ _ s q (by omega)).trans ?_
    exact congrFun (View.canon_cons_unit_lit inb_S8x512_S8x512_0_0 X [] (by decide)) (ix2 s q)

theorem pay53_at (y : S8x4096.Idx) : k0_pay53 (F := Ideal) y = (0 : EReal) := by
  idx_vars y
  unfold k0_pay53
  pointwise []
  first | done | simp [Ideal.ofBits]

theorem pay54_at (y : S8x512.Idx) : k0_pay54 (F := Ideal) y = (0 : EReal) := by
  idx_vars y
  unfold k0_pay54
  pointwise []
  first | done | simp [Ideal.ofBits]

/-- The point of the grid with number `k`. -/
def pt (k : ℕ) : Fin cfg0.N := ⟨k % 8, lt_of_lt_of_eq (Nat.mod_lt _ (by decide)) N_0.symm⟩

theorem pt_val (t : Fin cfg0.N) : pt t.val = t := Fin.ext (Nat.mod_eq_of_lt (lt_of_lt_of_eq t.isLt N_0))

/-- Residue `s`, lane `p` of the eigenvalues' gradient after the first `n` points. -/
def sumL (c : Dev nD) (n : ℕ) (s : Fin 8) (p : Fin 4096) : EReal := ∑ k ∈ Finset.range n, incL (VV m c (pt k)) (HH m c (pt k)) s p

/-- Row `s` of the small gradients after the first `n` points. -/
def sumW (c : Dev nD) (n : ℕ) (s : Fin 8) (q : Fin 512) : EReal := ∑ k ∈ Finset.range n, incW m c (pt k) s.val q

variable {m}

theorem sumL_succ (c : Dev nD) (t : Fin cfg0.N) (s : Fin 8) (p : Fin 4096) : sumL m c (t.val + 1) s p = sumL m c t.val s p + incL (VV m c t) (HH m c t) s p := by
  unfold sumL
  rw [Finset.sum_range_succ, pt_val]

theorem sumW_succ (c : Dev nD) (t : Fin cfg0.N) (s : Fin 8) (q : Fin 512) : sumW m c (t.val + 1) s q = sumW m c t.val s q + incW m c t s.val q := by
  unfold sumW
  rw [Finset.sum_range_succ, pt_val]

theorem accL (c : Dev nD) : ∀ (n : ℕ) (hn : n < cfg0.N), n < 7 → ∀ (s : Fin 8) (p : Fin 4096), (outsAt0 m c n hn).2.2.2.2.1 (ix2 s p) = sumL m c (n + 1) s p := by
  have step : ∀ t : Fin cfg0.N, t.val < 7 → ∀ (s : Fin 8) (p : Fin 4096), prevL m c t (ix2 s p) = sumL m c t.val s p → (outsAt0 m c t.val t.isLt).2.2.2.2.1 (ix2 s p) = sumL m c (t.val + 1) s p := by
    intro t h7 s p h
    rw [sumL_succ, ← h]
    by_cases h0 : t.val % 8 = 0
    · rw [outL_A m c t h0 (by omega)]
      exact RL_at c t _ _ _ s p
    · rw [outL_B m c t h0 (by omega)]
      have e := RL_at (m := m) c t (VV m c t) (prevL m c t) [] s p
      rwa [List.append_nil] at e
  intro n
  induction n with
  | zero =>
    intro hn h7 s p
    exact step ⟨0, hn⟩ h7 s p ((congrFun (if_pos (Nat.zero_mod 8)) _).trans ((pay53_at _).trans (Finset.sum_range_zero _).symm))
  | succ n ih =>
    intro hn h7 s p
    exact step ⟨n + 1, hn⟩ h7 s p ((congrFun (if_neg (show ¬ (n + 1) % 8 = 0 by omega)) _).trans (ih (Nat.lt_of_succ_lt hn) (by omega) s p))

theorem row0_emb (inb : ∀ b, (![0, 0] : Fin 2 → ℕ) b + S1x4096.size b ≤ S8x4096.size b) (p : Fin 4096) :
    (Rect.unit (s := S8x4096) ![0, 0] S1x4096.size inb).emb (ix2 0 p) = ix2 0 p := by
  funext b
  match b with
  | ⟨0, _⟩ => exact Fin.ext (show 0 + 1 * 0 = 0 by omega)
  | ⟨1, _⟩ => exact Fin.ext (show 0 + 1 * p.val = p.val by omega)

theorem RL_last (c : Dev nD) (t : Fin cfg0.N) (ht : t.val = 7) (x : Fin 8) (p : Fin 4096) :
    View.canon (RL m c t (VV m c t) (prevL m c t)) (ix2 x p) = sumL m c (t.val + 1) x p := by
  have e := RL_at (m := m) c t (VV m c t) (prevL m c t) [] x p
  rw [List.append_nil] at e
  rw [e, sumL_succ]
  have h0 : ¬ t.val % 8 = 0 := by omega
  have e2 : prevL m c t = _ := if_neg h0
  rw [e2, accL c (t.val - 1) (by omega) (by omega) x p, show t.val - 1 + 1 = t.val by omega]

/-- The eigenvalues' gradient at the end: the sums per residue, the total in row 0. -/
theorem accL_last (c : Dev nD) (t : Fin cfg0.N) (ht : t.val = 7) (s : Fin 8) (p : Fin 4096) :
    (outsAt0 m c t.val t.isLt).2.2.2.2.1 (ix2 s p) = if s.val = 0 then ∑ x : Fin 8, sumL m c 8 x p else sumL m c 8 s p := by
  have hp : ∀ x : Fin 8, View.canon (RL m c t (VV m c t) (prevL m c t)) (ix2 x p) = sumL m c 8 x p := by
    intro x
    rw [RL_last c t ht, ht]
  rw [outL_C m c t (by omega) (by omega)]
  by_cases hs : s.val = 0
  · obtain rfl : s = 0 := Fin.ext hs
    rw [if_pos hs]
    refine ((congrArg _ (row0_emb inb_S8x4096_S1x4096_0_0 p).symm).trans (View.canon_cons_emb _ _ _ _)).trans ?_
    rw [pay130_at]
    exact Finset.sum_congr rfl fun x _ => hp x
  · rw [if_neg hs]
    refine (View.canon_cons_of_not_mem _ _ fun hm => ?_).trans (hp s)
    have h1 : (ix2 s p : S8x4096.Idx) ∈ (Rect.unit (s := S8x4096) ![0, 0] S1x4096.size inb_S8x4096_S1x4096_0_0).set := hm
    rw [Rect.mem_set_unit] at h1
    have h2 : s.val < 0 + 1 := (h1 0).2
    omega

theorem accW (c : Dev nD) : ∀ (n : ℕ) (hn : n < cfg0.N) (s : Fin 8) (q : Fin 512), (outsAt0 m c n hn).2.2.2.2.2.1 (ix2 s q) = sumW m c (n + 1) s q := by
  have step : ∀ t : Fin cfg0.N, ∀ (s : Fin 8) (q : Fin 512), prevW m c t (ix2 s q) = sumW m c t.val s q → (outsAt0 m c t.val t.isLt).2.2.2.2.2.1 (ix2 s q) = sumW m c (t.val + 1) s q := by
    intro t s q h
    have hN : t.val < 8 := lt_of_lt_of_eq t.isLt N_0
    rw [sumW_succ, ← h]
    by_cases h0 : t.val % 8 = 0
    · rw [outW_A m c t h0 (by omega)]
      exact RW_at m c t _ s q
    · by_cases h1 : t.val % 8 = 7
      · rw [outW_C m c t h0 h1]
        exact RW_at m c t _ s q
      · rw [outW_B m c t h0 h1]
        exact RW_at m c t _ s q
  intro n
  induction n with
  | zero =>
    intro hn s q
    exact step ⟨0, hn⟩ s q ((congrFun (if_pos (Nat.zero_mod 8)) _).trans ((pay54_at _).trans (Finset.sum_range_zero _).symm))
  | succ n ih =>
    intro hn s q
    have hN : n + 1 < 8 := lt_of_lt_of_eq hn N_0
    exact step ⟨n + 1, hn⟩ s q ((congrFun (if_neg (show ¬ (n + 1) % 8 = 0 by omega)) _).trans (ih (Nat.lt_of_succ_lt hn) s q))

end Cert.Proof.S5
-- ==== Proof.Host.lean ====
/- What the host prepares for the call, index by index. -/
module

public import proofs.«01_k».proof.Proof.Acc
public import Idealize.ShloMosaic.Lib.StableHlo.ReadAt
public import Idealize.ShloMosaic.Lib.Claim

@[expose] public section

set_option maxRecDepth 16384

noncomputable section

namespace Cert.Proof.S5

open Idealize.ShloMosaic Idealize.SL.Sem
open Cert.KernelIdeal Cert.KernelIdeal.Gen Idealize.ShloMosaic.TcCoe

variable (m : (ℓ : Loc nD τ sig) → Buf (Elt Ideal) ℓ) (c : Dev nD)

theorem f11 : ∀ t : Fin cfg0.N, win0_11.index t = ![0, 0] := by decide +kernel

theorem blk11 (t : Fin cfg0.N) (x : S32x4096.Idx) : iblk m c 11 t x = V m c main_v100 x := by
  show V m c main_v100 _ = V m c main_v100 _
  congr 1
  funext a; apply Fin.ext
  fin_cases a <;> blk_simp [f11] <;> simp [f11]

/-- The decay of the lanes is the real numbers `lr + i li`. -/
structure Lam (lr li : Fin 2048 → ℝ) : Prop where
  re : ∀ q : Fin 2048, m (c, Proc.devRef .tc main_arg7) (ix2 ⟨q.val / 64, by omega⟩ ⟨q.val % 64, by omega⟩) = (lr q : EReal)
  im : ∀ q : Fin 2048, m (c, Proc.devRef .tc main_arg8) (ix2 ⟨q.val / 64, by omega⟩ ⟨q.val % 64, by omega⟩) = (li q : EReal)

theorem word_lt (k : ℕ) (hk : k ≤ 8) (s : Fin 8) (x y : EReal) :
    Scalar.select (IntOp.cmpi CmpIPredicate.slt (BitVec.ofNat 32 s.val) (BitVec.ofNat 32 k)) x y = if s.val < k then x else y := by
  have : IntOp.cmpi CmpIPredicate.slt (BitVec.ofNat 32 s.val) (BitVec.ofNat 32 k) = if s.val < k then 1#1 else 0#1 := by
    revert k s; decide +kernel
  rw [this]
  split <;> rfl

/-- The decay of all lanes in a row. -/
def PW0 : FVec Ideal S1x2048 .f32 := shapeCast S1x2048 (m (c, Proc.devRef .tc main_arg7) : Vec Ideal S32x64 .f32) shapeCasts_S32x64_S1x2048
/-- Its imaginary part. -/
def QW0 : FVec Ideal S1x2048 .f32 := shapeCast S1x2048 (m (c, Proc.devRef .tc main_arg8) : Vec Ideal S32x64 .f32) shapeCasts_S32x64_S1x2048

/-- The powers of the decay as the host computes them, row by row. -/
def PWV : ℕ → FVec Ideal S1x2048 .f32 × FVec Ideal S1x2048 .f32
  | 0 => (PW0 m c, QW0 m c)
  | k + 1 => (subf (mulf (PWV k).1 (PW0 m c)) (mulf (PWV k).2 (QW0 m c)), addf (mulf (PWV k).1 (QW0 m c)) (mulf (PWV k).2 (PW0 m c)))

section
variable {lr li : Fin 2048 → ℝ} (h : Lam m c lr li)
include h

theorem PWV_at (k : ℕ) (q : Fin 2048) : (PWV m c k).1 (ix2 0 q) = ((pw (lr q) (li q) k).1 : EReal) ∧ (PWV m c k).2 (ix2 0 q) = ((pw (lr q) (li q) k).2 : EReal) := by
  have h0 : PW0 m c (ix2 0 q) = (lr q : EReal) ∧ QW0 m c (ix2 0 q) = (li q : EReal) := by
    constructor
    · refine Eq.trans ?_ (h.re q); unfold PW0; clean_types; pointwise
    · refine Eq.trans ?_ (h.im q); unfold QW0; clean_types; pointwise
  induction k with
  | zero => exact h0
  | succ k ih =>
    have e : ∀ x y : FVec Ideal S1x2048 .f32, subf x y (ix2 0 q) = (x (ix2 0 q) - y (ix2 0 q) : EReal) ∧ addf x y (ix2 0 q) = (x (ix2 0 q) + y (ix2 0 q) : EReal) ∧ mulf x y (ix2 0 q) = (x (ix2 0 q) * y (ix2 0 q) : EReal) := fun x y => ⟨rfl, rfl, rfl⟩
    constructor
    · show subf (mulf (PWV m c k).1 (PW0 m c)) (mulf (PWV m c k).2 (QW0 m c)) (ix2 0 q) = _
      rw [(e _ _).1, (e _ _).2.2, (e _ _).2.2, ih.1, ih.2, h0.1, h0.2]
      simp only [pw, ← EReal.coe_mul, ← EReal.coe_add, ← EReal.coe_sub]
    · show addf (mulf (PWV m c k).1 (QW0 m c)) (mulf (PWV m c k).2 (PW0 m c)) (ix2 0 q) = _
      rw [(e _ _).2.1, (e _ _).2.2, (e _ _).2.2, ih.1, ih.2, h0.1, h0.2]
      simp only [pw, ← EReal.coe_mul, ← EReal.coe_add, ← EReal.coe_sub]

/-- A block of the table: a power in the rows under `lim`, zero in the others. -/
def TB (k lim : ℕ) : Vec Ideal S8x4096 .f32 :=
  concatenate S8x4096 1 [⟨S8x2048, select (cmpi .slt (iotaInDim S8x2048 32 0) (broadcastInDim S8x2048 ![] bcast_S_S8x2048 (constantI S_ 32 (BitVec.ofNat 32 lim) : IVec S_ 32))) (broadcastInDim S8x2048 ![0, 1] bcast_S1x2048_S8x2048_0_1 (PWV m c k).1) (broadcastInDim S8x2048 ![] bcast_S_S8x2048 (constant (F := Ideal) S_ .f32 0x00000000#32 : Vec Ideal S_ .f32))⟩,
      ⟨S8x2048, select (cmpi .slt (iotaInDim S8x2048 32 0) (broadcastInDim S8x2048 ![] bcast_S_S8x2048 (constantI S_ 32 (BitVec.ofNat 32 lim) : IVec S_ 32))) (broadcastInDim S8x2048 ![0, 1] bcast_S1x2048_S8x2048_0_1 (Host.negf (PWV m c k).2)) (broadcastInDim S8x2048 ![] bcast_S_S8x2048 (constant (F := Ideal) S_ .f32 0x00000000#32 : Vec Ideal S_ .f32))⟩] concatenates_S8x2048_S8x2048_S8x4096_d1
/-- A row of the table's last block. -/
def ED (k : ℕ) : Vec Ideal S1x4096 .f32 :=
  concatenate S1x4096 1 [⟨S1x2048, (PWV m c k).1⟩, ⟨S1x2048, Host.negf (PWV m c k).2⟩] concatenates_S1x2048_S1x2048_S1x4096_d1

theorem TB_re (k lim : ℕ) (hl : lim ≤ 8) (q : Fin 2048) (s : Fin 8) : TB m c k lim (ix2 s ⟨0 + q.val, by omega⟩) = if s.val < lim then ((pw (lr q) (li q) k).1 : EReal) else 0 := by
  unfold TB
  pointwise []
  refine (word_lt lim hl s _ _).trans ?_
  rw [(PWV_at m c h k q).1]

theorem TB_im (k lim : ℕ) (hl : lim ≤ 8) (q : Fin 2048) (s : Fin 8) : TB m c k lim (ix2 s ⟨2048 + q.val, by omega⟩) = if s.val < lim then ((-(pw (lr q) (li q) k).2 : ℝ) : EReal) else 0 := by
  unfold TB
  pointwise []
  refine (word_lt lim hl s _ _).trans ?_
  rw [(PWV_at m c h k q).2]
  try rw [← EReal.coe_neg]

theorem ED_re (k : ℕ) (q : Fin 2048) : ED m c k (ix2 0 ⟨0 + q.val, by omega⟩) = ((pw (lr q) (li q) k).1 : EReal) := by
  unfold ED
  pointwise []
  exact (PWV_at m c h k q).1

theorem ED_im (k : ℕ) (q : Fin 2048) : ED m c k (ix2 0 ⟨2048 + q.val, by omega⟩) = ((-(pw (lr q) (li q) k).2 : ℝ) : EReal) := by
  unfold ED
  pointwise []
  rw [(PWV_at m c h k q).2, ← EReal.coe_neg]

omit h

theorem tb0 (s : Fin 8) (p : Fin 4096) : V m c main_v100 (ix2 ⟨0 + s.val, by omega⟩ p) = TB m c 0 7 (ix2 s p) := by
  obtain ⟨X, hX⟩ : ∃ X : EReal, X = TB m c 0 7 (ix2 s p) := ⟨_, rfl⟩
  refine Eq.trans ?_ hX
  unfold V
  after_reads_at
  after_reads_simp
  rw [hX]
  exact congrFun (rfl : _ = TB m c 0 7) _

theorem tb1 (s : Fin 8) (p : Fin 4096) : V m c main_v100 (ix2 ⟨8 + s.val, by omega⟩ p) = TB m c 1 6 (ix2 s p) := by
  obtain ⟨X, hX⟩ : ∃ X : EReal, X = TB m c 1 6 (ix2 s p) := ⟨_, rfl⟩
  refine Eq.trans ?_ hX
  unfold V
  after_reads_at
  after_reads_simp
  rw [hX]
  exact congrFun (rfl : _ = TB m c 1 6) _

theorem tb3_0 (p : Fin 4096) : V m c main_v100 (ix2 ⟨16, by decide⟩ p) = TB m c 3 4 (ix2 0 p) := by
  obtain ⟨X, hX⟩ : ∃ X : EReal, X = TB m c 3 4 (ix2 0 p) := ⟨_, rfl⟩
  refine Eq.trans ?_ hX
  unfold V
  after_reads_at
  after_reads_simp
  rw [hX]
  exact congrFun (rfl : _ = TB m c 3 4) _

theorem tb3_1 (p : Fin 4096) : V m c main_v100 (ix2 ⟨17, by decide⟩ p) = TB m c 3 4 (ix2 1 p) := by
  obtain ⟨X, hX⟩ : ∃ X : EReal, X = TB m c 3 4 (ix2 1 p) := ⟨_, rfl⟩
  refine Eq.trans ?_ hX
  unfold V
  after_reads_at
  after_reads_simp
  rw [hX]
  exact congrFun (rfl : _ = TB m c 3 4) _

theorem tb3_2 (p : Fin 4096) : V m c main_v100 (ix2 ⟨18, by decide⟩ p) = TB m c 3 4 (ix2 2 p) := by
  obtain ⟨X, hX⟩ : ∃ X : EReal, X = TB m c 3 4 (ix2 2 p) := ⟨_, rfl⟩
  refine Eq.trans ?_ hX
  unfold V
  after_reads_at
  after_reads_simp
  rw [hX]
  exact congrFun (rfl : _ = TB m c 3 4) _

theorem tb3_3 (p : Fin 4096) : V m c main_v100 (ix2 ⟨19, by decide⟩ p) = TB m c 3 4 (ix2 3 p) := by
  obtain ⟨X, hX⟩ : ∃ X : EReal, X = TB m c 3 4 (ix2 3 p) := ⟨_, rfl⟩
  refine Eq.trans ?_ hX
  unfold V
  after_reads_at
  after_reads_simp
  rw [hX]
  exact congrFun (rfl : _ = TB m c 3 4) _

theorem tb3_4 (p : Fin 4096) : V m c main_v100 (ix2 ⟨20, by decide⟩ p) = TB m c 3 4 (ix2 4 p) := by
  obtain ⟨X, hX⟩ : ∃ X : EReal, X = TB m c 3 4 (ix2 4 p) := ⟨_, rfl⟩
  refine Eq.trans ?_ hX
  unfold V
  after_reads_at
  after_reads_simp
  rw [hX]
  exact congrFun (rfl : _ = TB m c 3 4) _

theorem tb3_5 (p : Fin 4096) : V m c main_v100 (ix2 ⟨21, by decide⟩ p) = TB m c 3 4 (ix2 5 p) := by
  obtain ⟨X, hX⟩ : ∃ X : EReal, X = TB m c 3 4 (ix2 5 p) := ⟨_, rfl⟩
  refine Eq.trans ?_ hX
  unfold V
  after_reads_at
  after_reads_simp
  rw [hX]
  exact congrFun (rfl : _ = TB m c 3 4) _

theorem tb3_6 (p : Fin 4096) : V m c main_v100 (ix2 ⟨22, by decide⟩ p) = TB m c 3 4 (ix2 6 p) := by
  obtain ⟨X, hX⟩ : ∃ X : EReal, X = TB m c 3 4 (ix2 6 p) := ⟨_, rfl⟩
  refine Eq.trans ?_ hX
  unfold V
  after_reads_at
  after_reads_simp
  rw [hX]
  exact congrFun (rfl : _ = TB m c 3 4) _

theorem tb3_7 (p : Fin 4096) : V m c main_v100 (ix2 ⟨23, by decide⟩ p) = TB m c 3 4 (ix2 7 p) := by
  obtain ⟨X, hX⟩ : ∃ X : EReal, X = TB m c 3 4 (ix2 7 p) := ⟨_, rfl⟩
  refine Eq.trans ?_ hX
  unfold V
  after_reads_at
  after_reads_simp
  rw [hX]
  exact congrFun (rfl : _ = TB m c 3 4) _

theorem ed0 (p : Fin 4096) : V m c main_v100 (ix2 ⟨24, by decide⟩ p) = ED m c 7 (ix2 0 p) := by
  obtain ⟨X, hX⟩ : ∃ X : EReal, X = ED m c 7 (ix2 0 p) := ⟨_, rfl⟩
  refine Eq.trans ?_ hX
  unfold V
  after_reads_at
  after_reads_simp
  rw [hX]
  exact congrFun (rfl : _ = ED m c 7) _

theorem ed1 (p : Fin 4096) : V m c main_v100 (ix2 ⟨25, by decide⟩ p) = ED m c 6 (ix2 0 p) := by
  obtain ⟨X, hX⟩ : ∃ X : EReal, X = ED m c 6 (ix2 0 p) := ⟨_, rfl⟩
  refine Eq.trans ?_ hX
  unfold V
  after_reads_at
  after_reads_simp
  rw [hX]
  exact congrFun (rfl : _ = ED m c 6) _

theorem ed2 (p : Fin 4096) : V m c main_v100 (ix2 ⟨26, by decide⟩ p) = ED m c 5 (ix2 0 p) := by
  obtain ⟨X, hX⟩ : ∃ X : EReal, X = ED m c 5 (ix2 0 p) := ⟨_, rfl⟩
  refine Eq.trans ?_ hX
  unfold V
  after_reads_at
  after_reads_simp
  rw [hX]
  exact congrFun (rfl : _ = ED m c 5) _

theorem ed3 (p : Fin 4096) : V m c main_v100 (ix2 ⟨27, by decide⟩ p) = ED m c 4 (ix2 0 p) := by
  obtain ⟨X, hX⟩ : ∃ X : EReal, X = ED m c 4 (ix2 0 p) := ⟨_, rfl⟩
  refine Eq.trans ?_ hX
  unfold V
  after_reads_at
  after_reads_simp
  rw [hX]
  exact congrFun (rfl : _ = ED m c 4) _

theorem ed4 (p : Fin 4096) : V m c main_v100 (ix2 ⟨28, by decide⟩ p) = ED m c 3 (ix2 0 p) := by
  obtain ⟨X, hX⟩ : ∃ X : EReal, X = ED m c 3 (ix2 0 p) := ⟨_, rfl⟩
  refine Eq.trans ?_ hX
  unfold V
  after_reads_at
  after_reads_simp
  rw [hX]
  exact congrFun (rfl : _ = ED m c 3) _

theorem ed5 (p : Fin 4096) : V m c main_v100 (ix2 ⟨29, by decide⟩ p) = ED m c 2 (ix2 0 p) := by
  obtain ⟨X, hX⟩ : ∃ X : EReal, X = ED m c 2 (ix2 0 p) := ⟨_, rfl⟩
  refine Eq.trans ?_ hX
  unfold V
  after_reads_at
  after_reads_simp
  rw [hX]
  exact congrFun (rfl : _ = ED m c 2) _

theorem ed6 (p : Fin 4096) : V m c main_v100 (ix2 ⟨30, by decide⟩ p) = ED m c 1 (ix2 0 p) := by
  obtain ⟨X, hX⟩ : ∃ X : EReal, X = ED m c 1 (ix2 0 p) := ⟨_, rfl⟩
  refine Eq.trans ?_ hX
  unfold V
  after_reads_at
  after_reads_simp
  rw [hX]
  exact congrFun (rfl : _ = ED m c 1) _

theorem ed7 (p : Fin 4096) : V m c main_v100 (ix2 ⟨31, by decide⟩ p) = ED m c 0 (ix2 0 p) := by
  obtain ⟨X, hX⟩ : ∃ X : EReal, X = ED m c 0 (ix2 0 p) := ⟨_, rfl⟩
  refine Eq.trans ?_ hX
  unfold V
  after_reads_at
  after_reads_simp
  rw [hX]
  exact congrFun (rfl : _ = ED m c 0) _

include h
/-- The call's table block holds the powers of the decay. -/
theorem lt_spec (t : Fin cfg0.N) : LtSpec (iblk m c 11 t) lr li where
  re0 q s := ((blk11 m c t _).trans (tb0 m c s _)).trans (TB_re m c h 0 7 (by decide) q s)
  im0 q s := ((blk11 m c t _).trans (tb0 m c s _)).trans (TB_im m c h 0 7 (by decide) q s)
  re1 q s := ((blk11 m c t _).trans (tb1 m c s _)).trans (TB_re m c h 1 6 (by decide) q s)
  im1 q s := ((blk11 m c t _).trans (tb1 m c s _)).trans (TB_im m c h 1 6 (by decide) q s)
  re3 q s := (blk11 m c t _).trans (by
    fin_cases s
    · exact (tb3_0 m c _).trans (TB_re m c h 3 4 (by decide) q 0)
    · exact (tb3_1 m c _).trans (TB_re m c h 3 4 (by decide) q 1)
    · exact (tb3_2 m c _).trans (TB_re m c h 3 4 (by decide) q 2)
    · exact (tb3_3 m c _).trans (TB_re m c h 3 4 (by decide) q 3)
    · exact (tb3_4 m c _).trans (TB_re m c h 3 4 (by decide) q 4)
    · exact (tb3_5 m c _).trans (TB_re m c h 3 4 (by decide) q 5)
    · exact (tb3_6 m c _).trans (TB_re m c h 3 4 (by decide) q 6)
    · exact (tb3_7 m c _).trans (TB_re m c h 3 4 (by decide) q 7)
    )
  im3 q s := (blk11 m c t _).trans (by
    fin_cases s
    · exact (tb3_0 m c _).trans (TB_im m c h 3 4 (by decide) q 0)
    · exact (tb3_1 m c _).trans (TB_im m c h 3 4 (by decide) q 1)
    · exact (tb3_2 m c _).trans (TB_im m c h 3 4 (by decide) q 2)
    · exact (tb3_3 m c _).trans (TB_im m c h 3 4 (by decide) q 3)
    · exact (tb3_4 m c _).trans (TB_im m c h 3 4 (by decide) q 4)
    · exact (tb3_5 m c _).trans (TB_im m c h 3 4 (by decide) q 5)
    · exact (tb3_6 m c _).trans (TB_im m c h 3 4 (by decide) q 6)
    · exact (tb3_7 m c _).trans (TB_im m c h 3 4 (by decide) q 7)
    )
  rep q s := (blk11 m c t _).trans (by
    fin_cases s
    · exact (ed0 m c _).trans (ED_re m c h 7 q)
    · exact (ed1 m c _).trans (ED_re m c h 6 q)
    · exact (ed2 m c _).trans (ED_re m c h 5 q)
    · exact (ed3 m c _).trans (ED_re m c h 4 q)
    · exact (ed4 m c _).trans (ED_re m c h 3 q)
    · exact (ed5 m c _).trans (ED_re m c h 2 q)
    · exact (ed6 m c _).trans (ED_re m c h 1 q)
    · exact (ed7 m c _).trans (ED_re m c h 0 q)
    )
  imp q s := (blk11 m c t _).trans (by
    fin_cases s
    · exact (ed0 m c _).trans (ED_im m c h 7 q)
    · exact (ed1 m c _).trans (ED_im m c h 6 q)
    · exact (ed2 m c _).trans (ED_im m c h 5 q)
    · exact (ed3 m c _).trans (ED_im m c h 4 q)
    · exact (ed4 m c _).trans (ED_im m c h 3 q)
    · exact (ed5 m c _).trans (ED_im m c h 2 q)
    · exact (ed6 m c _).trans (ED_im m c h 1 q)
    · exact (ed7 m c _).trans (ED_im m c h 0 q)
    )
end

/-- One entry of a rank-3 array of numbers. -/
abbrev rd3 {a b d : ℕ} (x : Vec Ideal ⟨3, ![a, b, d]⟩ .f32) (i : Fin a) (j : Fin b) (k : Fin d) : EReal := x (ix3 i j k)

/-- The group of a row and of a lane as the host computes them. -/
theorem word_group (n : ℕ) (hn : n = 16 ∨ n = 64) (k : ℕ) (hk : k < 2048) :
    (Scalar.select
        (IntOp.andi
          (IntOp.cmpi CmpIPredicate.ne (if BitVec.ofNat 32 k = 0 then (0 : BitVec 32) else if (BitVec.ofNat 32 k).msb = true then -1 else 1)
            (if BitVec.ofNat 32 n = 0 then (0 : BitVec 32) else if BitVec.msb (BitVec.ofNat 32 n) = true then -1 else 1))
          (IntOp.cmpi CmpIPredicate.ne (IntOp.remsi ArithUnit.host (BitVec.ofNat 32 k) (BitVec.ofNat 32 n)) 0#32))
        (IntOp.subi (IntOp.divsi ArithUnit.host (BitVec.ofNat 32 k) (BitVec.ofNat 32 n)) 1#32)
        (IntOp.divsi ArithUnit.host (BitVec.ofNat 32 k) (BitVec.ofNat 32 n)) : BitVec 32) = BitVec.ofNat 32 (k / n) := by
  have h16 : ∀ k : Fin 2048, (Scalar.select
        (IntOp.andi
          (IntOp.cmpi CmpIPredicate.ne (if BitVec.ofNat 32 k.val = 0 then (0 : BitVec 32) else if (BitVec.ofNat 32 k.val).msb = true then -1 else 1)
            (if BitVec.ofNat 32 16 = 0 then (0 : BitVec 32) else if BitVec.msb (BitVec.ofNat 32 16) = true then -1 else 1))
          (IntOp.cmpi CmpIPredicate.ne (IntOp.remsi ArithUnit.host (BitVec.ofNat 32 k.val) (BitVec.ofNat 32 16)) 0#32))
        (IntOp.subi (IntOp.divsi ArithUnit.host (BitVec.ofNat 32 k.val) (BitVec.ofNat 32 16)) 1#32)
        (IntOp.divsi ArithUnit.host (BitVec.ofNat 32 k.val) (BitVec.ofNat 32 16)) : BitVec 32) = BitVec.ofNat 32 (k.val / 16) := by decide +kernel
  have h64 : ∀ k : Fin 2048, (Scalar.select
        (IntOp.andi
          (IntOp.cmpi CmpIPredicate.ne (if BitVec.ofNat 32 k.val = 0 then (0 : BitVec 32) else if (BitVec.ofNat 32 k.val).msb = true then -1 else 1)
            (if BitVec.ofNat 32 64 = 0 then (0 : BitVec 32) else if BitVec.msb (BitVec.ofNat 32 64) = true then -1 else 1))
          (IntOp.cmpi CmpIPredicate.ne (IntOp.remsi ArithUnit.host (BitVec.ofNat 32 k.val) (BitVec.ofNat 32 64)) 0#32))
        (IntOp.subi (IntOp.divsi ArithUnit.host (BitVec.ofNat 32 k.val) (BitVec.ofNat 32 64)) 1#32)
        (IntOp.divsi ArithUnit.host (BitVec.ofNat 32 k.val) (BitVec.ofNat 32 64)) : BitVec 32) = BitVec.ofNat 32 (k.val / 64) := by decide +kernel
  rcases hn with rfl | rfl
  · exact h16 ⟨k, hk⟩
  · exact h64 ⟨k, hk⟩

theorem word_same (r : Fin 512) (q : Fin 2048) (x y : EReal) :
    Scalar.select (IntOp.cmpi CmpIPredicate.eq (BitVec.ofNat 32 (r.val / 16)) (BitVec.ofNat 32 (q.val / 64))) x y = if r.val / 16 = q.val / 64 then x else y := by
  have key : ∀ a b : Fin 32, IntOp.cmpi CmpIPredicate.eq (BitVec.ofNat 32 a.val) (BitVec.ofNat 32 b.val) = if a.val = b.val then 1#1 else 0#1 := by decide +kernel
  rw [key ⟨r.val / 16, by omega⟩ ⟨q.val / 64, by omega⟩]
  dsimp only
  split <;> rfl

theorem cc_re (r : Fin 512) (q : Fin 2048) : V m c main_v145 (ix2 r ⟨0 + q.val, by omega⟩) = (if r.val / 16 = q.val / 64 then (rd3 (m (c, Proc.devRef .tc main_arg11)) ⟨r.val / 16, by omega⟩ ⟨r.val % 16, by omega⟩ ⟨q.val % 64, by omega⟩) else (0 : EReal) : EReal) := by
  obtain ⟨X, hX⟩ : ∃ X : EReal, X = if r.val / 16 = q.val / 64 then (rd3 (m (c, Proc.devRef .tc main_arg11)) ⟨r.val / 16, by omega⟩ ⟨r.val % 16, by omega⟩ ⟨q.val % 64, by omega⟩) else (0 : EReal) := ⟨_, rfl⟩
  rw [← hX]
  unfold V
  after_reads_at
  after_reads_at
  rw [hX]
  skip
  refine Eq.trans ?_ (word_same r q _ _)
  refine congrArg (fun w => Scalar.select w _ _) ?_
  exact congrArg₂ (fun a b => IntOp.cmpi CmpIPredicate.eq a b) (word_group 16 (Or.inl rfl) r.val (by omega)) (word_group 64 (Or.inr rfl) q.val (by omega))

theorem cc_im (r : Fin 512) (q : Fin 2048) : V m c main_v145 (ix2 r ⟨2048 + q.val, by omega⟩) = (-(if r.val / 16 = q.val / 64 then (rd3 (m (c, Proc.devRef .tc main_arg12)) ⟨r.val / 16, by omega⟩ ⟨r.val % 16, by omega⟩ ⟨q.val % 64, by omega⟩) else (0 : EReal)) : EReal) := by
  obtain ⟨X, hX⟩ : ∃ X : EReal, X = if r.val / 16 = q.val / 64 then (rd3 (m (c, Proc.devRef .tc main_arg12)) ⟨r.val / 16, by omega⟩ ⟨r.val % 16, by omega⟩ ⟨q.val % 64, by omega⟩) else (0 : EReal) := ⟨_, rfl⟩
  rw [← hX]
  unfold V
  after_reads_at
  after_reads_at
  rw [hX]
  refine congrArg (fun x : EReal => -x) ?_
  refine Eq.trans ?_ (word_same r q _ _)
  refine congrArg (fun w => Scalar.select w _ _) ?_
  exact congrArg₂ (fun a b => IntOp.cmpi CmpIPredicate.eq a b) (word_group 16 (Or.inl rfl) r.val (by omega)) (word_group 64 (Or.inr rfl) q.val (by omega))

theorem bb_re (r : Fin 512) (q : Fin 2048) : V m c main_v122 (ix2 r ⟨0 + q.val, by omega⟩) = (if r.val / 16 = q.val / 64 then (rd3 (m (c, Proc.devRef .tc main_arg9)) ⟨r.val / 16, by omega⟩ ⟨q.val % 64, by omega⟩ ⟨r.val % 16, by omega⟩) else (0 : EReal) : EReal) := by
  obtain ⟨X, hX⟩ : ∃ X : EReal, X = if r.val / 16 = q.val / 64 then (rd3 (m (c, Proc.devRef .tc main_arg9)) ⟨r.val / 16, by omega⟩ ⟨q.val % 64, by omega⟩ ⟨r.val % 16, by omega⟩) else (0 : EReal) := ⟨_, rfl⟩
  rw [← hX]
  unfold V
  after_reads_at
  after_reads_at
  rw [hX]
  skip
  refine Eq.trans ?_ (word_same r q _ _)
  refine congrArg (fun w => Scalar.select w _ _) ?_
  exact congrArg₂ (fun a b => IntOp.cmpi CmpIPredicate.eq a b) (word_group 16 (Or.inl rfl) r.val (by omega)) (word_group 64 (Or.inr rfl) q.val (by omega))

theorem bb_im (r : Fin 512) (q : Fin 2048) : V m c main_v122 (ix2 r ⟨2048 + q.val, by omega⟩) = (if r.val / 16 = q.val / 64 then (rd3 (m (c, Proc.devRef .tc main_arg10)) ⟨r.val / 16, by omega⟩ ⟨q.val % 64, by omega⟩ ⟨r.val % 16, by omega⟩) else (0 : EReal) : EReal) := by
  obtain ⟨X, hX⟩ : ∃ X : EReal, X = if r.val / 16 = q.val / 64 then (rd3 (m (c, Proc.devRef .tc main_arg10)) ⟨r.val / 16, by omega⟩ ⟨q.val % 64, by omega⟩ ⟨r.val % 16, by omega⟩) else (0 : EReal) := ⟨_, rfl⟩
  rw [← hX]
  unfold V
  after_reads_at
  after_reads_at
  rw [hX]
  skip
  refine Eq.trans ?_ (word_same r q _ _)
  refine congrArg (fun w => Scalar.select w _ _) ?_
  exact congrArg₂ (fun a b => IntOp.cmpi CmpIPredicate.eq a b) (word_group 16 (Or.inl rfl) r.val (by omega)) (word_group 64 (Or.inr rfl) q.val (by omega))

end Cert.Proof.S5
-- ==== Proof.Entries.lean ====
/- The call's blocks as entries of the arguments, and what the call computes from them, token by token. -/
module

public import proofs.«01_k».proof.Proof.Host
public import Idealize.ShloMosaic.Lib.StableHlo.ReadAt
public import Idealize.ShloMosaic.Lib.Claim

@[expose] public section

set_option maxRecDepth 16384

noncomputable section

namespace Cert.Proof.S5

open Idealize.ShloMosaic Idealize.SL.Sem
open Cert.KernelIdeal Cert.KernelIdeal.Gen Idealize.ShloMosaic.TcCoe

variable (m : (ℓ : Loc nD τ sig) → Buf (Elt Ideal) ℓ) (c : Dev nD)

/-- An entry of a matrix by numbers; outside the matrix, zero. -/
def at2 {a b : ℕ} (x : Fin a → Fin b → EReal) (n q : ℕ) : EReal := if h : n < a ∧ q < b then x ⟨n, h.1⟩ ⟨q, h.2⟩ else 0

theorem at2_of {a b : ℕ} (x : Fin a → Fin b → EReal) (i : Fin a) (j : Fin b) (n q : ℕ) (hn : n = i.val) (hq : q = j.val) : at2 x n q = x i j := by
  subst hn hq
  unfold at2
  rw [dif_pos ⟨i.isLt, j.isLt⟩]

theorem at2_out {a b : ℕ} (x : Fin a → Fin b → EReal) (n q : ℕ) (h : a ≤ n) : at2 x n q = 0 := by
  unfold at2
  rw [dif_neg (by omega)]

/-- The projected tokens. -/
def Z (n q : ℕ) : EReal := at2 (fun i j => (m (c, Proc.devRef .tc main_arg0) : Vec Ideal S2048x2048 .f32) (ix2 i j)) n q
/-- The states the forward pass saved. -/
def HS (n q : ℕ) : EReal := at2 (fun i j => (m (c, Proc.devRef .tc main_arg1) : Vec Ideal S2048x4096 .bf16) (ix2 i j)) n q
/-- The cotangent of the convolution branch. -/
def YA (n q : ℕ) : EReal := at2 (fun i j => (m (c, Proc.devRef .tc main_arg2) : Vec Ideal S2048x512 .f32) (ix2 i j)) n q
/-- The cotangent of the state-space branch. -/
def YS (n q : ℕ) : EReal := at2 (fun i j => (m (c, Proc.devRef .tc main_arg3) : Vec Ideal S2048x512 .f32) (ix2 i j)) n q
/-- The convolution's weights. -/
def CW (n q : ℕ) : EReal := at2 (fun i j => (m (c, Proc.devRef .tc main_arg4) : Vec Ideal S3x512 .f32) (ix2 i j)) n q
/-- The convolution's bias. -/
def CB (q : Fin 512) : EReal := (m (c, Proc.devRef .tc main_arg5) : Vec Ideal S512 .f32) (ix1 q)
/-- The skip weights. -/
def DD (q : Fin 512) : EReal := (m (c, Proc.devRef .tc main_arg6) : Vec Ideal S32x16 .f32) (ix2 ⟨q.val / 16, by omega⟩ ⟨q.val % 16, by omega⟩)

theorem f0 : ∀ t : Fin cfg0.N, win0_0.index t = ![7 - t.val, 0] := by decide +kernel
theorem f1 : ∀ t : Fin cfg0.N, win0_1.index t = ![(7 - t.val) * 32 - 1, 0] := by decide +kernel
theorem f2 : ∀ t : Fin cfg0.N, win0_2.index t = ![7 - t.val, 0] := by decide +kernel
theorem f3 : ∀ t : Fin cfg0.N, win0_3.index t = ![(7 - t.val) * 16 - 1, 0] := by decide +kernel
theorem f4 : ∀ t : Fin cfg0.N, win0_4.index t = ![7 - t.val, 0] := by decide +kernel
theorem f5 : ∀ t : Fin cfg0.N, win0_5.index t = ![7 - t.val, 0] := by decide +kernel
theorem f6 : ∀ t : Fin cfg0.N, win0_6.index t = ![0, 0] := by decide +kernel
theorem f7 : ∀ t : Fin cfg0.N, win0_7.index t = ![0, 0] := by decide +kernel
theorem f8 : ∀ t : Fin cfg0.N, win0_8.index t = ![0, 0] := by decide +kernel
theorem f9 : ∀ t : Fin cfg0.N, win0_9.index t = ![0, 0] := by decide +kernel
theorem f10 : ∀ t : Fin cfg0.N, win0_10.index t = ![0, 0] := by decide +kernel

/-- The first token of a grid point's chunk. -/
def tok (t : Fin cfg0.N) (r : ℕ) : ℕ := 256 * (7 - t.val) + r

theorem keep0 : V m c main_arg0 = m (c, Proc.devRef .tc main_arg0) := by unfold V; after_reads_at
theorem keep1 : V m c main_arg1 = m (c, Proc.devRef .tc main_arg1) := by unfold V; after_reads_at
theorem keep2 : V m c main_arg2 = m (c, Proc.devRef .tc main_arg2) := by unfold V; after_reads_at
theorem keep3 : V m c main_arg3 = m (c, Proc.devRef .tc main_arg3) := by unfold V; after_reads_at
theorem keep4 : V m c main_arg4 = m (c, Proc.devRef .tc main_arg4) := by unfold V; after_reads_at

theorem blk0 (t : Fin cfg0.N) (r : Fin 256) (q : Fin 2048) : iblk m c 0 t (ix2 r q) = Z m c (tok t r.val) q.val := by
  have hN : t.val < 8 := lt_of_lt_of_eq t.isLt N_0
  refine Eq.trans ?_ (at2_of _ ⟨tok t r.val, by unfold tok; omega⟩ q _ _ rfl rfl).symm
  rw [← keep0 m c]
  show V m c main_arg0 _ = V m c main_arg0 _
  congr 1
  funext a; apply Fin.ext
  fin_cases a <;> blk_simp [f0] <;> simp [f0, tok] <;> omega

theorem blk1 (t : Fin cfg0.N) (ht : t.val ≠ 7) (s : Fin 8) (q : Fin 2048) : iblk m c 1 t (ix2 s q) = Z m c (tok t 0 - 8 + s.val) q.val := by
  have hN : t.val < 8 := lt_of_lt_of_eq t.isLt N_0
  refine Eq.trans ?_ (at2_of _ ⟨tok t 0 - 8 + s.val, by unfold tok; omega⟩ q _ _ rfl rfl).symm
  rw [← keep0 m c]
  show V m c main_arg0 _ = V m c main_arg0 _
  congr 1
  funext a; apply Fin.ext
  fin_cases a <;> blk_simp [f1] <;> simp [f1, tok] <;> omega

theorem blk3 (t : Fin cfg0.N) (ht : t.val ≠ 7) (q : Fin 4096) : iblk m c 3 t (ix2 (15 : Fin 16) q) = HS m c (tok t 0 - 1) q.val := by
  have hN : t.val < 8 := lt_of_lt_of_eq t.isLt N_0
  refine Eq.trans ?_ (at2_of _ ⟨tok t 0 - 1, by unfold tok; omega⟩ q _ _ rfl rfl).symm
  rw [← keep1 m c]
  show V m c main_arg1 _ = V m c main_arg1 _
  congr 1
  funext a; apply Fin.ext
  fin_cases a <;> blk_simp [f3] <;> simp [f3, tok] <;> omega

theorem blk2 (t : Fin cfg0.N) (r : Fin 256) (q : Fin 4096) : iblk m c 2 t (ix2 r q) = HS m c (tok t r.val) q.val := by
  have hN : t.val < 8 := lt_of_lt_of_eq t.isLt N_0
  refine Eq.trans ?_ (at2_of _ ⟨tok t r.val, by unfold tok; omega⟩ q _ _ rfl rfl).symm
  rw [← keep1 m c]
  show V m c main_arg1 _ = V m c main_arg1 _
  congr 1
  funext a; apply Fin.ext
  fin_cases a <;> blk_simp [f2] <;> simp [f2, tok] <;> omega

theorem blk4 (t : Fin cfg0.N) (r : Fin 256) (q : Fin 512) : iblk m c 4 t (ix2 r q) = YA m c (tok t r.val) q.val := by
  have hN : t.val < 8 := lt_of_lt_of_eq t.isLt N_0
  refine Eq.trans ?_ (at2_of _ ⟨tok t r.val, by unfold tok; omega⟩ q _ _ rfl rfl).symm
  rw [← keep2 m c]
  show V m c main_arg2 _ = V m c main_arg2 _
  congr 1
  funext a; apply Fin.ext
  fin_cases a <;> blk_simp [f4] <;> simp [f4, tok] <;> omega

theorem blk5 (t : Fin cfg0.N) (r : Fin 256) (q : Fin 512) : iblk m c 5 t (ix2 r q) = YS m c (tok t r.val) q.val := by
  have hN : t.val < 8 := lt_of_lt_of_eq t.isLt N_0
  refine Eq.trans ?_ (at2_of _ ⟨tok t r.val, by unfold tok; omega⟩ q _ _ rfl rfl).symm
  rw [← keep3 m c]
  show V m c main_arg3 _ = V m c main_arg3 _
  congr 1
  funext a; apply Fin.ext
  fin_cases a <;> blk_simp [f5] <;> simp [f5, tok] <;> omega

theorem blk6 (t : Fin cfg0.N) (r : Fin 3) (q : Fin 512) : iblk m c 6 t (ix2 r q) = CW m c r.val q.val := by
  refine Eq.trans ?_ (at2_of _ r q _ _ rfl rfl).symm
  rw [← keep4 m c]
  show V m c main_arg4 _ = V m c main_arg4 _
  congr 1
  funext a; apply Fin.ext
  fin_cases a <;> blk_simp [f6] <;> simp [f6]

theorem blk7 (t : Fin cfg0.N) (x : S1x512.Idx) : iblk m c 7 t x = V m c main_v146 x := by
  show V m c main_v146 _ = V m c main_v146 _
  congr 1
  funext a; apply Fin.ext
  fin_cases a <;> blk_simp [f7] <;> simp [f7]

theorem blk8 (t : Fin cfg0.N) (x : S512x4096.Idx) : iblk m c 8 t x = V m c main_v122 x := by
  show V m c main_v122 _ = V m c main_v122 _
  congr 1
  funext a; apply Fin.ext
  fin_cases a <;> blk_simp [f8] <;> simp [f8]

theorem blk9 (t : Fin cfg0.N) (x : S512x4096.Idx) : iblk m c 9 t x = V m c main_v145 x := by
  show V m c main_v145 _ = V m c main_v145 _
  congr 1
  funext a; apply Fin.ext
  fin_cases a <;> blk_simp [f9] <;> simp [f9]

theorem blk10 (t : Fin cfg0.N) (x : S1x512.Idx) : iblk m c 10 t x = V m c main_v147 x := by
  show V m c main_v147 _ = V m c main_v147 _
  congr 1
  funext a; apply Fin.ext
  fin_cases a <;> blk_simp [f10] <;> simp [f10]

theorem bias_at (q : Fin 512) : V m c main_v146 (ix2 0 q) = CB m c q := by
  obtain ⟨X, hX⟩ : ∃ X : EReal, X = CB m c q := ⟨_, rfl⟩
  refine Eq.trans ?_ hX
  unfold V
  after_reads_at
  rw [hX]
  unfold CB
  try clean_types
  try pointwise []

theorem skip_at (q : Fin 512) : V m c main_v147 (ix2 0 q) = DD m c q := by
  obtain ⟨X, hX⟩ : ∃ X : EReal, X = DD m c q := ⟨_, rfl⟩
  refine Eq.trans ?_ hX
  unfold V
  after_reads_at
  rw [hX]
  unfold DD
  try clean_types
  try pointwise []
theorem word_eq (k : ℕ) (hk : k < 256) (r : Fin 256) (x y : EReal) :
    Scalar.select (IntOp.cmpi CmpIPredicate.eq (BitVec.ofNat 32 r.val) (BitVec.ofNat 32 k)) x y = if r.val = k then x else y := by
  have : IntOp.cmpi CmpIPredicate.eq (BitVec.ofNat 32 r.val) (BitVec.ofNat 32 k) = if r.val = k then 1#1 else 0#1 := by
    revert r
    interval_cases k <;> decide +kernel
  rw [this]
  split <;> rfl

theorem fin_eq (t : Fin cfg0.N) (x y : EReal) : Scalar.select (fin t) x y = if t.val = 7 then x else y := by
  have : fin t = if t.val = 7 then 1#1 else 0#1 := by revert t; decide +kernel
  rw [this]
  split <;> rfl

theorem pay133_at (f : BitVec 1) (a b : Vec Ideal S256x512 .f32) (x y : Vec Ideal S8x512 .f32) (r : Fin 256) (q : Fin 512) :
    k0_pay133 f a b x y (ix2 r q) = Scalar.select (IntOp.cmpi CmpIPredicate.eq (BitVec.ofNat 32 r.val) 0#32) (Scalar.select f (0 : EReal) ((x (ix2 7 q) : EReal) * y (ix2 7 q)))
      ((a (ix2 ⟨(r.val + 256 - 1) % 256, Nat.mod_lt _ (by decide)⟩ q) : EReal) * b (ix2 ⟨(r.val + 256 - 1) % 256, Nat.mod_lt _ (by decide)⟩ q)) := by
  unfold k0_pay133 k0_pay132 k0_pay131
  pointwise []

theorem pay134_at (f : BitVec 1) (a b : Vec Ideal S256x512 .f32) (x y : Vec Ideal S8x512 .f32) (r : Fin 256) (q : Fin 512) :
    k0_pay134 f a b x y (ix2 r q) = Scalar.select (IntOp.cmpi CmpIPredicate.eq (BitVec.ofNat 32 r.val) 0#32) (Scalar.select f (0 : EReal) ((x (ix2 6 q) : EReal) * y (ix2 6 q)))
      (Scalar.select (IntOp.cmpi CmpIPredicate.eq (BitVec.ofNat 32 r.val) 1#32) (Scalar.select f (0 : EReal) ((x (ix2 7 q) : EReal) * y (ix2 7 q)))
      ((a (ix2 ⟨(r.val + 256 - 2) % 256, Nat.mod_lt _ (by decide)⟩ q) : EReal) * b (ix2 ⟨(r.val + 256 - 2) % 256, Nat.mod_lt _ (by decide)⟩ q))) := by
  unfold k0_pay134 k0_pay132 k0_pay131
  pointwise []

theorem pay138_at (z : Vec Ideal S256x512 .f32) (w0 w1 w2 : Vec Ideal S1x512 .f32) (d : Vec Ideal S256x512 .f32) (h : Vec Ideal S8x512 .f32) (r : Fin 256) (q : Fin 512) :
    k0_pay138 z w0 w1 w2 d h (ix2 r q) = ((w2 (ix2 0 q) : EReal) * k0_pay136 z d (ix2 r q)
      + w1 (ix2 0 q) * Scalar.select (IntOp.cmpi CmpIPredicate.eq (BitVec.ofNat 32 r.val) 255#32) (h (ix2 0 q)) (k0_pay136 z d (ix2 ⟨(r.val + 256 - 255) % 256, Nat.mod_lt _ (by decide)⟩ q)))
      + w0 (ix2 0 q) * Scalar.select (IntOp.cmpi CmpIPredicate.eq (BitVec.ofNat 32 r.val) 255#32) (h (ix2 1 q))
        (Scalar.select (IntOp.cmpi CmpIPredicate.eq (BitVec.ofNat 32 r.val) 254#32) (h (ix2 0 q)) (k0_pay136 z d (ix2 ⟨(r.val + 256 - 254) % 256, Nat.mod_lt _ (by decide)⟩ q))) := by
  unfold k0_pay138 k0_pay136
  pointwise []

end Cert.Proof.S5
-- ==== Proof.Tokens.lean ====
/- What the call computes at each token. -/
module

public import proofs.«01_k».proof.Proof.Entries
public import Idealize.ShloMosaic.Lib.StableHlo.ReadAt
public import Idealize.ShloMosaic.Lib.Claim

@[expose] public section

set_option maxRecDepth 16384

noncomputable section

namespace Cert.Proof.S5

open Idealize.ShloMosaic Idealize.SL.Sem
open Cert.KernelIdeal Cert.KernelIdeal.Gen Idealize.ShloMosaic.TcCoe

variable (m : (ℓ : Loc nD τ sig) → Buf (Elt Ideal) ℓ) (c : Dev nD)

/-- A sum whose terms vanish outside one group of `W` entries is the group's sum. -/
theorem collapse (B W o g : ℕ) (hW : 0 < W) (h1 : o ≤ W * g) (h2 : W * g + W ≤ o + B) (F : Fin B → EReal) (hF : ∀ k : Fin B, (o + k.val) / W ≠ g → F k = 0) :
    ∑ k : Fin B, F k = ∑ i : Fin W, F ⟨W * g + i.val - o, by omega⟩ := by
  symm
  refine Finset.sum_of_injOn (fun i : Fin W => (⟨W * g + i.val - o, by omega⟩ : Fin B)) ?_ (fun _ _ => by simp) ?_ fun _ _ => rfl
  · intro i _ j _ hij
    have := congrArg Fin.val hij
    dsimp only at this
    exact Fin.ext (by omega)
  · intro k _ hk
    refine hF k fun hg => hk ?_
    have hlo : W * g ≤ o + k.val := by rw [← hg]; exact Nat.mul_div_le _ _
    have hhi : o + k.val < W * g + W := by rw [← hg]; have := Nat.lt_mul_div_succ (o + k.val) hW; rwa [Nat.mul_succ] at this
    exact ⟨⟨o + k.val - W * g, by omega⟩, Finset.mem_coe.mpr (Finset.mem_univ _), Fin.ext (by dsimp only; omega)⟩

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The arguments the states' gradient reads are real numbers. -/
structure Real4 (lr li : Fin 2048 → ℝ) (yr : ℕ → ℕ → ℝ) (cr ci : Fin 32 → Fin 16 → Fin 64 → ℝ) : Prop where
  lam : Lam m c lr li
  ys : ∀ n q : ℕ, YS m c n q = (yr n q : EReal)
  re : ∀ i j k, rd3 (m (c, Proc.devRef .tc main_arg11)) i j k = (cr i j k : EReal)
  im : ∀ i j k, rd3 (m (c, Proc.devRef .tc main_arg12)) i j k = (ci i j k : EReal)

/-- What token `2047 - n` drives a lane of the backward recursion with. -/
def drive (yr : ℕ → ℕ → ℝ) (cr : Fin 32 → Fin 16 → Fin 64 → ℝ) (n : ℕ) (q : Fin 2048) : ℝ :=
  ∑ i : Fin 16, yr (2047 - n) (16 * (q.val / 64) + i.val) * cr ⟨q.val / 64, by omega⟩ i ⟨q.val % 64, by omega⟩

section
variable {lr li : Fin 2048 → ℝ} {yr : ℕ → ℕ → ℝ} {cr ci : Fin 32 → Fin 16 → Fin 64 → ℝ} (h : Real4 m c lr li yr cr ci)
include h

theorem drives_ok (t : Fin cfg0.N) : DrivesOK (drive yr cr) (drive yr fun i j k => -ci i j k) (iblk m c 5 t) (iblk m c 9 t) (256 * t.val) := by
  have hN : t.val < 8 := lt_of_lt_of_eq t.isLt N_0
  intro r q
  have et : 2047 - (256 * t.val + (255 - r.val)) = tok t r.val := by unfold tok; omega
  constructor
  · rw [L0_at]
    unfold drive
    rw [et, coe_sum']
    refine (collapse 256 16 (256 * ((0 + q.val) % 2048 / 1024)) (q.val / 64) (by decide) (by omega) (by omega) _ fun k hk => ?_).trans ?_
    · rw [blk9, cc_re, if_neg hk, mul_zero]
    · refine @Finset.sum_congr _ EReal _ _ _ _ _ rfl fun i _ => ?_
      rw [blk9, cc_re, if_pos (by dsimp only; omega), blk5, h.ys, h.re, ← EReal.coe_mul]
      congr 2
      · congr 1; dsimp only; omega
      · congr 1
        · exact Fin.ext (by dsimp only; omega)
        · exact Fin.ext (by dsimp only; omega)
  · rw [L0_at]
    unfold drive
    rw [et, coe_sum']
    refine (collapse 256 16 (256 * ((2048 + q.val) % 2048 / 1024)) (q.val / 64) (by decide) (by omega) (by omega) _ fun k hk => ?_).trans ?_
    · rw [blk9, cc_im, if_neg hk]
      show _ * (-(0 : EReal)) = _
      rw [neg_zero, mul_zero]
    · refine @Finset.sum_congr _ EReal _ _ _ _ _ rfl fun i _ => ?_
      rw [blk9, cc_im, if_pos (by dsimp only; omega), blk5, h.ys, h.im, ← EReal.coe_neg, ← EReal.coe_mul]
      congr 2
      · congr 1; dsimp only; omega
      · congr 2
        · exact Fin.ext (by dsimp only; omega)
        · exact Fin.ext (by dsimp only; omega)

theorem reads : Reads m c lr li (drive yr cr) (drive yr fun i j k => -ci i j k) :=
  ⟨fun t => lt_spec m c h.lam t, drives_ok m c h⟩
end
/-- The convolution's input. -/
def vv (n q : ℕ) : EReal := Z m c n (512 + q) * Z m c n (1024 + q)
/-- The same, `k` tokens earlier, zero before the first. -/
def sh (k n q : ℕ) : EReal := if n < k then 0 else vv m c (n - k) q
/-- The cotangent of the convolution's result. -/
def dyc (n q : ℕ) : EReal := YA m c n q * Z m c n q

theorem dyc_out (n q : ℕ) (h : 2048 ≤ n) : dyc m c n q = 0 := by
  unfold dyc YA
  rw [at2_out _ _ _ h, zero_mul]

theorem ldz (t : Fin cfg0.N) (o : ℕ) (ho : o + 512 ≤ 2048) (inb) (r : Fin 256) (q : Fin 512) :
    View.ld (iblk m c 0 t) (Rect.unit (s := S256x2048) ![0, o] S256x512.size inb) (ix2 r q) = Z m c (tok t r.val) (o + q.val) := by
  refine (View.ld_unit_apply_of _ _ _ _ (ix2 r q) (ix2 r ⟨o + q.val, by omega⟩) ?_).trans (blk0 m c t _ _)
  intro a
  fin_cases a <;> simp

theorem ldp (t : Fin cfg0.N) (ht : t.val ≠ 7) (o : ℕ) (ho : o + 512 ≤ 2048) (inb) (s : Fin 8) (q : Fin 512) :
    View.ld (iblk m c 1 t) (Rect.unit (s := S8x2048) ![0, o] S8x512.size inb) (ix2 s q) = Z m c (tok t 0 - 8 + s.val) (o + q.val) := by
  refine (View.ld_unit_apply_of _ _ _ _ (ix2 s q) (ix2 s ⟨o + q.val, by omega⟩) ?_).trans (blk1 m c t ht _ _)
  intro a
  fin_cases a <;> simp

theorem ldw (t : Fin cfg0.N) (k : ℕ) (hk : k < 3) (inb) (q : Fin 512) :
    View.ld (iblk m c 6 t) (Rect.unit (s := S3x512) ![k, 0] S1x512.size inb) (ix2 (0 : Fin 1) q) = CW m c k q.val := by
  refine Eq.trans ?_ (blk6 m c t ⟨k, hk⟩ q)
  generalize iblk m c 6 t = X
  refine View.ld_unit_apply_of (S := S3x512) (e := .f32) X _ _ _ _ (ix2 ⟨k, hk⟩ q) ?_
  intro a
  fin_cases a
  · show k = k + 0; rfl
  · show q.val = 0 + q.val; omega

theorem pay136_at (z d : Vec Ideal S256x512 .f32) (r : Fin 256) (q : Fin 512) : k0_pay136 z d (ix2 r q) = (d (ix2 r q) : EReal) * z (ix2 r q) := rfl
theorem pay131_at (z d : Vec Ideal S256x512 .f32) (r : Fin 256) (q : Fin 512) : k0_pay131 z d (ix2 r q) = (z (ix2 r q) : EReal) * d (ix2 r q) := rfl

theorem DYC_at (t : Fin cfg0.N) (r : Fin 256) (q : Fin 512) : DYC m c t (ix2 r q) = dyc m c (tok t r.val) q.val := by
  unfold DYC
  rw [pay136_at, blk4, ldz m c t 0 (by decide), Nat.zero_add]
  rfl

theorem V0_at (t : Fin cfg0.N) (r : Fin 256) (q : Fin 512) : V0 m c t (ix2 r q) = vv m c (tok t r.val) q.val := by
  unfold V0
  rw [pay131_at, ldz m c t 512 (by decide), ldz m c t 1024 (by decide)]
  rfl

theorem V1_at (t : Fin cfg0.N) (r : Fin 256) (q : Fin 512) : V1 m c t (ix2 r q) = sh m c 1 (tok t r.val) q.val := by
  have hN : t.val < 8 := lt_of_lt_of_eq t.isLt N_0
  unfold V1
  rw [pay133_at, word_eq 0 (by decide), fin_eq]
  unfold sh tok
  by_cases hr : r.val = 0
  · rw [if_pos hr]
    by_cases ht : t.val = 7
    · rw [if_pos ht, if_pos (by omega)]
    · rw [if_neg ht, if_neg (by omega), ldp m c t ht 512 (by decide), ldp m c t ht 1024 (by decide)]
      unfold vv tok
      congr 2 <;> (show _ - 8 + 7 = _; omega)
  · rw [if_neg hr, if_neg (by omega), ldz m c t 512 (by decide), ldz m c t 1024 (by decide)]
    unfold vv tok
    congr 2 <;> (dsimp only; omega)

theorem V2_at (t : Fin cfg0.N) (r : Fin 256) (q : Fin 512) : V2 m c t (ix2 r q) = sh m c 2 (tok t r.val) q.val := by
  have hN : t.val < 8 := lt_of_lt_of_eq t.isLt N_0
  unfold V2
  rw [pay134_at, word_eq 0 (by decide), word_eq 1 (by decide), fin_eq, fin_eq]
  unfold sh tok
  by_cases hr : r.val = 0
  · rw [if_pos hr]
    by_cases ht : t.val = 7
    · rw [if_pos ht, if_pos (by omega)]
    · rw [if_neg ht, if_neg (by omega), ldp m c t ht 512 (by decide), ldp m c t ht 1024 (by decide)]
      unfold vv tok
      congr 2 <;> (show _ - 8 + 6 = _; omega)
  · rw [if_neg hr]
    by_cases hr1 : r.val = 1
    · rw [if_pos hr1]
      by_cases ht : t.val = 7
      · rw [if_pos ht, if_pos (by omega)]
      · rw [if_neg ht, if_neg (by omega), ldp m c t ht 512 (by decide), ldp m c t ht 1024 (by decide)]
        unfold vv tok
        congr 2 <;> (show _ - 8 + 7 = _; omega)
    · rw [if_neg hr1, if_neg (by omega), ldz m c t 512 (by decide), ldz m c t 1024 (by decide)]
      unfold vv tok
      congr 2 <;> (dsimp only; omega)

/-- The previous states. -/
def hp (n p : ℕ) : EReal := if n = 0 then 0 else HS m c (n - 1) p

theorem HH_at (t : Fin cfg0.N) (r : Fin 256) (p : Fin 4096) : HH m c t (ix2 r p) = hp m c (tok t r.val) p.val := by
  have hN : t.val < 8 := lt_of_lt_of_eq t.isLt N_0
  unfold HH
  rw [pay123_at, word_eq 0 (by decide), fin_eq]
  unfold hp
  by_cases hr : r.val = 0
  · rw [if_pos hr]
    by_cases ht : t.val = 7
    · rw [if_pos ht, if_pos (by unfold tok; omega)]
    · rw [if_neg ht, if_neg (by unfold tok; omega), blk3 m c t ht]
      congr 1
      unfold tok; omega
  · rw [if_neg hr, if_neg (by unfold tok; omega)]
    show (iblk m c 2 t (ix2 _ p) : EReal) = _
    rw [blk2]
    congr 1
    unfold tok; dsimp only; omega

theorem outH (t : Fin cfg0.N) : (outsAt0 m c t.val t.isLt).2.2.2.2.2.2.2 = k0_pay137 (View.ld (iblk m c 0 t) (Rect.unit (s := S256x2048) ![0, 0] S256x512.size inb_S256x2048_S256x512_0_0)) (iblk m c 4 t) := by
  by_cases h0 : t.val % 8 = 0
  · exact outH_A m c t h0 (by omega)
  · by_cases h1 : t.val % 8 = 7
    · exact outH_C m c t h0 h1
    · exact outH_B m c t h0 h1

theorem prevH_at (t : Fin cfg0.N) (s : Fin 8) (q : Fin 512) : prevH m c t (ix2 s q) = dyc m c (tok t 256 + s.val) q.val := by
  have hN : t.val < 8 := lt_of_lt_of_eq t.isLt N_0
  unfold prevH
  by_cases h0 : t.val % 8 = 0
  · rw [if_pos h0, dyc_out _ _ _ _ (by unfold tok; omega)]
    unfold k0_pay52
    pointwise []
  · rw [if_neg h0]
    have e := outH m c (⟨t.val - 1, Nat.lt_of_le_of_lt (Nat.sub_le _ _) t.isLt⟩ : Fin cfg0.N)
    refine (congrFun e (ix2 s q)).trans ?_
    have e2 : k0_pay137 (View.ld (iblk m c 0 (⟨t.val - 1, Nat.lt_of_le_of_lt (Nat.sub_le _ _) t.isLt⟩ : Fin cfg0.N)) (Rect.unit (s := S256x2048) ![0, 0] S256x512.size inb_S256x2048_S256x512_0_0)) (iblk m c 4 (⟨t.val - 1, Nat.lt_of_le_of_lt (Nat.sub_le _ _) t.isLt⟩ : Fin cfg0.N)) (ix2 s q)
        = DYC m c (⟨t.val - 1, Nat.lt_of_le_of_lt (Nat.sub_le _ _) t.isLt⟩ : Fin cfg0.N) (ix2 ⟨s.val, by omega⟩ q) := by
      unfold k0_pay137 DYC
      pointwise []
    rw [e2, DYC_at]
    congr 1
    unfold tok; dsimp only; omega

/-- The cotangent of the convolution's input. -/
def dvv (n q : ℕ) : EReal := (CW m c 2 q * dyc m c n q + CW m c 1 q * dyc m c (n + 1) q) + CW m c 0 q * dyc m c (n + 2) q

/-- The product the convolution's gradient is read from, at a point. -/
abbrev DV (t : Fin cfg0.N) : Vec Ideal S256x512 .f32 := k0_pay138 (View.ld (iblk m c 0 t) (Rect.unit (s := S256x2048) ![0, 0] S256x512.size inb_S256x2048_S256x512_0_0)) (View.ld (iblk m c 6 t) (Rect.unit (s := S3x512) ![0, 0] S1x512.size inb_S3x512_S1x512_0_0)) (View.ld (iblk m c 6 t) (Rect.unit (s := S3x512) ![1, 0] S1x512.size inb_S3x512_S1x512_1_0)) (View.ld (iblk m c 6 t) (Rect.unit (s := S3x512) ![2, 0] S1x512.size inb_S3x512_S1x512_2_0)) (iblk m c 4 t) (prevH m c t)

theorem DV_at (t : Fin cfg0.N) (r : Fin 256) (q : Fin 512) : DV m c t (ix2 r q) = dvv m c (tok t r.val) q.val := by
  have hN : t.val < 8 := lt_of_lt_of_eq t.isLt N_0
  have hd : ∀ x : Fin 256, k0_pay136 (View.ld (iblk m c 0 t) (Rect.unit (s := S256x2048) ![0, 0] S256x512.size inb_S256x2048_S256x512_0_0)) (iblk m c 4 t) (ix2 x q) = dyc m c (tok t x.val) q.val := fun x => DYC_at m c t x q
  unfold DV
  rw [pay138_at, word_eq 255 (by decide), word_eq 255 (by decide), word_eq 254 (by decide), ldw m c t 0 (by decide), ldw m c t 1 (by decide), ldw m c t 2 (by decide),
    hd, hd, hd, prevH_at, prevH_at]
  unfold dvv
  refine congrArg₂ (fun a b : EReal => a + b) (congrArg₂ (fun a b : EReal => a + b) rfl (congrArg (fun a : EReal => CW m c 1 q.val * a) ?_)) (congrArg (fun a : EReal => CW m c 0 q.val * a) ?_)
  · by_cases hr : r.val = 255
    · rw [if_pos hr]; congr 1; unfold tok; show _ + 0 = _; omega
    · rw [if_neg hr]; congr 1; unfold tok; dsimp only; omega
  · by_cases hr : r.val = 255
    · rw [if_pos hr]; congr 1; unfold tok; show _ + 1 = _; omega
    · rw [if_neg hr]
      by_cases hr1 : r.val = 254
      · rw [if_pos hr1]; congr 1; unfold tok; show _ + 0 = _; omega
      · rw [if_neg hr1]; congr 1; unfold tok; dsimp only; omega

end Cert.Proof.S5
-- ==== Proof.Arrays.lean ====
/- The call's six results, entry by entry. -/
module

public import proofs.«01_k».proof.Proof.Tokens
public import Idealize.ShloMosaic.Lib.StableHlo.ReadAt
public import Idealize.ShloMosaic.Lib.Claim

@[expose] public section

set_option maxRecDepth 16384

noncomputable section

namespace Cert.Proof.S5

open Idealize.ShloMosaic Idealize.SL.Sem
open Cert.KernelIdeal Cert.KernelIdeal.Gen Idealize.ShloMosaic.TcCoe

variable (m : (ℓ : Loc nD τ sig) → Buf (Elt Ideal) ℓ) (c : Dev nD)

theorem sum_blocks (B : ℕ) (f : ℕ → EReal) : ∀ A : ℕ, ∑ k ∈ Finset.range A, ∑ x : Fin B, f (B * k + x.val) = ∑ y : Fin (B * A), f y.val := by
  intro A
  induction A with
  | zero => rfl
  | succ A ih =>
    rw [Finset.sum_range_succ, ih, Fin.sum_univ_eq_sum_range f (B * A), Fin.sum_univ_eq_sum_range (fun x => f (B * A + x)) B, Fin.sum_univ_eq_sum_range f (B * (A + 1)), Nat.mul_succ, Finset.sum_range_add]

/-- Chunks counted from the last token on, added up, are all the tokens. -/
theorem sum_chunks (B A : ℕ) (f : ℕ → EReal) : ∑ k ∈ Finset.range A, ∑ x : Fin B, f (B * (A - 1 - k) + x.val) = ∑ y : Fin (B * A), f y.val := by
  rw [← sum_blocks B f A]
  exact Finset.sum_range_reflect (fun k => ∑ x : Fin B, f (B * k + x.val)) A

section
variable (lr li : Fin 2048 → ℝ) (xr xi : ℕ → Fin 2048 → ℝ)

/-- The states' gradient at a token. -/
def GG (n : ℕ) (p : Fin 4096) : EReal := (gval lr li xr xi p (2048 - n) : EReal)

/-- A token's part of the eigenvalues' gradient. -/
def LT (n : ℕ) (p : Fin 4096) : EReal :=
  if h : p.val < 2048 then
    GG lr li xr xi n p * hp m c n p.val + GG lr li xr xi n ⟨2048 + p.val, by omega⟩ * hp m c n (2048 + p.val)
  else
    GG lr li xr xi n p * hp m c n (p.val - 2048) - GG lr li xr xi n ⟨p.val - 2048, by omega⟩ * hp m c n p.val

/-- A token's part of the rows of small gradients. -/
def WT (s n q : ℕ) : EReal :=
  if s = 0 then dyc m c n q * sh m c 2 n q
  else if s = 1 then dyc m c n q * sh m c 1 n q
  else if s = 2 then dyc m c n q * vv m c n q
  else if s = 3 then dyc m c n q
  else if s = 4 then YS m c n q * Z m c n (1536 + q)
  else 0

/-- The cotangent of the state-space branch's input. -/
def dus (n : ℕ) (j : Fin 512) : EReal :=
  DD m c j * YS m c n j.val
    + (∑ i : Fin 64, GG lr li xr xi n ⟨64 * (j.val / 16) + i.val, by omega⟩ * rd3 (m (c, Proc.devRef .tc main_arg9)) ⟨j.val / 16, by omega⟩ i ⟨j.val % 16, by omega⟩
      + ∑ i : Fin 64, GG lr li xr xi n ⟨2048 + (64 * (j.val / 16) + i.val), by omega⟩ * rd3 (m (c, Proc.devRef .tc main_arg10)) ⟨j.val / 16, by omega⟩ i ⟨j.val % 16, by omega⟩)

/-- The cotangent of the projected tokens. -/
def dz (n : ℕ) (q : Fin 2048) : EReal :=
  if q.val < 512 then YA m c n q.val * (((CW m c 0 q.val * sh m c 2 n q.val + CW m c 1 q.val * sh m c 1 n q.val) + CW m c 2 q.val * vv m c n q.val) + CB m c ⟨q.val % 512, Nat.mod_lt _ (by decide)⟩)
  else if q.val < 1024 then dvv m c n (q.val - 512) * Z m c n (1024 + (q.val - 512))
  else if q.val < 1536 then dvv m c n (q.val - 1024) * Z m c n (512 + (q.val - 1024))
  else dus m c lr li xr xi n ⟨q.val % 512, Nat.mod_lt _ (by decide)⟩

end

section
variable {m} {c} {lr li : Fin 2048 → ℝ} {xr xi : ℕ → Fin 2048 → ℝ} (H : Reads m c lr li xr xi)
include H

theorem VV_at (t : Fin cfg0.N) (r : Fin 256) (p : Fin 4096) : VV m c t (ix2 r p) = GG lr li xr xi (tok t r.val) p := by
  have hN : t.val < 8 := lt_of_lt_of_eq t.isLt N_0
  rw [VV_eq H, VG_at]
  unfold GG tok
  congr 2
  omega

theorem incL_at (t : Fin cfg0.N) (s : Fin 8) (p : Fin 4096) : incL (VV m c t) (HH m c t) s p = ∑ x : Fin 32, LT m c lr li xr xi (8 * (32 * (7 - t.val) + x.val) + s.val) p := by
  have hN : t.val < 8 := lt_of_lt_of_eq t.isLt N_0
  have e : ∀ x : Fin 32, tok t (x.val * 8 + s.val) = 8 * (32 * (7 - t.val) + x.val) + s.val := fun x => by unfold tok; omega
  unfold incL LT
  by_cases h : p.val < 2048
  · rw [dif_pos h]
    refine @Finset.sum_congr _ EReal _ _ _ _ _ rfl fun x _ => ?_
    rw [dif_pos h, VV_at H, VV_at H, HH_at, HH_at]
    dsimp only
    rw [e]
  · rw [dif_neg h]
    refine @Finset.sum_congr _ EReal _ _ _ _ _ rfl fun x _ => ?_
    rw [dif_neg h, VV_at H, VV_at H, HH_at, HH_at]
    dsimp only
    rw [e]

theorem sumL_at (s : Fin 8) (p : Fin 4096) : sumL m c 8 s p = ∑ y : Fin 256, LT m c lr li xr xi (8 * y.val + s.val) p := by
  unfold sumL
  refine Eq.trans (@Finset.sum_congr _ EReal _ _ _ _ _ rfl fun k hk => ?_) (sum_chunks 32 8 fun y => LT m c lr li xr xi (8 * y + s.val) p)
  have hk8 := Finset.mem_range.mp hk
  rw [incL_at H]
  rw [show (pt k).val = k from Nat.mod_eq_of_lt hk8]

omit H in
theorem incW_at (t : Fin cfg0.N) (s : Fin 8) (q : Fin 512) : incW m c t s.val q = ∑ x : Fin 256, WT m c s.val (256 * (7 - t.val) + x.val) q.val := by
  unfold incW WT colsum
  by_cases h0 : s.val = 0
  · simp only [if_pos h0]
    refine @Finset.sum_congr _ EReal _ _ _ _ _ rfl fun x _ => ?_
    rw [DYC_at, V2_at]; rfl
  by_cases h1 : s.val = 1
  · simp only [if_neg h0, if_pos h1]
    refine @Finset.sum_congr _ EReal _ _ _ _ _ rfl fun x _ => ?_
    rw [DYC_at, V1_at]; rfl
  by_cases h2 : s.val = 2
  · simp only [if_neg h0, if_neg h1, if_pos h2]
    refine @Finset.sum_congr _ EReal _ _ _ _ _ rfl fun x _ => ?_
    rw [DYC_at, V0_at]; rfl
  by_cases h3 : s.val = 3
  · simp only [if_neg h0, if_neg h1, if_neg h2, if_pos h3]
    refine @Finset.sum_congr _ EReal _ _ _ _ _ rfl fun x _ => ?_
    rw [DYC_at]; rfl
  by_cases h4 : s.val = 4
  · simp only [if_neg h0, if_neg h1, if_neg h2, if_neg h3, if_pos h4]
    refine @Finset.sum_congr _ EReal _ _ _ _ _ rfl fun x _ => ?_
    rw [blk5, ldz m c t 1536 (by decide)]; rfl
  · simp only [if_neg h0, if_neg h1, if_neg h2, if_neg h3, if_neg h4]
    exact Finset.sum_const_zero.symm

omit H in
theorem sumW_at (s : Fin 8) (q : Fin 512) : sumW m c 8 s q = ∑ y : Fin 2048, WT m c s.val y.val q.val := by
  unfold sumW
  refine Eq.trans (@Finset.sum_congr _ EReal _ _ _ _ _ rfl fun k hk => ?_) (sum_chunks 256 8 fun y => WT m c s.val y q.val)
  have hk8 := Finset.mem_range.mp hk
  rw [incW_at]
  rw [show (pt k).val = k from Nat.mod_eq_of_lt hk8]
omit H in
theorem f12 : ∀ t : Fin cfg0.N, win0_12.index t = ![7 - t.val, 0] := by decide +kernel
omit H in
theorem f13 : ∀ t : Fin cfg0.N, win0_13.index t = ![0, 7 - t.val, 0] := by decide +kernel
omit H in
theorem f14 : ∀ t : Fin cfg0.N, win0_14.index t = ![0, 7 - t.val, 0] := by decide +kernel
omit H in
theorem f15 : ∀ t : Fin cfg0.N, win0_15.index t = ![0, 7 - t.val, 0] := by decide +kernel

omit H in
theorem out12 (t : Fin cfg0.N) : (outsAt0 m c t.val t.isLt).1 = DZ m c t (VV m c t) (prevH m c t) := by
  by_cases h0 : t.val % 8 = 0
  · exact out12_A m c t h0 (by omega)
  · by_cases h1 : t.val % 8 = 7
    · exact out12_C m c t h0 h1
    · exact out12_B m c t h0 h1

omit H in
theorem out13 (t : Fin cfg0.N) : (outsAt0 m c t.val t.isLt).2.1 = k0_pay120 (VV m c t) := by
  by_cases h0 : t.val % 8 = 0
  · exact out13_A m c t h0 (by omega)
  · by_cases h1 : t.val % 8 = 7
    · exact out13_C m c t h0 h1
    · exact out13_B m c t h0 h1

omit H in
theorem out14 (t : Fin cfg0.N) : (outsAt0 m c t.val t.isLt).2.2.1 = k0_pay56 (View.ld (iblk m c 0 t) (Rect.unit (s := S256x2048) ![0, 1536] S256x512.size inb_S256x2048_S256x512_0_1536)) := by
  by_cases h0 : t.val % 8 = 0
  · exact out14_A m c t h0 (by omega)
  · by_cases h1 : t.val % 8 = 7
    · exact out14_C m c t h0 h1
    · exact out14_B m c t h0 h1

omit H in
theorem out15 (t : Fin cfg0.N) : (outsAt0 m c t.val t.isLt).2.2.2.1 = k0_pay57 (iblk m c 5 t) := by
  by_cases h0 : t.val % 8 = 0
  · exact out15_A m c t h0 (by omega)
  · by_cases h1 : t.val % 8 = 7
    · exact out15_C m c t h0 h1
    · exact out15_B m c t h0 h1

omit H in
theorem pay120_at (V : Vec Ideal S256x4096 .f32) (r : Fin 256) (p : Fin 4096) : k0_pay120 V (ix3 0 r p) = (V (ix2 r p) : EReal) := by
  unfold k0_pay120 k0_pay119
  pointwise []
omit H in
theorem pay56_at (V : Vec Ideal S256x512 .f32) (r : Fin 256) (p : Fin 512) : k0_pay56 V (ix3 0 r p) = (V (ix2 r p) : EReal) := by
  unfold k0_pay56
  pointwise []
omit H in
theorem pay57_at (V : Vec Ideal S256x512 .f32) (r : Fin 256) (p : Fin 512) : k0_pay57 V (ix3 0 r p) = (V (ix2 r p) : EReal) := by
  unfold k0_pay57 k0_pay55
  pointwise []

omit H in
theorem pay121_lo (dy : Vec Ideal S256x512 .f32) (V : Vec Ideal S256x4096 .f32) (w : Vec Ideal S1x512 .f32) (a b x y : Vec Ideal S256x1024 .bf16) (r : Fin 256) (j : Fin 256) :
    k0_pay121 dy V w a b x y (ix2 r ⟨0 + j.val, by omega⟩) = (w (ix2 0 ⟨0 + j.val, by omega⟩) : EReal) * dy (ix2 r ⟨0 + j.val, by omega⟩)
      + ((∑ k : Fin 1024, (V (ix2 r ⟨k.val, by omega⟩) : EReal) * a (ix2 j k)) + ∑ k : Fin 1024, (V (ix2 r ⟨2048 + k.val, by omega⟩) : EReal) * b (ix2 j k)) := by
  unfold k0_pay121 k0_pay119
  pointwise []
omit H in
theorem pay121_hi (dy : Vec Ideal S256x512 .f32) (V : Vec Ideal S256x4096 .f32) (w : Vec Ideal S1x512 .f32) (a b x y : Vec Ideal S256x1024 .bf16) (r : Fin 256) (j : Fin 256) :
    k0_pay121 dy V w a b x y (ix2 r ⟨256 + j.val, by omega⟩) = (w (ix2 0 ⟨256 + j.val, by omega⟩) : EReal) * dy (ix2 r ⟨256 + j.val, by omega⟩)
      + ((∑ k : Fin 1024, (V (ix2 r ⟨1024 + k.val, by omega⟩) : EReal) * x (ix2 j k)) + ∑ k : Fin 1024, (V (ix2 r ⟨3072 + k.val, by omega⟩) : EReal) * y (ix2 j k)) := by
  unfold k0_pay121 k0_pay119
  pointwise []

theorem arr13 : (dats m 0 c).arrAt 13 cfg0.N = fun y : S1x2048x4096.Idx => GG lr li xr xi (y 1).val (y 2) := by
  refine (dats m 0 c).arrAt_eq_of_covers 13 _ (by decide +kernel) fun t hf y => ?_
  blk_simp
  rw [after0_13, out13]
  idx_vars y
  obtain rfl : y0 = 0 := Subsingleton.elim _ _
  refine (pay120_at _ _ _).trans ((VV_at H t _ _).trans ?_)
  refine congrArg₂ (GG lr li xr xi) (by blk_simp [f13]; simp [f13, tok]; try omega) (Fin.ext (by blk_simp [f13]))

omit H in
theorem arr14 : (dats m 0 c).arrAt 14 cfg0.N = fun y : S1x2048x512.Idx => Z m c (y 1).val (1536 + (y 2).val) := by
  refine (dats m 0 c).arrAt_eq_of_covers 14 _ (by decide +kernel) fun t hf y => ?_
  blk_simp
  rw [after0_14, out14]
  idx_vars y
  obtain rfl : y0 = 0 := Subsingleton.elim _ _
  refine (pay56_at _ _ _).trans ((ldz m c t 1536 (by decide) _ _ _).trans ?_)
  refine congrArg₂ (Z m c) (by blk_simp [f14]; simp [f14, tok]; try omega) (congrArg (1536 + ·) (by blk_simp [f14]))

omit H in
theorem arr15 : (dats m 0 c).arrAt 15 cfg0.N = fun y : S1x2048x512.Idx => YS m c (y 1).val (y 2).val := by
  refine (dats m 0 c).arrAt_eq_of_covers 15 _ (by decide +kernel) fun t hf y => ?_
  blk_simp
  rw [after0_15, out15]
  idx_vars y
  obtain rfl : y0 = 0 := Subsingleton.elim _ _
  refine (pay57_at _ _ _).trans ((blk5 m c t _ _).trans ?_)
  refine congrArg₂ (YS m c) (by blk_simp [f15]; simp [f15, tok]; try omega) (by blk_simp [f15])

/-- The last grid point. -/
abbrev t7 : Fin cfg0.N := ⟨7, lt_of_lt_of_eq (by decide) N_0.symm⟩

theorem arr16 : (dats m 0 c).arrAt 16 cfg0.N = fun y : S8x4096.Idx =>
    if (y 0).val = 0 then ∑ x : Fin 8, ∑ z : Fin 256, LT m c lr li xr xi (8 * z.val + x.val) (y 1) else ∑ z : Fin 256, LT m c lr li xr xi (8 * z.val + (y 0).val) (y 1) := by
  refine (dats m 0 c).arrAt_eq_of_after_last 16 t7 (by decide +kernel) _ fun y => ?_
  blk_simp
  rw [after0_16]
  idx_vars y
  refine (accL_last c t7 rfl y0 y1).trans ?_
  simp only [sumL_at H]
  rfl

omit H in
theorem arr17 : (dats m 0 c).arrAt 17 cfg0.N = fun y : S8x512.Idx => ∑ z : Fin 2048, WT m c (y 0).val z.val (y 1).val := by
  refine (dats m 0 c).arrAt_eq_of_after_last 17 t7 (by decide +kernel) _ fun y => ?_
  blk_simp
  rw [after0_17]
  idx_vars y
  exact (accW c 7 _ y0 y1).trans (sumW_at y0 y1)

omit H in
theorem ldb (t : Fin cfg0.N) (o o' : ℕ) (ho : o + 256 ≤ 512) (ho' : o' + 1024 ≤ 4096) (inb) (r : Fin 256) (q : Fin 1024) :
    View.ld (iblk m c 8 t) (Rect.unit (s := S512x4096) ![o, o'] S256x1024.size inb) (ix2 r q) = V m c main_v122 (ix2 ⟨o + r.val, by omega⟩ ⟨o' + q.val, by omega⟩) := by
  refine Eq.trans ?_ (blk8 m c t _)
  generalize iblk m c 8 t = X
  refine View.ld_unit_apply_of (S := S512x4096) (e := .bf16) X _ _ _ _ (ix2 ⟨o + r.val, by omega⟩ ⟨o' + q.val, by omega⟩) ?_
  intro a
  fin_cases a <;> rfl

omit H in
/-- A half of the contraction, collapsed to the lanes of its column's group. -/
theorem contract (g : Fin 4096 → EReal) (h : ℕ) (hh : h < 2) (j : Fin 512) (hj : j.val / 256 = h) (x : S512x4096.Idx → EReal) (y : Fin 32 → Fin 64 → Fin 16 → EReal) (o : ℕ) (ho : o + 2048 ≤ 4096)
    (hx : ∀ q : Fin 2048, x (ix2 j ⟨o + q.val, by omega⟩) = if j.val / 16 = q.val / 64 then y ⟨j.val / 16, by omega⟩ ⟨q.val % 64, by omega⟩ ⟨j.val % 16, by omega⟩ else 0) :
    ∑ k : Fin 1024, g ⟨o + (1024 * h + k.val), by omega⟩ * x (ix2 j ⟨o + (1024 * h + k.val), by omega⟩) = ∑ i : Fin 64, g ⟨o + (64 * (j.val / 16) + i.val), by omega⟩ * y ⟨j.val / 16, by omega⟩ i ⟨j.val % 16, by omega⟩ := by
  refine (collapse 1024 64 (1024 * h) (j.val / 16) (by decide) (by omega) (by omega) _ fun k hk => ?_).trans ?_
  · rw [hx ⟨1024 * h + k.val, by omega⟩, if_neg (fun e => hk e.symm), mul_zero]
  · refine @Finset.sum_congr _ EReal _ _ _ _ _ rfl fun i _ => ?_
    refine congrArg₂ (fun a b : EReal => a * b) (congrArg g (Fin.ext (by dsimp only; omega))) ?_
    refine (hx ⟨1024 * h + (64 * (j.val / 16) + i.val - 1024 * h), by omega⟩).trans ?_
    rw [if_pos (by dsimp only; omega)]
    congr 1
    exact Fin.ext (by dsimp only; omega)
/-- What column `q` of a point's block of `dz` holds. -/
theorem dus_at (t : Fin cfg0.N) (r : Fin 256) (j : Fin 512) :
    k0_pay121 (iblk m c 5 t) (VV m c t) (iblk m c 10 t) (View.ld (iblk m c 8 t) (Rect.unit (s := S512x4096) ![0, 0] S256x1024.size inb_S512x4096_S256x1024_0_0)) (View.ld (iblk m c 8 t) (Rect.unit (s := S512x4096) ![0, 2048] S256x1024.size inb_S512x4096_S256x1024_0_2048)) (View.ld (iblk m c 8 t) (Rect.unit (s := S512x4096) ![256, 1024] S256x1024.size inb_S512x4096_S256x1024_256_1024)) (View.ld (iblk m c 8 t) (Rect.unit (s := S512x4096) ![256, 3072] S256x1024.size inb_S512x4096_S256x1024_256_3072)) (ix2 r j)
      = dus m c lr li xr xi (tok t r.val) j := by
  unfold dus
  have cr := fun (h : ℕ) hh hj => contract (GG lr li xr xi (tok t r.val)) h hh j hj (fun x => V m c main_v122 x) (rd3 (m (c, Proc.devRef .tc main_arg9))) 0 (by decide) fun q => bb_re m c j q
  have ci := fun (h : ℕ) hh hj => contract (GG lr li xr xi (tok t r.val)) h hh j hj (fun x => V m c main_v122 x) (rd3 (m (c, Proc.devRef .tc main_arg10))) 2048 (by decide) fun q => bb_im m c j q
  by_cases hj : j.val < 256
  · have cr := cr 0 (by decide) (by omega)
    have ci := ci 0 (by decide) (by omega)
    simp only [Nat.zero_add, Nat.mul_zero] at cr ci
    obtain ⟨j', rfl⟩ : ∃ j' : Fin 256, j = ⟨0 + j'.val, Nat.lt_of_lt_of_le (Nat.add_lt_add_left j'.isLt 0) (by decide)⟩ := ⟨⟨j.val, hj⟩, Fin.ext (Nat.zero_add _).symm⟩
    rw [pay121_lo, blk10, skip_at, blk5]
    simp only [VV_at H, ldb t 0 0 (by decide) (by decide), ldb t 0 2048 (by decide) (by decide)]
    refine congrArg₂ (fun a b : EReal => a + b) rfl (congrArg₂ (fun a b : EReal => a + b) (Eq.trans ?_ cr) (Eq.trans ?_ ci))
    · refine @Finset.sum_congr _ EReal _ _ _ _ _ rfl fun k _ => ?_
      simp only [Nat.zero_add]
    · rfl
  · have cr := cr 1 (by decide) (by omega)
    have ci := ci 1 (by decide) (by omega)
    simp only [Nat.zero_add, Nat.mul_one] at cr ci
    obtain ⟨j', rfl⟩ : ∃ j' : Fin 256, j = ⟨256 + j'.val, Nat.lt_of_lt_of_le (Nat.add_lt_add_left j'.isLt 256) (by decide)⟩ := ⟨⟨j.val - 256, by omega⟩, Fin.ext (by dsimp only; omega)⟩
    rw [pay121_hi, blk10, skip_at, blk5]
    simp only [VV_at H, ldb t 256 1024 (by decide) (by decide), ldb t 256 3072 (by decide) (by decide)]
    refine congrArg₂ (fun a b : EReal => a + b) rfl (congrArg₂ (fun a b : EReal => a + b) (Eq.trans ?_ cr) (Eq.trans ?_ ci))
    · rfl
    · refine @Finset.sum_congr _ EReal _ _ _ _ _ rfl fun k _ => ?_
      have e : ∀ h h', (⟨3072 + k.val, h⟩ : Fin 4096) = ⟨2048 + (1024 + k.val), h'⟩ := fun _ _ => Fin.ext (by dsimp only; omega)
      rw [e]

omit H in
theorem pay139_at (y d : Vec Ideal S256x512 .f32) (w : Vec Ideal S1x512 .f32) (r : Fin 256) (q : Fin 512) :
    k0_pay139 y d w (ix2 r q) = (d (ix2 r q) : EReal) * (y (ix2 r q) + w (ix2 0 q)) := by
  unfold k0_pay139
  pointwise []
omit H in
theorem pay135_at (f : BitVec 1) (a b : Vec Ideal S256x512 .f32) (x y : Vec Ideal S8x512 .f32) (w0 w1 w2 : Vec Ideal S1x512 .f32) (r : Fin 256) (q : Fin 512) :
    k0_pay135 f a b x y w0 w1 w2 (ix2 r q) = ((w0 (ix2 0 q) : EReal) * k0_pay134 f a b x y (ix2 r q) + w1 (ix2 0 q) * k0_pay133 f a b x y (ix2 r q)) + w2 (ix2 0 q) * k0_pay131 a b (ix2 r q) := by
  unfold k0_pay135
  pointwise []
omit H in
theorem pay140_at (z d : Vec Ideal S256x512 .f32) (r : Fin 256) (q : Fin 512) : k0_pay140 z d (ix2 r q) = (d (ix2 r q) : EReal) * z (ix2 r q) := by
  unfold k0_pay140
  pointwise []
omit H in
theorem pay141_at (z d : Vec Ideal S256x512 .f32) (r : Fin 256) (q : Fin 512) : k0_pay141 z d (ix2 r q) = (d (ix2 r q) : EReal) * z (ix2 r q) := by
  unfold k0_pay141
  pointwise []

theorem DZ_at (t : Fin cfg0.N) (r : Fin 256) (q : Fin 2048) : DZ m c t (VV m c t) (prevH m c t) (ix2 r q) = dz m c lr li xr xi (tok t r.val) q := by
  have hr := r.isLt
  have hq := q.isLt
  unfold DZ dz
  canon_tiles x h
  · idx_vars x
    obtain rfl : x0 = r := Fin.ext (by first | exact h0.symm | omega)
    have e1 : q.val = 1536 + x1.val := h1
    rw [if_neg (by omega), if_neg (by omega), if_neg (by omega)]
    refine (dus_at H t _ _).trans (congrArg (dus m c lr li xr xi _) (Fin.ext ?_))
    dsimp only; omega
  · idx_vars x
    obtain rfl : x0 = r := Fin.ext (by first | exact h0.symm | omega)
    have e1 : q.val = 1024 + x1.val := h1
    rw [if_neg (by omega), if_neg (by omega), if_pos (by omega)]
    refine (pay141_at _ _ _ _).trans ?_
    have d := DV_at m c t x0 x1
    unfold DV at d
    rw [d, ldz m c t 512 (by decide), e1, Nat.add_sub_cancel_left]
  · idx_vars x
    obtain rfl : x0 = r := Fin.ext (by first | exact h0.symm | omega)
    have e1 : q.val = 512 + x1.val := h1
    rw [if_neg (by omega), if_pos (by omega)]
    refine (pay140_at _ _ _ _).trans ?_
    have d := DV_at m c t x0 x1
    unfold DV at d
    rw [d, ldz m c t 1024 (by decide), e1, Nat.add_sub_cancel_left]
  · idx_vars x
    obtain rfl : x0 = r := Fin.ext (by first | exact h0.symm | omega)
    have e1 : q.val = x1.val := by first | exact h1 | omega
    rw [if_pos (by omega)]
    refine (pay139_at _ _ _ _ _).trans ?_
    have v2 := V2_at m c t x0 x1
    have v1 := V1_at m c t x0 x1
    have v0 := V0_at m c t x0 x1
    unfold V2 at v2
    unfold V1 at v1
    unfold V0 at v0
    rw [pay135_at, ldw m c t 0 (by decide), ldw m c t 1 (by decide), ldw m c t 2 (by decide), v2, v1, v0, blk4, blk7, bias_at]
    simp only [e1]
    refine congrArg (fun a => _ * (_ + CB m c a)) (Fin.ext ?_)
    dsimp only; omega

theorem arr12 : (dats m 0 c).arrAt 12 cfg0.N = fun y : S2048x2048.Idx => dz m c lr li xr xi (y 0).val (y 1) := by
  refine (dats m 0 c).arrAt_eq_of_covers 12 _ (by decide +kernel) fun t hf y => ?_
  blk_simp
  rw [after0_12, out12]
  idx_vars y
  refine (DZ_at H t _ _).trans ?_
  refine congrArg₂ (dz m c lr li xr xi) (by blk_simp [f12]; simp [f12, tok]; try omega) (Fin.ext (by blk_simp [f12]))

end

end Cert.Proof.S5
-- ==== Proof.Trips.lean ====
/- The reference's recursion over the tokens, trip by trip. -/
module

public import proofs.«01_k».proof.Proof.Gen.ReferenceIdeal.Run
public import proofs.«01_k».proof.Proof.Scan
public import Idealize.ShloMosaic.Lib.WordCmp
public import Idealize.ShloMosaic.Lib.Pointwise

@[expose] public section

set_option maxRecDepth 16384

noncomputable section

namespace Cert.Proof.S5R

open Idealize.ShloMosaic Idealize.ShloMosaic.StableHlo
open Cert.Proof.S5 Cert.ReferenceIdeal Cert.ReferenceIdeal.Value Idealize.ShloMosaic.TcCoe

/-- The lane of state `p` of group `g`. -/
def lane (g : Fin 32) (p : Fin 64) : Fin 2048 := ⟨64 * g.val + p.val, by omega⟩

variable (lr li : Fin 2048 → ℝ) (xr xi : ℕ → Fin 2048 → ℝ)

/-- A lane's state after `n` tokens. -/
abbrev gs (q : Fin 2048) (n : ℕ) : ℝ × ℝ := gst (lr q) (li q) (fun n => xr n q) (fun n => xi n q) n

/-- What the buffers carried round the loop hold before trip `k`. -/
structure Trip (k : ℕ) (X : Valuation τ sig (Elt Ideal)) : Prop where
  dr : ∀ n g p, (X (Proc.devRef .tc main_v13_0) : Vec Ideal S2048x32x64 .f32) (ix3 n g p) = (xr (2047 - n.val) (lane g p) : EReal)
  di : ∀ n g p, (X (Proc.devRef .tc main_v13_1) : Vec Ideal S2048x32x64 .f32) (ix3 n g p) = (xi (2047 - n.val) (lane g p) : EReal)
  wr : ∀ g p, (X (Proc.devRef .tc main_v13_2) : Vec Ideal S32x64 .f32) (ix2 g p) = (lr (lane g p) : EReal)
  wi : ∀ g p, (X (Proc.devRef .tc main_v13_3) : Vec Ideal S32x64 .f32) (ix2 g p) = (li (lane g p) : EReal)
  count : X (Proc.devRef .tc main_v13_4) = fun _ => BitVec.ofNat 32 k
  cr : ∀ g p, (X (Proc.devRef .tc main_v13_5) : Vec Ideal S32x64 .f32) (ix2 g p)
    = ((lr (lane g p) * (gs lr li xr xi (lane g p) k).1 + li (lane g p) * (gs lr li xr xi (lane g p) k).2 : ℝ) : EReal)
  ci : ∀ g p, (X (Proc.devRef .tc main_v13_6) : Vec Ideal S32x64 .f32) (ix2 g p)
    = ((lr (lane g p) * (gs lr li xr xi (lane g p) k).2 - li (lane g p) * (gs lr li xr xi (lane g p) k).1 : ℝ) : EReal)
  gr : ∀ n g p, 2048 ≤ n.val + k → (X (Proc.devRef .tc main_v13_7) : Vec Ideal S2048x32x64 .f32) (ix3 n g p) = ((gs lr li xr xi (lane g p) (2048 - n.val)).1 : EReal)
  gi : ∀ n g p, 2048 ≤ n.val + k → (X (Proc.devRef .tc main_v13_8) : Vec Ideal S2048x32x64 .f32) (ix3 n g p) = ((gs lr li xr xi (lane g p) (2048 - n.val)).2 : EReal)

variable {lr li xr xi}

theorem row_word {k : ℕ} (hk : k < 2048) : ((2048#32 - BitVec.ofNat 32 k) - 1#32).toInt = ((2047 - k : ℕ) : ℤ) := by
  have e : (2048#32 - BitVec.ofNat 32 k) - 1#32 = BitVec.ofNat 32 (2047 - k) := by
    apply BitVec.eq_of_toNat_eq
    simp only [BitVec.toNat_sub, BitVec.toNat_ofNat]
    omega
  rw [e]
  exact WordCmp.toInt_ofNat_of_lt (by omega)

theorem row_fits (k : ℕ) : S2048x32x64.Slices ![2047 - k, 0, 0] S1x32x64 := by
  refine ⟨rfl, fun a => ?_⟩
  have h : ∀ a : Fin 3, (![2047 - k, 0, 0] : Fin 3 → ℕ) a + (![1, 32, 64] : Fin 3 → ℕ) a ≤ (![2048, 32, 64] : Fin 3 → ℕ) a := by
    intro a
    fin_cases a <;> simp <;> omega
  exact h a

section
variable {k : ℕ} {X : Valuation τ sig (Elt Ideal)} (h : Trip lr li xr xi k X) (hk : k < 2048)
include h hk

theorem row_at : (fun a => (((![res_main_while0b_v188 X, constantI S_ 32 0#32, constantI S_ 32 0#32] : Fin 3 → (⟨S_, .i32⟩ : BufTy).Contents (Elt Ideal))) a (Shape.Idx.first Gen.h_S_)).toInt)
    = fun a : Fin 3 => (((![2047 - k, 0, 0] : Fin 3 → ℕ) a : ℕ) : ℤ) := by
  funext a
  fin_cases a
  · have e : res_main_while0b_v188 X = fun _ => (2048#32 - BitVec.ofNat 32 k) - 1#32 := by
      unfold res_main_while0b_v188
      rw [h.count]
      rfl
    show (res_main_while0b_v188 X (Shape.Idx.first Gen.h_S_)).toInt = _
    rw [e]
    exact row_word hk
  · rfl
  · rfl

theorem row_of (x : Vec Ideal S2048x32x64 .f32) (g : Fin 32) (p : Fin 64) :
    shapeCast S32x64 (Host.dynamicSlice S1x32x64 x (fun a => (((![res_main_while0b_v188 X, constantI S_ 32 0#32, constantI S_ 32 0#32] : Fin 3 → (⟨S_, .i32⟩ : BufTy).Contents (Elt Ideal))) a (Shape.Idx.first Gen.h_S_)).toInt) Gen.sliceFits_S2048x32x64_S1x32x64) Gen.shapeCasts_S1x32x64_S32x64 (ix2 g p)
      = x (ix3 ⟨2047 - k, by omega⟩ g p) := by
  rw [row_at h hk]
  have e := WordCmp.dynamicSlice_eq_extract (s := S2048x32x64) S1x32x64 x (fun a : Fin 3 => (((![2047 - k, 0, 0] : Fin 3 → ℕ) a : ℕ) : ℤ)) Gen.sliceFits_S2048x32x64_S1x32x64 ![2047 - k, 0, 0] (row_fits k) fun _ => rfl
  rw [e]
  pointwise []

theorem new_re (g : Fin 32) (p : Fin 64) : (res_main_while0b_v191 X : Vec Ideal S32x64 .f32) (ix2 g p) = ((gs lr li xr xi (lane g p) (k + 1)).1 : EReal) := by
  unfold res_main_while0b_v191
  refine (congrArg₂ (fun a b : EReal => a + b) (h.cr g p) ((row_of h hk _ g p).trans (h.dr _ g p))).trans ?_
  rw [← EReal.coe_add]
  congr 1
  show _ = xr k (lane g p) + _
  rw [show 2047 - (2047 - k) = k by omega, add_comm]

theorem new_im (g : Fin 32) (p : Fin 64) : (res_main_while0b_v192 X : Vec Ideal S32x64 .f32) (ix2 g p) = ((gs lr li xr xi (lane g p) (k + 1)).2 : EReal) := by
  unfold res_main_while0b_v192
  refine (congrArg₂ (fun a b : EReal => a + b) (h.ci g p) ((row_of h hk _ g p).trans (h.di _ g p))).trans ?_
  rw [← EReal.coe_add]
  congr 1
  show _ = xi k (lane g p) + _
  rw [show 2047 - (2047 - k) = k by omega, add_comm]

theorem put_at (x : Vec Ideal S2048x32x64 .f32) (u : Vec Ideal S32x64 .f32) (n : Fin 2048) (g : Fin 32) (p : Fin 64) :
    Host.dynamicUpdateSlice x (broadcastInDim S1x32x64 ![1, 2] Gen.bcast_S32x64_S1x32x64_1_2 u) (fun a => (((![res_main_while0b_v188 X, constantI S_ 32 0#32, constantI S_ 32 0#32] : Fin 3 → (⟨S_, .i32⟩ : BufTy).Contents (Elt Ideal))) a (Shape.Idx.first Gen.h_S_)).toInt) Gen.updateFits_S2048x32x64_S1x32x64 (ix3 n g p)
      = if n.val = 2047 - k then u (ix2 g p) else x (ix3 n g p) := by
  rw [row_at h hk]
  have e := WordCmp.dynamicUpdateSlice_eq_update (s := S2048x32x64) x (broadcastInDim S1x32x64 ![1, 2] Gen.bcast_S32x64_S1x32x64_1_2 u) (fun a : Fin 3 => (((![2047 - k, 0, 0] : Fin 3 → ℕ) a : ℕ) : ℤ)) Gen.updateFits_S2048x32x64_S1x32x64 ![2047 - k, 0, 0] (row_fits k) fun _ => rfl
  rw [e]
  refine (updateSlice_apply (s := S2048x32x64) x _ _ (row_fits k) (ix3 n g p)).trans ?_
  by_cases hn : n.val = 2047 - k
  · rw [if_pos hn]
    refine (dif_pos ?_).trans ?_
    · have hg := g.isLt
      have hp := p.isLt
      have h : ∀ a : Fin 3, (![2047 - k, 0, 0] : Fin 3 → ℕ) a ≤ (![n.val, g.val, p.val] : Fin 3 → ℕ) a
          ∧ (![n.val, g.val, p.val] : Fin 3 → ℕ) a < (![2047 - k, 0, 0] : Fin 3 → ℕ) a + (![1, 32, 64] : Fin 3 → ℕ) a := by
        intro a
        fin_cases a <;> simp [hn]
      intro a
      fin_cases a
      · exact h 0
      · exact h 1
      · exact h 2
    · pointwise []
  · rw [if_neg hn]
    refine dif_neg fun hh => hn ?_
    have h0 : 2047 - k ≤ n.val ∧ n.val < 2047 - k + 1 := hh 0
    omega

theorem step7_at (n : Fin 2048) (g : Fin 32) (p : Fin 64) : (step_main_v13_7 X : Vec Ideal S2048x32x64 .f32) (ix3 n g p)
    = if n.val = 2047 - k then (res_main_while0b_v191 X : Vec Ideal S32x64 .f32) (ix2 g p) else (X (Proc.devRef .tc main_v13_7) : Vec Ideal S2048x32x64 .f32) (ix3 n g p) := by
  unfold step_main_v13_7
  rw [id_eq]
  exact put_at h hk _ _ n g p

theorem step8_at (n : Fin 2048) (g : Fin 32) (p : Fin 64) : (step_main_v13_8 X : Vec Ideal S2048x32x64 .f32) (ix3 n g p)
    = if n.val = 2047 - k then (res_main_while0b_v192 X : Vec Ideal S32x64 .f32) (ix2 g p) else (X (Proc.devRef .tc main_v13_8) : Vec Ideal S2048x32x64 .f32) (ix3 n g p) := by
  unfold step_main_v13_8
  rw [id_eq]
  exact put_at h hk _ _ n g p

theorem step_trip : Trip lr li xr xi (k + 1) (STEP X) where
  dr := by rw [STEP_main_v13_0]; exact h.dr
  di := by rw [STEP_main_v13_1]; exact h.di
  wr := by rw [STEP_main_v13_2]; exact h.wr
  wi := by rw [STEP_main_v13_3]; exact h.wi
  count := by
    rw [STEP_main_v13_4]
    unfold step_main_v13_4
    rw [h.count]
    funext _
    exact (BitVec.ofNat_add _ _).symm
  cr g p := by
    rw [STEP_main_v13_5]
    unfold step_main_v13_5
    refine (congrArg₂ (fun a b : EReal => a + b) (congrArg₂ (fun a b : EReal => a * b) (h.wi g p) (new_im h hk g p)) (congrArg₂ (fun a b : EReal => a * b) (h.wr g p) (new_re h hk g p))).trans ?_
    rw [← EReal.coe_mul, ← EReal.coe_mul, ← EReal.coe_add, add_comm]
  ci g p := by
    rw [STEP_main_v13_6]
    unfold step_main_v13_6
    refine (congrArg₂ (fun a b : EReal => a + b) (congrArg₂ (fun a b : EReal => a * b) (h.wr g p) (new_im h hk g p)) (congrArg₂ (fun a b : EReal => a * b) (h.wi g p) (congrArg (fun a : EReal => -a) (new_re h hk g p)))).trans ?_
    rw [← EReal.coe_neg, ← EReal.coe_mul, ← EReal.coe_mul, ← EReal.coe_add]
    congr 1
    ring
  gr n g p hn := by
    rw [STEP_main_v13_7]
    refine (step7_at h hk n g p).trans ?_
    by_cases e : n.val = 2047 - k
    · rw [if_pos e, new_re h hk, show 2048 - n.val = k + 1 by omega]
    · rw [if_neg e, h.gr n g p (by omega)]
  gi n g p hn := by
    rw [STEP_main_v13_8]
    refine (step8_at h hk n g p).trans ?_
    by_cases e : n.val = 2047 - k
    · rw [if_pos e, new_im h hk, show 2048 - n.val = k + 1 by omega]
    · rw [if_neg e, h.gi n g p (by omega)]

end

theorem trips {X : Valuation τ sig (Elt Ideal)} (h : Trip lr li xr xi 0 X) : ∀ k : ℕ, k ≤ 2048 → Trip lr li xr xi k (STEP^[k] X) := by
  intro k
  induction k with
  | zero => exact fun _ => h
  | succ k ih => exact fun hk => by rw [Function.iterate_succ_apply']; exact step_trip (ih (by omega)) (by omega)

end Cert.Proof.S5R
-- ==== Proof.Refs.lean ====
/- The reference's six results, entry by entry. -/
module

public import proofs.«01_k».proof.Proof.Arrays
public import proofs.«01_k».proof.Proof.Trips

@[expose] public section

set_option maxRecDepth 16384

noncomputable section

namespace Cert.Proof.S5R

open Idealize.ShloMosaic Idealize.ShloMosaic.StableHlo
open Cert.Proof.S5 Cert.ReferenceIdeal Cert.ReferenceIdeal.Value Idealize.ShloMosaic.TcCoe

variable {m : (ℓ : Loc Cert.KernelIdeal.nD Cert.KernelIdeal.τ Cert.KernelIdeal.sig) → Buf (Elt Ideal) ℓ} {c : Dev Cert.KernelIdeal.nD}

variable (m c) in
/-- What the contents after the loop hold: the call's arguments and the states' gradients. -/
structure Ends (lr li : Fin 2048 → ℝ) (xr xi : ℕ → Fin 2048 → ℝ) (W : Valuation τ sig (Elt Ideal)) : Prop where
  z : ∀ n q, (W (Proc.devRef .tc main_arg0) : Vec Ideal S2048x2048 .f32) (ix2 n q) = Z m c n.val q.val
  hs : ∀ n q, (W (Proc.devRef .tc main_arg1) : Vec Ideal S2048x4096 .bf16) (ix2 n q) = HS m c n.val q.val
  ya : ∀ n q, (W (Proc.devRef .tc main_arg2) : Vec Ideal S2048x512 .f32) (ix2 n q) = YA m c n.val q.val
  ys : ∀ n q, (W (Proc.devRef .tc main_arg3) : Vec Ideal S2048x512 .f32) (ix2 n q) = YS m c n.val q.val
  cw : ∀ n q, (W (Proc.devRef .tc main_arg4) : Vec Ideal S3x512 .f32) (ix2 n q) = CW m c n.val q.val
  cb : ∀ q, (W (Proc.devRef .tc main_arg5) : Vec Ideal S512 .f32) (ix1 q) = CB m c q
  dd : ∀ g j, (W (Proc.devRef .tc main_arg6) : Vec Ideal S32x16 .f32) (ix2 g j) = DD m c ⟨16 * g.val + j.val, by omega⟩
  br : ∀ g p j, (W (Proc.devRef .tc main_arg9) : Vec Ideal S32x64x16 .f32) (ix3 g p j) = rd3 (m (c, Proc.devRef .tc Cert.KernelIdeal.main_arg9)) g p j
  bi : ∀ g p j, (W (Proc.devRef .tc main_arg10) : Vec Ideal S32x64x16 .f32) (ix3 g p j) = rd3 (m (c, Proc.devRef .tc Cert.KernelIdeal.main_arg10)) g p j
  gr : ∀ n g p, (W (Proc.devRef .tc main_v13_7) : Vec Ideal S2048x32x64 .f32) (ix3 n g p) = GG lr li xr xi n.val ⟨64 * g.val + p.val, by omega⟩
  gi : ∀ n g p, (W (Proc.devRef .tc main_v13_8) : Vec Ideal S2048x32x64 .f32) (ix3 n g p) = GG lr li xr xi n.val ⟨2048 + (64 * g.val + p.val), by omega⟩

section
variable {lr li : Fin 2048 → ℝ} {xr xi : ℕ → Fin 2048 → ℝ} {W : Valuation τ sig (Elt Ideal)} (h : Ends m c lr li xr xi W)
include h

theorem ref180 (y : S1x2048x512.Idx) : (out_main_v180 W : Vec Ideal S1x2048x512 .bf16) y = Z m c (y 1).val (1536 + (y 2).val) := by
  unfold out_main_v180
  idx_vars y
  pointwise []
  exact h.z _ _

theorem ref182 (y : S1x2048x512.Idx) : (out_main_v182 W : Vec Ideal S1x2048x512 .bf16) y = YS m c (y 1).val (y 2).val := by
  unfold out_main_v182
  idx_vars y
  pointwise []
  exact h.ys _ _

theorem ref178 (y : S1x2048x4096.Idx) : (out_main_v178 W : Vec Ideal S1x2048x4096 .bf16) y = GG lr li xr xi (y 1).val (y 2) := by
  unfold out_main_v178
  idx_vars y
  have hy := y2.isLt
  pointwise []
  by_cases hp : y2.val / 64 < 32
  · rw [dif_pos hp, h.gr]
    exact congrArg (GG lr li xr xi _) (Fin.ext (by dsimp only; omega))
  · rw [dif_neg hp, h.gi]
    exact congrArg (GG lr li xr xi _) (Fin.ext (by dsimp only; omega))

omit h in
theorem hp_if {P : Prop} [Decidable P] (n q : ℕ) (hP : P ↔ 1 ≤ n) : (if _h : P then HS m c (n - 1) q else 0) = hp m c n q := by
  unfold hp
  by_cases hn : n = 0
  · rw [if_pos hn, dif_neg (by rw [hP]; omega)]
  · rw [if_neg hn, dif_pos (by rw [hP]; omega)]

omit h in
theorem low (n : ℕ) (p : Fin 4096) (hp' : p.val < 2048) :
    GG lr li xr xi n ⟨2048 + (64 * (p.val / 64) + p.val % 64), by omega⟩ * hp m c n (2048 + p.val) + GG lr li xr xi n ⟨64 * (p.val / 64) + p.val % 64, by omega⟩ * hp m c n p.val = LT m c lr li xr xi n p := by
  unfold S5.LT
  rw [dif_pos hp', add_comm]
  simp only [Nat.div_add_mod]

omit h in
theorem high (n : ℕ) (p : Fin 4096) (hp' : ¬p.val < 2048) :
    GG lr li xr xi n ⟨2048 + (64 * ((p.val - 2048) / 64) + (p.val - 2048) % 64), by omega⟩ * hp m c n (p.val - 2048) + -GG lr li xr xi n ⟨64 * ((p.val - 2048) / 64) + (p.val - 2048) % 64, by omega⟩ * hp m c n (2048 + (p.val - 2048)) = LT m c lr li xr xi n p := by
  have e : 2048 + (p.val - 2048) = p.val := by omega
  unfold S5.LT
  rw [dif_neg hp', EReal.neg_mul, sub_eq_add_neg]
  simp only [Nat.div_add_mod, e]

theorem ref173 (y : S8x4096.Idx) : (out_main_v173 W : Vec Ideal S8x4096 .f32) y =
    if (y 0).val = 0 then ∑ x : Fin 8, ∑ z : Fin 256, LT m c lr li xr xi (8 * z.val + x.val) (y 1) else ∑ z : Fin 256, LT m c lr li xr xi (8 * z.val + (y 0).val) (y 1) := by
  unfold out_main_v173
  idx_vars y
  pointwise []
  have sel : ∀ a b : EReal, Scalar.select (IntOp.cmpi CmpIPredicate.eq (BitVec.ofNat 32 y0.val) 0#32) a b = if y0.val = 0 then a else b := by
    fin_cases y0 <;> intros <;> rfl
  have z32 : (FloatOps.sitofp FTy.f32 0#32 : Ideal .f32) = 0 := by
    show ((((0#32 : BitVec 32).toInt : ℤ) : ℝ) : EReal) = 0
    simp
  refine (sel _ _).trans ?_
  have hy := y1.isLt
  by_cases hp : y1.val < 2048
  · simp only [dif_pos hp, dif_neg (show ¬(2048 ≤ y1.val ∧ y1.val - 2048 < 2048) by omega), zero_add, add_zero, h.gi, h.gr, h.hs, z32, Finset.univ_unique, Finset.sum_singleton]
    refine if_congr Iff.rfl (@Finset.sum_congr _ EReal _ _ _ _ _ rfl fun x _ => ?_) ?_
    all_goals
      refine (@Finset.sum_add_distrib _ EReal _ _ _ _).symm.trans (@Finset.sum_congr _ EReal _ _ _ _ _ rfl fun z _ => ?_)
      simp only [Nat.mul_comm _ 8]
      refine (congrArg₂ HAdd.hAdd (congrArg (HMul.hMul _) (hp_if _ _ ?_)) (congrArg (HMul.hMul _) (hp_if _ _ ?_))).trans (low _ _ hp) <;> omega
  · simp only [dif_neg hp, dif_pos (show 2048 ≤ y1.val ∧ y1.val - 2048 < 2048 by omega), zero_add, add_zero, h.gi, h.gr, h.hs, z32, Finset.univ_unique, Finset.sum_singleton]
    refine if_congr Iff.rfl (@Finset.sum_congr _ EReal _ _ _ _ _ rfl fun x _ => ?_) ?_
    all_goals
      refine (@Finset.sum_add_distrib _ EReal _ _ _ _).symm.trans (@Finset.sum_congr _ EReal _ _ _ _ _ rfl fun z _ => ?_)
      simp only [Nat.mul_comm _ 8]
      refine (congrArg₂ HAdd.hAdd (congrArg (HMul.hMul _) (hp_if _ _ ?_)) (congrArg (HMul.hMul _) (hp_if _ _ ?_))).trans (high _ _ hp) <;> omega

theorem ref186 (y : S8x512.Idx) : (out_main_v186 W : Vec Ideal S8x512 .f32) y = ∑ z : Fin 2048, WT m c (y 0).val z.val (y 1).val := by
  unfold out_main_v186
  idx_vars y
  fin_cases y0
  all_goals pointwise []
  all_goals try simp only [Finset.univ_unique, Finset.sum_singleton, h.z, h.ya, h.ys, mul_zero, Finset.sum_const_zero, zero_add]
  · refine Eq.trans ?_ (Fin.sum_univ_add (a := 2) (b := 2046) fun z => WT m c 0 z.val y1.val).symm
    refine Eq.trans (zero_add (M := EReal) _).symm (congrArg₂ _ (Finset.sum_eq_zero (M := EReal) fun x _ => ?_).symm (@Finset.sum_congr _ EReal _ _ _ _ _ rfl fun x _ => ?_))
    · simp only [WT, sh, if_true, Fin.val_castAdd, if_pos x.isLt, mul_zero]
    · simp only [WT, sh, dyc, vv, if_true, Fin.val_natAdd, if_neg (show ¬(2 + x.val < 2) by omega), Nat.add_sub_cancel_left, mul_comm (YA m c _ _)]
  · refine Eq.trans ?_ (Fin.sum_univ_add (a := 1) (b := 2047) fun z => WT m c 1 z.val y1.val).symm
    refine Eq.trans (zero_add (M := EReal) _).symm (congrArg₂ _ (Finset.sum_eq_zero (M := EReal) fun x _ => ?_).symm (@Finset.sum_congr _ EReal _ _ _ _ _ rfl fun x _ => ?_))
    · simp only [WT, sh, if_true, one_ne_zero, if_false, Fin.val_castAdd, if_pos x.isLt, mul_zero]
    · simp only [WT, sh, dyc, vv, if_true, one_ne_zero, if_false, Fin.val_natAdd, if_neg (show ¬(1 + x.val < 1) by omega), Nat.add_sub_cancel_left, mul_comm (YA m c _ _)]
  · refine @Finset.sum_congr _ EReal _ _ _ _ _ rfl fun x _ => ?_
    simp [WT, dyc, vv, mul_comm (YA m c _ _)]
  · refine @Finset.sum_congr _ EReal _ _ _ _ _ rfl fun x _ => ?_
    simp [WT, dyc, mul_comm (YA m c _ _)]
  · refine @Finset.sum_congr _ EReal _ _ _ _ _ rfl fun x _ => ?_
    simp [WT]
  all_goals exact (Finset.sum_eq_zero (M := EReal) fun x _ => rfl).symm

omit h in
theorem dv_if {P : Prop} [Decidable P] (k n q : ℕ) (w : EReal) (hP : P ↔ k + n < 2048) : (if _h : P then w * (Z m c (k + n) q * YA m c (k + n) q) else 0) = w * dyc m c (n + k) q := by
  by_cases hn : k + n < 2048
  · rw [dif_pos (hP.2 hn), mul_comm (Z m c _ _), add_comm k n]
    rfl
  · rw [dif_neg fun hq => hn (hP.1 hq), dyc_out m c _ _ (by omega), mul_zero]

omit h in
theorem dz_0 (n : ℕ) (q : Fin 2048) (h0 : q.val < 512) : dz m c lr li xr xi n q = YA m c n q.val * (((CW m c 0 q.val * sh m c 2 n q.val + CW m c 1 q.val * sh m c 1 n q.val) + CW m c 2 q.val * vv m c n q.val) + CB m c ⟨q.val, h0⟩) := by
  have e : q.val % 512 = q.val := Nat.mod_eq_of_lt h0
  unfold dz
  rw [if_pos h0]
  simp only [e]

omit h in
theorem dz_1 (n : ℕ) (q : Fin 2048) (h0 : ¬q.val < 512) (h1 : q.val - 512 < 512) : dz m c lr li xr xi n q = dvv m c n (q.val - 512) * Z m c n (1024 + (q.val - 512)) := by
  unfold dz
  rw [if_neg h0, if_pos (by omega)]

omit h in
theorem dz_2 (n : ℕ) (q : Fin 2048) (h0 : ¬q.val < 512) (h1 : ¬q.val - 512 < 512) (h2 : q.val - 512 - 512 < 512) : dz m c lr li xr xi n q = Z m c n (512 + (q.val - 512 - 512)) * dvv m c n (q.val - 512 - 512) := by
  unfold dz
  rw [if_neg h0, if_neg (by omega), if_pos (by omega), mul_comm]
  rfl

omit h in
theorem dz_3 (n : ℕ) (q : Fin 2048) (h0 : ¬q.val < 512) (h1 : ¬q.val - 512 < 512) (h2 : ¬q.val - 512 - 512 < 512) : dz m c lr li xr xi n q = dus m c lr li xr xi n ⟨q.val - 512 - 512 - 512, by omega⟩ := by
  have e : q.val % 512 = q.val - 512 - 512 - 512 := by omega
  unfold dz
  rw [if_neg h0, if_neg (by omega), if_neg (by omega)]
  simp only [e]

set_option maxHeartbeats 1000000 in
theorem ref175 (y : S2048x2048.Idx) : (out_main_v175 W : Vec Ideal S2048x2048 .bf16) y = dz m c lr li xr xi (y 0).val (y 1) := by
  unfold out_main_v175
  idx_vars y
  have hn := y0.isLt
  have hy := y1.isLt
  have dv : ∀ q, q < 512 → (∀ {P Q : Prop} [Decidable P] [Decidable Q], (P ↔ 1 + y0.val < 2048) → (Q ↔ 2 + y0.val < 2048) → (CW m c 2 q * (Z m c y0.val q * YA m c y0.val q) + (if _h : P then CW m c 1 q * (Z m c (1 + y0.val) q * YA m c (1 + y0.val) q) else 0)) + (if _h : Q then CW m c 0 q * (Z m c (2 + y0.val) q * YA m c (2 + y0.val) q) else 0) = dvv m c y0.val q) := by
    intro q _ P Q _ _ hP hQ
    rw [dv_if 1 y0.val q _ hP, dv_if 2 y0.val q _ hQ, mul_comm (Z m c _ _)]
    rfl
  pointwise []
  simp only [h.z, h.ya, h.ys, h.cw, h.cb, h.dd, h.br, h.bi, h.gr, h.gi]
  by_cases h0 : y1.val < 512
  · refine Eq.trans ?_ (dz_0 _ _ h0).symm
    rw [dif_pos h0]
    rfl
  by_cases h1 : y1.val - 512 < 512
  · refine Eq.trans ?_ (dz_1 _ _ h0 h1).symm
    rw [dif_neg h0, dif_pos h1]
    refine congrArg (fun w => w * _) (dv _ h1 ?_ ?_) <;> omega
  by_cases h2 : y1.val - 512 - 512 < 512
  · refine Eq.trans ?_ (dz_2 _ _ h0 h1 h2).symm
    rw [dif_neg h0, dif_neg h1, dif_pos h2]
    refine congrArg (fun w => _ * w) (dv _ h2 ?_ ?_) <;> omega
  refine Eq.trans ?_ (dz_3 _ _ h0 h1 h2).symm
  rw [dif_neg h0, dif_neg h1, dif_neg h2]
  unfold dus
  refine congrArg₂ HAdd.hAdd ?_ (add_comm _ _)
  refine congrArg₂ HMul.hMul (congrArg (DD m c) (Fin.ext ?_)) (congrArg (YS m c _) ?_) <;> dsimp only <;> omega
end

end Cert.Proof.S5R
-- ==== Proof.S5Value.lean ====
/- The backward state-space call against the backward pass of the forward lines: the claim. -/
module

public import proofs.«01_k».proof.Defs
public import proofs.«01_k».proof.Proof.Refs
public import proofs.«01_k».proof.Proof.Gen.Pre_tame
public import Idealize.ShloMosaic.Lib.ReduceAll

@[expose] public section

set_option maxRecDepth 16384

noncomputable section

namespace Cert.Proof.S5R

open Idealize.ShloMosaic Idealize.ShloMosaic.StableHlo Idealize.SL.Sem
open Cert.Proof.S5 Cert.ReferenceIdeal Cert.ReferenceIdeal.Value Idealize.ShloMosaic.TcCoe

variable (m' : (ℓ : Loc nD τ sig) → Buf (Elt Ideal) ℓ) (c : Dev nD)

/-- What the loop starts from. -/
abbrev E0 : Valuation τ sig (Elt Ideal) := entryContents preI m' c

/-- The reference's cotangents and output weights. -/
def q3 (n : Fin 2048) (q : Fin 512) : EReal := (m' ((c.tc : Thread nD τ).loc main_arg3) : Vec Ideal S2048x512 .f32) (ix2 n q)
def q11 (g : Fin 32) (i : Fin 16) (p : Fin 64) : EReal := (m' ((c.tc : Thread nD τ).loc main_arg11) : Vec Ideal S32x16x64 .f32) (ix3 g i p)
def q12 (g : Fin 32) (i : Fin 16) (p : Fin 64) : EReal := (m' ((c.tc : Thread nD τ).loc main_arg12) : Vec Ideal S32x16x64 .f32) (ix3 g i p)

theorem dot_re (n : Fin 2048) (g : Fin 32) (p : Fin 64) : (E0 m' c (Proc.devRef .tc main_v13_0) : Vec Ideal S2048x32x64 .f32) (ix3 n g p)
    = (∑ i : Fin 16, q3 m' c n ⟨16 * g.val + i.val, by omega⟩ * q11 m' c g i p : EReal) := by
  simp only [E0, entryContents, afterL_cons, afterL_nil]
  after_reads_simp
  simp only [id_eq]
  pointwise []
  simp only [q3, q11, Nat.mul_comm 16]

theorem dot_im (n : Fin 2048) (g : Fin 32) (p : Fin 64) : (E0 m' c (Proc.devRef .tc main_v13_1) : Vec Ideal S2048x32x64 .f32) (ix3 n g p)
    = (∑ i : Fin 16, -q3 m' c n ⟨16 * g.val + i.val, by omega⟩ * q12 m' c g i p : EReal) := by
  simp only [E0, entryContents, afterL_cons, afterL_nil]
  after_reads_simp
  simp only [id_eq]
  pointwise []
  simp only [q3, q12, Nat.mul_comm 16]

theorem car_re : (E0 m' c (Proc.devRef .tc main_v13_5) : Vec Ideal S32x64 .f32) = fun _ => (0 : EReal) := by
  simp only [E0, entryContents, afterL_cons, afterL_nil]
  after_reads_simp
  simp only [id_eq]
  funext y
  pointwise []

theorem car_im : (E0 m' c (Proc.devRef .tc main_v13_6) : Vec Ideal S32x64 .f32) = fun _ => (0 : EReal) := by
  simp only [E0, entryContents, afterL_cons, afterL_nil]
  after_reads_simp
  simp only [id_eq]
  funext y
  pointwise []

theorem lam_re : E0 m' c (Proc.devRef .tc main_v13_2) = m' ((c.tc : Thread nD τ).loc main_arg7) := by
  simp only [E0, entryContents, afterL_cons, afterL_nil]
  after_reads_simp
  rfl

theorem lam_im : E0 m' c (Proc.devRef .tc main_v13_3) = m' ((c.tc : Thread nD τ).loc main_arg8) := by
  simp only [E0, entryContents, afterL_cons, afterL_nil]
  after_reads_simp
  rfl

theorem and_one : ∀ x y : BitVec 1, IntOp.andi x y = 1#1 → x = 1#1 ∧ y = 1#1 := by decide

/-- An array whose magnitudes are all below infinity holds real numbers. -/
theorem finite_of {s : Shape} {axes : List (Fin s.rank)} (a : FVec Ideal s .f32) (hb : Cert.Pre_tame.S_.BroadcastsInDim s (![] : Fin 0 → Fin s.rank)) (hr : s.ReducesTo axes Cert.Pre_tame.S_)
    (hu : 0 < Cert.Pre_tame.S_.numel) (j : Cert.Pre_tame.S_.Idx)
    (e : Host.reduce IntOp.andi (cmpf .olt (Host.absf a) (broadcastInDim s ![] hb (constant Cert.Pre_tame.S_ .f32 0x7F800000#32))) (constantI Cert.Pre_tame.S_ 1 1#1) hr hu j = 1#1) (i : s.Idx) :
    (a i : EReal) = ((EReal.toReal (a i) : ℝ) : EReal) := by
  have h := Host.reduce_andi_all (t := Cert.Pre_tame.S_) _ _ hr hu j e i
  pointwise [] at h
  have hlt : max (a i : EReal) (-(a i : EReal)) < Ideal.ofBits FTy.f32 2139095040#32 := by
    by_contra hn
    have hd : decide (FloatOps.absf (a i) < Ideal.ofBits FTy.f32 2139095040#32) = false := decide_eq_false hn
    rw [hd] at h
    exact absurd h (by decide)
  have h1 : (a i : EReal) ≠ ⊤ := ((le_max_left _ _).trans_lt hlt).ne_top
  have h2 : (a i : EReal) ≠ ⊥ := fun hb => by
    have h3 : -(a i : EReal) ≠ ⊤ := ((le_max_right _ _).trans_lt hlt).ne_top
    exact h3 (by rw [hb]; rfl)
  exact (EReal.coe_toReal h1 h2).symm

section
variable {m : (ℓ : Loc Cert.KernelIdeal.nD Cert.KernelIdeal.τ Cert.KernelIdeal.sig) → Buf (Elt Ideal) ℓ}

/-- The real numbers the finite arguments hold. -/
def LR (m : (ℓ : Loc Cert.KernelIdeal.nD Cert.KernelIdeal.τ Cert.KernelIdeal.sig) → Buf (Elt Ideal) ℓ) (c : Dev Cert.KernelIdeal.nD) (q : Fin 2048) : ℝ :=
  EReal.toReal ((m (c, Proc.devRef .tc Cert.KernelIdeal.main_arg7) : Vec Ideal S32x64 .f32) (ix2 ⟨q.val / 64, by omega⟩ ⟨q.val % 64, by omega⟩))
def LI (m : (ℓ : Loc Cert.KernelIdeal.nD Cert.KernelIdeal.τ Cert.KernelIdeal.sig) → Buf (Elt Ideal) ℓ) (c : Dev Cert.KernelIdeal.nD) (q : Fin 2048) : ℝ :=
  EReal.toReal ((m (c, Proc.devRef .tc Cert.KernelIdeal.main_arg8) : Vec Ideal S32x64 .f32) (ix2 ⟨q.val / 64, by omega⟩ ⟨q.val % 64, by omega⟩))
def YR (m : (ℓ : Loc Cert.KernelIdeal.nD Cert.KernelIdeal.τ Cert.KernelIdeal.sig) → Buf (Elt Ideal) ℓ) (c : Dev Cert.KernelIdeal.nD) (n q : ℕ) : ℝ :=
  EReal.toReal (YS m c n q)
def CR (m : (ℓ : Loc Cert.KernelIdeal.nD Cert.KernelIdeal.τ Cert.KernelIdeal.sig) → Buf (Elt Ideal) ℓ) (c : Dev Cert.KernelIdeal.nD) (g : Fin 32) (i : Fin 16) (p : Fin 64) : ℝ :=
  EReal.toReal (rd3 (m (c, Proc.devRef .tc Cert.KernelIdeal.main_arg11)) g i p)
def CI (m : (ℓ : Loc Cert.KernelIdeal.nD Cert.KernelIdeal.τ Cert.KernelIdeal.sig) → Buf (Elt Ideal) ℓ) (c : Dev Cert.KernelIdeal.nD) (g : Fin 32) (i : Fin 16) (p : Fin 64) : ℝ :=
  EReal.toReal (rd3 (m (c, Proc.devRef .tc Cert.KernelIdeal.main_arg12)) g i p)

theorem real4 (h : Cert.Pre_KernelIdeal_tame m) (c : Dev Cert.KernelIdeal.nD) : Real4 m c (LR m c) (LI m c) (YR m c) (CR m c) (CI m c) := by
  have e := congrFun (h c) (Shape.Idx.first (s := Cert.Pre_tame.S_) (by decide))
  unfold Cert.Pre_tame.fn at e
  dsimp only at e
  unfold Cert.Pre_tame.fn_part1 at e
  dsimp only at e
  obtain ⟨e, e12⟩ := and_one _ _ e
  obtain ⟨e, e11⟩ := and_one _ _ e
  obtain ⟨e, e8⟩ := and_one _ _ e
  obtain ⟨e3, e7⟩ := and_one _ _ e
  refine ⟨⟨fun q => finite_of _ _ _ _ _ e7 _, fun q => finite_of _ _ _ _ _ e8 _⟩, fun n q => ?_, fun i j k => finite_of _ _ _ _ _ e11 (ix3 i j k), fun i j k => finite_of _ _ _ _ _ e12 (ix3 i j k)⟩
  unfold YR YS at2
  split
  · exact finite_of _ _ _ _ _ e3 _
  · rfl
end

section
variable {m : (ℓ : Loc Cert.KernelIdeal.nD Cert.KernelIdeal.τ Cert.KernelIdeal.sig) → Buf (Elt Ideal) ℓ}
variable {lr li : Fin 2048 → ℝ} {yr : ℕ → ℕ → ℝ} {cr ci : Fin 32 → Fin 16 → Fin 64 → ℝ}

variable (m lr li cr ci) in
/-- The two programs start from the same arguments. -/
structure Agree : Prop where
  a0 : ∀ n q, (m' ((c.tc : Thread nD τ).loc main_arg0) : Vec Ideal S2048x2048 .f32) (ix2 n q) = Z m c n.val q.val
  a1 : ∀ n q, (m' ((c.tc : Thread nD τ).loc main_arg1) : Vec Ideal S2048x4096 .bf16) (ix2 n q) = HS m c n.val q.val
  a2 : ∀ n q, (m' ((c.tc : Thread nD τ).loc main_arg2) : Vec Ideal S2048x512 .f32) (ix2 n q) = YA m c n.val q.val
  a3 : ∀ n q, (m' ((c.tc : Thread nD τ).loc main_arg3) : Vec Ideal S2048x512 .f32) (ix2 n q) = YS m c n.val q.val
  a4 : ∀ n q, (m' ((c.tc : Thread nD τ).loc main_arg4) : Vec Ideal S3x512 .f32) (ix2 n q) = CW m c n.val q.val
  a5 : ∀ q, (m' ((c.tc : Thread nD τ).loc main_arg5) : Vec Ideal S512 .f32) (ix1 q) = CB m c q
  a6 : ∀ g j, (m' ((c.tc : Thread nD τ).loc main_arg6) : Vec Ideal S32x16 .f32) (ix2 g j) = DD m c ⟨16 * g.val + j.val, by omega⟩
  a7 : ∀ g p, (m' ((c.tc : Thread nD τ).loc main_arg7) : Vec Ideal S32x64 .f32) (ix2 g p) = (lr (lane g p) : EReal)
  a8 : ∀ g p, (m' ((c.tc : Thread nD τ).loc main_arg8) : Vec Ideal S32x64 .f32) (ix2 g p) = (li (lane g p) : EReal)
  a9 : ∀ g p j, (m' ((c.tc : Thread nD τ).loc main_arg9) : Vec Ideal S32x64x16 .f32) (ix3 g p j) = rd3 (m (c, Proc.devRef .tc Cert.KernelIdeal.main_arg9)) g p j
  a10 : ∀ g p j, (m' ((c.tc : Thread nD τ).loc main_arg10) : Vec Ideal S32x64x16 .f32) (ix3 g p j) = rd3 (m (c, Proc.devRef .tc Cert.KernelIdeal.main_arg10)) g p j
  a11 : ∀ g i p, (m' ((c.tc : Thread nD τ).loc main_arg11) : Vec Ideal S32x16x64 .f32) (ix3 g i p) = (cr g i p : EReal)
  a12 : ∀ g i p, (m' ((c.tc : Thread nD τ).loc main_arg12) : Vec Ideal S32x16x64 .f32) (ix3 g i p) = (ci g i p : EReal)

variable {m' c} (a : Agree m' c m lr li cr ci) (h : ∀ n q : ℕ, YS m c n q = (yr n q : EReal))
include a h

theorem start : Trip lr li (drive yr cr) (drive yr fun i j k => -ci i j k) 0 (E0 m' c) where
  dr n g p := by
    rw [dot_re]
    unfold drive
    rw [coe_sum']
    refine @Finset.sum_congr _ EReal _ _ _ _ _ rfl fun i _ => ?_
    have e3 : q3 m' c n ⟨16 * g.val + i.val, by omega⟩ = YS m c n.val (16 * g.val + i.val) := a.a3 _ _
    have e11 : q11 m' c g i p = (cr g i p : EReal) := a.a11 g i p
    rw [e3, e11, h, ← EReal.coe_mul]
    have eg : (64 * g.val + p.val) / 64 = g.val := by omega
    have ep : (64 * g.val + p.val) % 64 = p.val := by omega
    have en : 2047 - (2047 - n.val) = n.val := by omega
    simp only [lane, eg, ep, en]
  di n g p := by
    rw [dot_im]
    unfold drive
    rw [coe_sum']
    refine @Finset.sum_congr _ EReal _ _ _ _ _ rfl fun i _ => ?_
    have e3 : q3 m' c n ⟨16 * g.val + i.val, by omega⟩ = YS m c n.val (16 * g.val + i.val) := a.a3 _ _
    have e12 : q12 m' c g i p = (ci g i p : EReal) := a.a12 g i p
    rw [e3, e12, h, ← EReal.coe_neg, ← EReal.coe_mul]
    have eg : (64 * g.val + p.val) / 64 = g.val := by omega
    have ep : (64 * g.val + p.val) % 64 = p.val := by omega
    have en : 2047 - (2047 - n.val) = n.val := by omega
    simp only [lane, eg, ep, en, neg_mul, mul_neg]
  wr g p := by
    rw [lam_re]
    exact a.a7 g p
  wi g p := by
    rw [lam_im]
    exact a.a8 g p
  count := ctr_entry m' c
  cr g p := by
    rw [car_re]
    simp [gs, gst]
  ci g p := by
    rw [car_im]
    simp [gs, gst]
  gr n g p hn := absurd hn (by omega)
  gi n g p hn := absurd hn (by omega)

theorem ends : Ends m c lr li (drive yr cr) (drive yr fun i j k => -ci i j k) (STEP^[2048] (E0 m' c)) := by
  have t := trips (start a h) 2048 le_rfl
  refine ⟨fun n q => ?_, fun n q => ?_, fun n q => ?_, fun n q => ?_, fun n q => ?_, fun q => ?_, fun g j => ?_, fun g p j => ?_, fun g p j => ?_, fun n g p => ?_, fun n g p => ?_⟩
  · rw [iter_main_arg0]; exact a.a0 n q
  · rw [iter_main_arg1]; exact a.a1 n q
  · rw [iter_main_arg2]; exact a.a2 n q
  · rw [iter_main_arg3]; exact a.a3 n q
  · rw [iter_main_arg4]; exact a.a4 n q
  · rw [iter_main_arg5]; exact a.a5 q
  · rw [iter_main_arg6]; exact a.a6 g j
  · rw [iter_main_arg9]; exact a.a9 g p j
  · rw [iter_main_arg10]; exact a.a10 g p j
  · refine (t.gr n g p (by omega)).trans ?_
    unfold GG
    rw [gval_re _ (lane g p) rfl]
  · refine (t.gi n g p (by omega)).trans ?_
    unfold GG
    rw [gval_im _ (lane g p) rfl]
end

theorem algebraic : Cert.algebraic_KernelIdeal_ReferenceIdeal_pre_tame := fun m g m' g' hpre hag => by
  have R := fun c => real4 hpre c
  have H := fun c => reads m c (R c)
  have A : ∀ c, Agree m' c m (LR m c) (LI m c) (CR m c) (CI m c) := fun c => by
    have lane_eq : ∀ (x : Vec Ideal S32x64 .f32) (g : Fin 32) (p : Fin 64), x (ix2 ⟨(lane g p).val / 64, by have := (lane g p).isLt; omega⟩ ⟨(lane g p).val % 64, by omega⟩) = x (ix2 g p) := by
      intro x g p
      have eg : (64 * g.val + p.val) / 64 = g.val := by omega
      have ep : (64 * g.val + p.val) % 64 = p.val := by omega
      simp only [lane, eg, ep]
    have dd_eq : ∀ (x : Vec Ideal S32x16 .f32) (g : Fin 32) (j : Fin 16), x (ix2 g j) = x (ix2 ⟨(16 * g.val + j.val) / 16, by omega⟩ ⟨(16 * g.val + j.val) % 16, by omega⟩) := by
      intro x g j
      have eg : (16 * g.val + j.val) / 16 = g.val := by omega
      have ep : (16 * g.val + j.val) % 16 = j.val := by omega
      simp only [eg, ep]
    obtain ⟨h0, h1, h2, h3, h4, h5, h6, h7, h8, h9, h10, h11, h12⟩ := hag c
    exact ⟨fun n q => (congrFun h0 (ix2 n q)).trans (at2_of (fun i j => (m (c, Proc.devRef .tc Cert.KernelIdeal.main_arg0) : Vec Ideal S2048x2048 .f32) (ix2 i j)) n q _ _ rfl rfl).symm,
      fun n q => (congrFun h1 (ix2 n q)).trans (at2_of (fun i j => (m (c, Proc.devRef .tc Cert.KernelIdeal.main_arg1) : Vec Ideal S2048x4096 .bf16) (ix2 i j)) n q _ _ rfl rfl).symm,
      fun n q => (congrFun h2 (ix2 n q)).trans (at2_of (fun i j => (m (c, Proc.devRef .tc Cert.KernelIdeal.main_arg2) : Vec Ideal S2048x512 .f32) (ix2 i j)) n q _ _ rfl rfl).symm,
      fun n q => (congrFun h3 (ix2 n q)).trans (at2_of (fun i j => (m (c, Proc.devRef .tc Cert.KernelIdeal.main_arg3) : Vec Ideal S2048x512 .f32) (ix2 i j)) n q _ _ rfl rfl).symm,
      fun n q => (congrFun h4 (ix2 n q)).trans (at2_of (fun i j => (m (c, Proc.devRef .tc Cert.KernelIdeal.main_arg4) : Vec Ideal S3x512 .f32) (ix2 i j)) n q _ _ rfl rfl).symm,
      fun q => congrFun h5 (ix1 q),
      fun g j => (congrFun h6 (ix2 g j)).trans (dd_eq _ g j),
      fun g p => ((congrFun h7 (ix2 g p)).trans (lane_eq _ g p).symm).trans ((R c).lam.re (lane g p)),
      fun g p => ((congrFun h8 (ix2 g p)).trans (lane_eq _ g p).symm).trans ((R c).lam.im (lane g p)),
      fun g p j => congrFun h9 (ix3 g p j),
      fun g p j => congrFun h10 (ix3 g p j),
      fun g i p => (congrFun h11 (ix3 g i p)).trans ((R c).re g i p),
      fun g i p => (congrFun h12 (ix3 g i p)).trans ((R c).im g i p)⟩
  have W := fun c => ends (A c) (R c).ys
  refine ⟨fun c y => dz m c (LR m c) (LI m c) (drive (YR m c) (CR m c)) (drive (YR m c) fun i j k => -CI m c i j k) (y 0).val (y 1),
    fun c y => GG (LR m c) (LI m c) (drive (YR m c) (CR m c)) (drive (YR m c) fun i j k => -CI m c i j k) (y 1).val (y 2),
    fun c y => Z m c (y 1).val (1536 + (y 2).val),
    fun c y => YS m c (y 1).val (y 2).val,
    fun c y => (if (y 0).val = 0 then ∑ x : Fin 8, ∑ z : Fin 256, S5.LT m c (LR m c) (LI m c) (drive (YR m c) (CR m c)) (drive (YR m c) fun i j k => -CI m c i j k) (8 * z.val + x.val) (y 1)
      else ∑ z : Fin 256, S5.LT m c (LR m c) (LI m c) (drive (YR m c) (CR m c)) (drive (YR m c) fun i j k => -CI m c i j k) (8 * z.val + (y 0).val) (y 1) : EReal),
    fun c y => (∑ z : Fin 2048, WT m c (y 0).val z.val (y 1).val : EReal),
    (θ_run _ _ _).mono (fun r h c => ?_) (Cert.KernelIdeal.Value.run_blocks m g),
    (θ_run _ _ _).mono (fun r h c => ?_) (Cert.ReferenceIdeal.Value.run (F := Ideal) m' g')⟩
  · obtain ⟨h0, h1, h2, h3, h4, h5, hk⟩ := h c
    exact ⟨h0.trans (arr12 (H c)), h1.trans (arr13 (H c)), h2.trans arr14, h3.trans arr15, h4.trans (arr16 (H c)), h5.trans arr17, hk⟩
  · obtain ⟨h0, h1, h2, h3, h4, h5, hk⟩ := h c
    exact ⟨h0.trans (funext fun y => ref175 (W c) y), h1.trans (funext fun y => ref178 (W c) y), h2.trans (funext fun y => ref180 (W c) y), h3.trans (funext fun y => ref182 (W c) y),
      h4.trans (funext fun y => ref173 (W c) y), h5.trans (funext fun y => ref186 (W c) y), hk⟩

end Cert.Proof.S5R
-- ==== Proof.Twin.lean ====
/- The kernel and its idealization run alike, so one frame serves both. -/
module
public import proofs.«01_k».proof.Defs
public import proofs.«01_k».proof.Proof.Whole
public import proofs.«01_k».proof.Proof.Gen.Kernel
@[expose] public section

namespace Cert.Proof
open Idealize.ShloMosaic Idealize.SL.Sem
set_option maxHeartbeats 8000000 in
theorem e_cc : @Cert.Kernel.cc0_s5conv_bwd Bits _ _ = @Cert.KernelIdeal.cc0_s5conv_bwd Bits _ _ := rfl
set_option maxHeartbeats 4000000 in
theorem e_d : Cert.Kernel.defs₀ (F := Bits) = Cert.KernelIdeal.defs₀ (F := Bits) := by
  unfold Cert.Kernel.defs₀ Cert.KernelIdeal.defs₀
  refine congrArg Defs.onTc (funext fun x => funext fun a => ?_)
  match x, a with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun e_cc _) _) _) _) _) _) _) _) _) _) _) _) _) _) _) _) _) _) _) _) _) _) _) _) _) _) _) _) _) _) _) _) _) _) _) _) _) _) _) _) _) _) _
set_option maxHeartbeats 4000000 in
theorem e_defs : Cert.Kernel.defs (F := Bits) = Cert.KernelIdeal.defs (F := Bits) := by
  show Pipeline.defs _ _ = Pipeline.defs _ _
  exact congrArg (Pipeline.defs _) e_d
set_option maxHeartbeats 8000000 in
theorem maine  : Cert.Kernel.main (F := Bits) = Cert.KernelIdeal.main (F := Bits)  := rfl
set_option maxHeartbeats 4000000 in
theorem frame_kernel : Cert.quiescent_Kernel := fun m ρ _ => by
  have h := (Cert.KernelIdeal.Gen.frame (F := Bits) m ρ)
  rw [← e_defs] at h
  exact h
end Cert.Proof
-- ==== Proof.WgradValue.lean ====
/- The weight gradients of the feed-forward layer: what the call's result array holds, index by index. -/
module

public import proofs.«01_k».proof.Defs
public import proofs.«01_k».proof.Proof.Gen.WgradIdeal.Value
public import proofs.«01_k».proof.Proof.Gen.WgradReferenceIdeal.Run
public import Idealize.ShloMosaic.Lib.Pipeline.ValueKit
public import Idealize.ShloMosaic.Lib.Pointwise

@[expose] public section

set_option maxRecDepth 16384

noncomputable section

namespace Cert.Proof.Wgrad

open Idealize.ShloMosaic Idealize.SL.Sem Cert.WgradIdeal
open Cert.WgradIdeal.Gen Idealize.ShloMosaic.TcCoe

/-- Which of the two right operands the gradient `i` multiplies by. -/
def src (i : Fin 3) : Fin 2 := ⟨i.val - 1, by omega⟩

/-- Gradient `i`: the sum over the tokens of the left operand's column against the right operand's. -/
def G (a : Vec Ideal S3x2048x2816 .bf16) (b : Vec Ideal S2x2048x1024 .bf16) : Vec Ideal S3x2816x1024 .bf16 :=
  fun x => ∑ t : Fin 2048, (a (ix3 (x 0) t (x 1)) * b (ix3 (src (x 0)) t (x 2)) : EReal)

theorem e0 : ∀ t : Fin cfg0.N, win0_0.index t = ![t.val / 11, 0, t.val % 11] := by decide +kernel
theorem e1 : ∀ t : Fin cfg0.N, win0_1.index t = ![t.val / 11 - 1, 0, 0] := by decide +kernel
theorem e2 : ∀ t : Fin cfg0.N, win0_2.index t = ![t.val / 11, t.val % 11, 0] := by decide +kernel

variable (m : (ℓ : Loc nD τ sig) → Buf (Elt Ideal) ℓ)

theorem value (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  idx_vars y
  pointwise [G]
  refine @Finset.sum_congr _ EReal _ _ _ _ _ rfl fun x _ => ?_
  have hy0 : y0.val = 0 := by omega
  congr 1
  · show m (c.tc.loc main_arg0) _ = m (c.tc.loc main_arg0) _
    congr 1
    funext a; apply Fin.ext
    fin_cases a <;> blk_simp [e0, e2] <;> simp [ix3, e0, e2, hy0]
  · show m (c.tc.loc main_arg1) _ = m (c.tc.loc main_arg1) _
    congr 1
    funext a; apply Fin.ext
    fin_cases a <;> blk_simp [e1, e2, src] <;> simp [ix3, e1, e2, hy0, src]

theorem algebraic : Cert.algebraic_WgradIdeal_WgradReferenceIdeal := fun m g m' g' _ hag => by
  refine ⟨fun c => G (m ((c : Thread nD τ).loc main_arg0)) (m ((c : Thread nD τ).loc main_arg1)),
    (θ_run _ _ _).mono (fun r h c => ⟨(h c).1.trans (value m c), (h c).2⟩) (Cert.WgradIdeal.Value.run_blocks m g),
    (θ_run _ _ _).mono (fun r h c => ⟨(h c).1.trans ?_, (h c).2⟩) (Cert.WgradReferenceIdeal.Value.run (F := Ideal) m' g')⟩
  rw [(hag c).1, (hag c).2]
  funext y
  idx_vars y
  pointwise [G]
  clear h
  fin_cases y0
  · rfl
  · rfl
  · refine (dif_neg (by decide)).trans ((dif_neg (by decide)).trans ?_)
    exact @Finset.sum_congr _ EReal _ _ _ _ _ rfl fun x _ => mul_comm (G := EReal) _ _

end Cert.Proof.Wgrad

end
-- ==== Proof.ColValue.lean ====
/- The weight gradients of the projections, the gate and the embedding: what each call's result array holds, index by index. -/
module

public import proofs.«01_k».proof.Defs
public import proofs.«01_k».proof.Proof.Gen.WinIdeal.Value
public import proofs.«01_k».proof.Proof.Gen.WinReferenceIdeal.Run
public import proofs.«01_k».proof.Proof.Gen.WoutIdeal.Value
public import proofs.«01_k».proof.Proof.Gen.WoutReferenceIdeal.Run
public import proofs.«01_k».proof.Proof.Gen.GluIdeal.Value
public import proofs.«01_k».proof.Proof.Gen.GluReferenceIdeal.Run
public import proofs.«01_k».proof.Proof.Gen.PleIdeal.Value
public import proofs.«01_k».proof.Proof.Gen.PleReferenceIdeal.Run
public import Idealize.ShloMosaic.Lib.Pipeline.ValueKit
public import Idealize.ShloMosaic.Lib.Pointwise

@[expose] public section

set_option maxRecDepth 16384

noncomputable section

open Idealize.ShloMosaic Idealize.SL.Sem Idealize.ShloMosaic.TcCoe

namespace Cert.Proof.Win
open Cert.WinIdeal Cert.WinIdeal.Gen

/-- The sum over the tokens of a column of the left operand against a column of the right one. -/
def G (a : Vec Ideal S1x2048x2048 .bf16) (b : Vec Ideal S1x2048x1024 .bf16) : Vec Ideal S1x2048x1024 .bf16 :=
  fun x => ∑ t : Fin 2048, (a (ix3 (0 : Fin 1) t (x 1)) * b (ix3 (0 : Fin 1) t (x 2)) : EReal)

theorem e0 : ∀ t : Fin cfg0.N, win0_0.index t = ![0, 0, t.val] := by decide +kernel
theorem e1 : ∀ t : Fin cfg0.N, win0_1.index t = ![0, 0, 0] := by decide +kernel
theorem e2 : ∀ t : Fin cfg0.N, win0_2.index t = ![0, t.val, 0] := by decide +kernel

variable (m : (ℓ : Loc nD τ sig) → Buf (Elt Ideal) ℓ)

theorem value (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  idx_vars y
  pointwise [G]
  refine @Finset.sum_congr _ EReal _ _ _ _ _ rfl fun x _ => ?_
  have hy0 : y0.val = 0 := by omega
  congr 1
  · show m (c.tc.loc main_arg0) _ = m (c.tc.loc main_arg0) _
    congr 1
    funext a; apply Fin.ext
    fin_cases a <;> blk_simp [e0, e2] <;> simp [ix3, e0, e2, hy0]
  · show m (c.tc.loc main_arg1) _ = m (c.tc.loc main_arg1) _
    congr 1
    funext a; apply Fin.ext
    fin_cases a <;> blk_simp [e1, e2] <;> simp [ix3, e1, e2, hy0]

theorem algebraic : Cert.algebraic_WinIdeal_WinReferenceIdeal := fun m g m' g' _ hag => by
  refine ⟨fun c => G (m ((c : Thread nD τ).loc main_arg0)) (m ((c : Thread nD τ).loc main_arg1)),
    (θ_run _ _ _).mono (fun r h c => ⟨(h c).1.trans (value m c), (h c).2⟩) (Cert.WinIdeal.Value.run_blocks m g),
    (θ_run _ _ _).mono (fun r h c => ⟨(h c).1.trans ?_, (h c).2⟩) (Cert.WinReferenceIdeal.Value.run (F := Ideal) m' g')⟩
  rw [(hag c).1, (hag c).2]
  funext y
  idx_vars y
  simp only [pointwise, G]
  refine (zero_add (M := EReal) _).trans (@Finset.sum_congr _ EReal _ _ _ _ _ rfl fun x _ => ?_)
  refine congr (congrArg HMul.hMul ?_) ?_
  · exact congrArg (m (c.tc.loc main_arg0)) (congrArg (ix3 (0 : Fin 1) x) (dif_neg (by decide)))
  · exact congrArg (m (c.tc.loc main_arg1)) (congrArg (ix3 (0 : Fin 1) x) (dif_neg (by decide)))

end Cert.Proof.Win

namespace Cert.Proof.Wout
open Cert.WoutIdeal Cert.WoutIdeal.Gen

/-- The sum over the tokens of a column of the left operand against a column of the right one. -/
def G (a : Vec Ideal S1x2048x1024 .bf16) (b : Vec Ideal S1x2048x1024 .bf16) : Vec Ideal S1x1024x1024 .bf16 :=
  fun x => ∑ t : Fin 2048, (a (ix3 (0 : Fin 1) t (x 1)) * b (ix3 (0 : Fin 1) t (x 2)) : EReal)

theorem e0 : ∀ t : Fin cfg0.N, win0_0.index t = ![0, 0, t.val] := by decide +kernel
theorem e1 : ∀ t : Fin cfg0.N, win0_1.index t = ![0, 0, 0] := by decide +kernel
theorem e2 : ∀ t : Fin cfg0.N, win0_2.index t = ![0, t.val, 0] := by decide +kernel

variable (m : (ℓ : Loc nD τ sig) → Buf (Elt Ideal) ℓ)

theorem value (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  idx_vars y
  pointwise [G]
  refine @Finset.sum_congr _ EReal _ _ _ _ _ rfl fun x _ => ?_
  have hy0 : y0.val = 0 := by omega
  congr 1
  · show m (c.tc.loc main_arg0) _ = m (c.tc.loc main_arg0) _
    congr 1
    funext a; apply Fin.ext
    fin_cases a <;> blk_simp [e0, e2] <;> simp [ix3, e0, e2, hy0]
  · show m (c.tc.loc main_arg1) _ = m (c.tc.loc main_arg1) _
    congr 1
    funext a; apply Fin.ext
    fin_cases a <;> blk_simp [e1, e2] <;> simp [ix3, e1, e2, hy0]

theorem algebraic : Cert.algebraic_WoutIdeal_WoutReferenceIdeal := fun m g m' g' _ hag => by
  refine ⟨fun c => G (m ((c : Thread nD τ).loc main_arg0)) (m ((c : Thread nD τ).loc main_arg1)),
    (θ_run _ _ _).mono (fun r h c => ⟨(h c).1.trans (value m c), (h c).2⟩) (Cert.WoutIdeal.Value.run_blocks m g),
    (θ_run _ _ _).mono (fun r h c => ⟨(h c).1.trans ?_, (h c).2⟩) (Cert.WoutReferenceIdeal.Value.run (F := Ideal) m' g')⟩
  rw [(hag c).1, (hag c).2]
  funext y
  idx_vars y
  simp only [pointwise, G]
  refine (zero_add (M := EReal) _).trans (@Finset.sum_congr _ EReal _ _ _ _ _ rfl fun x _ => ?_)
  refine (mul_comm (G := EReal) _ _).trans (congr (congrArg HMul.hMul ?_) ?_)
  · exact congrArg (m (c.tc.loc main_arg0)) (congrArg (ix3 (0 : Fin 1) x) (dif_neg (by decide)))
  · exact congrArg (m (c.tc.loc main_arg1)) (congrArg (ix3 (0 : Fin 1) x) (dif_neg (by decide)))

end Cert.Proof.Wout

namespace Cert.Proof.Glu
open Cert.GluIdeal Cert.GluIdeal.Gen

/-- The sum over the tokens of a column of the left operand against a column of the right one. -/
def G (a : Vec Ideal S1x2048x512 .bf16) (b : Vec Ideal S1x2048x512 .bf16) : Vec Ideal S1x512x512 .bf16 :=
  fun x => ∑ t : Fin 2048, (a (ix3 (0 : Fin 1) t (x 1)) * b (ix3 (0 : Fin 1) t (x 2)) : EReal)

theorem e0 : ∀ t : Fin cfg0.N, win0_0.index t = ![0, 0, t.val] := by decide +kernel
theorem e1 : ∀ t : Fin cfg0.N, win0_1.index t = ![0, 0, 0] := by decide +kernel
theorem e2 : ∀ t : Fin cfg0.N, win0_2.index t = ![0, t.val, 0] := by decide +kernel

variable (m : (ℓ : Loc nD τ sig) → Buf (Elt Ideal) ℓ)

theorem value (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  idx_vars y
  pointwise [G]
  refine @Finset.sum_congr _ EReal _ _ _ _ _ rfl fun x _ => ?_
  have hy0 : y0.val = 0 := by omega
  congr 1
  · show m (c.tc.loc main_arg0) _ = m (c.tc.loc main_arg0) _
    congr 1
    funext a; apply Fin.ext
    fin_cases a <;> blk_simp [e0, e2] <;> simp [ix3, e0, e2, hy0]
  · show m (c.tc.loc main_arg1) _ = m (c.tc.loc main_arg1) _
    congr 1
    funext a; apply Fin.ext
    fin_cases a <;> blk_simp [e1, e2] <;> simp [ix3, e1, e2, hy0]

theorem algebraic : Cert.algebraic_GluIdeal_GluReferenceIdeal := fun m g m' g' _ hag => by
  refine ⟨fun c => G (m ((c : Thread nD τ).loc main_arg0)) (m ((c : Thread nD τ).loc main_arg1)),
    (θ_run _ _ _).mono (fun r h c => ⟨(h c).1.trans (value m c), (h c).2⟩) (Cert.GluIdeal.Value.run_blocks m g),
    (θ_run _ _ _).mono (fun r h c => ⟨(h c).1.trans ?_, (h c).2⟩) (Cert.GluReferenceIdeal.Value.run (F := Ideal) m' g')⟩
  rw [(hag c).1, (hag c).2]
  funext y
  idx_vars y
  simp only [pointwise, G]
  refine (zero_add (M := EReal) _).trans (@Finset.sum_congr _ EReal _ _ _ _ _ rfl fun x _ => ?_)
  refine (mul_comm (G := EReal) _ _).trans (congr (congrArg HMul.hMul ?_) ?_)
  · exact congrArg (m (c.tc.loc main_arg0)) (congrArg (ix3 (0 : Fin 1) x) (dif_neg (by decide)))
  · exact congrArg (m (c.tc.loc main_arg1)) (congrArg (ix3 (0 : Fin 1) x) (dif_neg (by decide)))

end Cert.Proof.Glu

namespace Cert.Proof.Ple
open Cert.PleIdeal Cert.PleIdeal.Gen

/-- The sum over the tokens of a column of the left operand against a column of the right one. -/
def G (a : Vec Ideal S1x2048x1024 .bf16) (b : Vec Ideal S1x2048x256 .bf16) : Vec Ideal S1x1024x256 .bf16 :=
  fun x => ∑ t : Fin 2048, (a (ix3 (0 : Fin 1) t (x 1)) * b (ix3 (0 : Fin 1) t (x 2)) : EReal)

theorem e0 : ∀ t : Fin cfg0.N, win0_0.index t = ![0, 0, t.val] := by decide +kernel
theorem e1 : ∀ t : Fin cfg0.N, win0_1.index t = ![0, 0, 0] := by decide +kernel
theorem e2 : ∀ t : Fin cfg0.N, win0_2.index t = ![0, t.val, 0] := by decide +kernel

variable (m : (ℓ : Loc nD τ sig) → Buf (Elt Ideal) ℓ)

theorem value (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  idx_vars y
  pointwise [G]
  refine @Finset.sum_congr _ EReal _ _ _ _ _ rfl fun x _ => ?_
  have hy0 : y0.val = 0 := by omega
  congr 1
  · show m (c.tc.loc main_arg0) _ = m (c.tc.loc main_arg0) _
    congr 1
    funext a; apply Fin.ext
    fin_cases a <;> blk_simp [e0, e2] <;> simp [ix3, e0, e2, hy0]
  · show m (c.tc.loc main_arg1) _ = m (c.tc.loc main_arg1) _
    congr 1
    funext a; apply Fin.ext
    fin_cases a <;> blk_simp [e1, e2] <;> simp [ix3, e1, e2, hy0]

theorem algebraic : Cert.algebraic_PleIdeal_PleReferenceIdeal := fun m g m' g' _ hag => by
  refine ⟨fun c => G (m ((c : Thread nD τ).loc main_arg0)) (m ((c : Thread nD τ).loc main_arg1)),
    (θ_run _ _ _).mono (fun r h c => ⟨(h c).1.trans (value m c), (h c).2⟩) (Cert.PleIdeal.Value.run_blocks m g),
    (θ_run _ _ _).mono (fun r h c => ⟨(h c).1.trans ?_, (h c).2⟩) (Cert.PleReferenceIdeal.Value.run (F := Ideal) m' g')⟩
  rw [(hag c).1, (hag c).2]
  funext y
  idx_vars y
  simp only [pointwise, G]
  refine (zero_add (M := EReal) _).trans (@Finset.sum_congr _ EReal _ _ _ _ _ rfl fun x _ => ?_)
  refine congr (congrArg HMul.hMul ?_) ?_
  · exact congrArg (m (c.tc.loc main_arg0)) (congrArg (ix3 (0 : Fin 1) x) (dif_neg (by decide)))
  · exact congrArg (m (c.tc.loc main_arg1)) (congrArg (ix3 (0 : Fin 1) x) (dif_neg (by decide)))

end Cert.Proof.Ple

end
-- ==== Proof.FwdRun.lean ====
/- One point of the forward call of the gated feed-forward layer. -/
module

public import proofs.«01_k».proof.Proof.Gen.FwdIdeal.Frame
public import proofs.«01_k».proof.Proof.Gen.FwdIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow

@[expose] public section

set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point is the first. -/
abbrev isFirst (i : grid0.Coords) : Prop := (Scalar.cmpi .ne (Scalar.extui (Scalar.cmpi .eq (BitVec.ofNat 32 (i 1).val) 0#32)) 0#32) = 1#1
/-- The point is the last. -/
abbrev isLast (i : grid0.Coords) : Prop := (Scalar.cmpi .ne (Scalar.extui (Scalar.cmpi .eq (BitVec.ofNat 32 (i 1).val) 10#32)) 0#32) = 1#1

/-- Where slot `n` of the two-slot scratch begins: the slots are taken in turn. -/
abbrev off (n : ℕ) : Fin 3 → ℕ := ![n % 2, 0, 0]
theorem off_inb (n : ℕ) : ∀ a, off n a + S1x2048x256.size a ≤ S2x2048x256.size a := by
  intro a; have := Nat.mod_lt n (show 0 < 2 by decide)
  match a with
  | ⟨0, _⟩ => show n % 2 + 1 ≤ 2; omega
  | ⟨1, _⟩ => exact Nat.le_refl 2048
  | ⟨2, _⟩ => exact Nat.le_refl 256
/-- What slot `n` holds. -/
abbrev slot (a : Vec F S2x2048x256 .bf16) (n : ℕ) : Vec F S1x2048x256 .bf16 := VecWindow.window a (off n) S1x2048x256.size (off_inb n)
theorem off1 : ∀ i : grid0.Coords, k0_off1 i = off ((i 1).val + 1) := by decide +kernel
theorem off2 : ∀ i : grid0.Coords, k0_off2 i = off (i 1).val := by decide +kernel
theorem last10 : ∀ i : grid0.Coords, isLast i → (i 1).val = 10 := by decide +kernel
theorem first0 : ∀ i : grid0.Coords, isFirst i → (i 1).val = 0 := by decide +kernel

theorem pos_S : ∀ a, 0 < S1x2048x256.size a := by decide
/-- The gate and the up product laid one above the other. -/
def both (g u : Vec F S1x2048x256 .bf16) : Vec F S2x2048x256 .bf16 :=
  VecWindow.put (VecWindow.put (fun _ => g fun a => ⟨0, pos_S a⟩) ![0, 0, 0] S1x2048x256.size g) ![1, 0, 0] S1x2048x256.size u
theorem both_eq (d : Vec F S2x2048x256 .bf16) (g u : Vec F S1x2048x256 .bf16) :
    VecWindow.put (VecWindow.put d ![0, 0, 0] S1x2048x256.size g) ![1, 0, 0] S1x2048x256.size u = both g u := by
  funext y; unfold both VecWindow.put
  split
  · rfl
  · rename_i h; split
    · rfl
    · rename_i h'
      exfalso
      have h0 := (y 0).isLt; have h1 := (y 1).isLt; have h2 := (y 2).isLt
      change _ < 2 at h0; change _ < 2048 at h1; change _ < 256 at h2
      rcases (by omega : (y 0).val = 0 ∨ (y 0).val = 1) with e | e
      · exact h' fun a => match a with
          | ⟨0, _⟩ => ⟨Nat.zero_le _, by show (y 0).val < 0 + 1; omega⟩
          | ⟨1, _⟩ => ⟨Nat.zero_le _, by show (y 1).val < 0 + 2048; omega⟩
          | ⟨2, _⟩ => ⟨Nat.zero_le _, by show (y 2).val < 0 + 256; omega⟩
      · exact h fun a => match a with
          | ⟨0, _⟩ => ⟨by show 1 ≤ (y 0).val; omega, by show (y 0).val < 1 + 1; omega⟩
          | ⟨1, _⟩ => ⟨Nat.zero_le _, by show (y 1).val < 0 + 2048; omega⟩
          | ⟨2, _⟩ => ⟨Nat.zero_le _, by show (y 2).val < 0 + 256; omega⟩

/-- The accumulator the two products are added to. -/
abbrev z0 : FVec F S2048x512 .f32 := constant S2048x512 .f32 0x00000000#32

theorem c3 {α β γ δ : Type} (f : α → β → γ → δ) {a a' : α} {b b' : β} {d d' : γ} (ha : a = a') (hb : b = b') (hd : d = d') :
    f a b d = f a' b' d' := by subst ha hb hd; rfl

/-- A load of the whole of a buffer that holds `x`. -/
theorem rd {κ : Kind} {sp : Space} {s : Shape} {e : EltTy} {m : Memref sig κ sp s e} (h : m.IsWhole) (x : Vec F s e) {off : Fin s.rank → ℕ}
    {inb : ∀ a, off a + s.size a ≤ s.size a} :
    m.view.readAt (Elt F) (Rect.unit off s.size inb).toLoadRect (h.unread x) = x :=
  (View.readAt_full _ _ _).trans (h.read_unread x)

theorem rdSlot {m : Memref sig .tc .vmem S2x2048x256 .bf16} (h : m.IsWhole) (x : Vec F S2x2048x256 .bf16) {o : Fin 3 → ℕ} {n : ℕ} (e : o = off n)
    {inb : ∀ a, o a + S1x2048x256.size a ≤ S2x2048x256.size a} :
    m.view.readAt (Elt F) (Rect.unit (s := S2x2048x256) o S1x2048x256.size inb).toLoadRect (h.unread x) = slot x n :=
  by subst e; exact (View.readAt_unit _ _ _ rfl _).trans (congrArg (fun x => slot x n) (h.read_unread x))

/-- A load where the last store was reads what was stored. -/
theorem rdBack {κ : Kind} {sp : Space} {s : Shape} {e : EltTy} {V : EltTy → Type} [∀ e, Nonempty (V e)] (v : View sig κ sp s e) {o o' size : Fin s.rank → ℕ}
    (h : o = o') {inb : ∀ a, o a + size a ≤ s.size a} {inb' : ∀ a, o' a + size a ≤ s.size a} (w : (Rect.unit o' size inb').shape.Idx → V e)
    (L : List (View.Piece V s e)) : v.readCov (⟨Rect.unit o' size inb', w⟩ :: L) (Rect.unit o size inb).toLoadRect = w := by
  subst h
  refine (View.readAt_unit v _ inb rfl inb).trans ?_
  rw [View.read_writes_cons_put v _ inb' w L rfl]
  exact VecWindow.window_put_same _ _ _ _ _

set_option maxHeartbeats 4000000 in
theorem run (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S2x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S2048x1024 .f32) (harg7 : arg7.IsWhole) (arg8 : Memref sig .tc .vmem S2x2048x256 .bf16) (harg8 : arg8.IsWhole) (arg9 : Memref sig .tc .vmem S2048x1024 .bf16) (harg9 : arg9.IsWhole) (arg10 : Memref sig .tc .vmem S2x2048x256 .bf16) (harg10 : arg10.IsWhole)
    (hne : isFirst i → isLast i → False)
    (x0 : Vec F S2048x1024 .f32) (x1 : Vec F S1x1024 .f32) (x2 : Vec F S2x256x1024 .bf16) (x3 : Vec F S1x256x1024 .bf16) (x4 : Vec F S1x256x1024 .bf16) (o o' q : Vec F S2048x1024 .f32) (u u' : Vec F S2048x1024 .bf16) (a : Vec F S2x2048x256 .bf16) (p : Vec F S1x2048x256 .bf16)
    (ho : o' = if isFirst i then x0 else o) (hu : u' = if isFirst i then k0_pay2 x0 x1 else u)
    (hp : p = if isFirst i then k0_pay3 else slot a ((i 1).val + 1))
    (hq : q = if isLast i then k0_pay1 (k0_pay4 o' p x3) (k0_pay9 u' (k0_pay5 x2) z0) x4 else k0_pay4 o' p x3)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare o ∗ (∃ d, owns (c : Thread nD τ) arg8 fullShare d) ∗ owns (c : Thread nD τ) arg9 fullShare u ∗ owns (c : Thread nD τ) arg10 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare q ∗ owns (c : Thread nD τ) arg8 fullShare (both (k0_pay10 u' (k0_pay5 x2) z0) (k0_pay11 u' (k0_pay5 x2) z0)) ∗ owns (c : Thread nD τ) arg9 fullShare u' ∗ (∃ d, ⌜slot d (i 1).val = k0_pay9 u' (k0_pay5 x2) z0⌝ ∗ owns (c : Thread nD τ) arg10 fullShare d)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10) K := by
  simp only [cc0_ffn_fwd_eq_skeleton]; unfold cc0_ffn_fwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  by_cases hc0 : isFirst i <;> by_cases hc1 : isLast i
  · exact (hne hc0 hc1).elim
  · have e1 : k0_off1 i = ![1, 0, 0] := by rw [off1, first0 i hc0]
    letI : ClosedOff (k0_off1 i) := ⟨![1, 0, 0], e1⟩
    rw [if_pos hc0] at ho hu hp; rw [if_neg hc1] at hq
    sl_exec (disch := first | sl_exact hc0 | sl_exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro
      subst hq hp ho hu
      refine (View.read_writes_full _ _ _ _ _).trans ?_
      exact c3 k0_pay4 ((View.readCov_full _ _ _ _ _).trans (rd harg2 _)) (rdBack (s := S2x2048x256) _ e1 _ _) (rd harg5 _)
    isplitl [H6]
    · iexists _; isplitr; swap; · iexact H6
      ipureintro
      subst hu
      rw [View.read_writes_cons_put _ _ _ _ _ rfl, View.read_writes_cons_put _ _ _ _ _ rfl, both_eq]
      exact congr (congrArg both (c3 k0_pay10 ((View.readCov_full _ _ _ _ _).trans (congr (congrArg k0_pay2 (rd harg2 _)) (rd harg3 _))) (congrArg k0_pay5 (rd harg4 _)) rfl)) (c3 k0_pay11 ((View.readCov_full _ _ _ _ _).trans (congr (congrArg k0_pay2 (rd harg2 _)) (rd harg3 _))) (congrArg k0_pay5 (rd harg4 _)) rfl)
    isplitl [HS0]
    · iexists _; isplitr; swap; · iexact HS0
      ipureintro
      subst hu
      exact (View.read_writes_full _ _ _ _ _).trans (congr (congrArg k0_pay2 (rd harg2 _)) (rd harg3 _))
    iexists _; isplitr; swap
    · iexists _; isplitr; swap; · iexact HS1
      ipureintro; rfl
    ipureintro
    subst hu
    rw [View.read_writes_cons_put _ _ _ _ _ (off2 i)]
    refine (VecWindow.window_put_same _ _ _ _ _).trans ?_
    exact c3 k0_pay9 ((View.readCov_full _ _ _ _ _).trans (congr (congrArg k0_pay2 (rd harg2 _)) (rd harg3 _))) (congrArg k0_pay5 (rd harg4 _)) rfl
  · have e2 : k0_off2 i = ![0, 0, 0] := by rw [off2, last10 i hc1]
    letI : ClosedOff (k0_off2 i) := ⟨![0, 0, 0], e2⟩
    rw [if_neg hc0] at ho hu hp; rw [if_pos hc1] at hq
    sl_exec (disch := first | sl_exact hc0 | sl_exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro
      subst hq hp ho hu
      refine (View.read_writes_full _ _ _ _ _).trans ?_
      refine c3 k0_pay1 ?_ ?_ (rd harg6 _)
      · exact (View.readCov_full _ _ _ _ _).trans (c3 k0_pay4 (rd harg7 _) (rdSlot harg10 _ (off1 i)) (rd harg5 _))
      · unfold run.sl.v70 run.sl.HS1_1_1
        refine (rdBack (s := S2x2048x256) _ e2.symm _ _).trans ?_
        exact c3 k0_pay9 (rd harg9 _) (congrArg k0_pay5 (rd harg4 _)) rfl
    isplitl [H6]
    · iexists _; isplitr; swap; · iexact H6
      ipureintro
      subst hu
      rw [View.read_writes_cons_put _ _ _ _ _ rfl, View.read_writes_cons_put _ _ _ _ _ rfl, both_eq]
      exact congr (congrArg both (c3 k0_pay10 (rd harg9 _) (congrArg k0_pay5 (rd harg4 _)) rfl)) (c3 k0_pay11 (rd harg9 _) (congrArg k0_pay5 (rd harg4 _)) rfl)
    isplitl [HS0]
    · iexists _; isplitr; swap; · iexact HS0
      ipureintro
      subst hu
      simp only [View.read_writes_full, View.readAt_full, Memref.IsWhole.read_unread]
    iexists _; isplitr; swap
    · iexists _; isplitr; swap; · iexact HS1
      ipureintro; rfl
    ipureintro
    subst hu
    unfold run.sl.HS1_1_1
    rw [View.read_writes_cons_put _ _ _ _ _ (off2 i)]
    refine (VecWindow.window_put_same _ _ _ _ _).trans ?_
    exact c3 k0_pay9 (rd harg9 _) (congrArg k0_pay5 (rd harg4 _)) rfl
  · rw [if_neg hc0] at ho hu hp; rw [if_neg hc1] at hq
    sl_exec (disch := first | sl_exact hc0 | sl_exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro
      subst hq hp ho hu
      refine (View.read_writes_full _ _ _ _ _).trans ?_
      exact c3 k0_pay4 (rd harg7 _) (rdSlot harg10 _ (off1 i)) (rd harg5 _)
    isplitl [H6]
    · iexists _; isplitr; swap; · iexact H6
      ipureintro
      subst hu
      rw [View.read_writes_cons_put _ _ _ _ _ rfl, View.read_writes_cons_put _ _ _ _ _ rfl, both_eq]
      exact congr (congrArg both (c3 k0_pay10 (rd harg9 _) (congrArg k0_pay5 (rd harg4 _)) rfl)) (c3 k0_pay11 (rd harg9 _) (congrArg k0_pay5 (rd harg4 _)) rfl)
    isplitl [HS0]
    · iexists _; isplitr; swap; · iexact HS0
      ipureintro
      subst hu
      simp only [View.read_writes_full, View.readAt_full, Memref.IsWhole.read_unread]
    iexists _; isplitr; swap
    · iexists _; isplitr; swap; · iexact HS1
      ipureintro; rfl
    ipureintro
    subst hu
    rw [View.read_writes_cons_put _ _ _ _ _ (off2 i)]
    refine (VecWindow.window_put_same _ _ _ _ _).trans ?_
    exact c3 k0_pay9 (rd harg9 _) (congrArg k0_pay5 (rd harg4 _)) rfl

end Cert.FwdIdeal.Gen

end
-- ==== Proof.FwdBody.lean ====
/- The forward feed-forward call, from the launch to the end: what every point leaves, and the whole run. -/
module

public import proofs.«01_k».proof.Proof.FwdRun

@[expose] public section

set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_iff : ∀ t : Fin cfg0.N, isFirst (grid0.coords t) ↔ t.val = 0 := by decide +kernel
theorem last_iff : ∀ t : Fin cfg0.N, isLast (grid0.coords t) ↔ t.val = 10 := by decide +kernel
theorem step_val : ∀ t : Fin cfg0.N, (grid0.coords t 1).val = t.val := by decide +kernel

/-- Point `n` of the grid (the last one past the end). -/
def pt (n : ℕ) : Fin cfg0.N := ⟨min n 10, by rw [show cfg0.N = 11 from N_0]; omega⟩
theorem pt_val (t : Fin cfg0.N) : pt t.val = t :=
  Fin.ext (by have := t.isLt; have : cfg0.N = 11 := N_0; show min t.val 10 = t.val; omega)

/-- The normalized tokens, kept from the first point on. -/
def uAt (c : Dev nD) : Vec F S2048x1024 .bf16 := k0_pay2 (iblk m c 0 (pt 0)) (iblk m c 1 (pt 0))
/-- The activation of block `n`. -/
def aAt (c : Dev nD) (n : ℕ) : Vec F S1x2048x256 .bf16 := k0_pay9 (uAt m c) (k0_pay5 (X0_2 m c (pt n))) z0
/-- The activation multiplied at point `n`: that of the block before. -/
def pAt (c : Dev nD) : ℕ → Vec F S1x2048x256 .bf16
  | 0 => k0_pay3
  | n + 1 => aAt m c n
/-- The running sum after point `n`'s first product. -/
def oAt (c : Dev nD) : ℕ → Vec F S2048x1024 .f32
  | 0 => k0_pay4 (iblk m c 0 (pt 0)) k0_pay3 (iblk m c 3 (pt 0))
  | n + 1 => k0_pay4 (oAt c n) (aAt m c n) (iblk m c 3 (pt (n + 1)))
/-- The output's buffer after point `n`. -/
def outAt (c : Dev nD) (n : ℕ) : Vec F S2048x1024 .f32 :=
  if n = 10 then k0_pay1 (oAt m c 10) (aAt m c 10) (iblk m c 4 (pt 10)) else oAt m c n
/-- The two products of point `n`. -/
def guAt (c : Dev nD) (n : ℕ) : Vec F S2x2048x256 .bf16 :=
  both (k0_pay10 (uAt m c) (k0_pay5 (X0_2 m c (pt n))) z0) (k0_pay11 (uAt m c) (k0_pay5 (X0_2 m c (pt n))) z0)

abbrev scM0_0 : Memref sig .tc .vmem S2048x1024 .bf16 := Memref.whole cc0_scratch0
abbrev scM0_1 : Memref sig .tc .vmem S2x2048x256 .bf16 := Memref.whole cc0_scratch1

theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Between the points: the normalized tokens, and the slot of the block just done. -/
def PhiS (c : Dev nD) : (n : ℕ) → n ≤ cfg0.N → sProp 𝕄
  | 0, _ => Pipeline.ΦA spec0 c
  | n + 1, _ => iprop(iprop(owns (c : Thread nD τ) scM0_0 fullShare (uAt m c) ∗ (∃ d, ⌜slot d n = aAt m c n⌝ ∗ owns (c : Thread nD τ) scM0_1 fullShare d)) ∗ (∃ r, prngReg c r))
theorem PhiS_zero (c : Dev nD) (n : ℕ) (h : n ≤ cfg0.N) (hz : n = 0) : PhiS m c n h = Pipeline.ΦA spec0 c := by subst hz; rfl
theorem PhiS_pos (c : Dev nD) (n : ℕ) (h : n ≤ cfg0.N) (hz : n ≠ 0) : PhiS m c n h
    = iprop(iprop(owns (c : Thread nD τ) scM0_0 fullShare (uAt m c) ∗ (∃ d, ⌜slot d (n - 1) = aAt m c (n - 1)⌝ ∗ owns (c : Thread nD τ) scM0_1 fullShare d)) ∗ (∃ r, prngReg c r)) := by
  cases n with
  | zero => exact absurd rfl hz
  | succ n => rfl

/-- What the arrays and the buffers hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => outAt m c t.val
    | ⟨6, _⟩ => guAt m c t.val
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t.val := by dsimp only [dats]
theorem after0_6 (c : Dev nD) (t : Fin cfg0.N) : (dats m 0 c).after 6 t = guAt m c t.val := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = X0_2 m c t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (h : t.val ≠ 0) (d) : (dats m 0 c).before 5 t d = oAt m c (t.val - 1) := by
  have hN : t.val < 11 := Nat.lt_of_lt_of_eq t.isLt N_0
  rw [Dat.before_out_kept _ 5 rfl t (by omega) (Bool.eq_false_iff.mpr fun h => by
    have := (flush0_5 _).mp h; dsimp only at this; omega) (fun _ => rfl) (fun _ _ => rfl)]
  dsimp only [dats]
  exact if_neg (by omega)

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)

/-- What point `t` starts from, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
/-- and what it ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

theorem slot_mod (a : Vec F S2x2048x256 .bf16) {n k : ℕ} (h : n % 2 = k % 2) : slot a n = slot a k := by
  have e : off n = off k := by unfold off; rw [h]
  have g : ∀ (o o' : Fin 3 → ℕ) (ho : ∀ a, o a + S1x2048x256.size a ≤ S2x2048x256.size a) (ho' : ∀ a, o' a + S1x2048x256.size a ≤ S2x2048x256.size a),
      o = o' → VecWindow.window a o S1x2048x256.size ho = VecWindow.window a o' S1x2048x256.size ho' := by rintro _ _ _ _ rfl; rfl
  exact g _ _ _ _ e

theorem not_both (t : Fin cfg0.N) : isFirst (grid0.coords t) → isLast (grid0.coords t) → False := fun h h' => by
  have := (first_iff t).mp h; have := (last_iff t).mp h'; omega

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.succ = iprop(iprop(owns (c : Thread nD τ) scM0_0 fullShare (uAt m c) ∗ (∃ d, ⌜slot d t.val = aAt m c t.val⌝ ∗ owns (c : Thread nD τ) scM0_1 fullShare d)) ∗ (∃ r, prngReg c r)) from rfl]
  have hN : t.val < 11 := Nat.lt_of_lt_of_eq t.isLt N_0
  have hgu : guAt m c t.val = both (k0_pay10 (uAt m c) (k0_pay5 (X0_2 m c t)) z0) (k0_pay11 (uAt m c) (k0_pay5 (X0_2 m c t)) z0) := by
    unfold guAt; rw [pt_val]
  have ha : aAt m c t.val = k0_pay9 (uAt m c) (k0_pay5 (X0_2 m c t)) z0 := by unfold aAt; rw [pt_val]
  by_cases hz : t.val = 0
  · have ht : pt 0 = t := by rw [← hz]; exact pt_val t
    have hf := (first_iff t).mpr hz
    have hl : ¬isLast (grid0.coords t) := fun h => not_both t hf h
    rw [PhiS_castSucc m c t, PhiS_zero m c _ _ hz, PhiA0_eq]
    iintro ⟨⟨⟨⟨%u, HS0⟩, ⟨%a, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply (run c (grid0.coords t) _ _ _ _ _ _ _ _ _ _ _ _ _ _ _ _ _ _ (not_both t) (iblk m c 0 t) (iblk m c 1 t) (X0_2 m c t) (iblk m c 3 t) (iblk m c 4 t)
      ((dats m 0 c).before 5 t d5) (iblk m c 0 t) (outAt m c t.val) u (uAt m c) a k0_pay3 (if_pos hf).symm
      (by rw [if_pos hf, uAt, ht]) (if_pos hf).symm (by rw [if_neg hl, hz, outAt, if_neg (by decide), oAt, ht]) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    rw [← hgu, ← ha, step_val]
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hf : ¬isFirst (grid0.coords t) := fun h => hz ((first_iff t).mp h)
    obtain ⟨n, hn⟩ : ∃ n, t.val = n + 1 := ⟨t.val - 1, by omega⟩
    have ht : pt (n + 1) = t := by rw [← hn]; exact pt_val t
    rw [PhiS_castSucc m c t, PhiS_pos m c _ _ hz]
    simp only [before0_5 m c t hz]
    rw [show t.val - 1 = n by omega]
    iintro ⟨⟨⟨HS0, ⟨%a, %hs, HS1⟩⟩, Hg⟩, Ho, ⟨%d0, H0⟩, ⟨%d1, H1⟩, ⟨%d2, H2⟩, ⟨%d3, H3⟩, ⟨%d4, H4⟩, ⟨%d5, H5⟩, ⟨%d6, H6⟩⟩
    have hq : outAt m c t.val = if isLast (grid0.coords t) then k0_pay1 (k0_pay4 (oAt m c n) (aAt m c n) (iblk m c 3 t)) (k0_pay9 (uAt m c) (k0_pay5 (X0_2 m c t)) z0) (iblk m c 4 t) else k0_pay4 (oAt m c n) (aAt m c n) (iblk m c 3 t) := by
      by_cases h10 : t.val = 10
      · rw [if_pos ((last_iff t).mpr h10), ← ha, outAt, if_pos h10, show pt 10 = t by rw [← h10]; exact pt_val t, h10]
        obtain rfl : n = 9 := by omega
        rw [oAt, ht]
      · rw [if_neg (fun h => h10 ((last_iff t).mp h)), outAt, if_neg h10, hn, oAt, ht]
    iapply (run c (grid0.coords t) _ _ _ _ _ _ _ _ _ _ _ _ _ _ _ _ _ _ (not_both t) (iblk m c 0 t) (iblk m c 1 t) (X0_2 m c t) (iblk m c 3 t) (iblk m c 4 t)
      (oAt m c n) (oAt m c n) (outAt m c t.val) (uAt m c) (uAt m c) a (aAt m c n) (if_neg hf).symm (if_neg hf).symm
      (by rw [if_neg hf, ← hs, step_val]; exact slot_mod a (by omega)) hq Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    rw [← hgu, ← ha, step_val]
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 11 := N_0; omega), PhiA0_eq]
  iintro ⟨⟨HS0, ⟨%d, %hd, HS1⟩⟩, Hg⟩
  isplitl [HS0 HS1]
  · isplitl [HS0]
    · iexists _; iexact HS0
    iexists _; iexact HS1
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FwdIdeal.Gen

end
-- ==== Proof.FwdTwin.lean ====
/- The forward call and its idealization run alike, so one frame serves both. -/
module
public import proofs.«01_k».proof.Defs
public import proofs.«01_k».proof.Proof.FwdBody
public import proofs.«01_k».proof.Proof.Gen.Fwd
@[expose] public section

namespace Cert.Proof.FwdV
open Idealize.ShloMosaic Idealize.SL.Sem
set_option maxHeartbeats 8000000 in
theorem e_cc : @Cert.Fwd.cc0_ffn_fwd Bits _ _ = @Cert.FwdIdeal.cc0_ffn_fwd Bits _ _ := rfl
set_option maxHeartbeats 4000000 in
theorem e_d : Cert.Fwd.defs₀ (F := Bits) = Cert.FwdIdeal.defs₀ (F := Bits) := by
  unfold Cert.Fwd.defs₀ Cert.FwdIdeal.defs₀
  refine congrArg Defs.onTc (funext fun x => funext fun a => ?_)
  match x, a with
  | 0, (t, s) => exact congrFun (congrFun (congrFun (congrFun (congrFun (congrFun (congrFun (congrFun (congrFun (congrFun (congrFun (congrFun (congrFun (congrFun (congrFun (congrFun (congrFun (congrFun (congrFun e_cc _) _) _) _) _) _) _) _) _) _) _) _) _) _) _) _) _) _) _
set_option maxHeartbeats 4000000 in
theorem e_defs : Cert.Fwd.defs (F := Bits) = Cert.FwdIdeal.defs (F := Bits) := by
  show Pipeline.defs _ _ = Pipeline.defs _ _
  exact congrArg (Pipeline.defs _) e_d
set_option maxHeartbeats 4000000 in
theorem frame_fwd : Cert.quiescent_Fwd := fun m ρ _ => by
  have h := (Cert.FwdIdeal.Gen.frame (F := Bits) m ρ)
  rw [← e_defs] at h
  exact h
end Cert.Proof.FwdV
-- ==== Proof.FwdValue.lean ====
/- The forward feed-forward call: what the two result arrays hold, index by index. -/
module

public import proofs.«01_k».proof.Defs
public import proofs.«01_k».proof.Proof.FwdBody
public import proofs.«01_k».proof.Proof.Gen.FwdReferenceIdeal.Run
public import Idealize.ShloMosaic.Lib.Pipeline.ValueKit
public import Idealize.ShloMosaic.Lib.Pointwise
public import Idealize.ShloMosaic.Lib.Tactic.CleanTypes
public import Idealize.ShloMosaic.Lib.StableHlo.ReadAt

@[expose] public section

set_option maxRecDepth 16384

noncomputable section

namespace Cert.Proof.FwdV

open Idealize.ShloMosaic Idealize.SL.Sem Cert.FwdIdeal
open Cert.FwdIdeal.Gen Idealize.ShloMosaic.TcCoe

theorem f0 : ∀ t : Fin cfg0.N, win0_0.index t = ![0, 0] := by decide +kernel
theorem f1 : ∀ t : Fin cfg0.N, win0_1.index t = ![0, 0] := by decide +kernel
theorem f2 : ∀ t : Fin cfg0.N, win0_2.index t = ![0, t.val, 0] := by decide +kernel
theorem f3 : ∀ t : Fin cfg0.N, win0_3.index t = ![2, t.val - 1, 0] := by decide +kernel
theorem f4 : ∀ t : Fin cfg0.N, win0_4.index t = ![2, 10, 0] := by decide +kernel
theorem f5 : ∀ t : Fin cfg0.N, win0_5.index t = ![0, 0] := by decide +kernel
theorem f6 : ∀ t : Fin cfg0.N, win0_6.index t = ![0, 0, t.val] := by decide +kernel

/-- The logistic function by the hyperbolic tangent of the half. -/
theorem half_tanh (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    rw [h1]
    have hp := Real.exp_pos (1 / 2 * r)
    have hq := Real.exp_pos (-(1 / 2 * r))
    generalize Real.exp (1 / 2 * r) = a at *
    generalize Real.exp (-(1 / 2 * r)) = b at *
    have ha : a = b⁻¹ := by field_simp; linarith
    subst ha
    field_simp
    ring

variable (m : (ℓ : Loc nD τ sig) → Buf (Elt Ideal) ℓ) (c : Dev nD)

abbrev hA : Vec Ideal S2048x1024 .f32 := m ((c : Thread nD τ).loc main_arg0)
abbrev gA : Vec Ideal S1024 .f32 := m ((c : Thread nD τ).loc main_arg1)
abbrev w0A : Vec Ideal S1024x2816 .f32 := m ((c : Thread nD τ).loc main_arg2)
abbrev w1A : Vec Ideal S1024x2816 .f32 := m ((c : Thread nD τ).loc main_arg3)
abbrev w2A : Vec Ideal S2816x1024 .f32 := m ((c : Thread nD τ).loc main_arg4)

theorem w3_0 (f : Fin 2816) (d : Fin 1024) : (V m c main_v7 : Vec Ideal S3x2816x1024 .bf16) (ix3 0 f d) = w0A m c (ix2 d f) := by
  unfold V hostOps0
  after_reads_simp
  clean_types
  pointwise []
  after_reads_simp
  clean_types
  pointwise []
theorem w3_1 (f : Fin 2816) (d : Fin 1024) : (V m c main_v7 : Vec Ideal S3x2816x1024 .bf16) (ix3 1 f d) = w1A m c (ix2 d f) := by
  unfold V hostOps0
  after_reads_simp
  clean_types
  pointwise []
  after_reads_simp
  clean_types
  pointwise []
theorem w3_2 (f : Fin 2816) (d : Fin 1024) : (V m c main_v7 : Vec Ideal S3x2816x1024 .bf16) (ix3 2 f d) = w2A m c (ix2 f d) := by
  unfold V hostOps0
  after_reads_simp
  clean_types
  pointwise []
  after_reads_simp
  clean_types
  pointwise []
theorem g0 (d : Fin 1024) : (V m c main_v0 : Vec Ideal S1x1024 .f32) (ix2 0 d) = gA m c (ix1 d) := by
  unfold V hostOps0
  after_reads_simp
  clean_types
  pointwise []

theorem b0 (t : Fin cfg0.N) (x : S2048x1024.Idx) : iblk m c 0 t x = hA m c x := by
  refine Eq.trans ?_ (congrFun (V_main_arg0 m c) x)
  show V m c main_arg0 _ = V m c main_arg0 _
  congr 1
  funext a; apply Fin.ext
  fin_cases a <;> blk_simp [f0] <;> simp [f0]
theorem b1 (t : Fin cfg0.N) (x : S1x1024.Idx) : iblk m c 1 t x = V m c main_v0 x := by
  show V m c main_v0 _ = V m c main_v0 _
  congr 1
  funext a; apply Fin.ext
  fin_cases a <;> blk_simp [f1] <;> simp [f1]
abbrev col (t : Fin cfg0.N) (j : Fin 256) : Fin 2816 := ⟨256 * t.val + j.val, by have := t.isLt; have : cfg0.N = 11 := N_0; omega⟩

theorem b3 (t : Fin cfg0.N) (j : Fin 256) (d : Fin 1024) (k : ℕ) (hk : k < 11) (ht : t.val - 1 = k) :
    (iblk m c 3 t : Vec Ideal S1x256x1024 .bf16) (ix3 (0 : Fin 1) j d) = w2A m c (ix2 (⟨256 * k + j.val, by omega⟩ : Fin 2816) d) := by
  refine Eq.trans ?_ (w3_2 m c _ _)
  show V m c main_v7 _ = V m c main_v7 _
  congr 1
  funext a; apply Fin.ext
  fin_cases a <;> blk_simp [f3] <;> simp [ix3, f3] <;> omega
theorem b4 (t : Fin cfg0.N) (j : Fin 256) (d : Fin 1024) :
    (iblk m c 4 t : Vec Ideal S1x256x1024 .bf16) (ix3 (0 : Fin 1) j d) = w2A m c (ix2 (⟨256 * 10 + j.val, by omega⟩ : Fin 2816) d) := by
  refine Eq.trans ?_ (w3_2 m c _ _)
  show V m c main_v7 _ = V m c main_v7 _
  congr 1
  funext a; apply Fin.ext
  fin_cases a <;> blk_simp [f4] <;> simp [ix3, f4] <;> omega
theorem b2 (t : Fin cfg0.N) (e : Fin 2) (j : Fin 256) (d : Fin 1024) :
    (X0_2 m c t : Vec Ideal S2x256x1024 .bf16) (ix3 e j d) = (V m c main_v7 : Vec Ideal S3x2816x1024 .bf16) (ix3 (⟨e.val, by omega⟩ : Fin 3) (col t j) d) := by
  unfold X0_2 Pipeline.Window.fill
  rw [dif_pos (moved0_2 t (ix3 e j d))]
  show V m c main_v7 _ = V m c main_v7 _
  congr 1
  funext a; apply Fin.ext
  fin_cases a <;> blk_simp [f2] <;> simp [ix3, f2] <;> omega

/-- The normalized token. -/
def U (n : Fin 2048) (d : Fin 1024) : EReal :=
  hA m c (ix2 n d) * Ideal.rsqrt (Ideal.div (∑ k : Fin 1024, hA m c (ix2 n k) * hA m c (ix2 n k)) (Ideal.ofBits .f32 0x44800000#32) + Ideal.ofBits .f32 0x358637BD#32) * gA m c (ix1 d)

theorem uAt_at (n : Fin 2048) (d : Fin 1024) : (uAt m c : Vec Ideal S2048x1024 .bf16) (ix2 n d) = U m c n d := by
  unfold uAt
  rw [show (iblk m c 0 (pt 0) : Vec Ideal S2048x1024 .f32) = hA m c from funext (b0 m c _), show (iblk m c 1 (pt 0) : Vec Ideal S1x1024 .f32) = V m c main_v0 from funext (b1 m c _)]
  unfold_payloads
  pointwise []
  rw [g0]
  rfl

/-- The two products of the tokens. -/
def S (w : Vec Ideal S1024x2816 .f32) (n : Fin 2048) (f : Fin 2816) : EReal := ∑ d : Fin 1024, U m c n d * w (ix2 d f)

theorem gate_at (t : Fin cfg0.N) (n : Fin 2048) (j : Fin 256) :
    (k0_pay7 (F := Ideal) (uAt m c) (k0_pay5 (X0_2 m c t)) z0) (ix2 n j) = S m c (w0A m c) n (col t j) := by
  unfold k0_pay7 k0_pay6 k0_pay5 z0
  clean_types
  pointwise []
  unfold S
  refine @Finset.sum_congr _ EReal _ _ _ _ _ rfl fun d _ => ?_
  rw [uAt_at, b2]
  refine congrArg (fun x : EReal => U m c n d * x) (Eq.trans ?_ (w3_0 m c (col t j) d))
  congr 1
  funext a; apply Fin.ext
  fin_cases a <;> simp [ix3] <;> omega

theorem up_at (t : Fin cfg0.N) (n : Fin 2048) (j : Fin 256) :
    (k0_pay8 (F := Ideal) (uAt m c) (k0_pay5 (X0_2 m c t)) z0) (ix2 n j) = S m c (w1A m c) n (col t j) := by
  unfold k0_pay8 k0_pay6 k0_pay5 z0
  clean_types
  pointwise []
  unfold S
  refine @Finset.sum_congr _ EReal _ _ _ _ _ rfl fun d _ => ?_
  rw [uAt_at, b2]
  refine congrArg (fun x : EReal => U m c n d * x) (Eq.trans ?_ (w3_1 m c (col t j) d))
  congr 1
  funext a; apply Fin.ext
  fin_cases a <;> simp [ix3] <;> omega

theorem half_eq : Ideal.ofBits .f32 0x3F000000#32 = ((1 / 2 : ℝ) : EReal) := by
  simp [Ideal.ofBits, Ideal.ieee, -EReal.coe_mul]; norm_num

/-- The activation. -/
def P (n : Fin 2048) (f : Fin 2816) : EReal := S m c (w0A m c) n f * Ideal.logistic (S m c (w0A m c) n f) * S m c (w1A m c) n f

theorem act_at (t : Fin cfg0.N) (n : Fin 2048) (j : Fin 256) :
    (k0_pay9 (F := Ideal) (uAt m c) (k0_pay5 (X0_2 m c t)) z0) (ix3 (0 : Fin 1) n j) = P m c n (col t j) := by
  unfold k0_pay9
  clean_types
  pointwise []
  rw [gate_at, up_at, half_eq, half_tanh]
  rfl

/-- A term of the second product. -/
def q (n : Fin 2048) (d : Fin 1024) (f : ℕ) : EReal := if h : f < 2816 then P m c n ⟨f, h⟩ * w2A m c (ix2 ⟨f, h⟩ d) else 0

theorem add4 (o : Vec Ideal S2048x1024 .f32) (a : Vec Ideal S1x2048x256 .bf16) (w : Vec Ideal S1x256x1024 .bf16) (n : Fin 2048) (d : Fin 1024) :
    k0_pay4 o a w (ix2 n d) = (o (ix2 n d) + ((1 / 2 : ℝ) : EReal) * ∑ j : Fin 256, a (ix3 (0 : Fin 1) n j) * w (ix3 (0 : Fin 1) j d) : EReal) := by
  unfold_payloads
  pointwise []
  rw [half_eq]

theorem add1 (o : Vec Ideal S2048x1024 .f32) (a : Vec Ideal S1x2048x256 .bf16) (w : Vec Ideal S1x256x1024 .bf16) (n : Fin 2048) (d : Fin 1024) :
    k0_pay1 o a w (ix2 n d) = (o (ix2 n d) + ((1 / 2 : ℝ) : EReal) * ∑ j : Fin 256, a (ix3 (0 : Fin 1) n j) * w (ix3 (0 : Fin 1) j d) : EReal) := by
  unfold_payloads
  pointwise []
  rw [half_eq]

/-- A block more. -/
theorem more (n : Fin 2048) (d : Fin 1024) (k : ℕ) (x : EReal) :
    x + ((1 / 2 : ℝ) : EReal) * (∑ f ∈ Finset.range (256 * k), q m c n d f) + ((1 / 2 : ℝ) : EReal) * (∑ j : Fin 256, q m c n d (256 * k + j.val))
      = x + ((1 / 2 : ℝ) : EReal) * (∑ f ∈ Finset.range (256 * (k + 1)), q m c n d f) := by
  rw [show 256 * (k + 1) = 256 * k + 256 by ring, Finset.sum_range_add, ← Fin.sum_univ_eq_sum_range (fun j => q m c n d (256 * k + j)) 256, add_assoc,
    EReal.left_distrib_of_nonneg_of_ne_top (by norm_num) (EReal.coe_ne_top _)]

theorem term (n : Fin 2048) (d : Fin 1024) (k : ℕ) (hk : k < 11) (w : Vec Ideal S1x256x1024 .bf16)
    (hw : ∀ j : Fin 256, w (ix3 (0 : Fin 1) j d) = w2A m c (ix2 (⟨256 * k + j.val, by omega⟩ : Fin 2816) d)) :
    (∑ j : Fin 256, aAt m c k (ix3 (0 : Fin 1) n j) * w (ix3 (0 : Fin 1) j d) : EReal) = ∑ j : Fin 256, q m c n d (256 * k + j.val) := by
  refine @Finset.sum_congr _ EReal _ _ _ _ _ rfl fun j _ => ?_
  rw [hw, q, dif_pos (by omega), aAt, act_at]
  have e : col (pt k) j = ⟨256 * k + j.val, by omega⟩ := Fin.ext (by show 256 * min k 10 + j.val = 256 * k + j.val; rw [Nat.min_eq_left (by omega)])
  rw [e]

theorem oAt_at (n : Fin 2048) (d : Fin 1024) (k : ℕ) (hk : k < 11) :
    (oAt m c k : Vec Ideal S2048x1024 .f32) (ix2 n d) = (hA m c (ix2 n d) + ((1 / 2 : ℝ) : EReal) * ∑ f ∈ Finset.range (256 * k), q m c n d f : EReal) := by
  induction k with
  | zero =>
    rw [oAt, add4, b0]
    congr 2
    rw [Finset.sum_range_zero]
    refine @Finset.sum_eq_zero _ EReal _ _ _ fun j _ => ?_
    unfold k0_pay3
    clean_types
    pointwise []
    exact zero_mul (M₀ := EReal) _
  | succ k ih =>
    rw [oAt, add4, ih (by omega), term m c n d k (by omega) _ fun j => ?_, more]
    exact b3 m c _ j d k (by omega) (by show min (k + 1) 10 - 1 = k; omega)

theorem out_at (n : Fin 2048) (d : Fin 1024) :
    (outAt m c 10 : Vec Ideal S2048x1024 .f32) (ix2 n d) = (hA m c (ix2 n d) + ((1 / 2 : ℝ) : EReal) * ∑ f : Fin 2816, P m c n f * w2A m c (ix2 f d) : EReal) := by
  rw [outAt, if_pos rfl, add1, oAt_at m c n d 10 (by decide), term m c n d 10 (by decide) _ fun j => ?_, more]
  · rw [← Fin.sum_univ_eq_sum_range (fun f => q m c n d f)]
    refine congrArg (fun x : EReal => hA m c (ix2 n d) + ((1 / 2 : ℝ) : EReal) * x) ?_
    exact @Finset.sum_congr _ EReal _ _ _ _ _ rfl fun f _ => dif_pos f.isLt
  · exact b4 m c _ j d

/-- The output. -/
def GO : Vec Ideal S2048x1024 .f32 := fun x =>
  (hA m c (ix2 (x 0) (x 1)) + ((1 / 2 : ℝ) : EReal) * ∑ f : Fin 2816, P m c (x 0) f * w2A m c (ix2 f (x 1)) : EReal)
/-- The two products kept for the backward call. -/
def GU : Vec Ideal S2x2048x2816 .bf16 := fun x => if (x 0).val = 0 then S m c (w0A m c) (x 1) (x 2) else S m c (w1A m c) (x 1) (x 2)

theorem arr5 : (dats m 0 c).arrAt 5 (cfgs 0).N = GO m c := by
  refine (dats m 0 c).arrAt_eq_of_covers 5 _ (by decide +kernel) fun t hf y => ?_
  have ht : t.val = 10 := by
    have := (flush0_5 t).mp hf; have := t.isLt; have : cfg0.N = 11 := N_0; dsimp only at *; omega
  blk_simp
  rw [after0_5, ht]
  idx_vars y
  refine (out_at m c y0 y1).trans ?_
  show GO m c (ix2 y0 y1) = _
  congr 1
  funext a; apply Fin.ext
  fin_cases a <;> blk_simp [f5] <;> simp [f5]

theorem both_0 (g u : Vec Ideal S1x2048x256 .bf16) (n : Fin 2048) (j : Fin 256) : both g u (ix3 (0 : Fin 2) n j) = g (ix3 (0 : Fin 1) n j) := by
  unfold both VecWindow.put
  rw [dif_neg (fun h => by have := (h 0).1; exact Nat.not_succ_le_zero 0 this), dif_pos (fun a => match a with
    | ⟨0, _⟩ => ⟨Nat.le_refl 0, Nat.zero_lt_one⟩
    | ⟨1, _⟩ => ⟨Nat.zero_le _, by show n.val < 0 + 2048; omega⟩
    | ⟨2, _⟩ => ⟨Nat.zero_le _, by show j.val < 0 + 256; omega⟩)]
  congr 1
  funext a; apply Fin.ext
  fin_cases a <;> simp [ix3]
theorem both_1 (g u : Vec Ideal S1x2048x256 .bf16) (n : Fin 2048) (j : Fin 256) : both g u (ix3 (1 : Fin 2) n j) = u (ix3 (0 : Fin 1) n j) := by
  unfold both VecWindow.put
  rw [dif_pos (fun a => match a with
    | ⟨0, _⟩ => ⟨Nat.le_refl 1, Nat.lt_succ_self 1⟩
    | ⟨1, _⟩ => ⟨Nat.zero_le _, by show n.val < 0 + 2048; omega⟩
    | ⟨2, _⟩ => ⟨Nat.zero_le _, by show j.val < 0 + 256; omega⟩)]
  congr 1
  funext a; apply Fin.ext
  fin_cases a <;> simp [ix3]

theorem arr6 : (dats m 0 c).arrAt 6 (cfgs 0).N = GU m c := by
  refine (dats m 0 c).arrAt_eq_of_covers 6 _ (by decide +kernel) fun t hf y => ?_
  blk_simp
  rw [after0_6]
  idx_vars y
  have hx : (((View.whole main_v8_1).slice (win0_6.rect t)).emb (ix3 y0 y1 y2)) = ix3 y0 y1 (col t y2) := by
    funext a; apply Fin.ext
    fin_cases a <;> blk_simp [f6] <;> simp [ix3, f6] <;> omega
  rw [hx]
  unfold guAt
  rw [pt_val]
  fin_cases y0
  · refine (both_0 _ _ y1 y2).trans ?_
    unfold k0_pay10
    clean_types
    pointwise []
    exact gate_at m c t y1 y2
  · refine (both_1 _ _ y1 y2).trans ?_
    unfold k0_pay11
    clean_types
    pointwise []
    exact up_at m c t y1 y2

theorem finish (g : Dev nD → PrngReg) : θ_run defs (onTc (τ := τ) (main (F := Ideal))) ⟨m, fun _ => 0, g⟩ (fun r => ∀ c : Dev nD,
      r.2.mem ((c.tc : Thread nD τ).loc main_v8_0) = GO m c
      ∧ r.2.mem ((c.tc : Thread nD τ).loc main_v8_1) = GU m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (arr5 m c), ((h.1 c).1 6).trans (arr6 m c), h.2.1 c⟩)
    (θ_run_and (run_main m g) (frame m g))

theorem algebraic : Cert.algebraic_FwdIdeal_FwdReferenceIdeal := fun m g m' g' _ hag => by
  refine ⟨fun c => GO m c, fun c => GU m c, finish m g,
    (θ_run _ _ _).mono (fun r h c => ⟨(h c).1.trans ?_, (h c).2.1.trans ?_, (h c).2.2⟩) (Cert.FwdReferenceIdeal.Value.run (F := Ideal) m' g')⟩
  · rw [(hag c).1, (hag c).2.1, (hag c).2.2.1, (hag c).2.2.2.1, (hag c).2.2.2.2]
    funext y
    idx_vars y
    pointwise []
    rw [half_eq]
    rfl
  · rw [(hag c).1, (hag c).2.1, (hag c).2.2.1, (hag c).2.2.2.1]
    funext y
    idx_vars y
    pointwise []
    clear h
    fin_cases y0
    · rfl
    · rfl

end Cert.Proof.FwdV

end
-- ==== Proof.InFwdValue.lean ====
/- The input projection: what the result array holds, index by index. -/
module

public import proofs.«01_k».proof.Defs
public import proofs.«01_k».proof.Proof.Gen.InFwdIdeal.Value
public import proofs.«01_k».proof.Proof.Gen.InFwdReferenceIdeal.Run
public import Idealize.ShloMosaic.Lib.Pipeline.ValueKit
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.SL.Sem Idealize.ShloMosaic.TcCoe

namespace Cert.Proof.InFwd
open Cert.InFwdIdeal Cert.InFwdIdeal.Gen

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![0, 0, 0] := by decide +kernel
theorem e3 : ∀ t : Fin cfg0.N, win0_3.index t = ![t.val, 0] := by decide +kernel

variable (m : (ℓ : Loc nD τ sig) → Buf (Elt Ideal) ℓ) (c : Dev nD)

abbrev hA : Vec Ideal S2048x1024 .f32 := m ((c : Thread nD τ).loc main_arg0)
abbrev gA : Vec Ideal S1024 .f32 := m ((c : Thread nD τ).loc main_arg1)
abbrev wA : Vec Ideal S1024x2048 .f32 := m ((c : Thread nD τ).loc main_arg2)

theorem g_at (d : Fin 1024) : (V m c main_v0 : Vec Ideal S1x1024 .f32) (ix2 0 d) = gA m c (ix1 d) := by
  unfold V hostOps0
  after_reads_simp
  clean_types
  pointwise []
theorem w_at (f : Fin 2048) (d : Fin 1024) : (V m c main_v3 : Vec Ideal S1x2048x1024 .bf16) (ix3 0 f d) = wA m c (ix2 d f) := by
  unfold V hostOps0
  after_reads_simp
  clean_types
  pointwise []

abbrev row (t : Fin cfg0.N) (n : Fin 512) : Fin 2048 := ⟨512 * t.val + n.val, by have := t.isLt; have : cfg0.N = 4 := N_0; omega⟩

theorem b0 (t : Fin cfg0.N) (n : Fin 512) (d : Fin 1024) : (iblk m c 0 t : Vec Ideal S512x1024 .f32) (ix2 n d) = hA m c (ix2 (row t n) d) := by
  refine Eq.trans ?_ (congrFun (V_main_arg0 m c) _)
  show V m c main_arg0 _ = V m c main_arg0 _
  congr 1
  funext a; apply Fin.ext
  fin_cases a <;> blk_simp [e0] <;> simp [ix2, e0] <;> omega
theorem b1 (t : Fin cfg0.N) (d : Fin 1024) : (iblk m c 1 t : Vec Ideal S1x1024 .f32) (ix2 (0 : Fin 1) d) = gA m c (ix1 d) := by
  refine Eq.trans ?_ (g_at m c d)
  show V m c main_v0 _ = V m c main_v0 _
  congr 1
  funext a; apply Fin.ext
  fin_cases a <;> blk_simp [e1] <;> simp [ix2, e1]
theorem b2 (t : Fin cfg0.N) (f : Fin 2048) (d : Fin 1024) : (iblk m c 2 t : Vec Ideal S1x2048x1024 .bf16) (ix3 (0 : Fin 1) f d) = wA m c (ix2 d f) := by
  refine Eq.trans ?_ (w_at m c f d)
  show V m c main_v3 _ = V m c main_v3 _
  congr 1
  funext a; apply Fin.ext
  fin_cases a <;> blk_simp [e2] <;> simp [ix3, e2]
theorem o3 (t : Fin cfg0.N) (n : Fin 512) (f : Fin 2048) : ((View.whole main_v4).slice (win0_3.rect t)).emb (ix2 n f) = ix2 (row t n) f := by
  funext a; apply Fin.ext
  fin_cases a <;> blk_simp [e3] <;> simp [ix2, e3] <;> omega

/-- The normalized token. -/
def U (h : Vec Ideal S2048x1024 .f32) (g : Vec Ideal S1024 .f32) (n : Fin 2048) (d : Fin 1024) : EReal :=
  h (ix2 n d) * Ideal.rsqrt (Ideal.div (∑ k : Fin 1024, h (ix2 n k) * h (ix2 n k)) (Ideal.ofBits .f32 0x44800000#32) + Ideal.ofBits .f32 0x358637BD#32) * g (ix1 d)

/-- The product. -/
def G (h : Vec Ideal S2048x1024 .f32) (g : Vec Ideal S1024 .f32) (w : Vec Ideal S1024x2048 .f32) : Vec Ideal S2048x2048 .f32 :=
  fun x => ∑ d : Fin 1024, (U h g (x 0) d * w (ix2 d (x 1)) : EReal)

theorem value : (dats m 0 c).arrAt 3 (cfgs 0).N = G (hA m c) (gA m c) (wA m c) := by
  refine (dats m 0 c).arrAt_eq_of_covers 3 _ (by decide +kernel) fun t hf y => ?_
  blk_simp
  rw [after0_3]
  frame_out
  unfold_payloads
  idx_vars y
  pointwise []
  rw [o3]
  refine @Finset.sum_congr _ EReal _ _ _ _ _ rfl fun d _ => ?_
  rw [b0, b1, b2]
  simp only [b0]
  rfl

theorem algebraic : Cert.algebraic_InFwdIdeal_InFwdReferenceIdeal := fun m g m' g' _ hag => by
  refine ⟨fun c => G (hA m c) (gA m c) (wA m c),
    (θ_run _ _ _).mono (fun r h c => ⟨(h c).1.trans (value m c), (h c).2⟩) (Cert.InFwdIdeal.Value.run_blocks m g),
    (θ_run _ _ _).mono (fun r h c => ⟨(h c).1.trans ?_, (h c).2⟩) (Cert.InFwdReferenceIdeal.Value.run (F := Ideal) m' g')⟩
  rw [(hag c).1, (hag c).2.1, (hag c).2.2]
  funext y
  idx_vars y
  pointwise []
  rfl

end Cert.Proof.InFwd

end
-- ==== Proof.PleFwdValue.lean ====
/- The layer's embedding in the forward direction: what the result arrays hold, index by index. -/
module

public import proofs.«01_k».proof.Defs
public import proofs.«01_k».proof.Proof.Gen.PleFwdIdeal.Value
public import proofs.«01_k».proof.Proof.Gen.PleFwdReferenceIdeal.Run
public import Idealize.ShloMosaic.Lib.Pipeline.ValueKit
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.SL.Sem Idealize.ShloMosaic.TcCoe

namespace Cert.Proof.PleFwd
open Cert.PleFwdIdeal Cert.PleFwdIdeal.Gen

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel
theorem e3 : ∀ t : Fin cfg0.N, win0_3.index t = ![0, 0, 0] := by decide +kernel
theorem e4 : ∀ t : Fin cfg0.N, win0_4.index t = ![0, 0] := by decide +kernel
theorem e5 : ∀ t : Fin cfg0.N, win0_5.index t = ![t.val, 0] := by decide +kernel
theorem e6 : ∀ t : Fin cfg0.N, win0_6.index t = ![0, t.val, 0] := by decide +kernel
theorem e7 : ∀ t : Fin cfg0.N, win0_7.index t = ![0, t.val, 0] := by decide +kernel
theorem e8 : ∀ t : Fin cfg0.N, win0_8.index t = ![t.val, 0] := by decide +kernel
theorem e9 : ∀ t : Fin cfg0.N, win0_9.index t = ![t.val, 0] := by decide +kernel

/-- The logistic function by the hyperbolic tangent of the half. -/
theorem half_tanh (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    rw [h1]
    have hp := Real.exp_pos (1 / 2 * r)
    have hq := Real.exp_pos (-(1 / 2 * r))
    generalize Real.exp (1 / 2 * r) = a at *
    generalize Real.exp (-(1 / 2 * r)) = b at *
    have ha : a = b⁻¹ := by field_simp; linarith
    subst ha
    field_simp
    ring

theorem half_eq : Ideal.ofBits .f32 0x3F000000#32 = ((1 / 2 : ℝ) : EReal) := by
  simp [Ideal.ofBits, Ideal.ieee, -EReal.coe_mul]; norm_num

variable (m : (ℓ : Loc nD τ sig) → Buf (Elt Ideal) ℓ) (c : Dev nD)

abbrev hA : Vec Ideal S2048x1024 .f32 := m ((c : Thread nD τ).loc main_arg0)
abbrev gA : Vec Ideal S1024 .f32 := m ((c : Thread nD τ).loc main_arg1)
abbrev pA : Vec Ideal S2048x256 .f32 := m ((c : Thread nD τ).loc main_arg2)
abbrev wA : Vec Ideal S1024x1024 .f32 := m ((c : Thread nD τ).loc main_arg3)
abbrev vA : Vec Ideal S256x1024 .f32 := m ((c : Thread nD τ).loc main_arg4)

theorem g_at (d : Fin 1024) : (V m c main_v0 : Vec Ideal S1x1024 .f32) (ix2 (0 : Fin 1) d) = gA m c (ix1 d) := by
  unfold V hostOps0
  after_reads_simp
  clean_types
  pointwise []
theorem w_at (d e : Fin 1024) : (V m c main_v2 : Vec Ideal S1x1024x1024 .bf16) (ix3 (0 : Fin 1) d e) = wA m c (ix2 d e) := by
  unfold V hostOps0
  after_reads_simp
  clean_types
  pointwise []
theorem v_at (d : Fin 1024) (k : Fin 256) : (V m c main_v4 : Vec Ideal S1024x256 .bf16) (ix2 d k) = vA m c (ix2 k d) := by
  unfold V hostOps0
  after_reads_simp
  clean_types
  pointwise []

abbrev row (t : Fin cfg0.N) (n : Fin 512) : Fin 2048 := ⟨512 * t.val + n.val, by have := t.isLt; have : cfg0.N = 4 := N_0; omega⟩

theorem b0 (t : Fin cfg0.N) (n : Fin 512) (d : Fin 1024) : (iblk m c 0 t : Vec Ideal S512x1024 .f32) (ix2 n d) = hA m c (ix2 (row t n) d) := by
  refine Eq.trans ?_ (congrFun (V_main_arg0 m c) _)
  show V m c main_arg0 _ = V m c main_arg0 _
  congr 1
  funext a; apply Fin.ext
  fin_cases a <;> blk_simp [e0] <;> simp [ix2, e0] <;> omega
theorem b1 (t : Fin cfg0.N) (d : Fin 1024) : (iblk m c 1 t : Vec Ideal S1x1024 .f32) (ix2 (0 : Fin 1) d) = gA m c (ix1 d) := by
  refine Eq.trans ?_ (g_at m c d)
  show V m c main_v0 _ = V m c main_v0 _
  congr 1
  funext a; apply Fin.ext
  fin_cases a <;> blk_simp [e1] <;> simp [ix2, e1] <;> omega
theorem b2 (t : Fin cfg0.N) (n : Fin 512) (k : Fin 256) : (iblk m c 2 t : Vec Ideal S512x256 .f32) (ix2 n k) = pA m c (ix2 (row t n) k) := by
  refine Eq.trans ?_ (congrFun (V_main_arg2 m c) _)
  show V m c main_arg2 _ = V m c main_arg2 _
  congr 1
  funext a; apply Fin.ext
  fin_cases a <;> blk_simp [e2] <;> simp [ix2, e2] <;> omega
theorem b3 (t : Fin cfg0.N) (d e : Fin 1024) : (iblk m c 3 t : Vec Ideal S1x1024x1024 .bf16) (ix3 (0 : Fin 1) d e) = wA m c (ix2 d e) := by
  refine Eq.trans ?_ (w_at m c d e)
  show V m c main_v2 _ = V m c main_v2 _
  congr 1
  funext a; apply Fin.ext
  fin_cases a <;> blk_simp [e3] <;> simp [ix3, e3] <;> omega
theorem b4 (t : Fin cfg0.N) (d : Fin 1024) (k : Fin 256) : (iblk m c 4 t : Vec Ideal S1024x256 .bf16) (ix2 d k) = vA m c (ix2 k d) := by
  refine Eq.trans ?_ (v_at m c d k)
  show V m c main_v4 _ = V m c main_v4 _
  congr 1
  funext a; apply Fin.ext
  fin_cases a <;> blk_simp [e4] <;> simp [ix2, e4] <;> omega
theorem o5 (t : Fin cfg0.N) (n : Fin 512) (d : Fin 1024) : ((View.whole main_v5_0).slice (win0_5.rect t)).emb (ix2 n d) = ix2 (row t n) d := by
  funext a; apply Fin.ext
  fin_cases a <;> blk_simp [e5] <;> simp [ix2, e5] <;> omega
theorem o6 (t : Fin cfg0.N) (z : Fin 1) (n : Fin 512) (d : Fin 1024) : ((View.whole main_v5_1).slice (win0_6.rect t)).emb (ix3 z n d) = ix3 z (row t n) d := by
  funext a; apply Fin.ext
  fin_cases a <;> blk_simp [e6] <;> simp [ix3, e6] <;> omega
theorem o7 (t : Fin cfg0.N) (z : Fin 1) (n : Fin 512) (d : Fin 256) : ((View.whole main_v5_2).slice (win0_7.rect t)).emb (ix3 z n d) = ix3 z (row t n) d := by
  funext a; apply Fin.ext
  fin_cases a <;> blk_simp [e7] <;> simp [ix3, e7] <;> omega
theorem o8 (t : Fin cfg0.N) (n : Fin 512) (d : Fin 1024) : ((View.whole main_v5_3).slice (win0_8.rect t)).emb (ix2 n d) = ix2 (row t n) d := by
  funext a; apply Fin.ext
  fin_cases a <;> blk_simp [e8] <;> simp [ix2, e8] <;> omega
theorem o9 (t : Fin cfg0.N) (n : Fin 512) (d : Fin 1024) : ((View.whole main_v5_4).slice (win0_9.rect t)).emb (ix2 n d) = ix2 (row t n) d := by
  funext a; apply Fin.ext
  fin_cases a <;> blk_simp [e9] <;> simp [ix2, e9] <;> omega

/-- The normalized token. -/
def U (n : Fin 2048) (d : Fin 1024) : EReal :=
  hA m c (ix2 n d) * Ideal.rsqrt (Ideal.div (∑ k : Fin 1024, hA m c (ix2 n k) * hA m c (ix2 n k)) (Ideal.ofBits .f32 0x44800000#32) + Ideal.ofBits .f32 0x358637BD#32) * gA m c (ix1 d)
/-- The gate's product and the embedding's projection. -/
def Q (n : Fin 2048) (e : Fin 1024) : EReal := ∑ d : Fin 1024, U m c n d * wA m c (ix2 d e)
def PP (n : Fin 2048) (e : Fin 1024) : EReal := ∑ k : Fin 256, pA m c (ix2 n k) * vA m c (ix2 k e)

def G5 : Vec Ideal S2048x1024 .f32 := fun x => (hA m c (ix2 (x 0) (x 1)) + PP m c (x 0) (x 1) * Ideal.logistic (Q m c (x 0) (x 1)) : EReal)
def G6 : Vec Ideal S1x2048x1024 .bf16 := fun x => U m c (x 1) (x 2)
def G7 : Vec Ideal S1x2048x256 .bf16 := fun x => pA m c (ix2 (x 1) (x 2))
def G8 : Vec Ideal S2048x1024 .bf16 := fun x => Q m c (x 0) (x 1)
def G9 : Vec Ideal S2048x1024 .bf16 := fun x => PP m c (x 0) (x 1)

theorem u_at (t : Fin cfg0.N) (n : Fin 512) (d : Fin 1024) : k0_pay5 (F := Ideal) (iblk m c 0 t) (iblk m c 1 t) (ix2 n d) = U m c (row t n) d := by
  unfold_payloads
  pointwise []
  rw [b0, b1]
  simp only [b0]
  rfl
theorem q_at (t : Fin cfg0.N) (n : Fin 512) (d : Fin 1024) : k0_pay7 (F := Ideal) (iblk m c 0 t) (iblk m c 1 t) (iblk m c 3 t) (ix2 n d) = Q m c (row t n) d := by
  unfold k0_pay7
  clean_types
  pointwise []
  refine @Finset.sum_congr _ EReal _ _ _ _ _ rfl fun e _ => ?_
  rw [u_at, b3]
theorem p_at (t : Fin cfg0.N) (n : Fin 512) (d : Fin 1024) : k0_pay8 (F := Ideal) (iblk m c 2 t) (iblk m c 4 t) (ix2 n d) = PP m c (row t n) d := by
  unfold_payloads
  pointwise []
  refine @Finset.sum_congr _ EReal _ _ _ _ _ rfl fun e _ => ?_
  rw [b2, b4]

theorem value5 : (dats m 0 c).arrAt 5 (cfgs 0).N = G5 m c := by
  refine (dats m 0 c).arrAt_eq_of_covers 5 _ (by decide +kernel) fun t hf y => ?_
  blk_simp
  rw [after0_5]
  frame_out
  idx_vars y
  rw [o5]
  unfold k0_pay9
  clean_types
  pointwise []
  rw [q_at, p_at, b0, half_eq, half_tanh]
  rfl

theorem value6 : (dats m 0 c).arrAt 6 (cfgs 0).N = G6 m c := by
  refine (dats m 0 c).arrAt_eq_of_covers 6 _ (by decide +kernel) fun t hf y => ?_
  blk_simp
  rw [after0_6]
  frame_out
  idx_vars y
  rw [o6]
  unfold k0_pay1
  clean_types
  pointwise []
  exact u_at m c t y1 y2

theorem value7 : (dats m 0 c).arrAt 7 (cfgs 0).N = G7 m c := by
  refine (dats m 0 c).arrAt_eq_of_covers 7 _ (by decide +kernel) fun t hf y => ?_
  blk_simp
  rw [after0_7]
  frame_out
  idx_vars y
  rw [o7]
  unfold_payloads
  pointwise []
  exact b2 m c t y1 y2

theorem value8 : (dats m 0 c).arrAt 8 (cfgs 0).N = G8 m c := by
  refine (dats m 0 c).arrAt_eq_of_covers 8 _ (by decide +kernel) fun t hf y => ?_
  blk_simp
  rw [after0_8]
  frame_out
  idx_vars y
  rw [o8]
  unfold k0_pay3
  clean_types
  pointwise []
  exact q_at m c t y0 y1

theorem value9 : (dats m 0 c).arrAt 9 (cfgs 0).N = G9 m c := by
  refine (dats m 0 c).arrAt_eq_of_covers 9 _ (by decide +kernel) fun t hf y => ?_
  blk_simp
  rw [after0_9]
  frame_out
  idx_vars y
  rw [o9]
  unfold k0_pay4
  clean_types
  pointwise []
  exact p_at m c t y0 y1

theorem algebraic : Cert.algebraic_PleFwdIdeal_PleFwdReferenceIdeal := fun m g m' g' _ hag => by
  refine ⟨fun c => G5 m c, fun c => G6 m c, fun c => G7 m c, fun c => G8 m c, fun c => G9 m c,
    (θ_run _ _ _).mono (fun r h c => ⟨(h c).1.trans (value5 m c), (h c).2.1.trans (value6 m c), (h c).2.2.1.trans (value7 m c), (h c).2.2.2.1.trans (value8 m c),
      (h c).2.2.2.2.1.trans (value9 m c), (h c).2.2.2.2.2⟩) (Cert.PleFwdIdeal.Value.run_blocks m g),
    (θ_run _ _ _).mono (fun r h c => ⟨(h c).1.trans ?_, (h c).2.1.trans ?_, (h c).2.2.1.trans ?_, (h c).2.2.2.1.trans ?_,
      (h c).2.2.2.2.1.trans ?_, (h c).2.2.2.2.2⟩) (Cert.PleFwdReferenceIdeal.Value.run (F := Ideal) m' g')⟩
  · simp only [(hag c).1, (hag c).2.1, (hag c).2.2.1, (hag c).2.2.2.1, (hag c).2.2.2.2]
    funext y
    idx_vars y
    pointwise []
    rfl
  · simp only [(hag c).1, (hag c).2.1, (hag c).2.2.1, (hag c).2.2.2.1, (hag c).2.2.2.2]
    funext y
    idx_vars y
    pointwise []
    rfl
  · simp only [(hag c).1, (hag c).2.1, (hag c).2.2.1, (hag c).2.2.2.1, (hag c).2.2.2.2]
    funext y
    idx_vars y
    pointwise []
    rfl
  · simp only [(hag c).1, (hag c).2.1, (hag c).2.2.1, (hag c).2.2.2.1, (hag c).2.2.2.2]
    funext y
    idx_vars y
    pointwise []
    rfl
  · simp only [(hag c).1, (hag c).2.1, (hag c).2.2.1, (hag c).2.2.2.1, (hag c).2.2.2.2]
    funext y
    idx_vars y
    pointwise []
    rfl

end Cert.Proof.PleFwd

end
-- ==== Proof.MixFwdValue.lean ====
/- The output projection after the mixers: what the result array holds, index by index. -/
module

public import proofs.«01_k».proof.Defs
public import proofs.«01_k».proof.Proof.Gen.MixFwdIdeal.Value
public import proofs.«01_k».proof.Proof.Gen.MixFwdReferenceIdeal.Run
public import Idealize.ShloMosaic.Lib.Pipeline.ValueKit
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.SL.Sem Idealize.ShloMosaic.TcCoe

namespace Cert.Proof.MixFwd
open Cert.MixFwdIdeal Cert.MixFwdIdeal.Gen

theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![0, 0] := by decide +kernel
theorem e4 : ∀ t : Fin cfg0.N, win0_4.index t = ![0, 0] := by decide +kernel
theorem e5 : ∀ t : Fin cfg0.N, win0_5.index t = ![0, 0] := by decide +kernel
theorem e6 : ∀ t : Fin cfg0.N, win0_6.index t = ![0, 0] := by decide +kernel
theorem e7 : ∀ t : Fin cfg0.N, win0_7.index t = ![0, 0, 0] := by decide +kernel
theorem e8 : ∀ t : Fin cfg0.N, win0_8.index t = ![t.val, 0] := by decide +kernel

/-- The logistic function by the hyperbolic tangent of the half. -/
theorem half_tanh (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    rw [h1]
    have hp := Real.exp_pos (1 / 2 * r)
    have hq := Real.exp_pos (-(1 / 2 * r))
    generalize Real.exp (1 / 2 * r) = a at *
    generalize Real.exp (-(1 / 2 * r)) = b at *
    have ha : a = b⁻¹ := by field_simp; linarith
    subst ha
    field_simp
    ring

theorem half_eq : Ideal.ofBits .f32 0x3F000000#32 = ((1 / 2 : ℝ) : EReal) := by
  simp [Ideal.ofBits, Ideal.ieee, -EReal.coe_mul]; norm_num

variable (m : (ℓ : Loc nD τ sig) → Buf (Elt Ideal) ℓ) (c : Dev nD)

abbrev hA : Vec Ideal S2048x1024 .f32 := m ((c : Thread nD τ).loc main_arg0)
abbrev yaA : Vec Ideal S2048x512 .f32 := m ((c : Thread nD τ).loc main_arg1)
abbrev ysA : Vec Ideal S2048x512 .f32 := m ((c : Thread nD τ).loc main_arg2)
abbrev gwA : Vec Ideal S512x512 .f32 := m ((c : Thread nD τ).loc main_arg3)
abbrev gbA : Vec Ideal S512 .f32 := m ((c : Thread nD τ).loc main_arg4)
abbrev cnA : Vec Ideal S512 .f32 := m ((c : Thread nD τ).loc main_arg5)
abbrev snA : Vec Ideal S512 .f32 := m ((c : Thread nD τ).loc main_arg6)
abbrev woA : Vec Ideal S1024x1024 .f32 := m ((c : Thread nD τ).loc main_arg7)

theorem gw_at (d e : Fin 512) : (V m c main_v0 : Vec Ideal S512x512 .bf16) (ix2 d e) = gwA m c (ix2 d e) := by
  unfold V hostOps0
  after_reads_simp
  clean_types
  pointwise []
theorem gb_at (d : Fin 512) : (V m c main_v1 : Vec Ideal S1x512 .f32) (ix2 (0 : Fin 1) d) = gbA m c (ix1 d) := by
  unfold V hostOps0
  after_reads_simp
  clean_types
  pointwise []
theorem cn_at (d : Fin 512) : (V m c main_v2 : Vec Ideal S1x512 .f32) (ix2 (0 : Fin 1) d) = cnA m c (ix1 d) := by
  unfold V hostOps0
  after_reads_simp
  clean_types
  pointwise []
theorem sn_at (d : Fin 512) : (V m c main_v3 : Vec Ideal S1x512 .f32) (ix2 (0 : Fin 1) d) = snA m c (ix1 d) := by
  unfold V hostOps0
  after_reads_simp
  clean_types
  pointwise []
theorem wo_at (d e : Fin 1024) : (V m c main_v5 : Vec Ideal S1x1024x1024 .bf16) (ix3 (0 : Fin 1) d e) = woA m c (ix2 d e) := by
  unfold V hostOps0
  after_reads_simp
  clean_types
  pointwise []

abbrev row (t : Fin cfg0.N) (n : Fin 512) : Fin 2048 := ⟨512 * t.val + n.val, by have := t.isLt; have : cfg0.N = 4 := N_0; omega⟩

theorem b0 (t : Fin cfg0.N) (n : Fin 512) (d : Fin 1024) : (iblk m c 0 t : Vec Ideal S512x1024 .f32) (ix2 n d) = hA m c (ix2 (row t n) d) := by
  refine Eq.trans ?_ (congrFun (V_main_arg0 m c) _)
  show V m c main_arg0 _ = V m c main_arg0 _
  congr 1
  funext a; apply Fin.ext
  fin_cases a <;> blk_simp [e0] <;> simp [ix2, e0] <;> omega
theorem b1 (t : Fin cfg0.N) (n : Fin 512) (d : Fin 512) : (iblk m c 1 t : Vec Ideal S512x512 .f32) (ix2 n d) = yaA m c (ix2 (row t n) d) := by
  refine Eq.trans ?_ (congrFun (V_main_arg1 m c) _)
  show V m c main_arg1 _ = V m c main_arg1 _
  congr 1
  funext a; apply Fin.ext
  fin_cases a <;> blk_simp [e1] <;> simp [ix2, e1] <;> omega
theorem b2 (t : Fin cfg0.N) (n : Fin 512) (d : Fin 512) : (iblk m c 2 t : Vec Ideal S512x512 .f32) (ix2 n d) = ysA m c (ix2 (row t n) d) := by
  refine Eq.trans ?_ (congrFun (V_main_arg2 m c) _)
  show V m c main_arg2 _ = V m c main_arg2 _
  congr 1
  funext a; apply Fin.ext
  fin_cases a <;> blk_simp [e2] <;> simp [ix2, e2] <;> omega
theorem b3 (t : Fin cfg0.N) (d e : Fin 512) : (iblk m c 3 t : Vec Ideal S512x512 .bf16) (ix2 d e) = gwA m c (ix2 d e) := by
  refine Eq.trans ?_ (gw_at m c d e)
  show V m c main_v0 _ = V m c main_v0 _
  congr 1
  funext a; apply Fin.ext
  fin_cases a <;> blk_simp [e3] <;> simp [ix2, e3] <;> omega
theorem b4 (t : Fin cfg0.N) (d : Fin 512) : (iblk m c 4 t : Vec Ideal S1x512 .f32) (ix2 (0 : Fin 1) d) = gbA m c (ix1 d) := by
  refine Eq.trans ?_ (gb_at m c d)
  show V m c main_v1 _ = V m c main_v1 _
  congr 1
  funext a; apply Fin.ext
  fin_cases a <;> blk_simp [e4] <;> simp [ix2, e4] <;> omega
theorem b5 (t : Fin cfg0.N) (d : Fin 512) : (iblk m c 5 t : Vec Ideal S1x512 .f32) (ix2 (0 : Fin 1) d) = cnA m c (ix1 d) := by
  refine Eq.trans ?_ (cn_at m c d)
  show V m c main_v2 _ = V m c main_v2 _
  congr 1
  funext a; apply Fin.ext
  fin_cases a <;> blk_simp [e5] <;> simp [ix2, e5] <;> omega
theorem b6 (t : Fin cfg0.N) (d : Fin 512) : (iblk m c 6 t : Vec Ideal S1x512 .f32) (ix2 (0 : Fin 1) d) = snA m c (ix1 d) := by
  refine Eq.trans ?_ (sn_at m c d)
  show V m c main_v3 _ = V m c main_v3 _
  congr 1
  funext a; apply Fin.ext
  fin_cases a <;> blk_simp [e6] <;> simp [ix2, e6] <;> omega
theorem b7 (t : Fin cfg0.N) (d e : Fin 1024) : (iblk m c 7 t : Vec Ideal S1x1024x1024 .bf16) (ix3 (0 : Fin 1) d e) = woA m c (ix2 d e) := by
  refine Eq.trans ?_ (wo_at m c d e)
  show V m c main_v5 _ = V m c main_v5 _
  congr 1
  funext a; apply Fin.ext
  fin_cases a <;> blk_simp [e7] <;> simp [ix3, e7] <;> omega
theorem o8 (t : Fin cfg0.N) (n : Fin 512) (d : Fin 1024) : ((View.whole main_v6).slice (win0_8.rect t)).emb (ix2 n d) = ix2 (row t n) d := by
  funext a; apply Fin.ext
  fin_cases a <;> blk_simp [e8] <;> simp [ix2, e8] <;> omega

/-- The mixer's gate. -/
def gel (x : EReal) : EReal :=
  x * (Ideal.ofBits .f32 0x3F000000#32 * (1 + Ideal.tanh (Ideal.ofBits .f32 0x3F4C422A#32 * (x + Ideal.ofBits .f32 0x3D372713#32 * (x * x * x)))))
theorem gel_eq (x : EReal) : Ideal.ofBits .f32 0x3F000000#32 * x * (1 + Ideal.tanh (Ideal.ofBits .f32 0x3F4C422A#32 * (x + Ideal.ofBits .f32 0x3D372713#32 * x * x * x))) = gel x := by
  unfold gel
  rw [mul_assoc (Ideal.ofBits .f32 0x3D372713#32 * x), mul_assoc (Ideal.ofBits .f32 0x3D372713#32), ← mul_assoc x x x, mul_comm (Ideal.ofBits .f32 0x3F000000#32) x, mul_assoc]

/-- The gated mixer output. -/
def Y (n : Fin 2048) (k : Fin 512) : EReal :=
  gel (ysA m c (ix2 n k)) * Ideal.logistic ((∑ x : Fin 512, gel (ysA m c (ix2 n x)) * gwA m c (ix2 x k)) + gbA m c (ix1 k))
/-- The normalized outputs of the two mixers. -/
def NA (n : Fin 2048) (k : Fin 512) : EReal :=
  yaA m c (ix2 n k) * Ideal.rsqrt (Ideal.div (∑ x : Fin 512, yaA m c (ix2 n x) * yaA m c (ix2 n x)) (Ideal.ofBits .f32 0x44000000#32) + Ideal.ofBits .f32 0x358637BD#32) * cnA m c (ix1 k)
def NS (n : Fin 2048) (k : Fin 512) : EReal :=
  Y m c n k * Ideal.rsqrt (Ideal.div (∑ x : Fin 512, Y m c n x * Y m c n x) (Ideal.ofBits .f32 0x44000000#32) + Ideal.ofBits .f32 0x358637BD#32) * snA m c (ix1 k)

abbrev lo (k : Fin 512) : Fin 1024 := ⟨k.val, by omega⟩
abbrev hi (k : Fin 512) : Fin 1024 := ⟨512 + k.val, by omega⟩

def G : Vec Ideal S2048x1024 .f32 := fun x =>
  (hA m c (ix2 (x 0) (x 1)) + ((∑ k : Fin 512, NA m c (x 0) k * woA m c (ix2 (lo k) (x 1))) + ∑ k : Fin 512, NS m c (x 0) k * woA m c (ix2 (hi k) (x 1))) : EReal)

theorem y_at (t : Fin cfg0.N) (n k : Fin 512) : k0_pay2 (F := Ideal) (iblk m c 2 t) (iblk m c 3 t) (iblk m c 4 t) (ix2 n k) = Y m c (row t n) k := by
  unfold_payloads
  pointwise []
  simp only [gel_eq]
  rw [b2, b4, half_eq, half_tanh]
  unfold Y
  congr 3
  refine @Finset.sum_congr _ EReal _ _ _ _ _ rfl fun x _ => ?_
  rw [b2, b3]

theorem r_at (t : Fin cfg0.N) (n k : Fin 512) : k0_pay3 (F := Ideal) (iblk m c 1 t) (ix2 n k)
    = Ideal.rsqrt (Ideal.div (∑ x : Fin 512, yaA m c (ix2 (row t n) x) * yaA m c (ix2 (row t n) x)) (Ideal.ofBits .f32 0x44000000#32) + Ideal.ofBits .f32 0x358637BD#32) := by
  unfold_payloads
  pointwise []
  simp only [b1]

theorem value : (dats m 0 c).arrAt 8 (cfgs 0).N = G m c := by
  refine (dats m 0 c).arrAt_eq_of_covers 8 _ (by decide +kernel) fun t hf y => ?_
  blk_simp
  rw [after0_8]
  frame_out
  idx_vars y
  rw [o8]
  unfold k0_pay1
  clean_types
  pointwise []
  simp only [y_at, r_at, b0, b1, b5, b6]
  refine (add_assoc (G := EReal) _ _ _).trans ?_
  refine congrArg (fun x : EReal => hA m c (ix2 (row t y0) y1) + x) (congr (congrArg HAdd.hAdd ?_) ?_)
  · refine @Finset.sum_congr _ EReal _ _ _ _ _ rfl fun k _ => ?_
    exact congrArg (fun z : EReal => NA m c (row t y0) k * z) (b7 m c t (lo k) y1)
  · refine @Finset.sum_congr _ EReal _ _ _ _ _ rfl fun k _ => ?_
    exact congrArg (fun z : EReal => NS m c (row t y0) k * z) (b7 m c t (hi k) y1)

theorem algebraic : Cert.algebraic_MixFwdIdeal_MixFwdReferenceIdeal := fun m g m' g' _ hag => by
  refine ⟨fun c => G m c,
    (θ_run _ _ _).mono (fun r h c => ⟨(h c).1.trans (value m c), (h c).2⟩) (Cert.MixFwdIdeal.Value.run_blocks m g),
    (θ_run _ _ _).mono (fun r h c => ⟨(h c).1.trans ?_, (h c).2⟩) (Cert.MixFwdReferenceIdeal.Value.run (F := Ideal) m' g')⟩
  unfold MixFwdReferenceIdeal.Value.res_main_v52
  simp only [(hag c).1, (hag c).2.1, (hag c).2.2.1, (hag c).2.2.2.1, (hag c).2.2.2.2.1, (hag c).2.2.2.2.2.1, (hag c).2.2.2.2.2.2.1, (hag c).2.2.2.2.2.2.2]
  funext y
  idx_vars y
  pointwise []
  simp only [(hag c).1, (hag c).2.1, (hag c).2.2.1, (hag c).2.2.2.1, (hag c).2.2.2.2.1, (hag c).2.2.2.2.2.1, (hag c).2.2.2.2.2.2.1, (hag c).2.2.2.2.2.2.2]
  rfl

end Cert.Proof.MixFwd

end
-- ==== Proof.RmsBwd.lean ====
/- The gradient of the root-mean-square norm over the extended reals: the two ways of writing it agree. -/
module

public import proofs.«01_k».proof.Defs

@[expose] public section

noncomputable section

open Idealize.ShloMosaic

namespace Cert.Proof.RmsBwd

theorem c1024 : Ideal.ofBits .f32 0x44800000#32 = ((1024 : ℝ) : EReal) := by
  simp [Ideal.ofBits, Ideal.ieee, -EReal.coe_mul]; norm_num
theorem mhalf : Ideal.ofBits .f32 0xBF000000#32 = ((-(1 / 2) : ℝ) : EReal) := by
  simp [Ideal.ofBits, Ideal.ieee, -EReal.coe_mul]; norm_num
theorem ceps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem sum_mul_coe {n : ℕ} (a : Fin n → EReal) (r : ℝ) (hr : 0 ≤ r) : ∑ k, a k * (r : EReal) = (∑ k, a k) * (r : EReal) := by
  induction n with
  | zero => simp
  | succ n ih =>
    rw [Fin.sum_univ_succ, Fin.sum_univ_succ, EReal.right_distrib_of_nonneg_of_ne_top (by exact_mod_cast hr) (EReal.coe_ne_top r), ih]

theorem add_self_mul (s : ℝ) (T : EReal) : (s : EReal) * T + (s : EReal) * T = ((2 * s : ℝ) : EReal) * T := by
  induction T with
  | coe t => rw [← EReal.coe_mul, ← EReal.coe_add, ← EReal.coe_mul]; congr 1; ring
  | top =>
    rcases lt_trichotomy s 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy s 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

theorem sq_nonneg' (x : EReal) : 0 ≤ x * x := by
  induction x with
  | coe t => rw [← EReal.coe_mul]; exact_mod_cast mul_self_nonneg t
  | top => simp
  | bot => simp

theorem real_of_sq {x : EReal} (h : x * x ≠ ⊤) : ∃ t : ℝ, x = (t : EReal) := by
  induction x with
  | coe t => exact ⟨t, rfl⟩
  | top => simp at h
  | bot => simp at h

/-- The mean square with the epsilon. -/
def var (x : Fin 1024 → EReal) : EReal :=
  Ideal.div (∑ k, x k * x k) (Ideal.ofBits .f32 0x44800000#32) + Ideal.ofBits .f32 0x358637BD#32

/-- The mean square is infinite, or it is a positive real and all entries are real. -/
theorem var_cases (x : Fin 1024 → EReal) :
    var x = ⊤ ∨ ∃ v : ℝ, 0 < v ∧ var x = (v : EReal) ∧ ∀ k, ∃ t : ℝ, x k = (t : EReal) := by
  obtain ⟨e, he, hE⟩ := ceps
  have h0 : 0 ≤ ∑ k, x k * x k := Finset.sum_nonneg fun k _ => sq_nonneg' (x k)
  unfold var
  rw [c1024, hE, Ideal.div_coe (by norm_num)]
  by_cases hS : (∑ k, x k * x k) = ⊤
  · left
    rw [hS, EReal.top_mul_coe_of_pos (by norm_num)]; rfl
  · right
    have hk : ∀ k, ∃ t : ℝ, x k = (t : EReal) := fun k => real_of_sq fun hk => hS (top_le_iff.1
      (hk ▸ Finset.single_le_sum (f := fun k => x k * x k) (fun k _ => sq_nonneg' (x k)) (Finset.mem_univ k)))
    obtain ⟨s, hs⟩ : ∃ s : ℝ, (∑ k, x k * x k) = (s : EReal) := by
      refine ⟨(∑ k, x k * x k).toReal, (EReal.coe_toReal hS (fun hb => ?_)).symm⟩
      rw [hb] at h0; simp at h0
    rw [hs] at h0 ⊢
    have hs0 : 0 ≤ s := by exact_mod_cast h0
    exact ⟨s * (1 / 1024) + e, by positivity, by rw [← EReal.coe_mul, ← EReal.coe_add], hk⟩

/-- The norm's gradient: the kernel's form (left) is the derivative's (right). -/
theorem grad (x D : Fin 1024 → EReal) (j : Fin 1024) :
    Ideal.rsqrt (var x) * (D j - x j * Ideal.rsqrt (var x) * Ideal.div (∑ k, D k * (x k * Ideal.rsqrt (var x))) (Ideal.ofBits .f32 0x44800000#32))
    = D j * Ideal.rsqrt (var x)
      + x j * Ideal.div ((∑ k, x k * D k) * (Ideal.ofBits .f32 0xBF000000#32 * Ideal.div (Ideal.rsqrt (var x)) (var x))) (Ideal.ofBits .f32 0x44800000#32)
      + Ideal.div ((∑ k, x k * D k) * (Ideal.ofBits .f32 0xBF000000#32 * Ideal.div (Ideal.rsqrt (var x)) (var x))) (Ideal.ofBits .f32 0x44800000#32) * x j := by
  rw [c1024, mhalf, Ideal.div_coe (by norm_num), Ideal.div_coe (by norm_num)]
  rcases var_cases x with h | ⟨v, hv, h, hx⟩
  · rw [h, Ideal.rsqrt_top]
    have : Ideal.div 0 ⊤ = 0 := by simp [Ideal.div]
    rw [this]; simp
  · obtain ⟨t, ht⟩ := hx j
    have hr : Ideal.rsqrt (v : EReal) = (((Real.sqrt v)⁻¹ : ℝ) : EReal) := by
      rw [Ideal.rsqrt_coe, if_neg (by linarith), if_neg (by linarith)]
    have hr0 : 0 ≤ (Real.sqrt v)⁻¹ := by positivity
    have hrv : 1 / v = (Real.sqrt v)⁻¹ * (Real.sqrt v)⁻¹ := by
      rw [← mul_inv, Real.mul_self_sqrt hv.le, one_div]
    rw [h, hr, Ideal.div_coe hv.ne', hrv]
    generalize (Real.sqrt v)⁻¹ = r at *
    have hT : ∑ k, D k * (x k * (r : EReal)) = (∑ k, x k * D k) * (r : EReal) := by
      rw [← sum_mul_coe _ r hr0]
      exact Finset.sum_congr rfl fun k _ => by rw [← mul_assoc, mul_comm (D k)]
    rw [hT, ht]
    generalize ∑ k, x k * D k = T
    rw [sub_eq_add_neg, EReal.left_distrib_of_nonneg_of_ne_top (by exact_mod_cast hr0) (EReal.coe_ne_top r), add_assoc, mul_comm (r : EReal) (D j)]
    congr 1
    have e1 : (t : EReal) * (T * (((-(1 / 2) : ℝ) : EReal) * ((r : EReal) * ((r * r : ℝ) : EReal))) * ((1 / 1024 : ℝ) : EReal))
        = ((t * (-(1 / 2) * (r * (r * r))) * (1 / 1024) : ℝ) : EReal) * T := by
      simp only [EReal.coe_mul]; ac_rfl
    rw [mul_comm _ (t : EReal), e1, add_self_mul]
    have e2 : (r : EReal) * -((t : EReal) * (r : EReal) * (T * (r : EReal) * ((1 / 1024 : ℝ) : EReal)))
        = ((-(r * (t * r) * r * (1 / 1024)) : ℝ) : EReal) * T := by
      rw [EReal.coe_neg, mul_neg, neg_mul]
      simp only [EReal.coe_mul]; congr 1; ac_rfl
    rw [e2]
    congr 2
    ring

/-- The same as the derivative is printed, with sums over one index. -/
theorem grad_one (x D : Fin 1024 → EReal) (j : Fin 1024) :
    D j * Ideal.rsqrt (var x)
      + x j * (∑ _i : Fin 1, Ideal.div ((∑ k, x k * D k) * (Ideal.ofBits .f32 0xBF000000#32 * Ideal.div (Ideal.rsqrt (var x)) (var x))) (Ideal.ofBits .f32 0x44800000#32))
      + (∑ _i : Fin 1, Ideal.div ((∑ k, x k * D k) * (Ideal.ofBits .f32 0xBF000000#32 * Ideal.div (Ideal.rsqrt (var x)) (var x))) (Ideal.ofBits .f32 0x44800000#32)) * x j
    = Ideal.rsqrt (var x) * (D j - x j * Ideal.rsqrt (var x) * Ideal.div (∑ k, D k * (x k * Ideal.rsqrt (var x))) (Ideal.ofBits .f32 0x44800000#32)) := by
  rw [grad, Fin.sum_univ_one]

end Cert.Proof.RmsBwd

end
-- ==== Proof.InBwdValue.lean ====
/- The gradient of the input projection's tokens and norm: what the result arrays hold, index by index. -/
module

public import proofs.«01_k».proof.Defs
public import proofs.«01_k».proof.Proof.Gen.InBwdIdeal.Value
public import proofs.«01_k».proof.Proof.Gen.InBwdReferenceIdeal.Run
public import proofs.«01_k».proof.Proof.RmsBwd
public import Idealize.ShloMosaic.Lib.Pipeline.ValueKit
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.SL.Sem Idealize.ShloMosaic.TcCoe

namespace Cert.Proof.InBwd
open Cert.InBwdIdeal Cert.InBwdIdeal.Gen Cert.Proof.RmsBwd

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![0, 0, 0] := by decide +kernel
theorem e5 : ∀ t : Fin cfg0.N, win0_5.index t = ![t.val, 0] := by decide +kernel
theorem e6 : ∀ t : Fin cfg0.N, win0_6.index t = ![0, t.val, 0] := by decide +kernel
theorem e7 : ∀ t : Fin cfg0.N, win0_7.index t = ![0, 0] := by decide +kernel

variable (m : (ℓ : Loc nD τ sig) → Buf (Elt Ideal) ℓ) (c : Dev nD)

abbrev hA : Vec Ideal S2048x1024 .f32 := m ((c : Thread nD τ).loc main_arg0)
abbrev gA : Vec Ideal S1024 .f32 := m ((c : Thread nD τ).loc main_arg1)
abbrev dA : Vec Ideal S2048x1024 .f32 := m ((c : Thread nD τ).loc main_arg2)
abbrev zA : Vec Ideal S2048x2048 .bf16 := m ((c : Thread nD τ).loc main_arg3)
abbrev wA : Vec Ideal S1024x2048 .f32 := m ((c : Thread nD τ).loc main_arg4)

theorem g_at (d : Fin 1024) : (V m c main_v0 : Vec Ideal S1x1024 .f32) (ix2 (0 : Fin 1) d) = gA m c (ix1 d) := by
  unfold V hostOps0
  after_reads_simp
  clean_types
  pointwise []
theorem w_at (f : Fin 2048) (d : Fin 1024) : (V m c main_v3 : Vec Ideal S1x2048x1024 .bf16) (ix3 (0 : Fin 1) f d) = wA m c (ix2 d f) := by
  unfold V hostOps0
  after_reads_simp
  clean_types
  pointwise []

abbrev row (t : Fin cfg0.N) (n : Fin 512) : Fin 2048 := ⟨512 * t.val + n.val, by have := t.isLt; have : cfg0.N = 4 := N_0; omega⟩

theorem b0 (t : Fin cfg0.N) (n : Fin 512) (d : Fin 1024) : (iblk m c 0 t : Vec Ideal S512x1024 .f32) (ix2 n d) = hA m c (ix2 (row t n) d) := by
  refine Eq.trans ?_ (congrFun (V_main_arg0 m c) _)
  show V m c main_arg0 _ = V m c main_arg0 _
  congr 1
  funext a; apply Fin.ext
  fin_cases a <;> blk_simp [e0] <;> simp [ix2, e0] <;> omega
theorem b1 (t : Fin cfg0.N) (d : Fin 1024) : (iblk m c 1 t : Vec Ideal S1x1024 .f32) (ix2 (0 : Fin 1) d) = gA m c (ix1 d) := by
  refine Eq.trans ?_ (g_at m c d)
  show V m c main_v0 _ = V m c main_v0 _
  congr 1
  funext a; apply Fin.ext
  fin_cases a <;> blk_simp [e1] <;> simp [ix2, e1]
theorem b2 (t : Fin cfg0.N) (n : Fin 512) (d : Fin 1024) : (iblk m c 2 t : Vec Ideal S512x1024 .f32) (ix2 n d) = dA m c (ix2 (row t n) d) := by
  refine Eq.trans ?_ (congrFun (V_main_arg2 m c) _)
  show V m c main_arg2 _ = V m c main_arg2 _
  congr 1
  funext a; apply Fin.ext
  fin_cases a <;> blk_simp [e2] <;> simp [ix2, e2] <;> omega
theorem b3 (t : Fin cfg0.N) (n : Fin 512) (f : Fin 2048) : (iblk m c 3 t : Vec Ideal S512x2048 .bf16) (ix2 n f) = zA m c (ix2 (row t n) f) := by
  refine Eq.trans ?_ (congrFun (V_main_arg3 m c) _)
  show V m c main_arg3 _ = V m c main_arg3 _
  congr 1
  funext a; apply Fin.ext
  fin_cases a <;> blk_simp [e3] <;> simp [ix2, e3] <;> omega
theorem b4 (t : Fin cfg0.N) (f : Fin 2048) (d : Fin 1024) : (iblk m c 4 t : Vec Ideal S1x2048x1024 .bf16) (ix3 (0 : Fin 1) f d) = wA m c (ix2 d f) := by
  refine Eq.trans ?_ (w_at m c f d)
  show V m c main_v3 _ = V m c main_v3 _
  congr 1
  funext a; apply Fin.ext
  fin_cases a <;> blk_simp [e4] <;> simp [ix3, e4]
theorem o5 (t : Fin cfg0.N) (n : Fin 512) (d : Fin 1024) : ((View.whole main_v4_0).slice (win0_5.rect t)).emb (ix2 n d) = ix2 (row t n) d := by
  funext a; apply Fin.ext
  fin_cases a <;> blk_simp [e5] <;> simp [ix2, e5] <;> omega
theorem o6 (t : Fin cfg0.N) (n : Fin 512) (d : Fin 1024) : ((View.whole main_v4_1).slice (win0_6.rect t)).emb (ix3 (0 : Fin 1) n d) = ix3 (0 : Fin 1) (row t n) d := by
  funext a; apply Fin.ext
  fin_cases a <;> blk_simp [e6] <;> simp [ix3, e6] <;> omega
theorem o7 (t : Fin cfg0.N) (d : Fin 1024) : ((View.whole main_v4_2).slice (win0_7.rect t)).emb (ix2 (0 : Fin 1) d) = ix2 (0 : Fin 1) d := by
  funext a; apply Fin.ext
  fin_cases a <;> blk_simp [e7] <;> simp [ix2, e7]

/-- A token's row. -/
def X (n : Fin 2048) : Fin 1024 → EReal := fun k => hA m c (ix2 n k)
/-- The reciprocal root of a token's mean square. -/
def R (n : Fin 2048) : EReal := Ideal.rsqrt (var (X m c n))
/-- The gradient of the normalized token. -/
def DU (n : Fin 2048) (d : Fin 1024) : EReal := ∑ f : Fin 2048, zA m c (ix2 n f) * wA m c (ix2 d f)
/-- The same times the norm's weight. -/
def DD (n : Fin 2048) : Fin 1024 → EReal := fun d => DU m c n d * gA m c (ix1 d)

/-- The tokens' gradient. -/
def G5 : Vec Ideal S2048x1024 .f32 := fun x =>
  (dA m c x : EReal) + R m c (x 0) * (DD m c (x 0) (x 1) - X m c (x 0) (x 1) * R m c (x 0) * Ideal.div (∑ k, DD m c (x 0) k * (X m c (x 0) k * R m c (x 0))) (Ideal.ofBits .f32 0x44800000#32))
/-- The normalized tokens. -/
def G6 : Vec Ideal S1x2048x1024 .bf16 := fun x => (X m c (x 1) (x 2) * R m c (x 1) * gA m c (ix1 (x 2)) : EReal)
/-- The norm's gradient. -/
def G7 : Vec Ideal S1x1024 .f32 := fun x => ∑ n : Fin 2048, DU m c n (x 1) * (X m c n (x 1) * R m c n)

theorem r_at (t : Fin cfg0.N) (n : Fin 512) : k0_pay4 (F := Ideal) (iblk m c 0 t) (ix2 n (0 : Fin 1)) = R m c (row t n) := by
  unfold k0_pay4
  clean_types
  pointwise []
  refine congrArg (fun z : EReal => Ideal.rsqrt (Ideal.div z _ + _)) ?_
  refine @Finset.sum_congr _ EReal _ _ _ _ _ rfl fun k _ => ?_
  rw [b0]
  rfl

theorem xh_at (t : Fin cfg0.N) (n : Fin 512) (d : Fin 1024) : k0_pay5 (F := Ideal) (iblk m c 0 t) (ix2 n d) = X m c (row t n) d * R m c (row t n) := by
  unfold k0_pay5
  clean_types
  pointwise []
  rw [b0, r_at]
  rfl

theorem du_at (t : Fin cfg0.N) (n : Fin 512) (d : Fin 1024) : k0_pay7 (F := Ideal) (iblk m c 3 t) (iblk m c 4 t) (ix2 n d) = DU m c (row t n) d := by
  unfold k0_pay7
  clean_types
  pointwise []
  refine @Finset.sum_congr _ EReal _ _ _ _ _ rfl fun f _ => ?_
  rw [b3, b4]

theorem dx_at (t : Fin cfg0.N) (n : Fin 512) (d : Fin 1024) : k0_pay8 (F := Ideal) (iblk m c 0 t) (iblk m c 3 t) (iblk m c 4 t) (iblk m c 1 t) (ix2 n d)
    = R m c (row t n) * (DD m c (row t n) d - X m c (row t n) d * R m c (row t n) * Ideal.div (∑ k, DD m c (row t n) k * (X m c (row t n) k * R m c (row t n))) (Ideal.ofBits .f32 0x44800000#32)) := by
  unfold k0_pay8
  clean_types
  pointwise []
  simp only [xh_at, du_at, r_at, b1]
  rfl

theorem pay_out5 (t : Fin cfg0.N) (n : Fin 512) (d : Fin 1024) :
    k0_pay2 (F := Ideal) (k0_pay8 (iblk m c 0 t) (iblk m c 3 t) (iblk m c 4 t) (iblk m c 1 t)) (iblk m c 2 t) (ix2 n d) = G5 m c (ix2 (row t n) d) := by
  unfold k0_pay2
  clean_types
  pointwise []
  rw [dx_at, b2]
  rfl

theorem pay_out6 (t : Fin cfg0.N) (n : Fin 512) (d : Fin 1024) :
    k0_pay6 (F := Ideal) (iblk m c 0 t) (iblk m c 1 t) (ix3 (0 : Fin 1) n d) = G6 m c (ix3 (0 : Fin 1) (row t n) d) := by
  unfold k0_pay6
  clean_types
  pointwise []
  rw [xh_at, b1]
  rfl

/-- A tile's part of the norm's gradient. -/
def part (t : Fin cfg0.N) (j : S1x1024.Idx) : EReal := ∑ n : Fin 512, DU m c (row t n) (j 1) * (X m c (row t n) (j 1) * R m c (row t n))

theorem pay_part (t : Fin cfg0.N) (d : Fin 1024) :
    k0_pay1 (F := Ideal) (k0_pay9 (iblk m c 0 t) (iblk m c 3 t) (iblk m c 4 t)) (ix2 (0 : Fin 1) d) = part m c t (ix2 (0 : Fin 1) d) := by
  unfold k0_pay1 k0_pay9
  clean_types
  pointwise []
  simp only [xh_at, du_at]
  rfl

theorem value5 : (dats m 0 c).arrAt 5 (cfgs 0).N = G5 m c := by
  refine (dats m 0 c).arrAt_eq_of_covers 5 _ (by decide +kernel) fun t hf y => ?_
  blk_simp
  rw [after0_5]
  have hN : t.val < 4 := lt_of_lt_of_eq t.isLt (show cfg0.N = 4 from N_0)
  idx_vars y
  rw [o5]
  by_cases h0 : t.val % 4 = 0
  · rw [outsAt0_A m c t h0 (by omega)]; frame_out; exact pay_out5 m c t y0 y1
  · rw [outsAt0_B m c t h0 (by omega)]; frame_out; exact pay_out5 m c t y0 y1

theorem value6 : (dats m 0 c).arrAt 6 (cfgs 0).N = G6 m c := by
  refine (dats m 0 c).arrAt_eq_of_covers 6 _ (by decide +kernel) fun t hf y => ?_
  blk_simp
  rw [after0_6]
  have hN : t.val < 4 := lt_of_lt_of_eq t.isLt (show cfg0.N = 4 from N_0)
  idx_vars y
  obtain rfl : y0 = 0 := Subsingleton.elim _ _
  rw [o6]
  by_cases h0 : t.val % 4 = 0
  · rw [outsAt0_A m c t h0 (by omega)]; frame_out; exact pay_out6 m c t y1 y2
  · rw [outsAt0_B m c t h0 (by omega)]; frame_out; exact pay_out6 m c t y1 y2

theorem at0 (t : Fin cfg0.N) (h : t.val % 4 = 0) (j : S1x1024.Idx) : (outsAt0 m c t.val t.isLt).2.2 j = (0 : EReal) + part m c t j := by
  idx_vars j
  obtain rfl : j0 = 0 := Subsingleton.elim _ _
  have : t.val < 4 := lt_of_lt_of_eq t.isLt N_0
  rw [outsAt0_A m c t h (by omega)]; frame_out; rw [zero_add]; exact pay_part m c t j1

theorem atS (t : Fin cfg0.N) (h : ¬t.val % 4 = 0) (j : S1x1024.Idx) : (outsAt0 m c t.val t.isLt).2.2 j
    = ((outsAt0 m c (t.val - 1) (Nat.lt_of_le_of_lt (Nat.sub_le _ _) t.isLt)).2.2 j : EReal) + part m c t j := by
  idx_vars j
  obtain rfl : j0 = 0 := Subsingleton.elim _ _
  rw [outsAt0_B m c t h (by omega)]; frame_out
  generalize (outsAt0 m c (t.val - 1) _).2.2 = z
  unfold k0_pay3
  clean_types
  pointwise []
  exact congrArg (fun w : EReal => _ + w) (pay_part m c t j1)

theorem last7 (t : Fin cfg0.N) (ht : t.val + 1 = cfg0.N) (j : S1x1024.Idx) : (outsAt0 m c t.val t.isLt).2.2 j = ∑ p : Fin cfg0.N, part m c p j := by
  have h := Pipeline.eq_sum_fin_of_reset_step_apply_last (fun n h => ((outsAt0 m c n h).2.2 : S1x1024.Idx → EReal)) 4 (fun _ => (0 : EReal)) (part m c)
    (at0 m c) (atS m c) (le_of_eq N_0) t ht j
  rw [zero_add] at h
  exact h

theorem sum7 (j : S1x1024.Idx) : ∑ p : Fin cfg0.N, part m c p j = G7 m c j := by
  have h4 : cfg0.N = 4 := N_0
  refine (Finset.sum_congr rfl fun p _ => ?_).trans
    (Fin.sum_mul_add_fin cfg0.N 512 (fun l : Fin 2048 => DU m c l (j 1) * (X m c l (j 1) * R m c l)) (by rw [h4]))
  refine @Finset.sum_congr _ EReal _ _ _ _ _ rfl fun n _ => ?_
  have hr : row p n = ⟨p.val * 512 + n.val, by have := p.isLt; omega⟩ := Fin.ext (by show 512 * p.val + n.val = p.val * 512 + n.val; omega)
  rw [hr]

theorem value7 : (dats m 0 c).arrAt 7 (cfgs 0).N = G7 m c := by
  refine (dats m 0 c).arrAt_eq_of_covers 7 _ (by decide +kernel) fun t hf y => ?_
  blk_simp
  rw [after0_7, last7 m c t (by revert t; decide +kernel), sum7]
  idx_vars y
  obtain rfl : y0 = 0 := Subsingleton.elim _ _
  rw [o7]

theorem algebraic : Cert.algebraic_InBwdIdeal_InBwdReferenceIdeal := fun m g m' g' _ hag => by
  refine ⟨fun c => G5 m c, fun c => G6 m c, fun c => G7 m c,
    (θ_run _ _ _).mono (fun r h c => ⟨(h c).1.trans (value5 m c), (h c).2.1.trans (value6 m c), (h c).2.2.1.trans (value7 m c), (h c).2.2.2⟩)
      (Cert.InBwdIdeal.Value.run_blocks m g),
    (θ_run _ _ _).mono (fun r h c => ⟨(h c).1.trans ?_, (h c).2.1.trans ?_, (h c).2.2.1.trans ?_, (h c).2.2.2⟩) (Cert.InBwdReferenceIdeal.Value.run (F := Ideal) m' g')⟩
  · unfold Cert.InBwdReferenceIdeal.Value.res_main_v39
    simp only [(hag c).1, (hag c).2.1, (hag c).2.2.1, (hag c).2.2.2.1, (hag c).2.2.2.2]
    funext y
    idx_vars y
    pointwise []
    try simp only [(hag c).1, (hag c).2.1, (hag c).2.2.1, (hag c).2.2.2.1, (hag c).2.2.2.2]
    exact congrArg (fun z : EReal => (dA m c (ix2 y0 y1) : EReal) + z) (grad_one (X m c y0) (DD m c y0) y1)
  · rw [(hag c).1, (hag c).2.1]
    funext y
    idx_vars y
    pointwise []
    rfl
  · rw [(hag c).1, (hag c).2.2.2.1, (hag c).2.2.2.2]
    funext y
    idx_vars y
    obtain rfl : y0 = 0 := Subsingleton.elim _ _
    pointwise []
    refine (@Fin.sum_univ_one EReal _ _).trans ?_
    refine @Finset.sum_congr _ EReal _ _ _ _ _ rfl fun n _ => ?_
    rw [mul_comm]
    rfl

end Cert.Proof.InBwd

end
-- ==== Proof.PleBwdValue.lean ====
/- The gradient of the gated embedding's tokens and norm: what the result arrays hold, index by index. -/
module

public import proofs.«01_k».proof.Defs
public import proofs.«01_k».proof.Proof.Gen.PleBwdIdeal.Value
public import proofs.«01_k».proof.Proof.Gen.PleBwdReferenceIdeal.Run
public import proofs.«01_k».proof.Proof.RmsBwd
public import Idealize.ShloMosaic.Lib.Pipeline.ValueKit
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.SL.Sem Idealize.ShloMosaic.TcCoe

namespace Cert.Proof.PleBwd
open Cert.PleBwdIdeal Cert.PleBwdIdeal.Gen Cert.Proof.RmsBwd

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![t.val, 0] := by decide +kernel
theorem e5 : ∀ t : Fin cfg0.N, win0_5.index t = ![0, 0, 0] := by decide +kernel
theorem e6 : ∀ t : Fin cfg0.N, win0_6.index t = ![t.val, 0] := by decide +kernel
theorem e7 : ∀ t : Fin cfg0.N, win0_7.index t = ![0, t.val, 0] := by decide +kernel
theorem e8 : ∀ t : Fin cfg0.N, win0_8.index t = ![0, t.val, 0] := by decide +kernel
theorem e9 : ∀ t : Fin cfg0.N, win0_9.index t = ![0, 0] := by decide +kernel

theorem half_tanh (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    rw [h1]
    have hp := Real.exp_pos (1 / 2 * r)
    have hq := Real.exp_pos (-(1 / 2 * r))
    generalize Real.exp (1 / 2 * r) = a at *
    generalize Real.exp (-(1 / 2 * r)) = b at *
    have ha : a = b⁻¹ := by field_simp; linarith
    subst ha
    field_simp
    ring

theorem half_eq : Ideal.ofBits .f32 0x3F000000#32 = ((1 / 2 : ℝ) : EReal) := by
  simp [Ideal.ofBits, Ideal.ieee, -EReal.coe_mul]; norm_num

variable (m : (ℓ : Loc nD τ sig) → Buf (Elt Ideal) ℓ) (c : Dev nD)

abbrev hA : Vec Ideal S2048x1024 .f32 := m ((c : Thread nD τ).loc main_arg0)
abbrev gA : Vec Ideal S1024 .f32 := m ((c : Thread nD τ).loc main_arg1)
abbrev dA : Vec Ideal S2048x1024 .f32 := m ((c : Thread nD τ).loc main_arg2)
abbrev qA : Vec Ideal S2048x1024 .bf16 := m ((c : Thread nD τ).loc main_arg3)
abbrev pA : Vec Ideal S2048x1024 .bf16 := m ((c : Thread nD τ).loc main_arg4)
abbrev wA : Vec Ideal S1024x1024 .f32 := m ((c : Thread nD τ).loc main_arg5)

theorem g_at (d : Fin 1024) : (V m c main_v0 : Vec Ideal S1x1024 .f32) (ix2 (0 : Fin 1) d) = gA m c (ix1 d) := by
  unfold V hostOps0
  after_reads_simp
  clean_types
  pointwise []
theorem w_at (d f : Fin 1024) : (V m c main_v2 : Vec Ideal S1x1024x1024 .bf16) (ix3 (0 : Fin 1) d f) = wA m c (ix2 d f) := by
  unfold V hostOps0
  after_reads_simp
  clean_types
  pointwise []

abbrev row (t : Fin cfg0.N) (n : Fin 512) : Fin 2048 := ⟨512 * t.val + n.val, by have := t.isLt; have : cfg0.N = 4 := N_0; omega⟩

theorem b0 (t : Fin cfg0.N) (n : Fin 512) (d : Fin 1024) : (iblk m c 0 t : Vec Ideal S512x1024 .f32) (ix2 n d) = hA m c (ix2 (row t n) d) := by
  refine Eq.trans ?_ (congrFun (V_main_arg0 m c) _)
  show V m c main_arg0 _ = V m c main_arg0 _
  congr 1
  funext a; apply Fin.ext
  fin_cases a <;> blk_simp [e0] <;> simp [ix2, e0] <;> omega
theorem b1 (t : Fin cfg0.N) (d : Fin 1024) : (iblk m c 1 t : Vec Ideal S1x1024 .f32) (ix2 (0 : Fin 1) d) = gA m c (ix1 d) := by
  refine Eq.trans ?_ (g_at m c d)
  show V m c main_v0 _ = V m c main_v0 _
  congr 1
  funext a; apply Fin.ext
  fin_cases a <;> blk_simp [e1] <;> simp [ix2, e1]
theorem b2 (t : Fin cfg0.N) (n : Fin 512) (d : Fin 1024) : (iblk m c 2 t : Vec Ideal S512x1024 .f32) (ix2 n d) = dA m c (ix2 (row t n) d) := by
  refine Eq.trans ?_ (congrFun (V_main_arg2 m c) _)
  show V m c main_arg2 _ = V m c main_arg2 _
  congr 1
  funext a; apply Fin.ext
  fin_cases a <;> blk_simp [e2] <;> simp [ix2, e2] <;> omega
theorem b3 (t : Fin cfg0.N) (n : Fin 512) (d : Fin 1024) : (iblk m c 3 t : Vec Ideal S512x1024 .bf16) (ix2 n d) = qA m c (ix2 (row t n) d) := by
  refine Eq.trans ?_ (congrFun (V_main_arg3 m c) _)
  show V m c main_arg3 _ = V m c main_arg3 _
  congr 1
  funext a; apply Fin.ext
  fin_cases a <;> blk_simp [e3] <;> simp [ix2, e3] <;> omega
theorem b4 (t : Fin cfg0.N) (n : Fin 512) (d : Fin 1024) : (iblk m c 4 t : Vec Ideal S512x1024 .bf16) (ix2 n d) = pA m c (ix2 (row t n) d) := by
  refine Eq.trans ?_ (congrFun (V_main_arg4 m c) _)
  show V m c main_arg4 _ = V m c main_arg4 _
  congr 1
  funext a; apply Fin.ext
  fin_cases a <;> blk_simp [e4] <;> simp [ix2, e4] <;> omega
theorem b5 (t : Fin cfg0.N) (d f : Fin 1024) : (iblk m c 5 t : Vec Ideal S1x1024x1024 .bf16) (ix3 (0 : Fin 1) d f) = wA m c (ix2 d f) := by
  refine Eq.trans ?_ (w_at m c d f)
  show V m c main_v2 _ = V m c main_v2 _
  congr 1
  funext a; apply Fin.ext
  fin_cases a <;> blk_simp [e5] <;> simp [ix3, e5]
theorem o6 (t : Fin cfg0.N) (n : Fin 512) (d : Fin 1024) : ((View.whole main_v3_0).slice (win0_6.rect t)).emb (ix2 n d) = ix2 (row t n) d := by
  funext a; apply Fin.ext
  fin_cases a <;> blk_simp [e6] <;> simp [ix2, e6] <;> omega
theorem o7 (t : Fin cfg0.N) (n : Fin 512) (d : Fin 1024) : ((View.whole main_v3_1).slice (win0_7.rect t)).emb (ix3 (0 : Fin 1) n d) = ix3 (0 : Fin 1) (row t n) d := by
  funext a; apply Fin.ext
  fin_cases a <;> blk_simp [e7] <;> simp [ix3, e7] <;> omega
theorem o8 (t : Fin cfg0.N) (n : Fin 512) (d : Fin 1024) : ((View.whole main_v3_2).slice (win0_8.rect t)).emb (ix3 (0 : Fin 1) n d) = ix3 (0 : Fin 1) (row t n) d := by
  funext a; apply Fin.ext
  fin_cases a <;> blk_simp [e8] <;> simp [ix3, e8] <;> omega
theorem o9 (t : Fin cfg0.N) (d : Fin 1024) : ((View.whole main_v3_3).slice (win0_9.rect t)).emb (ix2 (0 : Fin 1) d) = ix2 (0 : Fin 1) d := by
  funext a; apply Fin.ext
  fin_cases a <;> blk_simp [e9] <;> simp [ix2, e9]

/-- A token's row. -/
def X (n : Fin 2048) : Fin 1024 → EReal := fun k => hA m c (ix2 n k)
/-- The reciprocal root of a token's mean square. -/
def R (n : Fin 2048) : EReal := Ideal.rsqrt (var (X m c n))
/-- The gate. -/
def SG (n : Fin 2048) (d : Fin 1024) : EReal := Ideal.logistic (qA m c (ix2 n d))
/-- The gradient of the gate's argument. -/
def DQ (n : Fin 2048) (d : Fin 1024) : EReal :=
  dA m c (ix2 n d) * pA m c (ix2 n d) * SG m c n d * (1 - SG m c n d)
/-- The gradient of the normalized token. -/
def DU (n : Fin 2048) (d : Fin 1024) : EReal := ∑ f : Fin 1024, DQ m c n f * wA m c (ix2 d f)
/-- The same times the norm's weight. -/
def DD (n : Fin 2048) : Fin 1024 → EReal := fun d => DU m c n d * gA m c (ix1 d)

/-- The tokens' gradient. -/
def G6 : Vec Ideal S2048x1024 .f32 := fun x =>
  (dA m c x : EReal) + R m c (x 0) * (DD m c (x 0) (x 1) - X m c (x 0) (x 1) * R m c (x 0) * Ideal.div (∑ k, DD m c (x 0) k * (X m c (x 0) k * R m c (x 0))) (Ideal.ofBits .f32 0x44800000#32))
/-- The gradient of the gate's argument, as an array. -/
def G7 : Vec Ideal S1x2048x1024 .bf16 := fun x => DQ m c (x 1) (x 2)
/-- The embedding's gradient. -/
def G8 : Vec Ideal S1x2048x1024 .bf16 := fun x => (dA m c (ix2 (x 1) (x 2)) * SG m c (x 1) (x 2) : EReal)
/-- The norm's gradient. -/
def G9 : Vec Ideal S1x1024 .f32 := fun x => ∑ n : Fin 2048, DU m c n (x 1) * (X m c n (x 1) * R m c n)

theorem r_at (t : Fin cfg0.N) (n : Fin 512) : k0_pay5 (F := Ideal) (iblk m c 0 t) (ix2 n (0 : Fin 1)) = R m c (row t n) := by
  unfold k0_pay5
  clean_types
  pointwise []
  refine congrArg (fun z : EReal => Ideal.rsqrt (Ideal.div z _ + _)) ?_
  refine @Finset.sum_congr _ EReal _ _ _ _ _ rfl fun k _ => ?_
  rw [b0]
  rfl

theorem xh_at (t : Fin cfg0.N) (n : Fin 512) (d : Fin 1024) : k0_pay6 (F := Ideal) (iblk m c 0 t) (ix2 n d) = X m c (row t n) d * R m c (row t n) := by
  unfold k0_pay6
  clean_types
  pointwise []
  rw [b0, r_at]
  rfl

theorem s_at (t : Fin cfg0.N) (n : Fin 512) (d : Fin 1024) : k0_pay7 (F := Ideal) (iblk m c 3 t) (ix2 n d) = SG m c (row t n) d := by
  unfold k0_pay7
  clean_types
  pointwise []
  rw [b3, half_eq, half_tanh]
  rfl

theorem q_at (t : Fin cfg0.N) (n : Fin 512) (d : Fin 1024) :
    k0_pay8 (F := Ideal) (iblk m c 3 t) (iblk m c 2 t) (iblk m c 4 t) (ix2 n d) = DQ m c (row t n) d := by
  unfold k0_pay8
  clean_types
  pointwise []
  rw [s_at, b2, b4]
  rfl

theorem du_at (t : Fin cfg0.N) (n : Fin 512) (d : Fin 1024) :
    k0_pay1 (F := Ideal) (k0_pay8 (iblk m c 3 t) (iblk m c 2 t) (iblk m c 4 t)) (iblk m c 5 t) (ix2 n d) = DU m c (row t n) d := by
  unfold k0_pay1
  clean_types
  pointwise []
  refine @Finset.sum_congr _ EReal _ _ _ _ _ rfl fun f _ => ?_
  rw [q_at, b5]

theorem pay_out6 (t : Fin cfg0.N) (n : Fin 512) (d : Fin 1024) :
    k0_pay3 (F := Ideal) (k0_pay5 (iblk m c 0 t)) (k0_pay6 (iblk m c 0 t)) (iblk m c 2 t) (k0_pay8 (iblk m c 3 t) (iblk m c 2 t) (iblk m c 4 t)) (iblk m c 5 t) (iblk m c 1 t)
      (ix2 n d) = G6 m c (ix2 (row t n) d) := by
  unfold k0_pay3
  clean_types
  pointwise []
  simp only [xh_at, du_at, r_at, b1, b2]
  rfl

theorem pay_out7 (t : Fin cfg0.N) (n : Fin 512) (d : Fin 1024) :
    k0_pay9 (F := Ideal) (iblk m c 3 t) (iblk m c 2 t) (iblk m c 4 t) (ix3 (0 : Fin 1) n d) = G7 m c (ix3 (0 : Fin 1) (row t n) d) := by
  unfold k0_pay9
  clean_types
  pointwise []
  exact q_at m c t n d

theorem pay_out8 (t : Fin cfg0.N) (n : Fin 512) (d : Fin 1024) :
    k0_pay10 (F := Ideal) (iblk m c 3 t) (iblk m c 2 t) (ix3 (0 : Fin 1) n d) = G8 m c (ix3 (0 : Fin 1) (row t n) d) := by
  unfold k0_pay10
  clean_types
  pointwise []
  rw [s_at, b2]
  rfl

/-- A tile's part of the norm's gradient. -/
def part (t : Fin cfg0.N) (j : S1x1024.Idx) : EReal := ∑ n : Fin 512, DU m c (row t n) (j 1) * (X m c (row t n) (j 1) * R m c (row t n))

theorem pay_part (t : Fin cfg0.N) (d : Fin 1024) :
    k0_pay2 (F := Ideal) (k0_pay6 (iblk m c 0 t)) (k0_pay8 (iblk m c 3 t) (iblk m c 2 t) (iblk m c 4 t)) (iblk m c 5 t) (ix2 (0 : Fin 1) d) = part m c t (ix2 (0 : Fin 1) d) := by
  unfold k0_pay2
  clean_types
  pointwise []
  simp only [xh_at, du_at]
  rfl

theorem at0 (t : Fin cfg0.N) (h : t.val % 4 = 0) (j : S1x1024.Idx) : (outsAt0 m c t.val t.isLt).2.2.2 j = (0 : EReal) + part m c t j := by
  idx_vars j
  obtain rfl : j0 = 0 := Subsingleton.elim _ _
  have : t.val < 4 := lt_of_lt_of_eq t.isLt N_0
  rw [outsAt0_A m c t h (by omega)]; frame_out; rw [zero_add]; exact pay_part m c t j1

theorem atS (t : Fin cfg0.N) (h : ¬t.val % 4 = 0) (j : S1x1024.Idx) : (outsAt0 m c t.val t.isLt).2.2.2 j
    = ((outsAt0 m c (t.val - 1) (Nat.lt_of_le_of_lt (Nat.sub_le _ _) t.isLt)).2.2.2 j : EReal) + part m c t j := by
  idx_vars j
  obtain rfl : j0 = 0 := Subsingleton.elim _ _
  rw [outsAt0_B m c t h (by omega)]; frame_out
  generalize (outsAt0 m c (t.val - 1) _).2.2.2 = z
  unfold k0_pay4
  clean_types
  pointwise []
  exact congrArg (fun w : EReal => _ + w) (pay_part m c t j1)

theorem last9 (t : Fin cfg0.N) (ht : t.val + 1 = cfg0.N) (j : S1x1024.Idx) : (outsAt0 m c t.val t.isLt).2.2.2 j = ∑ p : Fin cfg0.N, part m c p j := by
  have h := Pipeline.eq_sum_fin_of_reset_step_apply_last (fun n h => ((outsAt0 m c n h).2.2.2 : S1x1024.Idx → EReal)) 4 (fun _ => (0 : EReal)) (part m c)
    (at0 m c) (atS m c) (le_of_eq N_0) t ht j
  rw [zero_add] at h
  exact h

theorem sum9 (j : S1x1024.Idx) : ∑ p : Fin cfg0.N, part m c p j = G9 m c j := by
  have h4 : cfg0.N = 4 := N_0
  refine (Finset.sum_congr rfl fun p _ => ?_).trans
    (Fin.sum_mul_add_fin cfg0.N 512 (fun l : Fin 2048 => DU m c l (j 1) * (X m c l (j 1) * R m c l)) (by rw [h4]))
  refine @Finset.sum_congr _ EReal _ _ _ _ _ rfl fun n _ => ?_
  have hr : row p n = ⟨p.val * 512 + n.val, by have := p.isLt; omega⟩ := Fin.ext (by show 512 * p.val + n.val = p.val * 512 + n.val; omega)
  rw [hr]

theorem value6 : (dats m 0 c).arrAt 6 (cfgs 0).N = G6 m c := by
  refine (dats m 0 c).arrAt_eq_of_covers 6 _ (by decide +kernel) fun t hf y => ?_
  blk_simp
  rw [after0_6]
  have hN : t.val < 4 := lt_of_lt_of_eq t.isLt (show cfg0.N = 4 from N_0)
  idx_vars y
  rw [o6]
  by_cases h0 : t.val % 4 = 0
  · rw [outsAt0_A m c t h0 (by omega)]; frame_out; exact pay_out6 m c t y0 y1
  · rw [outsAt0_B m c t h0 (by omega)]; frame_out; exact pay_out6 m c t y0 y1

theorem value7 : (dats m 0 c).arrAt 7 (cfgs 0).N = G7 m c := by
  refine (dats m 0 c).arrAt_eq_of_covers 7 _ (by decide +kernel) fun t hf y => ?_
  blk_simp
  rw [after0_7]
  have hN : t.val < 4 := lt_of_lt_of_eq t.isLt (show cfg0.N = 4 from N_0)
  idx_vars y
  obtain rfl : y0 = 0 := Subsingleton.elim _ _
  rw [o7]
  by_cases h0 : t.val % 4 = 0
  · rw [outsAt0_A m c t h0 (by omega)]; frame_out; exact pay_out7 m c t y1 y2
  · rw [outsAt0_B m c t h0 (by omega)]; frame_out; exact pay_out7 m c t y1 y2

theorem value8 : (dats m 0 c).arrAt 8 (cfgs 0).N = G8 m c := by
  refine (dats m 0 c).arrAt_eq_of_covers 8 _ (by decide +kernel) fun t hf y => ?_
  blk_simp
  rw [after0_8]
  have hN : t.val < 4 := lt_of_lt_of_eq t.isLt (show cfg0.N = 4 from N_0)
  idx_vars y
  obtain rfl : y0 = 0 := Subsingleton.elim _ _
  rw [o8]
  by_cases h0 : t.val % 4 = 0
  · rw [outsAt0_A m c t h0 (by omega)]; frame_out; exact pay_out8 m c t y1 y2
  · rw [outsAt0_B m c t h0 (by omega)]; frame_out; exact pay_out8 m c t y1 y2

theorem value9 : (dats m 0 c).arrAt 9 (cfgs 0).N = G9 m c := by
  refine (dats m 0 c).arrAt_eq_of_covers 9 _ (by decide +kernel) fun t hf y => ?_
  blk_simp
  rw [after0_9, last9 m c t (by revert t; decide +kernel), sum9]
  idx_vars y
  obtain rfl : y0 = 0 := Subsingleton.elim _ _
  rw [o9]

theorem dq_ref (n : Fin 2048) (d : Fin 1024) :
    (pA m c (ix2 n d) : EReal) * dA m c (ix2 n d) * (SG m c n d * (1 - SG m c n d)) = DQ m c n d := by
  unfold DQ
  rw [mul_comm (pA m c (ix2 n d) : EReal), mul_assoc, mul_assoc, mul_assoc]

theorem algebraic : Cert.algebraic_PleBwdIdeal_PleBwdReferenceIdeal := fun m g m' g' _ hag => by
  refine ⟨fun c => G6 m c, fun c => G7 m c, fun c => G8 m c, fun c => G9 m c,
    (θ_run _ _ _).mono (fun r h c => ⟨(h c).1.trans (value6 m c), (h c).2.1.trans (value7 m c), (h c).2.2.1.trans (value8 m c), (h c).2.2.2.1.trans (value9 m c), (h c).2.2.2.2⟩)
      (Cert.PleBwdIdeal.Value.run_blocks m g),
    (θ_run _ _ _).mono (fun r h c => ⟨(h c).1.trans ?_, (h c).2.1.trans ?_, (h c).2.2.1.trans ?_, (h c).2.2.2.1.trans ?_, (h c).2.2.2.2⟩)
      (Cert.PleBwdReferenceIdeal.Value.run (F := Ideal) m' g')⟩
  · unfold Cert.PleBwdReferenceIdeal.Value.res_main_v53
    simp only [(hag c).1, (hag c).2.1, (hag c).2.2.1, (hag c).2.2.2.1, (hag c).2.2.2.2.1, (hag c).2.2.2.2.2]
    funext y
    idx_vars y
    pointwise []
    try simp only [(hag c).1, (hag c).2.1, (hag c).2.2.1, (hag c).2.2.2.1, (hag c).2.2.2.2.1, (hag c).2.2.2.2.2]
    have hD : DD m c y0 = fun k => (∑ f : Fin 1024, (pA m c (ix2 y0 f) : EReal) * dA m c (ix2 y0 f) * (SG m c y0 f * (1 - SG m c y0 f)) * wA m c (ix2 k f)) * gA m c (ix1 k) := by
      funext k
      refine congrArg (fun z : EReal => z * gA m c (ix1 k)) (@Finset.sum_congr _ EReal _ _ _ _ _ rfl fun f _ => ?_)
      exact congrArg (fun z : EReal => z * wA m c (ix2 k f)) (dq_ref m c y0 f).symm
    have hG := grad_one (X m c y0) (DD m c y0) y1
    refine Eq.trans ?_ (congrArg (fun z : EReal => (dA m c (ix2 y0 y1) : EReal) + z) hG)
    rw [hD]
    rfl
  · simp only [(hag c).1, (hag c).2.1, (hag c).2.2.1, (hag c).2.2.2.1, (hag c).2.2.2.2.1, (hag c).2.2.2.2.2]
    funext y
    idx_vars y
    pointwise []
    exact dq_ref m c y1 y2
  · simp only [(hag c).1, (hag c).2.1, (hag c).2.2.1, (hag c).2.2.2.1, (hag c).2.2.2.2.1, (hag c).2.2.2.2.2]
    funext y
    idx_vars y
    pointwise []
    rfl
  · simp only [(hag c).1, (hag c).2.1, (hag c).2.2.1, (hag c).2.2.2.1, (hag c).2.2.2.2.1, (hag c).2.2.2.2.2]
    funext y
    idx_vars y
    obtain rfl : y0 = 0 := Subsingleton.elim _ _
    pointwise []
    refine (@Fin.sum_univ_one EReal _ _).trans ?_
    refine @Finset.sum_congr _ EReal _ _ _ _ _ rfl fun n _ => ?_
    rw [mul_comm]
    refine congrArg (fun z : EReal => z * (X m c n y1 * R m c n)) ?_
    refine @Finset.sum_congr _ EReal _ _ _ _ _ rfl fun f _ => ?_
    exact congrArg (fun z : EReal => z * wA m c (ix2 y1 f)) (dq_ref m c n f)

end Cert.Proof.PleBwd

end
-- ==== Proof.AdamValue.lean ====
/- The optimiser: the arrays of weights and moments after the step, index by index. -/
module

public import proofs.«01_k».proof.Defs
public import proofs.«01_k».proof.Proof.Gen.Ad1Ideal.Value
public import proofs.«01_k».proof.Proof.Gen.Ad1ReferenceIdeal.Run
public import proofs.«01_k».proof.Proof.Gen.Ad2Ideal.Value
public import proofs.«01_k».proof.Proof.Gen.Ad2ReferenceIdeal.Run
public import proofs.«01_k».proof.Proof.Gen.Ad3Ideal.Value
public import proofs.«01_k».proof.Proof.Gen.Ad3ReferenceIdeal.Run
public import proofs.«01_k».proof.Proof.Gen.Ad4Ideal.Value
public import proofs.«01_k».proof.Proof.Gen.Ad4ReferenceIdeal.Run
public import proofs.«01_k».proof.Proof.Gen.Ad5Ideal.Value
public import proofs.«01_k».proof.Proof.Gen.Ad5ReferenceIdeal.Run
public import proofs.«01_k».proof.Proof.Gen.Ad6Ideal.Value
public import proofs.«01_k».proof.Proof.Gen.Ad6ReferenceIdeal.Run
public import proofs.«01_k».proof.Proof.Gen.Ad7Ideal.Value
public import proofs.«01_k».proof.Proof.Gen.Ad7ReferenceIdeal.Run
public import proofs.«01_k».proof.Proof.Gen.Ad8Ideal.Value
public import proofs.«01_k».proof.Proof.Gen.Ad8ReferenceIdeal.Run
public import Idealize.ShloMosaic.Lib.Pointwise

@[expose] public section

noncomputable section

open Idealize.ShloMosaic Idealize.SL.Sem Idealize.ShloMosaic.TcCoe

namespace Cert.Proof.Adam

theorem algebraic_ad1 : Cert.algebraic_Ad1Ideal_Ad1ReferenceIdeal := fun m g m' g' _ hag => by
  refine ⟨_, _, _, Cert.Ad1Ideal.Value.run m g,
    (θ_run _ _ _).mono (fun r h c => ⟨(h c).1.trans ?_, (h c).2.1.trans ?_, (h c).2.2.1.trans ?_, (h c).2.2.2⟩) (Cert.Ad1ReferenceIdeal.Value.run (F := Ideal) m' g')⟩
  all_goals
    obtain ⟨h0, h1, h2, h3⟩ := hag c
    simp only [h0, h1, h2, h3]
    rfl

theorem algebraic_ad2 : Cert.algebraic_Ad2Ideal_Ad2ReferenceIdeal := fun m g m' g' _ hag => by
  refine ⟨_, _, _, Cert.Ad2Ideal.Value.run m g,
    (θ_run _ _ _).mono (fun r h c => ⟨(h c).1.trans ?_, (h c).2.1.trans ?_, (h c).2.2.1.trans ?_, (h c).2.2.2⟩) (Cert.Ad2ReferenceIdeal.Value.run (F := Ideal) m' g')⟩
  all_goals
    obtain ⟨h0, h1, h2, h3⟩ := hag c
    simp only [h0, h1, h2, h3]
    rfl

theorem algebraic_ad3 : Cert.algebraic_Ad3Ideal_Ad3ReferenceIdeal := fun m g m' g' _ hag => by
  refine ⟨_, _, _, _, _, _, Cert.Ad3Ideal.Value.run m g,
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Ad3ReferenceIdeal.Value.run (F := Ideal) m' g')⟩
  all_goals
    obtain ⟨h0, h1, h2, h3, h4, h5, h6, h7⟩ := hag c
    simp only [h0, h1, h2, h3, h4, h5, h6, h7]
    rfl

theorem algebraic_ad4 : Cert.algebraic_Ad4Ideal_Ad4ReferenceIdeal := fun m g m' g' _ hag => by
  refine ⟨_, _, _, Cert.Ad4Ideal.Value.run m g,
    (θ_run _ _ _).mono (fun r h c => ⟨(h c).1.trans ?_, (h c).2.1.trans ?_, (h c).2.2.1.trans ?_, (h c).2.2.2⟩) (Cert.Ad4ReferenceIdeal.Value.run (F := Ideal) m' g')⟩
  all_goals
    obtain ⟨h0, h1, h2, h3⟩ := hag c
    simp only [h0, h1, h2, h3]
    rfl

theorem algebraic_ad5 : Cert.algebraic_Ad5Ideal_Ad5ReferenceIdeal := fun m g m' g' _ hag => by
  refine ⟨_, _, _, Cert.Ad5Ideal.Value.run m g,
    (θ_run _ _ _).mono (fun r h c => ⟨(h c).1.trans ?_, (h c).2.1.trans ?_, (h c).2.2.1.trans ?_, (h c).2.2.2⟩) (Cert.Ad5ReferenceIdeal.Value.run (F := Ideal) m' g')⟩
  all_goals
    obtain ⟨h0, h1, h2, h3⟩ := hag c
    simp only [h0, h1, h2, h3]
    rfl

theorem algebraic_ad6 : Cert.algebraic_Ad6Ideal_Ad6ReferenceIdeal := fun m g m' g' _ hag => by
  refine ⟨_, _, _, Cert.Ad6Ideal.Value.run m g,
    (θ_run _ _ _).mono (fun r h c => ⟨(h c).1.trans ?_, (h c).2.1.trans ?_, (h c).2.2.1.trans ?_, (h c).2.2.2⟩) (Cert.Ad6ReferenceIdeal.Value.run (F := Ideal) m' g')⟩
  all_goals
    obtain ⟨h0, h1, h2, h3⟩ := hag c
    simp only [h0, h1, h2, h3]
    rfl

theorem algebraic_ad7 : Cert.algebraic_Ad7Ideal_Ad7ReferenceIdeal := fun m g m' g' _ hag => by
  refine ⟨_, _, _, Cert.Ad7Ideal.Value.run m g,
    (θ_run _ _ _).mono (fun r h c => ⟨(h c).1.trans ?_, (h c).2.1.trans ?_, (h c).2.2.1.trans ?_, (h c).2.2.2⟩) (Cert.Ad7ReferenceIdeal.Value.run (F := Ideal) m' g')⟩
  all_goals
    obtain ⟨h0, h1, h2, h3⟩ := hag c
    simp only [h0, h1, h2, h3]
    rfl

theorem algebraic_ad8 : Cert.algebraic_Ad8Ideal_Ad8ReferenceIdeal := fun m g m' g' _ hag => by
  refine ⟨_, _, _, Cert.Ad8Ideal.Value.run m g,
    (θ_run _ _ _).mono (fun r h c => ⟨(h c).1.trans ?_, (h c).2.1.trans ?_, (h c).2.2.1.trans ?_, (h c).2.2.2⟩) (Cert.Ad8ReferenceIdeal.Value.run (F := Ideal) m' g')⟩
  all_goals
    obtain ⟨h0, h1, h2, h3⟩ := hag c
    simp only [h0, h1, h2, h3]
    rfl

end Cert.Proof.Adam

end
-- ==== Proof.lean ====
/- The proof. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tame
public import proofs.«01_k».proof.Proof.Gen.ReferenceIdeal.Run
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradIdeal.Value
public import proofs.«01_k».proof.Proof.Gen.WgradReferenceIdeal
public import proofs.«01_k».proof.Proof.Gen.WgradReferenceIdeal.Run
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinIdeal.Value
public import proofs.«01_k».proof.Proof.Gen.WinReferenceIdeal
public import proofs.«01_k».proof.Proof.Gen.WinReferenceIdeal.Run
public import proofs.«01_k».proof.Proof.Gen.Wout
public import proofs.«01_k».proof.Proof.Gen.Wout.Skeleton
public import proofs.«01_k».proof.Proof.Gen.Wout.Launch
public import proofs.«01_k».proof.Proof.Gen.Wout.Points
public import proofs.«01_k».proof.Proof.Gen.Wout.Frame
public import proofs.«01_k».proof.Proof.Gen.WoutIdeal
public import proofs.«01_k».proof.Proof.Gen.WoutIdeal.Skeleton
public import proofs.«01_k».proof.Proof.Gen.WoutIdeal.Launch
public import proofs.«01_k».proof.Proof.Gen.WoutIdeal.Points
public import proofs.«01_k».proof.Proof.Gen.WoutIdeal.Frame
public import proofs.«01_k».proof.Proof.Gen.WoutIdeal.Value
public import proofs.«01_k».proof.Proof.Gen.WoutReferenceIdeal
public import proofs.«01_k».proof.Proof.Gen.WoutReferenceIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluReferenceIdeal
public import proofs.«01_k».proof.Proof.Gen.GluReferenceIdeal.Run
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleReferenceIdeal
public import proofs.«01_k».proof.Proof.Gen.PleReferenceIdeal.Run
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdReferenceIdeal
public import proofs.«01_k».proof.Proof.Gen.FwdReferenceIdeal.Run
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdReferenceIdeal
public import proofs.«01_k».proof.Proof.Gen.InFwdReferenceIdeal.Run
public import proofs.«01_k».proof.Proof.Gen.PleFwd
public import proofs.«01_k».proof.Proof.Gen.PleFwd.Skeleton
public import proofs.«01_k».proof.Proof.Gen.PleFwd.Launch
public import proofs.«01_k».proof.Proof.Gen.PleFwd.Points
public import proofs.«01_k».proof.Proof.Gen.PleFwd.Frame
public import proofs.«01_k».proof.Proof.Gen.PleFwdIdeal
public import proofs.«01_k».proof.Proof.Gen.PleFwdIdeal.Skeleton
public import proofs.«01_k».proof.Proof.Gen.PleFwdIdeal.Launch
public import proofs.«01_k».proof.Proof.Gen.PleFwdIdeal.Points
public import proofs.«01_k».proof.Proof.Gen.PleFwdIdeal.Frame
public import proofs.«01_k».proof.Proof.Gen.PleFwdIdeal.Value
public import proofs.«01_k».proof.Proof.Gen.PleFwdReferenceIdeal
public import proofs.«01_k».proof.Proof.Gen.PleFwdReferenceIdeal.Run
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdIdeal.Value
public import proofs.«01_k».proof.Proof.Gen.MixFwdReferenceIdeal
public import proofs.«01_k».proof.Proof.Gen.MixFwdReferenceIdeal.Run
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.InBwdReferenceIdeal
public import proofs.«01_k».proof.Proof.Gen.InBwdReferenceIdeal.Run
public import proofs.«01_k».proof.Proof.Gen.PleBwd
public import proofs.«01_k».proof.Proof.Gen.PleBwd.Skeleton
public import proofs.«01_k».proof.Proof.Gen.PleBwd.Launch
public import proofs.«01_k».proof.Proof.Gen.PleBwd.Points
public import proofs.«01_k».proof.Proof.Gen.PleBwd.Frame
public import proofs.«01_k».proof.Proof.Gen.PleBwdIdeal
public import proofs.«01_k».proof.Proof.Gen.PleBwdIdeal.Skeleton
public import proofs.«01_k».proof.Proof.Gen.PleBwdIdeal.Launch
public import proofs.«01_k».proof.Proof.Gen.PleBwdIdeal.Points
public import proofs.«01_k».proof.Proof.Gen.PleBwdIdeal.Frame
public import proofs.«01_k».proof.Proof.Gen.PleBwdIdeal.Value
public import proofs.«01_k».proof.Proof.Gen.PleBwdReferenceIdeal
public import proofs.«01_k».proof.Proof.Gen.PleBwdReferenceIdeal.Run
public import proofs.«01_k».proof.Proof.Gen.Ad1
public import proofs.«01_k».proof.Proof.Gen.Ad1.Skeleton
public import proofs.«01_k».proof.Proof.Gen.Ad1.Launch
public import proofs.«01_k».proof.Proof.Gen.Ad1.Points
public import proofs.«01_k».proof.Proof.Gen.Ad1.Frame
public import proofs.«01_k».proof.Proof.Gen.Ad1Ideal
public import proofs.«01_k».proof.Proof.Gen.Ad1Ideal.Skeleton
public import proofs.«01_k».proof.Proof.Gen.Ad1Ideal.Launch
public import proofs.«01_k».proof.Proof.Gen.Ad1Ideal.Points
public import proofs.«01_k».proof.Proof.Gen.Ad1Ideal.Frame
public import proofs.«01_k».proof.Proof.Gen.Ad1Ideal.Value
public import proofs.«01_k».proof.Proof.Gen.Ad1ReferenceIdeal
public import proofs.«01_k».proof.Proof.Gen.Ad1ReferenceIdeal.Run
public import proofs.«01_k».proof.Proof.Gen.Ad2
public import proofs.«01_k».proof.Proof.Gen.Ad2.Skeleton
public import proofs.«01_k».proof.Proof.Gen.Ad2.Launch
public import proofs.«01_k».proof.Proof.Gen.Ad2.Points
public import proofs.«01_k».proof.Proof.Gen.Ad2.Frame
public import proofs.«01_k».proof.Proof.Gen.Ad2Ideal
public import proofs.«01_k».proof.Proof.Gen.Ad2Ideal.Skeleton
public import proofs.«01_k».proof.Proof.Gen.Ad2Ideal.Launch
public import proofs.«01_k».proof.Proof.Gen.Ad2Ideal.Points
public import proofs.«01_k».proof.Proof.Gen.Ad2Ideal.Frame
public import proofs.«01_k».proof.Proof.Gen.Ad2Ideal.Value
public import proofs.«01_k».proof.Proof.Gen.Ad2ReferenceIdeal
public import proofs.«01_k».proof.Proof.Gen.Ad2ReferenceIdeal.Run
public import proofs.«01_k».proof.Proof.Gen.Ad3
public import proofs.«01_k».proof.Proof.Gen.Ad3.Skeleton
public import proofs.«01_k».proof.Proof.Gen.Ad3.Launch
public import proofs.«01_k».proof.Proof.Gen.Ad3.Points
public import proofs.«01_k».proof.Proof.Gen.Ad3.Frame
public import proofs.«01_k».proof.Proof.Gen.Ad3Ideal
public import proofs.«01_k».proof.Proof.Gen.Ad3Ideal.Skeleton
public import proofs.«01_k».proof.Proof.Gen.Ad3Ideal.Launch
public import proofs.«01_k».proof.Proof.Gen.Ad3Ideal.Points
public import proofs.«01_k».proof.Proof.Gen.Ad3Ideal.Frame
public import proofs.«01_k».proof.Proof.Gen.Ad3Ideal.Value
public import proofs.«01_k».proof.Proof.Gen.Ad3ReferenceIdeal
public import proofs.«01_k».proof.Proof.Gen.Ad3ReferenceIdeal.Run
public import proofs.«01_k».proof.Proof.Gen.Ad4
public import proofs.«01_k».proof.Proof.Gen.Ad4.Skeleton
public import proofs.«01_k».proof.Proof.Gen.Ad4.Launch
public import proofs.«01_k».proof.Proof.Gen.Ad4.Points
public import proofs.«01_k».proof.Proof.Gen.Ad4.Frame
public import proofs.«01_k».proof.Proof.Gen.Ad4Ideal
public import proofs.«01_k».proof.Proof.Gen.Ad4Ideal.Skeleton
public import proofs.«01_k».proof.Proof.Gen.Ad4Ideal.Launch
public import proofs.«01_k».proof.Proof.Gen.Ad4Ideal.Points
public import proofs.«01_k».proof.Proof.Gen.Ad4Ideal.Frame
public import proofs.«01_k».proof.Proof.Gen.Ad4Ideal.Value
public import proofs.«01_k».proof.Proof.Gen.Ad4ReferenceIdeal
public import proofs.«01_k».proof.Proof.Gen.Ad4ReferenceIdeal.Run
public import proofs.«01_k».proof.Proof.Gen.Ad5
public import proofs.«01_k».proof.Proof.Gen.Ad5.Skeleton
public import proofs.«01_k».proof.Proof.Gen.Ad5.Launch
public import proofs.«01_k».proof.Proof.Gen.Ad5.Points
public import proofs.«01_k».proof.Proof.Gen.Ad5.Frame
public import proofs.«01_k».proof.Proof.Gen.Ad5Ideal
public import proofs.«01_k».proof.Proof.Gen.Ad5Ideal.Skeleton
public import proofs.«01_k».proof.Proof.Gen.Ad5Ideal.Launch
public import proofs.«01_k».proof.Proof.Gen.Ad5Ideal.Points
public import proofs.«01_k».proof.Proof.Gen.Ad5Ideal.Frame
public import proofs.«01_k».proof.Proof.Gen.Ad5Ideal.Value
public import proofs.«01_k».proof.Proof.Gen.Ad5ReferenceIdeal
public import proofs.«01_k».proof.Proof.Gen.Ad5ReferenceIdeal.Run
public import proofs.«01_k».proof.Proof.Gen.Ad6
public import proofs.«01_k».proof.Proof.Gen.Ad6.Skeleton
public import proofs.«01_k».proof.Proof.Gen.Ad6.Launch
public import proofs.«01_k».proof.Proof.Gen.Ad6.Points
public import proofs.«01_k».proof.Proof.Gen.Ad6.Frame
public import proofs.«01_k».proof.Proof.Gen.Ad6Ideal
public import proofs.«01_k».proof.Proof.Gen.Ad6Ideal.Skeleton
public import proofs.«01_k».proof.Proof.Gen.Ad6Ideal.Launch
public import proofs.«01_k».proof.Proof.Gen.Ad6Ideal.Points
public import proofs.«01_k».proof.Proof.Gen.Ad6Ideal.Frame
public import proofs.«01_k».proof.Proof.Gen.Ad6Ideal.Value
public import proofs.«01_k».proof.Proof.Gen.Ad6ReferenceIdeal
public import proofs.«01_k».proof.Proof.Gen.Ad6ReferenceIdeal.Run
public import proofs.«01_k».proof.Proof.Gen.Ad7
public import proofs.«01_k».proof.Proof.Gen.Ad7.Skeleton
public import proofs.«01_k».proof.Proof.Gen.Ad7.Launch
public import proofs.«01_k».proof.Proof.Gen.Ad7.Points
public import proofs.«01_k».proof.Proof.Gen.Ad7.Frame
public import proofs.«01_k».proof.Proof.Gen.Ad7Ideal
public import proofs.«01_k».proof.Proof.Gen.Ad7Ideal.Skeleton
public import proofs.«01_k».proof.Proof.Gen.Ad7Ideal.Launch
public import proofs.«01_k».proof.Proof.Gen.Ad7Ideal.Points
public import proofs.«01_k».proof.Proof.Gen.Ad7Ideal.Frame
public import proofs.«01_k».proof.Proof.Gen.Ad7Ideal.Value
public import proofs.«01_k».proof.Proof.Gen.Ad7ReferenceIdeal
public import proofs.«01_k».proof.Proof.Gen.Ad7ReferenceIdeal.Run
public import proofs.«01_k».proof.Proof.Gen.Ad8
public import proofs.«01_k».proof.Proof.Gen.Ad8.Skeleton
public import proofs.«01_k».proof.Proof.Gen.Ad8.Launch
public import proofs.«01_k».proof.Proof.Gen.Ad8.Points
public import proofs.«01_k».proof.Proof.Gen.Ad8.Frame
public import proofs.«01_k».proof.Proof.Gen.Ad8Ideal
public import proofs.«01_k».proof.Proof.Gen.Ad8Ideal.Skeleton
public import proofs.«01_k».proof.Proof.Gen.Ad8Ideal.Launch
public import proofs.«01_k».proof.Proof.Gen.Ad8Ideal.Points
public import proofs.«01_k».proof.Proof.Gen.Ad8Ideal.Frame
public import proofs.«01_k».proof.Proof.Gen.Ad8Ideal.Value
public import proofs.«01_k».proof.Proof.Gen.Ad8ReferenceIdeal
public import proofs.«01_k».proof.Proof.Gen.Ad8ReferenceIdeal.Run
public import proofs.«01_k».proof.Proof.Blocks
public import proofs.«01_k».proof.Proof.S5Value
public import proofs.«01_k».proof.Proof.Twin
public import proofs.«01_k».proof.Proof.WgradValue
public import proofs.«01_k».proof.Proof.ColValue
public import proofs.«01_k».proof.Proof.FwdTwin
public import proofs.«01_k».proof.Proof.FwdValue
public import proofs.«01_k».proof.Proof.InFwdValue
public import proofs.«01_k».proof.Proof.PleFwdValue
public import proofs.«01_k».proof.Proof.MixFwdValue
public import proofs.«01_k».proof.Proof.InBwdValue
public import proofs.«01_k».proof.Proof.PleBwdValue
public import proofs.«01_k».proof.Proof.AdamValue
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ => Cert.KernelIdeal.Gen.frame (F := Ideal) m ρ
theorem frame_reference : Cert.quiescent_ReferenceIdeal := fun m ρ _ =>
  (θ_run _ _ _).mono (fun r h => ⟨fun c => (h c).2.2.2.2.2.2, Idealize.ShloMosaic.sem_eq_zero_of_no_sems (by decide) r.2⟩)
    (Cert.ReferenceIdeal.Value.run (F := Ideal) m ρ)

theorem frame_wgrad_reference : Cert.quiescent_WgradReferenceIdeal := fun m ρ _ =>
  (θ_run _ _ _).mono (fun r h => ⟨fun c => (h c).2, Idealize.ShloMosaic.sem_eq_zero_of_no_sems (by decide) r.2⟩)
    (Cert.WgradReferenceIdeal.Value.run (F := Ideal) m ρ)

theorem frame_win_reference : Cert.quiescent_WinReferenceIdeal := fun m ρ _ =>
  (θ_run _ _ _).mono (fun r h => ⟨fun c => (h c).2, Idealize.ShloMosaic.sem_eq_zero_of_no_sems (by decide) r.2⟩)
    (Cert.WinReferenceIdeal.Value.run (F := Ideal) m ρ)

theorem frame_wout_reference : Cert.quiescent_WoutReferenceIdeal := fun m ρ _ =>
  (θ_run _ _ _).mono (fun r h => ⟨fun c => (h c).2, Idealize.ShloMosaic.sem_eq_zero_of_no_sems (by decide) r.2⟩)
    (Cert.WoutReferenceIdeal.Value.run (F := Ideal) m ρ)

theorem frame_glu_reference : Cert.quiescent_GluReferenceIdeal := fun m ρ _ =>
  (θ_run _ _ _).mono (fun r h => ⟨fun c => (h c).2, Idealize.ShloMosaic.sem_eq_zero_of_no_sems (by decide) r.2⟩)
    (Cert.GluReferenceIdeal.Value.run (F := Ideal) m ρ)

theorem frame_ple_reference : Cert.quiescent_PleReferenceIdeal := fun m ρ _ =>
  (θ_run _ _ _).mono (fun r h => ⟨fun c => (h c).2, Idealize.ShloMosaic.sem_eq_zero_of_no_sems (by decide) r.2⟩)
    (Cert.PleReferenceIdeal.Value.run (F := Ideal) m ρ)

theorem frame_fwd_reference : Cert.quiescent_FwdReferenceIdeal := fun m ρ _ =>
  (θ_run _ _ _).mono (fun r h => ⟨fun c => (h c).2.2, Idealize.ShloMosaic.sem_eq_zero_of_no_sems (by decide) r.2⟩)
    (Cert.FwdReferenceIdeal.Value.run (F := Ideal) m ρ)

theorem frame_infwd_reference : Cert.quiescent_InFwdReferenceIdeal := fun m ρ _ =>
  (θ_run _ _ _).mono (fun r h => ⟨fun c => (h c).2, Idealize.ShloMosaic.sem_eq_zero_of_no_sems (by decide) r.2⟩)
    (Cert.InFwdReferenceIdeal.Value.run (F := Ideal) m ρ)

theorem frame_plefwd_reference : Cert.quiescent_PleFwdReferenceIdeal := fun m ρ _ =>
  (θ_run _ _ _).mono (fun r h => ⟨fun c => (h c).2.2.2.2.2, Idealize.ShloMosaic.sem_eq_zero_of_no_sems (by decide) r.2⟩)
    (Cert.PleFwdReferenceIdeal.Value.run (F := Ideal) m ρ)

theorem frame_mixfwd_reference : Cert.quiescent_MixFwdReferenceIdeal := fun m ρ _ =>
  (θ_run _ _ _).mono (fun r h => ⟨fun c => (h c).2, Idealize.ShloMosaic.sem_eq_zero_of_no_sems (by decide) r.2⟩)
    (Cert.MixFwdReferenceIdeal.Value.run (F := Ideal) m ρ)

theorem frame_inbwd_reference : Cert.quiescent_InBwdReferenceIdeal := fun m ρ _ =>
  (θ_run _ _ _).mono (fun r h => ⟨fun c => (h c).2.2.2, Idealize.ShloMosaic.sem_eq_zero_of_no_sems (by decide) r.2⟩)
    (Cert.InBwdReferenceIdeal.Value.run (F := Ideal) m ρ)

theorem frame_plebwd_reference : Cert.quiescent_PleBwdReferenceIdeal := fun m ρ _ =>
  (θ_run _ _ _).mono (fun r h => ⟨fun c => (h c).2.2.2.2, Idealize.ShloMosaic.sem_eq_zero_of_no_sems (by decide) r.2⟩)
    (Cert.PleBwdReferenceIdeal.Value.run (F := Ideal) m ρ)

theorem frame_ad1_reference : Cert.quiescent_Ad1ReferenceIdeal := fun m ρ _ =>
  (θ_run _ _ _).mono (fun r h => ⟨fun c => (h c).2.2.2, Idealize.ShloMosaic.sem_eq_zero_of_no_sems (by decide) r.2⟩)
    (Cert.Ad1ReferenceIdeal.Value.run (F := Ideal) m ρ)

theorem frame_ad2_reference : Cert.quiescent_Ad2ReferenceIdeal := fun m ρ _ =>
  (θ_run _ _ _).mono (fun r h => ⟨fun c => (h c).2.2.2, Idealize.ShloMosaic.sem_eq_zero_of_no_sems (by decide) r.2⟩)
    (Cert.Ad2ReferenceIdeal.Value.run (F := Ideal) m ρ)

theorem frame_ad3_reference : Cert.quiescent_Ad3ReferenceIdeal := fun m ρ _ =>
  (θ_run _ _ _).mono (fun r h => ⟨fun c => (h c).2.2.2.2.2.2, Idealize.ShloMosaic.sem_eq_zero_of_no_sems (by decide) r.2⟩)
    (Cert.Ad3ReferenceIdeal.Value.run (F := Ideal) m ρ)

theorem frame_ad4_reference : Cert.quiescent_Ad4ReferenceIdeal := fun m ρ _ =>
  (θ_run _ _ _).mono (fun r h => ⟨fun c => (h c).2.2.2, Idealize.ShloMosaic.sem_eq_zero_of_no_sems (by decide) r.2⟩)
    (Cert.Ad4ReferenceIdeal.Value.run (F := Ideal) m ρ)

theorem frame_ad5_reference : Cert.quiescent_Ad5ReferenceIdeal := fun m ρ _ =>
  (θ_run _ _ _).mono (fun r h => ⟨fun c => (h c).2.2.2, Idealize.ShloMosaic.sem_eq_zero_of_no_sems (by decide) r.2⟩)
    (Cert.Ad5ReferenceIdeal.Value.run (F := Ideal) m ρ)

theorem frame_ad6_reference : Cert.quiescent_Ad6ReferenceIdeal := fun m ρ _ =>
  (θ_run _ _ _).mono (fun r h => ⟨fun c => (h c).2.2.2, Idealize.ShloMosaic.sem_eq_zero_of_no_sems (by decide) r.2⟩)
    (Cert.Ad6ReferenceIdeal.Value.run (F := Ideal) m ρ)

theorem frame_ad7_reference : Cert.quiescent_Ad7ReferenceIdeal := fun m ρ _ =>
  (θ_run _ _ _).mono (fun r h => ⟨fun c => (h c).2.2.2, Idealize.ShloMosaic.sem_eq_zero_of_no_sems (by decide) r.2⟩)
    (Cert.Ad7ReferenceIdeal.Value.run (F := Ideal) m ρ)

theorem frame_ad8_reference : Cert.quiescent_Ad8ReferenceIdeal := fun m ρ _ =>
  (θ_run _ _ _).mono (fun r h => ⟨fun c => (h c).2.2.2, Idealize.ShloMosaic.sem_eq_zero_of_no_sems (by decide) r.2⟩)
    (Cert.Ad8ReferenceIdeal.Value.run (F := Ideal) m ρ)

theorem claim : Cert.Claim := ⟨Cert.Kernel.Gen.facts, Cert.KernelIdeal.Gen.facts, Cert.ReferenceIdeal.Gen.facts,
  Cert.Wgrad.Gen.facts, Cert.WgradIdeal.Gen.facts, Cert.WgradReferenceIdeal.Gen.facts,
  Cert.Win.Gen.facts, Cert.WinIdeal.Gen.facts, Cert.WinReferenceIdeal.Gen.facts, Cert.Wout.Gen.facts, Cert.WoutIdeal.Gen.facts, Cert.WoutReferenceIdeal.Gen.facts, Cert.Glu.Gen.facts, Cert.GluIdeal.Gen.facts, Cert.GluReferenceIdeal.Gen.facts, Cert.Ple.Gen.facts, Cert.PleIdeal.Gen.facts, Cert.PleReferenceIdeal.Gen.facts, Cert.Fwd.Gen.facts, Cert.FwdIdeal.Gen.facts, Cert.FwdReferenceIdeal.Gen.facts,
  Cert.InFwd.Gen.facts, Cert.InFwdIdeal.Gen.facts, Cert.InFwdReferenceIdeal.Gen.facts, Cert.PleFwd.Gen.facts, Cert.PleFwdIdeal.Gen.facts, Cert.PleFwdReferenceIdeal.Gen.facts, Cert.MixFwd.Gen.facts, Cert.MixFwdIdeal.Gen.facts, Cert.MixFwdReferenceIdeal.Gen.facts,
  Cert.InBwd.Gen.facts, Cert.InBwdIdeal.Gen.facts, Cert.InBwdReferenceIdeal.Gen.facts, Cert.PleBwd.Gen.facts, Cert.PleBwdIdeal.Gen.facts, Cert.PleBwdReferenceIdeal.Gen.facts,
  Cert.Ad1.Gen.facts, Cert.Ad1Ideal.Gen.facts, Cert.Ad1ReferenceIdeal.Gen.facts, Cert.Ad2.Gen.facts, Cert.Ad2Ideal.Gen.facts, Cert.Ad2ReferenceIdeal.Gen.facts, Cert.Ad3.Gen.facts, Cert.Ad3Ideal.Gen.facts, Cert.Ad3ReferenceIdeal.Gen.facts, Cert.Ad4.Gen.facts, Cert.Ad4Ideal.Gen.facts, Cert.Ad4ReferenceIdeal.Gen.facts, Cert.Ad5.Gen.facts, Cert.Ad5Ideal.Gen.facts, Cert.Ad5ReferenceIdeal.Gen.facts, Cert.Ad6.Gen.facts, Cert.Ad6Ideal.Gen.facts, Cert.Ad6ReferenceIdeal.Gen.facts, Cert.Ad7.Gen.facts, Cert.Ad7Ideal.Gen.facts, Cert.Ad7ReferenceIdeal.Gen.facts, Cert.Ad8.Gen.facts, Cert.Ad8Ideal.Gen.facts, Cert.Ad8ReferenceIdeal.Gen.facts, Cert.Pre_tame.Gen.facts,
  frame_kernel, frame_ideal, fun m ρ _ => frame_ideal m ρ trivial, frame_reference, fun m ρ _ => frame_reference m ρ trivial,
  fun m ρ _ => Cert.Wgrad.Gen.frame m ρ, fun m ρ _ => Cert.WgradIdeal.Gen.frame m ρ, frame_wgrad_reference,
  fun m ρ _ => Cert.Win.Gen.frame m ρ, fun m ρ _ => Cert.WinIdeal.Gen.frame m ρ, frame_win_reference,
  fun m ρ _ => Cert.Wout.Gen.frame m ρ, fun m ρ _ => Cert.WoutIdeal.Gen.frame m ρ, frame_wout_reference,
  fun m ρ _ => Cert.Glu.Gen.frame m ρ, fun m ρ _ => Cert.GluIdeal.Gen.frame m ρ, frame_glu_reference,
  fun m ρ _ => Cert.Ple.Gen.frame m ρ, fun m ρ _ => Cert.PleIdeal.Gen.frame m ρ, frame_ple_reference,
  Cert.Proof.FwdV.frame_fwd, fun m ρ _ => Cert.FwdIdeal.Gen.frame m ρ, frame_fwd_reference,
  fun m ρ _ => Cert.InFwd.Gen.frame m ρ, fun m ρ _ => Cert.InFwdIdeal.Gen.frame m ρ, frame_infwd_reference,
  fun m ρ _ => Cert.PleFwd.Gen.frame m ρ, fun m ρ _ => Cert.PleFwdIdeal.Gen.frame m ρ, frame_plefwd_reference,
  fun m ρ _ => Cert.MixFwd.Gen.frame m ρ, fun m ρ _ => Cert.MixFwdIdeal.Gen.frame m ρ, frame_mixfwd_reference,
  fun m ρ _ => Cert.InBwd.Gen.frame m ρ, fun m ρ _ => Cert.InBwdIdeal.Gen.frame m ρ, frame_inbwd_reference,
  fun m ρ _ => Cert.PleBwd.Gen.frame m ρ, fun m ρ _ => Cert.PleBwdIdeal.Gen.frame m ρ, frame_plebwd_reference,
  fun m ρ _ => Cert.Ad1.Gen.frame m ρ, fun m ρ _ => Cert.Ad1Ideal.Gen.frame m ρ, frame_ad1_reference,
  fun m ρ _ => Cert.Ad2.Gen.frame m ρ, fun m ρ _ => Cert.Ad2Ideal.Gen.frame m ρ, frame_ad2_reference,
  fun m ρ _ => Cert.Ad3.Gen.frame m ρ, fun m ρ _ => Cert.Ad3Ideal.Gen.frame m ρ, frame_ad3_reference,
  fun m ρ _ => Cert.Ad4.Gen.frame m ρ, fun m ρ _ => Cert.Ad4Ideal.Gen.frame m ρ, frame_ad4_reference,
  fun m ρ _ => Cert.Ad5.Gen.frame m ρ, fun m ρ _ => Cert.Ad5Ideal.Gen.frame m ρ, frame_ad5_reference,
  fun m ρ _ => Cert.Ad6.Gen.frame m ρ, fun m ρ _ => Cert.Ad6Ideal.Gen.frame m ρ, frame_ad6_reference,
  fun m ρ _ => Cert.Ad7.Gen.frame m ρ, fun m ρ _ => Cert.Ad7Ideal.Gen.frame m ρ, frame_ad7_reference,
  fun m ρ _ => Cert.Ad8.Gen.frame m ρ, fun m ρ _ => Cert.Ad8Ideal.Gen.frame m ρ, frame_ad8_reference,
  trivial, Cert.Proof.S5R.algebraic, trivial, Cert.Proof.Wgrad.algebraic,
  trivial, Cert.Proof.Win.algebraic,
  trivial, Cert.Proof.Wout.algebraic,
  trivial, Cert.Proof.Glu.algebraic,
  trivial, Cert.Proof.Ple.algebraic,
  trivial, Cert.Proof.FwdV.algebraic,
  trivial, Cert.Proof.InFwd.algebraic,
  trivial, Cert.Proof.PleFwd.algebraic,
  trivial, Cert.Proof.MixFwd.algebraic,
  trivial, Cert.Proof.InBwd.algebraic,
  trivial, Cert.Proof.PleBwd.algebraic,
  trivial, Cert.Proof.Adam.algebraic_ad1,
  trivial, Cert.Proof.Adam.algebraic_ad2,
  trivial, Cert.Proof.Adam.algebraic_ad3,
  trivial, Cert.Proof.Adam.algebraic_ad4,
  trivial, Cert.Proof.Adam.algebraic_ad5,
  trivial, Cert.Proof.Adam.algebraic_ad6,
  trivial, Cert.Proof.Adam.algebraic_ad7,
  trivial, Cert.Proof.Adam.algebraic_ad8⟩

end Cert.Proof

end
